-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10)
      ∧ r.2.mem ((c.tc : Thread Cert.Kernel5.nD Cert.Kernel5.τ).loc Cert.Kernel5.main_arg11) = m ((c.tc : Thread Cert.Kernel5.nD Cert.Kernel5.τ).loc Cert.Kernel5.main_arg11)
      ∧ r.2.mem ((c.tc : Thread Cert.Kernel5.nD Cert.Kernel5.τ).loc Cert.Kernel5.main_arg12) = m ((c.tc : Thread Cert.Kernel5.nD Cert.Kernel5.τ).loc Cert.Kernel5.main_arg12)
      ∧ r.2.mem ((c.tc : Thread Cert.Kernel5.nD Cert.Kernel5.τ).loc Cert.Kernel5.main_arg13) = m ((c.tc : Thread Cert.Kernel5.nD Cert.Kernel5.τ).loc Cert.Kernel5.main_arg13)
      ∧ r.2.mem ((c.tc : Thread Cert.Kernel5.nD Cert.Kernel5.τ).loc Cert.Kernel5.main_arg14) = m ((c.tc : Thread Cert.Kernel5.nD Cert.Kernel5.τ).loc Cert.Kernel5.main_arg14))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
      ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12)
      ∧ r.2.mem ((c.tc : Thread Cert.Kernel5Ideal.nD Cert.Kernel5Ideal.τ).loc Cert.Kernel5Ideal.main_arg13) = m ((c.tc : Thread Cert.Kernel5Ideal.nD Cert.Kernel5Ideal.τ).loc Cert.Kernel5Ideal.main_arg13)
      ∧ r.2.mem ((c.tc : Thread Cert.Kernel5Ideal.nD Cert.Kernel5Ideal.τ).loc Cert.Kernel5Ideal.main_arg14) = m ((c.tc : Thread Cert.Kernel5Ideal.nD Cert.Kernel5Ideal.τ).loc Cert.Kernel5Ideal.main_arg14))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11)
      ∧ r.2.mem ((c.tc : Thread Cert.Reference5Ideal.nD Cert.Reference5Ideal.τ).loc Cert.Reference5Ideal.main_arg12) = m ((c.tc : Thread Cert.Reference5Ideal.nD Cert.Reference5Ideal.τ).loc Cert.Reference5Ideal.main_arg12)
      ∧ r.2.mem ((c.tc : Thread Cert.Reference5Ideal.nD Cert.Reference5Ideal.τ).loc Cert.Reference5Ideal.main_arg13) = m ((c.tc : Thread Cert.Reference5Ideal.nD Cert.Reference5Ideal.τ).loc Cert.Reference5Ideal.main_arg13)
      ∧ r.2.mem ((c.tc : Thread Cert.Reference5Ideal.nD Cert.Reference5Ideal.τ).loc Cert.Reference5Ideal.main_arg14) = m ((c.tc : Thread Cert.Reference5Ideal.nD Cert.Reference5Ideal.τ).loc Cert.Reference5Ideal.main_arg14))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v10)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v10) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v56) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v7)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v7) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v50) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v25_0)) (v1 : (c : Dev Cert.Kernel4Ideal.nD) → Buf (Elt Ideal) ((c.tc : Thread Cert.Kernel4Ideal.nD Cert.Kernel4Ideal.τ).loc Cert.Kernel4Ideal.main_v25_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v25_0) = v0 c
          ∧ r.2.mem ((c.tc : Thread Cert.Kernel4Ideal.nD Cert.Kernel4Ideal.τ).loc Cert.Kernel4Ideal.main_v25_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v83) = v0 c
          ∧ r.2.mem ((c.tc : Thread Cert.Reference4Ideal.nD Cert.Reference4Ideal.τ).loc Cert.Reference4Ideal.main_v84) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  IdealRules.named_const.Statement Cert.Kernel5Ideal.κ "inv_width" .f32 0x3C2AAAAB#32 ((1 / 96 : ℝ) : EReal)
  ∧ IdealRules.named_const.Statement Cert.Kernel5Ideal.κ "scale" .f32 0x3E16C740#32 (((Real.sqrt 96)⁻¹ * (Real.log 2)⁻¹ : ℝ) : EReal)

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)
      ∧ m' ((c.tc : Thread Cert.Reference5Ideal.nD Cert.Reference5Ideal.τ).loc Cert.Reference5Ideal.main_arg11) = m ((c.tc : Thread Cert.Kernel5Ideal.nD Cert.Kernel5Ideal.τ).loc Cert.Kernel5Ideal.main_arg11)
      ∧ m' ((c.tc : Thread Cert.Reference5Ideal.nD Cert.Reference5Ideal.τ).loc Cert.Reference5Ideal.main_arg12) = m ((c.tc : Thread Cert.Kernel5Ideal.nD Cert.Kernel5Ideal.τ).loc Cert.Kernel5Ideal.main_arg12)
      ∧ m' ((c.tc : Thread Cert.Reference5Ideal.nD Cert.Reference5Ideal.τ).loc Cert.Reference5Ideal.main_arg13) = m ((c.tc : Thread Cert.Kernel5Ideal.nD Cert.Kernel5Ideal.τ).loc Cert.Kernel5Ideal.main_arg13)
      ∧ m' ((c.tc : Thread Cert.Reference5Ideal.nD Cert.Reference5Ideal.τ).loc Cert.Reference5Ideal.main_arg14) = m ((c.tc : Thread Cert.Kernel5Ideal.nD Cert.Kernel5Ideal.τ).loc Cert.Kernel5Ideal.main_arg14)) →
    ∃ (v0 : (c : Dev Cert.Kernel5Ideal.nD) → Buf (Elt Ideal) ((c.tc : Thread Cert.Kernel5Ideal.nD Cert.Kernel5Ideal.τ).loc Cert.Kernel5Ideal.main_v71_0)) (v1 : (c : Dev Cert.Kernel5Ideal.nD) → Buf (Elt Ideal) ((c.tc : Thread Cert.Kernel5Ideal.nD Cert.Kernel5Ideal.τ).loc Cert.Kernel5Ideal.main_v71_1)) (v2 : (c : Dev Cert.Kernel5Ideal.nD) → Buf (Elt Ideal) ((c.tc : Thread Cert.Kernel5Ideal.nD Cert.Kernel5Ideal.τ).loc Cert.Kernel5Ideal.main_v71_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v71_0) = v0 c
          ∧ r.2.mem ((c.tc : Thread Cert.Kernel5Ideal.nD Cert.Kernel5Ideal.τ).loc Cert.Kernel5Ideal.main_v71_1) = v1 c
          ∧ r.2.mem ((c.tc : Thread Cert.Kernel5Ideal.nD Cert.Kernel5Ideal.τ).loc Cert.Kernel5Ideal.main_v71_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
          ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
          ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12)
          ∧ r.2.mem ((c.tc : Thread Cert.Kernel5Ideal.nD Cert.Kernel5Ideal.τ).loc Cert.Kernel5Ideal.main_arg13) = m ((c.tc : Thread Cert.Kernel5Ideal.nD Cert.Kernel5Ideal.τ).loc Cert.Kernel5Ideal.main_arg13)
          ∧ r.2.mem ((c.tc : Thread Cert.Kernel5Ideal.nD Cert.Kernel5Ideal.τ).loc Cert.Kernel5Ideal.main_arg14) = m ((c.tc : Thread Cert.Kernel5Ideal.nD Cert.Kernel5Ideal.τ).loc Cert.Kernel5Ideal.main_arg14))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v200) = v0 c
          ∧ r.2.mem ((c.tc : Thread Cert.Reference5Ideal.nD Cert.Reference5Ideal.τ).loc Cert.Reference5Ideal.main_v201) = v1 c
          ∧ r.2.mem ((c.tc : Thread Cert.Reference5Ideal.nD Cert.Reference5Ideal.τ).loc Cert.Reference5Ideal.main_v203) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10)
          ∧ r.2.mem ((c.tc : Thread Cert.Reference5Ideal.nD Cert.Reference5Ideal.τ).loc Cert.Reference5Ideal.main_arg11) = m' ((c.tc : Thread Cert.Reference5Ideal.nD Cert.Reference5Ideal.τ).loc Cert.Reference5Ideal.main_arg11)
          ∧ r.2.mem ((c.tc : Thread Cert.Reference5Ideal.nD Cert.Reference5Ideal.τ).loc Cert.Reference5Ideal.main_arg12) = m' ((c.tc : Thread Cert.Reference5Ideal.nD Cert.Reference5Ideal.τ).loc Cert.Reference5Ideal.main_arg12)
          ∧ r.2.mem ((c.tc : Thread Cert.Reference5Ideal.nD Cert.Reference5Ideal.τ).loc Cert.Reference5Ideal.main_arg13) = m' ((c.tc : Thread Cert.Reference5Ideal.nD Cert.Reference5Ideal.τ).loc Cert.Reference5Ideal.main_arg13)
          ∧ r.2.mem ((c.tc : Thread Cert.Reference5Ideal.nD Cert.Reference5Ideal.τ).loc Cert.Reference5Ideal.main_arg14) = m' ((c.tc : Thread Cert.Reference5Ideal.nD Cert.Reference5Ideal.τ).loc Cert.Reference5Ideal.main_arg14))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite_qk : Cert.Pre_finite_qk.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_finite_qk (hKernelIdeal := hKernelIdeal) (hReferenceIdeal := hReferenceIdeal) (hPre_finite_qk := hPre_finite_qk)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_finite_qk.lean ====
abbrev S4x4096x16x96 : Shape := ⟨4, ![4, 4096, 16, 96]⟩
abbrev S4x4096x16x64 : Shape := ⟨4, ![4, 4096, 16, 64]⟩
abbrev S_ : Shape := ⟨0, ![]⟩

class Facts : Prop where
  bcast_S_S4x4096x16x96 : S_.BroadcastsInDim S4x4096x16x96 (![] : Fin 0 → Fin S4x4096x16x96.rank)
  reducesTo_S4x4096x16x96_S_d0_1_2_3 : S4x4096x16x96.ReducesTo [0, 1, 2, 3] S_
  h_S_ : 0 < S_.numel

variable [Facts]

def fn {F : FTy → Type} [FloatOps F] (main_arg0 : FVec F S4x4096x16x96 .f32) (main_arg1 : FVec F S4x4096x16x96 .f32) (main_arg2 : FVec F S4x4096x16x64 .f32) : IVec S_ 1 :=
  let main_v0 : FVec F S4x4096x16x96 .f32 := Host.absf main_arg0
  let main_cst : FVec F S_ .f32 := constant S_ .f32 0x7F800000#32
  let main_v1 : FVec F S4x4096x16x96 .f32 := broadcastInDim S4x4096x16x96 ![] bcast_S_S4x4096x16x96 main_cst
  let main_v2 : IVec S4x4096x16x96 1 := cmpf .olt main_v0 main_v1
  let main_c : IVec S_ 1 := constantI S_ 1 1#1
  let main_v3 : IVec S_ 1 := (fun x v => Host.reduce IntOp.andi x v reducesTo_S4x4096x16x96_S_d0_1_2_3 h_S_) main_v2 main_c
  let main_v4 : FVec F S4x4096x16x96 .f32 := Host.absf main_arg1
  let main_cst_0 : FVec F S_ .f32 := constant S_ .f32 0x7F800000#32
  let main_v5 : FVec F S4x4096x16x96 .f32 := broadcastInDim S4x4096x16x96 ![] bcast_S_S4x4096x16x96 main_cst_0
  let main_v6 : IVec S4x4096x16x96 1 := cmpf .olt main_v4 main_v5
  let main_c_1 : IVec S_ 1 := constantI S_ 1 1#1
  let main_v7 : IVec S_ 1 := (fun x v => Host.reduce IntOp.andi x v reducesTo_S4x4096x16x96_S_d0_1_2_3 h_S_) main_v6 main_c_1
  let main_v8 : IVec S_ 1 := andi main_v3 main_v7
  main_v8
-- ==== Kernel.lean ====
abbrev S4x4096x16x96 : Shape := ⟨4, ![4, 4096, 16, 96]⟩
abbrev S4x4096x16x64 : Shape := ⟨4, ![4, 4096, 16, 64]⟩
abbrev S_ : Shape := ⟨0, ![]⟩
abbrev S4x4096x16x128 : Shape := ⟨4, ![4, 4096, 16, 128]⟩
abbrev S4x4096x2048 : Shape := ⟨3, ![4, 4096, 2048]⟩
abbrev S4x4096x1024 : Shape := ⟨3, ![4, 4096, 1024]⟩
abbrev S4x1024x4096 : Shape := ⟨3, ![4, 1024, 4096]⟩
abbrev S1x512x1024 : Shape := ⟨3, ![1, 512, 1024]⟩
abbrev S1x4096x1024 : Shape := ⟨3, ![1, 4096, 1024]⟩
abbrev S1x512x4096 : Shape := ⟨3, ![1, 512, 4096]⟩
abbrev S1x512x512 : Shape := ⟨3, ![1, 512, 512]⟩
abbrev S512x1024 : Shape := ⟨2, ![512, 1024]⟩
abbrev S512x128 : Shape := ⟨2, ![512, 128]⟩
abbrev S1x512 : Shape := ⟨2, ![1, 512]⟩
abbrev S64x512 : Shape := ⟨2, ![64, 512]⟩
abbrev S1x1024x128 : Shape := ⟨3, ![1, 1024, 128]⟩
abbrev S1024x128 : Shape := ⟨2, ![1024, 128]⟩
abbrev S1024x512 : Shape := ⟨2, ![1024, 512]⟩
abbrev S256x512 : Shape := ⟨2, ![256, 512]⟩
abbrev S512 : Shape := ⟨1, ![512]⟩
abbrev S1x64x256 : Shape := ⟨3, ![1, 64, 256]⟩
abbrev S64x256 : Shape := ⟨2, ![64, 256]⟩
abbrev S1x512x128 : Shape := ⟨3, ![1, 512, 128]⟩
abbrev S512x512 : Shape := ⟨2, ![512, 512]⟩
abbrev S1x64x512 : Shape := ⟨3, ![1, 64, 512]⟩
abbrev S256x256 : Shape := ⟨2, ![256, 256]⟩
abbrev S256x128 : Shape := ⟨2, ![256, 128]⟩
abbrev S256 : Shape := ⟨1, ![256]⟩
abbrev S1x256 : Shape := ⟨2, ![1, 256]⟩

abbrev nBuf : Space → Nat
  | .hbm => 26
  | .vmem => 8
  | .smem => 0
  | _ => 0

abbrev bufTy : (tb : Table) → Fin (tcTables nBuf tb) → BufTy
  | .hbm, ⟨0, _⟩ => ⟨S4x4096x16x96, .f32⟩
  | .hbm, ⟨1, _⟩ => ⟨S4x4096x16x96, .f32⟩
  | .hbm, ⟨2, _⟩ => ⟨S4x4096x16x64, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S4x4096x16x96, .f32⟩
  | .hbm, ⟨11, _⟩ => ⟨S4x4096x16x96, .f32⟩
  | .hbm, ⟨12, _⟩ => ⟨S_, .i32⟩
  | .hbm, ⟨13, _⟩ => ⟨S_, .f32⟩
  | .hbm, ⟨14, _⟩ => ⟨S4x4096x16x128, .f32⟩
  | .hbm, ⟨15, _⟩ => ⟨S4x4096x2048, .f32⟩
  | .hbm, ⟨16, _⟩ => ⟨S4x4096x2048, .bf16⟩
  | .hbm, ⟨17, _⟩ => ⟨S_, .i32⟩
  | .hbm, ⟨18, _⟩ => ⟨S_, .f32⟩
  | .hbm, ⟨19, _⟩ => ⟨S4x4096x16x128, .f32⟩
  | .hbm, ⟨20, _⟩ => ⟨S4x4096x2048, .f32⟩
  | .hbm, ⟨21, _⟩ => ⟨S4x4096x2048, .bf16⟩
  | .hbm, ⟨22, _⟩ => ⟨S4x4096x1024, .f32⟩
  | .hbm, ⟨23, _⟩ => ⟨S4x1024x4096, .f32⟩
  | .hbm, ⟨24, _⟩ => ⟨S4x1024x4096, .bf16⟩
  | .hbm, ⟨25, _⟩ => ⟨S4x4096x1024, .bf16⟩
  | .local _ .vmem, ⟨0, _⟩ => ⟨S1x512x1024, .bf16⟩
  | .local _ .vmem, ⟨1, _⟩ => ⟨S1x512x1024, .bf16⟩
  | .local _ .vmem, ⟨2, _⟩ => ⟨S1x4096x1024, .bf16⟩
  | .local _ .vmem, ⟨3, _⟩ => ⟨S1x4096x1024, .bf16⟩
  | .local _ .vmem, ⟨4, _⟩ => ⟨S1x512x4096, .bf16⟩
  | .local _ .vmem, ⟨5, _⟩ => ⟨S1x512x4096, .bf16⟩
  | .local _ .vmem, ⟨6, _⟩ => ⟨S1x512x512, .bf16⟩
  | .local _ .vmem, ⟨7, _⟩ => ⟨S1x512x512, .bf16⟩
  | _, _ => ⟨S4x4096x16x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_call0_v0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c_2 : Ref sig .tc := ⟨.hbm, 17, rfl⟩
abbrev main_call1_v0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 8], ![false, false, false]⟩

@[reducible] def k0_t1_loop (i : grid0.Coords) : Scf.Loop 32 :=
  let c0_i32_8 : BitVec 32 := 0#32
  let arg2 : BitVec 32 := BitVec.ofNat 32 (i 2).val
  let c0_i32 : BitVec 32 := 0#32
  let v14 : BitVec 1 := Scalar.cmpi .sgt arg2 c0_i32
  let v15 : BitVec 32 := Scalar.extui v14
  let c0_i32_4 : BitVec 32 := 0#32
  let v16 : BitVec 1 := Scalar.cmpi .slt arg2 c0_i32_4
  let v17 : BitVec 32 := Scalar.extui v16
  let v18 : BitVec 32 := Scalar.subi v15 v17
  let c2_i32 : BitVec 32 := 2#32
  let c0_i32_5 : BitVec 32 := 0#32
  let v19 : BitVec 1 := Scalar.cmpi .sgt c2_i32 c0_i32_5
  let v20 : BitVec 32 := Scalar.extui v19
  let c0_i32_6 : BitVec 32 := 0#32
  let v21 : BitVec 1 := Scalar.cmpi .slt c2_i32 c0_i32_6
  let v22 : BitVec 32 := Scalar.extui v21
  let v23 : BitVec 32 := Scalar.subi v20 v22
  let v24 : BitVec 1 := Scalar.cmpi .ne v18 v23
  let v25 : BitVec 32 := Scalar.remsi arg2 c2_i32
  let c0_i32_7 : BitVec 32 := 0#32
  let v26 : BitVec 1 := Scalar.cmpi .ne v25 c0_i32_7
  let v27 : BitVec 1 := Scalar.andi v24 v26
  let v13 : BitVec 32 := Scalar.divsi arg2 c2_i32
  let c1_i32 : BitVec 32 := 1#32
  let v28 : BitVec 32 := Scalar.subi v13 c1_i32
  let v29 : BitVec 32 := Scalar.select v27 v28 v13
  let v30 : BitVec 32 := Scalar.subi v29 c0_i32_8
  let c1_i32_9 : BitVec 32 := 1#32
  let v32 : BitVec 32 := Scalar.divsi v30 c1_i32_9
  let v33 : BitVec 32 := Scalar.muli v32 c1_i32_9
  let v34 : BitVec 32 := Scalar.addi c0_i32_8 v33
  let c1_i32_10 : BitVec 32 := 1#32
  ⟨c0_i32_8, v34, c1_i32_10⟩
def k0_mult1 (i : grid0.Coords) (k0_t1 : Fin (k0_t1_loop i).trips) : BitVec 32 :=
  let c2_i32_111 : BitVec 32 := 2#32
  let c0_i32_8 : BitVec 32 := 0#32
  let c1_i32_10 : BitVec 32 := 1#32
  let arg7 : BitVec 32 := Scf.iv c0_i32_8 c1_i32_10 k0_t1
  let v374 : BitVec 32 := Scalar.muli c2_i32_111 arg7
  let c512_i32_112 : BitVec 32 := 512#32
  let v375 : BitVec 32 := Scalar.muli v374 c512_i32_112
  v375
def k0_off1 (i : grid0.Coords) (k0_t1 : Fin (k0_t1_loop i).trips) : Fin 3 → Nat :=
  let c0_113 : Index := 0#32
  let c2_i32_111 : BitVec 32 := 2#32
  let c0_i32_8 : BitVec 32 := 0#32
  let c1_i32_10 : BitVec 32 := 1#32
  let arg7 : BitVec 32 := Scf.iv c0_i32_8 c1_i32_10 k0_t1
  let v374 : BitVec 32 := Scalar.muli c2_i32_111 arg7
  let c512_i32_112 : BitVec 32 := 512#32
  let v375 : BitVec 32 := Scalar.muli v374 c512_i32_112
  let v376 : BitVec 32 := v375
  let v377 : Index := Scalar.indexCast v376
  let c0_114 : Index := 0#32
  ![0, v377.toNat, 0]
def k0_off2 (i : grid0.Coords) (k0_t1 : Fin (k0_t1_loop i).trips) : Fin 3 → Nat :=
  let c0_116 : Index := 0#32
  let c2_i32_111 : BitVec 32 := 2#32
  let c0_i32_8 : BitVec 32 := 0#32
  let c1_i32_10 : BitVec 32 := 1#32
  let arg7 : BitVec 32 := Scf.iv c0_i32_8 c1_i32_10 k0_t1
  let v374 : BitVec 32 := Scalar.muli c2_i32_111 arg7
  let c512_i32_112 : BitVec 32 := 512#32
  let v375 : BitVec 32 := Scalar.muli v374 c512_i32_112
  let v376 : BitVec 32 := v375
  let v381 : Index := Scalar.indexCast v376
  let c128 : Index := 128#32
  ![0, v381.toNat, 128]
def k0_off3 (i : grid0.Coords) (k0_t1 : Fin (k0_t1_loop i).trips) : Fin 3 → Nat :=
  let c0_118 : Index := 0#32
  let c2_i32_111 : BitVec 32 := 2#32
  let c0_i32_8 : BitVec 32 := 0#32
  let c1_i32_10 : BitVec 32 := 1#32
  let arg7 : BitVec 32 := Scf.iv c0_i32_8 c1_i32_10 k0_t1
  let v374 : BitVec 32 := Scalar.muli c2_i32_111 arg7
  let c512_i32_112 : BitVec 32 := 512#32
  let v375 : BitVec 32 := Scalar.muli v374 c512_i32_112
  let v376 : BitVec 32 := v375
  let v385 : Index := Scalar.indexCast v376
  let c256 : Index := 256#32
  ![0, v385.toNat, 256]
def k0_off4 (i : grid0.Coords) (k0_t1 : Fin (k0_t1_loop i).trips) : Fin 3 → Nat :=
  let c0_120 : Index := 0#32
  let c2_i32_111 : BitVec 32 := 2#32
  let c0_i32_8 : BitVec 32 := 0#32
  let c1_i32_10 : BitVec 32 := 1#32
  let arg7 : BitVec 32 := Scf.iv c0_i32_8 c1_i32_10 k0_t1
  let v374 : BitVec 32 := Scalar.muli c2_i32_111 arg7
  let c512_i32_112 : BitVec 32 := 512#32
  let v375 : BitVec 32 := Scalar.muli v374 c512_i32_112
  let v376 : BitVec 32 := v375
  let v389 : Index := Scalar.indexCast v376
  let c384 : Index := 384#32
  ![0, v389.toNat, 384]
def k0_off5 (i : grid0.Coords) (k0_t1 : Fin (k0_t1_loop i).trips) : Fin 3 → Nat :=
  let c0_122 : Index := 0#32
  let c2_i32_111 : BitVec 32 := 2#32
  let c0_i32_8 : BitVec 32 := 0#32
  let c1_i32_10 : BitVec 32 := 1#32
  let arg7 : BitVec 32 := Scf.iv c0_i32_8 c1_i32_10 k0_t1
  let v374 : BitVec 32 := Scalar.muli c2_i32_111 arg7
  let c512_i32_112 : BitVec 32 := 512#32
  let v375 : BitVec 32 := Scalar.muli v374 c512_i32_112
  let v376 : BitVec 32 := v375
  let v393 : Index := Scalar.indexCast v376
  let c512 : Index := 512#32
  ![0, v393.toNat, 512]
def k0_off6 (i : grid0.Coords) (k0_t1 : Fin (k0_t1_loop i).trips) : Fin 3 → Nat :=
  let c0_124 : Index := 0#32
  let c2_i32_111 : BitVec 32 := 2#32
  let c0_i32_8 : BitVec 32 := 0#32
  let c1_i32_10 : BitVec 32 := 1#32
  let arg7 : BitVec 32 := Scf.iv c0_i32_8 c1_i32_10 k0_t1
  let v374 : BitVec 32 := Scalar.muli c2_i32_111 arg7
  let c512_i32_112 : BitVec 32 := 512#32
  let v375 : BitVec 32 := Scalar.muli v374 c512_i32_112
  let v376 : BitVec 32 := v375
  let v397 : Index := Scalar.indexCast v376
  let c640 : Index := 640#32
  ![0, v397.toNat, 640]
def k0_off7 (i : grid0.Coords) (k0_t1 : Fin (k0_t1_loop i).trips) : Fin 3 → Nat :=
  let c0_126 : Index := 0#32
  let c2_i32_111 : BitVec 32 := 2#32
  let c0_i32_8 : BitVec 32 := 0#32
  let c1_i32_10 : BitVec 32 := 1#32
  let arg7 : BitVec 32 := Scf.iv c0_i32_8 c1_i32_10 k0_t1
  let v374 : BitVec 32 := Scalar.muli c2_i32_111 arg7
  let c512_i32_112 : BitVec 32 := 512#32
  let v375 : BitVec 32 := Scalar.muli v374 c512_i32_112
  let v376 : BitVec 32 := v375
  let v401 : Index := Scalar.indexCast v376
  let c768 : Index := 768#32
  ![0, v401.toNat, 768]
def k0_off8 (i : grid0.Coords) (k0_t1 : Fin (k0_t1_loop i).trips) : Fin 3 → Nat :=
  let c0_128 : Index := 0#32
  let c2_i32_111 : BitVec 32 := 2#32
  let c0_i32_8 : BitVec 32 := 0#32
  let c1_i32_10 : BitVec 32 := 1#32
  let arg7 : BitVec 32 := Scf.iv c0_i32_8 c1_i32_10 k0_t1
  let v374 : BitVec 32 := Scalar.muli c2_i32_111 arg7
  let c512_i32_112 : BitVec 32 := 512#32
  let v375 : BitVec 32 := Scalar.muli v374 c512_i32_112
  let v376 : BitVec 32 := v375
  let v405 : Index := Scalar.indexCast v376
  let c896 : Index := 896#32
  ![0, v405.toNat, 896]
def k0_mult2 (i : grid0.Coords) (k0_t1 : Fin (k0_t1_loop i).trips) : BitVec 32 :=
  let c2_i32_111 : BitVec 32 := 2#32
  let c0_i32_8 : BitVec 32 := 0#32
  let c1_i32_10 : BitVec 32 := 1#32
  let arg7 : BitVec 32 := Scf.iv c0_i32_8 c1_i32_10 k0_t1
  let v374 : BitVec 32 := Scalar.muli c2_i32_111 arg7
  let c512_i32_112 : BitVec 32 := 512#32
  let v375 : BitVec 32 := Scalar.muli v374 c512_i32_112
  let v376 : BitVec 32 := v375
  let c0_i32_131 : BitVec 32 := 0#32
  let v414 : BitVec 32 := Scalar.addi v376 c0_i32_131
  v414
def k0_off9 (i : grid0.Coords) (k0_t1 : Fin (k0_t1_loop i).trips) (c0_i32_131 : BitVec 32) : Fin 3 → Nat :=
  let c0_132 : Index := 0#32
  let c0_133 : Index := 0#32
  let c2_i32_111 : BitVec 32 := 2#32
  let c0_i32_8 : BitVec 32 := 0#32
  let c1_i32_10 : BitVec 32 := 1#32
  let arg7 : BitVec 32 := Scf.iv c0_i32_8 c1_i32_10 k0_t1
  let v374 : BitVec 32 := Scalar.muli c2_i32_111 arg7
  let c512_i32_112 : BitVec 32 := 512#32
  let v375 : BitVec 32 := Scalar.muli v374 c512_i32_112
  let v376 : BitVec 32 := v375
  let v414 : BitVec 32 := Scalar.addi v376 c0_i32_131
  let v415 : BitVec 32 := v414
  let v416 : Index := Scalar.indexCast v415
  ![0, 0, v416.toNat]
def k0_mult3 (i : grid0.Coords) (k0_t1 : Fin (k0_t1_loop i).trips) : BitVec 32 :=
  let c2_i32_111 : BitVec 32 := 2#32
  let c0_i32_8 : BitVec 32 := 0#32
  let c1_i32_10 : BitVec 32 := 1#32
  let arg7 : BitVec 32 := Scf.iv c0_i32_8 c1_i32_10 k0_t1
  let v374 : BitVec 32 := Scalar.muli c2_i32_111 arg7
  let c512_i32_112 : BitVec 32 := 512#32
  let v375 : BitVec 32 := Scalar.muli v374 c512_i32_112
  let v376 : BitVec 32 := v375
  let c256_i32 : BitVec 32 := 256#32
  let v427 : BitVec 32 := Scalar.addi v376 c256_i32
  v427
def k0_mult4 (i : grid0.Coords) (k0_t1 : Fin (k0_t1_loop i).trips) : BitVec 32 :=
  let c2_i32_111 : BitVec 32 := 2#32
  let c0_i32_8 : BitVec 32 := 0#32
  let c1_i32_10 : BitVec 32 := 1#32
  let arg7 : BitVec 32 := Scf.iv c0_i32_8 c1_i32_10 k0_t1
  let v374 : BitVec 32 := Scalar.muli c2_i32_111 arg7
  let c512_i32_112 : BitVec 32 := 512#32
  let v375 : BitVec 32 := Scalar.muli v374 c512_i32_112
  let v376 : BitVec 32 := v375
  let c512_i32_140 : BitVec 32 := 512#32
  let v440 : BitVec 32 := Scalar.addi v376 c512_i32_140
  v440
def k0_mult5 (i : grid0.Coords) (k0_t1 : Fin (k0_t1_loop i).trips) : BitVec 32 :=
  let c2_i32_111 : BitVec 32 := 2#32
  let c0_i32_8 : BitVec 32 := 0#32
  let c1_i32_10 : BitVec 32 := 1#32
  let arg7 : BitVec 32 := Scf.iv c0_i32_8 c1_i32_10 k0_t1
  let v374 : BitVec 32 := Scalar.muli c2_i32_111 arg7
  let c512_i32_112 : BitVec 32 := 512#32
  let v375 : BitVec 32 := Scalar.muli v374 c512_i32_112
  let v376 : BitVec 32 := v375
  let c768_i32 : BitVec 32 := 768#32
  let v453 : BitVec 32 := Scalar.addi v376 c768_i32
  v453
def k0_mult6 (i : grid0.Coords) (k0_t1 : Fin (k0_t1_loop i).trips) : BitVec 32 :=
  let c2_i32_111 : BitVec 32 := 2#32
  let c0_i32_8 : BitVec 32 := 0#32
  let c1_i32_10 : BitVec 32 := 1#32
  let arg7 : BitVec 32 := Scf.iv c0_i32_8 c1_i32_10 k0_t1
  let v374 : BitVec 32 := Scalar.muli c2_i32_111 arg7
  let c512_i32_112 : BitVec 32 := 512#32
  let v375 : BitVec 32 := Scalar.muli v374 c512_i32_112
  let v376 : BitVec 32 := v375
  let c0_i32_149 : BitVec 32 := 0#32
  let v466 : BitVec 32 := Scalar.addi v376 c0_i32_149
  v466
def k0_off10 (i : grid0.Coords) (k0_t1 : Fin (k0_t1_loop i).trips) (c0_i32_149 : BitVec 32) : Fin 3 → Nat :=
  let c0_150 : Index := 0#32
  let c64 : Index := 64#32
  let c2_i32_111 : BitVec 32 := 2#32
  let c0_i32_8 : BitVec 32 := 0#32
  let c1_i32_10 : BitVec 32 := 1#32
  let arg7 : BitVec 32 := Scf.iv c0_i32_8 c1_i32_10 k0_t1
  let v374 : BitVec 32 := Scalar.muli c2_i32_111 arg7
  let c512_i32_112 : BitVec 32 := 512#32
  let v375 : BitVec 32 := Scalar.muli v374 c512_i32_112
  let v376 : BitVec 32 := v375
  let v466 : BitVec 32 := Scalar.addi v376 c0_i32_149
  let v467 : BitVec 32 := v466
  let v468 : Index := Scalar.indexCast v467
  ![0, 64, v468.toNat]
def k0_mult7 (i : grid0.Coords) (k0_t1 : Fin (k0_t1_loop i).trips) : BitVec 32 :=
  let c2_i32_111 : BitVec 32 := 2#32
  let c0_i32_8 : BitVec 32 := 0#32
  let c1_i32_10 : BitVec 32 := 1#32
  let arg7 : BitVec 32 := Scf.iv c0_i32_8 c1_i32_10 k0_t1
  let v374 : BitVec 32 := Scalar.muli c2_i32_111 arg7
  let c512_i32_112 : BitVec 32 := 512#32
  let v375 : BitVec 32 := Scalar.muli v374 c512_i32_112
  let v376 : BitVec 32 := v375
  let c256_i32_153 : BitVec 32 := 256#32
  let v479 : BitVec 32 := Scalar.addi v376 c256_i32_153
  v479
def k0_mult8 (i : grid0.Coords) (k0_t1 : Fin (k0_t1_loop i).trips) : BitVec 32 :=
  let c2_i32_111 : BitVec 32 := 2#32
  let c0_i32_8 : BitVec 32 := 0#32
  let c1_i32_10 : BitVec 32 := 1#32
  let arg7 : BitVec 32 := Scf.iv c0_i32_8 c1_i32_10 k0_t1
  let v374 : BitVec 32 := Scalar.muli c2_i32_111 arg7
  let c512_i32_112 : BitVec 32 := 512#32
  let v375 : BitVec 32 := Scalar.muli v374 c512_i32_112
  let v376 : BitVec 32 := v375
  let c512_i32_158 : BitVec 32 := 512#32
  let v492 : BitVec 32 := Scalar.addi v376 c512_i32_158
  v492
def k0_mult9 (i : grid0.Coords) (k0_t1 : Fin (k0_t1_loop i).trips) : BitVec 32 :=
  let c2_i32_111 : BitVec 32 := 2#32
  let c0_i32_8 : BitVec 32 := 0#32
  let c1_i32_10 : BitVec 32 := 1#32
  let arg7 : BitVec 32 := Scf.iv c0_i32_8 c1_i32_10 k0_t1
  let v374 : BitVec 32 := Scalar.muli c2_i32_111 arg7
  let c512_i32_112 : BitVec 32 := 512#32
  let v375 : BitVec 32 := Scalar.muli v374 c512_i32_112
  let v376 : BitVec 32 := v375
  let c768_i32_163 : BitVec 32 := 768#32
  let v505 : BitVec 32 := Scalar.addi v376 c768_i32_163
  v505
def k0_mult10 (i : grid0.Coords) (k0_t1 : Fin (k0_t1_loop i).trips) : BitVec 32 :=
  let c2_i32_111 : BitVec 32 := 2#32
  let c0_i32_8 : BitVec 32 := 0#32
  let c1_i32_10 : BitVec 32 := 1#32
  let arg7 : BitVec 32 := Scf.iv c0_i32_8 c1_i32_10 k0_t1
  let v374 : BitVec 32 := Scalar.muli c2_i32_111 arg7
  let c512_i32_112 : BitVec 32 := 512#32
  let v375 : BitVec 32 := Scalar.muli v374 c512_i32_112
  let v376 : BitVec 32 := v375
  let c0_i32_168 : BitVec 32 := 0#32
  let v518 : BitVec 32 := Scalar.addi v376 c0_i32_168
  v518
def k0_off11 (i : grid0.Coords) (k0_t1 : Fin (k0_t1_loop i).trips) (c0_i32_168 : BitVec 32) : Fin 3 → Nat :=
  let c0_169 : Index := 0#32
  let c128_170 : Index := 128#32
  let c2_i32_111 : BitVec 32 := 2#32
  let c0_i32_8 : BitVec 32 := 0#32
  let c1_i32_10 : BitVec 32 := 1#32
  let arg7 : BitVec 32 := Scf.iv c0_i32_8 c1_i32_10 k0_t1
  let v374 : BitVec 32 := Scalar.muli c2_i32_111 arg7
  let c512_i32_112 : BitVec 32 := 512#32
  let v375 : BitVec 32 := Scalar.muli v374 c512_i32_112
  let v376 : BitVec 32 := v375
  let v518 : BitVec 32 := Scalar.addi v376 c0_i32_168
  let v519 : BitVec 32 := v518
  let v520 : Index := Scalar.indexCast v519
  ![0, 128, v520.toNat]
def k0_mult11 (i : grid0.Coords) (k0_t1 : Fin (k0_t1_loop i).trips) : BitVec 32 :=
  let c2_i32_111 : BitVec 32 := 2#32
  let c0_i32_8 : BitVec 32 := 0#32
  let c1_i32_10 : BitVec 32 := 1#32
  let arg7 : BitVec 32 := Scf.iv c0_i32_8 c1_i32_10 k0_t1
  let v374 : BitVec 32 := Scalar.muli c2_i32_111 arg7
  let c512_i32_112 : BitVec 32 := 512#32
  let v375 : BitVec 32 := Scalar.muli v374 c512_i32_112
  let v376 : BitVec 32 := v375
  let c256_i32_173 : BitVec 32 := 256#32
  let v531 : BitVec 32 := Scalar.addi v376 c256_i32_173
  v531
def k0_mult12 (i : grid0.Coords) (k0_t1 : Fin (k0_t1_loop i).trips) : BitVec 32 :=
  let c2_i32_111 : BitVec 32 := 2#32
  let c0_i32_8 : BitVec 32 := 0#32
  let c1_i32_10 : BitVec 32 := 1#32
  let arg7 : BitVec 32 := Scf.iv c0_i32_8 c1_i32_10 k0_t1
  let v374 : BitVec 32 := Scalar.muli c2_i32_111 arg7
  let c512_i32_112 : BitVec 32 := 512#32
  let v375 : BitVec 32 := Scalar.muli v374 c512_i32_112
  let v376 : BitVec 32 := v375
  let c512_i32_178 : BitVec 32 := 512#32
  let v544 : BitVec 32 := Scalar.addi v376 c512_i32_178
  v544
def k0_mult13 (i : grid0.Coords) (k0_t1 : Fin (k0_t1_loop i).trips) : BitVec 32 :=
  let c2_i32_111 : BitVec 32 := 2#32
  let c0_i32_8 : BitVec 32 := 0#32
  let c1_i32_10 : BitVec 32 := 1#32
  let arg7 : BitVec 32 := Scf.iv c0_i32_8 c1_i32_10 k0_t1
  let v374 : BitVec 32 := Scalar.muli c2_i32_111 arg7
  let c512_i32_112 : BitVec 32 := 512#32
  let v375 : BitVec 32 := Scalar.muli v374 c512_i32_112
  let v376 : BitVec 32 := v375
  let c768_i32_183 : BitVec 32 := 768#32
  let v557 : BitVec 32 := Scalar.addi v376 c768_i32_183
  v557
def k0_mult14 (i : grid0.Coords) (k0_t1 : Fin (k0_t1_loop i).trips) : BitVec 32 :=
  let c2_i32_111 : BitVec 32 := 2#32
  let c0_i32_8 : BitVec 32 := 0#32
  let c1_i32_10 : BitVec 32 := 1#32
  let arg7 : BitVec 32 := Scf.iv c0_i32_8 c1_i32_10 k0_t1
  let v374 : BitVec 32 := Scalar.muli c2_i32_111 arg7
  let c512_i32_112 : BitVec 32 := 512#32
  let v375 : BitVec 32 := Scalar.muli v374 c512_i32_112
  let v376 : BitVec 32 := v375
  let c0_i32_188 : BitVec 32 := 0#32
  let v570 : BitVec 32 := Scalar.addi v376 c0_i32_188
  v570
def k0_off12 (i : grid0.Coords) (k0_t1 : Fin (k0_t1_loop i).trips) (c0_i32_188 : BitVec 32) : Fin 3 → Nat :=
  let c0_189 : Index := 0#32
  let c192 : Index := 192#32
  let c2_i32_111 : BitVec 32 := 2#32
  let c0_i32_8 : BitVec 32 := 0#32
  let c1_i32_10 : BitVec 32 := 1#32
  let arg7 : BitVec 32 := Scf.iv c0_i32_8 c1_i32_10 k0_t1
  let v374 : BitVec 32 := Scalar.muli c2_i32_111 arg7
  let c512_i32_112 : BitVec 32 := 512#32
  let v375 : BitVec 32 := Scalar.muli v374 c512_i32_112
  let v376 : BitVec 32 := v375
  let v570 : BitVec 32 := Scalar.addi v376 c0_i32_188
  let v571 : BitVec 32 := v570
  let v572 : Index := Scalar.indexCast v571
  ![0, 192, v572.toNat]
def k0_mult15 (i : grid0.Coords) (k0_t1 : Fin (k0_t1_loop i).trips) : BitVec 32 :=
  let c2_i32_111 : BitVec 32 := 2#32
  let c0_i32_8 : BitVec 32 := 0#32
  let c1_i32_10 : BitVec 32 := 1#32
  let arg7 : BitVec 32 := Scf.iv c0_i32_8 c1_i32_10 k0_t1
  let v374 : BitVec 32 := Scalar.muli c2_i32_111 arg7
  let c512_i32_112 : BitVec 32 := 512#32
  let v375 : BitVec 32 := Scalar.muli v374 c512_i32_112
  let v376 : BitVec 32 := v375
  let c256_i32_192 : BitVec 32 := 256#32
  let v583 : BitVec 32 := Scalar.addi v376 c256_i32_192
  v583
def k0_mult16 (i : grid0.Coords) (k0_t1 : Fin (k0_t1_loop i).trips) : BitVec 32 :=
  let c2_i32_111 : BitVec 32 := 2#32
  let c0_i32_8 : BitVec 32 := 0#32
  let c1_i32_10 : BitVec 32 := 1#32
  let arg7 : BitVec 32 := Scf.iv c0_i32_8 c1_i32_10 k0_t1
  let v374 : BitVec 32 := Scalar.muli c2_i32_111 arg7
  let c512_i32_112 : BitVec 32 := 512#32
  let v375 : BitVec 32 := Scalar.muli v374 c512_i32_112
  let v376 : BitVec 32 := v375
  let c512_i32_197 : BitVec 32 := 512#32
  let v596 : BitVec 32 := Scalar.addi v376 c512_i32_197
  v596
def k0_mult17 (i : grid0.Coords) (k0_t1 : Fin (k0_t1_loop i).trips) : BitVec 32 :=
  let c2_i32_111 : BitVec 32 := 2#32
  let c0_i32_8 : BitVec 32 := 0#32
  let c1_i32_10 : BitVec 32 := 1#32
  let arg7 : BitVec 32 := Scf.iv c0_i32_8 c1_i32_10 k0_t1
  let v374 : BitVec 32 := Scalar.muli c2_i32_111 arg7
  let c512_i32_112 : BitVec 32 := 512#32
  let v375 : BitVec 32 := Scalar.muli v374 c512_i32_112
  let v376 : BitVec 32 := v375
  let c768_i32_202 : BitVec 32 := 768#32
  let v609 : BitVec 32 := Scalar.addi v376 c768_i32_202
  v609
def k0_mult18 (i : grid0.Coords) (k0_t1 : Fin (k0_t1_loop i).trips) : BitVec 32 :=
  let c2_i32_111 : BitVec 32 := 2#32
  let c0_i32_8 : BitVec 32 := 0#32
  let c1_i32_10 : BitVec 32 := 1#32
  let arg7 : BitVec 32 := Scf.iv c0_i32_8 c1_i32_10 k0_t1
  let v374 : BitVec 32 := Scalar.muli c2_i32_111 arg7
  let c512_i32_112 : BitVec 32 := 512#32
  let v375 : BitVec 32 := Scalar.muli v374 c512_i32_112
  let v376 : BitVec 32 := v375
  let c0_i32_207 : BitVec 32 := 0#32
  let v622 : BitVec 32 := Scalar.addi v376 c0_i32_207
  v622
def k0_off13 (i : grid0.Coords) (k0_t1 : Fin (k0_t1_loop i).trips) (c0_i32_207 : BitVec 32) : Fin 3 → Nat :=
  let c0_208 : Index := 0#32
  let c256_209 : Index := 256#32
  let c2_i32_111 : BitVec 32 := 2#32
  let c0_i32_8 : BitVec 32 := 0#32
  let c1_i32_10 : BitVec 32 := 1#32
  let arg7 : BitVec 32 := Scf.iv c0_i32_8 c1_i32_10 k0_t1
  let v374 : BitVec 32 := Scalar.muli c2_i32_111 arg7
  let c512_i32_112 : BitVec 32 := 512#32
  let v375 : BitVec 32 := Scalar.muli v374 c512_i32_112
  let v376 : BitVec 32 := v375
  let v622 : BitVec 32 := Scalar.addi v376 c0_i32_207
  let v623 : BitVec 32 := v622
  let v624 : Index := Scalar.indexCast v623
  ![0, 256, v624.toNat]
def k0_mult19 (i : grid0.Coords) (k0_t1 : Fin (k0_t1_loop i).trips) : BitVec 32 :=
  let c2_i32_111 : BitVec 32 := 2#32
  let c0_i32_8 : BitVec 32 := 0#32
  let c1_i32_10 : BitVec 32 := 1#32
  let arg7 : BitVec 32 := Scf.iv c0_i32_8 c1_i32_10 k0_t1
  let v374 : BitVec 32 := Scalar.muli c2_i32_111 arg7
  let c512_i32_112 : BitVec 32 := 512#32
  let v375 : BitVec 32 := Scalar.muli v374 c512_i32_112
  let v376 : BitVec 32 := v375
  let c256_i32_212 : BitVec 32 := 256#32
  let v635 : BitVec 32 := Scalar.addi v376 c256_i32_212
  v635
def k0_mult20 (i : grid0.Coords) (k0_t1 : Fin (k0_t1_loop i).trips) : BitVec 32 :=
  let c2_i32_111 : BitVec 32 := 2#32
  let c0_i32_8 : BitVec 32 := 0#32
  let c1_i32_10 : BitVec 32 := 1#32
  let arg7 : BitVec 32 := Scf.iv c0_i32_8 c1_i32_10 k0_t1
  let v374 : BitVec 32 := Scalar.muli c2_i32_111 arg7
  let c512_i32_112 : BitVec 32 := 512#32
  let v375 : BitVec 32 := Scalar.muli v374 c512_i32_112
  let v376 : BitVec 32 := v375
  let c512_i32_217 : BitVec 32 := 512#32
  let v648 : BitVec 32 := Scalar.addi v376 c512_i32_217
  v648
def k0_mult21 (i : grid0.Coords) (k0_t1 : Fin (k0_t1_loop i).trips) : BitVec 32 :=
  let c2_i32_111 : BitVec 32 := 2#32
  let c0_i32_8 : BitVec 32 := 0#32
  let c1_i32_10 : BitVec 32 := 1#32
  let arg7 : BitVec 32 := Scf.iv c0_i32_8 c1_i32_10 k0_t1
  let v374 : BitVec 32 := Scalar.muli c2_i32_111 arg7
  let c512_i32_112 : BitVec 32 := 512#32
  let v375 : BitVec 32 := Scalar.muli v374 c512_i32_112
  let v376 : BitVec 32 := v375
  let c768_i32_222 : BitVec 32 := 768#32
  let v661 : BitVec 32 := Scalar.addi v376 c768_i32_222
  v661
def k0_mult22 (i : grid0.Coords) (k0_t1 : Fin (k0_t1_loop i).trips) : BitVec 32 :=
  let c2_i32_111 : BitVec 32 := 2#32
  let c0_i32_8 : BitVec 32 := 0#32
  let c1_i32_10 : BitVec 32 := 1#32
  let arg7 : BitVec 32 := Scf.iv c0_i32_8 c1_i32_10 k0_t1
  let v374 : BitVec 32 := Scalar.muli c2_i32_111 arg7
  let c512_i32_112 : BitVec 32 := 512#32
  let v375 : BitVec 32 := Scalar.muli v374 c512_i32_112
  let v376 : BitVec 32 := v375
  let c0_i32_227 : BitVec 32 := 0#32
  let v674 : BitVec 32 := Scalar.addi v376 c0_i32_227
  v674
def k0_off14 (i : grid0.Coords) (k0_t1 : Fin (k0_t1_loop i).trips) (c0_i32_227 : BitVec 32) : Fin 3 → Nat :=
  let c0_228 : Index := 0#32
  let c320 : Index := 320#32
  let c2_i32_111 : BitVec 32 := 2#32
  let c0_i32_8 : BitVec 32 := 0#32
  let c1_i32_10 : BitVec 32 := 1#32
  let arg7 : BitVec 32 := Scf.iv c0_i32_8 c1_i32_10 k0_t1
  let v374 : BitVec 32 := Scalar.muli c2_i32_111 arg7
  let c512_i32_112 : BitVec 32 := 512#32
  let v375 : BitVec 32 := Scalar.muli v374 c512_i32_112
  let v376 : BitVec 32 := v375
  let v674 : BitVec 32 := Scalar.addi v376 c0_i32_227
  let v675 : BitVec 32 := v674
  let v676 : Index := Scalar.indexCast v675
  ![0, 320, v676.toNat]
def k0_mult23 (i : grid0.Coords) (k0_t1 : Fin (k0_t1_loop i).trips) : BitVec 32 :=
  let c2_i32_111 : BitVec 32 := 2#32
  let c0_i32_8 : BitVec 32 := 0#32
  let c1_i32_10 : BitVec 32 := 1#32
  let arg7 : BitVec 32 := Scf.iv c0_i32_8 c1_i32_10 k0_t1
  let v374 : BitVec 32 := Scalar.muli c2_i32_111 arg7
  let c512_i32_112 : BitVec 32 := 512#32
  let v375 : BitVec 32 := Scalar.muli v374 c512_i32_112
  let v376 : BitVec 32 := v375
  let c256_i32_231 : BitVec 32 := 256#32
  let v687 : BitVec 32 := Scalar.addi v376 c256_i32_231
  v687
def k0_mult24 (i : grid0.Coords) (k0_t1 : Fin (k0_t1_loop i).trips) : BitVec 32 :=
  let c2_i32_111 : BitVec 32 := 2#32
  let c0_i32_8 : BitVec 32 := 0#32
  let c1_i32_10 : BitVec 32 := 1#32
  let arg7 : BitVec 32 := Scf.iv c0_i32_8 c1_i32_10 k0_t1
  let v374 : BitVec 32 := Scalar.muli c2_i32_111 arg7
  let c512_i32_112 : BitVec 32 := 512#32
  let v375 : BitVec 32 := Scalar.muli v374 c512_i32_112
  let v376 : BitVec 32 := v375
  let c512_i32_236 : BitVec 32 := 512#32
  let v700 : BitVec 32 := Scalar.addi v376 c512_i32_236
  v700
def k0_mult25 (i : grid0.Coords) (k0_t1 : Fin (k0_t1_loop i).trips) : BitVec 32 :=
  let c2_i32_111 : BitVec 32 := 2#32
  let c0_i32_8 : BitVec 32 := 0#32
  let c1_i32_10 : BitVec 32 := 1#32
  let arg7 : BitVec 32 := Scf.iv c0_i32_8 c1_i32_10 k0_t1
  let v374 : BitVec 32 := Scalar.muli c2_i32_111 arg7
  let c512_i32_112 : BitVec 32 := 512#32
  let v375 : BitVec 32 := Scalar.muli v374 c512_i32_112
  let v376 : BitVec 32 := v375
  let c768_i32_241 : BitVec 32 := 768#32
  let v713 : BitVec 32 := Scalar.addi v376 c768_i32_241
  v713
def k0_mult26 (i : grid0.Coords) (k0_t1 : Fin (k0_t1_loop i).trips) : BitVec 32 :=
  let c2_i32_111 : BitVec 32 := 2#32
  let c0_i32_8 : BitVec 32 := 0#32
  let c1_i32_10 : BitVec 32 := 1#32
  let arg7 : BitVec 32 := Scf.iv c0_i32_8 c1_i32_10 k0_t1
  let v374 : BitVec 32 := Scalar.muli c2_i32_111 arg7
  let c512_i32_112 : BitVec 32 := 512#32
  let v375 : BitVec 32 := Scalar.muli v374 c512_i32_112
  let v376 : BitVec 32 := v375
  let c0_i32_246 : BitVec 32 := 0#32
  let v726 : BitVec 32 := Scalar.addi v376 c0_i32_246
  v726
def k0_off15 (i : grid0.Coords) (k0_t1 : Fin (k0_t1_loop i).trips) (c0_i32_246 : BitVec 32) : Fin 3 → Nat :=
  let c0_247 : Index := 0#32
  let c384_248 : Index := 384#32
  let c2_i32_111 : BitVec 32 := 2#32
  let c0_i32_8 : BitVec 32 := 0#32
  let c1_i32_10 : BitVec 32 := 1#32
  let arg7 : BitVec 32 := Scf.iv c0_i32_8 c1_i32_10 k0_t1
  let v374 : BitVec 32 := Scalar.muli c2_i32_111 arg7
  let c512_i32_112 : BitVec 32 := 512#32
  let v375 : BitVec 32 := Scalar.muli v374 c512_i32_112
  let v376 : BitVec 32 := v375
  let v726 : BitVec 32 := Scalar.addi v376 c0_i32_246
  let v727 : BitVec 32 := v726
  let v728 : Index := Scalar.indexCast v727
  ![0, 384, v728.toNat]
def k0_mult27 (i : grid0.Coords) (k0_t1 : Fin (k0_t1_loop i).trips) : BitVec 32 :=
  let c2_i32_111 : BitVec 32 := 2#32
  let c0_i32_8 : BitVec 32 := 0#32
  let c1_i32_10 : BitVec 32 := 1#32
  let arg7 : BitVec 32 := Scf.iv c0_i32_8 c1_i32_10 k0_t1
  let v374 : BitVec 32 := Scalar.muli c2_i32_111 arg7
  let c512_i32_112 : BitVec 32 := 512#32
  let v375 : BitVec 32 := Scalar.muli v374 c512_i32_112
  let v376 : BitVec 32 := v375
  let c256_i32_251 : BitVec 32 := 256#32
  let v739 : BitVec 32 := Scalar.addi v376 c256_i32_251
  v739
def k0_mult28 (i : grid0.Coords) (k0_t1 : Fin (k0_t1_loop i).trips) : BitVec 32 :=
  let c2_i32_111 : BitVec 32 := 2#32
  let c0_i32_8 : BitVec 32 := 0#32
  let c1_i32_10 : BitVec 32 := 1#32
  let arg7 : BitVec 32 := Scf.iv c0_i32_8 c1_i32_10 k0_t1
  let v374 : BitVec 32 := Scalar.muli c2_i32_111 arg7
  let c512_i32_112 : BitVec 32 := 512#32
  let v375 : BitVec 32 := Scalar.muli v374 c512_i32_112
  let v376 : BitVec 32 := v375
  let c512_i32_256 : BitVec 32 := 512#32
  let v752 : BitVec 32 := Scalar.addi v376 c512_i32_256
  v752
def k0_mult29 (i : grid0.Coords) (k0_t1 : Fin (k0_t1_loop i).trips) : BitVec 32 :=
  let c2_i32_111 : BitVec 32 := 2#32
  let c0_i32_8 : BitVec 32 := 0#32
  let c1_i32_10 : BitVec 32 := 1#32
  let arg7 : BitVec 32 := Scf.iv c0_i32_8 c1_i32_10 k0_t1
  let v374 : BitVec 32 := Scalar.muli c2_i32_111 arg7
  let c512_i32_112 : BitVec 32 := 512#32
  let v375 : BitVec 32 := Scalar.muli v374 c512_i32_112
  let v376 : BitVec 32 := v375
  let c768_i32_261 : BitVec 32 := 768#32
  let v765 : BitVec 32 := Scalar.addi v376 c768_i32_261
  v765
def k0_mult30 (i : grid0.Coords) (k0_t1 : Fin (k0_t1_loop i).trips) : BitVec 32 :=
  let c2_i32_111 : BitVec 32 := 2#32
  let c0_i32_8 : BitVec 32 := 0#32
  let c1_i32_10 : BitVec 32 := 1#32
  let arg7 : BitVec 32 := Scf.iv c0_i32_8 c1_i32_10 k0_t1
  let v374 : BitVec 32 := Scalar.muli c2_i32_111 arg7
  let c512_i32_112 : BitVec 32 := 512#32
  let v375 : BitVec 32 := Scalar.muli v374 c512_i32_112
  let v376 : BitVec 32 := v375
  let c0_i32_266 : BitVec 32 := 0#32
  let v778 : BitVec 32 := Scalar.addi v376 c0_i32_266
  v778
def k0_off16 (i : grid0.Coords) (k0_t1 : Fin (k0_t1_loop i).trips) (c0_i32_266 : BitVec 32) : Fin 3 → Nat :=
  let c0_267 : Index := 0#32
  let c448 : Index := 448#32
  let c2_i32_111 : BitVec 32 := 2#32
  let c0_i32_8 : BitVec 32 := 0#32
  let c1_i32_10 : BitVec 32 := 1#32
  let arg7 : BitVec 32 := Scf.iv c0_i32_8 c1_i32_10 k0_t1
  let v374 : BitVec 32 := Scalar.muli c2_i32_111 arg7
  let c512_i32_112 : BitVec 32 := 512#32
  let v375 : BitVec 32 := Scalar.muli v374 c512_i32_112
  let v376 : BitVec 32 := v375
  let v778 : BitVec 32 := Scalar.addi v376 c0_i32_266
  let v779 : BitVec 32 := v778
  let v780 : Index := Scalar.indexCast v779
  ![0, 448, v780.toNat]
def k0_mult31 (i : grid0.Coords) (k0_t1 : Fin (k0_t1_loop i).trips) : BitVec 32 :=
  let c2_i32_111 : BitVec 32 := 2#32
  let c0_i32_8 : BitVec 32 := 0#32
  let c1_i32_10 : BitVec 32 := 1#32
  let arg7 : BitVec 32 := Scf.iv c0_i32_8 c1_i32_10 k0_t1
  let v374 : BitVec 32 := Scalar.muli c2_i32_111 arg7
  let c512_i32_112 : BitVec 32 := 512#32
  let v375 : BitVec 32 := Scalar.muli v374 c512_i32_112
  let v376 : BitVec 32 := v375
  let c256_i32_270 : BitVec 32 := 256#32
  let v791 : BitVec 32 := Scalar.addi v376 c256_i32_270
  v791
def k0_mult32 (i : grid0.Coords) (k0_t1 : Fin (k0_t1_loop i).trips) : BitVec 32 :=
  let c2_i32_111 : BitVec 32 := 2#32
  let c0_i32_8 : BitVec 32 := 0#32
  let c1_i32_10 : BitVec 32 := 1#32
  let arg7 : BitVec 32 := Scf.iv c0_i32_8 c1_i32_10 k0_t1
  let v374 : BitVec 32 := Scalar.muli c2_i32_111 arg7
  let c512_i32_112 : BitVec 32 := 512#32
  let v375 : BitVec 32 := Scalar.muli v374 c512_i32_112
  let v376 : BitVec 32 := v375
  let c512_i32_275 : BitVec 32 := 512#32
  let v804 : BitVec 32 := Scalar.addi v376 c512_i32_275
  v804
def k0_mult33 (i : grid0.Coords) (k0_t1 : Fin (k0_t1_loop i).trips) : BitVec 32 :=
  let c2_i32_111 : BitVec 32 := 2#32
  let c0_i32_8 : BitVec 32 := 0#32
  let c1_i32_10 : BitVec 32 := 1#32
  let arg7 : BitVec 32 := Scf.iv c0_i32_8 c1_i32_10 k0_t1
  let v374 : BitVec 32 := Scalar.muli c2_i32_111 arg7
  let c512_i32_112 : BitVec 32 := 512#32
  let v375 : BitVec 32 := Scalar.muli v374 c512_i32_112
  let v376 : BitVec 32 := v375
  let c768_i32_280 : BitVec 32 := 768#32
  let v817 : BitVec 32 := Scalar.addi v376 c768_i32_280
  v817
@[reducible] def k0_t2_loop (i : grid0.Coords) : Scf.Loop 32 :=
  let c0_i32_8 : BitVec 32 := 0#32
  let arg2 : BitVec 32 := BitVec.ofNat 32 (i 2).val
  let c0_i32 : BitVec 32 := 0#32
  let v14 : BitVec 1 := Scalar.cmpi .sgt arg2 c0_i32
  let v15 : BitVec 32 := Scalar.extui v14
  let c0_i32_4 : BitVec 32 := 0#32
  let v16 : BitVec 1 := Scalar.cmpi .slt arg2 c0_i32_4
  let v17 : BitVec 32 := Scalar.extui v16
  let v18 : BitVec 32 := Scalar.subi v15 v17
  let c2_i32 : BitVec 32 := 2#32
  let c0_i32_5 : BitVec 32 := 0#32
  let v19 : BitVec 1 := Scalar.cmpi .sgt c2_i32 c0_i32_5
  let v20 : BitVec 32 := Scalar.extui v19
  let c0_i32_6 : BitVec 32 := 0#32
  let v21 : BitVec 1 := Scalar.cmpi .slt c2_i32 c0_i32_6
  let v22 : BitVec 32 := Scalar.extui v21
  let v23 : BitVec 32 := Scalar.subi v20 v22
  let v24 : BitVec 1 := Scalar.cmpi .ne v18 v23
  let v25 : BitVec 32 := Scalar.remsi arg2 c2_i32
  let c0_i32_7 : BitVec 32 := 0#32
  let v26 : BitVec 1 := Scalar.cmpi .ne v25 c0_i32_7
  let v27 : BitVec 1 := Scalar.andi v24 v26
  let v13 : BitVec 32 := Scalar.divsi arg2 c2_i32
  let c1_i32 : BitVec 32 := 1#32
  let v28 : BitVec 32 := Scalar.subi v13 c1_i32
  let v29 : BitVec 32 := Scalar.select v27 v28 v13
  let v30 : BitVec 32 := Scalar.subi v29 c0_i32_8
  let c1_i32_9 : BitVec 32 := 1#32
  let v32 : BitVec 32 := Scalar.divsi v30 c1_i32_9
  let v33 : BitVec 32 := Scalar.muli v32 c1_i32_9
  let v34 : BitVec 32 := Scalar.addi c0_i32_8 v33
  let v31 : BitVec 32 := Scalar.addi c0_i32_8 v30
  let c1_i32_11 : BitVec 32 := 1#32
  ⟨v34, v31, c1_i32_11⟩
def k0_mult34 (i : grid0.Coords) (k0_t2 : Fin (k0_t2_loop i).trips) : BitVec 32 :=
  let c2_i32_111 : BitVec 32 := 2#32
  let c0_i32_8 : BitVec 32 := 0#32
  let arg2 : BitVec 32 := BitVec.ofNat 32 (i 2).val
  let c0_i32 : BitVec 32 := 0#32
  let v14 : BitVec 1 := Scalar.cmpi .sgt arg2 c0_i32
  let v15 : BitVec 32 := Scalar.extui v14
  let c0_i32_4 : BitVec 32 := 0#32
  let v16 : BitVec 1 := Scalar.cmpi .slt arg2 c0_i32_4
  let v17 : BitVec 32 := Scalar.extui v16
  let v18 : BitVec 32 := Scalar.subi v15 v17
  let c2_i32 : BitVec 32 := 2#32
  let c0_i32_5 : BitVec 32 := 0#32
  let v19 : BitVec 1 := Scalar.cmpi .sgt c2_i32 c0_i32_5
  let v20 : BitVec 32 := Scalar.extui v19
  let c0_i32_6 : BitVec 32 := 0#32
  let v21 : BitVec 1 := Scalar.cmpi .slt c2_i32 c0_i32_6
  let v22 : BitVec 32 := Scalar.extui v21
  let v23 : BitVec 32 := Scalar.subi v20 v22
  let v24 : BitVec 1 := Scalar.cmpi .ne v18 v23
  let v25 : BitVec 32 := Scalar.remsi arg2 c2_i32
  let c0_i32_7 : BitVec 32 := 0#32
  let v26 : BitVec 1 := Scalar.cmpi .ne v25 c0_i32_7
  let v27 : BitVec 1 := Scalar.andi v24 v26
  let v13 : BitVec 32 := Scalar.divsi arg2 c2_i32
  let c1_i32 : BitVec 32 := 1#32
  let v28 : BitVec 32 := Scalar.subi v13 c1_i32
  let v29 : BitVec 32 := Scalar.select v27 v28 v13
  let v30 : BitVec 32 := Scalar.subi v29 c0_i32_8
  let c1_i32_9 : BitVec 32 := 1#32
  let v32 : BitVec 32 := Scalar.divsi v30 c1_i32_9
  let v33 : BitVec 32 := Scalar.muli v32 c1_i32_9
  let v34 : BitVec 32 := Scalar.addi c0_i32_8 v33
  let c1_i32_11 : BitVec 32 := 1#32
  let arg7 : BitVec 32 := Scf.iv v34 c1_i32_11 k0_t2
  let v374 : BitVec 32 := Scalar.muli c2_i32_111 arg7
  let c512_i32_112 : BitVec 32 := 512#32
  let v375 : BitVec 32 := Scalar.muli v374 c512_i32_112
  v375
def k0_off17 (i : grid0.Coords) (k0_t2 : Fin (k0_t2_loop i).trips) : Fin 3 → Nat :=
  let c0_113 : Index := 0#32
  let c2_i32_111 : BitVec 32 := 2#32
  let c0_i32_8 : BitVec 32 := 0#32
  let arg2 : BitVec 32 := BitVec.ofNat 32 (i 2).val
  let c0_i32 : BitVec 32 := 0#32
  let v14 : BitVec 1 := Scalar.cmpi .sgt arg2 c0_i32
  let v15 : BitVec 32 := Scalar.extui v14
  let c0_i32_4 : BitVec 32 := 0#32
  let v16 : BitVec 1 := Scalar.cmpi .slt arg2 c0_i32_4
  let v17 : BitVec 32 := Scalar.extui v16
  let v18 : BitVec 32 := Scalar.subi v15 v17
  let c2_i32 : BitVec 32 := 2#32
  let c0_i32_5 : BitVec 32 := 0#32
  let v19 : BitVec 1 := Scalar.cmpi .sgt c2_i32 c0_i32_5
  let v20 : BitVec 32 := Scalar.extui v19
  let c0_i32_6 : BitVec 32 := 0#32
  let v21 : BitVec 1 := Scalar.cmpi .slt c2_i32 c0_i32_6
  let v22 : BitVec 32 := Scalar.extui v21
  let v23 : BitVec 32 := Scalar.subi v20 v22
  let v24 : BitVec 1 := Scalar.cmpi .ne v18 v23
  let v25 : BitVec 32 := Scalar.remsi arg2 c2_i32
  let c0_i32_7 : BitVec 32 := 0#32
  let v26 : BitVec 1 := Scalar.cmpi .ne v25 c0_i32_7
  let v27 : BitVec 1 := Scalar.andi v24 v26
  let v13 : BitVec 32 := Scalar.divsi arg2 c2_i32
  let c1_i32 : BitVec 32 := 1#32
  let v28 : BitVec 32 := Scalar.subi v13 c1_i32
  let v29 : BitVec 32 := Scalar.select v27 v28 v13
  let v30 : BitVec 32 := Scalar.subi v29 c0_i32_8
  let c1_i32_9 : BitVec 32 := 1#32
  let v32 : BitVec 32 := Scalar.divsi v30 c1_i32_9
  let v33 : BitVec 32 := Scalar.muli v32 c1_i32_9
  let v34 : BitVec 32 := Scalar.addi c0_i32_8 v33
  let c1_i32_11 : BitVec 32 := 1#32
  let arg7 : BitVec 32 := Scf.iv v34 c1_i32_11 k0_t2
  let v374 : BitVec 32 := Scalar.muli c2_i32_111 arg7
  let c512_i32_112 : BitVec 32 := 512#32
  let v375 : BitVec 32 := Scalar.muli v374 c512_i32_112
  let v376 : BitVec 32 := v375
  let v377 : Index := Scalar.indexCast v376
  let c0_114 : Index := 0#32
  ![0, v377.toNat, 0]
def k0_off18 (i : grid0.Coords) (k0_t2 : Fin (k0_t2_loop i).trips) : Fin 3 → Nat :=
  let c0_116 : Index := 0#32
  let c2_i32_111 : BitVec 32 := 2#32
  let c0_i32_8 : BitVec 32 := 0#32
  let arg2 : BitVec 32 := BitVec.ofNat 32 (i 2).val
  let c0_i32 : BitVec 32 := 0#32
  let v14 : BitVec 1 := Scalar.cmpi .sgt arg2 c0_i32
  let v15 : BitVec 32 := Scalar.extui v14
  let c0_i32_4 : BitVec 32 := 0#32
  let v16 : BitVec 1 := Scalar.cmpi .slt arg2 c0_i32_4
  let v17 : BitVec 32 := Scalar.extui v16
  let v18 : BitVec 32 := Scalar.subi v15 v17
  let c2_i32 : BitVec 32 := 2#32
  let c0_i32_5 : BitVec 32 := 0#32
  let v19 : BitVec 1 := Scalar.cmpi .sgt c2_i32 c0_i32_5
  let v20 : BitVec 32 := Scalar.extui v19
  let c0_i32_6 : BitVec 32 := 0#32
  let v21 : BitVec 1 := Scalar.cmpi .slt c2_i32 c0_i32_6
  let v22 : BitVec 32 := Scalar.extui v21
  let v23 : BitVec 32 := Scalar.subi v20 v22
  let v24 : BitVec 1 := Scalar.cmpi .ne v18 v23
  let v25 : BitVec 32 := Scalar.remsi arg2 c2_i32
  let c0_i32_7 : BitVec 32 := 0#32
  let v26 : BitVec 1 := Scalar.cmpi .ne v25 c0_i32_7
  let v27 : BitVec 1 := Scalar.andi v24 v26
  let v13 : BitVec 32 := Scalar.divsi arg2 c2_i32
  let c1_i32 : BitVec 32 := 1#32
  let v28 : BitVec 32 := Scalar.subi v13 c1_i32
  let v29 : BitVec 32 := Scalar.select v27 v28 v13
  let v30 : BitVec 32 := Scalar.subi v29 c0_i32_8
  let c1_i32_9 : BitVec 32 := 1#32
  let v32 : BitVec 32 := Scalar.divsi v30 c1_i32_9
  let v33 : BitVec 32 := Scalar.muli v32 c1_i32_9
  let v34 : BitVec 32 := Scalar.addi c0_i32_8 v33
  let c1_i32_11 : BitVec 32 := 1#32
  let arg7 : BitVec 32 := Scf.iv v34 c1_i32_11 k0_t2
  let v374 : BitVec 32 := Scalar.muli c2_i32_111 arg7
  let c512_i32_112 : BitVec 32 := 512#32
  let v375 : BitVec 32 := Scalar.muli v374 c512_i32_112
  let v376 : BitVec 32 := v375
  let v381 : Index := Scalar.indexCast v376
  let c128 : Index := 128#32
  ![0, v381.toNat, 128]
def k0_off19 (i : grid0.Coords) (k0_t2 : Fin (k0_t2_loop i).trips) : Fin 3 → Nat :=
  let c0_118 : Index := 0#32
  let c2_i32_111 : BitVec 32 := 2#32
  let c0_i32_8 : BitVec 32 := 0#32
  let arg2 : BitVec 32 := BitVec.ofNat 32 (i 2).val
  let c0_i32 : BitVec 32 := 0#32
  let v14 : BitVec 1 := Scalar.cmpi .sgt arg2 c0_i32
  let v15 : BitVec 32 := Scalar.extui v14
  let c0_i32_4 : BitVec 32 := 0#32
  let v16 : BitVec 1 := Scalar.cmpi .slt arg2 c0_i32_4
  let v17 : BitVec 32 := Scalar.extui v16
  let v18 : BitVec 32 := Scalar.subi v15 v17
  let c2_i32 : BitVec 32 := 2#32
  let c0_i32_5 : BitVec 32 := 0#32
  let v19 : BitVec 1 := Scalar.cmpi .sgt c2_i32 c0_i32_5
  let v20 : BitVec 32 := Scalar.extui v19
  let c0_i32_6 : BitVec 32 := 0#32
  let v21 : BitVec 1 := Scalar.cmpi .slt c2_i32 c0_i32_6
  let v22 : BitVec 32 := Scalar.extui v21
  let v23 : BitVec 32 := Scalar.subi v20 v22
  let v24 : BitVec 1 := Scalar.cmpi .ne v18 v23
  let v25 : BitVec 32 := Scalar.remsi arg2 c2_i32
  let c0_i32_7 : BitVec 32 := 0#32
  let v26 : BitVec 1 := Scalar.cmpi .ne v25 c0_i32_7
  let v27 : BitVec 1 := Scalar.andi v24 v26
  let v13 : BitVec 32 := Scalar.divsi arg2 c2_i32
  let c1_i32 : BitVec 32 := 1#32
  let v28 : BitVec 32 := Scalar.subi v13 c1_i32
  let v29 : BitVec 32 := Scalar.select v27 v28 v13
  let v30 : BitVec 32 := Scalar.subi v29 c0_i32_8
  let c1_i32_9 : BitVec 32 := 1#32
  let v32 : BitVec 32 := Scalar.divsi v30 c1_i32_9
  let v33 : BitVec 32 := Scalar.muli v32 c1_i32_9
  let v34 : BitVec 32 := Scalar.addi c0_i32_8 v33
  let c1_i32_11 : BitVec 32 := 1#32
  let arg7 : BitVec 32 := Scf.iv v34 c1_i32_11 k0_t2
  let v374 : BitVec 32 := Scalar.muli c2_i32_111 arg7
  let c512_i32_112 : BitVec 32 := 512#32
  let v375 : BitVec 32 := Scalar.muli v374 c512_i32_112
  let v376 : BitVec 32 := v375
  let v385 : Index := Scalar.indexCast v376
  let c256 : Index := 256#32
  ![0, v385.toNat, 256]
def k0_off20 (i : grid0.Coords) (k0_t2 : Fin (k0_t2_loop i).trips) : Fin 3 → Nat :=
  let c0_120 : Index := 0#32
  let c2_i32_111 : BitVec 32 := 2#32
  let c0_i32_8 : BitVec 32 := 0#32
  let arg2 : BitVec 32 := BitVec.ofNat 32 (i 2).val
  let c0_i32 : BitVec 32 := 0#32
  let v14 : BitVec 1 := Scalar.cmpi .sgt arg2 c0_i32
  let v15 : BitVec 32 := Scalar.extui v14
  let c0_i32_4 : BitVec 32 := 0#32
  let v16 : BitVec 1 := Scalar.cmpi .slt arg2 c0_i32_4
  let v17 : BitVec 32 := Scalar.extui v16
  let v18 : BitVec 32 := Scalar.subi v15 v17
  let c2_i32 : BitVec 32 := 2#32
  let c0_i32_5 : BitVec 32 := 0#32
  let v19 : BitVec 1 := Scalar.cmpi .sgt c2_i32 c0_i32_5
  let v20 : BitVec 32 := Scalar.extui v19
  let c0_i32_6 : BitVec 32 := 0#32
  let v21 : BitVec 1 := Scalar.cmpi .slt c2_i32 c0_i32_6
  let v22 : BitVec 32 := Scalar.extui v21
  let v23 : BitVec 32 := Scalar.subi v20 v22
  let v24 : BitVec 1 := Scalar.cmpi .ne v18 v23
  let v25 : BitVec 32 := Scalar.remsi arg2 c2_i32
  let c0_i32_7 : BitVec 32 := 0#32
  let v26 : BitVec 1 := Scalar.cmpi .ne v25 c0_i32_7
  let v27 : BitVec 1 := Scalar.andi v24 v26
  let v13 : BitVec 32 := Scalar.divsi arg2 c2_i32
  let c1_i32 : BitVec 32 := 1#32
  let v28 : BitVec 32 := Scalar.subi v13 c1_i32
  let v29 : BitVec 32 := Scalar.select v27 v28 v13
  let v30 : BitVec 32 := Scalar.subi v29 c0_i32_8
  let c1_i32_9 : BitVec 32 := 1#32
  let v32 : BitVec 32 := Scalar.divsi v30 c1_i32_9
  let v33 : BitVec 32 := Scalar.muli v32 c1_i32_9
  let v34 : BitVec 32 := Scalar.addi c0_i32_8 v33
  let c1_i32_11 : BitVec 32 := 1#32
  let arg7 : BitVec 32 := Scf.iv v34 c1_i32_11 k0_t2
  let v374 : BitVec 32 := Scalar.muli c2_i32_111 arg7
  let c512_i32_112 : BitVec 32 := 512#32
  let v375 : BitVec 32 := Scalar.muli v374 c512_i32_112
  let v376 : BitVec 32 := v375
  let v389 : Index := Scalar.indexCast v376
  let c384 : Index := 384#32
  ![0, v389.toNat, 384]
def k0_off21 (i : grid0.Coords) (k0_t2 : Fin (k0_t2_loop i).trips) : Fin 3 → Nat :=
  let c0_122 : Index := 0#32
  let c2_i32_111 : BitVec 32 := 2#32
  let c0_i32_8 : BitVec 32 := 0#32
  let arg2 : BitVec 32 := BitVec.ofNat 32 (i 2).val
  let c0_i32 : BitVec 32 := 0#32
  let v14 : BitVec 1 := Scalar.cmpi .sgt arg2 c0_i32
  let v15 : BitVec 32 := Scalar.extui v14
  let c0_i32_4 : BitVec 32 := 0#32
  let v16 : BitVec 1 := Scalar.cmpi .slt arg2 c0_i32_4
  let v17 : BitVec 32 := Scalar.extui v16
  let v18 : BitVec 32 := Scalar.subi v15 v17
  let c2_i32 : BitVec 32 := 2#32
  let c0_i32_5 : BitVec 32 := 0#32
  let v19 : BitVec 1 := Scalar.cmpi .sgt c2_i32 c0_i32_5
  let v20 : BitVec 32 := Scalar.extui v19
  let c0_i32_6 : BitVec 32 := 0#32
  let v21 : BitVec 1 := Scalar.cmpi .slt c2_i32 c0_i32_6
  let v22 : BitVec 32 := Scalar.extui v21
  let v23 : BitVec 32 := Scalar.subi v20 v22
  let v24 : BitVec 1 := Scalar.cmpi .ne v18 v23
  let v25 : BitVec 32 := Scalar.remsi arg2 c2_i32
  let c0_i32_7 : BitVec 32 := 0#32
  let v26 : BitVec 1 := Scalar.cmpi .ne v25 c0_i32_7
  let v27 : BitVec 1 := Scalar.andi v24 v26
  let v13 : BitVec 32 := Scalar.divsi arg2 c2_i32
  let c1_i32 : BitVec 32 := 1#32
  let v28 : BitVec 32 := Scalar.subi v13 c1_i32
  let v29 : BitVec 32 := Scalar.select v27 v28 v13
  let v30 : BitVec 32 := Scalar.subi v29 c0_i32_8
  let c1_i32_9 : BitVec 32 := 1#32
  let v32 : BitVec 32 := Scalar.divsi v30 c1_i32_9
  let v33 : BitVec 32 := Scalar.muli v32 c1_i32_9
  let v34 : BitVec 32 := Scalar.addi c0_i32_8 v33
  let c1_i32_11 : BitVec 32 := 1#32
  let arg7 : BitVec 32 := Scf.iv v34 c1_i32_11 k0_t2
  let v374 : BitVec 32 := Scalar.muli c2_i32_111 arg7
  let c512_i32_112 : BitVec 32 := 512#32
  let v375 : BitVec 32 := Scalar.muli v374 c512_i32_112
  let v376 : BitVec 32 := v375
  let v393 : Index := Scalar.indexCast v376
  let c512 : Index := 512#32
  ![0, v393.toNat, 512]
def k0_off22 (i : grid0.Coords) (k0_t2 : Fin (k0_t2_loop i).trips) : Fin 3 → Nat :=
  let c0_124 : Index := 0#32
  let c2_i32_111 : BitVec 32 := 2#32
  let c0_i32_8 : BitVec 32 := 0#32
  let arg2 : BitVec 32 := BitVec.ofNat 32 (i 2).val
  let c0_i32 : BitVec 32 := 0#32
  let v14 : BitVec 1 := Scalar.cmpi .sgt arg2 c0_i32
  let v15 : BitVec 32 := Scalar.extui v14
  let c0_i32_4 : BitVec 32 := 0#32
  let v16 : BitVec 1 := Scalar.cmpi .slt arg2 c0_i32_4
  let v17 : BitVec 32 := Scalar.extui v16
  let v18 : BitVec 32 := Scalar.subi v15 v17
  let c2_i32 : BitVec 32 := 2#32
  let c0_i32_5 : BitVec 32 := 0#32
  let v19 : BitVec 1 := Scalar.cmpi .sgt c2_i32 c0_i32_5
  let v20 : BitVec 32 := Scalar.extui v19
  let c0_i32_6 : BitVec 32 := 0#32
  let v21 : BitVec 1 := Scalar.cmpi .slt c2_i32 c0_i32_6
  let v22 : BitVec 32 := Scalar.extui v21
  let v23 : BitVec 32 := Scalar.subi v20 v22
  let v24 : BitVec 1 := Scalar.cmpi .ne v18 v23
  let v25 : BitVec 32 := Scalar.remsi arg2 c2_i32
  let c0_i32_7 : BitVec 32 := 0#32
  let v26 : BitVec 1 := Scalar.cmpi .ne v25 c0_i32_7
  let v27 : BitVec 1 := Scalar.andi v24 v26
  let v13 : BitVec 32 := Scalar.divsi arg2 c2_i32
  let c1_i32 : BitVec 32 := 1#32
  let v28 : BitVec 32 := Scalar.subi v13 c1_i32
  let v29 : BitVec 32 := Scalar.select v27 v28 v13
  let v30 : BitVec 32 := Scalar.subi v29 c0_i32_8
  let c1_i32_9 : BitVec 32 := 1#32
  let v32 : BitVec 32 := Scalar.divsi v30 c1_i32_9
  let v33 : BitVec 32 := Scalar.muli v32 c1_i32_9
  let v34 : BitVec 32 := Scalar.addi c0_i32_8 v33
  let c1_i32_11 : BitVec 32 := 1#32
  let arg7 : BitVec 32 := Scf.iv v34 c1_i32_11 k0_t2
  let v374 : BitVec 32 := Scalar.muli c2_i32_111 arg7
  let c512_i32_112 : BitVec 32 := 512#32
  let v375 : BitVec 32 := Scalar.muli v374 c512_i32_112
  let v376 : BitVec 32 := v375
  let v397 : Index := Scalar.indexCast v376
  let c640 : Index := 640#32
  ![0, v397.toNat, 640]
def k0_off23 (i : grid0.Coords) (k0_t2 : Fin (k0_t2_loop i).trips) : Fin 3 → Nat :=
  let c0_126 : Index := 0#32
  let c2_i32_111 : BitVec 32 := 2#32
  let c0_i32_8 : BitVec 32 := 0#32
  let arg2 : BitVec 32 := BitVec.ofNat 32 (i 2).val
  let c0_i32 : BitVec 32 := 0#32
  let v14 : BitVec 1 := Scalar.cmpi .sgt arg2 c0_i32
  let v15 : BitVec 32 := Scalar.extui v14
  let c0_i32_4 : BitVec 32 := 0#32
  let v16 : BitVec 1 := Scalar.cmpi .slt arg2 c0_i32_4
  let v17 : BitVec 32 := Scalar.extui v16
  let v18 : BitVec 32 := Scalar.subi v15 v17
  let c2_i32 : BitVec 32 := 2#32
  let c0_i32_5 : BitVec 32 := 0#32
  let v19 : BitVec 1 := Scalar.cmpi .sgt c2_i32 c0_i32_5
  let v20 : BitVec 32 := Scalar.extui v19
  let c0_i32_6 : BitVec 32 := 0#32
  let v21 : BitVec 1 := Scalar.cmpi .slt c2_i32 c0_i32_6
  let v22 : BitVec 32 := Scalar.extui v21
  let v23 : BitVec 32 := Scalar.subi v20 v22
  let v24 : BitVec 1 := Scalar.cmpi .ne v18 v23
  let v25 : BitVec 32 := Scalar.remsi arg2 c2_i32
  let c0_i32_7 : BitVec 32 := 0#32
  let v26 : BitVec 1 := Scalar.cmpi .ne v25 c0_i32_7
  let v27 : BitVec 1 := Scalar.andi v24 v26
  let v13 : BitVec 32 := Scalar.divsi arg2 c2_i32
  let c1_i32 : BitVec 32 := 1#32
  let v28 : BitVec 32 := Scalar.subi v13 c1_i32
  let v29 : BitVec 32 := Scalar.select v27 v28 v13
  let v30 : BitVec 32 := Scalar.subi v29 c0_i32_8
  let c1_i32_9 : BitVec 32 := 1#32
  let v32 : BitVec 32 := Scalar.divsi v30 c1_i32_9
  let v33 : BitVec 32 := Scalar.muli v32 c1_i32_9
  let v34 : BitVec 32 := Scalar.addi c0_i32_8 v33
  let c1_i32_11 : BitVec 32 := 1#32
  let arg7 : BitVec 32 := Scf.iv v34 c1_i32_11 k0_t2
  let v374 : BitVec 32 := Scalar.muli c2_i32_111 arg7
  let c512_i32_112 : BitVec 32 := 512#32
  let v375 : BitVec 32 := Scalar.muli v374 c512_i32_112
  let v376 : BitVec 32 := v375
  let v401 : Index := Scalar.indexCast v376
  let c768 : Index := 768#32
  ![0, v401.toNat, 768]
def k0_off24 (i : grid0.Coords) (k0_t2 : Fin (k0_t2_loop i).trips) : Fin 3 → Nat :=
  let c0_128 : Index := 0#32
  let c2_i32_111 : BitVec 32 := 2#32
  let c0_i32_8 : BitVec 32 := 0#32
  let arg2 : BitVec 32 := BitVec.ofNat 32 (i 2).val
  let c0_i32 : BitVec 32 := 0#32
  let v14 : BitVec 1 := Scalar.cmpi .sgt arg2 c0_i32
  let v15 : BitVec 32 := Scalar.extui v14
  let c0_i32_4 : BitVec 32 := 0#32
  let v16 : BitVec 1 := Scalar.cmpi .slt arg2 c0_i32_4
  let v17 : BitVec 32 := Scalar.extui v16
  let v18 : BitVec 32 := Scalar.subi v15 v17
  let c2_i32 : BitVec 32 := 2#32
  let c0_i32_5 : BitVec 32 := 0#32
  let v19 : BitVec 1 := Scalar.cmpi .sgt c2_i32 c0_i32_5
  let v20 : BitVec 32 := Scalar.extui v19
  let c0_i32_6 : BitVec 32 := 0#32
  let v21 : BitVec 1 := Scalar.cmpi .slt c2_i32 c0_i32_6
  let v22 : BitVec 32 := Scalar.extui v21
  let v23 : BitVec 32 := Scalar.subi v20 v22
  let v24 : BitVec 1 := Scalar.cmpi .ne v18 v23
  let v25 : BitVec 32 := Scalar.remsi arg2 c2_i32
  let c0_i32_7 : BitVec 32 := 0#32
  let v26 : BitVec 1 := Scalar.cmpi .ne v25 c0_i32_7
  let v27 : BitVec 1 := Scalar.andi v24 v26
  let v13 : BitVec 32 := Scalar.divsi arg2 c2_i32
  let c1_i32 : BitVec 32 := 1#32
  let v28 : BitVec 32 := Scalar.subi v13 c1_i32
  let v29 : BitVec 32 := Scalar.select v27 v28 v13
  let v30 : BitVec 32 := Scalar.subi v29 c0_i32_8
  let c1_i32_9 : BitVec 32 := 1#32
  let v32 : BitVec 32 := Scalar.divsi v30 c1_i32_9
  let v33 : BitVec 32 := Scalar.muli v32 c1_i32_9
  let v34 : BitVec 32 := Scalar.addi c0_i32_8 v33
  let c1_i32_11 : BitVec 32 := 1#32
  let arg7 : BitVec 32 := Scf.iv v34 c1_i32_11 k0_t2
  let v374 : BitVec 32 := Scalar.muli c2_i32_111 arg7
  let c512_i32_112 : BitVec 32 := 512#32
  let v375 : BitVec 32 := Scalar.muli v374 c512_i32_112
  let v376 : BitVec 32 := v375
  let v405 : Index := Scalar.indexCast v376
  let c896 : Index := 896#32
  ![0, v405.toNat, 896]
def k0_mult35 (i : grid0.Coords) (k0_t2 : Fin (k0_t2_loop i).trips) : BitVec 32 :=
  let c2_i32_111 : BitVec 32 := 2#32
  let c0_i32_8 : BitVec 32 := 0#32
  let arg2 : BitVec 32 := BitVec.ofNat 32 (i 2).val
  let c0_i32 : BitVec 32 := 0#32
  let v14 : BitVec 1 := Scalar.cmpi .sgt arg2 c0_i32
  let v15 : BitVec 32 := Scalar.extui v14
  let c0_i32_4 : BitVec 32 := 0#32
  let v16 : BitVec 1 := Scalar.cmpi .slt arg2 c0_i32_4
  let v17 : BitVec 32 := Scalar.extui v16
  let v18 : BitVec 32 := Scalar.subi v15 v17
  let c2_i32 : BitVec 32 := 2#32
  let c0_i32_5 : BitVec 32 := 0#32
  let v19 : BitVec 1 := Scalar.cmpi .sgt c2_i32 c0_i32_5
  let v20 : BitVec 32 := Scalar.extui v19
  let c0_i32_6 : BitVec 32 := 0#32
  let v21 : BitVec 1 := Scalar.cmpi .slt c2_i32 c0_i32_6
  let v22 : BitVec 32 := Scalar.extui v21
  let v23 : BitVec 32 := Scalar.subi v20 v22
  let v24 : BitVec 1 := Scalar.cmpi .ne v18 v23
  let v25 : BitVec 32 := Scalar.remsi arg2 c2_i32
  let c0_i32_7 : BitVec 32 := 0#32
  let v26 : BitVec 1 := Scalar.cmpi .ne v25 c0_i32_7
  let v27 : BitVec 1 := Scalar.andi v24 v26
  let v13 : BitVec 32 := Scalar.divsi arg2 c2_i32
  let c1_i32 : BitVec 32 := 1#32
  let v28 : BitVec 32 := Scalar.subi v13 c1_i32
  let v29 : BitVec 32 := Scalar.select v27 v28 v13
  let v30 : BitVec 32 := Scalar.subi v29 c0_i32_8
  let c1_i32_9 : BitVec 32 := 1#32
  let v32 : BitVec 32 := Scalar.divsi v30 c1_i32_9
  let v33 : BitVec 32 := Scalar.muli v32 c1_i32_9
  let v34 : BitVec 32 := Scalar.addi c0_i32_8 v33
  let c1_i32_11 : BitVec 32 := 1#32
  let arg7 : BitVec 32 := Scf.iv v34 c1_i32_11 k0_t2
  let v374 : BitVec 32 := Scalar.muli c2_i32_111 arg7
  let c512_i32_112 : BitVec 32 := 512#32
  let v375 : BitVec 32 := Scalar.muli v374 c512_i32_112
  let v376 : BitVec 32 := v375
  let c0_i32_131 : BitVec 32 := 0#32
  let v414 : BitVec 32 := Scalar.addi v376 c0_i32_131
  v414
def k0_off25 (i : grid0.Coords) (k0_t2 : Fin (k0_t2_loop i).trips) (c0_i32_131 : BitVec 32) : Fin 3 → Nat :=
  let c0_132 : Index := 0#32
  let c0_133 : Index := 0#32
  let c2_i32_111 : BitVec 32 := 2#32
  let c0_i32_8 : BitVec 32 := 0#32
  let arg2 : BitVec 32 := BitVec.ofNat 32 (i 2).val
  let c0_i32 : BitVec 32 := 0#32
  let v14 : BitVec 1 := Scalar.cmpi .sgt arg2 c0_i32
  let v15 : BitVec 32 := Scalar.extui v14
  let c0_i32_4 : BitVec 32 := 0#32
  let v16 : BitVec 1 := Scalar.cmpi .slt arg2 c0_i32_4
  let v17 : BitVec 32 := Scalar.extui v16
  let v18 : BitVec 32 := Scalar.subi v15 v17
  let c2_i32 : BitVec 32 := 2#32
  let c0_i32_5 : BitVec 32 := 0#32
  let v19 : BitVec 1 := Scalar.cmpi .sgt c2_i32 c0_i32_5
  let v20 : BitVec 32 := Scalar.extui v19
  let c0_i32_6 : BitVec 32 := 0#32
  let v21 : BitVec 1 := Scalar.cmpi .slt c2_i32 c0_i32_6
  let v22 : BitVec 32 := Scalar.extui v21
  let v23 : BitVec 32 := Scalar.subi v20 v22
  let v24 : BitVec 1 := Scalar.cmpi .ne v18 v23
  let v25 : BitVec 32 := Scalar.remsi arg2 c2_i32
  let c0_i32_7 : BitVec 32 := 0#32
  let v26 : BitVec 1 := Scalar.cmpi .ne v25 c0_i32_7
  let v27 : BitVec 1 := Scalar.andi v24 v26
  let v13 : BitVec 32 := Scalar.divsi arg2 c2_i32
  let c1_i32 : BitVec 32 := 1#32
  let v28 : BitVec 32 := Scalar.subi v13 c1_i32
  let v29 : BitVec 32 := Scalar.select v27 v28 v13
  let v30 : BitVec 32 := Scalar.subi v29 c0_i32_8
  let c1_i32_9 : BitVec 32 := 1#32
  let v32 : BitVec 32 := Scalar.divsi v30 c1_i32_9
  let v33 : BitVec 32 := Scalar.muli v32 c1_i32_9
  let v34 : BitVec 32 := Scalar.addi c0_i32_8 v33
  let c1_i32_11 : BitVec 32 := 1#32
  let arg7 : BitVec 32 := Scf.iv v34 c1_i32_11 k0_t2
  let v374 : BitVec 32 := Scalar.muli c2_i32_111 arg7
  let c512_i32_112 : BitVec 32 := 512#32
  let v375 : BitVec 32 := Scalar.muli v374 c512_i32_112
  let v376 : BitVec 32 := v375
  let v414 : BitVec 32 := Scalar.addi v376 c0_i32_131
  let v415 : BitVec 32 := v414
  let v416 : Index := Scalar.indexCast v415
  ![0, 0, v416.toNat]
def k0_mult36 (i : grid0.Coords) (k0_t2 : Fin (k0_t2_loop i).trips) : BitVec 32 :=
  let c2_i32_111 : BitVec 32 := 2#32
  let c0_i32_8 : BitVec 32 := 0#32
  let arg2 : BitVec 32 := BitVec.ofNat 32 (i 2).val
  let c0_i32 : BitVec 32 := 0#32
  let v14 : BitVec 1 := Scalar.cmpi .sgt arg2 c0_i32
  let v15 : BitVec 32 := Scalar.extui v14
  let c0_i32_4 : BitVec 32 := 0#32
  let v16 : BitVec 1 := Scalar.cmpi .slt arg2 c0_i32_4
  let v17 : BitVec 32 := Scalar.extui v16
  let v18 : BitVec 32 := Scalar.subi v15 v17
  let c2_i32 : BitVec 32 := 2#32
  let c0_i32_5 : BitVec 32 := 0#32
  let v19 : BitVec 1 := Scalar.cmpi .sgt c2_i32 c0_i32_5
  let v20 : BitVec 32 := Scalar.extui v19
  let c0_i32_6 : BitVec 32 := 0#32
  let v21 : BitVec 1 := Scalar.cmpi .slt c2_i32 c0_i32_6
  let v22 : BitVec 32 := Scalar.extui v21
  let v23 : BitVec 32 := Scalar.subi v20 v22
  let v24 : BitVec 1 := Scalar.cmpi .ne v18 v23
  let v25 : BitVec 32 := Scalar.remsi arg2 c2_i32
  let c0_i32_7 : BitVec 32 := 0#32
  let v26 : BitVec 1 := Scalar.cmpi .ne v25 c0_i32_7
  let v27 : BitVec 1 := Scalar.andi v24 v26
  let v13 : BitVec 32 := Scalar.divsi arg2 c2_i32
  let c1_i32 : BitVec 32 := 1#32
  let v28 : BitVec 32 := Scalar.subi v13 c1_i32
  let v29 : BitVec 32 := Scalar.select v27 v28 v13
  let v30 : BitVec 32 := Scalar.subi v29 c0_i32_8
  let c1_i32_9 : BitVec 32 := 1#32
  let v32 : BitVec 32 := Scalar.divsi v30 c1_i32_9
  let v33 : BitVec 32 := Scalar.muli v32 c1_i32_9
  let v34 : BitVec 32 := Scalar.addi c0_i32_8 v33
  let c1_i32_11 : BitVec 32 := 1#32
  let arg7 : BitVec 32 := Scf.iv v34 c1_i32_11 k0_t2
  let v374 : BitVec 32 := Scalar.muli c2_i32_111 arg7
  let c512_i32_112 : BitVec 32 := 512#32
  let v375 : BitVec 32 := Scalar.muli v374 c512_i32_112
  let v376 : BitVec 32 := v375
  let c256_i32 : BitVec 32 := 256#32
  let v427 : BitVec 32 := Scalar.addi v376 c256_i32
  v427
def k0_mult37 (i : grid0.Coords) (k0_t2 : Fin (k0_t2_loop i).trips) : BitVec 32 :=
  let c2_i32_111 : BitVec 32 := 2#32
  let c0_i32_8 : BitVec 32 := 0#32
  let arg2 : BitVec 32 := BitVec.ofNat 32 (i 2).val
  let c0_i32 : BitVec 32 := 0#32
  let v14 : BitVec 1 := Scalar.cmpi .sgt arg2 c0_i32
  let v15 : BitVec 32 := Scalar.extui v14
  let c0_i32_4 : BitVec 32 := 0#32
  let v16 : BitVec 1 := Scalar.cmpi .slt arg2 c0_i32_4
  let v17 : BitVec 32 := Scalar.extui v16
  let v18 : BitVec 32 := Scalar.subi v15 v17
  let c2_i32 : BitVec 32 := 2#32
  let c0_i32_5 : BitVec 32 := 0#32
  let v19 : BitVec 1 := Scalar.cmpi .sgt c2_i32 c0_i32_5
  let v20 : BitVec 32 := Scalar.extui v19
  let c0_i32_6 : BitVec 32 := 0#32
  let v21 : BitVec 1 := Scalar.cmpi .slt c2_i32 c0_i32_6
  let v22 : BitVec 32 := Scalar.extui v21
  let v23 : BitVec 32 := Scalar.subi v20 v22
  let v24 : BitVec 1 := Scalar.cmpi .ne v18 v23
  let v25 : BitVec 32 := Scalar.remsi arg2 c2_i32
  let c0_i32_7 : BitVec 32 := 0#32
  let v26 : BitVec 1 := Scalar.cmpi .ne v25 c0_i32_7
  let v27 : BitVec 1 := Scalar.andi v24 v26
  let v13 : BitVec 32 := Scalar.divsi arg2 c2_i32
  let c1_i32 : BitVec 32 := 1#32
  let v28 : BitVec 32 := Scalar.subi v13 c1_i32
  let v29 : BitVec 32 := Scalar.select v27 v28 v13
  let v30 : BitVec 32 := Scalar.subi v29 c0_i32_8
  let c1_i32_9 : BitVec 32 := 1#32
  let v32 : BitVec 32 := Scalar.divsi v30 c1_i32_9
  let v33 : BitVec 32 := Scalar.muli v32 c1_i32_9
  let v34 : BitVec 32 := Scalar.addi c0_i32_8 v33
  let c1_i32_11 : BitVec 32 := 1#32
  let arg7 : BitVec 32 := Scf.iv v34 c1_i32_11 k0_t2
  let v374 : BitVec 32 := Scalar.muli c2_i32_111 arg7
  let c512_i32_112 : BitVec 32 := 512#32
  let v375 : BitVec 32 := Scalar.muli v374 c512_i32_112
  let v376 : BitVec 32 := v375
  let c512_i32_140 : BitVec 32 := 512#32
  let v440 : BitVec 32 := Scalar.addi v376 c512_i32_140
  v440
def k0_mult38 (i : grid0.Coords) (k0_t2 : Fin (k0_t2_loop i).trips) : BitVec 32 :=
  let c2_i32_111 : BitVec 32 := 2#32
  let c0_i32_8 : BitVec 32 := 0#32
  let arg2 : BitVec 32 := BitVec.ofNat 32 (i 2).val
  let c0_i32 : BitVec 32 := 0#32
  let v14 : BitVec 1 := Scalar.cmpi .sgt arg2 c0_i32
  let v15 : BitVec 32 := Scalar.extui v14
  let c0_i32_4 : BitVec 32 := 0#32
  let v16 : BitVec 1 := Scalar.cmpi .slt arg2 c0_i32_4
  let v17 : BitVec 32 := Scalar.extui v16
  let v18 : BitVec 32 := Scalar.subi v15 v17
  let c2_i32 : BitVec 32 := 2#32
  let c0_i32_5 : BitVec 32 := 0#32
  let v19 : BitVec 1 := Scalar.cmpi .sgt c2_i32 c0_i32_5
  let v20 : BitVec 32 := Scalar.extui v19
  let c0_i32_6 : BitVec 32 := 0#32
  let v21 : BitVec 1 := Scalar.cmpi .slt c2_i32 c0_i32_6
  let v22 : BitVec 32 := Scalar.extui v21
  let v23 : BitVec 32 := Scalar.subi v20 v22
  let v24 : BitVec 1 := Scalar.cmpi .ne v18 v23
  let v25 : BitVec 32 := Scalar.remsi arg2 c2_i32
  let c0_i32_7 : BitVec 32 := 0#32
  let v26 : BitVec 1 := Scalar.cmpi .ne v25 c0_i32_7
  let v27 : BitVec 1 := Scalar.andi v24 v26
  let v13 : BitVec 32 := Scalar.divsi arg2 c2_i32
  let c1_i32 : BitVec 32 := 1#32
  let v28 : BitVec 32 := Scalar.subi v13 c1_i32
  let v29 : BitVec 32 := Scalar.select v27 v28 v13
  let v30 : BitVec 32 := Scalar.subi v29 c0_i32_8
  let c1_i32_9 : BitVec 32 := 1#32
  let v32 : BitVec 32 := Scalar.divsi v30 c1_i32_9
  let v33 : BitVec 32 := Scalar.muli v32 c1_i32_9
  let v34 : BitVec 32 := Scalar.addi c0_i32_8 v33
  let c1_i32_11 : BitVec 32 := 1#32
  let arg7 : BitVec 32 := Scf.iv v34 c1_i32_11 k0_t2
  let v374 : BitVec 32 := Scalar.muli c2_i32_111 arg7
  let c512_i32_112 : BitVec 32 := 512#32
  let v375 : BitVec 32 := Scalar.muli v374 c512_i32_112
  let v376 : BitVec 32 := v375
  let c768_i32 : BitVec 32 := 768#32
  let v453 : BitVec 32 := Scalar.addi v376 c768_i32
  v453
def k0_mult39 (i : grid0.Coords) (k0_t2 : Fin (k0_t2_loop i).trips) : BitVec 32 :=
  let c2_i32_111 : BitVec 32 := 2#32
  let c0_i32_8 : BitVec 32 := 0#32
  let arg2 : BitVec 32 := BitVec.ofNat 32 (i 2).val
  let c0_i32 : BitVec 32 := 0#32
  let v14 : BitVec 1 := Scalar.cmpi .sgt arg2 c0_i32
  let v15 : BitVec 32 := Scalar.extui v14
  let c0_i32_4 : BitVec 32 := 0#32
  let v16 : BitVec 1 := Scalar.cmpi .slt arg2 c0_i32_4
  let v17 : BitVec 32 := Scalar.extui v16
  let v18 : BitVec 32 := Scalar.subi v15 v17
  let c2_i32 : BitVec 32 := 2#32
  let c0_i32_5 : BitVec 32 := 0#32
  let v19 : BitVec 1 := Scalar.cmpi .sgt c2_i32 c0_i32_5
  let v20 : BitVec 32 := Scalar.extui v19
  let c0_i32_6 : BitVec 32 := 0#32
  let v21 : BitVec 1 := Scalar.cmpi .slt c2_i32 c0_i32_6
  let v22 : BitVec 32 := Scalar.extui v21
  let v23 : BitVec 32 := Scalar.subi v20 v22
  let v24 : BitVec 1 := Scalar.cmpi .ne v18 v23
  let v25 : BitVec 32 := Scalar.remsi arg2 c2_i32
  let c0_i32_7 : BitVec 32 := 0#32
  let v26 : BitVec 1 := Scalar.cmpi .ne v25 c0_i32_7
  let v27 : BitVec 1 := Scalar.andi v24 v26
  let v13 : BitVec 32 := Scalar.divsi arg2 c2_i32
  let c1_i32 : BitVec 32 := 1#32
  let v28 : BitVec 32 := Scalar.subi v13 c1_i32
  let v29 : BitVec 32 := Scalar.select v27 v28 v13
  let v30 : BitVec 32 := Scalar.subi v29 c0_i32_8
  let c1_i32_9 : BitVec 32 := 1#32
  let v32 : BitVec 32 := Scalar.divsi v30 c1_i32_9
  let v33 : BitVec 32 := Scalar.muli v32 c1_i32_9
  let v34 : BitVec 32 := Scalar.addi c0_i32_8 v33
  let c1_i32_11 : BitVec 32 := 1#32
  let arg7 : BitVec 32 := Scf.iv v34 c1_i32_11 k0_t2
  let v374 : BitVec 32 := Scalar.muli c2_i32_111 arg7
  let c512_i32_112 : BitVec 32 := 512#32
  let v375 : BitVec 32 := Scalar.muli v374 c512_i32_112
  let v376 : BitVec 32 := v375
  let c0_i32_149 : BitVec 32 := 0#32
  let v466 : BitVec 32 := Scalar.addi v376 c0_i32_149
  v466
def k0_off26 (i : grid0.Coords) (k0_t2 : Fin (k0_t2_loop i).trips) (c0_i32_149 : BitVec 32) : Fin 3 → Nat :=
  let c0_150 : Index := 0#32
  let c64 : Index := 64#32
  let c2_i32_111 : BitVec 32 := 2#32
  let c0_i32_8 : BitVec 32 := 0#32
  let arg2 : BitVec 32 := BitVec.ofNat 32 (i 2).val
  let c0_i32 : BitVec 32 := 0#32
  let v14 : BitVec 1 := Scalar.cmpi .sgt arg2 c0_i32
  let v15 : BitVec 32 := Scalar.extui v14
  let c0_i32_4 : BitVec 32 := 0#32
  let v16 : BitVec 1 := Scalar.cmpi .slt arg2 c0_i32_4
  let v17 : BitVec 32 := Scalar.extui v16
  let v18 : BitVec 32 := Scalar.subi v15 v17
  let c2_i32 : BitVec 32 := 2#32
  let c0_i32_5 : BitVec 32 := 0#32
  let v19 : BitVec 1 := Scalar.cmpi .sgt c2_i32 c0_i32_5
  let v20 : BitVec 32 := Scalar.extui v19
  let c0_i32_6 : BitVec 32 := 0#32
  let v21 : BitVec 1 := Scalar.cmpi .slt c2_i32 c0_i32_6
  let v22 : BitVec 32 := Scalar.extui v21
  let v23 : BitVec 32 := Scalar.subi v20 v22
  let v24 : BitVec 1 := Scalar.cmpi .ne v18 v23
  let v25 : BitVec 32 := Scalar.remsi arg2 c2_i32
  let c0_i32_7 : BitVec 32 := 0#32
  let v26 : BitVec 1 := Scalar.cmpi .ne v25 c0_i32_7
  let v27 : BitVec 1 := Scalar.andi v24 v26
  let v13 : BitVec 32 := Scalar.divsi arg2 c2_i32
  let c1_i32 : BitVec 32 := 1#32
  let v28 : BitVec 32 := Scalar.subi v13 c1_i32
  let v29 : BitVec 32 := Scalar.select v27 v28 v13
  let v30 : BitVec 32 := Scalar.subi v29 c0_i32_8
  let c1_i32_9 : BitVec 32 := 1#32
  let v32 : BitVec 32 := Scalar.divsi v30 c1_i32_9
  let v33 : BitVec 32 := Scalar.muli v32 c1_i32_9
  let v34 : BitVec 32 := Scalar.addi c0_i32_8 v33
  let c1_i32_11 : BitVec 32 := 1#32
  let arg7 : BitVec 32 := Scf.iv v34 c1_i32_11 k0_t2
  let v374 : BitVec 32 := Scalar.muli c2_i32_111 arg7
  let c512_i32_112 : BitVec 32 := 512#32
  let v375 : BitVec 32 := Scalar.muli v374 c512_i32_112
  let v376 : BitVec 32 := v375
  let v466 : BitVec 32 := Scalar.addi v376 c0_i32_149
  let v467 : BitVec 32 := v466
  let v468 : Index := Scalar.indexCast v467
  ![0, 64, v468.toNat]
def k0_mult40 (i : grid0.Coords) (k0_t2 : Fin (k0_t2_loop i).trips) : BitVec 32 :=
  let c2_i32_111 : BitVec 32 := 2#32
  let c0_i32_8 : BitVec 32 := 0#32
  let arg2 : BitVec 32 := BitVec.ofNat 32 (i 2).val
  let c0_i32 : BitVec 32 := 0#32
  let v14 : BitVec 1 := Scalar.cmpi .sgt arg2 c0_i32
  let v15 : BitVec 32 := Scalar.extui v14
  let c0_i32_4 : BitVec 32 := 0#32
  let v16 : BitVec 1 := Scalar.cmpi .slt arg2 c0_i32_4
  let v17 : BitVec 32 := Scalar.extui v16
  let v18 : BitVec 32 := Scalar.subi v15 v17
  let c2_i32 : BitVec 32 := 2#32
  let c0_i32_5 : BitVec 32 := 0#32
  let v19 : BitVec 1 := Scalar.cmpi .sgt c2_i32 c0_i32_5
  let v20 : BitVec 32 := Scalar.extui v19
  let c0_i32_6 : BitVec 32 := 0#32
  let v21 : BitVec 1 := Scalar.cmpi .slt c2_i32 c0_i32_6
  let v22 : BitVec 32 := Scalar.extui v21
  let v23 : BitVec 32 := Scalar.subi v20 v22
  let v24 : BitVec 1 := Scalar.cmpi .ne v18 v23
  let v25 : BitVec 32 := Scalar.remsi arg2 c2_i32
  let c0_i32_7 : BitVec 32 := 0#32
  let v26 : BitVec 1 := Scalar.cmpi .ne v25 c0_i32_7
  let v27 : BitVec 1 := Scalar.andi v24 v26
  let v13 : BitVec 32 := Scalar.divsi arg2 c2_i32
  let c1_i32 : BitVec 32 := 1#32
  let v28 : BitVec 32 := Scalar.subi v13 c1_i32
  let v29 : BitVec 32 := Scalar.select v27 v28 v13
  let v30 : BitVec 32 := Scalar.subi v29 c0_i32_8
  let c1_i32_9 : BitVec 32 := 1#32
  let v32 : BitVec 32 := Scalar.divsi v30 c1_i32_9
  let v33 : BitVec 32 := Scalar.muli v32 c1_i32_9
  let v34 : BitVec 32 := Scalar.addi c0_i32_8 v33
  let c1_i32_11 : BitVec 32 := 1#32
  let arg7 : BitVec 32 := Scf.iv v34 c1_i32_11 k0_t2
  let v374 : BitVec 32 := Scalar.muli c2_i32_111 arg7
  let c512_i32_112 : BitVec 32 := 512#32
  let v375 : BitVec 32 := Scalar.muli v374 c512_i32_112
  let v376 : BitVec 32 := v375
  let c256_i32_153 : BitVec 32 := 256#32
  let v479 : BitVec 32 := Scalar.addi v376 c256_i32_153
  v479
def k0_mult41 (i : grid0.Coords) (k0_t2 : Fin (k0_t2_loop i).trips) : BitVec 32 :=
  let c2_i32_111 : BitVec 32 := 2#32
  let c0_i32_8 : BitVec 32 := 0#32
  let arg2 : BitVec 32 := BitVec.ofNat 32 (i 2).val
  let c0_i32 : BitVec 32 := 0#32
  let v14 : BitVec 1 := Scalar.cmpi .sgt arg2 c0_i32
  let v15 : BitVec 32 := Scalar.extui v14
  let c0_i32_4 : BitVec 32 := 0#32
  let v16 : BitVec 1 := Scalar.cmpi .slt arg2 c0_i32_4
  let v17 : BitVec 32 := Scalar.extui v16
  let v18 : BitVec 32 := Scalar.subi v15 v17
  let c2_i32 : BitVec 32 := 2#32
  let c0_i32_5 : BitVec 32 := 0#32
  let v19 : BitVec 1 := Scalar.cmpi .sgt c2_i32 c0_i32_5
  let v20 : BitVec 32 := Scalar.extui v19
  let c0_i32_6 : BitVec 32 := 0#32
  let v21 : BitVec 1 := Scalar.cmpi .slt c2_i32 c0_i32_6
  let v22 : BitVec 32 := Scalar.extui v21
  let v23 : BitVec 32 := Scalar.subi v20 v22
  let v24 : BitVec 1 := Scalar.cmpi .ne v18 v23
  let v25 : BitVec 32 := Scalar.remsi arg2 c2_i32
  let c0_i32_7 : BitVec 32 := 0#32
  let v26 : BitVec 1 := Scalar.cmpi .ne v25 c0_i32_7
  let v27 : BitVec 1 := Scalar.andi v24 v26
  let v13 : BitVec 32 := Scalar.divsi arg2 c2_i32
  let c1_i32 : BitVec 32 := 1#32
  let v28 : BitVec 32 := Scalar.subi v13 c1_i32
  let v29 : BitVec 32 := Scalar.select v27 v28 v13
  let v30 : BitVec 32 := Scalar.subi v29 c0_i32_8
  let c1_i32_9 : BitVec 32 := 1#32
  let v32 : BitVec 32 := Scalar.divsi v30 c1_i32_9
  let v33 : BitVec 32 := Scalar.muli v32 c1_i32_9
  let v34 : BitVec 32 := Scalar.addi c0_i32_8 v33
  let c1_i32_11 : BitVec 32 := 1#32
  let arg7 : BitVec 32 := Scf.iv v34 c1_i32_11 k0_t2
  let v374 : BitVec 32 := Scalar.muli c2_i32_111 arg7
  let c512_i32_112 : BitVec 32 := 512#32
  let v375 : BitVec 32 := Scalar.muli v374 c512_i32_112
  let v376 : BitVec 32 := v375
  let c512_i32_158 : BitVec 32 := 512#32
  let v492 : BitVec 32 := Scalar.addi v376 c512_i32_158
  v492
def k0_mult42 (i : grid0.Coords) (k0_t2 : Fin (k0_t2_loop i).trips) : BitVec 32 :=
  let c2_i32_111 : BitVec 32 := 2#32
  let c0_i32_8 : BitVec 32 := 0#32
  let arg2 : BitVec 32 := BitVec.ofNat 32 (i 2).val
  let c0_i32 : BitVec 32 := 0#32
  let v14 : BitVec 1 := Scalar.cmpi .sgt arg2 c0_i32
  let v15 : BitVec 32 := Scalar.extui v14
  let c0_i32_4 : BitVec 32 := 0#32
  let v16 : BitVec 1 := Scalar.cmpi .slt arg2 c0_i32_4
  let v17 : BitVec 32 := Scalar.extui v16
  let v18 : BitVec 32 := Scalar.subi v15 v17
  let c2_i32 : BitVec 32 := 2#32
  let c0_i32_5 : BitVec 32 := 0#32
  let v19 : BitVec 1 := Scalar.cmpi .sgt c2_i32 c0_i32_5
  let v20 : BitVec 32 := Scalar.extui v19
  let c0_i32_6 : BitVec 32 := 0#32
  let v21 : BitVec 1 := Scalar.cmpi .slt c2_i32 c0_i32_6
  let v22 : BitVec 32 := Scalar.extui v21
  let v23 : BitVec 32 := Scalar.subi v20 v22
  let v24 : BitVec 1 := Scalar.cmpi .ne v18 v23
  let v25 : BitVec 32 := Scalar.remsi arg2 c2_i32
  let c0_i32_7 : BitVec 32 := 0#32
  let v26 : BitVec 1 := Scalar.cmpi .ne v25 c0_i32_7
  let v27 : BitVec 1 := Scalar.andi v24 v26
  let v13 : BitVec 32 := Scalar.divsi arg2 c2_i32
  let c1_i32 : BitVec 32 := 1#32
  let v28 : BitVec 32 := Scalar.subi v13 c1_i32
  let v29 : BitVec 32 := Scalar.select v27 v28 v13
  let v30 : BitVec 32 := Scalar.subi v29 c0_i32_8
  let c1_i32_9 : BitVec 32 := 1#32
  let v32 : BitVec 32 := Scalar.divsi v30 c1_i32_9
  let v33 : BitVec 32 := Scalar.muli v32 c1_i32_9
  let v34 : BitVec 32 := Scalar.addi c0_i32_8 v33
  let c1_i32_11 : BitVec 32 := 1#32
  let arg7 : BitVec 32 := Scf.iv v34 c1_i32_11 k0_t2
  let v374 : BitVec 32 := Scalar.muli c2_i32_111 arg7
  let c512_i32_112 : BitVec 32 := 512#32
  let v375 : BitVec 32 := Scalar.muli v374 c512_i32_112
  let v376 : BitVec 32 := v375
  let c768_i32_163 : BitVec 32 := 768#32
  let v505 : BitVec 32 := Scalar.addi v376 c768_i32_163
  v505
def k0_mult43 (i : grid0.Coords) (k0_t2 : Fin (k0_t2_loop i).trips) : BitVec 32 :=
  let c2_i32_111 : BitVec 32 := 2#32
  let c0_i32_8 : BitVec 32 := 0#32
  let arg2 : BitVec 32 := BitVec.ofNat 32 (i 2).val
  let c0_i32 : BitVec 32 := 0#32
  let v14 : BitVec 1 := Scalar.cmpi .sgt arg2 c0_i32
  let v15 : BitVec 32 := Scalar.extui v14
  let c0_i32_4 : BitVec 32 := 0#32
  let v16 : BitVec 1 := Scalar.cmpi .slt arg2 c0_i32_4
  let v17 : BitVec 32 := Scalar.extui v16
  let v18 : BitVec 32 := Scalar.subi v15 v17
  let c2_i32 : BitVec 32 := 2#32
  let c0_i32_5 : BitVec 32 := 0#32
  let v19 : BitVec 1 := Scalar.cmpi .sgt c2_i32 c0_i32_5
  let v20 : BitVec 32 := Scalar.extui v19
  let c0_i32_6 : BitVec 32 := 0#32
  let v21 : BitVec 1 := Scalar.cmpi .slt c2_i32 c0_i32_6
  let v22 : BitVec 32 := Scalar.extui v21
  let v23 : BitVec 32 := Scalar.subi v20 v22
  let v24 : BitVec 1 := Scalar.cmpi .ne v18 v23
  let v25 : BitVec 32 := Scalar.remsi arg2 c2_i32
  let c0_i32_7 : BitVec 32 := 0#32
  let v26 : BitVec 1 := Scalar.cmpi .ne v25 c0_i32_7
  let v27 : BitVec 1 := Scalar.andi v24 v26
  let v13 : BitVec 32 := Scalar.divsi arg2 c2_i32
  let c1_i32 : BitVec 32 := 1#32
  let v28 : BitVec 32 := Scalar.subi v13 c1_i32
  let v29 : BitVec 32 := Scalar.select v27 v28 v13
  let v30 : BitVec 32 := Scalar.subi v29 c0_i32_8
  let c1_i32_9 : BitVec 32 := 1#32
  let v32 : BitVec 32 := Scalar.divsi v30 c1_i32_9
  let v33 : BitVec 32 := Scalar.muli v32 c1_i32_9
  let v34 : BitVec 32 := Scalar.addi c0_i32_8 v33
  let c1_i32_11 : BitVec 32 := 1#32
  let arg7 : BitVec 32 := Scf.iv v34 c1_i32_11 k0_t2
  let v374 : BitVec 32 := Scalar.muli c2_i32_111 arg7
  let c512_i32_112 : BitVec 32 := 512#32
  let v375 : BitVec 32 := Scalar.muli v374 c512_i32_112
  let v376 : BitVec 32 := v375
  let c0_i32_168 : BitVec 32 := 0#32
  let v518 : BitVec 32 := Scalar.addi v376 c0_i32_168
  v518
def k0_off27 (i : grid0.Coords) (k0_t2 : Fin (k0_t2_loop i).trips) (c0_i32_168 : BitVec 32) : Fin 3 → Nat :=
  let c0_169 : Index := 0#32
  let c128_170 : Index := 128#32
  let c2_i32_111 : BitVec 32 := 2#32
  let c0_i32_8 : BitVec 32 := 0#32
  let arg2 : BitVec 32 := BitVec.ofNat 32 (i 2).val
  let c0_i32 : BitVec 32 := 0#32
  let v14 : BitVec 1 := Scalar.cmpi .sgt arg2 c0_i32
  let v15 : BitVec 32 := Scalar.extui v14
  let c0_i32_4 : BitVec 32 := 0#32
  let v16 : BitVec 1 := Scalar.cmpi .slt arg2 c0_i32_4
  let v17 : BitVec 32 := Scalar.extui v16
  let v18 : BitVec 32 := Scalar.subi v15 v17
  let c2_i32 : BitVec 32 := 2#32
  let c0_i32_5 : BitVec 32 := 0#32
  let v19 : BitVec 1 := Scalar.cmpi .sgt c2_i32 c0_i32_5
  let v20 : BitVec 32 := Scalar.extui v19
  let c0_i32_6 : BitVec 32 := 0#32
  let v21 : BitVec 1 := Scalar.cmpi .slt c2_i32 c0_i32_6
  let v22 : BitVec 32 := Scalar.extui v21
  let v23 : BitVec 32 := Scalar.subi v20 v22
  let v24 : BitVec 1 := Scalar.cmpi .ne v18 v23
  let v25 : BitVec 32 := Scalar.remsi arg2 c2_i32
  let c0_i32_7 : BitVec 32 := 0#32
  let v26 : BitVec 1 := Scalar.cmpi .ne v25 c0_i32_7
  let v27 : BitVec 1 := Scalar.andi v24 v26
  let v13 : BitVec 32 := Scalar.divsi arg2 c2_i32
  let c1_i32 : BitVec 32 := 1#32
  let v28 : BitVec 32 := Scalar.subi v13 c1_i32
  let v29 : BitVec 32 := Scalar.select v27 v28 v13
  let v30 : BitVec 32 := Scalar.subi v29 c0_i32_8
  let c1_i32_9 : BitVec 32 := 1#32
  let v32 : BitVec 32 := Scalar.divsi v30 c1_i32_9
  let v33 : BitVec 32 := Scalar.muli v32 c1_i32_9
  let v34 : BitVec 32 := Scalar.addi c0_i32_8 v33
  let c1_i32_11 : BitVec 32 := 1#32
  let arg7 : BitVec 32 := Scf.iv v34 c1_i32_11 k0_t2
  let v374 : BitVec 32 := Scalar.muli c2_i32_111 arg7
  let c512_i32_112 : BitVec 32 := 512#32
  let v375 : BitVec 32 := Scalar.muli v374 c512_i32_112
  let v376 : BitVec 32 := v375
  let v518 : BitVec 32 := Scalar.addi v376 c0_i32_168
  let v519 : BitVec 32 := v518
  let v520 : Index := Scalar.indexCast v519
  ![0, 128, v520.toNat]
def k0_mult44 (i : grid0.Coords) (k0_t2 : Fin (k0_t2_loop i).trips) : BitVec 32 :=
  let c2_i32_111 : BitVec 32 := 2#32
  let c0_i32_8 : BitVec 32 := 0#32
  let arg2 : BitVec 32 := BitVec.ofNat 32 (i 2).val
  let c0_i32 : BitVec 32 := 0#32
  let v14 : BitVec 1 := Scalar.cmpi .sgt arg2 c0_i32
  let v15 : BitVec 32 := Scalar.extui v14
  let c0_i32_4 : BitVec 32 := 0#32
  let v16 : BitVec 1 := Scalar.cmpi .slt arg2 c0_i32_4
  let v17 : BitVec 32 := Scalar.extui v16
  let v18 : BitVec 32 := Scalar.subi v15 v17
  let c2_i32 : BitVec 32 := 2#32
  let c0_i32_5 : BitVec 32 := 0#32
  let v19 : BitVec 1 := Scalar.cmpi .sgt c2_i32 c0_i32_5
  let v20 : BitVec 32 := Scalar.extui v19
  let c0_i32_6 : BitVec 32 := 0#32
  let v21 : BitVec 1 := Scalar.cmpi .slt c2_i32 c0_i32_6
  let v22 : BitVec 32 := Scalar.extui v21
  let v23 : BitVec 32 := Scalar.subi v20 v22
  let v24 : BitVec 1 := Scalar.cmpi .ne v18 v23
  let v25 : BitVec 32 := Scalar.remsi arg2 c2_i32
  let c0_i32_7 : BitVec 32 := 0#32
  let v26 : BitVec 1 := Scalar.cmpi .ne v25 c0_i32_7
  let v27 : BitVec 1 := Scalar.andi v24 v26
  let v13 : BitVec 32 := Scalar.divsi arg2 c2_i32
  let c1_i32 : BitVec 32 := 1#32
  let v28 : BitVec 32 := Scalar.subi v13 c1_i32
  let v29 : BitVec 32 := Scalar.select v27 v28 v13
  let v30 : BitVec 32 := Scalar.subi v29 c0_i32_8
  let c1_i32_9 : BitVec 32 := 1#32
  let v32 : BitVec 32 := Scalar.divsi v30 c1_i32_9
  let v33 : BitVec 32 := Scalar.muli v32 c1_i32_9
  let v34 : BitVec 32 := Scalar.addi c0_i32_8 v33
  let c1_i32_11 : BitVec 32 := 1#32
  let arg7 : BitVec 32 := Scf.iv v34 c1_i32_11 k0_t2
  let v374 : BitVec 32 := Scalar.muli c2_i32_111 arg7
  let c512_i32_112 : BitVec 32 := 512#32
  let v375 : BitVec 32 := Scalar.muli v374 c512_i32_112
  let v376 : BitVec 32 := v375
  let c256_i32_173 : BitVec 32 := 256#32
  let v531 : BitVec 32 := Scalar.addi v376 c256_i32_173
  v531
def k0_mult45 (i : grid0.Coords) (k0_t2 : Fin (k0_t2_loop i).trips) : BitVec 32 :=
  let c2_i32_111 : BitVec 32 := 2#32
  let c0_i32_8 : BitVec 32 := 0#32
  let arg2 : BitVec 32 := BitVec.ofNat 32 (i 2).val
  let c0_i32 : BitVec 32 := 0#32
  let v14 : BitVec 1 := Scalar.cmpi .sgt arg2 c0_i32
  let v15 : BitVec 32 := Scalar.extui v14
  let c0_i32_4 : BitVec 32 := 0#32
  let v16 : BitVec 1 := Scalar.cmpi .slt arg2 c0_i32_4
  let v17 : BitVec 32 := Scalar.extui v16
  let v18 : BitVec 32 := Scalar.subi v15 v17
  let c2_i32 : BitVec 32 := 2#32
  let c0_i32_5 : BitVec 32 := 0#32
  let v19 : BitVec 1 := Scalar.cmpi .sgt c2_i32 c0_i32_5
  let v20 : BitVec 32 := Scalar.extui v19
  let c0_i32_6 : BitVec 32 := 0#32
  let v21 : BitVec 1 := Scalar.cmpi .slt c2_i32 c0_i32_6
  let v22 : BitVec 32 := Scalar.extui v21
  let v23 : BitVec 32 := Scalar.subi v20 v22
  let v24 : BitVec 1 := Scalar.cmpi .ne v18 v23
  let v25 : BitVec 32 := Scalar.remsi arg2 c2_i32
  let c0_i32_7 : BitVec 32 := 0#32
  let v26 : BitVec 1 := Scalar.cmpi .ne v25 c0_i32_7
  let v27 : BitVec 1 := Scalar.andi v24 v26
  let v13 : BitVec 32 := Scalar.divsi arg2 c2_i32
  let c1_i32 : BitVec 32 := 1#32
  let v28 : BitVec 32 := Scalar.subi v13 c1_i32
  let v29 : BitVec 32 := Scalar.select v27 v28 v13
  let v30 : BitVec 32 := Scalar.subi v29 c0_i32_8
  let c1_i32_9 : BitVec 32 := 1#32
  let v32 : BitVec 32 := Scalar.divsi v30 c1_i32_9
  let v33 : BitVec 32 := Scalar.muli v32 c1_i32_9
  let v34 : BitVec 32 := Scalar.addi c0_i32_8 v33
  let c1_i32_11 : BitVec 32 := 1#32
  let arg7 : BitVec 32 := Scf.iv v34 c1_i32_11 k0_t2
  let v374 : BitVec 32 := Scalar.muli c2_i32_111 arg7
  let c512_i32_112 : BitVec 32 := 512#32
  let v375 : BitVec 32 := Scalar.muli v374 c512_i32_112
  let v376 : BitVec 32 := v375
  let c512_i32_178 : BitVec 32 := 512#32
  let v544 : BitVec 32 := Scalar.addi v376 c512_i32_178
  v544
def k0_mult46 (i : grid0.Coords) (k0_t2 : Fin (k0_t2_loop i).trips) : BitVec 32 :=
  let c2_i32_111 : BitVec 32 := 2#32
  let c0_i32_8 : BitVec 32 := 0#32
  let arg2 : BitVec 32 := BitVec.ofNat 32 (i 2).val
  let c0_i32 : BitVec 32 := 0#32
  let v14 : BitVec 1 := Scalar.cmpi .sgt arg2 c0_i32
  let v15 : BitVec 32 := Scalar.extui v14
  let c0_i32_4 : BitVec 32 := 0#32
  let v16 : BitVec 1 := Scalar.cmpi .slt arg2 c0_i32_4
  let v17 : BitVec 32 := Scalar.extui v16
  let v18 : BitVec 32 := Scalar.subi v15 v17
  let c2_i32 : BitVec 32 := 2#32
  let c0_i32_5 : BitVec 32 := 0#32
  let v19 : BitVec 1 := Scalar.cmpi .sgt c2_i32 c0_i32_5
  let v20 : BitVec 32 := Scalar.extui v19
  let c0_i32_6 : BitVec 32 := 0#32
  let v21 : BitVec 1 := Scalar.cmpi .slt c2_i32 c0_i32_6
  let v22 : BitVec 32 := Scalar.extui v21
  let v23 : BitVec 32 := Scalar.subi v20 v22
  let v24 : BitVec 1 := Scalar.cmpi .ne v18 v23
  let v25 : BitVec 32 := Scalar.remsi arg2 c2_i32
  let c0_i32_7 : BitVec 32 := 0#32
  let v26 : BitVec 1 := Scalar.cmpi .ne v25 c0_i32_7
  let v27 : BitVec 1 := Scalar.andi v24 v26
  let v13 : BitVec 32 := Scalar.divsi arg2 c2_i32
  let c1_i32 : BitVec 32 := 1#32
  let v28 : BitVec 32 := Scalar.subi v13 c1_i32
  let v29 : BitVec 32 := Scalar.select v27 v28 v13
  let v30 : BitVec 32 := Scalar.subi v29 c0_i32_8
  let c1_i32_9 : BitVec 32 := 1#32
  let v32 : BitVec 32 := Scalar.divsi v30 c1_i32_9
  let v33 : BitVec 32 := Scalar.muli v32 c1_i32_9
  let v34 : BitVec 32 := Scalar.addi c0_i32_8 v33
  let c1_i32_11 : BitVec 32 := 1#32
  let arg7 : BitVec 32 := Scf.iv v34 c1_i32_11 k0_t2
  let v374 : BitVec 32 := Scalar.muli c2_i32_111 arg7
  let c512_i32_112 : BitVec 32 := 512#32
  let v375 : BitVec 32 := Scalar.muli v374 c512_i32_112
  let v376 : BitVec 32 := v375
  let c768_i32_183 : BitVec 32 := 768#32
  let v557 : BitVec 32 := Scalar.addi v376 c768_i32_183
  v557
def k0_mult47 (i : grid0.Coords) (k0_t2 : Fin (k0_t2_loop i).trips) : BitVec 32 :=
  let c2_i32_111 : BitVec 32 := 2#32
  let c0_i32_8 : BitVec 32 := 0#32
  let arg2 : BitVec 32 := BitVec.ofNat 32 (i 2).val
  let c0_i32 : BitVec 32 := 0#32
  let v14 : BitVec 1 := Scalar.cmpi .sgt arg2 c0_i32
  let v15 : BitVec 32 := Scalar.extui v14
  let c0_i32_4 : BitVec 32 := 0#32
  let v16 : BitVec 1 := Scalar.cmpi .slt arg2 c0_i32_4
  let v17 : BitVec 32 := Scalar.extui v16
  let v18 : BitVec 32 := Scalar.subi v15 v17
  let c2_i32 : BitVec 32 := 2#32
  let c0_i32_5 : BitVec 32 := 0#32
  let v19 : BitVec 1 := Scalar.cmpi .sgt c2_i32 c0_i32_5
  let v20 : BitVec 32 := Scalar.extui v19
  let c0_i32_6 : BitVec 32 := 0#32
  let v21 : BitVec 1 := Scalar.cmpi .slt c2_i32 c0_i32_6
  let v22 : BitVec 32 := Scalar.extui v21
  let v23 : BitVec 32 := Scalar.subi v20 v22
  let v24 : BitVec 1 := Scalar.cmpi .ne v18 v23
  let v25 : BitVec 32 := Scalar.remsi arg2 c2_i32
  let c0_i32_7 : BitVec 32 := 0#32
  let v26 : BitVec 1 := Scalar.cmpi .ne v25 c0_i32_7
  let v27 : BitVec 1 := Scalar.andi v24 v26
  let v13 : BitVec 32 := Scalar.divsi arg2 c2_i32
  let c1_i32 : BitVec 32 := 1#32
  let v28 : BitVec 32 := Scalar.subi v13 c1_i32
  let v29 : BitVec 32 := Scalar.select v27 v28 v13
  let v30 : BitVec 32 := Scalar.subi v29 c0_i32_8
  let c1_i32_9 : BitVec 32 := 1#32
  let v32 : BitVec 32 := Scalar.divsi v30 c1_i32_9
  let v33 : BitVec 32 := Scalar.muli v32 c1_i32_9
  let v34 : BitVec 32 := Scalar.addi c0_i32_8 v33
  let c1_i32_11 : BitVec 32 := 1#32
  let arg7 : BitVec 32 := Scf.iv v34 c1_i32_11 k0_t2
  let v374 : BitVec 32 := Scalar.muli c2_i32_111 arg7
  let c512_i32_112 : BitVec 32 := 512#32
  let v375 : BitVec 32 := Scalar.muli v374 c512_i32_112
  let v376 : BitVec 32 := v375
  let c0_i32_188 : BitVec 32 := 0#32
  let v570 : BitVec 32 := Scalar.addi v376 c0_i32_188
  v570
def k0_off28 (i : grid0.Coords) (k0_t2 : Fin (k0_t2_loop i).trips) (c0_i32_188 : BitVec 32) : Fin 3 → Nat :=
  let c0_189 : Index := 0#32
  let c192 : Index := 192#32
  let c2_i32_111 : BitVec 32 := 2#32
  let c0_i32_8 : BitVec 32 := 0#32
  let arg2 : BitVec 32 := BitVec.ofNat 32 (i 2).val
  let c0_i32 : BitVec 32 := 0#32
  let v14 : BitVec 1 := Scalar.cmpi .sgt arg2 c0_i32
  let v15 : BitVec 32 := Scalar.extui v14
  let c0_i32_4 : BitVec 32 := 0#32
  let v16 : BitVec 1 := Scalar.cmpi .slt arg2 c0_i32_4
  let v17 : BitVec 32 := Scalar.extui v16
  let v18 : BitVec 32 := Scalar.subi v15 v17
  let c2_i32 : BitVec 32 := 2#32
  let c0_i32_5 : BitVec 32 := 0#32
  let v19 : BitVec 1 := Scalar.cmpi .sgt c2_i32 c0_i32_5
  let v20 : BitVec 32 := Scalar.extui v19
  let c0_i32_6 : BitVec 32 := 0#32
  let v21 : BitVec 1 := Scalar.cmpi .slt c2_i32 c0_i32_6
  let v22 : BitVec 32 := Scalar.extui v21
  let v23 : BitVec 32 := Scalar.subi v20 v22
  let v24 : BitVec 1 := Scalar.cmpi .ne v18 v23
  let v25 : BitVec 32 := Scalar.remsi arg2 c2_i32
  let c0_i32_7 : BitVec 32 := 0#32
  let v26 : BitVec 1 := Scalar.cmpi .ne v25 c0_i32_7
  let v27 : BitVec 1 := Scalar.andi v24 v26
  let v13 : BitVec 32 := Scalar.divsi arg2 c2_i32
  let c1_i32 : BitVec 32 := 1#32
  let v28 : BitVec 32 := Scalar.subi v13 c1_i32
  let v29 : BitVec 32 := Scalar.select v27 v28 v13
  let v30 : BitVec 32 := Scalar.subi v29 c0_i32_8
  let c1_i32_9 : BitVec 32 := 1#32
  let v32 : BitVec 32 := Scalar.divsi v30 c1_i32_9
  let v33 : BitVec 32 := Scalar.muli v32 c1_i32_9
  let v34 : BitVec 32 := Scalar.addi c0_i32_8 v33
  let c1_i32_11 : BitVec 32 := 1#32
  let arg7 : BitVec 32 := Scf.iv v34 c1_i32_11 k0_t2
  let v374 : BitVec 32 := Scalar.muli c2_i32_111 arg7
  let c512_i32_112 : BitVec 32 := 512#32
  let v375 : BitVec 32 := Scalar.muli v374 c512_i32_112
  let v376 : BitVec 32 := v375
  let v570 : BitVec 32 := Scalar.addi v376 c0_i32_188
  let v571 : BitVec 32 := v570
  let v572 : Index := Scalar.indexCast v571
  ![0, 192, v572.toNat]
def k0_mult48 (i : grid0.Coords) (k0_t2 : Fin (k0_t2_loop i).trips) : BitVec 32 :=
  let c2_i32_111 : BitVec 32 := 2#32
  let c0_i32_8 : BitVec 32 := 0#32
  let arg2 : BitVec 32 := BitVec.ofNat 32 (i 2).val
  let c0_i32 : BitVec 32 := 0#32
  let v14 : BitVec 1 := Scalar.cmpi .sgt arg2 c0_i32
  let v15 : BitVec 32 := Scalar.extui v14
  let c0_i32_4 : BitVec 32 := 0#32
  let v16 : BitVec 1 := Scalar.cmpi .slt arg2 c0_i32_4
  let v17 : BitVec 32 := Scalar.extui v16
  let v18 : BitVec 32 := Scalar.subi v15 v17
  let c2_i32 : BitVec 32 := 2#32
  let c0_i32_5 : BitVec 32 := 0#32
  let v19 : BitVec 1 := Scalar.cmpi .sgt c2_i32 c0_i32_5
  let v20 : BitVec 32 := Scalar.extui v19
  let c0_i32_6 : BitVec 32 := 0#32
  let v21 : BitVec 1 := Scalar.cmpi .slt c2_i32 c0_i32_6
  let v22 : BitVec 32 := Scalar.extui v21
  let v23 : BitVec 32 := Scalar.subi v20 v22
  let v24 : BitVec 1 := Scalar.cmpi .ne v18 v23
  let v25 : BitVec 32 := Scalar.remsi arg2 c2_i32
  let c0_i32_7 : BitVec 32 := 0#32
  let v26 : BitVec 1 := Scalar.cmpi .ne v25 c0_i32_7
  let v27 : BitVec 1 := Scalar.andi v24 v26
  let v13 : BitVec 32 := Scalar.divsi arg2 c2_i32
  let c1_i32 : BitVec 32 := 1#32
  let v28 : BitVec 32 := Scalar.subi v13 c1_i32
  let v29 : BitVec 32 := Scalar.select v27 v28 v13
  let v30 : BitVec 32 := Scalar.subi v29 c0_i32_8
  let c1_i32_9 : BitVec 32 := 1#32
  let v32 : BitVec 32 := Scalar.divsi v30 c1_i32_9
  let v33 : BitVec 32 := Scalar.muli v32 c1_i32_9
  let v34 : BitVec 32 := Scalar.addi c0_i32_8 v33
  let c1_i32_11 : BitVec 32 := 1#32
  let arg7 : BitVec 32 := Scf.iv v34 c1_i32_11 k0_t2
  let v374 : BitVec 32 := Scalar.muli c2_i32_111 arg7
  let c512_i32_112 : BitVec 32 := 512#32
  let v375 : BitVec 32 := Scalar.muli v374 c512_i32_112
  let v376 : BitVec 32 := v375
  let c256_i32_192 : BitVec 32 := 256#32
  let v583 : BitVec 32 := Scalar.addi v376 c256_i32_192
  v583
def k0_mult49 (i : grid0.Coords) (k0_t2 : Fin (k0_t2_loop i).trips) : BitVec 32 :=
  let c2_i32_111 : BitVec 32 := 2#32
  let c0_i32_8 : BitVec 32 := 0#32
  let arg2 : BitVec 32 := BitVec.ofNat 32 (i 2).val
  let c0_i32 : BitVec 32 := 0#32
  let v14 : BitVec 1 := Scalar.cmpi .sgt arg2 c0_i32
  let v15 : BitVec 32 := Scalar.extui v14
  let c0_i32_4 : BitVec 32 := 0#32
  let v16 : BitVec 1 := Scalar.cmpi .slt arg2 c0_i32_4
  let v17 : BitVec 32 := Scalar.extui v16
  let v18 : BitVec 32 := Scalar.subi v15 v17
  let c2_i32 : BitVec 32 := 2#32
  let c0_i32_5 : BitVec 32 := 0#32
  let v19 : BitVec 1 := Scalar.cmpi .sgt c2_i32 c0_i32_5
  let v20 : BitVec 32 := Scalar.extui v19
  let c0_i32_6 : BitVec 32 := 0#32
  let v21 : BitVec 1 := Scalar.cmpi .slt c2_i32 c0_i32_6
  let v22 : BitVec 32 := Scalar.extui v21
  let v23 : BitVec 32 := Scalar.subi v20 v22
  let v24 : BitVec 1 := Scalar.cmpi .ne v18 v23
  let v25 : BitVec 32 := Scalar.remsi arg2 c2_i32
  let c0_i32_7 : BitVec 32 := 0#32
  let v26 : BitVec 1 := Scalar.cmpi .ne v25 c0_i32_7
  let v27 : BitVec 1 := Scalar.andi v24 v26
  let v13 : BitVec 32 := Scalar.divsi arg2 c2_i32
  let c1_i32 : BitVec 32 := 1#32
  let v28 : BitVec 32 := Scalar.subi v13 c1_i32
  let v29 : BitVec 32 := Scalar.select v27 v28 v13
  let v30 : BitVec 32 := Scalar.subi v29 c0_i32_8
  let c1_i32_9 : BitVec 32 := 1#32
  let v32 : BitVec 32 := Scalar.divsi v30 c1_i32_9
  let v33 : BitVec 32 := Scalar.muli v32 c1_i32_9
  let v34 : BitVec 32 := Scalar.addi c0_i32_8 v33
  let c1_i32_11 : BitVec 32 := 1#32
  let arg7 : BitVec 32 := Scf.iv v34 c1_i32_11 k0_t2
  let v374 : BitVec 32 := Scalar.muli c2_i32_111 arg7
  let c512_i32_112 : BitVec 32 := 512#32
  let v375 : BitVec 32 := Scalar.muli v374 c512_i32_112
  let v376 : BitVec 32 := v375
  let c512_i32_197 : BitVec 32 := 512#32
  let v596 : BitVec 32 := Scalar.addi v376 c512_i32_197
  v596
def k0_mult50 (i : grid0.Coords) (k0_t2 : Fin (k0_t2_loop i).trips) : BitVec 32 :=
  let c2_i32_111 : BitVec 32 := 2#32
  let c0_i32_8 : BitVec 32 := 0#32
  let arg2 : BitVec 32 := BitVec.ofNat 32 (i 2).val
  let c0_i32 : BitVec 32 := 0#32
  let v14 : BitVec 1 := Scalar.cmpi .sgt arg2 c0_i32
  let v15 : BitVec 32 := Scalar.extui v14
  let c0_i32_4 : BitVec 32 := 0#32
  let v16 : BitVec 1 := Scalar.cmpi .slt arg2 c0_i32_4
  let v17 : BitVec 32 := Scalar.extui v16
  let v18 : BitVec 32 := Scalar.subi v15 v17
  let c2_i32 : BitVec 32 := 2#32
  let c0_i32_5 : BitVec 32 := 0#32
  let v19 : BitVec 1 := Scalar.cmpi .sgt c2_i32 c0_i32_5
  let v20 : BitVec 32 := Scalar.extui v19
  let c0_i32_6 : BitVec 32 := 0#32
  let v21 : BitVec 1 := Scalar.cmpi .slt c2_i32 c0_i32_6
  let v22 : BitVec 32 := Scalar.extui v21
  let v23 : BitVec 32 := Scalar.subi v20 v22
  let v24 : BitVec 1 := Scalar.cmpi .ne v18 v23
  let v25 : BitVec 32 := Scalar.remsi arg2 c2_i32
  let c0_i32_7 : BitVec 32 := 0#32
  let v26 : BitVec 1 := Scalar.cmpi .ne v25 c0_i32_7
  let v27 : BitVec 1 := Scalar.andi v24 v26
  let v13 : BitVec 32 := Scalar.divsi arg2 c2_i32
  let c1_i32 : BitVec 32 := 1#32
  let v28 : BitVec 32 := Scalar.subi v13 c1_i32
  let v29 : BitVec 32 := Scalar.select v27 v28 v13
  let v30 : BitVec 32 := Scalar.subi v29 c0_i32_8
  let c1_i32_9 : BitVec 32 := 1#32
  let v32 : BitVec 32 := Scalar.divsi v30 c1_i32_9
  let v33 : BitVec 32 := Scalar.muli v32 c1_i32_9
  let v34 : BitVec 32 := Scalar.addi c0_i32_8 v33
  let c1_i32_11 : BitVec 32 := 1#32
  let arg7 : BitVec 32 := Scf.iv v34 c1_i32_11 k0_t2
  let v374 : BitVec 32 := Scalar.muli c2_i32_111 arg7
  let c512_i32_112 : BitVec 32 := 512#32
  let v375 : BitVec 32 := Scalar.muli v374 c512_i32_112
  let v376 : BitVec 32 := v375
  let c768_i32_202 : BitVec 32 := 768#32
  let v609 : BitVec 32 := Scalar.addi v376 c768_i32_202
  v609
def k0_mult51 (i : grid0.Coords) (k0_t2 : Fin (k0_t2_loop i).trips) : BitVec 32 :=
  let c2_i32_111 : BitVec 32 := 2#32
  let c0_i32_8 : BitVec 32 := 0#32
  let arg2 : BitVec 32 := BitVec.ofNat 32 (i 2).val
  let c0_i32 : BitVec 32 := 0#32
  let v14 : BitVec 1 := Scalar.cmpi .sgt arg2 c0_i32
  let v15 : BitVec 32 := Scalar.extui v14
  let c0_i32_4 : BitVec 32 := 0#32
  let v16 : BitVec 1 := Scalar.cmpi .slt arg2 c0_i32_4
  let v17 : BitVec 32 := Scalar.extui v16
  let v18 : BitVec 32 := Scalar.subi v15 v17
  let c2_i32 : BitVec 32 := 2#32
  let c0_i32_5 : BitVec 32 := 0#32
  let v19 : BitVec 1 := Scalar.cmpi .sgt c2_i32 c0_i32_5
  let v20 : BitVec 32 := Scalar.extui v19
  let c0_i32_6 : BitVec 32 := 0#32
  let v21 : BitVec 1 := Scalar.cmpi .slt c2_i32 c0_i32_6
  let v22 : BitVec 32 := Scalar.extui v21
  let v23 : BitVec 32 := Scalar.subi v20 v22
  let v24 : BitVec 1 := Scalar.cmpi .ne v18 v23
  let v25 : BitVec 32 := Scalar.remsi arg2 c2_i32
  let c0_i32_7 : BitVec 32 := 0#32
  let v26 : BitVec 1 := Scalar.cmpi .ne v25 c0_i32_7
  let v27 : BitVec 1 := Scalar.andi v24 v26
  let v13 : BitVec 32 := Scalar.divsi arg2 c2_i32
  let c1_i32 : BitVec 32 := 1#32
  let v28 : BitVec 32 := Scalar.subi v13 c1_i32
  let v29 : BitVec 32 := Scalar.select v27 v28 v13
  let v30 : BitVec 32 := Scalar.subi v29 c0_i32_8
  let c1_i32_9 : BitVec 32 := 1#32
  let v32 : BitVec 32 := Scalar.divsi v30 c1_i32_9
  let v33 : BitVec 32 := Scalar.muli v32 c1_i32_9
  let v34 : BitVec 32 := Scalar.addi c0_i32_8 v33
  let c1_i32_11 : BitVec 32 := 1#32
  let arg7 : BitVec 32 := Scf.iv v34 c1_i32_11 k0_t2
  let v374 : BitVec 32 := Scalar.muli c2_i32_111 arg7
  let c512_i32_112 : BitVec 32 := 512#32
  let v375 : BitVec 32 := Scalar.muli v374 c512_i32_112
  let v376 : BitVec 32 := v375
  let c0_i32_207 : BitVec 32 := 0#32
  let v622 : BitVec 32 := Scalar.addi v376 c0_i32_207
  v622
def k0_off29 (i : grid0.Coords) (k0_t2 : Fin (k0_t2_loop i).trips) (c0_i32_207 : BitVec 32) : Fin 3 → Nat :=
  let c0_208 : Index := 0#32
  let c256_209 : Index := 256#32
  let c2_i32_111 : BitVec 32 := 2#32
  let c0_i32_8 : BitVec 32 := 0#32
  let arg2 : BitVec 32 := BitVec.ofNat 32 (i 2).val
  let c0_i32 : BitVec 32 := 0#32
  let v14 : BitVec 1 := Scalar.cmpi .sgt arg2 c0_i32
  let v15 : BitVec 32 := Scalar.extui v14
  let c0_i32_4 : BitVec 32 := 0#32
  let v16 : BitVec 1 := Scalar.cmpi .slt arg2 c0_i32_4
  let v17 : BitVec 32 := Scalar.extui v16
  let v18 : BitVec 32 := Scalar.subi v15 v17
  let c2_i32 : BitVec 32 := 2#32
  let c0_i32_5 : BitVec 32 := 0#32
  let v19 : BitVec 1 := Scalar.cmpi .sgt c2_i32 c0_i32_5
  let v20 : BitVec 32 := Scalar.extui v19
  let c0_i32_6 : BitVec 32 := 0#32
  let v21 : BitVec 1 := Scalar.cmpi .slt c2_i32 c0_i32_6
  let v22 : BitVec 32 := Scalar.extui v21
  let v23 : BitVec 32 := Scalar.subi v20 v22
  let v24 : BitVec 1 := Scalar.cmpi .ne v18 v23
  let v25 : BitVec 32 := Scalar.remsi arg2 c2_i32
  let c0_i32_7 : BitVec 32 := 0#32
  let v26 : BitVec 1 := Scalar.cmpi .ne v25 c0_i32_7
  let v27 : BitVec 1 := Scalar.andi v24 v26
  let v13 : BitVec 32 := Scalar.divsi arg2 c2_i32
  let c1_i32 : BitVec 32 := 1#32
  let v28 : BitVec 32 := Scalar.subi v13 c1_i32
  let v29 : BitVec 32 := Scalar.select v27 v28 v13
  let v30 : BitVec 32 := Scalar.subi v29 c0_i32_8
  let c1_i32_9 : BitVec 32 := 1#32
  let v32 : BitVec 32 := Scalar.divsi v30 c1_i32_9
  let v33 : BitVec 32 := Scalar.muli v32 c1_i32_9
  let v34 : BitVec 32 := Scalar.addi c0_i32_8 v33
  let c1_i32_11 : BitVec 32 := 1#32
  let arg7 : BitVec 32 := Scf.iv v34 c1_i32_11 k0_t2
  let v374 : BitVec 32 := Scalar.muli c2_i32_111 arg7
  let c512_i32_112 : BitVec 32 := 512#32
  let v375 : BitVec 32 := Scalar.muli v374 c512_i32_112
  let v376 : BitVec 32 := v375
  let v622 : BitVec 32 := Scalar.addi v376 c0_i32_207
  let v623 : BitVec 32 := v622
  let v624 : Index := Scalar.indexCast v623
  ![0, 256, v624.toNat]
def k0_mult52 (i : grid0.Coords) (k0_t2 : Fin (k0_t2_loop i).trips) : BitVec 32 :=
  let c2_i32_111 : BitVec 32 := 2#32
  let c0_i32_8 : BitVec 32 := 0#32
  let arg2 : BitVec 32 := BitVec.ofNat 32 (i 2).val
  let c0_i32 : BitVec 32 := 0#32
  let v14 : BitVec 1 := Scalar.cmpi .sgt arg2 c0_i32
  let v15 : BitVec 32 := Scalar.extui v14
  let c0_i32_4 : BitVec 32 := 0#32
  let v16 : BitVec 1 := Scalar.cmpi .slt arg2 c0_i32_4
  let v17 : BitVec 32 := Scalar.extui v16
  let v18 : BitVec 32 := Scalar.subi v15 v17
  let c2_i32 : BitVec 32 := 2#32
  let c0_i32_5 : BitVec 32 := 0#32
  let v19 : BitVec 1 := Scalar.cmpi .sgt c2_i32 c0_i32_5
  let v20 : BitVec 32 := Scalar.extui v19
  let c0_i32_6 : BitVec 32 := 0#32
  let v21 : BitVec 1 := Scalar.cmpi .slt c2_i32 c0_i32_6
  let v22 : BitVec 32 := Scalar.extui v21
  let v23 : BitVec 32 := Scalar.subi v20 v22
  let v24 : BitVec 1 := Scalar.cmpi .ne v18 v23
  let v25 : BitVec 32 := Scalar.remsi arg2 c2_i32
  let c0_i32_7 : BitVec 32 := 0#32
  let v26 : BitVec 1 := Scalar.cmpi .ne v25 c0_i32_7
  let v27 : BitVec 1 := Scalar.andi v24 v26
  let v13 : BitVec 32 := Scalar.divsi arg2 c2_i32
  let c1_i32 : BitVec 32 := 1#32
  let v28 : BitVec 32 := Scalar.subi v13 c1_i32
  let v29 : BitVec 32 := Scalar.select v27 v28 v13
  let v30 : BitVec 32 := Scalar.subi v29 c0_i32_8
  let c1_i32_9 : BitVec 32 := 1#32
  let v32 : BitVec 32 := Scalar.divsi v30 c1_i32_9
  let v33 : BitVec 32 := Scalar.muli v32 c1_i32_9
  let v34 : BitVec 32 := Scalar.addi c0_i32_8 v33
  let c1_i32_11 : BitVec 32 := 1#32
  let arg7 : BitVec 32 := Scf.iv v34 c1_i32_11 k0_t2
  let v374 : BitVec 32 := Scalar.muli c2_i32_111 arg7
  let c512_i32_112 : BitVec 32 := 512#32
  let v375 : BitVec 32 := Scalar.muli v374 c512_i32_112
  let v376 : BitVec 32 := v375
  let c256_i32_212 : BitVec 32 := 256#32
  let v635 : BitVec 32 := Scalar.addi v376 c256_i32_212
  v635
def k0_mult53 (i : grid0.Coords) (k0_t2 : Fin (k0_t2_loop i).trips) : BitVec 32 :=
  let c2_i32_111 : BitVec 32 := 2#32
  let c0_i32_8 : BitVec 32 := 0#32
  let arg2 : BitVec 32 := BitVec.ofNat 32 (i 2).val
  let c0_i32 : BitVec 32 := 0#32
  let v14 : BitVec 1 := Scalar.cmpi .sgt arg2 c0_i32
  let v15 : BitVec 32 := Scalar.extui v14
  let c0_i32_4 : BitVec 32 := 0#32
  let v16 : BitVec 1 := Scalar.cmpi .slt arg2 c0_i32_4
  let v17 : BitVec 32 := Scalar.extui v16
  let v18 : BitVec 32 := Scalar.subi v15 v17
  let c2_i32 : BitVec 32 := 2#32
  let c0_i32_5 : BitVec 32 := 0#32
  let v19 : BitVec 1 := Scalar.cmpi .sgt c2_i32 c0_i32_5
  let v20 : BitVec 32 := Scalar.extui v19
  let c0_i32_6 : BitVec 32 := 0#32
  let v21 : BitVec 1 := Scalar.cmpi .slt c2_i32 c0_i32_6
  let v22 : BitVec 32 := Scalar.extui v21
  let v23 : BitVec 32 := Scalar.subi v20 v22
  let v24 : BitVec 1 := Scalar.cmpi .ne v18 v23
  let v25 : BitVec 32 := Scalar.remsi arg2 c2_i32
  let c0_i32_7 : BitVec 32 := 0#32
  let v26 : BitVec 1 := Scalar.cmpi .ne v25 c0_i32_7
  let v27 : BitVec 1 := Scalar.andi v24 v26
  let v13 : BitVec 32 := Scalar.divsi arg2 c2_i32
  let c1_i32 : BitVec 32 := 1#32
  let v28 : BitVec 32 := Scalar.subi v13 c1_i32
  let v29 : BitVec 32 := Scalar.select v27 v28 v13
  let v30 : BitVec 32 := Scalar.subi v29 c0_i32_8
  let c1_i32_9 : BitVec 32 := 1#32
  let v32 : BitVec 32 := Scalar.divsi v30 c1_i32_9
  let v33 : BitVec 32 := Scalar.muli v32 c1_i32_9
  let v34 : BitVec 32 := Scalar.addi c0_i32_8 v33
  let c1_i32_11 : BitVec 32 := 1#32
  let arg7 : BitVec 32 := Scf.iv v34 c1_i32_11 k0_t2
  let v374 : BitVec 32 := Scalar.muli c2_i32_111 arg7
  let c512_i32_112 : BitVec 32 := 512#32
  let v375 : BitVec 32 := Scalar.muli v374 c512_i32_112
  let v376 : BitVec 32 := v375
  let c512_i32_217 : BitVec 32 := 512#32
  let v648 : BitVec 32 := Scalar.addi v376 c512_i32_217
  v648
def k0_mult54 (i : grid0.Coords) (k0_t2 : Fin (k0_t2_loop i).trips) : BitVec 32 :=
  let c2_i32_111 : BitVec 32 := 2#32
  let c0_i32_8 : BitVec 32 := 0#32
  let arg2 : BitVec 32 := BitVec.ofNat 32 (i 2).val
  let c0_i32 : BitVec 32 := 0#32
  let v14 : BitVec 1 := Scalar.cmpi .sgt arg2 c0_i32
  let v15 : BitVec 32 := Scalar.extui v14
  let c0_i32_4 : BitVec 32 := 0#32
  let v16 : BitVec 1 := Scalar.cmpi .slt arg2 c0_i32_4
  let v17 : BitVec 32 := Scalar.extui v16
  let v18 : BitVec 32 := Scalar.subi v15 v17
  let c2_i32 : BitVec 32 := 2#32
  let c0_i32_5 : BitVec 32 := 0#32
  let v19 : BitVec 1 := Scalar.cmpi .sgt c2_i32 c0_i32_5
  let v20 : BitVec 32 := Scalar.extui v19
  let c0_i32_6 : BitVec 32 := 0#32
  let v21 : BitVec 1 := Scalar.cmpi .slt c2_i32 c0_i32_6
  let v22 : BitVec 32 := Scalar.extui v21
  let v23 : BitVec 32 := Scalar.subi v20 v22
  let v24 : BitVec 1 := Scalar.cmpi .ne v18 v23
  let v25 : BitVec 32 := Scalar.remsi arg2 c2_i32
  let c0_i32_7 : BitVec 32 := 0#32
  let v26 : BitVec 1 := Scalar.cmpi .ne v25 c0_i32_7
  let v27 : BitVec 1 := Scalar.andi v24 v26
  let v13 : BitVec 32 := Scalar.divsi arg2 c2_i32
  let c1_i32 : BitVec 32 := 1#32
  let v28 : BitVec 32 := Scalar.subi v13 c1_i32
  let v29 : BitVec 32 := Scalar.select v27 v28 v13
  let v30 : BitVec 32 := Scalar.subi v29 c0_i32_8
  let c1_i32_9 : BitVec 32 := 1#32
  let v32 : BitVec 32 := Scalar.divsi v30 c1_i32_9
  let v33 : BitVec 32 := Scalar.muli v32 c1_i32_9
  let v34 : BitVec 32 := Scalar.addi c0_i32_8 v33
  let c1_i32_11 : BitVec 32 := 1#32
  let arg7 : BitVec 32 := Scf.iv v34 c1_i32_11 k0_t2
  let v374 : BitVec 32 := Scalar.muli c2_i32_111 arg7
  let c512_i32_112 : BitVec 32 := 512#32
  let v375 : BitVec 32 := Scalar.muli v374 c512_i32_112
  let v376 : BitVec 32 := v375
  let c768_i32_222 : BitVec 32 := 768#32
  let v661 : BitVec 32 := Scalar.addi v376 c768_i32_222
  v661
def k0_mult55 (i : grid0.Coords) (k0_t2 : Fin (k0_t2_loop i).trips) : BitVec 32 :=
  let c2_i32_111 : BitVec 32 := 2#32
  let c0_i32_8 : BitVec 32 := 0#32
  let arg2 : BitVec 32 := BitVec.ofNat 32 (i 2).val
  let c0_i32 : BitVec 32 := 0#32
  let v14 : BitVec 1 := Scalar.cmpi .sgt arg2 c0_i32
  let v15 : BitVec 32 := Scalar.extui v14
  let c0_i32_4 : BitVec 32 := 0#32
  let v16 : BitVec 1 := Scalar.cmpi .slt arg2 c0_i32_4
  let v17 : BitVec 32 := Scalar.extui v16
  let v18 : BitVec 32 := Scalar.subi v15 v17
  let c2_i32 : BitVec 32 := 2#32
  let c0_i32_5 : BitVec 32 := 0#32
  let v19 : BitVec 1 := Scalar.cmpi .sgt c2_i32 c0_i32_5
  let v20 : BitVec 32 := Scalar.extui v19
  let c0_i32_6 : BitVec 32 := 0#32
  let v21 : BitVec 1 := Scalar.cmpi .slt c2_i32 c0_i32_6
  let v22 : BitVec 32 := Scalar.extui v21
  let v23 : BitVec 32 := Scalar.subi v20 v22
  let v24 : BitVec 1 := Scalar.cmpi .ne v18 v23
  let v25 : BitVec 32 := Scalar.remsi arg2 c2_i32
  let c0_i32_7 : BitVec 32 := 0#32
  let v26 : BitVec 1 := Scalar.cmpi .ne v25 c0_i32_7
  let v27 : BitVec 1 := Scalar.andi v24 v26
  let v13 : BitVec 32 := Scalar.divsi arg2 c2_i32
  let c1_i32 : BitVec 32 := 1#32
  let v28 : BitVec 32 := Scalar.subi v13 c1_i32
  let v29 : BitVec 32 := Scalar.select v27 v28 v13
  let v30 : BitVec 32 := Scalar.subi v29 c0_i32_8
  let c1_i32_9 : BitVec 32 := 1#32
  let v32 : BitVec 32 := Scalar.divsi v30 c1_i32_9
  let v33 : BitVec 32 := Scalar.muli v32 c1_i32_9
  let v34 : BitVec 32 := Scalar.addi c0_i32_8 v33
  let c1_i32_11 : BitVec 32 := 1#32
  let arg7 : BitVec 32 := Scf.iv v34 c1_i32_11 k0_t2
  let v374 : BitVec 32 := Scalar.muli c2_i32_111 arg7
  let c512_i32_112 : BitVec 32 := 512#32
  let v375 : BitVec 32 := Scalar.muli v374 c512_i32_112
  let v376 : BitVec 32 := v375
  let c0_i32_227 : BitVec 32 := 0#32
  let v674 : BitVec 32 := Scalar.addi v376 c0_i32_227
  v674
def k0_off30 (i : grid0.Coords) (k0_t2 : Fin (k0_t2_loop i).trips) (c0_i32_227 : BitVec 32) : Fin 3 → Nat :=
  let c0_228 : Index := 0#32
  let c320 : Index := 320#32
  let c2_i32_111 : BitVec 32 := 2#32
  let c0_i32_8 : BitVec 32 := 0#32
  let arg2 : BitVec 32 := BitVec.ofNat 32 (i 2).val
  let c0_i32 : BitVec 32 := 0#32
  let v14 : BitVec 1 := Scalar.cmpi .sgt arg2 c0_i32
  let v15 : BitVec 32 := Scalar.extui v14
  let c0_i32_4 : BitVec 32 := 0#32
  let v16 : BitVec 1 := Scalar.cmpi .slt arg2 c0_i32_4
  let v17 : BitVec 32 := Scalar.extui v16
  let v18 : BitVec 32 := Scalar.subi v15 v17
  let c2_i32 : BitVec 32 := 2#32
  let c0_i32_5 : BitVec 32 := 0#32
  let v19 : BitVec 1 := Scalar.cmpi .sgt c2_i32 c0_i32_5
  let v20 : BitVec 32 := Scalar.extui v19
  let c0_i32_6 : BitVec 32 := 0#32
  let v21 : BitVec 1 := Scalar.cmpi .slt c2_i32 c0_i32_6
  let v22 : BitVec 32 := Scalar.extui v21
  let v23 : BitVec 32 := Scalar.subi v20 v22
  let v24 : BitVec 1 := Scalar.cmpi .ne v18 v23
  let v25 : BitVec 32 := Scalar.remsi arg2 c2_i32
  let c0_i32_7 : BitVec 32 := 0#32
  let v26 : BitVec 1 := Scalar.cmpi .ne v25 c0_i32_7
  let v27 : BitVec 1 := Scalar.andi v24 v26
  let v13 : BitVec 32 := Scalar.divsi arg2 c2_i32
  let c1_i32 : BitVec 32 := 1#32
  let v28 : BitVec 32 := Scalar.subi v13 c1_i32
  let v29 : BitVec 32 := Scalar.select v27 v28 v13
  let v30 : BitVec 32 := Scalar.subi v29 c0_i32_8
  let c1_i32_9 : BitVec 32 := 1#32
  let v32 : BitVec 32 := Scalar.divsi v30 c1_i32_9
  let v33 : BitVec 32 := Scalar.muli v32 c1_i32_9
  let v34 : BitVec 32 := Scalar.addi c0_i32_8 v33
  let c1_i32_11 : BitVec 32 := 1#32
  let arg7 : BitVec 32 := Scf.iv v34 c1_i32_11 k0_t2
  let v374 : BitVec 32 := Scalar.muli c2_i32_111 arg7
  let c512_i32_112 : BitVec 32 := 512#32
  let v375 : BitVec 32 := Scalar.muli v374 c512_i32_112
  let v376 : BitVec 32 := v375
  let v674 : BitVec 32 := Scalar.addi v376 c0_i32_227
  let v675 : BitVec 32 := v674
  let v676 : Index := Scalar.indexCast v675
  ![0, 320, v676.toNat]
def k0_mult56 (i : grid0.Coords) (k0_t2 : Fin (k0_t2_loop i).trips) : BitVec 32 :=
  let c2_i32_111 : BitVec 32 := 2#32
  let c0_i32_8 : BitVec 32 := 0#32
  let arg2 : BitVec 32 := BitVec.ofNat 32 (i 2).val
  let c0_i32 : BitVec 32 := 0#32
  let v14 : BitVec 1 := Scalar.cmpi .sgt arg2 c0_i32
  let v15 : BitVec 32 := Scalar.extui v14
  let c0_i32_4 : BitVec 32 := 0#32
  let v16 : BitVec 1 := Scalar.cmpi .slt arg2 c0_i32_4
  let v17 : BitVec 32 := Scalar.extui v16
  let v18 : BitVec 32 := Scalar.subi v15 v17
  let c2_i32 : BitVec 32 := 2#32
  let c0_i32_5 : BitVec 32 := 0#32
  let v19 : BitVec 1 := Scalar.cmpi .sgt c2_i32 c0_i32_5
  let v20 : BitVec 32 := Scalar.extui v19
  let c0_i32_6 : BitVec 32 := 0#32
  let v21 : BitVec 1 := Scalar.cmpi .slt c2_i32 c0_i32_6
  let v22 : BitVec 32 := Scalar.extui v21
  let v23 : BitVec 32 := Scalar.subi v20 v22
  let v24 : BitVec 1 := Scalar.cmpi .ne v18 v23
  let v25 : BitVec 32 := Scalar.remsi arg2 c2_i32
  let c0_i32_7 : BitVec 32 := 0#32
  let v26 : BitVec 1 := Scalar.cmpi .ne v25 c0_i32_7
  let v27 : BitVec 1 := Scalar.andi v24 v26
  let v13 : BitVec 32 := Scalar.divsi arg2 c2_i32
  let c1_i32 : BitVec 32 := 1#32
  let v28 : BitVec 32 := Scalar.subi v13 c1_i32
  let v29 : BitVec 32 := Scalar.select v27 v28 v13
  let v30 : BitVec 32 := Scalar.subi v29 c0_i32_8
  let c1_i32_9 : BitVec 32 := 1#32
  let v32 : BitVec 32 := Scalar.divsi v30 c1_i32_9
  let v33 : BitVec 32 := Scalar.muli v32 c1_i32_9
  let v34 : BitVec 32 := Scalar.addi c0_i32_8 v33
  let c1_i32_11 : BitVec 32 := 1#32
  let arg7 : BitVec 32 := Scf.iv v34 c1_i32_11 k0_t2
  let v374 : BitVec 32 := Scalar.muli c2_i32_111 arg7
  let c512_i32_112 : BitVec 32 := 512#32
  let v375 : BitVec 32 := Scalar.muli v374 c512_i32_112
  let v376 : BitVec 32 := v375
  let c256_i32_231 : BitVec 32 := 256#32
  let v687 : BitVec 32 := Scalar.addi v376 c256_i32_231
  v687
def k0_mult57 (i : grid0.Coords) (k0_t2 : Fin (k0_t2_loop i).trips) : BitVec 32 :=
  let c2_i32_111 : BitVec 32 := 2#32
  let c0_i32_8 : BitVec 32 := 0#32
  let arg2 : BitVec 32 := BitVec.ofNat 32 (i 2).val
  let c0_i32 : BitVec 32 := 0#32
  let v14 : BitVec 1 := Scalar.cmpi .sgt arg2 c0_i32
  let v15 : BitVec 32 := Scalar.extui v14
  let c0_i32_4 : BitVec 32 := 0#32
  let v16 : BitVec 1 := Scalar.cmpi .slt arg2 c0_i32_4
  let v17 : BitVec 32 := Scalar.extui v16
  let v18 : BitVec 32 := Scalar.subi v15 v17
  let c2_i32 : BitVec 32 := 2#32
  let c0_i32_5 : BitVec 32 := 0#32
  let v19 : BitVec 1 := Scalar.cmpi .sgt c2_i32 c0_i32_5
  let v20 : BitVec 32 := Scalar.extui v19
  let c0_i32_6 : BitVec 32 := 0#32
  let v21 : BitVec 1 := Scalar.cmpi .slt c2_i32 c0_i32_6
  let v22 : BitVec 32 := Scalar.extui v21
  let v23 : BitVec 32 := Scalar.subi v20 v22
  let v24 : BitVec 1 := Scalar.cmpi .ne v18 v23
  let v25 : BitVec 32 := Scalar.remsi arg2 c2_i32
  let c0_i32_7 : BitVec 32 := 0#32
  let v26 : BitVec 1 := Scalar.cmpi .ne v25 c0_i32_7
  let v27 : BitVec 1 := Scalar.andi v24 v26
  let v13 : BitVec 32 := Scalar.divsi arg2 c2_i32
  let c1_i32 : BitVec 32 := 1#32
  let v28 : BitVec 32 := Scalar.subi v13 c1_i32
  let v29 : BitVec 32 := Scalar.select v27 v28 v13
  let v30 : BitVec 32 := Scalar.subi v29 c0_i32_8
  let c1_i32_9 : BitVec 32 := 1#32
  let v32 : BitVec 32 := Scalar.divsi v30 c1_i32_9
  let v33 : BitVec 32 := Scalar.muli v32 c1_i32_9
  let v34 : BitVec 32 := Scalar.addi c0_i32_8 v33
  let c1_i32_11 : BitVec 32 := 1#32
  let arg7 : BitVec 32 := Scf.iv v34 c1_i32_11 k0_t2
  let v374 : BitVec 32 := Scalar.muli c2_i32_111 arg7
  let c512_i32_112 : BitVec 32 := 512#32
  let v375 : BitVec 32 := Scalar.muli v374 c512_i32_112
  let v376 : BitVec 32 := v375
  let c512_i32_236 : BitVec 32 := 512#32
  let v700 : BitVec 32 := Scalar.addi v376 c512_i32_236
  v700
def k0_mult58 (i : grid0.Coords) (k0_t2 : Fin (k0_t2_loop i).trips) : BitVec 32 :=
  let c2_i32_111 : BitVec 32 := 2#32
  let c0_i32_8 : BitVec 32 := 0#32
  let arg2 : BitVec 32 := BitVec.ofNat 32 (i 2).val
  let c0_i32 : BitVec 32 := 0#32
  let v14 : BitVec 1 := Scalar.cmpi .sgt arg2 c0_i32
  let v15 : BitVec 32 := Scalar.extui v14
  let c0_i32_4 : BitVec 32 := 0#32
  let v16 : BitVec 1 := Scalar.cmpi .slt arg2 c0_i32_4
  let v17 : BitVec 32 := Scalar.extui v16
  let v18 : BitVec 32 := Scalar.subi v15 v17
  let c2_i32 : BitVec 32 := 2#32
  let c0_i32_5 : BitVec 32 := 0#32
  let v19 : BitVec 1 := Scalar.cmpi .sgt c2_i32 c0_i32_5
  let v20 : BitVec 32 := Scalar.extui v19
  let c0_i32_6 : BitVec 32 := 0#32
  let v21 : BitVec 1 := Scalar.cmpi .slt c2_i32 c0_i32_6
  let v22 : BitVec 32 := Scalar.extui v21
  let v23 : BitVec 32 := Scalar.subi v20 v22
  let v24 : BitVec 1 := Scalar.cmpi .ne v18 v23
  let v25 : BitVec 32 := Scalar.remsi arg2 c2_i32
  let c0_i32_7 : BitVec 32 := 0#32
  let v26 : BitVec 1 := Scalar.cmpi .ne v25 c0_i32_7
  let v27 : BitVec 1 := Scalar.andi v24 v26
  let v13 : BitVec 32 := Scalar.divsi arg2 c2_i32
  let c1_i32 : BitVec 32 := 1#32
  let v28 : BitVec 32 := Scalar.subi v13 c1_i32
  let v29 : BitVec 32 := Scalar.select v27 v28 v13
  let v30 : BitVec 32 := Scalar.subi v29 c0_i32_8
  let c1_i32_9 : BitVec 32 := 1#32
  let v32 : BitVec 32 := Scalar.divsi v30 c1_i32_9
  let v33 : BitVec 32 := Scalar.muli v32 c1_i32_9
  let v34 : BitVec 32 := Scalar.addi c0_i32_8 v33
  let c1_i32_11 : BitVec 32 := 1#32
  let arg7 : BitVec 32 := Scf.iv v34 c1_i32_11 k0_t2
  let v374 : BitVec 32 := Scalar.muli c2_i32_111 arg7
  let c512_i32_112 : BitVec 32 := 512#32
  let v375 : BitVec 32 := Scalar.muli v374 c512_i32_112
  let v376 : BitVec 32 := v375
  let c768_i32_241 : BitVec 32 := 768#32
  let v713 : BitVec 32 := Scalar.addi v376 c768_i32_241
  v713
def k0_mult59 (i : grid0.Coords) (k0_t2 : Fin (k0_t2_loop i).trips) : BitVec 32 :=
  let c2_i32_111 : BitVec 32 := 2#32
  let c0_i32_8 : BitVec 32 := 0#32
  let arg2 : BitVec 32 := BitVec.ofNat 32 (i 2).val
  let c0_i32 : BitVec 32 := 0#32
  let v14 : BitVec 1 := Scalar.cmpi .sgt arg2 c0_i32
  let v15 : BitVec 32 := Scalar.extui v14
  let c0_i32_4 : BitVec 32 := 0#32
  let v16 : BitVec 1 := Scalar.cmpi .slt arg2 c0_i32_4
  let v17 : BitVec 32 := Scalar.extui v16
  let v18 : BitVec 32 := Scalar.subi v15 v17
  let c2_i32 : BitVec 32 := 2#32
  let c0_i32_5 : BitVec 32 := 0#32
  let v19 : BitVec 1 := Scalar.cmpi .sgt c2_i32 c0_i32_5
  let v20 : BitVec 32 := Scalar.extui v19
  let c0_i32_6 : BitVec 32 := 0#32
  let v21 : BitVec 1 := Scalar.cmpi .slt c2_i32 c0_i32_6
  let v22 : BitVec 32 := Scalar.extui v21
  let v23 : BitVec 32 := Scalar.subi v20 v22
  let v24 : BitVec 1 := Scalar.cmpi .ne v18 v23
  let v25 : BitVec 32 := Scalar.remsi arg2 c2_i32
  let c0_i32_7 : BitVec 32 := 0#32
  let v26 : BitVec 1 := Scalar.cmpi .ne v25 c0_i32_7
  let v27 : BitVec 1 := Scalar.andi v24 v26
  let v13 : BitVec 32 := Scalar.divsi arg2 c2_i32
  let c1_i32 : BitVec 32 := 1#32
  let v28 : BitVec 32 := Scalar.subi v13 c1_i32
  let v29 : BitVec 32 := Scalar.select v27 v28 v13
  let v30 : BitVec 32 := Scalar.subi v29 c0_i32_8
  let c1_i32_9 : BitVec 32 := 1#32
  let v32 : BitVec 32 := Scalar.divsi v30 c1_i32_9
  let v33 : BitVec 32 := Scalar.muli v32 c1_i32_9
  let v34 : BitVec 32 := Scalar.addi c0_i32_8 v33
  let c1_i32_11 : BitVec 32 := 1#32
  let arg7 : BitVec 32 := Scf.iv v34 c1_i32_11 k0_t2
  let v374 : BitVec 32 := Scalar.muli c2_i32_111 arg7
  let c512_i32_112 : BitVec 32 := 512#32
  let v375 : BitVec 32 := Scalar.muli v374 c512_i32_112
  let v376 : BitVec 32 := v375
  let c0_i32_246 : BitVec 32 := 0#32
  let v726 : BitVec 32 := Scalar.addi v376 c0_i32_246
  v726
def k0_off31 (i : grid0.Coords) (k0_t2 : Fin (k0_t2_loop i).trips) (c0_i32_246 : BitVec 32) : Fin 3 → Nat :=
  let c0_247 : Index := 0#32
  let c384_248 : Index := 384#32
  let c2_i32_111 : BitVec 32 := 2#32
  let c0_i32_8 : BitVec 32 := 0#32
  let arg2 : BitVec 32 := BitVec.ofNat 32 (i 2).val
  let c0_i32 : BitVec 32 := 0#32
  let v14 : BitVec 1 := Scalar.cmpi .sgt arg2 c0_i32
  let v15 : BitVec 32 := Scalar.extui v14
  let c0_i32_4 : BitVec 32 := 0#32
  let v16 : BitVec 1 := Scalar.cmpi .slt arg2 c0_i32_4
  let v17 : BitVec 32 := Scalar.extui v16
  let v18 : BitVec 32 := Scalar.subi v15 v17
  let c2_i32 : BitVec 32 := 2#32
  let c0_i32_5 : BitVec 32 := 0#32
  let v19 : BitVec 1 := Scalar.cmpi .sgt c2_i32 c0_i32_5
  let v20 : BitVec 32 := Scalar.extui v19
  let c0_i32_6 : BitVec 32 := 0#32
  let v21 : BitVec 1 := Scalar.cmpi .slt c2_i32 c0_i32_6
  let v22 : BitVec 32 := Scalar.extui v21
  let v23 : BitVec 32 := Scalar.subi v20 v22
  let v24 : BitVec 1 := Scalar.cmpi .ne v18 v23
  let v25 : BitVec 32 := Scalar.remsi arg2 c2_i32
  let c0_i32_7 : BitVec 32 := 0#32
  let v26 : BitVec 1 := Scalar.cmpi .ne v25 c0_i32_7
  let v27 : BitVec 1 := Scalar.andi v24 v26
  let v13 : BitVec 32 := Scalar.divsi arg2 c2_i32
  let c1_i32 : BitVec 32 := 1#32
  let v28 : BitVec 32 := Scalar.subi v13 c1_i32
  let v29 : BitVec 32 := Scalar.select v27 v28 v13
  let v30 : BitVec 32 := Scalar.subi v29 c0_i32_8
  let c1_i32_9 : BitVec 32 := 1#32
  let v32 : BitVec 32 := Scalar.divsi v30 c1_i32_9
  let v33 : BitVec 32 := Scalar.muli v32 c1_i32_9
  let v34 : BitVec 32 := Scalar.addi c0_i32_8 v33
  let c1_i32_11 : BitVec 32 := 1#32
  let arg7 : BitVec 32 := Scf.iv v34 c1_i32_11 k0_t2
  let v374 : BitVec 32 := Scalar.muli c2_i32_111 arg7
  let c512_i32_112 : BitVec 32 := 512#32
  let v375 : BitVec 32 := Scalar.muli v374 c512_i32_112
  let v376 : BitVec 32 := v375
  let v726 : BitVec 32 := Scalar.addi v376 c0_i32_246
  let v727 : BitVec 32 := v726
  let v728 : Index := Scalar.indexCast v727
  ![0, 384, v728.toNat]
def k0_mult60 (i : grid0.Coords) (k0_t2 : Fin (k0_t2_loop i).trips) : BitVec 32 :=
  let c2_i32_111 : BitVec 32 := 2#32
  let c0_i32_8 : BitVec 32 := 0#32
  let arg2 : BitVec 32 := BitVec.ofNat 32 (i 2).val
  let c0_i32 : BitVec 32 := 0#32
  let v14 : BitVec 1 := Scalar.cmpi .sgt arg2 c0_i32
  let v15 : BitVec 32 := Scalar.extui v14
  let c0_i32_4 : BitVec 32 := 0#32
  let v16 : BitVec 1 := Scalar.cmpi .slt arg2 c0_i32_4
  let v17 : BitVec 32 := Scalar.extui v16
  let v18 : BitVec 32 := Scalar.subi v15 v17
  let c2_i32 : BitVec 32 := 2#32
  let c0_i32_5 : BitVec 32 := 0#32
  let v19 : BitVec 1 := Scalar.cmpi .sgt c2_i32 c0_i32_5
  let v20 : BitVec 32 := Scalar.extui v19
  let c0_i32_6 : BitVec 32 := 0#32
  let v21 : BitVec 1 := Scalar.cmpi .slt c2_i32 c0_i32_6
  let v22 : BitVec 32 := Scalar.extui v21
  let v23 : BitVec 32 := Scalar.subi v20 v22
  let v24 : BitVec 1 := Scalar.cmpi .ne v18 v23
  let v25 : BitVec 32 := Scalar.remsi arg2 c2_i32
  let c0_i32_7 : BitVec 32 := 0#32
  let v26 : BitVec 1 := Scalar.cmpi .ne v25 c0_i32_7
  let v27 : BitVec 1 := Scalar.andi v24 v26
  let v13 : BitVec 32 := Scalar.divsi arg2 c2_i32
  let c1_i32 : BitVec 32 := 1#32
  let v28 : BitVec 32 := Scalar.subi v13 c1_i32
  let v29 : BitVec 32 := Scalar.select v27 v28 v13
  let v30 : BitVec 32 := Scalar.subi v29 c0_i32_8
  let c1_i32_9 : BitVec 32 := 1#32
  let v32 : BitVec 32 := Scalar.divsi v30 c1_i32_9
  let v33 : BitVec 32 := Scalar.muli v32 c1_i32_9
  let v34 : BitVec 32 := Scalar.addi c0_i32_8 v33
  let c1_i32_11 : BitVec 32 := 1#32
  let arg7 : BitVec 32 := Scf.iv v34 c1_i32_11 k0_t2
  let v374 : BitVec 32 := Scalar.muli c2_i32_111 arg7
  let c512_i32_112 : BitVec 32 := 512#32
  let v375 : BitVec 32 := Scalar.muli v374 c512_i32_112
  let v376 : BitVec 32 := v375
  let c256_i32_251 : BitVec 32 := 256#32
  let v739 : BitVec 32 := Scalar.addi v376 c256_i32_251
  v739
def k0_mult61 (i : grid0.Coords) (k0_t2 : Fin (k0_t2_loop i).trips) : BitVec 32 :=
  let c2_i32_111 : BitVec 32 := 2#32
  let c0_i32_8 : BitVec 32 := 0#32
  let arg2 : BitVec 32 := BitVec.ofNat 32 (i 2).val
  let c0_i32 : BitVec 32 := 0#32
  let v14 : BitVec 1 := Scalar.cmpi .sgt arg2 c0_i32
  let v15 : BitVec 32 := Scalar.extui v14
  let c0_i32_4 : BitVec 32 := 0#32
  let v16 : BitVec 1 := Scalar.cmpi .slt arg2 c0_i32_4
  let v17 : BitVec 32 := Scalar.extui v16
  let v18 : BitVec 32 := Scalar.subi v15 v17
  let c2_i32 : BitVec 32 := 2#32
  let c0_i32_5 : BitVec 32 := 0#32
  let v19 : BitVec 1 := Scalar.cmpi .sgt c2_i32 c0_i32_5
  let v20 : BitVec 32 := Scalar.extui v19
  let c0_i32_6 : BitVec 32 := 0#32
  let v21 : BitVec 1 := Scalar.cmpi .slt c2_i32 c0_i32_6
  let v22 : BitVec 32 := Scalar.extui v21
  let v23 : BitVec 32 := Scalar.subi v20 v22
  let v24 : BitVec 1 := Scalar.cmpi .ne v18 v23
  let v25 : BitVec 32 := Scalar.remsi arg2 c2_i32
  let c0_i32_7 : BitVec 32 := 0#32
  let v26 : BitVec 1 := Scalar.cmpi .ne v25 c0_i32_7
  let v27 : BitVec 1 := Scalar.andi v24 v26
  let v13 : BitVec 32 := Scalar.divsi arg2 c2_i32
  let c1_i32 : BitVec 32 := 1#32
  let v28 : BitVec 32 := Scalar.subi v13 c1_i32
  let v29 : BitVec 32 := Scalar.select v27 v28 v13
  let v30 : BitVec 32 := Scalar.subi v29 c0_i32_8
  let c1_i32_9 : BitVec 32 := 1#32
  let v32 : BitVec 32 := Scalar.divsi v30 c1_i32_9
  let v33 : BitVec 32 := Scalar.muli v32 c1_i32_9
  let v34 : BitVec 32 := Scalar.addi c0_i32_8 v33
  let c1_i32_11 : BitVec 32 := 1#32
  let arg7 : BitVec 32 := Scf.iv v34 c1_i32_11 k0_t2
  let v374 : BitVec 32 := Scalar.muli c2_i32_111 arg7
  let c512_i32_112 : BitVec 32 := 512#32
  let v375 : BitVec 32 := Scalar.muli v374 c512_i32_112
  let v376 : BitVec 32 := v375
  let c512_i32_256 : BitVec 32 := 512#32
  let v752 : BitVec 32 := Scalar.addi v376 c512_i32_256
  v752
def k0_mult62 (i : grid0.Coords) (k0_t2 : Fin (k0_t2_loop i).trips) : BitVec 32 :=
  let c2_i32_111 : BitVec 32 := 2#32
  let c0_i32_8 : BitVec 32 := 0#32
  let arg2 : BitVec 32 := BitVec.ofNat 32 (i 2).val
  let c0_i32 : BitVec 32 := 0#32
  let v14 : BitVec 1 := Scalar.cmpi .sgt arg2 c0_i32
  let v15 : BitVec 32 := Scalar.extui v14
  let c0_i32_4 : BitVec 32 := 0#32
  let v16 : BitVec 1 := Scalar.cmpi .slt arg2 c0_i32_4
  let v17 : BitVec 32 := Scalar.extui v16
  let v18 : BitVec 32 := Scalar.subi v15 v17
  let c2_i32 : BitVec 32 := 2#32
  let c0_i32_5 : BitVec 32 := 0#32
  let v19 : BitVec 1 := Scalar.cmpi .sgt c2_i32 c0_i32_5
  let v20 : BitVec 32 := Scalar.extui v19
  let c0_i32_6 : BitVec 32 := 0#32
  let v21 : BitVec 1 := Scalar.cmpi .slt c2_i32 c0_i32_6
  let v22 : BitVec 32 := Scalar.extui v21
  let v23 : BitVec 32 := Scalar.subi v20 v22
  let v24 : BitVec 1 := Scalar.cmpi .ne v18 v23
  let v25 : BitVec 32 := Scalar.remsi arg2 c2_i32
  let c0_i32_7 : BitVec 32 := 0#32
  let v26 : BitVec 1 := Scalar.cmpi .ne v25 c0_i32_7
  let v27 : BitVec 1 := Scalar.andi v24 v26
  let v13 : BitVec 32 := Scalar.divsi arg2 c2_i32
  let c1_i32 : BitVec 32 := 1#32
  let v28 : BitVec 32 := Scalar.subi v13 c1_i32
  let v29 : BitVec 32 := Scalar.select v27 v28 v13
  let v30 : BitVec 32 := Scalar.subi v29 c0_i32_8
  let c1_i32_9 : BitVec 32 := 1#32
  let v32 : BitVec 32 := Scalar.divsi v30 c1_i32_9
  let v33 : BitVec 32 := Scalar.muli v32 c1_i32_9
  let v34 : BitVec 32 := Scalar.addi c0_i32_8 v33
  let c1_i32_11 : BitVec 32 := 1#32
  let arg7 : BitVec 32 := Scf.iv v34 c1_i32_11 k0_t2
  let v374 : BitVec 32 := Scalar.muli c2_i32_111 arg7
  let c512_i32_112 : BitVec 32 := 512#32
  let v375 : BitVec 32 := Scalar.muli v374 c512_i32_112
  let v376 : BitVec 32 := v375
  let c768_i32_261 : BitVec 32 := 768#32
  let v765 : BitVec 32 := Scalar.addi v376 c768_i32_261
  v765
def k0_mult63 (i : grid0.Coords) (k0_t2 : Fin (k0_t2_loop i).trips) : BitVec 32 :=
  let c2_i32_111 : BitVec 32 := 2#32
  let c0_i32_8 : BitVec 32 := 0#32
  let arg2 : BitVec 32 := BitVec.ofNat 32 (i 2).val
  let c0_i32 : BitVec 32 := 0#32
  let v14 : BitVec 1 := Scalar.cmpi .sgt arg2 c0_i32
  let v15 : BitVec 32 := Scalar.extui v14
  let c0_i32_4 : BitVec 32 := 0#32
  let v16 : BitVec 1 := Scalar.cmpi .slt arg2 c0_i32_4
  let v17 : BitVec 32 := Scalar.extui v16
  let v18 : BitVec 32 := Scalar.subi v15 v17
  let c2_i32 : BitVec 32 := 2#32
  let c0_i32_5 : BitVec 32 := 0#32
  let v19 : BitVec 1 := Scalar.cmpi .sgt c2_i32 c0_i32_5
  let v20 : BitVec 32 := Scalar.extui v19
  let c0_i32_6 : BitVec 32 := 0#32
  let v21 : BitVec 1 := Scalar.cmpi .slt c2_i32 c0_i32_6
  let v22 : BitVec 32 := Scalar.extui v21
  let v23 : BitVec 32 := Scalar.subi v20 v22
  let v24 : BitVec 1 := Scalar.cmpi .ne v18 v23
  let v25 : BitVec 32 := Scalar.remsi arg2 c2_i32
  let c0_i32_7 : BitVec 32 := 0#32
  let v26 : BitVec 1 := Scalar.cmpi .ne v25 c0_i32_7
  let v27 : BitVec 1 := Scalar.andi v24 v26
  let v13 : BitVec 32 := Scalar.divsi arg2 c2_i32
  let c1_i32 : BitVec 32 := 1#32
  let v28 : BitVec 32 := Scalar.subi v13 c1_i32
  let v29 : BitVec 32 := Scalar.select v27 v28 v13
  let v30 : BitVec 32 := Scalar.subi v29 c0_i32_8
  let c1_i32_9 : BitVec 32 := 1#32
  let v32 : BitVec 32 := Scalar.divsi v30 c1_i32_9
  let v33 : BitVec 32 := Scalar.muli v32 c1_i32_9
  let v34 : BitVec 32 := Scalar.addi c0_i32_8 v33
  let c1_i32_11 : BitVec 32 := 1#32
  let arg7 : BitVec 32 := Scf.iv v34 c1_i32_11 k0_t2
  let v374 : BitVec 32 := Scalar.muli c2_i32_111 arg7
  let c512_i32_112 : BitVec 32 := 512#32
  let v375 : BitVec 32 := Scalar.muli v374 c512_i32_112
  let v376 : BitVec 32 := v375
  let c0_i32_266 : BitVec 32 := 0#32
  let v778 : BitVec 32 := Scalar.addi v376 c0_i32_266
  v778
def k0_off32 (i : grid0.Coords) (k0_t2 : Fin (k0_t2_loop i).trips) (c0_i32_266 : BitVec 32) : Fin 3 → Nat :=
  let c0_267 : Index := 0#32
  let c448 : Index := 448#32
  let c2_i32_111 : BitVec 32 := 2#32
  let c0_i32_8 : BitVec 32 := 0#32
  let arg2 : BitVec 32 := BitVec.ofNat 32 (i 2).val
  let c0_i32 : BitVec 32 := 0#32
  let v14 : BitVec 1 := Scalar.cmpi .sgt arg2 c0_i32
  let v15 : BitVec 32 := Scalar.extui v14
  let c0_i32_4 : BitVec 32 := 0#32
  let v16 : BitVec 1 := Scalar.cmpi .slt arg2 c0_i32_4
  let v17 : BitVec 32 := Scalar.extui v16
  let v18 : BitVec 32 := Scalar.subi v15 v17
  let c2_i32 : BitVec 32 := 2#32
  let c0_i32_5 : BitVec 32 := 0#32
  let v19 : BitVec 1 := Scalar.cmpi .sgt c2_i32 c0_i32_5
  let v20 : BitVec 32 := Scalar.extui v19
  let c0_i32_6 : BitVec 32 := 0#32
  let v21 : BitVec 1 := Scalar.cmpi .slt c2_i32 c0_i32_6
  let v22 : BitVec 32 := Scalar.extui v21
  let v23 : BitVec 32 := Scalar.subi v20 v22
  let v24 : BitVec 1 := Scalar.cmpi .ne v18 v23
  let v25 : BitVec 32 := Scalar.remsi arg2 c2_i32
  let c0_i32_7 : BitVec 32 := 0#32
  let v26 : BitVec 1 := Scalar.cmpi .ne v25 c0_i32_7
  let v27 : BitVec 1 := Scalar.andi v24 v26
  let v13 : BitVec 32 := Scalar.divsi arg2 c2_i32
  let c1_i32 : BitVec 32 := 1#32
  let v28 : BitVec 32 := Scalar.subi v13 c1_i32
  let v29 : BitVec 32 := Scalar.select v27 v28 v13
  let v30 : BitVec 32 := Scalar.subi v29 c0_i32_8
  let c1_i32_9 : BitVec 32 := 1#32
  let v32 : BitVec 32 := Scalar.divsi v30 c1_i32_9
  let v33 : BitVec 32 := Scalar.muli v32 c1_i32_9
  let v34 : BitVec 32 := Scalar.addi c0_i32_8 v33
  let c1_i32_11 : BitVec 32 := 1#32
  let arg7 : BitVec 32 := Scf.iv v34 c1_i32_11 k0_t2
  let v374 : BitVec 32 := Scalar.muli c2_i32_111 arg7
  let c512_i32_112 : BitVec 32 := 512#32
  let v375 : BitVec 32 := Scalar.muli v374 c512_i32_112
  let v376 : BitVec 32 := v375
  let v778 : BitVec 32 := Scalar.addi v376 c0_i32_266
  let v779 : BitVec 32 := v778
  let v780 : Index := Scalar.indexCast v779
  ![0, 448, v780.toNat]
def k0_mult64 (i : grid0.Coords) (k0_t2 : Fin (k0_t2_loop i).trips) : BitVec 32 :=
  let c2_i32_111 : BitVec 32 := 2#32
  let c0_i32_8 : BitVec 32 := 0#32
  let arg2 : BitVec 32 := BitVec.ofNat 32 (i 2).val
  let c0_i32 : BitVec 32 := 0#32
  let v14 : BitVec 1 := Scalar.cmpi .sgt arg2 c0_i32
  let v15 : BitVec 32 := Scalar.extui v14
  let c0_i32_4 : BitVec 32 := 0#32
  let v16 : BitVec 1 := Scalar.cmpi .slt arg2 c0_i32_4
  let v17 : BitVec 32 := Scalar.extui v16
  let v18 : BitVec 32 := Scalar.subi v15 v17
  let c2_i32 : BitVec 32 := 2#32
  let c0_i32_5 : BitVec 32 := 0#32
  let v19 : BitVec 1 := Scalar.cmpi .sgt c2_i32 c0_i32_5
  let v20 : BitVec 32 := Scalar.extui v19
  let c0_i32_6 : BitVec 32 := 0#32
  let v21 : BitVec 1 := Scalar.cmpi .slt c2_i32 c0_i32_6
  let v22 : BitVec 32 := Scalar.extui v21
  let v23 : BitVec 32 := Scalar.subi v20 v22
  let v24 : BitVec 1 := Scalar.cmpi .ne v18 v23
  let v25 : BitVec 32 := Scalar.remsi arg2 c2_i32
  let c0_i32_7 : BitVec 32 := 0#32
  let v26 : BitVec 1 := Scalar.cmpi .ne v25 c0_i32_7
  let v27 : BitVec 1 := Scalar.andi v24 v26
  let v13 : BitVec 32 := Scalar.divsi arg2 c2_i32
  let c1_i32 : BitVec 32 := 1#32
  let v28 : BitVec 32 := Scalar.subi v13 c1_i32
  let v29 : BitVec 32 := Scalar.select v27 v28 v13
  let v30 : BitVec 32 := Scalar.subi v29 c0_i32_8
  let c1_i32_9 : BitVec 32 := 1#32
  let v32 : BitVec 32 := Scalar.divsi v30 c1_i32_9
  let v33 : BitVec 32 := Scalar.muli v32 c1_i32_9
  let v34 : BitVec 32 := Scalar.addi c0_i32_8 v33
  let c1_i32_11 : BitVec 32 := 1#32
  let arg7 : BitVec 32 := Scf.iv v34 c1_i32_11 k0_t2
  let v374 : BitVec 32 := Scalar.muli c2_i32_111 arg7
  let c512_i32_112 : BitVec 32 := 512#32
  let v375 : BitVec 32 := Scalar.muli v374 c512_i32_112
  let v376 : BitVec 32 := v375
  let c256_i32_270 : BitVec 32 := 256#32
  let v791 : BitVec 32 := Scalar.addi v376 c256_i32_270
  v791
def k0_mult65 (i : grid0.Coords) (k0_t2 : Fin (k0_t2_loop i).trips) : BitVec 32 :=
  let c2_i32_111 : BitVec 32 := 2#32
  let c0_i32_8 : BitVec 32 := 0#32
  let arg2 : BitVec 32 := BitVec.ofNat 32 (i 2).val
  let c0_i32 : BitVec 32 := 0#32
  let v14 : BitVec 1 := Scalar.cmpi .sgt arg2 c0_i32
  let v15 : BitVec 32 := Scalar.extui v14
  let c0_i32_4 : BitVec 32 := 0#32
  let v16 : BitVec 1 := Scalar.cmpi .slt arg2 c0_i32_4
  let v17 : BitVec 32 := Scalar.extui v16
  let v18 : BitVec 32 := Scalar.subi v15 v17
  let c2_i32 : BitVec 32 := 2#32
  let c0_i32_5 : BitVec 32 := 0#32
  let v19 : BitVec 1 := Scalar.cmpi .sgt c2_i32 c0_i32_5
  let v20 : BitVec 32 := Scalar.extui v19
  let c0_i32_6 : BitVec 32 := 0#32
  let v21 : BitVec 1 := Scalar.cmpi .slt c2_i32 c0_i32_6
  let v22 : BitVec 32 := Scalar.extui v21
  let v23 : BitVec 32 := Scalar.subi v20 v22
  let v24 : BitVec 1 := Scalar.cmpi .ne v18 v23
  let v25 : BitVec 32 := Scalar.remsi arg2 c2_i32
  let c0_i32_7 : BitVec 32 := 0#32
  let v26 : BitVec 1 := Scalar.cmpi .ne v25 c0_i32_7
  let v27 : BitVec 1 := Scalar.andi v24 v26
  let v13 : BitVec 32 := Scalar.divsi arg2 c2_i32
  let c1_i32 : BitVec 32 := 1#32
  let v28 : BitVec 32 := Scalar.subi v13 c1_i32
  let v29 : BitVec 32 := Scalar.select v27 v28 v13
  let v30 : BitVec 32 := Scalar.subi v29 c0_i32_8
  let c1_i32_9 : BitVec 32 := 1#32
  let v32 : BitVec 32 := Scalar.divsi v30 c1_i32_9
  let v33 : BitVec 32 := Scalar.muli v32 c1_i32_9
  let v34 : BitVec 32 := Scalar.addi c0_i32_8 v33
  let c1_i32_11 : BitVec 32 := 1#32
  let arg7 : BitVec 32 := Scf.iv v34 c1_i32_11 k0_t2
  let v374 : BitVec 32 := Scalar.muli c2_i32_111 arg7
  let c512_i32_112 : BitVec 32 := 512#32
  let v375 : BitVec 32 := Scalar.muli v374 c512_i32_112
  let v376 : BitVec 32 := v375
  let c512_i32_275 : BitVec 32 := 512#32
  let v804 : BitVec 32 := Scalar.addi v376 c512_i32_275
  v804
def k0_mult66 (i : grid0.Coords) (k0_t2 : Fin (k0_t2_loop i).trips) : BitVec 32 :=
  let c2_i32_111 : BitVec 32 := 2#32
  let c0_i32_8 : BitVec 32 := 0#32
  let arg2 : BitVec 32 := BitVec.ofNat 32 (i 2).val
  let c0_i32 : BitVec 32 := 0#32
  let v14 : BitVec 1 := Scalar.cmpi .sgt arg2 c0_i32
  let v15 : BitVec 32 := Scalar.extui v14
  let c0_i32_4 : BitVec 32 := 0#32
  let v16 : BitVec 1 := Scalar.cmpi .slt arg2 c0_i32_4
  let v17 : BitVec 32 := Scalar.extui v16
  let v18 : BitVec 32 := Scalar.subi v15 v17
  let c2_i32 : BitVec 32 := 2#32
  let c0_i32_5 : BitVec 32 := 0#32
  let v19 : BitVec 1 := Scalar.cmpi .sgt c2_i32 c0_i32_5
  let v20 : BitVec 32 := Scalar.extui v19
  let c0_i32_6 : BitVec 32 := 0#32
  let v21 : BitVec 1 := Scalar.cmpi .slt c2_i32 c0_i32_6
  let v22 : BitVec 32 := Scalar.extui v21
  let v23 : BitVec 32 := Scalar.subi v20 v22
  let v24 : BitVec 1 := Scalar.cmpi .ne v18 v23
  let v25 : BitVec 32 := Scalar.remsi arg2 c2_i32
  let c0_i32_7 : BitVec 32 := 0#32
  let v26 : BitVec 1 := Scalar.cmpi .ne v25 c0_i32_7
  let v27 : BitVec 1 := Scalar.andi v24 v26
  let v13 : BitVec 32 := Scalar.divsi arg2 c2_i32
  let c1_i32 : BitVec 32 := 1#32
  let v28 : BitVec 32 := Scalar.subi v13 c1_i32
  let v29 : BitVec 32 := Scalar.select v27 v28 v13
  let v30 : BitVec 32 := Scalar.subi v29 c0_i32_8
  let c1_i32_9 : BitVec 32 := 1#32
  let v32 : BitVec 32 := Scalar.divsi v30 c1_i32_9
  let v33 : BitVec 32 := Scalar.muli v32 c1_i32_9
  let v34 : BitVec 32 := Scalar.addi c0_i32_8 v33
  let c1_i32_11 : BitVec 32 := 1#32
  let arg7 : BitVec 32 := Scf.iv v34 c1_i32_11 k0_t2
  let v374 : BitVec 32 := Scalar.muli c2_i32_111 arg7
  let c512_i32_112 : BitVec 32 := 512#32
  let v375 : BitVec 32 := Scalar.muli v374 c512_i32_112
  let v376 : BitVec 32 := v375
  let c768_i32_280 : BitVec 32 := 768#32
  let v817 : BitVec 32 := Scalar.addi v376 c768_i32_280
  v817
@[reducible] def k0_t3_loop (i : grid0.Coords) : Scf.Loop 32 :=
  let c2_i32_12 : BitVec 32 := 2#32
  let arg2 : BitVec 32 := BitVec.ofNat 32 (i 2).val
  let c0_i32 : BitVec 32 := 0#32
  let v14 : BitVec 1 := Scalar.cmpi .sgt arg2 c0_i32
  let v15 : BitVec 32 := Scalar.extui v14
  let c0_i32_4 : BitVec 32 := 0#32
  let v16 : BitVec 1 := Scalar.cmpi .slt arg2 c0_i32_4
  let v17 : BitVec 32 := Scalar.extui v16
  let v18 : BitVec 32 := Scalar.subi v15 v17
  let c2_i32 : BitVec 32 := 2#32
  let c0_i32_5 : BitVec 32 := 0#32
  let v19 : BitVec 1 := Scalar.cmpi .sgt c2_i32 c0_i32_5
  let v20 : BitVec 32 := Scalar.extui v19
  let c0_i32_6 : BitVec 32 := 0#32
  let v21 : BitVec 1 := Scalar.cmpi .slt c2_i32 c0_i32_6
  let v22 : BitVec 32 := Scalar.extui v21
  let v23 : BitVec 32 := Scalar.subi v20 v22
  let v24 : BitVec 1 := Scalar.cmpi .ne v18 v23
  let v25 : BitVec 32 := Scalar.remsi arg2 c2_i32
  let c0_i32_7 : BitVec 32 := 0#32
  let v26 : BitVec 1 := Scalar.cmpi .ne v25 c0_i32_7
  let v27 : BitVec 1 := Scalar.andi v24 v26
  let v13 : BitVec 32 := Scalar.divsi arg2 c2_i32
  let c1_i32 : BitVec 32 := 1#32
  let v28 : BitVec 32 := Scalar.subi v13 c1_i32
  let v29 : BitVec 32 := Scalar.select v27 v28 v13
  let v37 : BitVec 32 := Scalar.muli c2_i32_12 v29
  let v38 : BitVec 32 := Scalar.subi arg2 v37
  let c1_i32_13 : BitVec 32 := 1#32
  let v40 : BitVec 32 := Scalar.divsi v38 c1_i32_13
  let v41 : BitVec 32 := Scalar.muli v40 c1_i32_13
  let v42 : BitVec 32 := Scalar.addi v37 v41
  let c1_i32_14 : BitVec 32 := 1#32
  ⟨v37, v42, c1_i32_14⟩
def k0_mult67 (i : grid0.Coords) (k0_t3 : Fin (k0_t3_loop i).trips) : BitVec 32 :=
  let c2_i32_12 : BitVec 32 := 2#32
  let arg2 : BitVec 32 := BitVec.ofNat 32 (i 2).val
  let c0_i32 : BitVec 32 := 0#32
  let v14 : BitVec 1 := Scalar.cmpi .sgt arg2 c0_i32
  let v15 : BitVec 32 := Scalar.extui v14
  let c0_i32_4 : BitVec 32 := 0#32
  let v16 : BitVec 1 := Scalar.cmpi .slt arg2 c0_i32_4
  let v17 : BitVec 32 := Scalar.extui v16
  let v18 : BitVec 32 := Scalar.subi v15 v17
  let c2_i32 : BitVec 32 := 2#32
  let c0_i32_5 : BitVec 32 := 0#32
  let v19 : BitVec 1 := Scalar.cmpi .sgt c2_i32 c0_i32_5
  let v20 : BitVec 32 := Scalar.extui v19
  let c0_i32_6 : BitVec 32 := 0#32
  let v21 : BitVec 1 := Scalar.cmpi .slt c2_i32 c0_i32_6
  let v22 : BitVec 32 := Scalar.extui v21
  let v23 : BitVec 32 := Scalar.subi v20 v22
  let v24 : BitVec 1 := Scalar.cmpi .ne v18 v23
  let v25 : BitVec 32 := Scalar.remsi arg2 c2_i32
  let c0_i32_7 : BitVec 32 := 0#32
  let v26 : BitVec 1 := Scalar.cmpi .ne v25 c0_i32_7
  let v27 : BitVec 1 := Scalar.andi v24 v26
  let v13 : BitVec 32 := Scalar.divsi arg2 c2_i32
  let c1_i32 : BitVec 32 := 1#32
  let v28 : BitVec 32 := Scalar.subi v13 c1_i32
  let v29 : BitVec 32 := Scalar.select v27 v28 v13
  let v37 : BitVec 32 := Scalar.muli c2_i32_12 v29
  let c1_i32_14 : BitVec 32 := 1#32
  let arg7 : BitVec 32 := Scf.iv v37 c1_i32_14 k0_t3
  let c512_i32_111 : BitVec 32 := 512#32
  let v374 : BitVec 32 := Scalar.muli arg7 c512_i32_111
  v374
def k0_off33 (i : grid0.Coords) (k0_t3 : Fin (k0_t3_loop i).trips) : Fin 3 → Nat :=
  let c0_112 : Index := 0#32
  let c2_i32_12 : BitVec 32 := 2#32
  let arg2 : BitVec 32 := BitVec.ofNat 32 (i 2).val
  let c0_i32 : BitVec 32 := 0#32
  let v14 : BitVec 1 := Scalar.cmpi .sgt arg2 c0_i32
  let v15 : BitVec 32 := Scalar.extui v14
  let c0_i32_4 : BitVec 32 := 0#32
  let v16 : BitVec 1 := Scalar.cmpi .slt arg2 c0_i32_4
  let v17 : BitVec 32 := Scalar.extui v16
  let v18 : BitVec 32 := Scalar.subi v15 v17
  let c2_i32 : BitVec 32 := 2#32
  let c0_i32_5 : BitVec 32 := 0#32
  let v19 : BitVec 1 := Scalar.cmpi .sgt c2_i32 c0_i32_5
  let v20 : BitVec 32 := Scalar.extui v19
  let c0_i32_6 : BitVec 32 := 0#32
  let v21 : BitVec 1 := Scalar.cmpi .slt c2_i32 c0_i32_6
  let v22 : BitVec 32 := Scalar.extui v21
  let v23 : BitVec 32 := Scalar.subi v20 v22
  let v24 : BitVec 1 := Scalar.cmpi .ne v18 v23
  let v25 : BitVec 32 := Scalar.remsi arg2 c2_i32
  let c0_i32_7 : BitVec 32 := 0#32
  let v26 : BitVec 1 := Scalar.cmpi .ne v25 c0_i32_7
  let v27 : BitVec 1 := Scalar.andi v24 v26
  let v13 : BitVec 32 := Scalar.divsi arg2 c2_i32
  let c1_i32 : BitVec 32 := 1#32
  let v28 : BitVec 32 := Scalar.subi v13 c1_i32
  let v29 : BitVec 32 := Scalar.select v27 v28 v13
  let v37 : BitVec 32 := Scalar.muli c2_i32_12 v29
  let c1_i32_14 : BitVec 32 := 1#32
  let arg7 : BitVec 32 := Scf.iv v37 c1_i32_14 k0_t3
  let c512_i32_111 : BitVec 32 := 512#32
  let v374 : BitVec 32 := Scalar.muli arg7 c512_i32_111
  let v375 : BitVec 32 := v374
  let v376 : Index := Scalar.indexCast v375
  let c0_113 : Index := 0#32
  ![0, v376.toNat, 0]
def k0_off34 (i : grid0.Coords) (k0_t3 : Fin (k0_t3_loop i).trips) : Fin 3 → Nat :=
  let c0_115 : Index := 0#32
  let c2_i32_12 : BitVec 32 := 2#32
  let arg2 : BitVec 32 := BitVec.ofNat 32 (i 2).val
  let c0_i32 : BitVec 32 := 0#32
  let v14 : BitVec 1 := Scalar.cmpi .sgt arg2 c0_i32
  let v15 : BitVec 32 := Scalar.extui v14
  let c0_i32_4 : BitVec 32 := 0#32
  let v16 : BitVec 1 := Scalar.cmpi .slt arg2 c0_i32_4
  let v17 : BitVec 32 := Scalar.extui v16
  let v18 : BitVec 32 := Scalar.subi v15 v17
  let c2_i32 : BitVec 32 := 2#32
  let c0_i32_5 : BitVec 32 := 0#32
  let v19 : BitVec 1 := Scalar.cmpi .sgt c2_i32 c0_i32_5
  let v20 : BitVec 32 := Scalar.extui v19
  let c0_i32_6 : BitVec 32 := 0#32
  let v21 : BitVec 1 := Scalar.cmpi .slt c2_i32 c0_i32_6
  let v22 : BitVec 32 := Scalar.extui v21
  let v23 : BitVec 32 := Scalar.subi v20 v22
  let v24 : BitVec 1 := Scalar.cmpi .ne v18 v23
  let v25 : BitVec 32 := Scalar.remsi arg2 c2_i32
  let c0_i32_7 : BitVec 32 := 0#32
  let v26 : BitVec 1 := Scalar.cmpi .ne v25 c0_i32_7
  let v27 : BitVec 1 := Scalar.andi v24 v26
  let v13 : BitVec 32 := Scalar.divsi arg2 c2_i32
  let c1_i32 : BitVec 32 := 1#32
  let v28 : BitVec 32 := Scalar.subi v13 c1_i32
  let v29 : BitVec 32 := Scalar.select v27 v28 v13
  let v37 : BitVec 32 := Scalar.muli c2_i32_12 v29
  let c1_i32_14 : BitVec 32 := 1#32
  let arg7 : BitVec 32 := Scf.iv v37 c1_i32_14 k0_t3
  let c512_i32_111 : BitVec 32 := 512#32
  let v374 : BitVec 32 := Scalar.muli arg7 c512_i32_111
  let v375 : BitVec 32 := v374
  let v380 : Index := Scalar.indexCast v375
  let c128 : Index := 128#32
  ![0, v380.toNat, 128]
def k0_off35 (i : grid0.Coords) (k0_t3 : Fin (k0_t3_loop i).trips) : Fin 3 → Nat :=
  let c0_117 : Index := 0#32
  let c2_i32_12 : BitVec 32 := 2#32
  let arg2 : BitVec 32 := BitVec.ofNat 32 (i 2).val
  let c0_i32 : BitVec 32 := 0#32
  let v14 : BitVec 1 := Scalar.cmpi .sgt arg2 c0_i32
  let v15 : BitVec 32 := Scalar.extui v14
  let c0_i32_4 : BitVec 32 := 0#32
  let v16 : BitVec 1 := Scalar.cmpi .slt arg2 c0_i32_4
  let v17 : BitVec 32 := Scalar.extui v16
  let v18 : BitVec 32 := Scalar.subi v15 v17
  let c2_i32 : BitVec 32 := 2#32
  let c0_i32_5 : BitVec 32 := 0#32
  let v19 : BitVec 1 := Scalar.cmpi .sgt c2_i32 c0_i32_5
  let v20 : BitVec 32 := Scalar.extui v19
  let c0_i32_6 : BitVec 32 := 0#32
  let v21 : BitVec 1 := Scalar.cmpi .slt c2_i32 c0_i32_6
  let v22 : BitVec 32 := Scalar.extui v21
  let v23 : BitVec 32 := Scalar.subi v20 v22
  let v24 : BitVec 1 := Scalar.cmpi .ne v18 v23
  let v25 : BitVec 32 := Scalar.remsi arg2 c2_i32
  let c0_i32_7 : BitVec 32 := 0#32
  let v26 : BitVec 1 := Scalar.cmpi .ne v25 c0_i32_7
  let v27 : BitVec 1 := Scalar.andi v24 v26
  let v13 : BitVec 32 := Scalar.divsi arg2 c2_i32
  let c1_i32 : BitVec 32 := 1#32
  let v28 : BitVec 32 := Scalar.subi v13 c1_i32
  let v29 : BitVec 32 := Scalar.select v27 v28 v13
  let v37 : BitVec 32 := Scalar.muli c2_i32_12 v29
  let c1_i32_14 : BitVec 32 := 1#32
  let arg7 : BitVec 32 := Scf.iv v37 c1_i32_14 k0_t3
  let c512_i32_111 : BitVec 32 := 512#32
  let v374 : BitVec 32 := Scalar.muli arg7 c512_i32_111
  let v375 : BitVec 32 := v374
  let v384 : Index := Scalar.indexCast v375
  let c256 : Index := 256#32
  ![0, v384.toNat, 256]
def k0_off36 (i : grid0.Coords) (k0_t3 : Fin (k0_t3_loop i).trips) : Fin 3 → Nat :=
  let c0_119 : Index := 0#32
  let c2_i32_12 : BitVec 32 := 2#32
  let arg2 : BitVec 32 := BitVec.ofNat 32 (i 2).val
  let c0_i32 : BitVec 32 := 0#32
  let v14 : BitVec 1 := Scalar.cmpi .sgt arg2 c0_i32
  let v15 : BitVec 32 := Scalar.extui v14
  let c0_i32_4 : BitVec 32 := 0#32
  let v16 : BitVec 1 := Scalar.cmpi .slt arg2 c0_i32_4
  let v17 : BitVec 32 := Scalar.extui v16
  let v18 : BitVec 32 := Scalar.subi v15 v17
  let c2_i32 : BitVec 32 := 2#32
  let c0_i32_5 : BitVec 32 := 0#32
  let v19 : BitVec 1 := Scalar.cmpi .sgt c2_i32 c0_i32_5
  let v20 : BitVec 32 := Scalar.extui v19
  let c0_i32_6 : BitVec 32 := 0#32
  let v21 : BitVec 1 := Scalar.cmpi .slt c2_i32 c0_i32_6
  let v22 : BitVec 32 := Scalar.extui v21
  let v23 : BitVec 32 := Scalar.subi v20 v22
  let v24 : BitVec 1 := Scalar.cmpi .ne v18 v23
  let v25 : BitVec 32 := Scalar.remsi arg2 c2_i32
  let c0_i32_7 : BitVec 32 := 0#32
  let v26 : BitVec 1 := Scalar.cmpi .ne v25 c0_i32_7
  let v27 : BitVec 1 := Scalar.andi v24 v26
  let v13 : BitVec 32 := Scalar.divsi arg2 c2_i32
  let c1_i32 : BitVec 32 := 1#32
  let v28 : BitVec 32 := Scalar.subi v13 c1_i32
  let v29 : BitVec 32 := Scalar.select v27 v28 v13
  let v37 : BitVec 32 := Scalar.muli c2_i32_12 v29
  let c1_i32_14 : BitVec 32 := 1#32
  let arg7 : BitVec 32 := Scf.iv v37 c1_i32_14 k0_t3
  let c512_i32_111 : BitVec 32 := 512#32
  let v374 : BitVec 32 := Scalar.muli arg7 c512_i32_111
  let v375 : BitVec 32 := v374
  let v388 : Index := Scalar.indexCast v375
  let c384 : Index := 384#32
  ![0, v388.toNat, 384]
def k0_off37 (i : grid0.Coords) (k0_t3 : Fin (k0_t3_loop i).trips) : Fin 3 → Nat :=
  let c0_121 : Index := 0#32
  let c2_i32_12 : BitVec 32 := 2#32
  let arg2 : BitVec 32 := BitVec.ofNat 32 (i 2).val
  let c0_i32 : BitVec 32 := 0#32
  let v14 : BitVec 1 := Scalar.cmpi .sgt arg2 c0_i32
  let v15 : BitVec 32 := Scalar.extui v14
  let c0_i32_4 : BitVec 32 := 0#32
  let v16 : BitVec 1 := Scalar.cmpi .slt arg2 c0_i32_4
  let v17 : BitVec 32 := Scalar.extui v16
  let v18 : BitVec 32 := Scalar.subi v15 v17
  let c2_i32 : BitVec 32 := 2#32
  let c0_i32_5 : BitVec 32 := 0#32
  let v19 : BitVec 1 := Scalar.cmpi .sgt c2_i32 c0_i32_5
  let v20 : BitVec 32 := Scalar.extui v19
  let c0_i32_6 : BitVec 32 := 0#32
  let v21 : BitVec 1 := Scalar.cmpi .slt c2_i32 c0_i32_6
  let v22 : BitVec 32 := Scalar.extui v21
  let v23 : BitVec 32 := Scalar.subi v20 v22
  let v24 : BitVec 1 := Scalar.cmpi .ne v18 v23
  let v25 : BitVec 32 := Scalar.remsi arg2 c2_i32
  let c0_i32_7 : BitVec 32 := 0#32
  let v26 : BitVec 1 := Scalar.cmpi .ne v25 c0_i32_7
  let v27 : BitVec 1 := Scalar.andi v24 v26
  let v13 : BitVec 32 := Scalar.divsi arg2 c2_i32
  let c1_i32 : BitVec 32 := 1#32
  let v28 : BitVec 32 := Scalar.subi v13 c1_i32
  let v29 : BitVec 32 := Scalar.select v27 v28 v13
  let v37 : BitVec 32 := Scalar.muli c2_i32_12 v29
  let c1_i32_14 : BitVec 32 := 1#32
  let arg7 : BitVec 32 := Scf.iv v37 c1_i32_14 k0_t3
  let c512_i32_111 : BitVec 32 := 512#32
  let v374 : BitVec 32 := Scalar.muli arg7 c512_i32_111
  let v375 : BitVec 32 := v374
  let v392 : Index := Scalar.indexCast v375
  let c512 : Index := 512#32
  ![0, v392.toNat, 512]
def k0_off38 (i : grid0.Coords) (k0_t3 : Fin (k0_t3_loop i).trips) : Fin 3 → Nat :=
  let c0_123 : Index := 0#32
  let c2_i32_12 : BitVec 32 := 2#32
  let arg2 : BitVec 32 := BitVec.ofNat 32 (i 2).val
  let c0_i32 : BitVec 32 := 0#32
  let v14 : BitVec 1 := Scalar.cmpi .sgt arg2 c0_i32
  let v15 : BitVec 32 := Scalar.extui v14
  let c0_i32_4 : BitVec 32 := 0#32
  let v16 : BitVec 1 := Scalar.cmpi .slt arg2 c0_i32_4
  let v17 : BitVec 32 := Scalar.extui v16
  let v18 : BitVec 32 := Scalar.subi v15 v17
  let c2_i32 : BitVec 32 := 2#32
  let c0_i32_5 : BitVec 32 := 0#32
  let v19 : BitVec 1 := Scalar.cmpi .sgt c2_i32 c0_i32_5
  let v20 : BitVec 32 := Scalar.extui v19
  let c0_i32_6 : BitVec 32 := 0#32
  let v21 : BitVec 1 := Scalar.cmpi .slt c2_i32 c0_i32_6
  let v22 : BitVec 32 := Scalar.extui v21
  let v23 : BitVec 32 := Scalar.subi v20 v22
  let v24 : BitVec 1 := Scalar.cmpi .ne v18 v23
  let v25 : BitVec 32 := Scalar.remsi arg2 c2_i32
  let c0_i32_7 : BitVec 32 := 0#32
  let v26 : BitVec 1 := Scalar.cmpi .ne v25 c0_i32_7
  let v27 : BitVec 1 := Scalar.andi v24 v26
  let v13 : BitVec 32 := Scalar.divsi arg2 c2_i32
  let c1_i32 : BitVec 32 := 1#32
  let v28 : BitVec 32 := Scalar.subi v13 c1_i32
  let v29 : BitVec 32 := Scalar.select v27 v28 v13
  let v37 : BitVec 32 := Scalar.muli c2_i32_12 v29
  let c1_i32_14 : BitVec 32 := 1#32
  let arg7 : BitVec 32 := Scf.iv v37 c1_i32_14 k0_t3
  let c512_i32_111 : BitVec 32 := 512#32
  let v374 : BitVec 32 := Scalar.muli arg7 c512_i32_111
  let v375 : BitVec 32 := v374
  let v396 : Index := Scalar.indexCast v375
  let c640 : Index := 640#32
  ![0, v396.toNat, 640]
def k0_off39 (i : grid0.Coords) (k0_t3 : Fin (k0_t3_loop i).trips) : Fin 3 → Nat :=
  let c0_125 : Index := 0#32
  let c2_i32_12 : BitVec 32 := 2#32
  let arg2 : BitVec 32 := BitVec.ofNat 32 (i 2).val
  let c0_i32 : BitVec 32 := 0#32
  let v14 : BitVec 1 := Scalar.cmpi .sgt arg2 c0_i32
  let v15 : BitVec 32 := Scalar.extui v14
  let c0_i32_4 : BitVec 32 := 0#32
  let v16 : BitVec 1 := Scalar.cmpi .slt arg2 c0_i32_4
  let v17 : BitVec 32 := Scalar.extui v16
  let v18 : BitVec 32 := Scalar.subi v15 v17
  let c2_i32 : BitVec 32 := 2#32
  let c0_i32_5 : BitVec 32 := 0#32
  let v19 : BitVec 1 := Scalar.cmpi .sgt c2_i32 c0_i32_5
  let v20 : BitVec 32 := Scalar.extui v19
  let c0_i32_6 : BitVec 32 := 0#32
  let v21 : BitVec 1 := Scalar.cmpi .slt c2_i32 c0_i32_6
  let v22 : BitVec 32 := Scalar.extui v21
  let v23 : BitVec 32 := Scalar.subi v20 v22
  let v24 : BitVec 1 := Scalar.cmpi .ne v18 v23
  let v25 : BitVec 32 := Scalar.remsi arg2 c2_i32
  let c0_i32_7 : BitVec 32 := 0#32
  let v26 : BitVec 1 := Scalar.cmpi .ne v25 c0_i32_7
  let v27 : BitVec 1 := Scalar.andi v24 v26
  let v13 : BitVec 32 := Scalar.divsi arg2 c2_i32
  let c1_i32 : BitVec 32 := 1#32
  let v28 : BitVec 32 := Scalar.subi v13 c1_i32
  let v29 : BitVec 32 := Scalar.select v27 v28 v13
  let v37 : BitVec 32 := Scalar.muli c2_i32_12 v29
  let c1_i32_14 : BitVec 32 := 1#32
  let arg7 : BitVec 32 := Scf.iv v37 c1_i32_14 k0_t3
  let c512_i32_111 : BitVec 32 := 512#32
  let v374 : BitVec 32 := Scalar.muli arg7 c512_i32_111
  let v375 : BitVec 32 := v374
  let v400 : Index := Scalar.indexCast v375
  let c768 : Index := 768#32
  ![0, v400.toNat, 768]
def k0_off40 (i : grid0.Coords) (k0_t3 : Fin (k0_t3_loop i).trips) : Fin 3 → Nat :=
  let c0_127 : Index := 0#32
  let c2_i32_12 : BitVec 32 := 2#32
  let arg2 : BitVec 32 := BitVec.ofNat 32 (i 2).val
  let c0_i32 : BitVec 32 := 0#32
  let v14 : BitVec 1 := Scalar.cmpi .sgt arg2 c0_i32
  let v15 : BitVec 32 := Scalar.extui v14
  let c0_i32_4 : BitVec 32 := 0#32
  let v16 : BitVec 1 := Scalar.cmpi .slt arg2 c0_i32_4
  let v17 : BitVec 32 := Scalar.extui v16
  let v18 : BitVec 32 := Scalar.subi v15 v17
  let c2_i32 : BitVec 32 := 2#32
  let c0_i32_5 : BitVec 32 := 0#32
  let v19 : BitVec 1 := Scalar.cmpi .sgt c2_i32 c0_i32_5
  let v20 : BitVec 32 := Scalar.extui v19
  let c0_i32_6 : BitVec 32 := 0#32
  let v21 : BitVec 1 := Scalar.cmpi .slt c2_i32 c0_i32_6
  let v22 : BitVec 32 := Scalar.extui v21
  let v23 : BitVec 32 := Scalar.subi v20 v22
  let v24 : BitVec 1 := Scalar.cmpi .ne v18 v23
  let v25 : BitVec 32 := Scalar.remsi arg2 c2_i32
  let c0_i32_7 : BitVec 32 := 0#32
  let v26 : BitVec 1 := Scalar.cmpi .ne v25 c0_i32_7
  let v27 : BitVec 1 := Scalar.andi v24 v26
  let v13 : BitVec 32 := Scalar.divsi arg2 c2_i32
  let c1_i32 : BitVec 32 := 1#32
  let v28 : BitVec 32 := Scalar.subi v13 c1_i32
  let v29 : BitVec 32 := Scalar.select v27 v28 v13
  let v37 : BitVec 32 := Scalar.muli c2_i32_12 v29
  let c1_i32_14 : BitVec 32 := 1#32
  let arg7 : BitVec 32 := Scf.iv v37 c1_i32_14 k0_t3
  let c512_i32_111 : BitVec 32 := 512#32
  let v374 : BitVec 32 := Scalar.muli arg7 c512_i32_111
  let v375 : BitVec 32 := v374
  let v404 : Index := Scalar.indexCast v375
  let c896 : Index := 896#32
  ![0, v404.toNat, 896]
def k0_off41 (i : grid0.Coords) (k0_t3 : Fin (k0_t3_loop i).trips) : Fin 3 → Nat :=
  let c0_129 : Index := 0#32
  let c0_130 : Index := 0#32
  let c2_i32_12 : BitVec 32 := 2#32
  let arg2 : BitVec 32 := BitVec.ofNat 32 (i 2).val
  let c0_i32 : BitVec 32 := 0#32
  let v14 : BitVec 1 := Scalar.cmpi .sgt arg2 c0_i32
  let v15 : BitVec 32 := Scalar.extui v14
  let c0_i32_4 : BitVec 32 := 0#32
  let v16 : BitVec 1 := Scalar.cmpi .slt arg2 c0_i32_4
  let v17 : BitVec 32 := Scalar.extui v16
  let v18 : BitVec 32 := Scalar.subi v15 v17
  let c2_i32 : BitVec 32 := 2#32
  let c0_i32_5 : BitVec 32 := 0#32
  let v19 : BitVec 1 := Scalar.cmpi .sgt c2_i32 c0_i32_5
  let v20 : BitVec 32 := Scalar.extui v19
  let c0_i32_6 : BitVec 32 := 0#32
  let v21 : BitVec 1 := Scalar.cmpi .slt c2_i32 c0_i32_6
  let v22 : BitVec 32 := Scalar.extui v21
  let v23 : BitVec 32 := Scalar.subi v20 v22
  let v24 : BitVec 1 := Scalar.cmpi .ne v18 v23
  let v25 : BitVec 32 := Scalar.remsi arg2 c2_i32
  let c0_i32_7 : BitVec 32 := 0#32
  let v26 : BitVec 1 := Scalar.cmpi .ne v25 c0_i32_7
  let v27 : BitVec 1 := Scalar.andi v24 v26
  let v13 : BitVec 32 := Scalar.divsi arg2 c2_i32
  let c1_i32 : BitVec 32 := 1#32
  let v28 : BitVec 32 := Scalar.subi v13 c1_i32
  let v29 : BitVec 32 := Scalar.select v27 v28 v13
  let v37 : BitVec 32 := Scalar.muli c2_i32_12 v29
  let c1_i32_14 : BitVec 32 := 1#32
  let arg7 : BitVec 32 := Scf.iv v37 c1_i32_14 k0_t3
  let c512_i32_111 : BitVec 32 := 512#32
  let v374 : BitVec 32 := Scalar.muli arg7 c512_i32_111
  let v375 : BitVec 32 := v374
  let v408 : Index := Scalar.indexCast v375
  ![0, 0, v408.toNat]
def k0_off42 (i : grid0.Coords) (k0_t3 : Fin (k0_t3_loop i).trips) : Fin 3 → Nat :=
  let c0_133 : Index := 0#32
  let c64 : Index := 64#32
  let c2_i32_12 : BitVec 32 := 2#32
  let arg2 : BitVec 32 := BitVec.ofNat 32 (i 2).val
  let c0_i32 : BitVec 32 := 0#32
  let v14 : BitVec 1 := Scalar.cmpi .sgt arg2 c0_i32
  let v15 : BitVec 32 := Scalar.extui v14
  let c0_i32_4 : BitVec 32 := 0#32
  let v16 : BitVec 1 := Scalar.cmpi .slt arg2 c0_i32_4
  let v17 : BitVec 32 := Scalar.extui v16
  let v18 : BitVec 32 := Scalar.subi v15 v17
  let c2_i32 : BitVec 32 := 2#32
  let c0_i32_5 : BitVec 32 := 0#32
  let v19 : BitVec 1 := Scalar.cmpi .sgt c2_i32 c0_i32_5
  let v20 : BitVec 32 := Scalar.extui v19
  let c0_i32_6 : BitVec 32 := 0#32
  let v21 : BitVec 1 := Scalar.cmpi .slt c2_i32 c0_i32_6
  let v22 : BitVec 32 := Scalar.extui v21
  let v23 : BitVec 32 := Scalar.subi v20 v22
  let v24 : BitVec 1 := Scalar.cmpi .ne v18 v23
  let v25 : BitVec 32 := Scalar.remsi arg2 c2_i32
  let c0_i32_7 : BitVec 32 := 0#32
  let v26 : BitVec 1 := Scalar.cmpi .ne v25 c0_i32_7
  let v27 : BitVec 1 := Scalar.andi v24 v26
  let v13 : BitVec 32 := Scalar.divsi arg2 c2_i32
  let c1_i32 : BitVec 32 := 1#32
  let v28 : BitVec 32 := Scalar.subi v13 c1_i32
  let v29 : BitVec 32 := Scalar.select v27 v28 v13
  let v37 : BitVec 32 := Scalar.muli c2_i32_12 v29
  let c1_i32_14 : BitVec 32 := 1#32
  let arg7 : BitVec 32 := Scf.iv v37 c1_i32_14 k0_t3
  let c512_i32_111 : BitVec 32 := 512#32
  let v374 : BitVec 32 := Scalar.muli arg7 c512_i32_111
  let v375 : BitVec 32 := v374
  let v418 : Index := Scalar.indexCast v375
  ![0, 64, v418.toNat]
def k0_off43 (i : grid0.Coords) (k0_t3 : Fin (k0_t3_loop i).trips) : Fin 3 → Nat :=
  let c0_136 : Index := 0#32
  let c128_137 : Index := 128#32
  let c2_i32_12 : BitVec 32 := 2#32
  let arg2 : BitVec 32 := BitVec.ofNat 32 (i 2).val
  let c0_i32 : BitVec 32 := 0#32
  let v14 : BitVec 1 := Scalar.cmpi .sgt arg2 c0_i32
  let v15 : BitVec 32 := Scalar.extui v14
  let c0_i32_4 : BitVec 32 := 0#32
  let v16 : BitVec 1 := Scalar.cmpi .slt arg2 c0_i32_4
  let v17 : BitVec 32 := Scalar.extui v16
  let v18 : BitVec 32 := Scalar.subi v15 v17
  let c2_i32 : BitVec 32 := 2#32
  let c0_i32_5 : BitVec 32 := 0#32
  let v19 : BitVec 1 := Scalar.cmpi .sgt c2_i32 c0_i32_5
  let v20 : BitVec 32 := Scalar.extui v19
  let c0_i32_6 : BitVec 32 := 0#32
  let v21 : BitVec 1 := Scalar.cmpi .slt c2_i32 c0_i32_6
  let v22 : BitVec 32 := Scalar.extui v21
  let v23 : BitVec 32 := Scalar.subi v20 v22
  let v24 : BitVec 1 := Scalar.cmpi .ne v18 v23
  let v25 : BitVec 32 := Scalar.remsi arg2 c2_i32
  let c0_i32_7 : BitVec 32 := 0#32
  let v26 : BitVec 1 := Scalar.cmpi .ne v25 c0_i32_7
  let v27 : BitVec 1 := Scalar.andi v24 v26
  let v13 : BitVec 32 := Scalar.divsi arg2 c2_i32
  let c1_i32 : BitVec 32 := 1#32
  let v28 : BitVec 32 := Scalar.subi v13 c1_i32
  let v29 : BitVec 32 := Scalar.select v27 v28 v13
  let v37 : BitVec 32 := Scalar.muli c2_i32_12 v29
  let c1_i32_14 : BitVec 32 := 1#32
  let arg7 : BitVec 32 := Scf.iv v37 c1_i32_14 k0_t3
  let c512_i32_111 : BitVec 32 := 512#32
  let v374 : BitVec 32 := Scalar.muli arg7 c512_i32_111
  let v375 : BitVec 32 := v374
  let v428 : Index := Scalar.indexCast v375
  ![0, 128, v428.toNat]
def k0_off44 (i : grid0.Coords) (k0_t3 : Fin (k0_t3_loop i).trips) : Fin 3 → Nat :=
  let c0_140 : Index := 0#32
  let c192 : Index := 192#32
  let c2_i32_12 : BitVec 32 := 2#32
  let arg2 : BitVec 32 := BitVec.ofNat 32 (i 2).val
  let c0_i32 : BitVec 32 := 0#32
  let v14 : BitVec 1 := Scalar.cmpi .sgt arg2 c0_i32
  let v15 : BitVec 32 := Scalar.extui v14
  let c0_i32_4 : BitVec 32 := 0#32
  let v16 : BitVec 1 := Scalar.cmpi .slt arg2 c0_i32_4
  let v17 : BitVec 32 := Scalar.extui v16
  let v18 : BitVec 32 := Scalar.subi v15 v17
  let c2_i32 : BitVec 32 := 2#32
  let c0_i32_5 : BitVec 32 := 0#32
  let v19 : BitVec 1 := Scalar.cmpi .sgt c2_i32 c0_i32_5
  let v20 : BitVec 32 := Scalar.extui v19
  let c0_i32_6 : BitVec 32 := 0#32
  let v21 : BitVec 1 := Scalar.cmpi .slt c2_i32 c0_i32_6
  let v22 : BitVec 32 := Scalar.extui v21
  let v23 : BitVec 32 := Scalar.subi v20 v22
  let v24 : BitVec 1 := Scalar.cmpi .ne v18 v23
  let v25 : BitVec 32 := Scalar.remsi arg2 c2_i32
  let c0_i32_7 : BitVec 32 := 0#32
  let v26 : BitVec 1 := Scalar.cmpi .ne v25 c0_i32_7
  let v27 : BitVec 1 := Scalar.andi v24 v26
  let v13 : BitVec 32 := Scalar.divsi arg2 c2_i32
  let c1_i32 : BitVec 32 := 1#32
  let v28 : BitVec 32 := Scalar.subi v13 c1_i32
  let v29 : BitVec 32 := Scalar.select v27 v28 v13
  let v37 : BitVec 32 := Scalar.muli c2_i32_12 v29
  let c1_i32_14 : BitVec 32 := 1#32
  let arg7 : BitVec 32 := Scf.iv v37 c1_i32_14 k0_t3
  let c512_i32_111 : BitVec 32 := 512#32
  let v374 : BitVec 32 := Scalar.muli arg7 c512_i32_111
  let v375 : BitVec 32 := v374
  let v438 : Index := Scalar.indexCast v375
  ![0, 192, v438.toNat]
def k0_off45 (i : grid0.Coords) (k0_t3 : Fin (k0_t3_loop i).trips) : Fin 3 → Nat :=
  let c0_143 : Index := 0#32
  let c256_144 : Index := 256#32
  let c2_i32_12 : BitVec 32 := 2#32
  let arg2 : BitVec 32 := BitVec.ofNat 32 (i 2).val
  let c0_i32 : BitVec 32 := 0#32
  let v14 : BitVec 1 := Scalar.cmpi .sgt arg2 c0_i32
  let v15 : BitVec 32 := Scalar.extui v14
  let c0_i32_4 : BitVec 32 := 0#32
  let v16 : BitVec 1 := Scalar.cmpi .slt arg2 c0_i32_4
  let v17 : BitVec 32 := Scalar.extui v16
  let v18 : BitVec 32 := Scalar.subi v15 v17
  let c2_i32 : BitVec 32 := 2#32
  let c0_i32_5 : BitVec 32 := 0#32
  let v19 : BitVec 1 := Scalar.cmpi .sgt c2_i32 c0_i32_5
  let v20 : BitVec 32 := Scalar.extui v19
  let c0_i32_6 : BitVec 32 := 0#32
  let v21 : BitVec 1 := Scalar.cmpi .slt c2_i32 c0_i32_6
  let v22 : BitVec 32 := Scalar.extui v21
  let v23 : BitVec 32 := Scalar.subi v20 v22
  let v24 : BitVec 1 := Scalar.cmpi .ne v18 v23
  let v25 : BitVec 32 := Scalar.remsi arg2 c2_i32
  let c0_i32_7 : BitVec 32 := 0#32
  let v26 : BitVec 1 := Scalar.cmpi .ne v25 c0_i32_7
  let v27 : BitVec 1 := Scalar.andi v24 v26
  let v13 : BitVec 32 := Scalar.divsi arg2 c2_i32
  let c1_i32 : BitVec 32 := 1#32
  let v28 : BitVec 32 := Scalar.subi v13 c1_i32
  let v29 : BitVec 32 := Scalar.select v27 v28 v13
  let v37 : BitVec 32 := Scalar.muli c2_i32_12 v29
  let c1_i32_14 : BitVec 32 := 1#32
  let arg7 : BitVec 32 := Scf.iv v37 c1_i32_14 k0_t3
  let c512_i32_111 : BitVec 32 := 512#32
  let v374 : BitVec 32 := Scalar.muli arg7 c512_i32_111
  let v375 : BitVec 32 := v374
  let v448 : Index := Scalar.indexCast v375
  ![0, 256, v448.toNat]
def k0_off46 (i : grid0.Coords) (k0_t3 : Fin (k0_t3_loop i).trips) : Fin 3 → Nat :=
  let c0_147 : Index := 0#32
  let c320 : Index := 320#32
  let c2_i32_12 : BitVec 32 := 2#32
  let arg2 : BitVec 32 := BitVec.ofNat 32 (i 2).val
  let c0_i32 : BitVec 32 := 0#32
  let v14 : BitVec 1 := Scalar.cmpi .sgt arg2 c0_i32
  let v15 : BitVec 32 := Scalar.extui v14
  let c0_i32_4 : BitVec 32 := 0#32
  let v16 : BitVec 1 := Scalar.cmpi .slt arg2 c0_i32_4
  let v17 : BitVec 32 := Scalar.extui v16
  let v18 : BitVec 32 := Scalar.subi v15 v17
  let c2_i32 : BitVec 32 := 2#32
  let c0_i32_5 : BitVec 32 := 0#32
  let v19 : BitVec 1 := Scalar.cmpi .sgt c2_i32 c0_i32_5
  let v20 : BitVec 32 := Scalar.extui v19
  let c0_i32_6 : BitVec 32 := 0#32
  let v21 : BitVec 1 := Scalar.cmpi .slt c2_i32 c0_i32_6
  let v22 : BitVec 32 := Scalar.extui v21
  let v23 : BitVec 32 := Scalar.subi v20 v22
  let v24 : BitVec 1 := Scalar.cmpi .ne v18 v23
  let v25 : BitVec 32 := Scalar.remsi arg2 c2_i32
  let c0_i32_7 : BitVec 32 := 0#32
  let v26 : BitVec 1 := Scalar.cmpi .ne v25 c0_i32_7
  let v27 : BitVec 1 := Scalar.andi v24 v26
  let v13 : BitVec 32 := Scalar.divsi arg2 c2_i32
  let c1_i32 : BitVec 32 := 1#32
  let v28 : BitVec 32 := Scalar.subi v13 c1_i32
  let v29 : BitVec 32 := Scalar.select v27 v28 v13
  let v37 : BitVec 32 := Scalar.muli c2_i32_12 v29
  let c1_i32_14 : BitVec 32 := 1#32
  let arg7 : BitVec 32 := Scf.iv v37 c1_i32_14 k0_t3
  let c512_i32_111 : BitVec 32 := 512#32
  let v374 : BitVec 32 := Scalar.muli arg7 c512_i32_111
  let v375 : BitVec 32 := v374
  let v458 : Index := Scalar.indexCast v375
  ![0, 320, v458.toNat]
def k0_off47 (i : grid0.Coords) (k0_t3 : Fin (k0_t3_loop i).trips) : Fin 3 → Nat :=
  let c0_150 : Index := 0#32
  let c384_151 : Index := 384#32
  let c2_i32_12 : BitVec 32 := 2#32
  let arg2 : BitVec 32 := BitVec.ofNat 32 (i 2).val
  let c0_i32 : BitVec 32 := 0#32
  let v14 : BitVec 1 := Scalar.cmpi .sgt arg2 c0_i32
  let v15 : BitVec 32 := Scalar.extui v14
  let c0_i32_4 : BitVec 32 := 0#32
  let v16 : BitVec 1 := Scalar.cmpi .slt arg2 c0_i32_4
  let v17 : BitVec 32 := Scalar.extui v16
  let v18 : BitVec 32 := Scalar.subi v15 v17
  let c2_i32 : BitVec 32 := 2#32
  let c0_i32_5 : BitVec 32 := 0#32
  let v19 : BitVec 1 := Scalar.cmpi .sgt c2_i32 c0_i32_5
  let v20 : BitVec 32 := Scalar.extui v19
  let c0_i32_6 : BitVec 32 := 0#32
  let v21 : BitVec 1 := Scalar.cmpi .slt c2_i32 c0_i32_6
  let v22 : BitVec 32 := Scalar.extui v21
  let v23 : BitVec 32 := Scalar.subi v20 v22
  let v24 : BitVec 1 := Scalar.cmpi .ne v18 v23
  let v25 : BitVec 32 := Scalar.remsi arg2 c2_i32
  let c0_i32_7 : BitVec 32 := 0#32
  let v26 : BitVec 1 := Scalar.cmpi .ne v25 c0_i32_7
  let v27 : BitVec 1 := Scalar.andi v24 v26
  let v13 : BitVec 32 := Scalar.divsi arg2 c2_i32
  let c1_i32 : BitVec 32 := 1#32
  let v28 : BitVec 32 := Scalar.subi v13 c1_i32
  let v29 : BitVec 32 := Scalar.select v27 v28 v13
  let v37 : BitVec 32 := Scalar.muli c2_i32_12 v29
  let c1_i32_14 : BitVec 32 := 1#32
  let arg7 : BitVec 32 := Scf.iv v37 c1_i32_14 k0_t3
  let c512_i32_111 : BitVec 32 := 512#32
  let v374 : BitVec 32 := Scalar.muli arg7 c512_i32_111
  let v375 : BitVec 32 := v374
  let v468 : Index := Scalar.indexCast v375
  ![0, 384, v468.toNat]
def k0_off48 (i : grid0.Coords) (k0_t3 : Fin (k0_t3_loop i).trips) : Fin 3 → Nat :=
  let c0_154 : Index := 0#32
  let c448 : Index := 448#32
  let c2_i32_12 : BitVec 32 := 2#32
  let arg2 : BitVec 32 := BitVec.ofNat 32 (i 2).val
  let c0_i32 : BitVec 32 := 0#32
  let v14 : BitVec 1 := Scalar.cmpi .sgt arg2 c0_i32
  let v15 : BitVec 32 := Scalar.extui v14
  let c0_i32_4 : BitVec 32 := 0#32
  let v16 : BitVec 1 := Scalar.cmpi .slt arg2 c0_i32_4
  let v17 : BitVec 32 := Scalar.extui v16
  let v18 : BitVec 32 := Scalar.subi v15 v17
  let c2_i32 : BitVec 32 := 2#32
  let c0_i32_5 : BitVec 32 := 0#32
  let v19 : BitVec 1 := Scalar.cmpi .sgt c2_i32 c0_i32_5
  let v20 : BitVec 32 := Scalar.extui v19
  let c0_i32_6 : BitVec 32 := 0#32
  let v21 : BitVec 1 := Scalar.cmpi .slt c2_i32 c0_i32_6
  let v22 : BitVec 32 := Scalar.extui v21
  let v23 : BitVec 32 := Scalar.subi v20 v22
  let v24 : BitVec 1 := Scalar.cmpi .ne v18 v23
  let v25 : BitVec 32 := Scalar.remsi arg2 c2_i32
  let c0_i32_7 : BitVec 32 := 0#32
  let v26 : BitVec 1 := Scalar.cmpi .ne v25 c0_i32_7
  let v27 : BitVec 1 := Scalar.andi v24 v26
  let v13 : BitVec 32 := Scalar.divsi arg2 c2_i32
  let c1_i32 : BitVec 32 := 1#32
  let v28 : BitVec 32 := Scalar.subi v13 c1_i32
  let v29 : BitVec 32 := Scalar.select v27 v28 v13
  let v37 : BitVec 32 := Scalar.muli c2_i32_12 v29
  let c1_i32_14 : BitVec 32 := 1#32
  let arg7 : BitVec 32 := Scf.iv v37 c1_i32_14 k0_t3
  let c512_i32_111 : BitVec 32 := 512#32
  let v374 : BitVec 32 := Scalar.muli arg7 c512_i32_111
  let v375 : BitVec 32 := v374
  let v478 : Index := Scalar.indexCast v375
  ![0, 448, v478.toNat]
@[reducible] def k0_t4_loop (i : grid0.Coords) : Scf.Loop 32 :=
  let c2_i32_12 : BitVec 32 := 2#32
  let arg2 : BitVec 32 := BitVec.ofNat 32 (i 2).val
  let c0_i32 : BitVec 32 := 0#32
  let v14 : BitVec 1 := Scalar.cmpi .sgt arg2 c0_i32
  let v15 : BitVec 32 := Scalar.extui v14
  let c0_i32_4 : BitVec 32 := 0#32
  let v16 : BitVec 1 := Scalar.cmpi .slt arg2 c0_i32_4
  let v17 : BitVec 32 := Scalar.extui v16
  let v18 : BitVec 32 := Scalar.subi v15 v17
  let c2_i32 : BitVec 32 := 2#32
  let c0_i32_5 : BitVec 32 := 0#32
  let v19 : BitVec 1 := Scalar.cmpi .sgt c2_i32 c0_i32_5
  let v20 : BitVec 32 := Scalar.extui v19
  let c0_i32_6 : BitVec 32 := 0#32
  let v21 : BitVec 1 := Scalar.cmpi .slt c2_i32 c0_i32_6
  let v22 : BitVec 32 := Scalar.extui v21
  let v23 : BitVec 32 := Scalar.subi v20 v22
  let v24 : BitVec 1 := Scalar.cmpi .ne v18 v23
  let v25 : BitVec 32 := Scalar.remsi arg2 c2_i32
  let c0_i32_7 : BitVec 32 := 0#32
  let v26 : BitVec 1 := Scalar.cmpi .ne v25 c0_i32_7
  let v27 : BitVec 1 := Scalar.andi v24 v26
  let v13 : BitVec 32 := Scalar.divsi arg2 c2_i32
  let c1_i32 : BitVec 32 := 1#32
  let v28 : BitVec 32 := Scalar.subi v13 c1_i32
  let v29 : BitVec 32 := Scalar.select v27 v28 v13
  let v37 : BitVec 32 := Scalar.muli c2_i32_12 v29
  let v38 : BitVec 32 := Scalar.subi arg2 v37
  let c1_i32_13 : BitVec 32 := 1#32
  let v40 : BitVec 32 := Scalar.divsi v38 c1_i32_13
  let v41 : BitVec 32 := Scalar.muli v40 c1_i32_13
  let v42 : BitVec 32 := Scalar.addi v37 v41
  let v39 : BitVec 32 := Scalar.addi v37 v38
  let c1_i32_15 : BitVec 32 := 1#32
  ⟨v42, v39, c1_i32_15⟩
def k0_mult68 (i : grid0.Coords) (k0_t4 : Fin (k0_t4_loop i).trips) : BitVec 32 :=
  let c2_i32_12 : BitVec 32 := 2#32
  let arg2 : BitVec 32 := BitVec.ofNat 32 (i 2).val
  let c0_i32 : BitVec 32 := 0#32
  let v14 : BitVec 1 := Scalar.cmpi .sgt arg2 c0_i32
  let v15 : BitVec 32 := Scalar.extui v14
  let c0_i32_4 : BitVec 32 := 0#32
  let v16 : BitVec 1 := Scalar.cmpi .slt arg2 c0_i32_4
  let v17 : BitVec 32 := Scalar.extui v16
  let v18 : BitVec 32 := Scalar.subi v15 v17
  let c2_i32 : BitVec 32 := 2#32
  let c0_i32_5 : BitVec 32 := 0#32
  let v19 : BitVec 1 := Scalar.cmpi .sgt c2_i32 c0_i32_5
  let v20 : BitVec 32 := Scalar.extui v19
  let c0_i32_6 : BitVec 32 := 0#32
  let v21 : BitVec 1 := Scalar.cmpi .slt c2_i32 c0_i32_6
  let v22 : BitVec 32 := Scalar.extui v21
  let v23 : BitVec 32 := Scalar.subi v20 v22
  let v24 : BitVec 1 := Scalar.cmpi .ne v18 v23
  let v25 : BitVec 32 := Scalar.remsi arg2 c2_i32
  let c0_i32_7 : BitVec 32 := 0#32
  let v26 : BitVec 1 := Scalar.cmpi .ne v25 c0_i32_7
  let v27 : BitVec 1 := Scalar.andi v24 v26
  let v13 : BitVec 32 := Scalar.divsi arg2 c2_i32
  let c1_i32 : BitVec 32 := 1#32
  let v28 : BitVec 32 := Scalar.subi v13 c1_i32
  let v29 : BitVec 32 := Scalar.select v27 v28 v13
  let v37 : BitVec 32 := Scalar.muli c2_i32_12 v29
  let v38 : BitVec 32 := Scalar.subi arg2 v37
  let c1_i32_13 : BitVec 32 := 1#32
  let v40 : BitVec 32 := Scalar.divsi v38 c1_i32_13
  let v41 : BitVec 32 := Scalar.muli v40 c1_i32_13
  let v42 : BitVec 32 := Scalar.addi v37 v41
  let c1_i32_15 : BitVec 32 := 1#32
  let arg7 : BitVec 32 := Scf.iv v42 c1_i32_15 k0_t4
  let c512_i32_111 : BitVec 32 := 512#32
  let v374 : BitVec 32 := Scalar.muli arg7 c512_i32_111
  v374
def k0_off49 (i : grid0.Coords) (k0_t4 : Fin (k0_t4_loop i).trips) : Fin 3 → Nat :=
  let c0_112 : Index := 0#32
  let c2_i32_12 : BitVec 32 := 2#32
  let arg2 : BitVec 32 := BitVec.ofNat 32 (i 2).val
  let c0_i32 : BitVec 32 := 0#32
  let v14 : BitVec 1 := Scalar.cmpi .sgt arg2 c0_i32
  let v15 : BitVec 32 := Scalar.extui v14
  let c0_i32_4 : BitVec 32 := 0#32
  let v16 : BitVec 1 := Scalar.cmpi .slt arg2 c0_i32_4
  let v17 : BitVec 32 := Scalar.extui v16
  let v18 : BitVec 32 := Scalar.subi v15 v17
  let c2_i32 : BitVec 32 := 2#32
  let c0_i32_5 : BitVec 32 := 0#32
  let v19 : BitVec 1 := Scalar.cmpi .sgt c2_i32 c0_i32_5
  let v20 : BitVec 32 := Scalar.extui v19
  let c0_i32_6 : BitVec 32 := 0#32
  let v21 : BitVec 1 := Scalar.cmpi .slt c2_i32 c0_i32_6
  let v22 : BitVec 32 := Scalar.extui v21
  let v23 : BitVec 32 := Scalar.subi v20 v22
  let v24 : BitVec 1 := Scalar.cmpi .ne v18 v23
  let v25 : BitVec 32 := Scalar.remsi arg2 c2_i32
  let c0_i32_7 : BitVec 32 := 0#32
  let v26 : BitVec 1 := Scalar.cmpi .ne v25 c0_i32_7
  let v27 : BitVec 1 := Scalar.andi v24 v26
  let v13 : BitVec 32 := Scalar.divsi arg2 c2_i32
  let c1_i32 : BitVec 32 := 1#32
  let v28 : BitVec 32 := Scalar.subi v13 c1_i32
  let v29 : BitVec 32 := Scalar.select v27 v28 v13
  let v37 : BitVec 32 := Scalar.muli c2_i32_12 v29
  let v38 : BitVec 32 := Scalar.subi arg2 v37
  let c1_i32_13 : BitVec 32 := 1#32
  let v40 : BitVec 32 := Scalar.divsi v38 c1_i32_13
  let v41 : BitVec 32 := Scalar.muli v40 c1_i32_13
  let v42 : BitVec 32 := Scalar.addi v37 v41
  let c1_i32_15 : BitVec 32 := 1#32
  let arg7 : BitVec 32 := Scf.iv v42 c1_i32_15 k0_t4
  let c512_i32_111 : BitVec 32 := 512#32
  let v374 : BitVec 32 := Scalar.muli arg7 c512_i32_111
  let v375 : BitVec 32 := v374
  let v376 : Index := Scalar.indexCast v375
  let c0_113 : Index := 0#32
  ![0, v376.toNat, 0]
def k0_off50 (i : grid0.Coords) (k0_t4 : Fin (k0_t4_loop i).trips) : Fin 3 → Nat :=
  let c0_115 : Index := 0#32
  let c2_i32_12 : BitVec 32 := 2#32
  let arg2 : BitVec 32 := BitVec.ofNat 32 (i 2).val
  let c0_i32 : BitVec 32 := 0#32
  let v14 : BitVec 1 := Scalar.cmpi .sgt arg2 c0_i32
  let v15 : BitVec 32 := Scalar.extui v14
  let c0_i32_4 : BitVec 32 := 0#32
  let v16 : BitVec 1 := Scalar.cmpi .slt arg2 c0_i32_4
  let v17 : BitVec 32 := Scalar.extui v16
  let v18 : BitVec 32 := Scalar.subi v15 v17
  let c2_i32 : BitVec 32 := 2#32
  let c0_i32_5 : BitVec 32 := 0#32
  let v19 : BitVec 1 := Scalar.cmpi .sgt c2_i32 c0_i32_5
  let v20 : BitVec 32 := Scalar.extui v19
  let c0_i32_6 : BitVec 32 := 0#32
  let v21 : BitVec 1 := Scalar.cmpi .slt c2_i32 c0_i32_6
  let v22 : BitVec 32 := Scalar.extui v21
  let v23 : BitVec 32 := Scalar.subi v20 v22
  let v24 : BitVec 1 := Scalar.cmpi .ne v18 v23
  let v25 : BitVec 32 := Scalar.remsi arg2 c2_i32
  let c0_i32_7 : BitVec 32 := 0#32
  let v26 : BitVec 1 := Scalar.cmpi .ne v25 c0_i32_7
  let v27 : BitVec 1 := Scalar.andi v24 v26
  let v13 : BitVec 32 := Scalar.divsi arg2 c2_i32
  let c1_i32 : BitVec 32 := 1#32
  let v28 : BitVec 32 := Scalar.subi v13 c1_i32
  let v29 : BitVec 32 := Scalar.select v27 v28 v13
  let v37 : BitVec 32 := Scalar.muli c2_i32_12 v29
  let v38 : BitVec 32 := Scalar.subi arg2 v37
  let c1_i32_13 : BitVec 32 := 1#32
  let v40 : BitVec 32 := Scalar.divsi v38 c1_i32_13
  let v41 : BitVec 32 := Scalar.muli v40 c1_i32_13
  let v42 : BitVec 32 := Scalar.addi v37 v41
  let c1_i32_15 : BitVec 32 := 1#32
  let arg7 : BitVec 32 := Scf.iv v42 c1_i32_15 k0_t4
  let c512_i32_111 : BitVec 32 := 512#32
  let v374 : BitVec 32 := Scalar.muli arg7 c512_i32_111
  let v375 : BitVec 32 := v374
  let v380 : Index := Scalar.indexCast v375
  let c128 : Index := 128#32
  ![0, v380.toNat, 128]
def k0_off51 (i : grid0.Coords) (k0_t4 : Fin (k0_t4_loop i).trips) : Fin 3 → Nat :=
  let c0_117 : Index := 0#32
  let c2_i32_12 : BitVec 32 := 2#32
  let arg2 : BitVec 32 := BitVec.ofNat 32 (i 2).val
  let c0_i32 : BitVec 32 := 0#32
  let v14 : BitVec 1 := Scalar.cmpi .sgt arg2 c0_i32
  let v15 : BitVec 32 := Scalar.extui v14
  let c0_i32_4 : BitVec 32 := 0#32
  let v16 : BitVec 1 := Scalar.cmpi .slt arg2 c0_i32_4
  let v17 : BitVec 32 := Scalar.extui v16
  let v18 : BitVec 32 := Scalar.subi v15 v17
  let c2_i32 : BitVec 32 := 2#32
  let c0_i32_5 : BitVec 32 := 0#32
  let v19 : BitVec 1 := Scalar.cmpi .sgt c2_i32 c0_i32_5
  let v20 : BitVec 32 := Scalar.extui v19
  let c0_i32_6 : BitVec 32 := 0#32
  let v21 : BitVec 1 := Scalar.cmpi .slt c2_i32 c0_i32_6
  let v22 : BitVec 32 := Scalar.extui v21
  let v23 : BitVec 32 := Scalar.subi v20 v22
  let v24 : BitVec 1 := Scalar.cmpi .ne v18 v23
  let v25 : BitVec 32 := Scalar.remsi arg2 c2_i32
  let c0_i32_7 : BitVec 32 := 0#32
  let v26 : BitVec 1 := Scalar.cmpi .ne v25 c0_i32_7
  let v27 : BitVec 1 := Scalar.andi v24 v26
  let v13 : BitVec 32 := Scalar.divsi arg2 c2_i32
  let c1_i32 : BitVec 32 := 1#32
  let v28 : BitVec 32 := Scalar.subi v13 c1_i32
  let v29 : BitVec 32 := Scalar.select v27 v28 v13
  let v37 : BitVec 32 := Scalar.muli c2_i32_12 v29
  let v38 : BitVec 32 := Scalar.subi arg2 v37
  let c1_i32_13 : BitVec 32 := 1#32
  let v40 : BitVec 32 := Scalar.divsi v38 c1_i32_13
  let v41 : BitVec 32 := Scalar.muli v40 c1_i32_13
  let v42 : BitVec 32 := Scalar.addi v37 v41
  let c1_i32_15 : BitVec 32 := 1#32
  let arg7 : BitVec 32 := Scf.iv v42 c1_i32_15 k0_t4
  let c512_i32_111 : BitVec 32 := 512#32
  let v374 : BitVec 32 := Scalar.muli arg7 c512_i32_111
  let v375 : BitVec 32 := v374
  let v384 : Index := Scalar.indexCast v375
  let c256 : Index := 256#32
  ![0, v384.toNat, 256]
def k0_off52 (i : grid0.Coords) (k0_t4 : Fin (k0_t4_loop i).trips) : Fin 3 → Nat :=
  let c0_119 : Index := 0#32
  let c2_i32_12 : BitVec 32 := 2#32
  let arg2 : BitVec 32 := BitVec.ofNat 32 (i 2).val
  let c0_i32 : BitVec 32 := 0#32
  let v14 : BitVec 1 := Scalar.cmpi .sgt arg2 c0_i32
  let v15 : BitVec 32 := Scalar.extui v14
  let c0_i32_4 : BitVec 32 := 0#32
  let v16 : BitVec 1 := Scalar.cmpi .slt arg2 c0_i32_4
  let v17 : BitVec 32 := Scalar.extui v16
  let v18 : BitVec 32 := Scalar.subi v15 v17
  let c2_i32 : BitVec 32 := 2#32
  let c0_i32_5 : BitVec 32 := 0#32
  let v19 : BitVec 1 := Scalar.cmpi .sgt c2_i32 c0_i32_5
  let v20 : BitVec 32 := Scalar.extui v19
  let c0_i32_6 : BitVec 32 := 0#32
  let v21 : BitVec 1 := Scalar.cmpi .slt c2_i32 c0_i32_6
  let v22 : BitVec 32 := Scalar.extui v21
  let v23 : BitVec 32 := Scalar.subi v20 v22
  let v24 : BitVec 1 := Scalar.cmpi .ne v18 v23
  let v25 : BitVec 32 := Scalar.remsi arg2 c2_i32
  let c0_i32_7 : BitVec 32 := 0#32
  let v26 : BitVec 1 := Scalar.cmpi .ne v25 c0_i32_7
  let v27 : BitVec 1 := Scalar.andi v24 v26
  let v13 : BitVec 32 := Scalar.divsi arg2 c2_i32
  let c1_i32 : BitVec 32 := 1#32
  let v28 : BitVec 32 := Scalar.subi v13 c1_i32
  let v29 : BitVec 32 := Scalar.select v27 v28 v13
  let v37 : BitVec 32 := Scalar.muli c2_i32_12 v29
  let v38 : BitVec 32 := Scalar.subi arg2 v37
  let c1_i32_13 : BitVec 32 := 1#32
  let v40 : BitVec 32 := Scalar.divsi v38 c1_i32_13
  let v41 : BitVec 32 := Scalar.muli v40 c1_i32_13
  let v42 : BitVec 32 := Scalar.addi v37 v41
  let c1_i32_15 : BitVec 32 := 1#32
  let arg7 : BitVec 32 := Scf.iv v42 c1_i32_15 k0_t4
  let c512_i32_111 : BitVec 32 := 512#32
  let v374 : BitVec 32 := Scalar.muli arg7 c512_i32_111
  let v375 : BitVec 32 := v374
  let v388 : Index := Scalar.indexCast v375
  let c384 : Index := 384#32
  ![0, v388.toNat, 384]
def k0_off53 (i : grid0.Coords) (k0_t4 : Fin (k0_t4_loop i).trips) : Fin 3 → Nat :=
  let c0_121 : Index := 0#32
  let c2_i32_12 : BitVec 32 := 2#32
  let arg2 : BitVec 32 := BitVec.ofNat 32 (i 2).val
  let c0_i32 : BitVec 32 := 0#32
  let v14 : BitVec 1 := Scalar.cmpi .sgt arg2 c0_i32
  let v15 : BitVec 32 := Scalar.extui v14
  let c0_i32_4 : BitVec 32 := 0#32
  let v16 : BitVec 1 := Scalar.cmpi .slt arg2 c0_i32_4
  let v17 : BitVec 32 := Scalar.extui v16
  let v18 : BitVec 32 := Scalar.subi v15 v17
  let c2_i32 : BitVec 32 := 2#32
  let c0_i32_5 : BitVec 32 := 0#32
  let v19 : BitVec 1 := Scalar.cmpi .sgt c2_i32 c0_i32_5
  let v20 : BitVec 32 := Scalar.extui v19
  let c0_i32_6 : BitVec 32 := 0#32
  let v21 : BitVec 1 := Scalar.cmpi .slt c2_i32 c0_i32_6
  let v22 : BitVec 32 := Scalar.extui v21
  let v23 : BitVec 32 := Scalar.subi v20 v22
  let v24 : BitVec 1 := Scalar.cmpi .ne v18 v23
  let v25 : BitVec 32 := Scalar.remsi arg2 c2_i32
  let c0_i32_7 : BitVec 32 := 0#32
  let v26 : BitVec 1 := Scalar.cmpi .ne v25 c0_i32_7
  let v27 : BitVec 1 := Scalar.andi v24 v26
  let v13 : BitVec 32 := Scalar.divsi arg2 c2_i32
  let c1_i32 : BitVec 32 := 1#32
  let v28 : BitVec 32 := Scalar.subi v13 c1_i32
  let v29 : BitVec 32 := Scalar.select v27 v28 v13
  let v37 : BitVec 32 := Scalar.muli c2_i32_12 v29
  let v38 : BitVec 32 := Scalar.subi arg2 v37
  let c1_i32_13 : BitVec 32 := 1#32
  let v40 : BitVec 32 := Scalar.divsi v38 c1_i32_13
  let v41 : BitVec 32 := Scalar.muli v40 c1_i32_13
  let v42 : BitVec 32 := Scalar.addi v37 v41
  let c1_i32_15 : BitVec 32 := 1#32
  let arg7 : BitVec 32 := Scf.iv v42 c1_i32_15 k0_t4
  let c512_i32_111 : BitVec 32 := 512#32
  let v374 : BitVec 32 := Scalar.muli arg7 c512_i32_111
  let v375 : BitVec 32 := v374
  let v392 : Index := Scalar.indexCast v375
  let c512 : Index := 512#32
  ![0, v392.toNat, 512]
def k0_off54 (i : grid0.Coords) (k0_t4 : Fin (k0_t4_loop i).trips) : Fin 3 → Nat :=
  let c0_123 : Index := 0#32
  let c2_i32_12 : BitVec 32 := 2#32
  let arg2 : BitVec 32 := BitVec.ofNat 32 (i 2).val
  let c0_i32 : BitVec 32 := 0#32
  let v14 : BitVec 1 := Scalar.cmpi .sgt arg2 c0_i32
  let v15 : BitVec 32 := Scalar.extui v14
  let c0_i32_4 : BitVec 32 := 0#32
  let v16 : BitVec 1 := Scalar.cmpi .slt arg2 c0_i32_4
  let v17 : BitVec 32 := Scalar.extui v16
  let v18 : BitVec 32 := Scalar.subi v15 v17
  let c2_i32 : BitVec 32 := 2#32
  let c0_i32_5 : BitVec 32 := 0#32
  let v19 : BitVec 1 := Scalar.cmpi .sgt c2_i32 c0_i32_5
  let v20 : BitVec 32 := Scalar.extui v19
  let c0_i32_6 : BitVec 32 := 0#32
  let v21 : BitVec 1 := Scalar.cmpi .slt c2_i32 c0_i32_6
  let v22 : BitVec 32 := Scalar.extui v21
  let v23 : BitVec 32 := Scalar.subi v20 v22
  let v24 : BitVec 1 := Scalar.cmpi .ne v18 v23
  let v25 : BitVec 32 := Scalar.remsi arg2 c2_i32
  let c0_i32_7 : BitVec 32 := 0#32
  let v26 : BitVec 1 := Scalar.cmpi .ne v25 c0_i32_7
  let v27 : BitVec 1 := Scalar.andi v24 v26
  let v13 : BitVec 32 := Scalar.divsi arg2 c2_i32
  let c1_i32 : BitVec 32 := 1#32
  let v28 : BitVec 32 := Scalar.subi v13 c1_i32
  let v29 : BitVec 32 := Scalar.select v27 v28 v13
  let v37 : BitVec 32 := Scalar.muli c2_i32_12 v29
  let v38 : BitVec 32 := Scalar.subi arg2 v37
  let c1_i32_13 : BitVec 32 := 1#32
  let v40 : BitVec 32 := Scalar.divsi v38 c1_i32_13
  let v41 : BitVec 32 := Scalar.muli v40 c1_i32_13
  let v42 : BitVec 32 := Scalar.addi v37 v41
  let c1_i32_15 : BitVec 32 := 1#32
  let arg7 : BitVec 32 := Scf.iv v42 c1_i32_15 k0_t4
  let c512_i32_111 : BitVec 32 := 512#32
  let v374 : BitVec 32 := Scalar.muli arg7 c512_i32_111
  let v375 : BitVec 32 := v374
  let v396 : Index := Scalar.indexCast v375
  let c640 : Index := 640#32
  ![0, v396.toNat, 640]
def k0_off55 (i : grid0.Coords) (k0_t4 : Fin (k0_t4_loop i).trips) : Fin 3 → Nat :=
  let c0_125 : Index := 0#32
  let c2_i32_12 : BitVec 32 := 2#32
  let arg2 : BitVec 32 := BitVec.ofNat 32 (i 2).val
  let c0_i32 : BitVec 32 := 0#32
  let v14 : BitVec 1 := Scalar.cmpi .sgt arg2 c0_i32
  let v15 : BitVec 32 := Scalar.extui v14
  let c0_i32_4 : BitVec 32 := 0#32
  let v16 : BitVec 1 := Scalar.cmpi .slt arg2 c0_i32_4
  let v17 : BitVec 32 := Scalar.extui v16
  let v18 : BitVec 32 := Scalar.subi v15 v17
  let c2_i32 : BitVec 32 := 2#32
  let c0_i32_5 : BitVec 32 := 0#32
  let v19 : BitVec 1 := Scalar.cmpi .sgt c2_i32 c0_i32_5
  let v20 : BitVec 32 := Scalar.extui v19
  let c0_i32_6 : BitVec 32 := 0#32
  let v21 : BitVec 1 := Scalar.cmpi .slt c2_i32 c0_i32_6
  let v22 : BitVec 32 := Scalar.extui v21
  let v23 : BitVec 32 := Scalar.subi v20 v22
  let v24 : BitVec 1 := Scalar.cmpi .ne v18 v23
  let v25 : BitVec 32 := Scalar.remsi arg2 c2_i32
  let c0_i32_7 : BitVec 32 := 0#32
  let v26 : BitVec 1 := Scalar.cmpi .ne v25 c0_i32_7
  let v27 : BitVec 1 := Scalar.andi v24 v26
  let v13 : BitVec 32 := Scalar.divsi arg2 c2_i32
  let c1_i32 : BitVec 32 := 1#32
  let v28 : BitVec 32 := Scalar.subi v13 c1_i32
  let v29 : BitVec 32 := Scalar.select v27 v28 v13
  let v37 : BitVec 32 := Scalar.muli c2_i32_12 v29
  let v38 : BitVec 32 := Scalar.subi arg2 v37
  let c1_i32_13 : BitVec 32 := 1#32
  let v40 : BitVec 32 := Scalar.divsi v38 c1_i32_13
  let v41 : BitVec 32 := Scalar.muli v40 c1_i32_13
  let v42 : BitVec 32 := Scalar.addi v37 v41
  let c1_i32_15 : BitVec 32 := 1#32
  let arg7 : BitVec 32 := Scf.iv v42 c1_i32_15 k0_t4
  let c512_i32_111 : BitVec 32 := 512#32
  let v374 : BitVec 32 := Scalar.muli arg7 c512_i32_111
  let v375 : BitVec 32 := v374
  let v400 : Index := Scalar.indexCast v375
  let c768 : Index := 768#32
  ![0, v400.toNat, 768]
def k0_off56 (i : grid0.Coords) (k0_t4 : Fin (k0_t4_loop i).trips) : Fin 3 → Nat :=
  let c0_127 : Index := 0#32
  let c2_i32_12 : BitVec 32 := 2#32
  let arg2 : BitVec 32 := BitVec.ofNat 32 (i 2).val
  let c0_i32 : BitVec 32 := 0#32
  let v14 : BitVec 1 := Scalar.cmpi .sgt arg2 c0_i32
  let v15 : BitVec 32 := Scalar.extui v14
  let c0_i32_4 : BitVec 32 := 0#32
  let v16 : BitVec 1 := Scalar.cmpi .slt arg2 c0_i32_4
  let v17 : BitVec 32 := Scalar.extui v16
  let v18 : BitVec 32 := Scalar.subi v15 v17
  let c2_i32 : BitVec 32 := 2#32
  let c0_i32_5 : BitVec 32 := 0#32
  let v19 : BitVec 1 := Scalar.cmpi .sgt c2_i32 c0_i32_5
  let v20 : BitVec 32 := Scalar.extui v19
  let c0_i32_6 : BitVec 32 := 0#32
  let v21 : BitVec 1 := Scalar.cmpi .slt c2_i32 c0_i32_6
  let v22 : BitVec 32 := Scalar.extui v21
  let v23 : BitVec 32 := Scalar.subi v20 v22
  let v24 : BitVec 1 := Scalar.cmpi .ne v18 v23
  let v25 : BitVec 32 := Scalar.remsi arg2 c2_i32
  let c0_i32_7 : BitVec 32 := 0#32
  let v26 : BitVec 1 := Scalar.cmpi .ne v25 c0_i32_7
  let v27 : BitVec 1 := Scalar.andi v24 v26
  let v13 : BitVec 32 := Scalar.divsi arg2 c2_i32
  let c1_i32 : BitVec 32 := 1#32
  let v28 : BitVec 32 := Scalar.subi v13 c1_i32
  let v29 : BitVec 32 := Scalar.select v27 v28 v13
  let v37 : BitVec 32 := Scalar.muli c2_i32_12 v29
  let v38 : BitVec 32 := Scalar.subi arg2 v37
  let c1_i32_13 : BitVec 32 := 1#32
  let v40 : BitVec 32 := Scalar.divsi v38 c1_i32_13
  let v41 : BitVec 32 := Scalar.muli v40 c1_i32_13
  let v42 : BitVec 32 := Scalar.addi v37 v41
  let c1_i32_15 : BitVec 32 := 1#32
  let arg7 : BitVec 32 := Scf.iv v42 c1_i32_15 k0_t4
  let c512_i32_111 : BitVec 32 := 512#32
  let v374 : BitVec 32 := Scalar.muli arg7 c512_i32_111
  let v375 : BitVec 32 := v374
  let v404 : Index := Scalar.indexCast v375
  let c896 : Index := 896#32
  ![0, v404.toNat, 896]
def k0_off57 (i : grid0.Coords) (k0_t4 : Fin (k0_t4_loop i).trips) : Fin 3 → Nat :=
  let c0_129 : Index := 0#32
  let c0_130 : Index := 0#32
  let c2_i32_12 : BitVec 32 := 2#32
  let arg2 : BitVec 32 := BitVec.ofNat 32 (i 2).val
  let c0_i32 : BitVec 32 := 0#32
  let v14 : BitVec 1 := Scalar.cmpi .sgt arg2 c0_i32
  let v15 : BitVec 32 := Scalar.extui v14
  let c0_i32_4 : BitVec 32 := 0#32
  let v16 : BitVec 1 := Scalar.cmpi .slt arg2 c0_i32_4
  let v17 : BitVec 32 := Scalar.extui v16
  let v18 : BitVec 32 := Scalar.subi v15 v17
  let c2_i32 : BitVec 32 := 2#32
  let c0_i32_5 : BitVec 32 := 0#32
  let v19 : BitVec 1 := Scalar.cmpi .sgt c2_i32 c0_i32_5
  let v20 : BitVec 32 := Scalar.extui v19
  let c0_i32_6 : BitVec 32 := 0#32
  let v21 : BitVec 1 := Scalar.cmpi .slt c2_i32 c0_i32_6
  let v22 : BitVec 32 := Scalar.extui v21
  let v23 : BitVec 32 := Scalar.subi v20 v22
  let v24 : BitVec 1 := Scalar.cmpi .ne v18 v23
  let v25 : BitVec 32 := Scalar.remsi arg2 c2_i32
  let c0_i32_7 : BitVec 32 := 0#32
  let v26 : BitVec 1 := Scalar.cmpi .ne v25 c0_i32_7
  let v27 : BitVec 1 := Scalar.andi v24 v26
  let v13 : BitVec 32 := Scalar.divsi arg2 c2_i32
  let c1_i32 : BitVec 32 := 1#32
  let v28 : BitVec 32 := Scalar.subi v13 c1_i32
  let v29 : BitVec 32 := Scalar.select v27 v28 v13
  let v37 : BitVec 32 := Scalar.muli c2_i32_12 v29
  let v38 : BitVec 32 := Scalar.subi arg2 v37
  let c1_i32_13 : BitVec 32 := 1#32
  let v40 : BitVec 32 := Scalar.divsi v38 c1_i32_13
  let v41 : BitVec 32 := Scalar.muli v40 c1_i32_13
  let v42 : BitVec 32 := Scalar.addi v37 v41
  let c1_i32_15 : BitVec 32 := 1#32
  let arg7 : BitVec 32 := Scf.iv v42 c1_i32_15 k0_t4
  let c512_i32_111 : BitVec 32 := 512#32
  let v374 : BitVec 32 := Scalar.muli arg7 c512_i32_111
  let v375 : BitVec 32 := v374
  let v408 : Index := Scalar.indexCast v375
  ![0, 0, v408.toNat]
def k0_off58 (i : grid0.Coords) (k0_t4 : Fin (k0_t4_loop i).trips) : Fin 3 → Nat :=
  let c0_133 : Index := 0#32
  let c64 : Index := 64#32
  let c2_i32_12 : BitVec 32 := 2#32
  let arg2 : BitVec 32 := BitVec.ofNat 32 (i 2).val
  let c0_i32 : BitVec 32 := 0#32
  let v14 : BitVec 1 := Scalar.cmpi .sgt arg2 c0_i32
  let v15 : BitVec 32 := Scalar.extui v14
  let c0_i32_4 : BitVec 32 := 0#32
  let v16 : BitVec 1 := Scalar.cmpi .slt arg2 c0_i32_4
  let v17 : BitVec 32 := Scalar.extui v16
  let v18 : BitVec 32 := Scalar.subi v15 v17
  let c2_i32 : BitVec 32 := 2#32
  let c0_i32_5 : BitVec 32 := 0#32
  let v19 : BitVec 1 := Scalar.cmpi .sgt c2_i32 c0_i32_5
  let v20 : BitVec 32 := Scalar.extui v19
  let c0_i32_6 : BitVec 32 := 0#32
  let v21 : BitVec 1 := Scalar.cmpi .slt c2_i32 c0_i32_6
  let v22 : BitVec 32 := Scalar.extui v21
  let v23 : BitVec 32 := Scalar.subi v20 v22
  let v24 : BitVec 1 := Scalar.cmpi .ne v18 v23
  let v25 : BitVec 32 := Scalar.remsi arg2 c2_i32
  let c0_i32_7 : BitVec 32 := 0#32
  let v26 : BitVec 1 := Scalar.cmpi .ne v25 c0_i32_7
  let v27 : BitVec 1 := Scalar.andi v24 v26
  let v13 : BitVec 32 := Scalar.divsi arg2 c2_i32
  let c1_i32 : BitVec 32 := 1#32
  let v28 : BitVec 32 := Scalar.subi v13 c1_i32
  let v29 : BitVec 32 := Scalar.select v27 v28 v13
  let v37 : BitVec 32 := Scalar.muli c2_i32_12 v29
  let v38 : BitVec 32 := Scalar.subi arg2 v37
  let c1_i32_13 : BitVec 32 := 1#32
  let v40 : BitVec 32 := Scalar.divsi v38 c1_i32_13
  let v41 : BitVec 32 := Scalar.muli v40 c1_i32_13
  let v42 : BitVec 32 := Scalar.addi v37 v41
  let c1_i32_15 : BitVec 32 := 1#32
  let arg7 : BitVec 32 := Scf.iv v42 c1_i32_15 k0_t4
  let c512_i32_111 : BitVec 32 := 512#32
  let v374 : BitVec 32 := Scalar.muli arg7 c512_i32_111
  let v375 : BitVec 32 := v374
  let v418 : Index := Scalar.indexCast v375
  ![0, 64, v418.toNat]
def k0_off59 (i : grid0.Coords) (k0_t4 : Fin (k0_t4_loop i).trips) : Fin 3 → Nat :=
  let c0_136 : Index := 0#32
  let c128_137 : Index := 128#32
  let c2_i32_12 : BitVec 32 := 2#32
  let arg2 : BitVec 32 := BitVec.ofNat 32 (i 2).val
  let c0_i32 : BitVec 32 := 0#32
  let v14 : BitVec 1 := Scalar.cmpi .sgt arg2 c0_i32
  let v15 : BitVec 32 := Scalar.extui v14
  let c0_i32_4 : BitVec 32 := 0#32
  let v16 : BitVec 1 := Scalar.cmpi .slt arg2 c0_i32_4
  let v17 : BitVec 32 := Scalar.extui v16
  let v18 : BitVec 32 := Scalar.subi v15 v17
  let c2_i32 : BitVec 32 := 2#32
  let c0_i32_5 : BitVec 32 := 0#32
  let v19 : BitVec 1 := Scalar.cmpi .sgt c2_i32 c0_i32_5
  let v20 : BitVec 32 := Scalar.extui v19
  let c0_i32_6 : BitVec 32 := 0#32
  let v21 : BitVec 1 := Scalar.cmpi .slt c2_i32 c0_i32_6
  let v22 : BitVec 32 := Scalar.extui v21
  let v23 : BitVec 32 := Scalar.subi v20 v22
  let v24 : BitVec 1 := Scalar.cmpi .ne v18 v23
  let v25 : BitVec 32 := Scalar.remsi arg2 c2_i32
  let c0_i32_7 : BitVec 32 := 0#32
  let v26 : BitVec 1 := Scalar.cmpi .ne v25 c0_i32_7
  let v27 : BitVec 1 := Scalar.andi v24 v26
  let v13 : BitVec 32 := Scalar.divsi arg2 c2_i32
  let c1_i32 : BitVec 32 := 1#32
  let v28 : BitVec 32 := Scalar.subi v13 c1_i32
  let v29 : BitVec 32 := Scalar.select v27 v28 v13
  let v37 : BitVec 32 := Scalar.muli c2_i32_12 v29
  let v38 : BitVec 32 := Scalar.subi arg2 v37
  let c1_i32_13 : BitVec 32 := 1#32
  let v40 : BitVec 32 := Scalar.divsi v38 c1_i32_13
  let v41 : BitVec 32 := Scalar.muli v40 c1_i32_13
  let v42 : BitVec 32 := Scalar.addi v37 v41
  let c1_i32_15 : BitVec 32 := 1#32
  let arg7 : BitVec 32 := Scf.iv v42 c1_i32_15 k0_t4
  let c512_i32_111 : BitVec 32 := 512#32
  let v374 : BitVec 32 := Scalar.muli arg7 c512_i32_111
  let v375 : BitVec 32 := v374
  let v428 : Index := Scalar.indexCast v375
  ![0, 128, v428.toNat]
def k0_off60 (i : grid0.Coords) (k0_t4 : Fin (k0_t4_loop i).trips) : Fin 3 → Nat :=
  let c0_140 : Index := 0#32
  let c192 : Index := 192#32
  let c2_i32_12 : BitVec 32 := 2#32
  let arg2 : BitVec 32 := BitVec.ofNat 32 (i 2).val
  let c0_i32 : BitVec 32 := 0#32
  let v14 : BitVec 1 := Scalar.cmpi .sgt arg2 c0_i32
  let v15 : BitVec 32 := Scalar.extui v14
  let c0_i32_4 : BitVec 32 := 0#32
  let v16 : BitVec 1 := Scalar.cmpi .slt arg2 c0_i32_4
  let v17 : BitVec 32 := Scalar.extui v16
  let v18 : BitVec 32 := Scalar.subi v15 v17
  let c2_i32 : BitVec 32 := 2#32
  let c0_i32_5 : BitVec 32 := 0#32
  let v19 : BitVec 1 := Scalar.cmpi .sgt c2_i32 c0_i32_5
  let v20 : BitVec 32 := Scalar.extui v19
  let c0_i32_6 : BitVec 32 := 0#32
  let v21 : BitVec 1 := Scalar.cmpi .slt c2_i32 c0_i32_6
  let v22 : BitVec 32 := Scalar.extui v21
  let v23 : BitVec 32 := Scalar.subi v20 v22
  let v24 : BitVec 1 := Scalar.cmpi .ne v18 v23
  let v25 : BitVec 32 := Scalar.remsi arg2 c2_i32
  let c0_i32_7 : BitVec 32 := 0#32
  let v26 : BitVec 1 := Scalar.cmpi .ne v25 c0_i32_7
  let v27 : BitVec 1 := Scalar.andi v24 v26
  let v13 : BitVec 32 := Scalar.divsi arg2 c2_i32
  let c1_i32 : BitVec 32 := 1#32
  let v28 : BitVec 32 := Scalar.subi v13 c1_i32
  let v29 : BitVec 32 := Scalar.select v27 v28 v13
  let v37 : BitVec 32 := Scalar.muli c2_i32_12 v29
  let v38 : BitVec 32 := Scalar.subi arg2 v37
  let c1_i32_13 : BitVec 32 := 1#32
  let v40 : BitVec 32 := Scalar.divsi v38 c1_i32_13
  let v41 : BitVec 32 := Scalar.muli v40 c1_i32_13
  let v42 : BitVec 32 := Scalar.addi v37 v41
  let c1_i32_15 : BitVec 32 := 1#32
  let arg7 : BitVec 32 := Scf.iv v42 c1_i32_15 k0_t4
  let c512_i32_111 : BitVec 32 := 512#32
  let v374 : BitVec 32 := Scalar.muli arg7 c512_i32_111
  let v375 : BitVec 32 := v374
  let v438 : Index := Scalar.indexCast v375
  ![0, 192, v438.toNat]
def k0_off61 (i : grid0.Coords) (k0_t4 : Fin (k0_t4_loop i).trips) : Fin 3 → Nat :=
  let c0_143 : Index := 0#32
  let c256_144 : Index := 256#32
  let c2_i32_12 : BitVec 32 := 2#32
  let arg2 : BitVec 32 := BitVec.ofNat 32 (i 2).val
  let c0_i32 : BitVec 32 := 0#32
  let v14 : BitVec 1 := Scalar.cmpi .sgt arg2 c0_i32
  let v15 : BitVec 32 := Scalar.extui v14
  let c0_i32_4 : BitVec 32 := 0#32
  let v16 : BitVec 1 := Scalar.cmpi .slt arg2 c0_i32_4
  let v17 : BitVec 32 := Scalar.extui v16
  let v18 : BitVec 32 := Scalar.subi v15 v17
  let c2_i32 : BitVec 32 := 2#32
  let c0_i32_5 : BitVec 32 := 0#32
  let v19 : BitVec 1 := Scalar.cmpi .sgt c2_i32 c0_i32_5
  let v20 : BitVec 32 := Scalar.extui v19
  let c0_i32_6 : BitVec 32 := 0#32
  let v21 : BitVec 1 := Scalar.cmpi .slt c2_i32 c0_i32_6
  let v22 : BitVec 32 := Scalar.extui v21
  let v23 : BitVec 32 := Scalar.subi v20 v22
  let v24 : BitVec 1 := Scalar.cmpi .ne v18 v23
  let v25 : BitVec 32 := Scalar.remsi arg2 c2_i32
  let c0_i32_7 : BitVec 32 := 0#32
  let v26 : BitVec 1 := Scalar.cmpi .ne v25 c0_i32_7
  let v27 : BitVec 1 := Scalar.andi v24 v26
  let v13 : BitVec 32 := Scalar.divsi arg2 c2_i32
  let c1_i32 : BitVec 32 := 1#32
  let v28 : BitVec 32 := Scalar.subi v13 c1_i32
  let v29 : BitVec 32 := Scalar.select v27 v28 v13
  let v37 : BitVec 32 := Scalar.muli c2_i32_12 v29
  let v38 : BitVec 32 := Scalar.subi arg2 v37
  let c1_i32_13 : BitVec 32 := 1#32
  let v40 : BitVec 32 := Scalar.divsi v38 c1_i32_13
  let v41 : BitVec 32 := Scalar.muli v40 c1_i32_13
  let v42 : BitVec 32 := Scalar.addi v37 v41
  let c1_i32_15 : BitVec 32 := 1#32
  let arg7 : BitVec 32 := Scf.iv v42 c1_i32_15 k0_t4
  let c512_i32_111 : BitVec 32 := 512#32
  let v374 : BitVec 32 := Scalar.muli arg7 c512_i32_111
  let v375 : BitVec 32 := v374
  let v448 : Index := Scalar.indexCast v375
  ![0, 256, v448.toNat]
def k0_off62 (i : grid0.Coords) (k0_t4 : Fin (k0_t4_loop i).trips) : Fin 3 → Nat :=
  let c0_147 : Index := 0#32
  let c320 : Index := 320#32
  let c2_i32_12 : BitVec 32 := 2#32
  let arg2 : BitVec 32 := BitVec.ofNat 32 (i 2).val
  let c0_i32 : BitVec 32 := 0#32
  let v14 : BitVec 1 := Scalar.cmpi .sgt arg2 c0_i32
  let v15 : BitVec 32 := Scalar.extui v14
  let c0_i32_4 : BitVec 32 := 0#32
  let v16 : BitVec 1 := Scalar.cmpi .slt arg2 c0_i32_4
  let v17 : BitVec 32 := Scalar.extui v16
  let v18 : BitVec 32 := Scalar.subi v15 v17
  let c2_i32 : BitVec 32 := 2#32
  let c0_i32_5 : BitVec 32 := 0#32
  let v19 : BitVec 1 := Scalar.cmpi .sgt c2_i32 c0_i32_5
  let v20 : BitVec 32 := Scalar.extui v19
  let c0_i32_6 : BitVec 32 := 0#32
  let v21 : BitVec 1 := Scalar.cmpi .slt c2_i32 c0_i32_6
  let v22 : BitVec 32 := Scalar.extui v21
  let v23 : BitVec 32 := Scalar.subi v20 v22
  let v24 : BitVec 1 := Scalar.cmpi .ne v18 v23
  let v25 : BitVec 32 := Scalar.remsi arg2 c2_i32
  let c0_i32_7 : BitVec 32 := 0#32
  let v26 : BitVec 1 := Scalar.cmpi .ne v25 c0_i32_7
  let v27 : BitVec 1 := Scalar.andi v24 v26
  let v13 : BitVec 32 := Scalar.divsi arg2 c2_i32
  let c1_i32 : BitVec 32 := 1#32
  let v28 : BitVec 32 := Scalar.subi v13 c1_i32
  let v29 : BitVec 32 := Scalar.select v27 v28 v13
  let v37 : BitVec 32 := Scalar.muli c2_i32_12 v29
  let v38 : BitVec 32 := Scalar.subi arg2 v37
  let c1_i32_13 : BitVec 32 := 1#32
  let v40 : BitVec 32 := Scalar.divsi v38 c1_i32_13
  let v41 : BitVec 32 := Scalar.muli v40 c1_i32_13
  let v42 : BitVec 32 := Scalar.addi v37 v41
  let c1_i32_15 : BitVec 32 := 1#32
  let arg7 : BitVec 32 := Scf.iv v42 c1_i32_15 k0_t4
  let c512_i32_111 : BitVec 32 := 512#32
  let v374 : BitVec 32 := Scalar.muli arg7 c512_i32_111
  let v375 : BitVec 32 := v374
  let v458 : Index := Scalar.indexCast v375
  ![0, 320, v458.toNat]
def k0_off63 (i : grid0.Coords) (k0_t4 : Fin (k0_t4_loop i).trips) : Fin 3 → Nat :=
  let c0_150 : Index := 0#32
  let c384_151 : Index := 384#32
  let c2_i32_12 : BitVec 32 := 2#32
  let arg2 : BitVec 32 := BitVec.ofNat 32 (i 2).val
  let c0_i32 : BitVec 32 := 0#32
  let v14 : BitVec 1 := Scalar.cmpi .sgt arg2 c0_i32
  let v15 : BitVec 32 := Scalar.extui v14
  let c0_i32_4 : BitVec 32 := 0#32
  let v16 : BitVec 1 := Scalar.cmpi .slt arg2 c0_i32_4
  let v17 : BitVec 32 := Scalar.extui v16
  let v18 : BitVec 32 := Scalar.subi v15 v17
  let c2_i32 : BitVec 32 := 2#32
  let c0_i32_5 : BitVec 32 := 0#32
  let v19 : BitVec 1 := Scalar.cmpi .sgt c2_i32 c0_i32_5
  let v20 : BitVec 32 := Scalar.extui v19
  let c0_i32_6 : BitVec 32 := 0#32
  let v21 : BitVec 1 := Scalar.cmpi .slt c2_i32 c0_i32_6
  let v22 : BitVec 32 := Scalar.extui v21
  let v23 : BitVec 32 := Scalar.subi v20 v22
  let v24 : BitVec 1 := Scalar.cmpi .ne v18 v23
  let v25 : BitVec 32 := Scalar.remsi arg2 c2_i32
  let c0_i32_7 : BitVec 32 := 0#32
  let v26 : BitVec 1 := Scalar.cmpi .ne v25 c0_i32_7
  let v27 : BitVec 1 := Scalar.andi v24 v26
  let v13 : BitVec 32 := Scalar.divsi arg2 c2_i32
  let c1_i32 : BitVec 32 := 1#32
  let v28 : BitVec 32 := Scalar.subi v13 c1_i32
  let v29 : BitVec 32 := Scalar.select v27 v28 v13
  let v37 : BitVec 32 := Scalar.muli c2_i32_12 v29
  let v38 : BitVec 32 := Scalar.subi arg2 v37
  let c1_i32_13 : BitVec 32 := 1#32
  let v40 : BitVec 32 := Scalar.divsi v38 c1_i32_13
  let v41 : BitVec 32 := Scalar.muli v40 c1_i32_13
  let v42 : BitVec 32 := Scalar.addi v37 v41
  let c1_i32_15 : BitVec 32 := 1#32
  let arg7 : BitVec 32 := Scf.iv v42 c1_i32_15 k0_t4
  let c512_i32_111 : BitVec 32 := 512#32
  let v374 : BitVec 32 := Scalar.muli arg7 c512_i32_111
  let v375 : BitVec 32 := v374
  let v468 : Index := Scalar.indexCast v375
  ![0, 384, v468.toNat]
def k0_off64 (i : grid0.Coords) (k0_t4 : Fin (k0_t4_loop i).trips) : Fin 3 → Nat :=
  let c0_154 : Index := 0#32
  let c448 : Index := 448#32
  let c2_i32_12 : BitVec 32 := 2#32
  let arg2 : BitVec 32 := BitVec.ofNat 32 (i 2).val
  let c0_i32 : BitVec 32 := 0#32
  let v14 : BitVec 1 := Scalar.cmpi .sgt arg2 c0_i32
  let v15 : BitVec 32 := Scalar.extui v14
  let c0_i32_4 : BitVec 32 := 0#32
  let v16 : BitVec 1 := Scalar.cmpi .slt arg2 c0_i32_4
  let v17 : BitVec 32 := Scalar.extui v16
  let v18 : BitVec 32 := Scalar.subi v15 v17
  let c2_i32 : BitVec 32 := 2#32
  let c0_i32_5 : BitVec 32 := 0#32
  let v19 : BitVec 1 := Scalar.cmpi .sgt c2_i32 c0_i32_5
  let v20 : BitVec 32 := Scalar.extui v19
  let c0_i32_6 : BitVec 32 := 0#32
  let v21 : BitVec 1 := Scalar.cmpi .slt c2_i32 c0_i32_6
  let v22 : BitVec 32 := Scalar.extui v21
  let v23 : BitVec 32 := Scalar.subi v20 v22
  let v24 : BitVec 1 := Scalar.cmpi .ne v18 v23
  let v25 : BitVec 32 := Scalar.remsi arg2 c2_i32
  let c0_i32_7 : BitVec 32 := 0#32
  let v26 : BitVec 1 := Scalar.cmpi .ne v25 c0_i32_7
  let v27 : BitVec 1 := Scalar.andi v24 v26
  let v13 : BitVec 32 := Scalar.divsi arg2 c2_i32
  let c1_i32 : BitVec 32 := 1#32
  let v28 : BitVec 32 := Scalar.subi v13 c1_i32
  let v29 : BitVec 32 := Scalar.select v27 v28 v13
  let v37 : BitVec 32 := Scalar.muli c2_i32_12 v29
  let v38 : BitVec 32 := Scalar.subi arg2 v37
  let c1_i32_13 : BitVec 32 := 1#32
  let v40 : BitVec 32 := Scalar.divsi v38 c1_i32_13
  let v41 : BitVec 32 := Scalar.muli v40 c1_i32_13
  let v42 : BitVec 32 := Scalar.addi v37 v41
  let c1_i32_15 : BitVec 32 := 1#32
  let arg7 : BitVec 32 := Scf.iv v42 c1_i32_15 k0_t4
  let c512_i32_111 : BitVec 32 := 512#32
  let v374 : BitVec 32 := Scalar.muli arg7 c512_i32_111
  let v375 : BitVec 32 := v374
  let v478 : Index := Scalar.indexCast v375
  ![0, 448, v478.toNat]
def k0_mult69 (i : grid0.Coords) : BitVec 32 :=
  let arg2 : BitVec 32 := BitVec.ofNat 32 (i 2).val
  let c512_i32 : BitVec 32 := 512#32
  let v45 : BitVec 32 := Scalar.muli arg2 c512_i32
  v45
def k0_off65 (i : grid0.Coords) : Fin 3 → Nat :=
  let c0_16 : Index := 0#32
  let arg2 : BitVec 32 := BitVec.ofNat 32 (i 2).val
  let c512_i32 : BitVec 32 := 512#32
  let v45 : BitVec 32 := Scalar.muli arg2 c512_i32
  let v46 : BitVec 32 := v45
  let v47 : Index := Scalar.indexCast v46
  let c0_17 : Index := 0#32
  ![0, v47.toNat, 0]
def k0_off66 (i : grid0.Coords) : Fin 3 → Nat :=
  let c0_18 : Index := 0#32
  let c0_19 : Index := 0#32
  let arg2 : BitVec 32 := BitVec.ofNat 32 (i 2).val
  let c512_i32 : BitVec 32 := 512#32
  let v45 : BitVec 32 := Scalar.muli arg2 c512_i32
  let v46 : BitVec 32 := v45
  let v50 : Index := Scalar.indexCast v46
  ![0, 0, v50.toNat]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S4x4096x16x96 : Shape := ⟨4, ![4, 4096, 16, 96]⟩
abbrev S4x4096x16x64 : Shape := ⟨4, ![4, 4096, 16, 64]⟩
abbrev S_ : Shape := ⟨0, ![]⟩
abbrev S4x16x4096x4096 : Shape := ⟨4, ![4, 16, 4096, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S4x16x4096 : Shape := ⟨3, ![4, 16, 4096]⟩
abbrev S4x16x4096x1 : Shape := ⟨4, ![4, 16, 4096, 1]⟩
abbrev S4x16x64x4096 : Shape := ⟨4, ![4, 16, 64, 4096]⟩
abbrev S4x4096x1024 : Shape := ⟨3, ![4, 4096, 1024]⟩

abbrev nBuf : Space → Nat
  | .hbm => 40
  | .vmem => 0
  | .smem => 0
  | _ => 0

abbrev bufTy : (tb : Table) → Fin (tcTables nBuf tb) → BufTy
  | .hbm, ⟨0, _⟩ => ⟨S4x4096x16x96, .f32⟩
  | .hbm, ⟨1, _⟩ => ⟨S4x4096x16x96, .f32⟩
  | .hbm, ⟨2, _⟩ => ⟨S4x4096x16x64, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S4x16x4096x4096, .f32⟩
  | .hbm, ⟨8, _⟩ => ⟨S4x16x4096x4096, .f32⟩
  | .hbm, ⟨9, _⟩ => ⟨S4x16x4096x4096, .f32⟩
  | .hbm, ⟨10, _⟩ => ⟨S4096, .i32⟩
  | .hbm, ⟨11, _⟩ => ⟨S1x4096, .i32⟩
  | .hbm, ⟨12, _⟩ => ⟨S4096, .i32⟩
  | .hbm, ⟨13, _⟩ => ⟨S4096x1, .i32⟩
  | .hbm, ⟨14, _⟩ => ⟨S4096x4096, .i32⟩
  | .hbm, ⟨15, _⟩ => ⟨S4096x4096, .i32⟩
  | .hbm, ⟨16, _⟩ => ⟨S4096x4096, .i1⟩
  | .hbm, ⟨17, _⟩ => ⟨S_, .f32⟩
  | .hbm, ⟨18, _⟩ => ⟨S_, .f32⟩
  | .hbm, ⟨19, _⟩ => ⟨S4x16x4096x4096, .i1⟩
  | .hbm, ⟨20, _⟩ => ⟨S4x16x4096x4096, .f32⟩
  | .hbm, ⟨21, _⟩ => ⟨S4x16x4096x4096, .f32⟩
  | .hbm, ⟨22, _⟩ => ⟨S_, .f32⟩
  | .hbm, ⟨23, _⟩ => ⟨S4x16x4096, .f32⟩
  | .hbm, ⟨24, _⟩ => ⟨S_, .f32⟩
  | .hbm, ⟨25, _⟩ => ⟨S4x16x4096, .f32⟩
  | .hbm, ⟨26, _⟩ => ⟨S4x16x4096, .f32⟩
  | .hbm, ⟨27, _⟩ => ⟨S4x16x4096x1, .f32⟩
  | .hbm, ⟨28, _⟩ => ⟨S4x16x4096x4096, .f32⟩
  | .hbm, ⟨29, _⟩ => ⟨S4x16x4096x4096, .f32⟩
  | .hbm, ⟨30, _⟩ => ⟨S4x16x4096x4096, .f32⟩
  | .hbm, ⟨31, _⟩ => ⟨S_, .f32⟩
  | .hbm, ⟨32, _⟩ => ⟨S4x16x4096, .f32⟩
  | .hbm, ⟨33, _⟩ => ⟨S4x16x4096x1, .f32⟩
  | .hbm, ⟨34, _⟩ => ⟨S4x16x4096x4096, .f32⟩
  | .hbm, ⟨35, _⟩ => ⟨S4x16x4096x4096, .f32⟩
  | .hbm, ⟨36, _⟩ => ⟨S4x16x64x4096, .f32⟩
  | .hbm, ⟨37, _⟩ => ⟨S4x4096x16x64, .f32⟩
  | .hbm, ⟨38, _⟩ => ⟨S4x4096x1024, .f32⟩
  | .hbm, ⟨39, _⟩ => ⟨S4x4096x1024, .bf16⟩
  | _, _ => ⟨S4x4096x16x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩

abbrev nD : Nat := 1
abbrev τ : Topo := Topo.v7x

variable {F : FTy → Type} [FloatOps F]
-- ==== Kernel2.lean ====
abbrev S4x4096x1024 : Shape := ⟨3, ![4, 4096, 1024]⟩
abbrev S2x4x9216 : Shape := ⟨3, ![2, 4, 9216]⟩
abbrev S2x3x1024 : Shape := ⟨3, ![2, 3, 1024]⟩
abbrev S2x2x1024x2816 : Shape := ⟨4, ![2, 2, 1024, 2816]⟩
abbrev S2x2x2816x1024 : Shape := ⟨4, ![2, 2, 2816, 1024]⟩
abbrev S1x1024x1024 : Shape := ⟨3, ![1, 1024, 1024]⟩
abbrev S_ : Shape := ⟨0, ![]⟩
abbrev S2x8x9216 : Shape := ⟨3, ![2, 8, 9216]⟩
abbrev S1x3x1024 : Shape := ⟨3, ![1, 3, 1024]⟩
abbrev S3x1024 : Shape := ⟨2, ![3, 1024]⟩
abbrev S1x1024 : Shape := ⟨2, ![1, 1024]⟩
abbrev S1024x1024 : Shape := ⟨2, ![1024, 1024]⟩
abbrev S1x8x1024 : Shape := ⟨3, ![1, 8, 1024]⟩
abbrev S1x1x1024x2816 : Shape := ⟨4, ![1, 1, 1024, 2816]⟩
abbrev S1x1x2816x1024 : Shape := ⟨4, ![1, 1, 2816, 1024]⟩
abbrev S1x1x1024 : Shape := ⟨3, ![1, 1, 1024]⟩
abbrev S1024 : Shape := ⟨1, ![1024]⟩
abbrev S1024x1 : Shape := ⟨2, ![1024, 1]⟩
abbrev S1x1x1024x256 : Shape := ⟨4, ![1, 1, 1024, 256]⟩
abbrev S1024x256 : Shape := ⟨2, ![1024, 256]⟩
abbrev S1x1x256x1024 : Shape := ⟨4, ![1, 1, 256, 1024]⟩
abbrev S256x1024 : Shape := ⟨2, ![256, 1024]⟩

abbrev nBuf : Space → Nat
  | .hbm => 21
  | .vmem => 15
  | .smem => 0
  | _ => 0

abbrev bufTy : (tb : Table) → Fin (tcTables nBuf tb) → BufTy
  | .hbm, ⟨0, _⟩ => ⟨S4x4096x1024, .f32⟩
  | .hbm, ⟨1, _⟩ => ⟨S4x4096x1024, .f32⟩
  | .hbm, ⟨2, _⟩ => ⟨S2x4x9216, .f32⟩
  | .hbm, ⟨3, _⟩ => ⟨S2x3x1024, .f32⟩
  | .hbm, ⟨4, _⟩ => ⟨S2x2x1024x2816, .f32⟩
  | .hbm, ⟨5, _⟩ => ⟨S2x2x1024x2816, .f32⟩
  | .hbm, ⟨6, _⟩ => ⟨S2x2x2816x1024, .f32⟩
  | .hbm, ⟨7, _⟩ => ⟨S1x1024x1024, .f32⟩
  | .hbm, ⟨8, _⟩ => ⟨S_, .i32⟩
  | .hbm, ⟨9, _⟩ => ⟨S_, .f32⟩
  | .hbm, ⟨10, _⟩ => ⟨S2x8x9216, .f32⟩
  | .hbm, ⟨11, _⟩ => ⟨S2x2x1024x2816, .bf16⟩
  | .hbm, ⟨12, _⟩ => ⟨S2x2x1024x2816, .bf16⟩
  | .hbm, ⟨13, _⟩ => ⟨S2x2x2816x1024, .bf16⟩
  | .hbm, ⟨14, _⟩ => ⟨S1x3x1024, .f32⟩
  | .hbm, ⟨15, _⟩ => ⟨S3x1024, .f32⟩
  | .hbm, ⟨16, _⟩ => ⟨S1x1024, .f32⟩
  | .hbm, ⟨17, _⟩ => ⟨S4x4096x1024, .bf16⟩
  | .hbm, ⟨18, _⟩ => ⟨S1024x1024, .f32⟩
  | .hbm, ⟨19, _⟩ => ⟨S1024x1024, .bf16⟩
  | .hbm, ⟨20, _⟩ => ⟨S4x4096x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x1024, .bf16⟩
  | .local _ .vmem, ⟨3, _⟩ => ⟨S1x1024x1024, .bf16⟩
  | .local _ .vmem, ⟨4, _⟩ => ⟨S1x8x1024, .f32⟩
  | .local _ .vmem, ⟨5, _⟩ => ⟨S1024x1024, .bf16⟩
  | .local _ .vmem, ⟨6, _⟩ => ⟨S1x8x1024, .f32⟩
  | .local _ .vmem, ⟨7, _⟩ => ⟨S1x8x1024, .f32⟩
  | .local _ .vmem, ⟨8, _⟩ => ⟨S1x8x1024, .f32⟩
  | .local _ .vmem, ⟨9, _⟩ => ⟨S1x1024, .f32⟩
  | .local _ .vmem, ⟨10, _⟩ => ⟨S1x1x1024x2816, .bf16⟩
  | .local _ .vmem, ⟨11, _⟩ => ⟨S1x1x1024x2816, .bf16⟩
  | .local _ .vmem, ⟨12, _⟩ => ⟨S1x1x2816x1024, .bf16⟩
  | .local _ .vmem, ⟨13, _⟩ => ⟨S1x1024x1024, .f32⟩
  | .local _ .vmem, ⟨14, _⟩ => ⟨S1x1024x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_call0_v0 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg11_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem11_1 : DmaSem sig := 14

abbrev nD : Nat := 1
abbrev τ : Topo := Topo.v7x

variable {F : FTy → Type} [FloatOps F]

abbrev grid0 : Pipeline.Grid := ⟨2, ![4, 4], ![false, false]⟩

def k0_off1 (i : grid0.Coords) : Fin 3 → Nat :=
  let c0_2 : Index := 0#32
  let arg0 : BitVec 32 := BitVec.ofNat 32 (i 0).val
  let v2 : Index := Scalar.indexCast arg0
  let c0_3 : Index := 0#32
  ![0, v2.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c5_i32 : BitVec 32 := 5#32
  let c0_i32_0 : BitVec 32 := 0#32
  ![c1_i32.toNat, c0_i32.toNat, c5_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c6_i32 : BitVec 32 := 6#32
  let c0_i32_0 : BitVec 32 := 0#32
  ![c1_i32.toNat, c0_i32.toNat, c6_i32.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c7_i32 : BitVec 32 := 7#32
  let c0_i32_0 : BitVec 32 := 0#32
  ![c1_i32.toNat, c0_i32.toNat, c7_i32.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c8_i32 : BitVec 32 := 8#32
  let c0_i32_0 : BitVec 32 := 0#32
  ![c1_i32.toNat, c0_i32.toNat, c8_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c1_i32 : BitVec 32 := 1#32
  let c1_i32_0 : BitVec 32 := 1#32
  let c0_i32 : BitVec 32 := 0#32
  let c0_i32_1 : BitVec 32 := 0#32
  let c0_i32_2 : BitVec 32 := 0#32
  ![c1_i32.toNat, c1_i32_0.toNat, c0_i32.toNat, c0_i32_1.toNat]

def cc0_transform_9 (i : grid0.Coords) : Fin 4 → Nat :=
  let arg0 : BitVec 32 := BitVec.ofNat 32 (i 0).val
  let arg1 : BitVec 32 := BitVec.ofNat 32 (i 1).val
  let c1_i32 : BitVec 32 := 1#32
  let c1_i32_0 : BitVec 32 := 1#32
  let c0_i32 : BitVec 32 := 0#32
  let c0_i32_1 : BitVec 32 := 0#32
  let c0_i32_2 : BitVec 32 := 0#32
  ![c1_i32.toNat, c1_i32_0.toNat, c0_i32.toNat, c0_i32_1.toNat]

def cc0_transform_10 (i : grid0.Coords) : Fin 4 → Nat :=
  let arg0 : BitVec 32 := BitVec.ofNat 32 (i 0).val
  let arg1 : BitVec 32 := BitVec.ofNat 32 (i 1).val
  let c1_i32 : BitVec 32 := 1#32
  let c1_i32_0 : BitVec 32 := 1#32
  let c0_i32 : BitVec 32 := 0#32
  let c0_i32_1 : BitVec 32 := 0#32
  let c0_i32_2 : BitVec 32 := 0#32
  ![c1_i32.toNat, c1_i32_0.toNat, c0_i32.toNat, c0_i32_1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1x1024x2816 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1x1024x2816 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1x2816x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x1024x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Reference2Ideal.lean ====
abbrev S4x4096x1024 : Shape := ⟨3, ![4, 4096, 1024]⟩
abbrev S2x4x9216 : Shape := ⟨3, ![2, 4, 9216]⟩
abbrev S2x3x1024 : Shape := ⟨3, ![2, 3, 1024]⟩
abbrev S2x2x1024x2816 : Shape := ⟨4, ![2, 2, 1024, 2816]⟩
abbrev S2x2x2816x1024 : Shape := ⟨4, ![2, 2, 2816, 1024]⟩
abbrev S1x1024x1024 : Shape := ⟨3, ![1, 1024, 1024]⟩
abbrev S1x4x9216 : Shape := ⟨3, ![1, 4, 9216]⟩
abbrev S4x9216 : Shape := ⟨2, ![4, 9216]⟩
abbrev S4x1024 : Shape := ⟨2, ![4, 1024]⟩
abbrev S1024x1024 : Shape := ⟨2, ![1024, 1024]⟩
abbrev S4x1x1024 : Shape := ⟨3, ![4, 1, 1024]⟩
abbrev S1x1x1024 : Shape := ⟨3, ![1, 1, 1024]⟩
abbrev S1024 : Shape := ⟨1, ![1024]⟩
abbrev S_ : Shape := ⟨0, ![]⟩
abbrev S4x4096 : Shape := ⟨2, ![4, 4096]⟩
abbrev S4x4096x1 : Shape := ⟨3, ![4, 4096, 1]⟩
abbrev S1x1x1024x2816 : Shape := ⟨4, ![1, 1, 1024, 2816]⟩
abbrev S1024x2816 : Shape := ⟨2, ![1024, 2816]⟩
abbrev S1x1x2816x1024 : Shape := ⟨4, ![1, 1, 2816, 1024]⟩
abbrev S2816x1024 : Shape := ⟨2, ![2816, 1024]⟩
abbrev S4x4096x2816 : Shape := ⟨3, ![4, 4096, 2816]⟩

abbrev nBuf : Space → Nat
  | .hbm => 78
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x4096x1024, .f32⟩
  | .hbm, ⟨2, _⟩ => ⟨S2x4x9216, .f32⟩
  | .hbm, ⟨3, _⟩ => ⟨S2x3x1024, .f32⟩
  | .hbm, ⟨4, _⟩ => ⟨S2x2x1024x2816, .f32⟩
  | .hbm, ⟨5, _⟩ => ⟨S2x2x1024x2816, .f32⟩
  | .hbm, ⟨6, _⟩ => ⟨S2x2x2816x1024, .f32⟩
  | .hbm, ⟨7, _⟩ => ⟨S1x1024x1024, .f32⟩
  | .hbm, ⟨8, _⟩ => ⟨S1x4x9216, .f32⟩
  | .hbm, ⟨9, _⟩ => ⟨S4x9216, .f32⟩
  | .hbm, ⟨10, _⟩ => ⟨S4x1024, .f32⟩
  | .hbm, ⟨11, _⟩ => ⟨S4x1024, .f32⟩
  | .hbm, ⟨12, _⟩ => ⟨S4x1024, .f32⟩
  | .hbm, ⟨13, _⟩ => ⟨S4x1024, .f32⟩
  | .hbm, ⟨14, _⟩ => ⟨S4x1024, .f32⟩
  | .hbm, ⟨15, _⟩ => ⟨S4x1024, .f32⟩
  | .hbm, ⟨16, _⟩ => ⟨S4x1024, .f32⟩
  | .hbm, ⟨17, _⟩ => ⟨S4x1024, .f32⟩
  | .hbm, ⟨18, _⟩ => ⟨S4x1024, .f32⟩
  | .hbm, ⟨19, _⟩ => ⟨S1024x1024, .f32⟩
  | .hbm, ⟨20, _⟩ => ⟨S4x4096x1024, .f32⟩
  | .hbm, ⟨21, _⟩ => ⟨S4x1x1024, .f32⟩
  | .hbm, ⟨22, _⟩ => ⟨S4x4096x1024, .f32⟩
  | .hbm, ⟨23, _⟩ => ⟨S4x4096x1024, .f32⟩
  | .hbm, ⟨24, _⟩ => ⟨S4x4096x1024, .f32⟩
  | .hbm, ⟨25, _⟩ => ⟨S1x1x1024, .f32⟩
  | .hbm, ⟨26, _⟩ => ⟨S1024, .f32⟩
  | .hbm, ⟨27, _⟩ => ⟨S4x4096x1024, .f32⟩
  | .hbm, ⟨28, _⟩ => ⟨S_, .f32⟩
  | .hbm, ⟨29, _⟩ => ⟨S4x4096, .f32⟩
  | .hbm, ⟨30, _⟩ => ⟨S4x4096x1, .f32⟩
  | .hbm, ⟨31, _⟩ => ⟨S_, .f32⟩
  | .hbm, ⟨32, _⟩ => ⟨S4x4096x1, .f32⟩
  | .hbm, ⟨33, _⟩ => ⟨S4x4096x1, .f32⟩
  | .hbm, ⟨34, _⟩ => ⟨S_, .f32⟩
  | .hbm, ⟨35, _⟩ => ⟨S4x4096x1, .f32⟩
  | .hbm, ⟨36, _⟩ => ⟨S4x4096x1, .f32⟩
  | .hbm, ⟨37, _⟩ => ⟨S4x4096x1, .f32⟩
  | .hbm, ⟨38, _⟩ => ⟨S4x4096x1024, .f32⟩
  | .hbm, ⟨39, _⟩ => ⟨S4x4096x1024, .f32⟩
  | .hbm, ⟨40, _⟩ => ⟨S1x1x1024, .f32⟩
  | .hbm, ⟨41, _⟩ => ⟨S4x4096x1024, .f32⟩
  | .hbm, ⟨42, _⟩ => ⟨S4x4096x1024, .f32⟩
  | .hbm, ⟨43, _⟩ => ⟨S4x1x1024, .f32⟩
  | .hbm, ⟨44, _⟩ => ⟨S_, .f32⟩
  | .hbm, ⟨45, _⟩ => ⟨S4x1x1024, .f32⟩
  | .hbm, ⟨46, _⟩ => ⟨S4x1x1024, .f32⟩
  | .hbm, ⟨47, _⟩ => ⟨S4x4096x1024, .f32⟩
  | .hbm, ⟨48, _⟩ => ⟨S4x4096x1024, .f32⟩
  | .hbm, ⟨49, _⟩ => ⟨S4x1x1024, .f32⟩
  | .hbm, ⟨50, _⟩ => ⟨S4x4096x1024, .f32⟩
  | .hbm, ⟨51, _⟩ => ⟨S4x4096x1024, .f32⟩
  | .hbm, ⟨52, _⟩ => ⟨S4x1x1024, .f32⟩
  | .hbm, ⟨53, _⟩ => ⟨S_, .f32⟩
  | .hbm, ⟨54, _⟩ => ⟨S4x1x1024, .f32⟩
  | .hbm, ⟨55, _⟩ => ⟨S4x1x1024, .f32⟩
  | .hbm, ⟨56, _⟩ => ⟨S1x1x1024x2816, .f32⟩
  | .hbm, ⟨57, _⟩ => ⟨S1024x2816, .f32⟩
  | .hbm, ⟨58, _⟩ => ⟨S1x1x1024x2816, .f32⟩
  | .hbm, ⟨59, _⟩ => ⟨S1024x2816, .f32⟩
  | .hbm, ⟨60, _⟩ => ⟨S1x1x2816x1024, .f32⟩
  | .hbm, ⟨61, _⟩ => ⟨S2816x1024, .f32⟩
  | .hbm, ⟨62, _⟩ => ⟨S4x4096x2816, .f32⟩
  | .hbm, ⟨63, _⟩ => ⟨S4x4096x2816, .f32⟩
  | .hbm, ⟨64, _⟩ => ⟨S4x4096x2816, .f32⟩
  | .hbm, ⟨65, _⟩ => ⟨S_, .f32⟩
  | .hbm, ⟨66, _⟩ => ⟨S4x4096x2816, .f32⟩
  | .hbm, ⟨67, _⟩ => ⟨S4x4096x2816, .f32⟩
  | .hbm, ⟨68, _⟩ => ⟨S_, .f32⟩
  | .hbm, ⟨69, _⟩ => ⟨S4x4096x2816, .f32⟩
  | .hbm, ⟨70, _⟩ => ⟨S4x4096x2816, .f32⟩
  | .hbm, ⟨71, _⟩ => ⟨S4x4096x2816, .f32⟩
  | .hbm, ⟨72, _⟩ => ⟨S4x4096x2816, .f32⟩
  | .hbm, ⟨73, _⟩ => ⟨S4x4096x2816, .f32⟩
  | .hbm, ⟨74, _⟩ => ⟨S4x4096x1024, .f32⟩
  | .hbm, ⟨75, _⟩ => ⟨S4x4096x1024, .f32⟩
  | .hbm, ⟨76, _⟩ => ⟨S4x4096x1024, .f32⟩
  | .hbm, ⟨77, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst : Ref sig .tc := ⟨.hbm, 28, rfl⟩
abbrev main_v20 : Ref sig .tc := ⟨.hbm, 29, rfl⟩
abbrev main_v21 : Ref sig .tc := ⟨.hbm, 30, rfl⟩
abbrev main_cst_0 : Ref sig .tc := ⟨.hbm, 31, rfl⟩
abbrev main_v22 : Ref sig .tc := ⟨.hbm, 32, rfl⟩
abbrev main_v23 : Ref sig .tc := ⟨.hbm, 33, rfl⟩
abbrev main_cst_1 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_2 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_cst_3 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_call0_v0 : Ref sig .tc := ⟨.hbm, 63, rfl⟩
abbrev main_call0_v1 : Ref sig .tc := ⟨.hbm, 64, rfl⟩
abbrev main_call0_cst : Ref sig .tc := ⟨.hbm, 65, rfl⟩
abbrev main_call0_v2 : Ref sig .tc := ⟨.hbm, 66, rfl⟩
abbrev main_call0_v3 : Ref sig .tc := ⟨.hbm, 67, rfl⟩
abbrev main_call0_cst_0 : Ref sig .tc := ⟨.hbm, 68, rfl⟩
abbrev main_call0_v4 : Ref sig .tc := ⟨.hbm, 69, rfl⟩
abbrev main_call0_v5 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩

abbrev nD : Nat := 1
abbrev τ : Topo := Topo.v7x

variable {F : FTy → Type} [FloatOps F]
-- ==== Kernel3.lean ====
abbrev S4x4096x1024 : Shape := ⟨3, ![4, 4096, 1024]⟩
abbrev S2x4x9216 : Shape := ⟨3, ![2, 4, 9216]⟩
abbrev S2x3x1024 : Shape := ⟨3, ![2, 3, 1024]⟩
abbrev S2x2x1024x2816 : Shape := ⟨4, ![2, 2, 1024, 2816]⟩
abbrev S2x2x2816x1024 : Shape := ⟨4, ![2, 2, 2816, 1024]⟩
abbrev S_ : Shape := ⟨0, ![]⟩
abbrev S2x8x9216 : Shape := ⟨3, ![2, 8, 9216]⟩
abbrev S1x3x1024 : Shape := ⟨3, ![1, 3, 1024]⟩
abbrev S3x1024 : Shape := ⟨2, ![3, 1024]⟩
abbrev S1x1024 : Shape := ⟨2, ![1, 1024]⟩
abbrev S1x1024x1024 : Shape := ⟨3, ![1, 1024, 1024]⟩
abbrev S1x8x1024 : Shape := ⟨3, ![1, 8, 1024]⟩
abbrev S1x1x1024x2816 : Shape := ⟨4, ![1, 1, 1024, 2816]⟩
abbrev S1x1x2816x1024 : Shape := ⟨4, ![1, 1, 2816, 1024]⟩
abbrev S1024x1024 : Shape := ⟨2, ![1024, 1024]⟩
abbrev S1x1x1024 : Shape := ⟨3, ![1, 1, 1024]⟩
abbrev S1024 : Shape := ⟨1, ![1024]⟩
abbrev S1024x1 : Shape := ⟨2, ![1024, 1]⟩
abbrev S1x1x1024x256 : Shape := ⟨4, ![1, 1, 1024, 256]⟩
abbrev S1024x256 : Shape := ⟨2, ![1024, 256]⟩
abbrev S1x1x256x1024 : Shape := ⟨4, ![1, 1, 256, 1024]⟩
abbrev S256x1024 : Shape := ⟨2, ![256, 1024]⟩

abbrev nBuf : Space → Nat
  | .hbm => 16
  | .vmem => 11
  | .smem => 0
  | _ => 0

abbrev bufTy : (tb : Table) → Fin (tcTables nBuf tb) → BufTy
  | .hbm, ⟨0, _⟩ => ⟨S4x4096x1024, .f32⟩
  | .hbm, ⟨1, _⟩ => ⟨S2x4x9216, .f32⟩
  | .hbm, ⟨2, _⟩ => ⟨S2x3x1024, .f32⟩
  | .hbm, ⟨3, _⟩ => ⟨S2x2x1024x2816, .f32⟩
  | .hbm, ⟨4, _⟩ => ⟨S2x2x1024x2816, .f32⟩
  | .hbm, ⟨5, _⟩ => ⟨S2x2x2816x1024, .f32⟩
  | .hbm, ⟨6, _⟩ => ⟨S_, .i32⟩
  | .hbm, ⟨7, _⟩ => ⟨S_, .f32⟩
  | .hbm, ⟨8, _⟩ => ⟨S2x8x9216, .f32⟩
  | .hbm, ⟨9, _⟩ => ⟨S2x2x1024x2816, .bf16⟩
  | .hbm, ⟨10, _⟩ => ⟨S2x2x1024x2816, .bf16⟩
  | .hbm, ⟨11, _⟩ => ⟨S2x2x2816x1024, .bf16⟩
  | .hbm, ⟨12, _⟩ => ⟨S1x3x1024, .f32⟩
  | .hbm, ⟨13, _⟩ => ⟨S3x1024, .f32⟩
  | .hbm, ⟨14, _⟩ => ⟨S1x1024, .f32⟩
  | .hbm, ⟨15, _⟩ => ⟨S4x4096x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x8x1024, .f32⟩
  | .local _ .vmem, ⟨3, _⟩ => ⟨S1x8x1024, .f32⟩
  | .local _ .vmem, ⟨4, _⟩ => ⟨S1x8x1024, .f32⟩
  | .local _ .vmem, ⟨5, _⟩ => ⟨S1x1024, .f32⟩
  | .local _ .vmem, ⟨6, _⟩ => ⟨S1x1x1024x2816, .bf16⟩
  | .local _ .vmem, ⟨7, _⟩ => ⟨S1x1x1024x2816, .bf16⟩
  | .local _ .vmem, ⟨8, _⟩ => ⟨S1x1x2816x1024, .bf16⟩
  | .local _ .vmem, ⟨9, _⟩ => ⟨S1x1024x1024, .f32⟩
  | .local _ .vmem, ⟨10, _⟩ => ⟨S1x1024x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_call0_v0 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10

abbrev nD : Nat := 1
abbrev τ : Topo := Topo.v7x

variable {F : FTy → Type} [FloatOps F]

abbrev grid0 : Pipeline.Grid := ⟨2, ![4, 4], ![false, false]⟩

def k0_off1 (i : grid0.Coords) : Fin 3 → Nat :=
  let c0_4 : Index := 0#32
  let arg0 : BitVec 32 := BitVec.ofNat 32 (i 0).val
  let v4 : Index := Scalar.indexCast arg0
  let c0_5 : Index := 0#32
  ![0, v4.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c1_i32 : BitVec 32 := 1#32
  let c0_i32_1 : BitVec 32 := 0#32
  ![c0_i32.toNat, c0_i32_0.toNat, c1_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c2_i32 : BitVec 32 := 2#32
  let c0_i32_1 : BitVec 32 := 0#32
  ![c0_i32.toNat, c0_i32_0.toNat, c2_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1x1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1x1024x2816 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1x2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference3Ideal.lean ====
abbrev S4x4096x1024 : Shape := ⟨3, ![4, 4096, 1024]⟩
abbrev S2x4x9216 : Shape := ⟨3, ![2, 4, 9216]⟩
abbrev S2x3x1024 : Shape := ⟨3, ![2, 3, 1024]⟩
abbrev S2x2x1024x2816 : Shape := ⟨4, ![2, 2, 1024, 2816]⟩
abbrev S2x2x2816x1024 : Shape := ⟨4, ![2, 2, 2816, 1024]⟩
abbrev S1x4x9216 : Shape := ⟨3, ![1, 4, 9216]⟩
abbrev S4x9216 : Shape := ⟨2, ![4, 9216]⟩
abbrev S4x1024 : Shape := ⟨2, ![4, 1024]⟩
abbrev S1x1x1024 : Shape := ⟨3, ![1, 1, 1024]⟩
abbrev S1024 : Shape := ⟨1, ![1024]⟩
abbrev S_ : Shape := ⟨0, ![]⟩
abbrev S4x4096 : Shape := ⟨2, ![4, 4096]⟩
abbrev S4x4096x1 : Shape := ⟨3, ![4, 4096, 1]⟩
abbrev S4x1x1024 : Shape := ⟨3, ![4, 1, 1024]⟩
abbrev S1x1x1024x2816 : Shape := ⟨4, ![1, 1, 1024, 2816]⟩
abbrev S1024x2816 : Shape := ⟨2, ![1024, 2816]⟩
abbrev S1x1x2816x1024 : Shape := ⟨4, ![1, 1, 2816, 1024]⟩
abbrev S2816x1024 : Shape := ⟨2, ![2816, 1024]⟩
abbrev S4x4096x2816 : Shape := ⟨3, ![4, 4096, 2816]⟩

abbrev nBuf : Space → Nat
  | .hbm => 70
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S2x4x9216, .f32⟩
  | .hbm, ⟨2, _⟩ => ⟨S2x3x1024, .f32⟩
  | .hbm, ⟨3, _⟩ => ⟨S2x2x1024x2816, .f32⟩
  | .hbm, ⟨4, _⟩ => ⟨S2x2x1024x2816, .f32⟩
  | .hbm, ⟨5, _⟩ => ⟨S2x2x2816x1024, .f32⟩
  | .hbm, ⟨6, _⟩ => ⟨S1x4x9216, .f32⟩
  | .hbm, ⟨7, _⟩ => ⟨S4x9216, .f32⟩
  | .hbm, ⟨8, _⟩ => ⟨S4x1024, .f32⟩
  | .hbm, ⟨9, _⟩ => ⟨S4x1024, .f32⟩
  | .hbm, ⟨10, _⟩ => ⟨S4x1024, .f32⟩
  | .hbm, ⟨11, _⟩ => ⟨S4x1024, .f32⟩
  | .hbm, ⟨12, _⟩ => ⟨S4x1024, .f32⟩
  | .hbm, ⟨13, _⟩ => ⟨S4x1024, .f32⟩
  | .hbm, ⟨14, _⟩ => ⟨S4x1024, .f32⟩
  | .hbm, ⟨15, _⟩ => ⟨S4x1024, .f32⟩
  | .hbm, ⟨16, _⟩ => ⟨S4x1024, .f32⟩
  | .hbm, ⟨17, _⟩ => ⟨S1x1x1024, .f32⟩
  | .hbm, ⟨18, _⟩ => ⟨S1024, .f32⟩
  | .hbm, ⟨19, _⟩ => ⟨S4x4096x1024, .f32⟩
  | .hbm, ⟨20, _⟩ => ⟨S_, .f32⟩
  | .hbm, ⟨21, _⟩ => ⟨S4x4096, .f32⟩
  | .hbm, ⟨22, _⟩ => ⟨S4x4096x1, .f32⟩
  | .hbm, ⟨23, _⟩ => ⟨S_, .f32⟩
  | .hbm, ⟨24, _⟩ => ⟨S4x4096x1, .f32⟩
  | .hbm, ⟨25, _⟩ => ⟨S4x4096x1, .f32⟩
  | .hbm, ⟨26, _⟩ => ⟨S_, .f32⟩
  | .hbm, ⟨27, _⟩ => ⟨S4x4096x1, .f32⟩
  | .hbm, ⟨28, _⟩ => ⟨S4x4096x1, .f32⟩
  | .hbm, ⟨29, _⟩ => ⟨S4x4096x1, .f32⟩
  | .hbm, ⟨30, _⟩ => ⟨S4x4096x1024, .f32⟩
  | .hbm, ⟨31, _⟩ => ⟨S4x4096x1024, .f32⟩
  | .hbm, ⟨32, _⟩ => ⟨S1x1x1024, .f32⟩
  | .hbm, ⟨33, _⟩ => ⟨S4x4096x1024, .f32⟩
  | .hbm, ⟨34, _⟩ => ⟨S4x4096x1024, .f32⟩
  | .hbm, ⟨35, _⟩ => ⟨S4x1x1024, .f32⟩
  | .hbm, ⟨36, _⟩ => ⟨S_, .f32⟩
  | .hbm, ⟨37, _⟩ => ⟨S4x1x1024, .f32⟩
  | .hbm, ⟨38, _⟩ => ⟨S4x1x1024, .f32⟩
  | .hbm, ⟨39, _⟩ => ⟨S4x4096x1024, .f32⟩
  | .hbm, ⟨40, _⟩ => ⟨S4x4096x1024, .f32⟩
  | .hbm, ⟨41, _⟩ => ⟨S4x1x1024, .f32⟩
  | .hbm, ⟨42, _⟩ => ⟨S4x4096x1024, .f32⟩
  | .hbm, ⟨43, _⟩ => ⟨S4x4096x1024, .f32⟩
  | .hbm, ⟨44, _⟩ => ⟨S4x1x1024, .f32⟩
  | .hbm, ⟨45, _⟩ => ⟨S_, .f32⟩
  | .hbm, ⟨46, _⟩ => ⟨S4x1x1024, .f32⟩
  | .hbm, ⟨47, _⟩ => ⟨S4x1x1024, .f32⟩
  | .hbm, ⟨48, _⟩ => ⟨S1x1x1024x2816, .f32⟩
  | .hbm, ⟨49, _⟩ => ⟨S1024x2816, .f32⟩
  | .hbm, ⟨50, _⟩ => ⟨S1x1x1024x2816, .f32⟩
  | .hbm, ⟨51, _⟩ => ⟨S1024x2816, .f32⟩
  | .hbm, ⟨52, _⟩ => ⟨S1x1x2816x1024, .f32⟩
  | .hbm, ⟨53, _⟩ => ⟨S2816x1024, .f32⟩
  | .hbm, ⟨54, _⟩ => ⟨S4x4096x2816, .f32⟩
  | .hbm, ⟨55, _⟩ => ⟨S4x4096x2816, .f32⟩
  | .hbm, ⟨56, _⟩ => ⟨S4x4096x2816, .f32⟩
  | .hbm, ⟨57, _⟩ => ⟨S_, .f32⟩
  | .hbm, ⟨58, _⟩ => ⟨S4x4096x2816, .f32⟩
  | .hbm, ⟨59, _⟩ => ⟨S4x4096x2816, .f32⟩
  | .hbm, ⟨60, _⟩ => ⟨S_, .f32⟩
  | .hbm, ⟨61, _⟩ => ⟨S4x4096x2816, .f32⟩
  | .hbm, ⟨62, _⟩ => ⟨S4x4096x2816, .f32⟩
  | .hbm, ⟨63, _⟩ => ⟨S4x4096x2816, .f32⟩
  | .hbm, ⟨64, _⟩ => ⟨S4x4096x2816, .f32⟩
  | .hbm, ⟨65, _⟩ => ⟨S4x4096x2816, .f32⟩
  | .hbm, ⟨66, _⟩ => ⟨S4x4096x1024, .f32⟩
  | .hbm, ⟨67, _⟩ => ⟨S4x4096x1024, .f32⟩
  | .hbm, ⟨68, _⟩ => ⟨S4x4096x1024, .f32⟩
  | .hbm, ⟨69, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst : Ref sig .tc := ⟨.hbm, 20, rfl⟩
abbrev main_v14 : Ref sig .tc := ⟨.hbm, 21, rfl⟩
abbrev main_v15 : Ref sig .tc := ⟨.hbm, 22, rfl⟩
abbrev main_cst_0 : Ref sig .tc := ⟨.hbm, 23, rfl⟩
abbrev main_v16 : Ref sig .tc := ⟨.hbm, 24, rfl⟩
abbrev main_v17 : Ref sig .tc := ⟨.hbm, 25, rfl⟩
abbrev main_cst_1 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_2 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_3 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_call0_v0 : Ref sig .tc := ⟨.hbm, 55, rfl⟩
abbrev main_call0_v1 : Ref sig .tc := ⟨.hbm, 56, rfl⟩
abbrev main_call0_cst : Ref sig .tc := ⟨.hbm, 57, rfl⟩
abbrev main_call0_v2 : Ref sig .tc := ⟨.hbm, 58, rfl⟩
abbrev main_call0_v3 : Ref sig .tc := ⟨.hbm, 59, rfl⟩
abbrev main_call0_cst_0 : Ref sig .tc := ⟨.hbm, 60, rfl⟩
abbrev main_call0_v4 : Ref sig .tc := ⟨.hbm, 61, rfl⟩
abbrev main_call0_v5 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩

abbrev nD : Nat := 1
abbrev τ : Topo := Topo.v7x

variable {F : FTy → Type} [FloatOps F]
-- ==== Kernel4.lean ====
abbrev S4x4096x1024 : Shape := ⟨3, ![4, 4096, 1024]⟩
abbrev S2x4x9216 : Shape := ⟨3, ![2, 4, 9216]⟩
abbrev S2x3x1024 : Shape := ⟨3, ![2, 3, 1024]⟩
abbrev S1x1024x3072 : Shape := ⟨3, ![1, 1024, 3072]⟩
abbrev S1x64 : Shape := ⟨2, ![1, 64]⟩
abbrev S_ : Shape := ⟨0, ![]⟩
abbrev S2x8x9216 : Shape := ⟨3, ![2, 8, 9216]⟩
abbrev S1x3x1024 : Shape := ⟨3, ![1, 3, 1024]⟩
abbrev S3x1024 : Shape := ⟨2, ![3, 1024]⟩
abbrev S64 : Shape := ⟨1, ![64]⟩
abbrev S16x64 : Shape := ⟨2, ![16, 64]⟩
abbrev S1024 : Shape := ⟨1, ![1024]⟩
abbrev S2048 : Shape := ⟨1, ![2048]⟩
abbrev S1x2048 : Shape := ⟨2, ![1, 2048]⟩
abbrev S1024x3072 : Shape := ⟨2, ![1024, 3072]⟩
abbrev S1x1024 : Shape := ⟨2, ![1, 1024]⟩
abbrev S1024x2048 : Shape := ⟨2, ![1024, 2048]⟩
abbrev S1024x1024 : Shape := ⟨2, ![1024, 1024]⟩
abbrev S4x4096x2048 : Shape := ⟨3, ![4, 4096, 2048]⟩
abbrev S4x1024x4096 : Shape := ⟨3, ![4, 1024, 4096]⟩
abbrev S1x1024x1024 : Shape := ⟨3, ![1, 1024, 1024]⟩
abbrev S1x8x1024 : Shape := ⟨3, ![1, 8, 1024]⟩
abbrev S1x1024x2048 : Shape := ⟨3, ![1, 1024, 2048]⟩
abbrev S1x1x1024 : Shape := ⟨3, ![1, 1, 1024]⟩
abbrev S1024x1 : Shape := ⟨2, ![1024, 1]⟩
abbrev S1024x512 : Shape := ⟨2, ![1024, 512]⟩
abbrev S1024x128 : Shape := ⟨2, ![1024, 128]⟩
abbrev S1x128 : Shape := ⟨2, ![1, 128]⟩
abbrev S1x1024x128 : Shape := ⟨3, ![1, 1024, 128]⟩
abbrev S512x1024 : Shape := ⟨2, ![512, 1024]⟩
abbrev S1x512x1024 : Shape := ⟨3, ![1, 512, 1024]⟩

abbrev nBuf : Space → Nat
  | .hbm => 38
  | .vmem => 12
  | .smem => 0
  | _ => 0

abbrev bufTy : (tb : Table) → Fin (tcTables nBuf tb) → BufTy
  | .hbm, ⟨0, _⟩ => ⟨S4x4096x1024, .f32⟩
  | .hbm, ⟨1, _⟩ => ⟨S2x4x9216, .f32⟩
  | .hbm, ⟨2, _⟩ => ⟨S2x3x1024, .f32⟩
  | .hbm, ⟨3, _⟩ => ⟨S1x1024x3072, .f32⟩
  | .hbm, ⟨4, _⟩ => ⟨S1x64, .f32⟩
  | .hbm, ⟨5, _⟩ => ⟨S1x64, .f32⟩
  | .hbm, ⟨6, _⟩ => ⟨S_, .i32⟩
  | .hbm, ⟨7, _⟩ => ⟨S_, .f32⟩
  | .hbm, ⟨8, _⟩ => ⟨S2x8x9216, .f32⟩
  | .hbm, ⟨9, _⟩ => ⟨S1x3x1024, .f32⟩
  | .hbm, ⟨10, _⟩ => ⟨S3x1024, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S64, .f32⟩
  | .hbm, ⟨19, _⟩ => ⟨S64, .f32⟩
  | .hbm, ⟨20, _⟩ => ⟨S64, .f32⟩
  | .hbm, ⟨21, _⟩ => ⟨S1x64, .f32⟩
  | .hbm, ⟨22, _⟩ => ⟨S16x64, .f32⟩
  | .hbm, ⟨23, _⟩ => ⟨S1024, .f32⟩
  | .hbm, ⟨24, _⟩ => ⟨S64, .f32⟩
  | .hbm, ⟨25, _⟩ => ⟨S1x64, .f32⟩
  | .hbm, ⟨26, _⟩ => ⟨S16x64, .f32⟩
  | .hbm, ⟨27, _⟩ => ⟨S1024, .f32⟩
  | .hbm, ⟨28, _⟩ => ⟨S2048, .f32⟩
  | .hbm, ⟨29, _⟩ => ⟨S1x2048, .f32⟩
  | .hbm, ⟨30, _⟩ => ⟨S1024x3072, .f32⟩
  | .hbm, ⟨31, _⟩ => ⟨S1024x3072, .bf16⟩
  | .hbm, ⟨32, _⟩ => ⟨S1x1024, .f32⟩
  | .hbm, ⟨33, _⟩ => ⟨S1024x2048, .bf16⟩
  | .hbm, ⟨34, _⟩ => ⟨S1024x1024, .bf16⟩
  | .hbm, ⟨35, _⟩ => ⟨S1024x1024, .bf16⟩
  | .hbm, ⟨36, _⟩ => ⟨S4x4096x2048, .bf16⟩
  | .hbm, ⟨37, _⟩ => ⟨S4x1024x4096, .bf16⟩
  | .local _ .vmem, ⟨0, _⟩ => ⟨S1x1024x1024, .f32⟩
  | .local _ .vmem, ⟨1, _⟩ => ⟨S1x1024x1024, .f32⟩
  | .local _ .vmem, ⟨2, _⟩ => ⟨S1x8x1024, .f32⟩
  | .local _ .vmem, ⟨3, _⟩ => ⟨S1x8x1024, .f32⟩
  | .local _ .vmem, ⟨4, _⟩ => ⟨S1x1024, .f32⟩
  | .local _ .vmem, ⟨5, _⟩ => ⟨S1024x2048, .bf16⟩
  | .local _ .vmem, ⟨6, _⟩ => ⟨S1024x1024, .bf16⟩
  | .local _ .vmem, ⟨7, _⟩ => ⟨S1x2048, .f32⟩
  | .local _ .vmem, ⟨8, _⟩ => ⟨S1x1024x2048, .bf16⟩
  | .local _ .vmem, ⟨9, _⟩ => ⟨S1x1024x2048, .bf16⟩
  | .local _ .vmem, ⟨10, _⟩ => ⟨S1x1024x1024, .bf16⟩
  | .local _ .vmem, ⟨11, _⟩ => ⟨S1x1024x1024, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_call0_v0 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25_0 : Ref sig .tc := ⟨.hbm, 36, rfl⟩
abbrev main_v25_1 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨2, ![4, 4], ![false, false]⟩

def k0_off1 (i : grid0.Coords) : Fin 3 → Nat :=
  let c0_4 : Index := 0#32
  let arg0 : BitVec 32 := BitVec.ofNat 32 (i 0).val
  let v4 : Index := Scalar.indexCast arg0
  let c0_5 : Index := 0#32
  ![0, v4.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c3_i32 : BitVec 32 := 3#32
  let c0_i32_1 : BitVec 32 := 0#32
  ![c0_i32.toNat, c0_i32_0.toNat, c3_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c4_i32 : BitVec 32 := 4#32
  let c0_i32_1 : BitVec 32 := 0#32
  ![c0_i32.toNat, c0_i32_0.toNat, c4_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x1024x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference4Ideal.lean ====
abbrev S4x4096x1024 : Shape := ⟨3, ![4, 4096, 1024]⟩
abbrev S2x4x9216 : Shape := ⟨3, ![2, 4, 9216]⟩
abbrev S2x3x1024 : Shape := ⟨3, ![2, 3, 1024]⟩
abbrev S1x1024x3072 : Shape := ⟨3, ![1, 1024, 3072]⟩
abbrev S1x64 : Shape := ⟨2, ![1, 64]⟩
abbrev S1x4x9216 : Shape := ⟨3, ![1, 4, 9216]⟩
abbrev S4x9216 : Shape := ⟨2, ![4, 9216]⟩
abbrev S4x1024 : Shape := ⟨2, ![4, 1024]⟩
abbrev S1x1x1024 : Shape := ⟨3, ![1, 1, 1024]⟩
abbrev S1024 : Shape := ⟨1, ![1024]⟩
abbrev S_ : Shape := ⟨0, ![]⟩
abbrev S4x4096 : Shape := ⟨2, ![4, 4096]⟩
abbrev S4x4096x1 : Shape := ⟨3, ![4, 4096, 1]⟩
abbrev S4x1x1024 : Shape := ⟨3, ![4, 1, 1024]⟩
abbrev S1024x3072 : Shape := ⟨2, ![1024, 3072]⟩
abbrev S4x4096x3072 : Shape := ⟨3, ![4, 4096, 3072]⟩
abbrev S4x4096x3x16x64 : Shape := ⟨5, ![4, 4096, 3, 16, 64]⟩
abbrev S4x4096x1x16x64 : Shape := ⟨5, ![4, 4096, 1, 16, 64]⟩
abbrev S4x4096x16x64 : Shape := ⟨4, ![4, 4096, 16, 64]⟩
abbrev S64 : Shape := ⟨1, ![64]⟩
abbrev S4x4096x16 : Shape := ⟨3, ![4, 4096, 16]⟩
abbrev S4x4096x16x1 : Shape := ⟨4, ![4, 4096, 16, 1]⟩
abbrev S1x1x1x64 : Shape := ⟨4, ![1, 1, 1, 64]⟩
abbrev S4x4096x2x16x64 : Shape := ⟨5, ![4, 4096, 2, 16, 64]⟩
abbrev S4x4096x2048 : Shape := ⟨3, ![4, 4096, 2048]⟩
abbrev S4x1024x4096 : Shape := ⟨3, ![4, 1024, 4096]⟩

abbrev nBuf : Space → Nat
  | .hbm => 104
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S2x4x9216, .f32⟩
  | .hbm, ⟨2, _⟩ => ⟨S2x3x1024, .f32⟩
  | .hbm, ⟨3, _⟩ => ⟨S1x1024x3072, .f32⟩
  | .hbm, ⟨4, _⟩ => ⟨S1x64, .f32⟩
  | .hbm, ⟨5, _⟩ => ⟨S1x64, .f32⟩
  | .hbm, ⟨6, _⟩ => ⟨S1x4x9216, .f32⟩
  | .hbm, ⟨7, _⟩ => ⟨S4x9216, .f32⟩
  | .hbm, ⟨8, _⟩ => ⟨S4x1024, .f32⟩
  | .hbm, ⟨9, _⟩ => ⟨S4x1024, .f32⟩
  | .hbm, ⟨10, _⟩ => ⟨S4x1024, .f32⟩
  | .hbm, ⟨11, _⟩ => ⟨S4x1024, .f32⟩
  | .hbm, ⟨12, _⟩ => ⟨S4x1024, .f32⟩
  | .hbm, ⟨13, _⟩ => ⟨S4x1024, .f32⟩
  | .hbm, ⟨14, _⟩ => ⟨S4x1024, .f32⟩
  | .hbm, ⟨15, _⟩ => ⟨S4x1024, .f32⟩
  | .hbm, ⟨16, _⟩ => ⟨S4x1024, .f32⟩
  | .hbm, ⟨17, _⟩ => ⟨S1x1x1024, .f32⟩
  | .hbm, ⟨18, _⟩ => ⟨S1024, .f32⟩
  | .hbm, ⟨19, _⟩ => ⟨S4x4096x1024, .f32⟩
  | .hbm, ⟨20, _⟩ => ⟨S_, .f32⟩
  | .hbm, ⟨21, _⟩ => ⟨S4x4096, .f32⟩
  | .hbm, ⟨22, _⟩ => ⟨S4x4096x1, .f32⟩
  | .hbm, ⟨23, _⟩ => ⟨S_, .f32⟩
  | .hbm, ⟨24, _⟩ => ⟨S4x4096x1, .f32⟩
  | .hbm, ⟨25, _⟩ => ⟨S4x4096x1, .f32⟩
  | .hbm, ⟨26, _⟩ => ⟨S_, .f32⟩
  | .hbm, ⟨27, _⟩ => ⟨S4x4096x1, .f32⟩
  | .hbm, ⟨28, _⟩ => ⟨S4x4096x1, .f32⟩
  | .hbm, ⟨29, _⟩ => ⟨S4x4096x1, .f32⟩
  | .hbm, ⟨30, _⟩ => ⟨S4x4096x1024, .f32⟩
  | .hbm, ⟨31, _⟩ => ⟨S4x4096x1024, .f32⟩
  | .hbm, ⟨32, _⟩ => ⟨S1x1x1024, .f32⟩
  | .hbm, ⟨33, _⟩ => ⟨S4x4096x1024, .f32⟩
  | .hbm, ⟨34, _⟩ => ⟨S4x4096x1024, .f32⟩
  | .hbm, ⟨35, _⟩ => ⟨S4x1x1024, .f32⟩
  | .hbm, ⟨36, _⟩ => ⟨S_, .f32⟩
  | .hbm, ⟨37, _⟩ => ⟨S4x1x1024, .f32⟩
  | .hbm, ⟨38, _⟩ => ⟨S4x1x1024, .f32⟩
  | .hbm, ⟨39, _⟩ => ⟨S4x4096x1024, .f32⟩
  | .hbm, ⟨40, _⟩ => ⟨S4x4096x1024, .f32⟩
  | .hbm, ⟨41, _⟩ => ⟨S4x1x1024, .f32⟩
  | .hbm, ⟨42, _⟩ => ⟨S4x4096x1024, .f32⟩
  | .hbm, ⟨43, _⟩ => ⟨S4x4096x1024, .f32⟩
  | .hbm, ⟨44, _⟩ => ⟨S1024x3072, .f32⟩
  | .hbm, ⟨45, _⟩ => ⟨S4x4096x3072, .f32⟩
  | .hbm, ⟨46, _⟩ => ⟨S4x4096x3x16x64, .f32⟩
  | .hbm, ⟨47, _⟩ => ⟨S4x4096x1x16x64, .f32⟩
  | .hbm, ⟨48, _⟩ => ⟨S4x4096x16x64, .f32⟩
  | .hbm, ⟨49, _⟩ => ⟨S64, .f32⟩
  | .hbm, ⟨50, _⟩ => ⟨S4x4096x16x64, .f32⟩
  | .hbm, ⟨51, _⟩ => ⟨S_, .f32⟩
  | .hbm, ⟨52, _⟩ => ⟨S4x4096x16, .f32⟩
  | .hbm, ⟨53, _⟩ => ⟨S4x4096x16x1, .f32⟩
  | .hbm, ⟨54, _⟩ => ⟨S_, .f32⟩
  | .hbm, ⟨55, _⟩ => ⟨S4x4096x16x1, .f32⟩
  | .hbm, ⟨56, _⟩ => ⟨S4x4096x16x1, .f32⟩
  | .hbm, ⟨57, _⟩ => ⟨S_, .f32⟩
  | .hbm, ⟨58, _⟩ => ⟨S4x4096x16x1, .f32⟩
  | .hbm, ⟨59, _⟩ => ⟨S4x4096x16x1, .f32⟩
  | .hbm, ⟨60, _⟩ => ⟨S4x4096x16x1, .f32⟩
  | .hbm, ⟨61, _⟩ => ⟨S4x4096x16x64, .f32⟩
  | .hbm, ⟨62, _⟩ => ⟨S4x4096x16x64, .f32⟩
  | .hbm, ⟨63, _⟩ => ⟨S1x1x1x64, .f32⟩
  | .hbm, ⟨64, _⟩ => ⟨S4x4096x16x64, .f32⟩
  | .hbm, ⟨65, _⟩ => ⟨S4x4096x16x64, .f32⟩
  | .hbm, ⟨66, _⟩ => ⟨S4x4096x1x16x64, .f32⟩
  | .hbm, ⟨67, _⟩ => ⟨S4x4096x16x64, .f32⟩
  | .hbm, ⟨68, _⟩ => ⟨S64, .f32⟩
  | .hbm, ⟨69, _⟩ => ⟨S4x4096x16x64, .f32⟩
  | .hbm, ⟨70, _⟩ => ⟨S_, .f32⟩
  | .hbm, ⟨71, _⟩ => ⟨S4x4096x16, .f32⟩
  | .hbm, ⟨72, _⟩ => ⟨S4x4096x16x1, .f32⟩
  | .hbm, ⟨73, _⟩ => ⟨S_, .f32⟩
  | .hbm, ⟨74, _⟩ => ⟨S4x4096x16x1, .f32⟩
  | .hbm, ⟨75, _⟩ => ⟨S4x4096x16x1, .f32⟩
  | .hbm, ⟨76, _⟩ => ⟨S_, .f32⟩
  | .hbm, ⟨77, _⟩ => ⟨S4x4096x16x1, .f32⟩
  | .hbm, ⟨78, _⟩ => ⟨S4x4096x16x1, .f32⟩
  | .hbm, ⟨79, _⟩ => ⟨S4x4096x16x1, .f32⟩
  | .hbm, ⟨80, _⟩ => ⟨S4x4096x16x64, .f32⟩
  | .hbm, ⟨81, _⟩ => ⟨S4x4096x16x64, .f32⟩
  | .hbm, ⟨82, _⟩ => ⟨S1x1x1x64, .f32⟩
  | .hbm, ⟨83, _⟩ => ⟨S4x4096x16x64, .f32⟩
  | .hbm, ⟨84, _⟩ => ⟨S4x4096x16x64, .f32⟩
  | .hbm, ⟨85, _⟩ => ⟨S4x4096x1x16x64, .f32⟩
  | .hbm, ⟨86, _⟩ => ⟨S4x4096x16x64, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S4x4096x16x64, .f32⟩
  | .hbm, ⟨95, _⟩ => ⟨S4x4096x16x64, .f32⟩
  | .hbm, ⟨96, _⟩ => ⟨S4x4096x1x16x64, .f32⟩
  | .hbm, ⟨97, _⟩ => ⟨S4x4096x1x16x64, .f32⟩
  | .hbm, ⟨98, _⟩ => ⟨S4x4096x2x16x64, .f32⟩
  | .hbm, ⟨99, _⟩ => ⟨S4x4096x2048, .f32⟩
  | .hbm, ⟨100, _⟩ => ⟨S4x4096x1024, .f32⟩
  | .hbm, ⟨101, _⟩ => ⟨S4x1024x4096, .f32⟩
  | .hbm, ⟨102, _⟩ => ⟨S4x4096x2048, .bf16⟩
  | .hbm, ⟨103, _⟩ => ⟨S4x1024x4096, .bf16⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst : Ref sig .tc := ⟨.hbm, 20, rfl⟩
abbrev main_v14 : Ref sig .tc := ⟨.hbm, 21, rfl⟩
abbrev main_v15 : Ref sig .tc := ⟨.hbm, 22, rfl⟩
abbrev main_cst_0 : Ref sig .tc := ⟨.hbm, 23, rfl⟩
abbrev main_v16 : Ref sig .tc := ⟨.hbm, 24, rfl⟩
abbrev main_v17 : Ref sig .tc := ⟨.hbm, 25, rfl⟩
abbrev main_cst_1 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_2 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_cst_3 : Ref sig .tc := ⟨.hbm, 51, rfl⟩
abbrev main_v41 : Ref sig .tc := ⟨.hbm, 52, rfl⟩
abbrev main_v42 : Ref sig .tc := ⟨.hbm, 53, rfl⟩
abbrev main_cst_4 : Ref sig .tc := ⟨.hbm, 54, rfl⟩
abbrev main_v43 : Ref sig .tc := ⟨.hbm, 55, rfl⟩
abbrev main_v44 : Ref sig .tc := ⟨.hbm, 56, rfl⟩
abbrev main_cst_5 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_cst_6 : Ref sig .tc := ⟨.hbm, 70, rfl⟩
abbrev main_v57 : Ref sig .tc := ⟨.hbm, 71, rfl⟩
abbrev main_v58 : Ref sig .tc := ⟨.hbm, 72, rfl⟩
abbrev main_cst_7 : Ref sig .tc := ⟨.hbm, 73, rfl⟩
abbrev main_v59 : Ref sig .tc := ⟨.hbm, 74, rfl⟩
abbrev main_v60 : Ref sig .tc := ⟨.hbm, 75, rfl⟩
abbrev main_cst_8 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_cst_9 : Ref sig .tc := ⟨.hbm, 87, rfl⟩
abbrev main_v71 : Ref sig .tc := ⟨.hbm, 88, rfl⟩
abbrev main_cst_10 : Ref sig .tc := ⟨.hbm, 89, rfl⟩
abbrev main_v72 : Ref sig .tc := ⟨.hbm, 90, rfl⟩
abbrev main_v73 : Ref sig .tc := ⟨.hbm, 91, rfl⟩
abbrev main_cst_11 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩

abbrev nD : Nat := 1
abbrev τ : Topo := Topo.v7x

variable {F : FTy → Type} [FloatOps F]
-- ==== Kernel5.lean ====
abbrev S4x4096x1024 : Shape := ⟨3, ![4, 4096, 1024]⟩
abbrev S2x4x9216 : Shape := ⟨3, ![2, 4, 9216]⟩
abbrev S1x4x2048 : Shape := ⟨3, ![1, 4, 2048]⟩
abbrev S2x3x1024 : Shape := ⟨3, ![2, 3, 1024]⟩
abbrev S1x1024x384 : Shape := ⟨3, ![1, 1024, 384]⟩
abbrev S1x384 : Shape := ⟨2, ![1, 384]⟩
abbrev S1x384x1536 : Shape := ⟨3, ![1, 384, 1536]⟩
abbrev S1x96 : Shape := ⟨2, ![1, 96]⟩
abbrev S1024 : Shape := ⟨1, ![1024]⟩
abbrev S1024x288 : Shape := ⟨2, ![1024, 288]⟩
abbrev S256 : Shape := ⟨1, ![256]⟩
abbrev S256x1024 : Shape := ⟨2, ![256, 1024]⟩
abbrev S96 : Shape := ⟨1, ![96]⟩
abbrev S4x4096 : Shape := ⟨2, ![4, 4096]⟩
abbrev S_ : Shape := ⟨0, ![]⟩
abbrev S2x8x9216 : Shape := ⟨3, ![2, 8, 9216]⟩
abbrev S1x8x2048 : Shape := ⟨3, ![1, 8, 2048]⟩
abbrev S1x3x1024 : Shape := ⟨3, ![1, 3, 1024]⟩
abbrev S3x1024 : Shape := ⟨2, ![3, 1024]⟩
abbrev S16 : Shape := ⟨1, ![16]⟩
abbrev S1x16 : Shape := ⟨2, ![1, 16]⟩
abbrev S2x16 : Shape := ⟨2, ![2, 16]⟩
abbrev S32 : Shape := ⟨1, ![32]⟩
abbrev S128 : Shape := ⟨1, ![128]⟩
abbrev S1x128 : Shape := ⟨2, ![1, 128]⟩
abbrev S4x4096x1 : Shape := ⟨3, ![4, 4096, 1]⟩
abbrev S1024x32 : Shape := ⟨2, ![1024, 32]⟩
abbrev S1024x16 : Shape := ⟨2, ![1024, 16]⟩
abbrev S1024x320 : Shape := ⟨2, ![1024, 320]⟩
abbrev S1024x384 : Shape := ⟨2, ![1024, 384]⟩
abbrev S1x1024 : Shape := ⟨2, ![1, 1024]⟩
abbrev S1x256 : Shape := ⟨2, ![1, 256]⟩
abbrev S256x16x64 : Shape := ⟨3, ![256, 16, 64]⟩
abbrev S256x16x128 : Shape := ⟨3, ![256, 16, 128]⟩
abbrev S256x2048 : Shape := ⟨2, ![256, 2048]⟩
abbrev S1024x256 : Shape := ⟨2, ![1024, 256]⟩
abbrev S64 : Shape := ⟨1, ![64]⟩
abbrev S384x1536 : Shape := ⟨2, ![384, 1536]⟩
abbrev S384x16x96 : Shape := ⟨3, ![384, 16, 96]⟩
abbrev S384x16x64 : Shape := ⟨3, ![384, 16, 64]⟩
abbrev S384x16x16 : Shape := ⟨3, ![384, 16, 16]⟩
abbrev S384 : Shape := ⟨1, ![384]⟩
abbrev S384x16x128 : Shape := ⟨3, ![384, 16, 128]⟩
abbrev S384x2048 : Shape := ⟨2, ![384, 2048]⟩
abbrev S4x4096x2048 : Shape := ⟨3, ![4, 4096, 2048]⟩
abbrev S4x1024x4096 : Shape := ⟨3, ![4, 1024, 4096]⟩
abbrev S1x512x1024 : Shape := ⟨3, ![1, 512, 1024]⟩
abbrev S1x8x1024 : Shape := ⟨3, ![1, 8, 1024]⟩
abbrev S1x512x1 : Shape := ⟨3, ![1, 512, 1]⟩
abbrev S1x512x2048 : Shape := ⟨3, ![1, 512, 2048]⟩
abbrev S1x1024x512 : Shape := ⟨3, ![1, 1024, 512]⟩
abbrev S512x1024 : Shape := ⟨2, ![512, 1024]⟩
abbrev S512 : Shape := ⟨1, ![512]⟩
abbrev S512x1 : Shape := ⟨2, ![512, 1]⟩
abbrev S512x128 : Shape := ⟨2, ![512, 128]⟩
abbrev S1x1x1024 : Shape := ⟨3, ![1, 1, 1024]⟩
abbrev S512x384 : Shape := ⟨2, ![512, 384]⟩
abbrev S512x2048 : Shape := ⟨2, ![512, 2048]⟩
abbrev S1x512x128 : Shape := ⟨3, ![1, 512, 128]⟩
abbrev S512x256 : Shape := ⟨2, ![512, 256]⟩
abbrev S1024x512 : Shape := ⟨2, ![1024, 512]⟩

abbrev nBuf : Space → Nat
  | .hbm => 116
  | .vmem => 29
  | .smem => 0
  | _ => 0

abbrev bufTy : (tb : Table) → Fin (tcTables nBuf tb) → BufTy
  | .hbm, ⟨0, _⟩ => ⟨S4x4096x1024, .f32⟩
  | .hbm, ⟨1, _⟩ => ⟨S2x4x9216, .f32⟩
  | .hbm, ⟨2, _⟩ => ⟨S1x4x2048, .f32⟩
  | .hbm, ⟨3, _⟩ => ⟨S2x3x1024, .f32⟩
  | .hbm, ⟨4, _⟩ => ⟨S1x1024x384, .f32⟩
  | .hbm, ⟨5, _⟩ => ⟨S1x384, .f32⟩
  | .hbm, ⟨6, _⟩ => ⟨S1x384x1536, .f32⟩
  | .hbm, ⟨7, _⟩ => ⟨S1x96, .f32⟩
  | .hbm, ⟨8, _⟩ => ⟨S1024, .f32⟩
  | .hbm, ⟨9, _⟩ => ⟨S1024x288, .f32⟩
  | .hbm, ⟨10, _⟩ => ⟨S256, .f32⟩
  | .hbm, ⟨11, _⟩ => ⟨S256x1024, .f32⟩
  | .hbm, ⟨12, _⟩ => ⟨S256x1024, .f32⟩
  | .hbm, ⟨13, _⟩ => ⟨S96, .f32⟩
  | .hbm, ⟨14, _⟩ => ⟨S4x4096, .i32⟩
  | .hbm, ⟨15, _⟩ => ⟨S_, .i32⟩
  | .hbm, ⟨16, _⟩ => ⟨S_, .f32⟩
  | .hbm, ⟨17, _⟩ => ⟨S2x8x9216, .f32⟩
  | .hbm, ⟨18, _⟩ => ⟨S_, .i32⟩
  | .hbm, ⟨19, _⟩ => ⟨S_, .f32⟩
  | .hbm, ⟨20, _⟩ => ⟨S1x8x2048, .f32⟩
  | .hbm, ⟨21, _⟩ => ⟨S1x3x1024, .f32⟩
  | .hbm, ⟨22, _⟩ => ⟨S3x1024, .f32⟩
  | .hbm, ⟨23, _⟩ => ⟨S16, .f32⟩
  | .hbm, ⟨24, _⟩ => ⟨S16, .f32⟩
  | .hbm, ⟨25, _⟩ => ⟨S_, .f32⟩
  | .hbm, ⟨26, _⟩ => ⟨S16, .f32⟩
  | .hbm, ⟨27, _⟩ => ⟨S16, .f32⟩
  | .hbm, ⟨28, _⟩ => ⟨S_, .f32⟩
  | .hbm, ⟨29, _⟩ => ⟨S16, .f32⟩
  | .hbm, ⟨30, _⟩ => ⟨S16, .f32⟩
  | .hbm, ⟨31, _⟩ => ⟨S1x16, .f32⟩
  | .hbm, ⟨32, _⟩ => ⟨S2x16, .f32⟩
  | .hbm, ⟨33, _⟩ => ⟨S32, .f32⟩
  | .hbm, ⟨34, _⟩ => ⟨S_, .i32⟩
  | .hbm, ⟨35, _⟩ => ⟨S_, .f32⟩
  | .hbm, ⟨36, _⟩ => ⟨S128, .f32⟩
  | .hbm, ⟨37, _⟩ => ⟨S1x128, .f32⟩
  | .hbm, ⟨38, _⟩ => ⟨S4x4096x1, .i32⟩
  | .hbm, ⟨39, _⟩ => ⟨S1024x288, .bf16⟩
  | .hbm, ⟨40, _⟩ => ⟨S1024x32, .bf16⟩
  | .hbm, ⟨41, _⟩ => ⟨S1024x16, .bf16⟩
  | .hbm, ⟨42, _⟩ => ⟨S1024x16, .bf16⟩
  | .hbm, ⟨43, _⟩ => ⟨S1024x32, .bf16⟩
  | .hbm, ⟨44, _⟩ => ⟨S1024x320, .bf16⟩
  | .hbm, ⟨45, _⟩ => ⟨S_, .i32⟩
  | .hbm, ⟨46, _⟩ => ⟨S_, .bf16⟩
  | .hbm, ⟨47, _⟩ => ⟨S1024x384, .bf16⟩
  | .hbm, ⟨48, _⟩ => ⟨S1x1024, .f32⟩
  | .hbm, ⟨49, _⟩ => ⟨S1x256, .f32⟩
  | .hbm, ⟨50, _⟩ => ⟨S256x1024, .bf16⟩
  | .hbm, ⟨51, _⟩ => ⟨S256x16x64, .bf16⟩
  | .hbm, ⟨52, _⟩ => ⟨S_, .i32⟩
  | .hbm, ⟨53, _⟩ => ⟨S_, .bf16⟩
  | .hbm, ⟨54, _⟩ => ⟨S256x16x128, .bf16⟩
  | .hbm, ⟨55, _⟩ => ⟨S256x2048, .bf16⟩
  | .hbm, ⟨56, _⟩ => ⟨S256x1024, .bf16⟩
  | .hbm, ⟨57, _⟩ => ⟨S1024x256, .bf16⟩
  | .hbm, ⟨58, _⟩ => ⟨S_, .i32⟩
  | .hbm, ⟨59, _⟩ => ⟨S_, .f32⟩
  | .hbm, ⟨60, _⟩ => ⟨S128, .f32⟩
  | .hbm, ⟨61, _⟩ => ⟨S1x128, .f32⟩
  | .hbm, ⟨62, _⟩ => ⟨S64, .f32⟩
  | .hbm, ⟨63, _⟩ => ⟨S_, .f32⟩
  | .hbm, ⟨64, _⟩ => ⟨S64, .f32⟩
  | .hbm, ⟨65, _⟩ => ⟨S16, .f32⟩
  | .hbm, ⟨66, _⟩ => ⟨S16, .f32⟩
  | .hbm, ⟨67, _⟩ => ⟨S96, .f32⟩
  | .hbm, ⟨68, _⟩ => ⟨S_, .i32⟩
  | .hbm, ⟨69, _⟩ => ⟨S_, .f32⟩
  | .hbm, ⟨70, _⟩ => ⟨S128, .f32⟩
  | .hbm, ⟨71, _⟩ => ⟨S1x128, .f32⟩
  | .hbm, ⟨72, _⟩ => ⟨S384x1536, .f32⟩
  | .hbm, ⟨73, _⟩ => ⟨S384x1536, .bf16⟩
  | .hbm, ⟨74, _⟩ => ⟨S384x16x96, .bf16⟩
  | .hbm, ⟨75, _⟩ => ⟨S384x16x64, .bf16⟩
  | .hbm, ⟨76, _⟩ => ⟨S_, .bf16⟩
  | .hbm, ⟨77, _⟩ => ⟨S384x16x64, .bf16⟩
  | .hbm, ⟨78, _⟩ => ⟨S384x16x16, .bf16⟩
  | .hbm, ⟨79, _⟩ => ⟨S384x16x16, .bf16⟩
  | .hbm, ⟨80, _⟩ => ⟨S384x16x96, .bf16⟩
  | .hbm, ⟨81, _⟩ => ⟨S384x1536, .bf16⟩
  | .hbm, ⟨82, _⟩ => ⟨S1x1024, .f32⟩
  | .hbm, ⟨83, _⟩ => ⟨S1024x384, .f32⟩
  | .hbm, ⟨84, _⟩ => ⟨S1024x384, .bf16⟩
  | .hbm, ⟨85, _⟩ => ⟨S384, .f32⟩
  | .hbm, ⟨86, _⟩ => ⟨S1x384, .f32⟩
  | .hbm, ⟨87, _⟩ => ⟨S384x16x96, .bf16⟩
  | .hbm, ⟨88, _⟩ => ⟨S_, .i32⟩
  | .hbm, ⟨89, _⟩ => ⟨S_, .bf16⟩
  | .hbm, ⟨90, _⟩ => ⟨S384x16x128, .bf16⟩
  | .hbm, ⟨91, _⟩ => ⟨S384x2048, .bf16⟩
  | .hbm, ⟨92, _⟩ => ⟨S384x16x96, .bf16⟩
  | .hbm, ⟨93, _⟩ => ⟨S_, .i32⟩
  | .hbm, ⟨94, _⟩ => ⟨S_, .bf16⟩
  | .hbm, ⟨95, _⟩ => ⟨S384x16x128, .bf16⟩
  | .hbm, ⟨96, _⟩ => ⟨S384x2048, .bf16⟩
  | .hbm, ⟨97, _⟩ => ⟨S96, .f32⟩
  | .hbm, ⟨98, _⟩ => ⟨S_, .i32⟩
  | .hbm, ⟨99, _⟩ => ⟨S_, .f32⟩
  | .hbm, ⟨100, _⟩ => ⟨S128, .f32⟩
  | .hbm, ⟨101, _⟩ => ⟨S1x128, .f32⟩
  | .hbm, ⟨102, _⟩ => ⟨S96, .f32⟩
  | .hbm, ⟨103, _⟩ => ⟨S64, .f32⟩
  | .hbm, ⟨104, _⟩ => ⟨S_, .f32⟩
  | .hbm, ⟨105, _⟩ => ⟨S64, .f32⟩
  | .hbm, ⟨106, _⟩ => ⟨S16, .f32⟩
  | .hbm, ⟨107, _⟩ => ⟨S16, .f32⟩
  | .hbm, ⟨108, _⟩ => ⟨S96, .f32⟩
  | .hbm, ⟨109, _⟩ => ⟨S_, .i32⟩
  | .hbm, ⟨110, _⟩ => ⟨S_, .f32⟩
  | .hbm, ⟨111, _⟩ => ⟨S128, .f32⟩
  | .hbm, ⟨112, _⟩ => ⟨S1x128, .f32⟩
  | .hbm, ⟨113, _⟩ => ⟨S4x4096x2048, .bf16⟩
  | .hbm, ⟨114, _⟩ => ⟨S4x4096x2048, .bf16⟩
  | .hbm, ⟨115, _⟩ => ⟨S4x1024x4096, .bf16⟩
  | .local _ .vmem, ⟨0, _⟩ => ⟨S1x512x1024, .f32⟩
  | .local _ .vmem, ⟨1, _⟩ => ⟨S1x512x1024, .f32⟩
  | .local _ .vmem, ⟨2, _⟩ => ⟨S1x8x1024, .f32⟩
  | .local _ .vmem, ⟨3, _⟩ => ⟨S1x8x1024, .f32⟩
  | .local _ .vmem, ⟨4, _⟩ => ⟨S1x1024, .f32⟩
  | .local _ .vmem, ⟨5, _⟩ => ⟨S1024x384, .bf16⟩
  | .local _ .vmem, ⟨6, _⟩ => ⟨S1x384, .f32⟩
  | .local _ .vmem, ⟨7, _⟩ => ⟨S384x2048, .bf16⟩
  | .local _ .vmem, ⟨8, _⟩ => ⟨S384x2048, .bf16⟩
  | .local _ .vmem, ⟨9, _⟩ => ⟨S1x128, .f32⟩
  | .local _ .vmem, ⟨10, _⟩ => ⟨S1x128, .f32⟩
  | .local _ .vmem, ⟨11, _⟩ => ⟨S1x8x1024, .f32⟩
  | .local _ .vmem, ⟨12, _⟩ => ⟨S1x8x1024, .f32⟩
  | .local _ .vmem, ⟨13, _⟩ => ⟨S1x1024, .f32⟩
  | .local _ .vmem, ⟨14, _⟩ => ⟨S1024x384, .bf16⟩
  | .local _ .vmem, ⟨15, _⟩ => ⟨S1x256, .f32⟩
  | .local _ .vmem, ⟨16, _⟩ => ⟨S256x2048, .bf16⟩
  | .local _ .vmem, ⟨17, _⟩ => ⟨S1024x256, .bf16⟩
  | .local _ .vmem, ⟨18, _⟩ => ⟨S1x128, .f32⟩
  | .local _ .vmem, ⟨19, _⟩ => ⟨S1x128, .f32⟩
  | .local _ .vmem, ⟨20, _⟩ => ⟨S1x512x1, .i32⟩
  | .local _ .vmem, ⟨21, _⟩ => ⟨S1x512x1, .i32⟩
  | .local _ .vmem, ⟨22, _⟩ => ⟨S1x128, .f32⟩
  | .local _ .vmem, ⟨23, _⟩ => ⟨S1x512x2048, .bf16⟩
  | .local _ .vmem, ⟨24, _⟩ => ⟨S1x512x2048, .bf16⟩
  | .local _ .vmem, ⟨25, _⟩ => ⟨S1x512x2048, .bf16⟩
  | .local _ .vmem, ⟨26, _⟩ => ⟨S1x512x2048, .bf16⟩
  | .local _ .vmem, ⟨27, _⟩ => ⟨S1x1024x512, .bf16⟩
  | .local _ .vmem, ⟨28, _⟩ => ⟨S1x1024x512, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_c : Ref sig .tc := ⟨.hbm, 15, rfl⟩
abbrev main_call0_v0 : Ref sig .tc := ⟨.hbm, 16, rfl⟩
abbrev main_v0 : Ref sig .tc := ⟨.hbm, 17, rfl⟩
abbrev main_c_0 : Ref sig .tc := ⟨.hbm, 18, rfl⟩
abbrev main_call1_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_cst : Ref sig .tc := ⟨.hbm, 25, rfl⟩
abbrev main_v6 : Ref sig .tc := ⟨.hbm, 26, rfl⟩
abbrev main_v7 : Ref sig .tc := ⟨.hbm, 27, rfl⟩
abbrev main_cst_1 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_c_2 : Ref sig .tc := ⟨.hbm, 34, rfl⟩
abbrev main_call2_v0 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_c_3 : Ref sig .tc := ⟨.hbm, 45, rfl⟩
abbrev main_call3_v0 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_c_4 : Ref sig .tc := ⟨.hbm, 52, rfl⟩
abbrev main_call4_v0 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_c_5 : Ref sig .tc := ⟨.hbm, 58, rfl⟩
abbrev main_call5_v0 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_cst_6 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_c_7 : Ref sig .tc := ⟨.hbm, 68, rfl⟩
abbrev main_call6_v0 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_cst_8 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_c_9 : Ref sig .tc := ⟨.hbm, 88, rfl⟩
abbrev main_call7_v0 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_c_10 : Ref sig .tc := ⟨.hbm, 93, rfl⟩
abbrev main_call8_v0 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_c_11 : Ref sig .tc := ⟨.hbm, 98, rfl⟩
abbrev main_call9_v0 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_cst_12 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_c_13 : Ref sig .tc := ⟨.hbm, 109, rfl⟩
abbrev main_call10_v0 : Ref sig .tc := ⟨.hbm, 110, rfl⟩
abbrev main_v69 : Ref sig .tc := ⟨.hbm, 111, rfl⟩
abbrev main_v70 : Ref sig .tc := ⟨.hbm, 112, rfl⟩
abbrev main_v71_0 : Ref sig .tc := ⟨.hbm, 113, rfl⟩
abbrev main_v71_1 : Ref sig .tc := ⟨.hbm, 114, rfl⟩
abbrev main_v71_2 : Ref sig .tc := ⟨.hbm, 115, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg18_0 : Ref sig .tc := ⟨.vmem, 19, rfl⟩
abbrev cc0_stg19_0 : Ref sig .tc := ⟨.vmem, 20, rfl⟩
abbrev cc0_stg19_1 : Ref sig .tc := ⟨.vmem, 21, rfl⟩
abbrev cc0_stg20_0 : Ref sig .tc := ⟨.vmem, 22, rfl⟩
abbrev cc0_stg21_0 : Ref sig .tc := ⟨.vmem, 23, rfl⟩
abbrev cc0_stg21_1 : Ref sig .tc := ⟨.vmem, 24, rfl⟩
abbrev cc0_stg22_0 : Ref sig .tc := ⟨.vmem, 25, rfl⟩
abbrev cc0_stg22_1 : Ref sig .tc := ⟨.vmem, 26, rfl⟩
abbrev cc0_stg23_0 : Ref sig .tc := ⟨.vmem, 27, rfl⟩
abbrev cc0_stg23_1 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem18_0 : DmaSem sig := 19
abbrev cc0_sem19_0 : DmaSem sig := 20
abbrev cc0_sem19_1 : DmaSem sig := 21
abbrev cc0_sem20_0 : DmaSem sig := 22
abbrev cc0_sem21_0 : DmaSem sig := 23
abbrev cc0_sem21_1 : DmaSem sig := 24
abbrev cc0_sem22_0 : DmaSem sig := 25
abbrev cc0_sem22_1 : DmaSem sig := 26
abbrev cc0_sem23_0 : DmaSem sig := 27
abbrev cc0_sem23_1 : DmaSem sig := 28

abbrev nD : Nat := 1
abbrev τ : Topo := Topo.v7x

variable {F : FTy → Type} [FloatOps F]

abbrev grid0 : Pipeline.Grid := ⟨2, ![4, 8], ![false, false]⟩

def k0_off1 (i : grid0.Coords) : Fin 3 → Nat :=
  let c0_12 : Index := 0#32
  let arg0 : BitVec 32 := BitVec.ofNat 32 (i 0).val
  let v34 : Index := Scalar.indexCast arg0
  let c0_13 : Index := 0#32
  ![0, v34.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c3_i32 : BitVec 32 := 3#32
  let c0_i32_0 : BitVec 32 := 0#32
  ![c1_i32.toNat, c0_i32.toNat, c3_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c4_i32 : BitVec 32 := 4#32
  let c0_i32_0 : BitVec 32 := 0#32
  ![c1_i32.toNat, c0_i32.toNat, c4_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c1_i32 : BitVec 32 := 1#32
  let c0_i32_1 : BitVec 32 := 0#32
  ![c0_i32.toNat, c0_i32_0.toNat, c1_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_20 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_22 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_23 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x384 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S384x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S384x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x8x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x8x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1024x384 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S256x2048 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S1024x256 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S1x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 1 → Memref sig .tc .vmem S1x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]

abbrev stage0_19 : Fin 2 → Memref sig .tc .vmem S1x512x1 .i32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 1 → Memref sig .tc .vmem S1x128 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false, false]

abbrev stage0_21 : Fin 2 → Memref sig .tc .vmem S1x512x2048 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]

abbrev stage0_22 : Fin 2 → Memref sig .tc .vmem S1x512x2048 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, true]

abbrev stage0_23 : Fin 2 → Memref sig .tc .vmem S1x1024x512 .bf16 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true, true]
-- ==== Kernel5Ideal.lean ====
variable {F : FTy → Type} [FloatOps F] [Named F]
def κ : String → Option EReal := fun
  | "inv_width" => some ((1 / 96 : ℝ) : EReal)
  | "scale" => some (((Real.sqrt 96)⁻¹ * (Real.log 2)⁻¹ : ℝ) : EReal)
  | _ => none
-- ==== Reference5Ideal.lean ====
abbrev S4x4096x1024 : Shape := ⟨3, ![4, 4096, 1024]⟩
abbrev S2x4x9216 : Shape := ⟨3, ![2, 4, 9216]⟩
abbrev S1x4x2048 : Shape := ⟨3, ![1, 4, 2048]⟩
abbrev S2x3x1024 : Shape := ⟨3, ![2, 3, 1024]⟩
abbrev S1x1024x384 : Shape := ⟨3, ![1, 1024, 384]⟩
abbrev S1x384 : Shape := ⟨2, ![1, 384]⟩
abbrev S1x384x1536 : Shape := ⟨3, ![1, 384, 1536]⟩
abbrev S1x96 : Shape := ⟨2, ![1, 96]⟩
abbrev S1024 : Shape := ⟨1, ![1024]⟩
abbrev S1024x288 : Shape := ⟨2, ![1024, 288]⟩
abbrev S256 : Shape := ⟨1, ![256]⟩
abbrev S256x1024 : Shape := ⟨2, ![256, 1024]⟩
abbrev S96 : Shape := ⟨1, ![96]⟩
abbrev S4x4096 : Shape := ⟨2, ![4, 4096]⟩
abbrev S1x4x9216 : Shape := ⟨3, ![1, 4, 9216]⟩
abbrev S4x9216 : Shape := ⟨2, ![4, 9216]⟩
abbrev S4x1024 : Shape := ⟨2, ![4, 1024]⟩
abbrev S1x1x1024 : Shape := ⟨3, ![1, 1, 1024]⟩
abbrev S_ : Shape := ⟨0, ![]⟩
abbrev S4x4096x1 : Shape := ⟨3, ![4, 4096, 1]⟩
abbrev S4x1x1024 : Shape := ⟨3, ![4, 1, 1024]⟩
abbrev S1024x384 : Shape := ⟨2, ![1024, 384]⟩
abbrev S4x4096x384 : Shape := ⟨3, ![4, 4096, 384]⟩
abbrev S384 : Shape := ⟨1, ![384]⟩
abbrev S1x1x384 : Shape := ⟨3, ![1, 1, 384]⟩
abbrev S384x1536 : Shape := ⟨2, ![384, 1536]⟩
abbrev S4x4096x1536 : Shape := ⟨3, ![4, 4096, 1536]⟩
abbrev S4x4096x16x96 : Shape := ⟨4, ![4, 4096, 16, 96]⟩
abbrev S4x4096x16 : Shape := ⟨3, ![4, 4096, 16]⟩
abbrev S4x4096x16x1 : Shape := ⟨4, ![4, 4096, 16, 1]⟩
abbrev S1x1x1x96 : Shape := ⟨4, ![1, 1, 1, 96]⟩
abbrev S4x4096x16x64 : Shape := ⟨4, ![4, 4096, 16, 64]⟩
abbrev S4x4096x16x32 : Shape := ⟨4, ![4, 4096, 16, 32]⟩
abbrev S16 : Shape := ⟨1, ![16]⟩
abbrev S1x1x16 : Shape := ⟨3, ![1, 1, 16]⟩
abbrev S4x4096x1x16 : Shape := ⟨4, ![4, 4096, 1, 16]⟩
abbrev S4x4096x16x16 : Shape := ⟨4, ![4, 4096, 16, 16]⟩
abbrev S4x2048 : Shape := ⟨2, ![4, 2048]⟩
abbrev S4x4096x288 : Shape := ⟨3, ![4, 4096, 288]⟩
abbrev S4x4096x256 : Shape := ⟨3, ![4, 4096, 256]⟩
abbrev S1x1x256 : Shape := ⟨3, ![1, 1, 256]⟩
abbrev S4x4096x32 : Shape := ⟨3, ![4, 4096, 32]⟩
abbrev S4x4096x1x32 : Shape := ⟨4, ![4, 4096, 1, 32]⟩
abbrev S4x4096x16x128 : Shape := ⟨4, ![4, 4096, 16, 128]⟩
abbrev S4x4096x2048 : Shape := ⟨3, ![4, 4096, 2048]⟩
abbrev S4x1024x4096 : Shape := ⟨3, ![4, 1024, 4096]⟩

abbrev nBuf : Space → Nat
  | .hbm => 250
  | .vmem => 0
  | .smem => 0
  | _ => 0

abbrev hbmTy0_0 (i : Nat) : BufTy := match i % 128 with
  | 0 => ⟨S4x4096x1024, .f32⟩
  | 1 => ⟨S2x4x9216, .f32⟩
  | 2 => ⟨S1x4x2048, .f32⟩
  | 3 => ⟨S2x3x1024, .f32⟩
  | 4 => ⟨S1x1024x384, .f32⟩
  | 5 => ⟨S1x384, .f32⟩
  | 6 => ⟨S1x384x1536, .f32⟩
  | 7 => ⟨S1x96, .f32⟩
  | 8 => ⟨S1024, .f32⟩
  | 9 => ⟨S1024x288, .f32⟩
  | 10 => ⟨S256, .f32⟩
  | 11 => ⟨S256x1024, .f32⟩
  | 12 => ⟨S256x1024, .f32⟩
  | 13 => ⟨S96, .f32⟩
  | 14 => ⟨S4x4096, .i32⟩
  | 15 => ⟨S1x4x9216, .f32⟩
  | 16 => ⟨S4x9216, .f32⟩
  | 17 => ⟨S4x1024, .f32⟩
  | 18 => ⟨S4x1024, .f32⟩
  | 19 => ⟨S4x1024, .f32⟩
  | 20 => ⟨S4x1024, .f32⟩
  | 21 => ⟨S4x1024, .f32⟩
  | 22 => ⟨S4x1024, .f32⟩
  | 23 => ⟨S4x1024, .f32⟩
  | 24 => ⟨S4x1024, .f32⟩
  | 25 => ⟨S4x1024, .f32⟩
  | 26 => ⟨S1x1x1024, .f32⟩
  | 27 => ⟨S1024, .f32⟩
  | 28 => ⟨S4x4096x1024, .f32⟩
  | 29 => ⟨S_, .f32⟩
  | 30 => ⟨S4x4096, .f32⟩
  | 31 => ⟨S4x4096x1, .f32⟩
  | 32 => ⟨S_, .f32⟩
  | 33 => ⟨S4x4096x1, .f32⟩
  | 34 => ⟨S4x4096x1, .f32⟩
  | 35 => ⟨S_, .f32⟩
  | 36 => ⟨S4x4096x1, .f32⟩
  | 37 => ⟨S4x4096x1, .f32⟩
  | 38 => ⟨S4x4096x1, .f32⟩
  | 39 => ⟨S4x4096x1024, .f32⟩
  | 40 => ⟨S4x4096x1024, .f32⟩
  | 41 => ⟨S1x1x1024, .f32⟩
  | 42 => ⟨S4x4096x1024, .f32⟩
  | 43 => ⟨S4x4096x1024, .f32⟩
  | 44 => ⟨S4x1x1024, .f32⟩
  | 45 => ⟨S_, .f32⟩
  | 46 => ⟨S4x1x1024, .f32⟩
  | 47 => ⟨S4x1x1024, .f32⟩
  | 48 => ⟨S4x4096x1024, .f32⟩
  | 49 => ⟨S4x4096x1024, .f32⟩
  | 50 => ⟨S4x1x1024, .f32⟩
  | 51 => ⟨S4x4096x1024, .f32⟩
  | 52 => ⟨S4x4096x1024, .f32⟩
  | 53 => ⟨S1024x384, .f32⟩
  | 54 => ⟨S4x4096x384, .f32⟩
  | 55 => ⟨S384, .f32⟩
  | 56 => ⟨S4x4096x384, .f32⟩
  | 57 => ⟨S_, .f32⟩
  | 58 => ⟨S4x4096, .f32⟩
  | 59 => ⟨S4x4096x1, .f32⟩
  | 60 => ⟨S_, .f32⟩
  | 61 => ⟨S4x4096x1, .f32⟩
  | 62 => ⟨S4x4096x1, .f32⟩
  | 63 => ⟨S_, .f32⟩
  | 64 => ⟨S4x4096x1, .f32⟩
  | 65 => ⟨S4x4096x1, .f32⟩
  | 66 => ⟨S4x4096x1, .f32⟩
  | 67 => ⟨S4x4096x384, .f32⟩
  | 68 => ⟨S4x4096x384, .f32⟩
  | 69 => ⟨S1x1x384, .f32⟩
  | 70 => ⟨S4x4096x384, .f32⟩
  | 71 => ⟨S4x4096x384, .f32⟩
  | 72 => ⟨S384x1536, .f32⟩
  | 73 => ⟨S4x4096x1536, .f32⟩
  | 74 => ⟨S4x4096x16x96, .f32⟩
  | 75 => ⟨S96, .f32⟩
  | 76 => ⟨S4x4096x16x96, .f32⟩
  | 77 => ⟨S_, .f32⟩
  | 78 => ⟨S4x4096x16, .f32⟩
  | 79 => ⟨S4x4096x16x1, .f32⟩
  | 80 => ⟨S_, .f32⟩
  | 81 => ⟨S4x4096x16x1, .f32⟩
  | 82 => ⟨S4x4096x16x1, .f32⟩
  | 83 => ⟨S_, .f32⟩
  | 84 => ⟨S4x4096x16x1, .f32⟩
  | 85 => ⟨S4x4096x16x1, .f32⟩
  | 86 => ⟨S4x4096x16x1, .f32⟩
  | 87 => ⟨S4x4096x16x96, .f32⟩
  | 88 => ⟨S4x4096x16x96, .f32⟩
  | 89 => ⟨S1x1x1x96, .f32⟩
  | 90 => ⟨S4x4096x16x96, .f32⟩
  | 91 => ⟨S4x4096x16x96, .f32⟩
  | 92 => ⟨S4x4096x16x64, .f32⟩
  | 93 => ⟨S4x4096x16x32, .f32⟩
  | 94 => ⟨S16, .f32⟩
  | 95 => ⟨S16, .f32⟩
  | 96 => ⟨S_, .f32⟩
  | 97 => ⟨S16, .f32⟩
  | 98 => ⟨S16, .f32⟩
  | 99 => ⟨S_, .f32⟩
  | 100 => ⟨S16, .f32⟩
  | 101 => ⟨S16, .f32⟩
  | 102 => ⟨S4x4096, .f32⟩
  | 103 => ⟨S4x4096x1, .f32⟩
  | 104 => ⟨S1x1x16, .f32⟩
  | 105 => ⟨S4x4096x16, .f32⟩
  | 106 => ⟨S4x4096x16, .f32⟩
  | 107 => ⟨S4x4096x16, .f32⟩
  | 108 => ⟨S4x4096x16, .f32⟩
  | 109 => ⟨S4x4096x1x16, .f32⟩
  | 110 => ⟨S4x4096x16, .f32⟩
  | 111 => ⟨S4x4096x1x16, .f32⟩
  | 112 => ⟨S4x4096x16x16, .f32⟩
  | 113 => ⟨S4x4096x16x16, .f32⟩
  | 114 => ⟨S4x4096x16x16, .f32⟩
  | 115 => ⟨S4x4096x16x16, .f32⟩
  | 116 => ⟨S4x4096x16x16, .f32⟩
  | 117 => ⟨S4x4096x16x16, .f32⟩
  | 118 => ⟨S4x4096x16x16, .f32⟩
  | 119 => ⟨S4x4096x16x16, .f32⟩
  | 120 => ⟨S4x4096x16x16, .f32⟩
  | 121 => ⟨S4x4096x16x16, .f32⟩
  | 122 => ⟨S4x4096x16x16, .f32⟩
  | 123 => ⟨S4x4096x16x16, .f32⟩
  | 124 => ⟨S4x4096x16x32, .f32⟩
  | 125 => ⟨S4x4096x16x96, .f32⟩
  | 126 => ⟨S4x2048, .f32⟩
  | 127 => ⟨S4x1024, .f32⟩
  | _ => ⟨S4x4096x1024, .f32⟩

abbrev hbmTy0_1 (i : Nat) : BufTy := match i % 128 with
  | 0 => ⟨S4x1024, .f32⟩
  | 1 => ⟨S4x4096x1024, .f32⟩
  | 2 => ⟨S_, .f32⟩
  | 3 => ⟨S4x4096, .f32⟩
  | 4 => ⟨S4x4096x1, .f32⟩
  | 5 => ⟨S_, .f32⟩
  | 6 => ⟨S4x4096x1, .f32⟩
  | 7 => ⟨S4x4096x1, .f32⟩
  | 8 => ⟨S_, .f32⟩
  | 9 => ⟨S4x4096x1, .f32⟩
  | 10 => ⟨S4x4096x1, .f32⟩
  | 11 => ⟨S4x4096x1, .f32⟩
  | 12 => ⟨S4x4096x1024, .f32⟩
  | 13 => ⟨S4x4096x1024, .f32⟩
  | 14 => ⟨S1x1x1024, .f32⟩
  | 15 => ⟨S4x4096x1024, .f32⟩
  | 16 => ⟨S4x4096x1024, .f32⟩
  | 17 => ⟨S4x1x1024, .f32⟩
  | 18 => ⟨S_, .f32⟩
  | 19 => ⟨S4x1x1024, .f32⟩
  | 20 => ⟨S4x1x1024, .f32⟩
  | 21 => ⟨S4x4096x1024, .f32⟩
  | 22 => ⟨S4x4096x1024, .f32⟩
  | 23 => ⟨S4x1x1024, .f32⟩
  | 24 => ⟨S4x4096x1024, .f32⟩
  | 25 => ⟨S4x4096x1024, .f32⟩
  | 26 => ⟨S4x4096x288, .f32⟩
  | 27 => ⟨S4x4096x256, .f32⟩
  | 28 => ⟨S4x4096x256, .f32⟩
  | 29 => ⟨S_, .f32⟩
  | 30 => ⟨S4x4096, .f32⟩
  | 31 => ⟨S4x4096x1, .f32⟩
  | 32 => ⟨S_, .f32⟩
  | 33 => ⟨S4x4096x1, .f32⟩
  | 34 => ⟨S4x4096x1, .f32⟩
  | 35 => ⟨S_, .f32⟩
  | 36 => ⟨S4x4096x1, .f32⟩
  | 37 => ⟨S4x4096x1, .f32⟩
  | 38 => ⟨S4x4096x1, .f32⟩
  | 39 => ⟨S4x4096x256, .f32⟩
  | 40 => ⟨S4x4096x256, .f32⟩
  | 41 => ⟨S1x1x256, .f32⟩
  | 42 => ⟨S4x4096x256, .f32⟩
  | 43 => ⟨S4x4096x256, .f32⟩
  | 44 => ⟨S4x4096x32, .f32⟩
  | 45 => ⟨S4x4096x1024, .f32⟩
  | 46 => ⟨S4x4096x16x64, .f32⟩
  | 47 => ⟨S4x4096x1024, .f32⟩
  | 48 => ⟨S4x4096x1x32, .f32⟩
  | 49 => ⟨S4x4096x16x32, .f32⟩
  | 50 => ⟨S4x4096x16x96, .f32⟩
  | 51 => ⟨S4x4096x16x96, .f32⟩
  | 52 => ⟨S_, .f32⟩
  | 53 => ⟨S4x4096x16, .f32⟩
  | 54 => ⟨S4x4096x16x1, .f32⟩
  | 55 => ⟨S_, .f32⟩
  | 56 => ⟨S4x4096x16x1, .f32⟩
  | 57 => ⟨S4x4096x16x1, .f32⟩
  | 58 => ⟨S_, .f32⟩
  | 59 => ⟨S4x4096x16x1, .f32⟩
  | 60 => ⟨S4x4096x16x1, .f32⟩
  | 61 => ⟨S4x4096x16x1, .f32⟩
  | 62 => ⟨S4x4096x16x96, .f32⟩
  | 63 => ⟨S4x4096x16x96, .f32⟩
  | 64 => ⟨S1x1x1x96, .f32⟩
  | 65 => ⟨S4x4096x16x96, .f32⟩
  | 66 => ⟨S4x4096x16x96, .f32⟩
  | 67 => ⟨S4x4096x16x64, .f32⟩
  | 68 => ⟨S4x4096x16x32, .f32⟩
  | 69 => ⟨S16, .f32⟩
  | 70 => ⟨S16, .f32⟩
  | 71 => ⟨S_, .f32⟩
  | 72 => ⟨S16, .f32⟩
  | 73 => ⟨S16, .f32⟩
  | 74 => ⟨S_, .f32⟩
  | 75 => ⟨S16, .f32⟩
  | 76 => ⟨S16, .f32⟩
  | 77 => ⟨S4x4096, .f32⟩
  | 78 => ⟨S4x4096x1, .f32⟩
  | 79 => ⟨S1x1x16, .f32⟩
  | 80 => ⟨S4x4096x16, .f32⟩
  | 81 => ⟨S4x4096x16, .f32⟩
  | 82 => ⟨S4x4096x16, .f32⟩
  | 83 => ⟨S4x4096x16, .f32⟩
  | 84 => ⟨S4x4096x1x16, .f32⟩
  | 85 => ⟨S4x4096x16, .f32⟩
  | 86 => ⟨S4x4096x1x16, .f32⟩
  | 87 => ⟨S4x4096x16x16, .f32⟩
  | 88 => ⟨S4x4096x16x16, .f32⟩
  | 89 => ⟨S4x4096x16x16, .f32⟩
  | 90 => ⟨S4x4096x16x16, .f32⟩
  | 91 => ⟨S4x4096x16x16, .f32⟩
  | 92 => ⟨S4x4096x16x16, .f32⟩
  | 93 => ⟨S4x4096x16x16, .f32⟩
  | 94 => ⟨S4x4096x16x16, .f32⟩
  | 95 => ⟨S4x4096x16x16, .f32⟩
  | 96 => ⟨S4x4096x16x16, .f32⟩
  | 97 => ⟨S4x4096x16x16, .f32⟩
  | 98 => ⟨S4x4096x16x16, .f32⟩
  | 99 => ⟨S4x4096x16x32, .f32⟩
  | 100 => ⟨S4x4096x16x96, .f32⟩
  | 101 => ⟨S_, .f32⟩
  | 102 => ⟨S_, .f32⟩
  | 103 => ⟨S_, .f32⟩
  | 104 => ⟨S_, .f32⟩
  | 105 => ⟨S_, .f32⟩
  | 106 => ⟨S_, .f32⟩
  | 107 => ⟨S_, .f32⟩
  | 108 => ⟨S4x4096x16x96, .f32⟩
  | 109 => ⟨S4x4096x16x96, .f32⟩
  | 110 => ⟨S_, .i32⟩
  | 111 => ⟨S_, .f32⟩
  | 112 => ⟨S4x4096x16x128, .f32⟩
  | 113 => ⟨S4x4096x2048, .f32⟩
  | 114 => ⟨S_, .i32⟩
  | 115 => ⟨S_, .f32⟩
  | 116 => ⟨S4x4096x16x128, .f32⟩
  | 117 => ⟨S4x4096x2048, .f32⟩
  | 118 => ⟨S4x4096x2048, .bf16⟩
  | 119 => ⟨S4x4096x2048, .bf16⟩
  | 120 => ⟨S4x1024x4096, .f32⟩
  | 121 => ⟨S4x1024x4096, .bf16⟩
  | _ => ⟨S4x4096x1024, .f32⟩

abbrev hbmTy (i : Nat) : BufTy := match i / 128 with
  | 0 => hbmTy0_0 i
  | 1 => hbmTy0_1 i
  | _ => ⟨S4x4096x1024, .f32⟩

abbrev bufTy : (tb : Table) → Fin (tcTables nBuf tb) → BufTy
  | .hbm, ⟨i, _⟩ => hbmTy i
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst : Ref sig .tc := ⟨.hbm, 29, rfl⟩
abbrev main_v14 : Ref sig .tc := ⟨.hbm, 30, rfl⟩
abbrev main_v15 : Ref sig .tc := ⟨.hbm, 31, rfl⟩
abbrev main_cst_0 : Ref sig .tc := ⟨.hbm, 32, rfl⟩
abbrev main_v16 : Ref sig .tc := ⟨.hbm, 33, rfl⟩
abbrev main_v17 : Ref sig .tc := ⟨.hbm, 34, rfl⟩
abbrev main_cst_1 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_2 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_3 : Ref sig .tc := ⟨.hbm, 57, rfl⟩
abbrev main_v38 : Ref sig .tc := ⟨.hbm, 58, rfl⟩
abbrev main_v39 : Ref sig .tc := ⟨.hbm, 59, rfl⟩
abbrev main_cst_4 : Ref sig .tc := ⟨.hbm, 60, rfl⟩
abbrev main_v40 : Ref sig .tc := ⟨.hbm, 61, rfl⟩
abbrev main_v41 : Ref sig .tc := ⟨.hbm, 62, rfl⟩
abbrev main_cst_5 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_6 : Ref sig .tc := ⟨.hbm, 77, rfl⟩
abbrev main_v55 : Ref sig .tc := ⟨.hbm, 78, rfl⟩
abbrev main_v56 : Ref sig .tc := ⟨.hbm, 79, rfl⟩
abbrev main_cst_7 : Ref sig .tc := ⟨.hbm, 80, rfl⟩
abbrev main_v57 : Ref sig .tc := ⟨.hbm, 81, rfl⟩
abbrev main_v58 : Ref sig .tc := ⟨.hbm, 82, rfl⟩
abbrev main_cst_8 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_cst_9 : Ref sig .tc := ⟨.hbm, 96, rfl⟩
abbrev main_v71 : Ref sig .tc := ⟨.hbm, 97, rfl⟩
abbrev main_v72 : Ref sig .tc := ⟨.hbm, 98, rfl⟩
abbrev main_cst_10 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_cst_11 : Ref sig .tc := ⟨.hbm, 130, rfl⟩
abbrev main_v103 : Ref sig .tc := ⟨.hbm, 131, rfl⟩
abbrev main_v104 : Ref sig .tc := ⟨.hbm, 132, rfl⟩
abbrev main_cst_12 : Ref sig .tc := ⟨.hbm, 133, rfl⟩
abbrev main_v105 : Ref sig .tc := ⟨.hbm, 134, rfl⟩
abbrev main_v106 : Ref sig .tc := ⟨.hbm, 135, rfl⟩
abbrev main_cst_13 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_cst_14 : Ref sig .tc := ⟨.hbm, 146, rfl⟩
abbrev main_v116 : Ref sig .tc := ⟨.hbm, 147, rfl⟩
abbrev main_v117 : Ref sig .tc := ⟨.hbm, 148, rfl⟩
abbrev main_v118 : Ref sig .tc := ⟨.hbm, 149, rfl⟩
abbrev main_v119 : Ref sig .tc := ⟨.hbm, 150, rfl⟩
abbrev main_v120 : Ref sig .tc := ⟨.hbm, 151, rfl⟩
abbrev main_v121 : Ref sig .tc := ⟨.hbm, 152, rfl⟩
abbrev main_v122 : Ref sig .tc := ⟨.hbm, 153, rfl⟩
abbrev main_v123 : Ref sig .tc := ⟨.hbm, 154, rfl⟩
abbrev main_v124 : Ref sig .tc := ⟨.hbm, 155, rfl⟩
abbrev main_v125 : Ref sig .tc := ⟨.hbm, 156, rfl⟩
abbrev main_cst_15 : Ref sig .tc := ⟨.hbm, 157, rfl⟩
abbrev main_v126 : Ref sig .tc := ⟨.hbm, 158, rfl⟩
abbrev main_v127 : Ref sig .tc := ⟨.hbm, 159, rfl⟩
abbrev main_cst_16 : Ref sig .tc := ⟨.hbm, 160, rfl⟩
abbrev main_v128 : Ref sig .tc := ⟨.hbm, 161, rfl⟩
abbrev main_v129 : Ref sig .tc := ⟨.hbm, 162, rfl⟩
abbrev main_cst_17 : Ref sig .tc := ⟨.hbm, 163, rfl⟩
abbrev main_v130 : Ref sig .tc := ⟨.hbm, 164, rfl⟩
abbrev main_v131 : Ref sig .tc := ⟨.hbm, 165, rfl⟩
abbrev main_v132 : Ref sig .tc := ⟨.hbm, 166, rfl⟩
abbrev main_v133 : Ref sig .tc := ⟨.hbm, 167, rfl⟩
abbrev main_v134 : Ref sig .tc := ⟨.hbm, 168, rfl⟩
abbrev main_v135 : Ref sig .tc := ⟨.hbm, 169, rfl⟩
abbrev main_v136 : Ref sig .tc := ⟨.hbm, 170, rfl⟩
abbrev main_v137 : Ref sig .tc := ⟨.hbm, 171, rfl⟩
abbrev main_v138 : Ref sig .tc := ⟨.hbm, 172, rfl⟩
abbrev main_v139 : Ref sig .tc := ⟨.hbm, 173, rfl⟩
abbrev main_v140 : Ref sig .tc := ⟨.hbm, 174, rfl⟩
abbrev main_v141 : Ref sig .tc := ⟨.hbm, 175, rfl⟩
abbrev main_v142 : Ref sig .tc := ⟨.hbm, 176, rfl⟩
abbrev main_v143 : Ref sig .tc := ⟨.hbm, 177, rfl⟩
abbrev main_v144 : Ref sig .tc := ⟨.hbm, 178, rfl⟩
abbrev main_v145 : Ref sig .tc := ⟨.hbm, 179, rfl⟩
abbrev main_cst_18 : Ref sig .tc := ⟨.hbm, 180, rfl⟩
abbrev main_v146 : Ref sig .tc := ⟨.hbm, 181, rfl⟩
abbrev main_v147 : Ref sig .tc := ⟨.hbm, 182, rfl⟩
abbrev main_cst_19 : Ref sig .tc := ⟨.hbm, 183, rfl⟩
abbrev main_v148 : Ref sig .tc := ⟨.hbm, 184, rfl⟩
abbrev main_v149 : Ref sig .tc := ⟨.hbm, 185, rfl⟩
abbrev main_cst_20 : Ref sig .tc := ⟨.hbm, 186, rfl⟩
abbrev main_v150 : Ref sig .tc := ⟨.hbm, 187, rfl⟩
abbrev main_v151 : Ref sig .tc := ⟨.hbm, 188, rfl⟩
abbrev main_v152 : Ref sig .tc := ⟨.hbm, 189, rfl⟩
abbrev main_v153 : Ref sig .tc := ⟨.hbm, 190, rfl⟩
abbrev main_v154 : Ref sig .tc := ⟨.hbm, 191, rfl⟩
abbrev main_v155 : Ref sig .tc := ⟨.hbm, 192, rfl⟩
abbrev main_v156 : Ref sig .tc := ⟨.hbm, 193, rfl⟩
abbrev main_v157 : Ref sig .tc := ⟨.hbm, 194, rfl⟩
abbrev main_v158 : Ref sig .tc := ⟨.hbm, 195, rfl⟩
abbrev main_v159 : Ref sig .tc := ⟨.hbm, 196, rfl⟩
abbrev main_v160 : Ref sig .tc := ⟨.hbm, 197, rfl⟩
abbrev main_v161 : Ref sig .tc := ⟨.hbm, 198, rfl⟩
abbrev main_cst_21 : Ref sig .tc := ⟨.hbm, 199, rfl⟩
abbrev main_v162 : Ref sig .tc := ⟨.hbm, 200, rfl⟩
abbrev main_v163 : Ref sig .tc := ⟨.hbm, 201, rfl⟩
abbrev main_cst_22 : Ref sig .tc := ⟨.hbm, 202, rfl⟩
abbrev main_v164 : Ref sig .tc := ⟨.hbm, 203, rfl⟩
abbrev main_v165 : Ref sig .tc := ⟨.hbm, 204, rfl⟩
abbrev main_v166 : Ref sig .tc := ⟨.hbm, 205, rfl⟩
abbrev main_v167 : Ref sig .tc := ⟨.hbm, 206, rfl⟩
abbrev main_v168 : Ref sig .tc := ⟨.hbm, 207, rfl⟩
abbrev main_v169 : Ref sig .tc := ⟨.hbm, 208, rfl⟩
abbrev main_v170 : Ref sig .tc := ⟨.hbm, 209, rfl⟩
abbrev main_v171 : Ref sig .tc := ⟨.hbm, 210, rfl⟩
abbrev main_v172 : Ref sig .tc := ⟨.hbm, 211, rfl⟩
abbrev main_v173 : Ref sig .tc := ⟨.hbm, 212, rfl⟩
abbrev main_v174 : Ref sig .tc := ⟨.hbm, 213, rfl⟩
abbrev main_v175 : Ref sig .tc := ⟨.hbm, 214, rfl⟩
abbrev main_v176 : Ref sig .tc := ⟨.hbm, 215, rfl⟩
abbrev main_v177 : Ref sig .tc := ⟨.hbm, 216, rfl⟩
abbrev main_v178 : Ref sig .tc := ⟨.hbm, 217, rfl⟩
abbrev main_v179 : Ref sig .tc := ⟨.hbm, 218, rfl⟩
abbrev main_v180 : Ref sig .tc := ⟨.hbm, 219, rfl⟩
abbrev main_v181 : Ref sig .tc := ⟨.hbm, 220, rfl⟩
abbrev main_v182 : Ref sig .tc := ⟨.hbm, 221, rfl⟩
abbrev main_v183 : Ref sig .tc := ⟨.hbm, 222, rfl⟩
abbrev main_v184 : Ref sig .tc := ⟨.hbm, 223, rfl⟩
abbrev main_v185 : Ref sig .tc := ⟨.hbm, 224, rfl⟩
abbrev main_v186 : Ref sig .tc := ⟨.hbm, 225, rfl⟩
abbrev main_v187 : Ref sig .tc := ⟨.hbm, 226, rfl⟩
abbrev main_v188 : Ref sig .tc := ⟨.hbm, 227, rfl⟩
abbrev main_v189 : Ref sig .tc := ⟨.hbm, 228, rfl⟩
abbrev main_cst_23 : Ref sig .tc := ⟨.hbm, 229, rfl⟩
abbrev main_v190 : Ref sig .tc := ⟨.hbm, 230, rfl⟩
abbrev main_cst_24 : Ref sig .tc := ⟨.hbm, 231, rfl⟩
abbrev main_v191 : Ref sig .tc := ⟨.hbm, 232, rfl⟩
abbrev main_v192 : Ref sig .tc := ⟨.hbm, 233, rfl⟩
abbrev main_cst_25 : Ref sig .tc := ⟨.hbm, 234, rfl⟩
abbrev main_v193 : Ref sig .tc := ⟨.hbm, 235, rfl⟩
abbrev main_v194 : Ref sig .tc := ⟨.hbm, 236, rfl⟩
abbrev main_v195 : Ref sig .tc := ⟨.hbm, 237, rfl⟩
abbrev main_c : Ref sig .tc := ⟨.hbm, 238, rfl⟩
abbrev main_call0_v0 : Ref sig .tc := ⟨.hbm, 239, rfl⟩
abbrev main_v196 : Ref sig .tc := ⟨.hbm, 240, rfl⟩
abbrev main_v197 : Ref sig .tc := ⟨.hbm, 241, rfl⟩
abbrev main_c_26 : Ref sig .tc := ⟨.hbm, 242, rfl⟩
abbrev main_call1_v0 : Ref sig .tc := ⟨.hbm, 243, rfl⟩
abbrev main_v198 : Ref sig .tc := ⟨.hbm, 244, rfl⟩
abbrev main_v199 : Ref sig .tc := ⟨.hbm, 245, rfl⟩
abbrev main_v200 : Ref sig .tc := ⟨.hbm, 246, rfl⟩
abbrev main_v201 : Ref sig .tc := ⟨.hbm, 247, rfl⟩
abbrev main_v202 : Ref sig .tc := ⟨.hbm, 248, rfl⟩
abbrev main_v203 : Ref sig .tc := ⟨.hbm, 249, rfl⟩

abbrev nD : Nat := 1
abbrev τ : Topo := Topo.v7x

variable {F : FTy → Type} [FloatOps F]
-- ==== Proof.Ffn.Spec.lean ====
/-
  The gated feed-forward layer as plain arithmetic over the extended reals, row by row: the residual stream with the
  mixer's gated output added, the modulated root-mean-square norm of a row, and the gated two-matrix hidden layer whose
  weighted sum goes back into the stream with half of its gate.
-/
module

public import Idealize.ShloMosaic.Lib.Pipeline.ValueKit

@[expose] public section

noncomputable section

namespace Cert.Ffn

open Idealize.ShloMosaic

/-- A row of the stream with the mixer's output `o`, sent through `wo` and scaled by the gate `g`, added. -/
def mixed (x g o : Fin 1024 → EReal) (wo : Fin 1024 → Fin 1024 → EReal) (l : Fin 1024) : EReal :=
  x l + g l * ∑ k, o k * wo k l

/-- The modulated norm of a row: over the root of its mean square plus 1e-6, times the weight `n`, scaled by
    `1 + scale` and shifted. -/
def normed (X n scale shift : Fin 1024 → EReal) (l : Fin 1024) : EReal :=
  X l * Ideal.rsqrt (Ideal.div (∑ x, X x * X x) (Ideal.ofBits .f32 1149239296#32) + Ideal.ofBits .f32 897988541#32)
      * n l * (1 + scale l) + shift l

/-- One hidden unit: `a · logistic a · b` for the two projections `a`, `b` of the row. -/
def hidden (h a b : Fin 1024 → EReal) : EReal :=
  (∑ x, h x * a x) * Ideal.logistic (∑ x, h x * a x) * ∑ x, h x * b x

/-- A row of the layer's result: the stream plus half the gate times the hidden units' weighted sum. -/
def out (X h gate : Fin 1024 → EReal) (wg wu : Fin 1024 → Fin 2816 → EReal) (wd : Fin 2816 → Fin 1024 → EReal)
    (l : Fin 1024) : EReal :=
  X l + Ideal.ofBits .f32 1056964608#32 * gate l
    * ∑ f, hidden h (fun x => wg x f) (fun x => wu x f) * wd f l

/-- Eleven summands written out. -/
theorem sum_of_eleven (g : Fin 11 → EReal) :
    ∑ j, g j = g 0 + g 1 + g 2 + g 3 + g 4 + g 5 + g 6 + g 7 + g 8 + g 9 + g 10 := by
  simp only [Fin.sum_univ_castSucc, Fin.sum_univ_zero, zero_add]
  rfl

/-- A sum over the 2816 hidden units, taken as eleven sums of 256 one after the other. -/
theorem sum_eleven (f : Fin 2816 → EReal) :
    ∑ k, f k =
      (∑ k : Fin 256, f ⟨0 + k.val, by omega⟩) + (∑ k : Fin 256, f ⟨256 + k.val, by omega⟩)
      + (∑ k : Fin 256, f ⟨512 + k.val, by omega⟩) + (∑ k : Fin 256, f ⟨768 + k.val, by omega⟩)
      + (∑ k : Fin 256, f ⟨1024 + k.val, by omega⟩) + (∑ k : Fin 256, f ⟨1280 + k.val, by omega⟩)
      + (∑ k : Fin 256, f ⟨1536 + k.val, by omega⟩) + (∑ k : Fin 256, f ⟨1792 + k.val, by omega⟩)
      + (∑ k : Fin 256, f ⟨2048 + k.val, by omega⟩) + (∑ k : Fin 256, f ⟨2304 + k.val, by omega⟩)
      + (∑ k : Fin 256, f ⟨2560 + k.val, by omega⟩) := by
  rw [Fin.sum_univ_tiles 11 256 (by norm_num) f]
  rw [sum_of_eleven]
  refine congrArg₂ _ (congrArg₂ _ (congrArg₂ _ (congrArg₂ _ (congrArg₂ _ (congrArg₂ _ (congrArg₂ _ (congrArg₂ _ (congrArg₂ _
    (congrArg₂ _ ?_ ?_) ?_) ?_) ?_) ?_) ?_) ?_) ?_) ?_) ?_ <;>
  exact Finset.sum_congr rfl fun k _ => congrArg f (Fin.ext (by simp))

end Cert.Ffn
-- ==== Proof.Ffn.Body.lean ====
/-
  The feed-forward body's payload over its input blocks, read at an index: the eleven chunks of 256 hidden units it adds
  one after the other are the reference's one sum over 2816.
-/
module

public import proofs.«01_k».proof.Proof.Gen.Kernel2Ideal.Value
public import proofs.«01_k».proof.Proof.Ffn.Spec

@[expose] public section

set_option maxRecDepth 16384

noncomputable section

namespace Cert.Kernel2Ideal.Ffn

open Idealize.ShloMosaic Idealize.SL.Sem Cert.Kernel2Ideal Cert.Kernel2Ideal.Gen Cert.Ffn

/-- One chunk: the two projections of the normed rows onto 256 hidden units, gated, and their product with the chunk's
    rows of the down-projection. -/
def chunk (h : FVec Ideal S1024x1024 .bf16) (a b : FVec Ideal S1x1x1024x256 .bf16) (d : FVec Ideal S1x1x256x1024 .bf16) :
    FVec Ideal S1024x1024 .f32 :=
  matmul dot_S1024x256_S256x1024_S1024x1024_1_0_0_1_n_n none
    (truncf .bf16
      (mulf
        (mulf (matmul dot_S1024x1024_S1024x256_S1024x256_1_0_0_1_n_n none h
            (shapeCast S1024x256 a shapeCasts_S1x1x1024x256_S1024x256) (constant S1024x256 .f32 0x00000000#32))
          (logistic (matmul dot_S1024x1024_S1024x256_S1024x256_1_0_0_1_n_n none h
            (shapeCast S1024x256 a shapeCasts_S1x1x1024x256_S1024x256) (constant S1024x256 .f32 0x00000000#32))))
        (matmul dot_S1024x1024_S1024x256_S1024x256_1_0_0_1_n_n none h
            (shapeCast S1024x256 b shapeCasts_S1x1x1024x256_S1024x256) (constant S1024x256 .f32 0x00000000#32)))
      bitsLt_bf16_f32)
    (shapeCast S256x1024 d shapeCasts_S1x1x256x1024_S256x1024) (constant S1024x1024 .f32 0x00000000#32)

theorem chunk_apply (h a b d) (r l : Fin 1024) : chunk h a b d (ix2 r l)
    = ∑ k : Fin 256, hidden (fun x => h (ix2 r x)) (fun x => a (ix4 0 0 x k)) (fun x => b (ix4 0 0 x k)) * d (ix4 0 0 k l) := by
  pointwise [chunk]
  rfl

section Body

variable (i : grid0.Coords) (x0 : Vec Ideal S1x1024x1024 .f32) (x1 : Vec Ideal S1x1024x1024 .bf16)
  (x2 : Vec Ideal S1x8x1024 .f32) (x3 : Vec Ideal S1024x1024 .bf16) (x4 x5 x6 : Vec Ideal S1x8x1024 .f32)
  (x7 : Vec Ideal S1x1024 .f32) (x8 x9 : Vec Ideal S1x1x1024x2816 .bf16) (x10 : Vec Ideal S1x1x2816x1024 .bf16)

/-- The stream with the mixer's output added, over the blocks. -/
abbrev bx : FVec Ideal S1024x1024 .f32 := k0_pay2 x0 (View.ld (Val := Elt Ideal) x2 (Rect.unit (k0_off1 i) S1x1x1024.size (k0_off1_inb i))) x1 x3

/-- Its modulated norm, over the blocks. -/
abbrev bh : FVec Ideal S1024x1024 .bf16 :=
  k0_pay5 (k0_pay3 (View.ld (Val := Elt Ideal) x4 (Rect.unit (k0_off1 i) S1x1x1024.size (k0_off1_inb i))))
    (k0_pay4 x0 (View.ld (Val := Elt Ideal) x2 (Rect.unit (k0_off1 i) S1x1x1024.size (k0_off1_inb i))) x1 x3 x7 (View.ld (Val := Elt Ideal) x5 (Rect.unit (k0_off1 i) S1x1x1024.size (k0_off1_inb i))))

/-- What the body stores, over the blocks. -/
abbrev body : FVec Ideal S1x1024x1024 .f32 :=
  k0_pay1 (bx i x0 x1 x2 x3) (bh i x0 x1 x2 x3 x4 x5 x7)
    (k0_pay11 (bh i x0 x1 x2 x3 x4 x5 x7)
      (k0_pay9 (bh i x0 x1 x2 x3 x4 x5 x7)
        (k0_pay8 (bh i x0 x1 x2 x3 x4 x5 x7)
          (k0_pay7 (bh i x0 x1 x2 x3 x4 x5 x7)
            (k0_pay6 (k0_pay3 (View.ld (Val := Elt Ideal) x4 (Rect.unit (k0_off1 i) S1x1x1024.size (k0_off1_inb i))))
              (k0_pay4 x0 (View.ld (Val := Elt Ideal) x2 (Rect.unit (k0_off1 i) S1x1x1024.size (k0_off1_inb i))) x1 x3 x7 (View.ld (Val := Elt Ideal) x5 (Rect.unit (k0_off1 i) S1x1x1024.size (k0_off1_inb i))))
      (View.ld (Val := Elt Ideal) x8 (Rect.unit ![0, 0, 0, 0] S1x1x1024x256.size inb_S1x1x1024x2816_S1x1x1024x256_0_0_0_0)) (View.ld (Val := Elt Ideal) x9 (Rect.unit ![0, 0, 0, 0] S1x1x1024x256.size inb_S1x1x1024x2816_S1x1x1024x256_0_0_0_0))
      (View.ld (Val := Elt Ideal) x10 (Rect.unit ![0, 0, 0, 0] S1x1x256x1024.size inb_S1x1x2816x1024_S1x1x256x1024_0_0_0_0))
      (View.ld (Val := Elt Ideal) x8 (Rect.unit ![0, 0, 0, 256] S1x1x1024x256.size inb_S1x1x1024x2816_S1x1x1024x256_0_0_0_256)) (View.ld (Val := Elt Ideal) x9 (Rect.unit ![0, 0, 0, 256] S1x1x1024x256.size inb_S1x1x1024x2816_S1x1x1024x256_0_0_0_256))
      (View.ld (Val := Elt Ideal) x10 (Rect.unit ![0, 0, 256, 0] S1x1x256x1024.size inb_S1x1x2816x1024_S1x1x256x1024_0_0_256_0)))
      (View.ld (Val := Elt Ideal) x8 (Rect.unit ![0, 0, 0, 512] S1x1x1024x256.size inb_S1x1x1024x2816_S1x1x1024x256_0_0_0_512)) (View.ld (Val := Elt Ideal) x9 (Rect.unit ![0, 0, 0, 512] S1x1x1024x256.size inb_S1x1x1024x2816_S1x1x1024x256_0_0_0_512))
      (View.ld (Val := Elt Ideal) x10 (Rect.unit ![0, 0, 512, 0] S1x1x256x1024.size inb_S1x1x2816x1024_S1x1x256x1024_0_0_512_0))
      (View.ld (Val := Elt Ideal) x8 (Rect.unit ![0, 0, 0, 768] S1x1x1024x256.size inb_S1x1x1024x2816_S1x1x1024x256_0_0_0_768)) (View.ld (Val := Elt Ideal) x9 (Rect.unit ![0, 0, 0, 768] S1x1x1024x256.size inb_S1x1x1024x2816_S1x1x1024x256_0_0_0_768))
      (View.ld (Val := Elt Ideal) x10 (Rect.unit ![0, 0, 768, 0] S1x1x256x1024.size inb_S1x1x2816x1024_S1x1x256x1024_0_0_768_0)))
      (View.ld (Val := Elt Ideal) x8 (Rect.unit ![0, 0, 0, 1024] S1x1x1024x256.size inb_S1x1x1024x2816_S1x1x1024x256_0_0_0_1024)) (View.ld (Val := Elt Ideal) x9 (Rect.unit ![0, 0, 0, 1024] S1x1x1024x256.size inb_S1x1x1024x2816_S1x1x1024x256_0_0_0_1024))
      (View.ld (Val := Elt Ideal) x10 (Rect.unit ![0, 0, 1024, 0] S1x1x256x1024.size inb_S1x1x2816x1024_S1x1x256x1024_0_0_1024_0))
      (View.ld (Val := Elt Ideal) x8 (Rect.unit ![0, 0, 0, 1280] S1x1x1024x256.size inb_S1x1x1024x2816_S1x1x1024x256_0_0_0_1280)) (View.ld (Val := Elt Ideal) x9 (Rect.unit ![0, 0, 0, 1280] S1x1x1024x256.size inb_S1x1x1024x2816_S1x1x1024x256_0_0_0_1280))
      (View.ld (Val := Elt Ideal) x10 (Rect.unit ![0, 0, 1280, 0] S1x1x256x1024.size inb_S1x1x2816x1024_S1x1x256x1024_0_0_1280_0)))
      (View.ld (Val := Elt Ideal) x8 (Rect.unit ![0, 0, 0, 1536] S1x1x1024x256.size inb_S1x1x1024x2816_S1x1x1024x256_0_0_0_1536)) (View.ld (Val := Elt Ideal) x9 (Rect.unit ![0, 0, 0, 1536] S1x1x1024x256.size inb_S1x1x1024x2816_S1x1x1024x256_0_0_0_1536))
      (View.ld (Val := Elt Ideal) x10 (Rect.unit ![0, 0, 1536, 0] S1x1x256x1024.size inb_S1x1x2816x1024_S1x1x256x1024_0_0_1536_0))
      (View.ld (Val := Elt Ideal) x8 (Rect.unit ![0, 0, 0, 1792] S1x1x1024x256.size inb_S1x1x1024x2816_S1x1x1024x256_0_0_0_1792)) (View.ld (Val := Elt Ideal) x9 (Rect.unit ![0, 0, 0, 1792] S1x1x1024x256.size inb_S1x1x1024x2816_S1x1x1024x256_0_0_0_1792))
      (View.ld (Val := Elt Ideal) x10 (Rect.unit ![0, 0, 1792, 0] S1x1x256x1024.size inb_S1x1x2816x1024_S1x1x256x1024_0_0_1792_0)))
      (k0_pay10 (View.ld (Val := Elt Ideal) x8 (Rect.unit ![0, 0, 0, 2048] S1x1x1024x256.size inb_S1x1x1024x2816_S1x1x1024x256_0_0_0_2048)))
      (View.ld (Val := Elt Ideal) x9 (Rect.unit ![0, 0, 0, 2048] S1x1x1024x256.size inb_S1x1x1024x2816_S1x1x1024x256_0_0_0_2048)) (View.ld (Val := Elt Ideal) x10 (Rect.unit ![0, 0, 2048, 0] S1x1x256x1024.size inb_S1x1x2816x1024_S1x1x256x1024_0_0_2048_0))
      (View.ld (Val := Elt Ideal) x8 (Rect.unit ![0, 0, 0, 2304] S1x1x1024x256.size inb_S1x1x1024x2816_S1x1x1024x256_0_0_0_2304)) (View.ld (Val := Elt Ideal) x9 (Rect.unit ![0, 0, 0, 2304] S1x1x1024x256.size inb_S1x1x1024x2816_S1x1x1024x256_0_0_0_2304))
      (View.ld (Val := Elt Ideal) x10 (Rect.unit ![0, 0, 2304, 0] S1x1x256x1024.size inb_S1x1x2816x1024_S1x1x256x1024_0_0_2304_0)))
    (k0_pay12 (bh i x0 x1 x2 x3 x4 x5 x7) (View.ld (Val := Elt Ideal) x8 (Rect.unit ![0, 0, 0, 2560] S1x1x1024x256.size inb_S1x1x1024x2816_S1x1x1024x256_0_0_0_2560)))
    (View.ld (Val := Elt Ideal) x9 (Rect.unit ![0, 0, 0, 2560] S1x1x1024x256.size inb_S1x1x1024x2816_S1x1x1024x256_0_0_0_2560))
    (View.ld (Val := Elt Ideal) x10 (Rect.unit ![0, 0, 2560, 0] S1x1x256x1024.size inb_S1x1x2816x1024_S1x1x256x1024_0_0_2560_0))
    (View.ld (Val := Elt Ideal) x6 (Rect.unit (k0_off1 i) S1x1x1024.size (k0_off1_inb i)))

/-- The chunk of 256 hidden units from unit `o` on. -/
abbrev part (o : Nat) (ha : ∀ a, (![0, 0, 0, o] : Fin 4 → Nat) a + S1x1x1024x256.size a ≤ S1x1x1024x2816.size a)
    (hd : ∀ a, (![0, 0, o, 0] : Fin 4 → Nat) a + S1x1x256x1024.size a ≤ S1x1x2816x1024.size a)
    (h : FVec Ideal S1024x1024 .bf16) : FVec Ideal S1024x1024 .f32 :=
  chunk h (View.ld (Val := Elt Ideal) x8 (Rect.unit ![0, 0, 0, o] S1x1x1024x256.size ha)) (View.ld (Val := Elt Ideal) x9 (Rect.unit ![0, 0, 0, o] S1x1x1024x256.size ha))
    (View.ld (Val := Elt Ideal) x10 (Rect.unit ![0, 0, o, 0] S1x1x256x1024.size hd))

theorem part_apply (o : Nat) (ha hd h) (ho : o + 256 ≤ 2816) (r l : Fin 1024) : part x8 x9 x10 o ha hd h (ix2 r l)
    = ∑ k : Fin 256, hidden (fun x => h (ix2 r x)) (fun x => x8 (ix4 0 0 x ⟨o + k.val, by omega⟩))
        (fun x => x9 (ix4 0 0 x ⟨o + k.val, by omega⟩)) * x10 (ix4 0 0 ⟨o + k.val, by omega⟩ l) := by
  show chunk _ _ _ _ (ix2 r l) = _
  rw [chunk_apply]
  pointwise

/-- The stream `X` plus half the gate's row `G` times the sum of the eleven chunks of the normed rows `H`. -/
abbrev stored (X : FVec Ideal S1024x1024 .f32) (H : FVec Ideal S1024x1024 .bf16) (G : FVec Ideal S1x1x1024 .f32) :
    FVec Ideal S1x1024x1024 .f32 :=
  shapeCast S1x1024x1024 (addf X (mulf (broadcastTo S1024x1024 (mulf (broadcast S1x1024 (Scalar.ofBits .f32 0x3F000000#32 : Ideal .f32)) (shapeCast S1x1024 G shapeCasts_S1x1x1024_S1x1024)) broadcasts_S1x1024_S1024x1024)
      (addf (addf (addf (addf (addf (addf (addf (addf (addf (addf (part x8 x9 x10 0 inb_S1x1x1024x2816_S1x1x1024x256_0_0_0_0 inb_S1x1x2816x1024_S1x1x256x1024_0_0_0_0 H)
      (part x8 x9 x10 256 inb_S1x1x1024x2816_S1x1x1024x256_0_0_0_256 inb_S1x1x2816x1024_S1x1x256x1024_0_0_256_0 H))
      (part x8 x9 x10 512 inb_S1x1x1024x2816_S1x1x1024x256_0_0_0_512 inb_S1x1x2816x1024_S1x1x256x1024_0_0_512_0 H))
      (part x8 x9 x10 768 inb_S1x1x1024x2816_S1x1x1024x256_0_0_0_768 inb_S1x1x2816x1024_S1x1x256x1024_0_0_768_0 H))
      (part x8 x9 x10 1024 inb_S1x1x1024x2816_S1x1x1024x256_0_0_0_1024 inb_S1x1x2816x1024_S1x1x256x1024_0_0_1024_0 H))
      (part x8 x9 x10 1280 inb_S1x1x1024x2816_S1x1x1024x256_0_0_0_1280 inb_S1x1x2816x1024_S1x1x256x1024_0_0_1280_0 H))
      (part x8 x9 x10 1536 inb_S1x1x1024x2816_S1x1x1024x256_0_0_0_1536 inb_S1x1x2816x1024_S1x1x256x1024_0_0_1536_0 H))
      (part x8 x9 x10 1792 inb_S1x1x1024x2816_S1x1x1024x256_0_0_0_1792 inb_S1x1x2816x1024_S1x1x256x1024_0_0_1792_0 H))
      (part x8 x9 x10 2048 inb_S1x1x1024x2816_S1x1x1024x256_0_0_0_2048 inb_S1x1x2816x1024_S1x1x256x1024_0_0_2048_0 H))
      (part x8 x9 x10 2304 inb_S1x1x1024x2816_S1x1x1024x256_0_0_0_2304 inb_S1x1x2816x1024_S1x1x256x1024_0_0_2304_0 H))
      (part x8 x9 x10 2560 inb_S1x1x1024x2816_S1x1x1024x256_0_0_0_2560 inb_S1x1x2816x1024_S1x1x256x1024_0_0_2560_0 H)))) shapeCasts_S1024x1024_S1x1024x1024

theorem stored_apply (X H G) (r l : Fin 1024) : stored x8 x9 x10 X H G (ix3 0 r l)
    = out (fun l => X (ix2 r l)) (fun l => H (ix2 r l)) (fun l => G (ix3 0 0 l))
        (fun x f => x8 (ix4 0 0 x f)) (fun x f => x9 (ix4 0 0 x f)) (fun f l => x10 (ix4 0 0 f l)) l := by
  rw [stored, out]
  generalize hS : addf _ (part x8 x9 x10 2560 _ _ H) = S
  pointwise
  rw [← hS]
  rw [sum_eleven]
  simp only [addf_apply]
  rw [part_apply x8 x9 x10 0 _ _ H (by norm_num),
    part_apply x8 x9 x10 256 _ _ H (by norm_num),
    part_apply x8 x9 x10 512 _ _ H (by norm_num),
    part_apply x8 x9 x10 768 _ _ H (by norm_num),
    part_apply x8 x9 x10 1024 _ _ H (by norm_num),
    part_apply x8 x9 x10 1280 _ _ H (by norm_num),
    part_apply x8 x9 x10 1536 _ _ H (by norm_num),
    part_apply x8 x9 x10 1792 _ _ H (by norm_num),
    part_apply x8 x9 x10 2048 _ _ H (by norm_num),
    part_apply x8 x9 x10 2304 _ _ H (by norm_num),
    part_apply x8 x9 x10 2560 _ _ H (by norm_num)]
  rfl

set_option maxHeartbeats 1000000 in
/-- The body as the stream plus half the gate times the eleven chunks' sum. -/
theorem body_eq : body i x0 x1 x2 x3 x4 x5 x6 x7 x8 x9 x10
    = stored x8 x9 x10 (bx i x0 x1 x2 x3) (bh i x0 x1 x2 x3 x4 x5 x7)
        (View.ld (Val := Elt Ideal) x6 (Rect.unit (k0_off1 i) S1x1x1024.size (k0_off1_inb i))) := rfl

/-- The row of the modulation tables the grid point takes. -/
abbrev mrow (X : Vec Ideal S1x8x1024 .f32) (l : Fin 1024) : EReal := X (ix3 0 ⟨(i 0).val, lt_of_lt_of_le (i 0).isLt (by decide)⟩ l)

theorem ld_row (X : Vec Ideal S1x8x1024 .f32) (l : Fin 1024) :
    View.ld (Val := Elt Ideal) X (Rect.unit (k0_off1 i) S1x1x1024.size (k0_off1_inb i)) (ix3 0 0 l) = mrow i X l := by
  have e := k0_off1_eq i
  pointwise
  refine congrArg X ?_
  congr 1 <;> (apply Fin.ext; simp [e])

theorem ld_row_fun (X : Vec Ideal S1x8x1024 .f32) :
    (fun l : Fin 1024 => View.ld (Val := Elt Ideal) X (Rect.unit (k0_off1 i) S1x1x1024.size (k0_off1_inb i)) (ix3 0 0 l))
      = mrow i X := funext fun l => ld_row i X l

theorem pay2_apply (v0 v3 v5 v7) (r l : Fin 1024) : k0_pay2 (F := Ideal) v0 v3 v5 v7 (ix2 r l)
    = mixed (fun l => v0 (ix3 0 r l)) (fun l => v3 (ix3 0 0 l)) (fun l => v5 (ix3 0 r l)) (fun k l => v7 (ix2 k l)) l := by
  pointwise [k0_pay2]
  rfl

theorem pay5_apply (v0 v3 v5 v7 v13 v19 v16) (r l : Fin 1024) :
    k0_pay5 (F := Ideal) (k0_pay3 v16) (k0_pay4 v0 v3 v5 v7 v13 v19) (ix2 r l)
    = normed (fun l => k0_pay2 v0 v3 v5 v7 (ix2 r l)) (fun l => v13 (ix2 0 l)) (fun l => v19 (ix3 0 0 l))
        (fun l => v16 (ix3 0 0 l)) l := by
  pointwise [k0_pay5, k0_pay4, k0_pay3]
  rfl

theorem bx_apply (r l : Fin 1024) : bx i x0 x1 x2 x3 (ix2 r l)
    = mixed (fun l => x0 (ix3 0 r l)) (mrow i x2) (fun l => x1 (ix3 0 r l)) (fun k l => x3 (ix2 k l)) l := by
  show k0_pay2 _ _ _ _ (ix2 r l) = _
  rw [pay2_apply, ld_row_fun]

theorem bh_apply (r l : Fin 1024) : bh i x0 x1 x2 x3 x4 x5 x7 (ix2 r l)
    = normed (fun l => bx i x0 x1 x2 x3 (ix2 r l)) (fun l => x7 (ix2 0 l)) (mrow i x5) (mrow i x4) l := by
  show k0_pay5 _ _ (ix2 r l) = _
  rw [pay5_apply]
  rw [ld_row_fun, ld_row_fun]

/-- The body at an index. -/
theorem body_apply (r l : Fin 1024) : body i x0 x1 x2 x3 x4 x5 x6 x7 x8 x9 x10 (ix3 0 r l)
    = out (fun l => bx i x0 x1 x2 x3 (ix2 r l)) (fun l => bh i x0 x1 x2 x3 x4 x5 x7 (ix2 r l)) (mrow i x6)
        (fun x f => x8 (ix4 0 0 x f)) (fun x f => x9 (ix4 0 0 x f)) (fun f l => x10 (ix4 0 0 f l)) l := by
  rw [body_eq, stored_apply, ld_row_fun]

end Body

end Cert.Kernel2Ideal.Ffn
-- ==== Proof.Ffn.Reference.lean ====
/-
  The reference's feed-forward layer, read at an index: its result is the row arithmetic of `Cert.Ffn` over the rows of
  its arguments.
-/
module

public import proofs.«01_k».proof.Proof.Gen.Reference2Ideal.Read
public import proofs.«01_k».proof.Proof.Ffn.Spec

@[expose] public section

set_option maxRecDepth 16384

noncomputable section

namespace Cert.Reference2Ideal.Ffn

open Idealize.ShloMosaic Cert.Reference2Ideal Cert.Reference2Ideal.Gen Cert.Reference2Ideal.Read Cert.Ffn

variable (x0 x1 : FVec Ideal S4x4096x1024 .f32) (x2 : FVec Ideal S2x4x9216 .f32) (x3 : FVec Ideal S2x3x1024 .f32)
  (x4 x5 : FVec Ideal S2x2x1024x2816 .f32) (x6 : FVec Ideal S2x2x2816x1024 .f32) (x7 : FVec Ideal S1x1024x1024 .f32)

/-- Row `(b, r)` of the stream after the mixer's output is added. -/
def row (b : Fin 4) (r : Fin 4096) : Fin 1024 → EReal :=
  mixed (fun l => x0 (ix3 b r l)) (fun l => x2 (ix3 1 b ⟨5120 + l.val, by omega⟩)) (fun l => x1 (ix3 b r l))
    (fun k l => x7 (ix3 0 k l))

/-- Its modulated norm. -/
def hrow (b : Fin 4) (r : Fin 4096) : Fin 1024 → EReal :=
  normed (row x0 x1 x2 x7 b r) (fun l => x3 (ix3 1 2 l)) (fun l => x2 (ix3 1 b ⟨7168 + l.val, by omega⟩))
    (fun l => x2 (ix3 1 b ⟨6144 + l.val, by omega⟩))

/-- The layer's result at an index. -/
def result (b : Fin 4) (r : Fin 4096) : Fin 1024 → EReal :=
  out (row x0 x1 x2 x7 b r) (hrow x0 x1 x2 x3 x7 b r) (fun l => x2 (ix3 1 b ⟨8192 + l.val, by omega⟩))
    (fun x f => x4 (ix4 1 1 x f)) (fun x f => x5 (ix4 1 1 x f)) (fun f l => x6 (ix4 1 1 f l))

theorem v16_apply (b : Fin 4) (r : Fin 4096) (l : Fin 1024) :
    val_main_v16 (F := Ideal) x0 x1 x2 x7 (ix3 b r l) = row x0 x1 x2 x7 b r l := by
  pointwise [val_main_v16, val_main_v15, val_main_v14, val_main_v13, val_main_v12, val_main_v11, val_main_v7, val_main_v1,
    val_main_v0]
  rfl

theorem v39_apply (b : Fin 4) (r : Fin 4096) (l : Fin 1024) :
    val_main_v39 (F := Ideal) x0 x1 x2 x3 x7 (ix3 b r l) = hrow x0 x1 x2 x3 x7 b r l := by
  pointwise [val_main_v39, val_main_v38, val_main_v37, val_main_v36, val_main_v35, val_main_v34, val_main_v33,
    val_main_cst_2, val_main_v32, val_main_v31, val_main_v30, val_main_v29, val_main_v28, val_main_v27, val_main_v26,
    val_main_v25, val_main_v24, val_main_cst_1, val_main_v23, val_main_v22, val_main_cst_0, val_main_v21, val_main_v20,
    val_main_cst, val_main_v19, val_main_v18, val_main_v17, val_main_v8, val_main_v9, val_main_v1, val_main_v0]
  simp only [v16_apply]
  rfl

theorem v52_apply (b : Fin 4) (r : Fin 4096) (f : Fin 2816) :
    val_main_v52 (F := Ideal) x0 x1 x2 x3 x4 x5 x7 (ix3 b r f)
      = hidden (hrow x0 x1 x2 x3 x7 b r) (fun x => x4 (ix4 1 1 x f)) (fun x => x5 (ix4 1 1 x f)) := by
  pointwise [val_main_v52, val_main_v51, val_main_v50, val_main_v49, val_main_call0_v0, val_main_call0_v1,
    val_main_call0_v2, val_main_call0_v3, val_main_call0_v4, val_main_call0_v5, val_main_call0_cst, val_main_call0_cst_0,
    val_main_v44, val_main_v46, val_main_v43, val_main_v45]
  simp only [v39_apply]
  rfl

/-- The reference's result at an index. -/
theorem v56_apply (b : Fin 4) (r : Fin 4096) (l : Fin 1024) :
    val_main_v56 (F := Ideal) x0 x1 x2 x3 x4 x5 x6 x7 (ix3 b r l) = result x0 x1 x2 x3 x4 x5 x6 x7 b r l := by
  pointwise [val_main_v56, val_main_v55, val_main_v54, val_main_v53, val_main_v48, val_main_v47, val_main_v42,
    val_main_v41, val_main_cst_3, val_main_v40, val_main_v10, val_main_v1, val_main_v0]
  simp only [v16_apply, v52_apply]
  rfl

end Cert.Reference2Ideal.Ffn
-- ==== Proof.Ffn.Value.lean ====
/-
  The feed-forward call's result array: every grid point writes its own block of 1024 rows, and what it writes there is
  the reference's result at the place the block sits.
-/
module

public import proofs.«01_k».proof.Proof.Ffn.Body
public import proofs.«01_k».proof.Proof.Ffn.Reference

@[expose] public section

set_option maxRecDepth 16384

noncomputable section

open Idealize.ShloMosaic Idealize.ShloMosaic.TcCoe Idealize.SL.Sem

namespace Cert.Kernel2Ideal.Ffn

open Cert.Kernel2Ideal Cert.Kernel2Ideal.Gen Cert.Ffn Cert.Reference2Ideal.Ffn Cert.Reference2Ideal.Read

variable (m : (ℓ : Loc nD τ sig) → Buf (Elt Ideal) ℓ)

/-- Where each window's block sits at each grid point. -/
theorem idx : ∀ t : Fin cfg0.N,
    win0_0.index t = ![(grid0.coords t 0).val, (grid0.coords t 1).val, 0]
    ∧ win0_1.index t = ![(grid0.coords t 0).val, (grid0.coords t 1).val, 0]
    ∧ win0_2.index t = ![1, 0, 5] ∧ win0_3.index t = ![0, 0]
    ∧ win0_4.index t = ![1, 0, 6] ∧ win0_5.index t = ![1, 0, 7] ∧ win0_6.index t = ![1, 0, 8]
    ∧ win0_7.index t = ![0, 0] ∧ win0_8.index t = ![1, 1, 0, 0] ∧ win0_9.index t = ![1, 1, 0, 0]
    ∧ win0_10.index t = ![1, 1, 0, 0]
    ∧ win0_11.index t = ![(grid0.coords t 0).val, (grid0.coords t 1).val, 0] :=
  (by decide +kernel : ∀ t : Fin grid0.N, _)

/-- The reference's result over the kernel's argument arrays. -/
abbrev ref (c : Dev nD) (b : Fin 4) (r : Fin 4096) (l : Fin 1024) : EReal :=
  result (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) b r l

/-- The padded modulation tables, at a row of a batch. -/
theorem entry_v0 (c : Dev nD) (a : Fin 2) (b : Fin 4) (col : Fin 9216) :
    V m c main_v0 (ix3 a (⟨b.val, by omega⟩ : Fin 8) col) = m ((c : Thread nD τ).loc main_arg2) (ix3 a b col) := by
  simp only [V, hostOps0, hostOps0_1, hostOps0_2, List.flatten_cons, List.flatten_nil, List.append_nil, List.cons_append,
    List.nil_append, StableHlo.TRef.binary, StableHlo.TRef.nullary, StableHlo.TRef.unary, StableHlo.TRef.toBuf,
    StableHlo.TRef.ofBuf, cast_eq]
  entry_read
  pointwise

theorem entry_v9 (c : Dev nD) (k l : Fin 1024) : V m c main_v9 (ix2 k l) = m ((c : Thread nD τ).loc main_arg7) (ix3 0 k l) := by
  simp only [V, hostOps0, hostOps0_1, hostOps0_2, List.flatten_cons, List.flatten_nil, List.append_nil, List.cons_append,
    List.nil_append, StableHlo.TRef.binary, StableHlo.TRef.nullary, StableHlo.TRef.unary, StableHlo.TRef.toBuf,
    StableHlo.TRef.ofBuf, cast_eq]
  entry_read
  pointwise

theorem entry_v6 (c : Dev nD) (k : Fin 1024) : V m c main_v6 (ix2 0 k) = m ((c : Thread nD τ).loc main_arg3) (ix3 1 2 k) := by
  simp only [V, hostOps0, hostOps0_1, hostOps0_2, List.flatten_cons, List.flatten_nil, List.append_nil, List.cons_append,
    List.nil_append, StableHlo.TRef.binary, StableHlo.TRef.nullary, StableHlo.TRef.unary, StableHlo.TRef.toBuf,
    StableHlo.TRef.ofBuf, cast_eq]
  entry_read
  pointwise

section Blocks

variable (c : Dev nD) (t : Fin cfg0.N)

/-- The place of the written block in the result array: its batch and the row of its row `r`. -/
abbrev at0 : Fin 4 := ⟨(grid0.coords t 0).val, lt_of_lt_of_le (grid0.coords t 0).isLt (by decide)⟩
theorem at1_lt (r : Fin 1024) : (grid0.coords t 1).val * 1024 + r.val < 4096 := by
  have h : (grid0.coords t 1).val < 4 := lt_of_lt_of_le (grid0.coords t 1).isLt (by decide)
  omega
abbrev at1 (r : Fin 1024) : Fin 4096 := ⟨(grid0.coords t 1).val * 1024 + r.val, at1_lt t r⟩

theorem blk0 (r k : Fin 1024) : iblk m c 0 t (ix3 0 r k)
    = m ((c : Thread nD τ).loc main_arg0) (ix3 (at0 t) (at1 t r) k) := by
  blk_ext! [iblk, V, idx t]

theorem blk1 (r k : Fin 1024) : iblk m c 1 t (ix3 0 r k)
    = m ((c : Thread nD τ).loc main_arg1) (ix3 (at0 t) (at1 t r) k) := by
  blk_ext! [iblk, V, idx t]

theorem blk2 (k : Fin 1024) : mrow (grid0.coords t) (iblk m c 2 t) k
    = m ((c : Thread nD τ).loc main_arg2) (ix3 1 (at0 t) ⟨5120 + k.val, by omega⟩) := by
  show iblk m c 2 t (ix3 0 ⟨(grid0.coords t 0).val, _⟩ k) = _
  refine Eq.trans (b := V m c main_v0 _) ?_ (entry_v0 m c 1 (at0 t) ⟨5120 + k.val, by omega⟩)
  blk_ext [iblk, idx t]

theorem blk4 (k : Fin 1024) : mrow (grid0.coords t) (iblk m c 4 t) k
    = m ((c : Thread nD τ).loc main_arg2) (ix3 1 (at0 t) ⟨6144 + k.val, by omega⟩) := by
  show iblk m c 4 t (ix3 0 ⟨(grid0.coords t 0).val, _⟩ k) = _
  refine Eq.trans (b := V m c main_v0 _) ?_ (entry_v0 m c 1 (at0 t) ⟨6144 + k.val, by omega⟩)
  blk_ext [iblk, idx t]

theorem blk5 (k : Fin 1024) : mrow (grid0.coords t) (iblk m c 5 t) k
    = m ((c : Thread nD τ).loc main_arg2) (ix3 1 (at0 t) ⟨7168 + k.val, by omega⟩) := by
  show iblk m c 5 t (ix3 0 ⟨(grid0.coords t 0).val, _⟩ k) = _
  refine Eq.trans (b := V m c main_v0 _) ?_ (entry_v0 m c 1 (at0 t) ⟨7168 + k.val, by omega⟩)
  blk_ext [iblk, idx t]

theorem blk6 (k : Fin 1024) : mrow (grid0.coords t) (iblk m c 6 t) k
    = m ((c : Thread nD τ).loc main_arg2) (ix3 1 (at0 t) ⟨8192 + k.val, by omega⟩) := by
  show iblk m c 6 t (ix3 0 ⟨(grid0.coords t 0).val, _⟩ k) = _
  refine Eq.trans (b := V m c main_v0 _) ?_ (entry_v0 m c 1 (at0 t) ⟨8192 + k.val, by omega⟩)
  blk_ext [iblk, idx t]

theorem blk3 (k l : Fin 1024) : iblk m c 3 t (ix2 k l)
    = m ((c : Thread nD τ).loc main_arg7) (ix3 0 k l) := by
  refine Eq.trans (b := V m c main_v9 _) ?_ (entry_v9 m c k l)
  blk_ext [iblk, idx t]

theorem blk7 (k : Fin 1024) : iblk m c 7 t (ix2 0 k)
    = m ((c : Thread nD τ).loc main_arg3) (ix3 1 2 k) := by
  refine Eq.trans (b := V m c main_v6 _) ?_ (entry_v6 m c k)
  blk_ext [iblk, idx t]

theorem blk8 (k : Fin 1024) (f : Fin 2816) : iblk m c 8 t (ix4 0 0 k f)
    = m ((c : Thread nD τ).loc main_arg4) (ix4 1 1 k f) := by
  blk_ext! [iblk, V, idx t]

theorem blk9 (k : Fin 1024) (f : Fin 2816) : iblk m c 9 t (ix4 0 0 k f)
    = m ((c : Thread nD τ).loc main_arg5) (ix4 1 1 k f) := by
  blk_ext! [iblk, V, idx t]

theorem blk10 (k : Fin 1024) (f : Fin 2816) : iblk m c 10 t (ix4 0 0 f k)
    = m ((c : Thread nD τ).loc main_arg6) (ix4 1 1 f k) := by
  blk_ext! [iblk, V, idx t]

/-- What the body leaves at row `r` of point `t`'s block is the reference's row there. -/
theorem point (r l : Fin 1024) :
    body (grid0.coords t) (iblk m c 0 t) (iblk m c 1 t) (iblk m c 2 t) (iblk m c 3 t) (iblk m c 4 t) (iblk m c 5 t)
      (iblk m c 6 t) (iblk m c 7 t) (iblk m c 8 t) (iblk m c 9 t) (iblk m c 10 t) (ix3 0 r l)
    = ref m c (at0 t) (at1 t r) l := by
  have hx : (fun k : Fin 1024 => bx (grid0.coords t) (iblk m c 0 t) (iblk m c 1 t) (iblk m c 2 t) (iblk m c 3 t) (ix2 r k))
      = row (m ((c : Thread nD τ).loc main_arg0)) (m ((c : Thread nD τ).loc main_arg1)) (m ((c : Thread nD τ).loc main_arg2)) (m ((c : Thread nD τ).loc main_arg7)) (at0 t) (at1 t r) := by
    funext k
    rw [bx_apply, funext (blk0 m c t r), funext (blk1 m c t r), funext (blk2 m c t)]
    rw [funext fun k => funext (blk3 m c t k)]
    rfl
  have hh : (fun k : Fin 1024 => bh (grid0.coords t) (iblk m c 0 t) (iblk m c 1 t) (iblk m c 2 t) (iblk m c 3 t)
      (iblk m c 4 t) (iblk m c 5 t) (iblk m c 7 t) (ix2 r k))
      = hrow (m ((c : Thread nD τ).loc main_arg0)) (m ((c : Thread nD τ).loc main_arg1)) (m ((c : Thread nD τ).loc main_arg2)) (m ((c : Thread nD τ).loc main_arg3)) (m ((c : Thread nD τ).loc main_arg7)) (at0 t) (at1 t r) := by
    funext k
    rw [bh_apply, hx, funext (blk7 m c t), funext (blk4 m c t), funext (blk5 m c t)]
    rfl
  rw [body_apply, hx, hh, funext (blk6 m c t), funext fun k => funext (blk8 m c t k), funext fun k => funext (blk9 m c t k),
    funext fun f => funext fun k => blk10 m c t k f]
  rfl

/-- Where the written block's row `r` sits in the result array. -/
theorem emb11 (r l : Fin 1024) :
    ((cfg0.win 11).blk t).view.emb (ix3 0 r l : S1x1024x1024.Idx) = (ix3 (at0 t) (at1 t r) l : S4x4096x1024.Idx) := by
  blk_ext [idx t]

end Blocks

/-- The result array after the run is the reference's. -/
theorem final (c : Dev nD) : (dats m 0 c).arrAt 11 cfg0.N
    = val_main_v56 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 11 _ (by decide +kernel) fun t _ y => ?_
  blk_simp
  rw [after0_11]; unfold outsAt0; frame_out
  obtain ⟨r, l, rfl⟩ : ∃ (r l : Fin 1024), y = (ix3 0 r l : S1x1024x1024.Idx) :=
    ⟨y 1, y 2, (eq_ix3 y).trans (congrArg (fun a : Fin 1 => ix3 a (y 1) (y 2)) (Subsingleton.elim (α := Fin 1) _ _))⟩
  refine (point m c t r l).trans ?_
  refine Eq.trans ?_ (congrArg _ (emb11 t r l)).symm
  exact (v56_apply _ _ _ _ _ _ _ _ (at0 t) (at1 t r) l).symm

end Cert.Kernel2Ideal.Ffn
-- ==== Proof.Ffn.Open.lean ====
/-
  The feed-forward call without a mixer before it, over its input blocks and at an index: the same stored value as the call
  with a mixer, of the stream as it comes in.
-/
module

public import proofs.«01_k».proof.Proof.Gen.Kernel3Ideal.Value
public import proofs.«01_k».proof.Proof.Ffn.Body

@[expose] public section

set_option maxRecDepth 16384

noncomputable section

open Idealize.ShloMosaic Idealize.SL.Sem Cert.Ffn

namespace Cert.Kernel3Ideal.Ffn

open Cert.Kernel3Ideal Cert.Kernel3Ideal.Gen

variable (i : grid0.Coords) (x0 : Vec Ideal S1x1024x1024 .f32) (x1 x2 x3 : Vec Ideal S1x8x1024 .f32)
  (x4 : Vec Ideal S1x1024 .f32) (x5 x6 : Vec Ideal S1x1x1024x2816 .bf16) (x7 : Vec Ideal S1x1x2816x1024 .bf16)

/-- The row of a modulation table the grid point takes, as it is loaded. -/
abbrev ldRow (X : Vec Ideal S1x8x1024 .f32) : Vec Ideal S1x1x1024 .f32 :=
  View.ld (Val := Elt Ideal) X (Rect.unit (k0_off1 i) S1x1x1024.size (k0_off1_inb i))

/-- The same row by coordinates. -/
abbrev mrow (X : Vec Ideal S1x8x1024 .f32) (l : Fin 1024) : EReal := X (ix3 0 ⟨(i 0).val, lt_of_lt_of_le (i 0).isLt (by decide)⟩ l)

theorem ld_row (X : Vec Ideal S1x8x1024 .f32) : (fun l : Fin 1024 => ldRow i X (ix3 0 0 l)) = mrow i X := by
  have e := k0_off1_eq i
  funext l
  unfold ldRow
  pointwise
  refine congrArg X ?_
  congr 1 <;> (apply Fin.ext; simp [e])

/-- The modulated norm of the stream's rows, over the blocks. -/
abbrev bh : FVec Ideal S1024x1024 .bf16 := k0_pay3 x0 x4 (ldRow i x1) (ldRow i x2)

/-- What the body stores, over the blocks. -/
abbrev body : FVec Ideal S1x1024x1024 .f32 :=
  Kernel2Ideal.Ffn.stored x5 x6 x7 (k0_pay2 x0) (bh i x0 x1 x2 x4) (ldRow i x3)

theorem pay2_apply (v0) (r l : Fin 1024) : k0_pay2 (F := Ideal) v0 (ix2 r l) = v0 (ix3 0 r l) := by
  pointwise [k0_pay2]

theorem pay3_apply (v0 v2 v5 v8) (r l : Fin 1024) :
    k0_pay3 (F := Ideal) v0 v2 v5 v8 (ix2 r l)
    = normed (fun l => v0 (ix3 0 r l)) (fun l => v2 (ix2 0 l)) (fun l => v8 (ix3 0 0 l)) (fun l => v5 (ix3 0 0 l)) l := by
  pointwise [k0_pay3, k0_pay2]
  rfl

/-- The body at an index. -/
theorem body_apply (r l : Fin 1024) : body i x0 x1 x2 x3 x4 x5 x6 x7 (ix3 0 r l)
    = out (fun l => x0 (ix3 0 r l))
        (normed (fun l => x0 (ix3 0 r l)) (fun l => x4 (ix2 0 l)) (mrow i x2) (mrow i x1)) (mrow i x3)
        (fun x f => x5 (ix4 0 0 x f)) (fun x f => x6 (ix4 0 0 x f)) (fun f l => x7 (ix4 0 0 f l)) l := by
  rw [body, Kernel2Ideal.Ffn.stored_apply, ld_row, ← ld_row i x1, ← ld_row i x2,
    funext fun l => pay2_apply x0 r l, funext fun l => pay3_apply x0 x4 (ldRow i x1) (ldRow i x2) r l]

end Cert.Kernel3Ideal.Ffn
-- ==== Proof.Ffn.OpenReference.lean ====
/-
  The reference's feed-forward layer without a mixer before it, read at an index.
-/
module

public import proofs.«01_k».proof.Proof.Gen.Reference3Ideal.Read
public import proofs.«01_k».proof.Proof.Ffn.Spec

@[expose] public section

set_option maxRecDepth 16384

noncomputable section

open Idealize.ShloMosaic

namespace Cert.Reference3Ideal.Ffn

open Cert.Reference3Ideal Cert.Reference3Ideal.Gen Cert.Reference3Ideal.Read Cert.Ffn

variable (x0 : FVec Ideal S4x4096x1024 .f32) (x1 : FVec Ideal S2x4x9216 .f32) (x2 : FVec Ideal S2x3x1024 .f32)
  (x3 x4 : FVec Ideal S2x2x1024x2816 .f32) (x5 : FVec Ideal S2x2x2816x1024 .f32)

/-- The modulated norm of row `(b, r)` of the stream. -/
def hrow (b : Fin 4) (r : Fin 4096) : Fin 1024 → EReal :=
  normed (fun l => x0 (ix3 b r l)) (fun l => x2 (ix3 0 0 l)) (fun l => x1 (ix3 0 b ⟨1024 + l.val, by omega⟩))
    (fun l => x1 (ix3 0 b ⟨0 + l.val, by omega⟩))

/-- The layer's result at an index. -/
def result (b : Fin 4) (r : Fin 4096) : Fin 1024 → EReal :=
  out (fun l => x0 (ix3 b r l)) (hrow x0 x1 x2 b r) (fun l => x1 (ix3 0 b ⟨2048 + l.val, by omega⟩))
    (fun x f => x3 (ix4 0 0 x f)) (fun x f => x4 (ix4 0 0 x f)) (fun f l => x5 (ix4 0 0 f l))

theorem v33_apply (b : Fin 4) (r : Fin 4096) (l : Fin 1024) :
    val_main_v33 (F := Ideal) x0 x1 x2 (ix3 b r l) = hrow x0 x1 x2 b r l := by
  pointwise [val_main_v33, val_main_v32, val_main_v31, val_main_v30, val_main_v29, val_main_v28, val_main_v27,
    val_main_v26, val_main_v25, val_main_v24, val_main_v23, val_main_v22, val_main_v21, val_main_v20, val_main_v19,
    val_main_v18, val_main_v17, val_main_v16, val_main_v15, val_main_v14, val_main_v13, val_main_v12, val_main_v11,
    val_main_v3, val_main_v2, val_main_v1, val_main_v0, val_main_cst, val_main_cst_0, val_main_cst_1, val_main_cst_2]
  unfold hrow normed
  simp only [Nat.zero_add]

theorem v46_apply (b : Fin 4) (r : Fin 4096) (f : Fin 2816) :
    val_main_v46 (F := Ideal) x0 x1 x2 x3 x4 (ix3 b r f)
      = hidden (hrow x0 x1 x2 b r) (fun x => x3 (ix4 0 0 x f)) (fun x => x4 (ix4 0 0 x f)) := by
  pointwise [val_main_v46, val_main_v45, val_main_v44, val_main_v43, val_main_call0_v0, val_main_call0_v1,
    val_main_call0_v2, val_main_call0_v3, val_main_call0_v4, val_main_call0_v5, val_main_call0_cst, val_main_call0_cst_0,
    val_main_v40, val_main_v39, val_main_v38, val_main_v37]
  simp only [v33_apply]
  rfl

/-- The reference's result at an index. -/
theorem v50_apply (b : Fin 4) (r : Fin 4096) (l : Fin 1024) :
    val_main_v50 (F := Ideal) x0 x1 x2 x3 x4 x5 (ix3 b r l) = result x0 x1 x2 x3 x4 x5 b r l := by
  pointwise [val_main_v50, val_main_v49, val_main_v48, val_main_v47, val_main_v42, val_main_v41, val_main_v36,
    val_main_v35, val_main_cst_3, val_main_v34, val_main_v4, val_main_v1, val_main_v0]
  simp only [v46_apply]
  rfl

end Cert.Reference3Ideal.Ffn
-- ==== Proof.Ffn.OpenValue.lean ====
/-
  The result array of the feed-forward call without a mixer: every grid point writes its own block of 1024 rows, and what
  it writes there is the reference's result at the place the block sits.
-/
module

public import proofs.«01_k».proof.Proof.Ffn.Open
public import proofs.«01_k».proof.Proof.Ffn.OpenReference

@[expose] public section

set_option maxRecDepth 16384

noncomputable section

open Idealize.ShloMosaic Idealize.ShloMosaic.TcCoe Idealize.SL.Sem

namespace Cert.Kernel3Ideal.Ffn

open Cert.Kernel3Ideal Cert.Kernel3Ideal.Gen Cert.Ffn Cert.Reference3Ideal.Ffn Cert.Reference3Ideal.Read

variable (m : (ℓ : Loc nD τ sig) → Buf (Elt Ideal) ℓ)

/-- Where each window's block sits at each grid point. -/
theorem idx : ∀ t : Fin cfg0.N,
    win0_0.index t = ![(grid0.coords t 0).val, (grid0.coords t 1).val, 0]
    ∧ win0_1.index t = ![0, 0, 0] ∧ win0_2.index t = ![0, 0, 1] ∧ win0_3.index t = ![0, 0, 2]
    ∧ win0_4.index t = ![0, 0] ∧ win0_5.index t = ![0, 0, 0, 0] ∧ win0_6.index t = ![0, 0, 0, 0]
    ∧ win0_7.index t = ![0, 0, 0, 0]
    ∧ win0_8.index t = ![(grid0.coords t 0).val, (grid0.coords t 1).val, 0] :=
  (by decide +kernel : ∀ t : Fin grid0.N, _)

/-- The padded modulation tables, at a row of a batch. -/
theorem entry_v0 (c : Dev nD) (a : Fin 2) (b : Fin 4) (col : Fin 9216) :
    V m c main_v0 (ix3 a (⟨b.val, by omega⟩ : Fin 8) col) = m ((c : Thread nD τ).loc main_arg1) (ix3 a b col) := by
  simp only [V, hostOps0, hostOps0_1, hostOps0_2, List.flatten_cons, List.flatten_nil, List.append_nil, List.cons_append,
    List.nil_append, StableHlo.TRef.binary, StableHlo.TRef.nullary, StableHlo.TRef.unary, StableHlo.TRef.toBuf,
    StableHlo.TRef.ofBuf, cast_eq]
  entry_read
  pointwise

theorem entry_v6 (c : Dev nD) (k : Fin 1024) : V m c main_v6 (ix2 0 k) = m ((c : Thread nD τ).loc main_arg2) (ix3 0 0 k) := by
  simp only [V, hostOps0, hostOps0_1, hostOps0_2, List.flatten_cons, List.flatten_nil, List.append_nil, List.cons_append,
    List.nil_append, StableHlo.TRef.binary, StableHlo.TRef.nullary, StableHlo.TRef.unary, StableHlo.TRef.toBuf,
    StableHlo.TRef.ofBuf, cast_eq]
  entry_read
  pointwise

section Blocks

variable (c : Dev nD) (t : Fin cfg0.N)

/-- The place of the written block in the result array: its batch and the row of its row `r`. -/
abbrev at0 : Fin 4 := ⟨(grid0.coords t 0).val, lt_of_lt_of_le (grid0.coords t 0).isLt (by decide)⟩
theorem at1_lt (r : Fin 1024) : (grid0.coords t 1).val * 1024 + r.val < 4096 := by
  have h : (grid0.coords t 1).val < 4 := lt_of_lt_of_le (grid0.coords t 1).isLt (by decide)
  omega
abbrev at1 (r : Fin 1024) : Fin 4096 := ⟨(grid0.coords t 1).val * 1024 + r.val, at1_lt t r⟩

theorem blk0 (r k : Fin 1024) : iblk m c 0 t (ix3 0 r k)
    = m ((c : Thread nD τ).loc main_arg0) (ix3 (at0 t) (at1 t r) k) := by
  blk_ext! [iblk, V, idx t]

theorem blk1 (k : Fin 1024) : mrow (grid0.coords t) (iblk m c 1 t) k
    = m ((c : Thread nD τ).loc main_arg1) (ix3 0 (at0 t) ⟨0 + k.val, by omega⟩) := by
  show iblk m c 1 t (ix3 0 ⟨(grid0.coords t 0).val, _⟩ k) = _
  refine Eq.trans (b := V m c main_v0 _) ?_ (entry_v0 m c 0 (at0 t) ⟨0 + k.val, by omega⟩)
  blk_ext [iblk, idx t]

theorem blk2 (k : Fin 1024) : mrow (grid0.coords t) (iblk m c 2 t) k
    = m ((c : Thread nD τ).loc main_arg1) (ix3 0 (at0 t) ⟨1024 + k.val, by omega⟩) := by
  show iblk m c 2 t (ix3 0 ⟨(grid0.coords t 0).val, _⟩ k) = _
  refine Eq.trans (b := V m c main_v0 _) ?_ (entry_v0 m c 0 (at0 t) ⟨1024 + k.val, by omega⟩)
  blk_ext [iblk, idx t]

theorem blk3 (k : Fin 1024) : mrow (grid0.coords t) (iblk m c 3 t) k
    = m ((c : Thread nD τ).loc main_arg1) (ix3 0 (at0 t) ⟨2048 + k.val, by omega⟩) := by
  show iblk m c 3 t (ix3 0 ⟨(grid0.coords t 0).val, _⟩ k) = _
  refine Eq.trans (b := V m c main_v0 _) ?_ (entry_v0 m c 0 (at0 t) ⟨2048 + k.val, by omega⟩)
  blk_ext [iblk, idx t]

theorem blk4 (k : Fin 1024) : iblk m c 4 t (ix2 0 k)
    = m ((c : Thread nD τ).loc main_arg2) (ix3 0 0 k) := by
  refine Eq.trans (b := V m c main_v6 _) ?_ (entry_v6 m c k)
  blk_ext [iblk, idx t]

theorem blk5 (k : Fin 1024) (f : Fin 2816) : iblk m c 5 t (ix4 0 0 k f)
    = m ((c : Thread nD τ).loc main_arg3) (ix4 0 0 k f) := by
  blk_ext! [iblk, V, idx t]

theorem blk6 (k : Fin 1024) (f : Fin 2816) : iblk m c 6 t (ix4 0 0 k f)
    = m ((c : Thread nD τ).loc main_arg4) (ix4 0 0 k f) := by
  blk_ext! [iblk, V, idx t]

theorem blk7 (k : Fin 1024) (f : Fin 2816) : iblk m c 7 t (ix4 0 0 f k)
    = m ((c : Thread nD τ).loc main_arg5) (ix4 0 0 f k) := by
  blk_ext! [iblk, V, idx t]

/-- What the body leaves at row `r` of point `t`'s block is the reference's row there. -/
theorem point (r l : Fin 1024) :
    body (grid0.coords t) (iblk m c 0 t) (iblk m c 1 t) (iblk m c 2 t) (iblk m c 3 t) (iblk m c 4 t) (iblk m c 5 t)
      (iblk m c 6 t) (iblk m c 7 t) (ix3 0 r l)
    = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (at0 t) (at1 t r) l := by
  rw [body_apply, funext (blk0 m c t r), funext (blk1 m c t), funext (blk2 m c t), funext (blk3 m c t),
    funext (blk4 m c t), funext fun k => funext (blk5 m c t k), funext fun k => funext (blk6 m c t k),
    funext fun f => funext fun k => blk7 m c t k f]
  rfl

/-- Where the written block's row `r` sits in the result array. -/
theorem emb8 (r l : Fin 1024) :
    ((cfg0.win 8).blk t).view.emb (ix3 0 r l : S1x1024x1024.Idx) = (ix3 (at0 t) (at1 t r) l : S4x4096x1024.Idx) := by
  blk_ext [idx t]

end Blocks

set_option maxHeartbeats 1000000 in
/-- The result array after the run is the reference's. -/
theorem final (c : Dev nD) : (dats m 0 c).arrAt 8 cfg0.N = val_main_v50 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 8 _ (by decide +kernel) fun t _ y => ?_
  blk_simp
  rw [after0_8]; unfold outsAt0; frame_out
  obtain ⟨r, l, rfl⟩ : ∃ (r l : Fin 1024), y = (ix3 0 r l : S1x1024x1024.Idx) :=
    ⟨y 1, y 2, (eq_ix3 y).trans (congrArg (fun a : Fin 1 => ix3 a (y 1) (y 2)) (Subsingleton.elim (α := Fin 1) _ _))⟩
  refine (point m c t r l).trans ?_
  refine Eq.trans ?_ (congrArg _ (emb8 t r l)).symm
  exact (v50_apply _ _ _ _ _ _ (at0 t) (at1 t r) l).symm

end Cert.Kernel3Ideal.Ffn
-- ==== Proof.Ffn.Claim.lean ====
/-
  The claims about the feed-forward call, with a mixer before it and without: over the extended reals the kernel and the
  reference end with the same array.
-/
module

public import proofs.«01_k».proof.Defs
public import proofs.«01_k».proof.Proof.Ffn.Value
public import proofs.«01_k».proof.Proof.Gen.Reference2Ideal.Run
public import proofs.«01_k».proof.Proof.Ffn.OpenValue
public import proofs.«01_k».proof.Proof.Gen.Reference3Ideal.Run
public import Idealize.ShloMosaic.Lib.Claim

@[expose] public section

noncomputable section

open Idealize.ShloMosaic Idealize.ShloMosaic.TcCoe Idealize.SL.Sem

namespace Cert.Ffn

theorem claim : algebraic_Kernel2Ideal_Reference2Ideal (hKernel2Ideal := Kernel2Ideal.Gen.facts)
    (hReference2Ideal := Reference2Ideal.Gen.facts) := by
  intro m g m' g' _ hargs
  refine ⟨fun c => (Kernel2Ideal.Gen.dats m 0 c).arrAt 11 Kernel2Ideal.cfg0.N,
    Kernel2Ideal.Value.run_blocks m g,
    (θ_run _ _ _).mono (fun r h c => ?_) (Reference2Ideal.Value.run m' g')⟩
  refine ⟨(h c).1.trans ?_, (h c).2⟩
  refine Eq.trans ?_ (Kernel2Ideal.Ffn.final m c).symm
  obtain ⟨h0, h1, h2, h3, h4, h5, h6, h7⟩ := hargs c
  refine (Reference2Ideal.Read.val_main_v56_eq m' c).trans ?_
  rw [h0, h1, h2, h3, h4, h5, h6, h7]

theorem claim_open : algebraic_Kernel3Ideal_Reference3Ideal (hKernel3Ideal := Kernel3Ideal.Gen.facts)
    (hReference3Ideal := Reference3Ideal.Gen.facts) := by
  intro m g m' g' _ hargs
  refine ⟨fun c => (Kernel3Ideal.Gen.dats m 0 c).arrAt 8 Kernel3Ideal.cfg0.N,
    Kernel3Ideal.Value.run_blocks m g,
    (θ_run _ _ _).mono (fun r h c => ?_) (Reference3Ideal.Value.run m' g')⟩
  refine ⟨(h c).1.trans ?_, (h c).2⟩
  refine Eq.trans ?_ (Kernel3Ideal.Ffn.final m c).symm
  obtain ⟨h0, h1, h2, h3, h4, h5⟩ := hargs c
  refine (Reference3Ideal.Read.val_main_v50_eq m' c).trans ?_
  rw [h0, h1, h2, h3, h4, h5]

end Cert.Ffn
-- ==== Proof.Attn.Steps.lean ====
/-
  The attention body's steps for one head: the scores of a block of keys, and what a block adds to the two running sums
  (the normaliser and the weighted values), read at an index.
-/
module

public import proofs.«01_k».proof.Proof.Gen.KernelIdeal.Value
public import proofs.«01_k».proof.Proof.Gen.KernelIdeal.Loops
public import Idealize.ShloMosaic.Lib.Claim
public import Idealize.ShloMosaic.Lib.Pointwise
public import Idealize.ShloMosaic.Lib.WordCmp
public import Idealize.ShloMosaic.Lib.Pipeline.ValueKit

@[expose] public section

set_option maxRecDepth 16384

noncomputable section

namespace Cert.KernelIdeal.Attn

open Idealize.ShloMosaic Idealize.ShloMosaic.TcCoe Idealize.SL.Sem Cert.KernelIdeal Cert.KernelIdeal.Gen

/-- A sum over a range, cut in pieces. -/
theorem sum_cut (n k : ℕ) (E : ℕ → EReal) :
    ∑ x ∈ Finset.range (n + k), E x = ∑ x ∈ Finset.range n, E x + ∑ x : Fin k, E (n + x) := by
  rw [Finset.sum_range_add, Finset.sum_range (n := k)]

/-! ## A block of 1024 keys, its values taken in four pieces of 256 -/

/-- Scores of 1024 keys against the tile's queries. -/
def scores (x : Vec Ideal S1x1024x128 .bf16) (q : FVec Ideal S512x128 .bf16) : FVec Ideal S1024x512 .f32 :=
  matmul dot_S1024x128_S512x128_S1024x512_1_1_0_0_n_n none (shapeCast S1024x128 x shapeCasts_S1x1024x128_S1024x128 : FVec Ideal S1024x128 .bf16) q
    (constant S1024x512 .f32 0x00000000#32)

theorem scores_apply (x q) (κ : Fin 1024) (r : Fin 512) :
    scores x q (ix2 κ r) = ∑ d : Fin 128, x (ix3 0 κ d) * q (ix2 r d) := by
  pointwise [scores]

/-- The four pieces of the weights. -/
def p0 (s : FVec Ideal S1024x512 .f32) : FVec Ideal S256x512 .f32 :=
  exp2 (extractStridedSlice S256x512 ![0, 0] s slices_S1024x512_o0_0_S256x512)
def p1 (s : FVec Ideal S1024x512 .f32) : FVec Ideal S256x512 .f32 :=
  exp2 (extractStridedSlice S256x512 ![256, 0] s slices_S1024x512_o256_0_S256x512)
def p2 (s : FVec Ideal S1024x512 .f32) : FVec Ideal S256x512 .f32 :=
  exp2 (extractStridedSlice S256x512 ![512, 0] s slices_S1024x512_o512_0_S256x512)
def p3 (s : FVec Ideal S1024x512 .f32) : FVec Ideal S256x512 .f32 :=
  exp2 (extractStridedSlice S256x512 ![768, 0] s slices_S1024x512_o768_0_S256x512)

/-- One piece added to the normaliser. -/
def ladd (l : FVec Ideal S1x512 .f32) (p : FVec Ideal S256x512 .f32) : FVec Ideal S1x512 .f32 :=
  addf l (shapeCast S1x512 (multiReduction .add [0] S512 p 0x00000000#32 reduces_S256x512_S512 (.inl rfl) rfl) shapeCasts_S512_S1x512)

/-- One piece added to the weighted values. -/
def aadd (a : FVec Ideal S64x512 .f32) (v : Vec Ideal S1x64x256 .bf16) (p : FVec Ideal S256x512 .f32) : FVec Ideal S64x512 .f32 :=
  addf a (matmul dot_S64x256_S256x512_S64x512_1_0_0_1_n_n none (shapeCast S64x256 v shapeCasts_S1x64x256_S64x256 : FVec Ideal S64x256 .bf16)
    (truncf .bf16 p bitsLt_bf16_f32) (constant S64x512 .f32 0x00000000#32))

theorem ladd_apply (l p) (r : Fin 512) : ladd l p (ix2 0 r) = l (ix2 0 r) + ∑ κ : Fin 256, p (ix2 κ r) := by
  pointwise [ladd]

theorem aadd_apply (a v p) (j : Fin 64) (r : Fin 512) :
    aadd a v p (ix2 j r) = a (ix2 j r) + ∑ κ : Fin 256, v (ix3 0 j κ) * p (ix2 κ r) := by
  pointwise [aadd]

theorem p0_apply (s) (κ : Fin 256) (r : Fin 512) : p0 s (ix2 κ r) = Ideal.exp2 (s (ix2 ⟨κ.val, by omega⟩ r)) := by
  pointwise [p0]
  rfl
theorem p1_apply (s) (κ : Fin 256) (r : Fin 512) : p1 s (ix2 κ r) = Ideal.exp2 (s (ix2 ⟨256 + κ.val, by omega⟩ r)) := by
  pointwise [p1]
  rfl
theorem p2_apply (s) (κ : Fin 256) (r : Fin 512) : p2 s (ix2 κ r) = Ideal.exp2 (s (ix2 ⟨512 + κ.val, by omega⟩ r)) := by
  pointwise [p2]
  rfl
theorem p3_apply (s) (κ : Fin 256) (r : Fin 512) : p3 s (ix2 κ r) = Ideal.exp2 (s (ix2 ⟨768 + κ.val, by omega⟩ r)) := by
  pointwise [p3]
  rfl

/-- What a block of 1024 keys makes of the normaliser. -/
def lwide (s : FVec Ideal S1024x512 .f32) (l : FVec Ideal S1x512 .f32) : FVec Ideal S1x512 .f32 :=
  ladd (ladd (ladd (ladd l (p0 s)) (p1 s)) (p2 s)) (p3 s)

/-- What it makes of the weighted values. -/
def awide (s : FVec Ideal S1024x512 .f32) (v0 v1 v2 v3 : Vec Ideal S1x64x256 .bf16) (a : FVec Ideal S64x512 .f32) :
    FVec Ideal S64x512 .f32 :=
  aadd (aadd (aadd (aadd a v0 (p0 s)) v1 (p1 s)) v2 (p2 s)) v3 (p3 s)

theorem lwide_apply (s l) (r : Fin 512) (n : ℕ) (E : ℕ → EReal) (hl : l (ix2 0 r) = ∑ x ∈ Finset.range n, E x)
    (hs : ∀ κ : Fin 1024, Ideal.exp2 (s (ix2 κ r)) = E (n + κ)) :
    lwide s l (ix2 0 r) = ∑ x ∈ Finset.range (n + 1024), E x := by
  rw [show n + 1024 = n + 256 + 256 + 256 + 256 by omega, sum_cut, sum_cut, sum_cut, sum_cut, ← hl]
  simp only [lwide, ladd_apply, p0_apply, p1_apply, p2_apply, p3_apply, hs]
  simp only [Nat.add_assoc, Nat.reduceAdd]

theorem awide_apply (s v0 v1 v2 v3 a) (j : Fin 64) (r : Fin 512) (n : ℕ) (E V : ℕ → EReal)
    (ha : a (ix2 j r) = ∑ x ∈ Finset.range n, V x * E x) (hs : ∀ κ : Fin 1024, Ideal.exp2 (s (ix2 κ r)) = E (n + κ))
    (h0 : ∀ κ : Fin 256, v0 (ix3 0 j κ) = V (n + κ)) (h1 : ∀ κ : Fin 256, v1 (ix3 0 j κ) = V (n + 256 + κ))
    (h2 : ∀ κ : Fin 256, v2 (ix3 0 j κ) = V (n + 512 + κ)) (h3 : ∀ κ : Fin 256, v3 (ix3 0 j κ) = V (n + 768 + κ)) :
    awide s v0 v1 v2 v3 a (ix2 j r) = ∑ x ∈ Finset.range (n + 1024), V x * E x := by
  rw [show n + 1024 = n + 256 + 256 + 256 + 256 by omega, sum_cut _ _ fun x => V x * E x, sum_cut _ _ fun x => V x * E x,
    sum_cut _ _ fun x => V x * E x, sum_cut _ _ fun x => V x * E x, ← ha]
  simp only [awide, aadd_apply, p0_apply, p1_apply, p2_apply, p3_apply, hs, h0, h1, h2, h3]
  simp only [Nat.add_assoc, Nat.reduceAdd]

/-! ## A block of 512 keys -/

/-- Scores of 512 keys against the tile's queries. -/
def scores' (x : Vec Ideal S1x512x128 .bf16) (q : FVec Ideal S512x128 .bf16) : FVec Ideal S512x512 .f32 :=
  matmul dot_S512x128_S512x128_S512x512_1_1_0_0_n_n none (shapeCast S512x128 x shapeCasts_S1x512x128_S512x128 : FVec Ideal S512x128 .bf16) q
    (constant S512x512 .f32 0x00000000#32)

theorem scores'_apply (x q) (κ r : Fin 512) : scores' x q (ix2 κ r) = ∑ d : Fin 128, x (ix3 0 κ d) * q (ix2 r d) := by
  pointwise [scores']

/-- What a block of 512 keys makes of the normaliser. -/
def lnarrow (s : FVec Ideal S512x512 .f32) (l : FVec Ideal S1x512 .f32) : FVec Ideal S1x512 .f32 :=
  addf l (shapeCast S1x512 (multiReduction .add [0] S512 (exp2 s) 0x00000000#32 reduces_S512x512_S512 (.inl rfl) rfl) shapeCasts_S512_S1x512)

/-- What it makes of the weighted values. -/
def anarrow (s : FVec Ideal S512x512 .f32) (v : Vec Ideal S1x64x512 .bf16) (a : FVec Ideal S64x512 .f32) : FVec Ideal S64x512 .f32 :=
  addf a (matmul dot_S64x512_S512x512_S64x512_1_0_0_1_n_n none (shapeCast S64x512 v shapeCasts_S1x64x512_S64x512 : FVec Ideal S64x512 .bf16)
    (truncf .bf16 (exp2 s) bitsLt_bf16_f32) (constant S64x512 .f32 0x00000000#32))

theorem lnarrow_apply (s l) (r : Fin 512) (n : ℕ) (E : ℕ → EReal) (hl : l (ix2 0 r) = ∑ x ∈ Finset.range n, E x)
    (hs : ∀ κ : Fin 512, Ideal.exp2 (s (ix2 κ r)) = E (n + κ)) :
    lnarrow s l (ix2 0 r) = ∑ x ∈ Finset.range (n + 512), E x := by
  have h : lnarrow s l (ix2 0 r) = l (ix2 0 r) + ∑ κ : Fin 512, Ideal.exp2 (s (ix2 κ r)) := by
    pointwise [lnarrow]
    rfl
  rw [h, sum_cut, hl]; simp only [hs]

theorem anarrow_apply (s v a) (j : Fin 64) (r : Fin 512) (n : ℕ) (E V : ℕ → EReal)
    (ha : a (ix2 j r) = ∑ x ∈ Finset.range n, V x * E x) (hs : ∀ κ : Fin 512, Ideal.exp2 (s (ix2 κ r)) = E (n + κ))
    (hv : ∀ κ : Fin 512, v (ix3 0 j κ) = V (n + κ)) :
    anarrow s v a (ix2 j r) = ∑ x ∈ Finset.range (n + 512), V x * E x := by
  have h : anarrow s v a (ix2 j r) = a (ix2 j r) + ∑ κ : Fin 512, v (ix3 0 j κ) * Ideal.exp2 (s (ix2 κ r)) := by
    pointwise [anarrow]
    rfl
  rw [h, sum_cut _ _ fun x => V x * E x, ha]; simp only [hs, hv]

/-! ## The tile's own 512 keys, in quarters of 256 by 256, the diagonal ones masked -/

/-- The scores of 256 keys from row `a` on against 256 queries from row `b` on. -/
def quarter (k q : FVec Ideal S512x128 .bf16) (a b : ℕ) (ha : S512x128.Slices ![a, 0] S256x128)
    (hb : S512x128.Slices ![b, 0] S256x128) : FVec Ideal S256x256 .f32 :=
  matmul dot_S256x128_S256x128_S256x256_1_1_0_0_n_n none (extractStridedSlice S256x128 ![a, 0] k ha)
    (extractStridedSlice S256x128 ![b, 0] q hb) (constant S256x256 .f32 0x00000000#32)

/-- A diagonal quarter's weights. -/
def diag (s : FVec Ideal S256x256 .f32) : FVec Ideal S256x256 .f32 :=
  exp2 (select (k0_pay243) s (broadcast S256x256 (Named.named κ "mask" 0xF149F2CA#32)))

/-- A sum over 256 keys. -/
def colsum (p : FVec Ideal S256x256 .f32) : FVec Ideal S1x256 .f32 :=
  shapeCast S1x256 (multiReduction .add [0] S256 p 0x00000000#32 reduces_S256x256_S256 (.inl rfl) rfl) shapeCasts_S256_S1x256

/-- A weighted sum of 256 values. -/
def dotv (v : FVec Ideal S64x256 .bf16) (p : FVec Ideal S256x256 .f32) : FVec Ideal S64x256 .f32 :=
  matmul dot_S64x256_S256x256_S64x256_1_0_0_1_n_n none v (truncf .bf16 p bitsLt_bf16_f32) (constant S64x256 .f32 0x00000000#32)

/-- What the tile's own keys make of the normaliser, from the three quarters' scores. -/
def lown (s00 s01 s11 : FVec Ideal S256x256 .f32) (l : FVec Ideal S1x512 .f32) : FVec Ideal S1x512 .f32 :=
  addf l (concatenate S1x512 1 [⟨S1x256, colsum (diag s00)⟩, ⟨S1x256, addf (colsum (exp2 s01)) (colsum (diag s11))⟩]
    concatenates_S1x256_S1x256_S1x512_d1)

/-- What they make of the weighted values. -/
def aown (s00 s01 s11 : FVec Ideal S256x256 .f32) (v0 v1 : FVec Ideal S64x256 .bf16) (a : FVec Ideal S64x512 .f32) :
    FVec Ideal S64x512 .f32 :=
  addf a (concatenate S64x512 1 [⟨S64x256, dotv v0 (diag s00)⟩, ⟨S64x256, addf (dotv v0 (exp2 s01)) (dotv v1 (diag s11))⟩]
    concatenates_S64x256_S64x256_S64x512_d1)

theorem colsum_apply (p) (r : Fin 256) : colsum p (ix2 0 r) = ∑ κ : Fin 256, p (ix2 κ r) := by pointwise [colsum]

theorem dotv_apply (v p) (j : Fin 64) (r : Fin 256) : dotv v p (ix2 j r) = ∑ κ : Fin 256, v (ix2 j κ) * p (ix2 κ r) := by
  pointwise [dotv]

theorem quarter00 (k q) (a b : Fin 256) : quarter k q 0 0 slices_S512x128_o0_0_S256x128 slices_S512x128_o0_0_S256x128 (ix2 a b)
    = ∑ d : Fin 128, k (ix2 ⟨a.val, by omega⟩ d) * q (ix2 ⟨b.val, by omega⟩ d) := by pointwise [quarter]

theorem quarter01 (k q) (a b : Fin 256) : quarter k q 0 256 slices_S512x128_o0_0_S256x128 slices_S512x128_o256_0_S256x128 (ix2 a b)
    = ∑ d : Fin 128, k (ix2 ⟨a.val, by omega⟩ d) * q (ix2 ⟨256 + b.val, by omega⟩ d) := by pointwise [quarter]

theorem quarter11 (k q) (a b : Fin 256) : quarter k q 256 256 slices_S512x128_o256_0_S256x128 slices_S512x128_o256_0_S256x128 (ix2 a b)
    = ∑ d : Fin 128, k (ix2 ⟨256 + a.val, by omega⟩ d) * q (ix2 ⟨256 + b.val, by omega⟩ d) := by pointwise [quarter]

theorem diag_apply (s) (a b : Fin 256) : diag s (ix2 a b) = if a.val ≤ b.val then Ideal.exp2 (s (ix2 a b)) else 0 := by
  pointwise [diag, k0_pay243]
  rw [IdealRules.named_const.ideal_named_scalar _ _ _ _ rfl, WordCmp.cmpi_sle_of_lt (by simp; omega) (by simp; omega)]
  have ha : (BitVec.ofNat 32 a.val).toNat = a.val := by simp; omega
  have hb : (BitVec.ofNat 32 b.val).toNat = b.val := by simp; omega
  rw [ha, hb]
  by_cases h : a.val ≤ b.val
  · simp [h, Scalar.select]; rfl
  · simp [h, Scalar.select]; rfl

theorem lown_lo (s00 s01 s11 l) (r : Fin 256) :
    lown s00 s01 s11 l (ix2 0 ⟨r.val, by omega⟩) = l (ix2 0 ⟨r.val, by omega⟩) + ∑ κ : Fin 256, diag s00 (ix2 κ r) := by
  rw [← colsum_apply]
  pointwise [lown]

theorem lown_hi (s00 s01 s11 l) (r : Fin 256) : lown s00 s01 s11 l (ix2 0 ⟨256 + r.val, by omega⟩)
    = l (ix2 0 ⟨256 + r.val, by omega⟩) + (∑ κ : Fin 256, Ideal.exp2 (s01 (ix2 κ r)) + ∑ κ : Fin 256, diag s11 (ix2 κ r)) := by
  rw [← colsum_apply]
  pointwise [lown]
  rw [colsum_apply]
  rfl

theorem aown_lo (s00 s01 s11 v0 v1 a) (j : Fin 64) (r : Fin 256) : aown s00 s01 s11 v0 v1 a (ix2 j ⟨r.val, by omega⟩)
    = a (ix2 j ⟨r.val, by omega⟩) + ∑ κ : Fin 256, v0 (ix2 j κ) * diag s00 (ix2 κ r) := by
  rw [← dotv_apply]
  pointwise [aown]

theorem aown_hi (s00 s01 s11 v0 v1 a) (j : Fin 64) (r : Fin 256) : aown s00 s01 s11 v0 v1 a (ix2 j ⟨256 + r.val, by omega⟩)
    = a (ix2 j ⟨256 + r.val, by omega⟩)
      + (∑ κ : Fin 256, v0 (ix2 j κ) * Ideal.exp2 (s01 (ix2 κ r)) + ∑ κ : Fin 256, v1 (ix2 j κ) * diag s11 (ix2 κ r)) := by
  rw [← dotv_apply]
  pointwise [aown]
  rw [dotv_apply]
  rfl

end Cert.KernelIdeal.Attn
-- ==== Proof.Attn.Trips.lean ====
/-
  What one trip of each of the body's two loops over earlier keys makes of the sixteen carried sums, head by head, and
  where each trip reads.
-/
module

public import proofs.«01_k».proof.Proof.Attn.Steps

@[expose] public section

set_option maxRecDepth 16384

noncomputable section

namespace Cert.KernelIdeal.Attn

open Idealize.ShloMosaic Idealize.ShloMosaic.TcCoe Idealize.SL.Sem Cert.KernelIdeal Cert.KernelIdeal.Gen

/-- The sums a loop carries: for each of the eight heads a normaliser and the weighted values. -/
abbrev Carry : Type := FVec Ideal S1x512 .f32 × FVec Ideal S64x512 .f32 × FVec Ideal S1x512 .f32 × FVec Ideal S64x512 .f32
  × FVec Ideal S1x512 .f32 × FVec Ideal S64x512 .f32 × FVec Ideal S1x512 .f32 × FVec Ideal S64x512 .f32
  × FVec Ideal S1x512 .f32 × FVec Ideal S64x512 .f32 × FVec Ideal S1x512 .f32 × FVec Ideal S64x512 .f32
  × FVec Ideal S1x512 .f32 × FVec Ideal S64x512 .f32 × FVec Ideal S1x512 .f32 × FVec Ideal S64x512 .f32

/-- A head's normaliser. -/
def lOf (T : Carry) : Fin 8 → FVec Ideal S1x512 .f32 :=
  ![T.1, T.2.2.1, T.2.2.2.2.1, T.2.2.2.2.2.2.1, T.2.2.2.2.2.2.2.2.1, T.2.2.2.2.2.2.2.2.2.2.1, T.2.2.2.2.2.2.2.2.2.2.2.2.1,
    T.2.2.2.2.2.2.2.2.2.2.2.2.2.2.1]

/-- A head's weighted values. -/
def aOf (T : Carry) : Fin 8 → FVec Ideal S64x512 .f32 :=
  ![T.2.1, T.2.2.2.1, T.2.2.2.2.2.1, T.2.2.2.2.2.2.2.1, T.2.2.2.2.2.2.2.2.2.1, T.2.2.2.2.2.2.2.2.2.2.2.1,
    T.2.2.2.2.2.2.2.2.2.2.2.2.2.1, T.2.2.2.2.2.2.2.2.2.2.2.2.2.2.2]

/-- A head's queries, cut out of the tile's. -/
def qOf (v0 : Vec Ideal S1x512x1024 .bf16) : Fin 8 → FVec Ideal S512x128 .bf16 :=
  ![k0_pay199 v0, k0_pay200 v0, k0_pay201 v0, k0_pay202 v0, k0_pay203 v0, k0_pay204 v0, k0_pay205 v0, k0_pay206 v0]

theorem qOf_apply (v0 h) (r : Fin 512) (d : Fin 128) : qOf v0 h (ix2 r d) = v0 (ix3 0 r ⟨128 * h.val + d.val, by omega⟩) := by
  fin_cases h
  · show k0_pay199 v0 _ = _
    pointwise [k0_pay198, k0_pay199]
  · show k0_pay200 v0 _ = _
    pointwise [k0_pay198, k0_pay200]
  · show k0_pay201 v0 _ = _
    pointwise [k0_pay198, k0_pay201]
  · show k0_pay202 v0 _ = _
    pointwise [k0_pay198, k0_pay202]
  · show k0_pay203 v0 _ = _
    pointwise [k0_pay198, k0_pay203]
  · show k0_pay204 v0 _ = _
    pointwise [k0_pay198, k0_pay204]
  · show k0_pay205 v0 _ = _
    pointwise [k0_pay198, k0_pay205]
  · show k0_pay206 v0 _ = _
    pointwise [k0_pay198, k0_pay206]

/-! ## Where the trips read -/

/-- How often the loop over blocks of 1024 keys runs. -/
theorem trips1 : ∀ i : grid0.Coords, (k0_t1_loop i).trips = (i 2).val / 2 := by decide +kernel

/-- How often the loop over blocks of 512 keys runs. -/
theorem trips3 : ∀ i : grid0.Coords, (k0_t3_loop i).trips = (i 2).val % 2 := by decide +kernel

/-- The two loops that pick up a remainder have none. -/
theorem trips2 : ∀ i : grid0.Coords, (k0_t2_loop i).trips = 0 := by decide +kernel
theorem trips4 : ∀ i : grid0.Coords, (k0_t4_loop i).trips = 0 := by decide +kernel

/-- Where a trip over 1024 keys reads a head's keys … -/
def koff1 (i : grid0.Coords) (k : Fin (k0_t1_loop i).trips) : Fin 8 → Fin 3 → ℕ :=
  ![k0_off1 i k, k0_off2 i k, k0_off3 i k, k0_off4 i k, k0_off5 i k, k0_off6 i k, k0_off7 i k, k0_off8 i k]

theorem koff1_eq : ∀ (i : grid0.Coords) (k : Fin (k0_t1_loop i).trips) (h : Fin 8), koff1 i k h = ![0, 1024 * k.val, 128 * h.val] := by
  decide +kernel

/-- … and its values, in four pieces. -/
def voff1 (i : grid0.Coords) (k : Fin (k0_t1_loop i).trips) (h : Fin 8) (w : BitVec 32) : Fin 3 → ℕ :=
  (![k0_off9 i k, k0_off10 i k, k0_off11 i k, k0_off12 i k, k0_off13 i k, k0_off14 i k, k0_off15 i k, k0_off16 i k] :
    Fin 8 → BitVec 32 → Fin 3 → ℕ) h w

theorem voff1_eq : ∀ (i : grid0.Coords) (k : Fin (k0_t1_loop i).trips) (h : Fin 8) (n : Fin 4),
    voff1 i k h (BitVec.ofNat 32 (256 * n.val)) = ![0, 64 * h.val, 1024 * k.val + 256 * n.val] := by
  decide +kernel

/-- Where a trip over 512 keys reads a head's keys … -/
def koff3 (i : grid0.Coords) (k : Fin (k0_t3_loop i).trips) : Fin 8 → Fin 3 → ℕ :=
  ![k0_off33 i k, k0_off34 i k, k0_off35 i k, k0_off36 i k, k0_off37 i k, k0_off38 i k, k0_off39 i k, k0_off40 i k]

theorem koff3_eq : ∀ (i : grid0.Coords) (k : Fin (k0_t3_loop i).trips) (h : Fin 8),
    koff3 i k h = ![0, 512 * (2 * ((i 2).val / 2) + k.val), 128 * h.val] := by
  decide +kernel

/-- … and its values. -/
def voff3 (i : grid0.Coords) (k : Fin (k0_t3_loop i).trips) : Fin 8 → Fin 3 → ℕ :=
  ![k0_off41 i k, k0_off42 i k, k0_off43 i k, k0_off44 i k, k0_off45 i k, k0_off46 i k, k0_off47 i k, k0_off48 i k]

theorem voff3_eq : ∀ (i : grid0.Coords) (k : Fin (k0_t3_loop i).trips) (h : Fin 8),
    voff3 i k h = ![0, 64 * h.val, 512 * (2 * ((i 2).val / 2) + k.val)] := by
  decide +kernel

/-- Where the tile's own keys and values are read. -/
theorem off65_eq : ∀ i : grid0.Coords, k0_off65 i = ![0, 512 * (i 2).val, 0] := by decide +kernel
theorem off66_eq : ∀ i : grid0.Coords, k0_off66 i = ![0, 0, 512 * (i 2).val] := by decide +kernel

theorem koff1_inb (i : grid0.Coords) (k : Fin (k0_t1_loop i).trips) (h : Fin 8) :
    ∀ a, koff1 i k h a + S1x1024x128.size a ≤ S1x4096x1024.size a := by
  fin_cases h
  exacts [k0_off1_inb i k, k0_off2_inb i k, k0_off3_inb i k, k0_off4_inb i k, k0_off5_inb i k, k0_off6_inb i k,
    k0_off7_inb i k, k0_off8_inb i k]

theorem voff1_inb (i : grid0.Coords) (k : Fin (k0_t1_loop i).trips) (h : Fin 8) (n : Fin 4) :
    ∀ a, voff1 i k h (BitVec.ofNat 32 (256 * n.val)) a + S1x64x256.size a ≤ S1x512x4096.size a := by
  fin_cases h
  exacts [k0_off9_inb i k n, k0_off10_inb i k n, k0_off11_inb i k n, k0_off12_inb i k n, k0_off13_inb i k n,
    k0_off14_inb i k n, k0_off15_inb i k n, k0_off16_inb i k n]

theorem koff3_inb (i : grid0.Coords) (k : Fin (k0_t3_loop i).trips) (h : Fin 8) :
    ∀ a, koff3 i k h a + S1x512x128.size a ≤ S1x4096x1024.size a := by
  fin_cases h
  exacts [k0_off33_inb i k, k0_off34_inb i k, k0_off35_inb i k, k0_off36_inb i k, k0_off37_inb i k, k0_off38_inb i k,
    k0_off39_inb i k, k0_off40_inb i k]

theorem voff3_inb (i : grid0.Coords) (k : Fin (k0_t3_loop i).trips) (h : Fin 8) :
    ∀ a, voff3 i k h a + S1x64x512.size a ≤ S1x512x4096.size a := by
  fin_cases h
  exacts [k0_off41_inb i k, k0_off42_inb i k, k0_off43_inb i k, k0_off44_inb i k, k0_off45_inb i k, k0_off46_inb i k,
    k0_off47_inb i k, k0_off48_inb i k]

section Trip

variable (𝒱 : Variants) (c : Dev nD) (bd : Option 𝒱.V) (i : grid0.Coords)
  (arg3 : Memref sig .tc .vmem S1x512x1024 .bf16) (harg3 : arg3.IsWhole)
  (arg4 : Memref sig .tc .vmem S1x4096x1024 .bf16) (harg4 : arg4.IsWhole)
  (arg5 : Memref sig .tc .vmem S1x512x4096 .bf16) (harg5 : arg5.IsWhole)
  (arg6 : Memref sig .tc .vmem S1x512x512 .bf16) (harg6 : arg6.IsWhole)

/-- The 1024 keys a trip reads for a head. -/
def key1 (X4 : BufTy.Contents (Elt Ideal) arg4.view.ty) (k : Fin (k0_t1_loop i).trips) (h : Fin 8) : Vec Ideal S1x1024x128 .bf16 :=
  View.readAt (Elt Ideal) arg4.view (Rect.unit (s := S1x4096x1024) (koff1 i k h) S1x1024x128.size (koff1_inb i k h)).toLoadRect X4

/-- A piece of the values it reads. -/
def val1 (X5 : BufTy.Contents (Elt Ideal) arg5.view.ty) (k : Fin (k0_t1_loop i).trips) (h : Fin 8) (n : Fin 4) : Vec Ideal S1x64x256 .bf16 :=
  View.readAt (Elt Ideal) arg5.view
    (Rect.unit (s := S1x512x4096) (voff1 i k h (BitVec.ofNat 32 (256 * n.val))) S1x64x256.size (voff1_inb i k h n)).toLoadRect X5

/-- The 512 keys a trip of the later loop reads for a head. -/
def key3 (X4 : BufTy.Contents (Elt Ideal) arg4.view.ty) (k : Fin (k0_t3_loop i).trips) (h : Fin 8) : Vec Ideal S1x512x128 .bf16 :=
  View.readAt (Elt Ideal) arg4.view (Rect.unit (s := S1x4096x1024) (koff3 i k h) S1x512x128.size (koff3_inb i k h)).toLoadRect X4

/-- The values it reads. -/
def val3 (X5 : BufTy.Contents (Elt Ideal) arg5.view.ty) (k : Fin (k0_t3_loop i).trips) (h : Fin 8) : Vec Ideal S1x64x512 .bf16 :=
  View.readAt (Elt Ideal) arg5.view (Rect.unit (s := S1x512x4096) (voff3 i k h) S1x64x512.size (voff3_inb i k h)).toLoadRect X5

variable (v0 : Vec Ideal S1x512x1024 .bf16) (X4 : BufTy.Contents (Elt Ideal) arg4.view.ty)
  (X5 : BufTy.Contents (Elt Ideal) arg5.view.ty) (acc : Carry)

theorem trip1_l (k : Fin (k0_t1_loop i).trips) (h : Fin 8) :
    lOf (tripR_k0_t1 (F := Ideal) 𝒱 c bd i arg3 harg3 arg4 harg4 arg5 harg5 arg6 harg6 v0 X4 X5 k acc) h
      = lwide (scores (key1 i arg4 X4 k h) (qOf v0 h)) (lOf acc h) := by
  unfold tripR_k0_t1 trip_k0_t1
  fin_cases h <;> rfl

theorem trip1_a (k : Fin (k0_t1_loop i).trips) (h : Fin 8) :
    aOf (tripR_k0_t1 (F := Ideal) 𝒱 c bd i arg3 harg3 arg4 harg4 arg5 harg5 arg6 harg6 v0 X4 X5 k acc) h
      = awide (scores (key1 i arg4 X4 k h) (qOf v0 h)) (val1 i arg5 X5 k h 0) (val1 i arg5 X5 k h 1) (val1 i arg5 X5 k h 2)
          (val1 i arg5 X5 k h 3) (aOf acc h) := by
  unfold tripR_k0_t1 trip_k0_t1
  fin_cases h <;> rfl

variable (arg2 v37 v38 : BitVec 32) (v2 v3 v4 v5 v6 v7 v8 v9 : FVec Ideal S512x128 .bf16)
  (v36_0 v36_2 v36_4 v36_6 v36_8 v36_10 v36_12 v36_14 : FVec Ideal S1x512 .f32)
  (v36_1 v36_3 v36_5 v36_7 v36_9 v36_11 v36_13 v36_15 : FVec Ideal S64x512 .f32)

theorem trip3_l (k : Fin (k0_t3_loop i).trips) (h : Fin 8) :
    lOf (tripR_k0_t3 (F := Ideal) 𝒱 c bd i arg3 harg3 arg4 harg4 arg5 harg5 arg6 harg6 arg2 v2 v3 v4 v5 v6 v7 v8 v9
        v36_0 v36_1 v36_2 v36_3 v36_4 v36_5 v36_6 v36_7 v36_8 v36_9 v36_10 v36_11 v36_12 v36_13 v36_14 v36_15 v37 v38 X4 X5 k acc) h
      = lnarrow (scores' (key3 i arg4 X4 k h) ((![v2, v3, v4, v5, v6, v7, v8, v9] : Fin 8 → FVec Ideal S512x128 .bf16) h)) (lOf acc h) := by
  unfold tripR_k0_t3 trip_k0_t3
  fin_cases h <;> rfl

theorem trip3_a (k : Fin (k0_t3_loop i).trips) (h : Fin 8) :
    aOf (tripR_k0_t3 (F := Ideal) 𝒱 c bd i arg3 harg3 arg4 harg4 arg5 harg5 arg6 harg6 arg2 v2 v3 v4 v5 v6 v7 v8 v9
        v36_0 v36_1 v36_2 v36_3 v36_4 v36_5 v36_6 v36_7 v36_8 v36_9 v36_10 v36_11 v36_12 v36_13 v36_14 v36_15 v37 v38 X4 X5 k acc) h
      = anarrow (scores' (key3 i arg4 X4 k h) ((![v2, v3, v4, v5, v6, v7, v8, v9] : Fin 8 → FVec Ideal S512x128 .bf16) h)) (val3 i arg5 X5 k h) (aOf acc h) := by
  unfold tripR_k0_t3 trip_k0_t3
  fin_cases h <;> rfl

end Trip

end Cert.KernelIdeal.Attn
-- ==== Proof.Attn.Own.lean ====
/-
  The tile's own keys: what they make of each head's two sums, the masked ones adding nothing, and the block the body
  stores.
-/
module

public import proofs.«01_k».proof.Proof.Attn.Trips

@[expose] public section

set_option maxRecDepth 16384

noncomputable section

namespace Cert.KernelIdeal.Attn

open Idealize.ShloMosaic Idealize.ShloMosaic.TcCoe Idealize.SL.Sem Cert.KernelIdeal Cert.KernelIdeal.Gen

/-- A head's keys, cut out of the tile's own. -/
def kOf (k2 : FVec Ideal S512x1024 .bf16) : Fin 8 → FVec Ideal S512x128 .bf16 :=
  ![extractStridedSlice S512x128 ![0, 0] k2 slices_S512x1024_o0_0_S512x128,
    extractStridedSlice S512x128 ![0, 128] k2 slices_S512x1024_o0_128_S512x128,
    extractStridedSlice S512x128 ![0, 256] k2 slices_S512x1024_o0_256_S512x128,
    extractStridedSlice S512x128 ![0, 384] k2 slices_S512x1024_o0_384_S512x128,
    extractStridedSlice S512x128 ![0, 512] k2 slices_S512x1024_o0_512_S512x128,
    extractStridedSlice S512x128 ![0, 640] k2 slices_S512x1024_o0_640_S512x128,
    extractStridedSlice S512x128 ![0, 768] k2 slices_S512x1024_o0_768_S512x128,
    extractStridedSlice S512x128 ![0, 896] k2 slices_S512x1024_o0_896_S512x128]

/-- The earlier half of a head's values. -/
def vlo (vt : FVec Ideal S512x512 .bf16) : Fin 8 → FVec Ideal S64x256 .bf16 :=
  ![extractStridedSlice S64x256 ![0, 0] vt slices_S512x512_o0_0_S64x256,
    extractStridedSlice S64x256 ![64, 0] vt slices_S512x512_o64_0_S64x256,
    extractStridedSlice S64x256 ![128, 0] vt slices_S512x512_o128_0_S64x256,
    extractStridedSlice S64x256 ![192, 0] vt slices_S512x512_o192_0_S64x256,
    extractStridedSlice S64x256 ![256, 0] vt slices_S512x512_o256_0_S64x256,
    extractStridedSlice S64x256 ![320, 0] vt slices_S512x512_o320_0_S64x256,
    extractStridedSlice S64x256 ![384, 0] vt slices_S512x512_o384_0_S64x256,
    extractStridedSlice S64x256 ![448, 0] vt slices_S512x512_o448_0_S64x256]

/-- The later half. -/
def vhi (vt : FVec Ideal S512x512 .bf16) : Fin 8 → FVec Ideal S64x256 .bf16 :=
  ![extractStridedSlice S64x256 ![0, 256] vt slices_S512x512_o0_256_S64x256,
    extractStridedSlice S64x256 ![64, 256] vt slices_S512x512_o64_256_S64x256,
    extractStridedSlice S64x256 ![128, 256] vt slices_S512x512_o128_256_S64x256,
    extractStridedSlice S64x256 ![192, 256] vt slices_S512x512_o192_256_S64x256,
    extractStridedSlice S64x256 ![256, 256] vt slices_S512x512_o256_256_S64x256,
    extractStridedSlice S64x256 ![320, 256] vt slices_S512x512_o320_256_S64x256,
    extractStridedSlice S64x256 ![384, 256] vt slices_S512x512_o384_256_S64x256,
    extractStridedSlice S64x256 ![448, 256] vt slices_S512x512_o448_256_S64x256]

theorem kOf_apply (k2 h) (κ : Fin 512) (d : Fin 128) : kOf k2 h (ix2 κ d) = k2 (ix2 κ ⟨128 * h.val + d.val, by omega⟩) := by
  fin_cases h
  · show extractStridedSlice S512x128 ![0, 0] k2 slices_S512x1024_o0_0_S512x128 _ = _
    pointwise
  · show extractStridedSlice S512x128 ![0, 128] k2 slices_S512x1024_o0_128_S512x128 _ = _
    pointwise
  · show extractStridedSlice S512x128 ![0, 256] k2 slices_S512x1024_o0_256_S512x128 _ = _
    pointwise
  · show extractStridedSlice S512x128 ![0, 384] k2 slices_S512x1024_o0_384_S512x128 _ = _
    pointwise
  · show extractStridedSlice S512x128 ![0, 512] k2 slices_S512x1024_o0_512_S512x128 _ = _
    pointwise
  · show extractStridedSlice S512x128 ![0, 640] k2 slices_S512x1024_o0_640_S512x128 _ = _
    pointwise
  · show extractStridedSlice S512x128 ![0, 768] k2 slices_S512x1024_o0_768_S512x128 _ = _
    pointwise
  · show extractStridedSlice S512x128 ![0, 896] k2 slices_S512x1024_o0_896_S512x128 _ = _
    pointwise

theorem vlo_apply (vt h) (j : Fin 64) (κ : Fin 256) :
    vlo vt h (ix2 j κ) = vt (ix2 ⟨64 * h.val + j.val, by omega⟩ ⟨κ.val, by omega⟩) := by
  fin_cases h
  · show extractStridedSlice S64x256 ![0, 0] vt slices_S512x512_o0_0_S64x256 _ = _
    pointwise
  · show extractStridedSlice S64x256 ![64, 0] vt slices_S512x512_o64_0_S64x256 _ = _
    pointwise
  · show extractStridedSlice S64x256 ![128, 0] vt slices_S512x512_o128_0_S64x256 _ = _
    pointwise
  · show extractStridedSlice S64x256 ![192, 0] vt slices_S512x512_o192_0_S64x256 _ = _
    pointwise
  · show extractStridedSlice S64x256 ![256, 0] vt slices_S512x512_o256_0_S64x256 _ = _
    pointwise
  · show extractStridedSlice S64x256 ![320, 0] vt slices_S512x512_o320_0_S64x256 _ = _
    pointwise
  · show extractStridedSlice S64x256 ![384, 0] vt slices_S512x512_o384_0_S64x256 _ = _
    pointwise
  · show extractStridedSlice S64x256 ![448, 0] vt slices_S512x512_o448_0_S64x256 _ = _
    pointwise

theorem vhi_apply (vt h) (j : Fin 64) (κ : Fin 256) :
    vhi vt h (ix2 j κ) = vt (ix2 ⟨64 * h.val + j.val, by omega⟩ ⟨256 + κ.val, by omega⟩) := by
  fin_cases h
  · show extractStridedSlice S64x256 ![0, 256] vt slices_S512x512_o0_256_S64x256 _ = _
    pointwise
  · show extractStridedSlice S64x256 ![64, 256] vt slices_S512x512_o64_256_S64x256 _ = _
    pointwise
  · show extractStridedSlice S64x256 ![128, 256] vt slices_S512x512_o128_256_S64x256 _ = _
    pointwise
  · show extractStridedSlice S64x256 ![192, 256] vt slices_S512x512_o192_256_S64x256 _ = _
    pointwise
  · show extractStridedSlice S64x256 ![256, 256] vt slices_S512x512_o256_256_S64x256 _ = _
    pointwise
  · show extractStridedSlice S64x256 ![320, 256] vt slices_S512x512_o320_256_S64x256 _ = _
    pointwise
  · show extractStridedSlice S64x256 ![384, 256] vt slices_S512x512_o384_256_S64x256 _ = _
    pointwise
  · show extractStridedSlice S64x256 ![448, 256] vt slices_S512x512_o448_256_S64x256 _ = _
    pointwise

/-- A head's three quarters of scores. -/
def s00 (k q : FVec Ideal S512x128 .bf16) : FVec Ideal S256x256 .f32 :=
  quarter k q 0 0 slices_S512x128_o0_0_S256x128 slices_S512x128_o0_0_S256x128
def s01 (k q : FVec Ideal S512x128 .bf16) : FVec Ideal S256x256 .f32 :=
  quarter k q 0 256 slices_S512x128_o0_0_S256x128 slices_S512x128_o256_0_S256x128
def s11 (k q : FVec Ideal S512x128 .bf16) : FVec Ideal S256x256 .f32 :=
  quarter k q 256 256 slices_S512x128_o256_0_S256x128 slices_S512x128_o256_0_S256x128

/-- A sum of which the terms past an index vanish. -/
theorem sum_upto (N r : ℕ) (hr : r < N) (f : ℕ → EReal) :
    ∑ κ : Fin N, (if κ.val ≤ r then f κ.val else 0) = ∑ x ∈ Finset.range (r + 1), f x := by
  rw [← Finset.sum_range (fun x => if x ≤ r then f x else 0), ← Finset.sum_filter]
  refine Finset.sum_congr ?_ fun _ _ => rfl
  ext x
  simp only [Finset.mem_filter, Finset.mem_range]
  omega

/-- A row of the tile's later half. -/
theorem later_half (r : Fin 512) (h : ¬ r.val < 256) : ∃ r' : Fin 256, r = ⟨256 + r'.val, Nat.add_lt_add_left r'.isLt 256⟩ :=
  ⟨⟨r.val - 256, by omega⟩, Fin.ext (by show r.val = 256 + (r.val - 256); omega)⟩

theorem lown_apply (k q l) (r : Fin 512) (n : ℕ) (E : ℕ → EReal) (hl : l (ix2 0 r) = ∑ x ∈ Finset.range n, E x)
    (hs : ∀ κ : Fin 512, Ideal.exp2 (∑ d : Fin 128, k (ix2 κ d) * q (ix2 r d)) = E (n + κ.val)) :
    lown (s00 k q) (s01 k q) (s11 k q) l (ix2 0 r) = ∑ x ∈ Finset.range (n + (r.val + 1)), E x := by
  rw [Finset.sum_range_add]
  by_cases h : r.val < 256
  · have e := lown_lo (s00 k q) (s01 k q) (s11 k q) l ⟨r.val, h⟩
    refine e.trans ?_
    refine congrArg₂ (· + ·) hl ?_
    rw [← sum_upto 256 r.val h]
    refine Finset.sum_congr rfl fun κ _ => ?_
    rw [diag_apply, s00, quarter00, hs ⟨κ.val, by omega⟩]
  · obtain ⟨r', rfl⟩ := later_half r h
    rw [lown_hi, hl]
    refine congrArg₂ (· + ·) rfl ?_
    rw [Nat.add_assoc, Finset.sum_range_add, Finset.sum_range (n := 256), ← sum_upto 256 r'.val r'.isLt]
    refine congrArg₂ (· + ·) (Finset.sum_congr rfl fun κ _ => ?_) (Finset.sum_congr rfl fun κ _ => ?_)
    · rw [s01, quarter01, hs ⟨κ.val, by omega⟩]
    · rw [diag_apply, s11, quarter11, hs ⟨256 + κ.val, by omega⟩]

theorem aown_apply (k q v0 v1 a) (j : Fin 64) (r : Fin 512) (n : ℕ) (E V : ℕ → EReal)
    (ha : a (ix2 j r) = ∑ x ∈ Finset.range n, V x * E x)
    (hs : ∀ κ : Fin 512, Ideal.exp2 (∑ d : Fin 128, k (ix2 κ d) * q (ix2 r d)) = E (n + κ.val))
    (h0 : ∀ κ : Fin 256, v0 (ix2 j κ) = V (n + κ.val)) (h1 : ∀ κ : Fin 256, v1 (ix2 j κ) = V (n + (256 + κ.val))) :
    aown (s00 k q) (s01 k q) (s11 k q) v0 v1 a (ix2 j r) = ∑ x ∈ Finset.range (n + (r.val + 1)), V x * E x := by
  rw [Finset.sum_range_add]
  by_cases h : r.val < 256
  · have e := aown_lo (s00 k q) (s01 k q) (s11 k q) v0 v1 a j ⟨r.val, h⟩
    refine e.trans ?_
    refine congrArg₂ (· + ·) ha ?_
    rw [← sum_upto 256 r.val h]
    refine Finset.sum_congr rfl fun κ _ => ?_
    rw [diag_apply, s00, quarter00, hs ⟨κ.val, by omega⟩, h0, mul_ite, mul_zero]
  · obtain ⟨r', rfl⟩ := later_half r h
    rw [aown_hi, ha]
    refine congrArg₂ (· + ·) rfl ?_
    rw [Nat.add_assoc, Finset.sum_range_add, Finset.sum_range (n := 256), ← sum_upto 256 r'.val r'.isLt]
    refine congrArg₂ (· + ·) (Finset.sum_congr rfl fun κ _ => ?_) (Finset.sum_congr rfl fun κ _ => ?_)
    · rw [s01, quarter01, hs ⟨κ.val, by omega⟩, h0]
    · rw [diag_apply, s11, quarter11, hs ⟨256 + κ.val, by omega⟩, h1, mul_ite, mul_zero]

/-- A head's quotient. -/
def head (k q : FVec Ideal S512x128 .bf16) (v0 v1 : FVec Ideal S64x256 .bf16) (l : FVec Ideal S1x512 .f32) (a : FVec Ideal S64x512 .f32) :
    FVec Ideal S64x512 .f32 :=
  divf (aown (s00 k q) (s01 k q) (s11 k q) v0 v1 a) (broadcastTo S64x512 (lown (s00 k q) (s01 k q) (s11 k q) l) broadcasts_S1x512_S64x512)

theorem head_apply (k q v0 v1 l a) (j : Fin 64) (r : Fin 512) : head k q v0 v1 l a (ix2 j r)
    = Ideal.div (aown (s00 k q) (s01 k q) (s11 k q) v0 v1 a (ix2 j r)) (lown (s00 k q) (s01 k q) (s11 k q) l (ix2 0 r)) := by
  pointwise [head]

/-- The eight heads' quotients, side by side and turned. -/
def store (f : Fin 8 → FVec Ideal S64x512 .f32) : FVec Ideal S1x512x512 .bf16 :=
  shapeCast S1x512x512 (truncf .bf16 (transpose S512x512 [1, 0] (concatenate S512x512 0 [⟨S64x512, f 0⟩, ⟨S64x512, f 1⟩, ⟨S64x512, f 2⟩, ⟨S64x512, f 3⟩, ⟨S64x512, f 4⟩, ⟨S64x512, f 5⟩, ⟨S64x512, f 6⟩, ⟨S64x512, f 7⟩]
    concatenates_S64x512_S64x512_S64x512_S64x512_S64x512_S64x512_S64x512_S64x512_S512x512_d0) transposes_S512x512_p1_0_S512x512)
    bitsLt_bf16_f32 : FVec Ideal S512x512 .bf16) shapeCasts_S512x512_S1x512x512

set_option maxHeartbeats 2000000 in
theorem store_apply (f) (r : Fin 512) (h : Fin 8) (j : Fin 64) :
    store f (ix3 0 r ⟨64 * h.val + j.val, by omega⟩) = f h (ix2 j r) := by
  fin_cases h <;> pointwise [store] <;> split_ifs <;>
    first
      | (exfalso; omega)
      | exact congrArg (fun x => f _ (ix2 x r)) (Fin.ext (by simp only []; omega))

/-- The block the body stores, from the carried sums, the tile's queries, its own keys and its own values. -/
def body (T : Carry) (x0 k48 : Vec Ideal S1x512x1024 .bf16) (v51 : Vec Ideal S1x512x512 .bf16) : FVec Ideal S1x512x512 .bf16 :=
  store fun h => head (kOf (k0_pay241 k48) h) (qOf x0 h) (vlo (k0_pay242 v51) h) (vhi (k0_pay242 v51) h) (lOf T h) (aOf T h)

end Cert.KernelIdeal.Attn
-- ==== Proof.Attn.Loops.lean ====
/-
  The loops over the earlier keys: after a trip the carried sums are the sums over all keys read so far.
-/
module

public import proofs.«01_k».proof.Proof.Attn.Own
public import Idealize.ShloMosaic.Lib.WholeRead

@[expose] public section

set_option maxRecDepth 16384

noncomputable section

namespace Cert.KernelIdeal.Attn

open Idealize.ShloMosaic Idealize.ShloMosaic.TcCoe Idealize.SL.Sem Cert.KernelIdeal Cert.KernelIdeal.Gen

/-- A head's weight of a key for a query of the tile, over the blocks. -/
def wt (x0 : Vec Ideal S1x512x1024 .bf16) (x1 : Vec Ideal S1x4096x1024 .bf16) (h : Fin 8) (r : Fin 512) (x : ℕ) : EReal :=
  if hx : x < 4096 then
    Ideal.exp2 (∑ d : Fin 128, x1 (ix3 0 ⟨x, hx⟩ ⟨128 * h.val + d.val, by omega⟩) * x0 (ix3 0 r ⟨128 * h.val + d.val, by omega⟩))
  else 0

/-- A head's value of a key, over the block. -/
def vl (x2 : Vec Ideal S1x512x4096 .bf16) (h : Fin 8) (j : Fin 64) (x : ℕ) : EReal :=
  if hx : x < 4096 then x2 (ix3 0 ⟨64 * h.val + j.val, by omega⟩ ⟨x, hx⟩) else 0

/-- The carried sums are the sums over the first keys. -/
def Holds (x0 : Vec Ideal S1x512x1024 .bf16) (x1 : Vec Ideal S1x4096x1024 .bf16) (x2 : Vec Ideal S1x512x4096 .bf16) (T : Carry) (n : ℕ) : Prop :=
  ∀ (h : Fin 8) (r : Fin 512), lOf T h (ix2 0 r) = ∑ x ∈ Finset.range n, wt x0 x1 h r x
    ∧ ∀ j : Fin 64, aOf T h (ix2 j r) = ∑ x ∈ Finset.range n, vl x2 h j x * wt x0 x1 h r x

theorem wt_eq (x0 x1 h r) (x : ℕ) (hx : x < 4096) : wt x0 x1 h r x
    = Ideal.exp2 (∑ d : Fin 128, x1 (ix3 0 ⟨x, hx⟩ ⟨128 * h.val + d.val, by omega⟩) * x0 (ix3 0 r ⟨128 * h.val + d.val, by omega⟩)) :=
  dif_pos hx

theorem vl_eq (x2 h j) (x : ℕ) (hx : x < 4096) : vl x2 h j x = x2 (ix3 0 ⟨64 * h.val + j.val, by omega⟩ ⟨x, hx⟩) := dif_pos hx

section Loops

variable (i : grid0.Coords)
  (arg3 : Memref sig .tc .vmem S1x512x1024 .bf16) (harg3 : arg3.IsWhole)
  (arg4 : Memref sig .tc .vmem S1x4096x1024 .bf16) (harg4 : arg4.IsWhole)
  (arg5 : Memref sig .tc .vmem S1x512x4096 .bf16) (harg5 : arg5.IsWhole)
  (arg6 : Memref sig .tc .vmem S1x512x512 .bf16) (harg6 : arg6.IsWhole)
  (x0 : Vec Ideal S1x512x1024 .bf16) (x1 : Vec Ideal S1x4096x1024 .bf16) (x2 : Vec Ideal S1x512x4096 .bf16)

theorem key1_apply (k : Fin (k0_t1_loop i).trips) (h : Fin 8) (κ : Fin 1024) (d : Fin 128) (hx : 1024 * k.val + κ.val < 4096) :
    key1 i arg4 (harg4.unread x1) k h (ix3 0 κ d) = x1 (ix3 0 ⟨1024 * k.val + κ.val, hx⟩ ⟨128 * h.val + d.val, by omega⟩) := by
  unfold key1
  rw [harg4.readAt_unread]
  refine congrArg x1 (funext fun a => Fin.ext ?_)
  have e := koff1_eq i k h
  fin_cases a
  · show koff1 i k h 0 + 1 * 0 = 0
    rw [e]; rfl
  · show koff1 i k h 1 + 1 * κ.val = 1024 * k.val + κ.val
    rw [e]; simp
  · show koff1 i k h 2 + 1 * d.val = 128 * h.val + d.val
    rw [e]; simp

theorem val1_apply (k : Fin (k0_t1_loop i).trips) (h : Fin 8) (n : Fin 4) (j : Fin 64) (κ : Fin 256)
    (hx : 1024 * k.val + 256 * n.val + κ.val < 4096) :
    val1 i arg5 (harg5.unread x2) k h n (ix3 0 j κ) = x2 (ix3 0 ⟨64 * h.val + j.val, by omega⟩ ⟨1024 * k.val + 256 * n.val + κ.val, hx⟩) := by
  unfold val1
  rw [harg5.readAt_unread]
  refine congrArg x2 (funext fun a => Fin.ext ?_)
  have e := voff1_eq i k h n
  fin_cases a
  · show voff1 i k h _ 0 + 1 * 0 = 0
    rw [e]; rfl
  · show voff1 i k h _ 1 + 1 * j.val = 64 * h.val + j.val
    rw [e]; simp
  · show voff1 i k h _ 2 + 1 * κ.val = 1024 * k.val + 256 * n.val + κ.val
    rw [e]; simp

theorem key3_apply (k : Fin (k0_t3_loop i).trips) (h : Fin 8) (κ : Fin 512) (d : Fin 128)
    (hx : 512 * (2 * ((i 2).val / 2) + k.val) + κ.val < 4096) :
    key3 i arg4 (harg4.unread x1) k h (ix3 0 κ d)
      = x1 (ix3 0 ⟨512 * (2 * ((i 2).val / 2) + k.val) + κ.val, hx⟩ ⟨128 * h.val + d.val, by omega⟩) := by
  unfold key3
  rw [harg4.readAt_unread]
  refine congrArg x1 (funext fun a => Fin.ext ?_)
  have e := koff3_eq i k h
  fin_cases a
  · show koff3 i k h 0 + 1 * 0 = 0
    rw [e]; rfl
  · show koff3 i k h 1 + 1 * κ.val = 512 * (2 * ((i 2).val / 2) + k.val) + κ.val
    rw [e]; simp
  · show koff3 i k h 2 + 1 * d.val = 128 * h.val + d.val
    rw [e]; simp

theorem val3_apply (k : Fin (k0_t3_loop i).trips) (h : Fin 8) (j : Fin 64) (κ : Fin 512)
    (hx : 512 * (2 * ((i 2).val / 2) + k.val) + κ.val < 4096) :
    val3 i arg5 (harg5.unread x2) k h (ix3 0 j κ)
      = x2 (ix3 0 ⟨64 * h.val + j.val, by omega⟩ ⟨512 * (2 * ((i 2).val / 2) + k.val) + κ.val, hx⟩) := by
  unfold val3
  rw [harg5.readAt_unread]
  refine congrArg x2 (funext fun a => Fin.ext ?_)
  have e := voff3_eq i k h
  fin_cases a
  · show voff3 i k h 0 + 1 * 0 = 0
    rw [e]; rfl
  · show voff3 i k h 1 + 1 * j.val = 64 * h.val + j.val
    rw [e]; simp
  · show voff3 i k h 2 + 1 * κ.val = 512 * (2 * ((i 2).val / 2) + k.val) + κ.val
    rw [e]; simp

/-- A tile's first query is one of the 4096. -/
theorem tile_lt (i : grid0.Coords) : (i 2).val < 8 := (i 2).isLt

variable (c : Dev nD)

/-- The loop over blocks of 1024 keys. -/
theorem loop1 : ∀ n : ℕ, n ≤ (k0_t1_loop i).trips →
    Holds x0 x1 x2 (st_k0_t1 (F := Ideal) Variants.none c none i arg3 harg3 arg4 harg4 arg5 harg5 arg6 harg6 x0 (harg4.unread x1) (harg5.unread x2)
      (k0_pay207, k0_pay208, k0_pay207, k0_pay208, k0_pay207, k0_pay208, k0_pay207, k0_pay208, k0_pay207, k0_pay208, k0_pay207, k0_pay208, k0_pay207, k0_pay208, k0_pay207, k0_pay208) n) (1024 * n)
  | 0, _ => by
    rw [st_k0_t1_zero]
    intro h r
    rw [Nat.mul_zero, Finset.sum_range_zero]
    refine ⟨?_, fun j => ?_⟩
    · fin_cases h <;> exact Ideal.ofBits_zero_f32
    · rw [Finset.sum_range_zero]
      fin_cases h <;> exact Ideal.ofBits_zero_f32
  | n + 1, hn => by
    have hk := tile_lt i
    have ht := trips1 i
    rw [show n + 1 = (⟨n, hn⟩ : Fin (k0_t1_loop i).trips).val + 1 from rfl, st_k0_t1_succ]
    have ih := loop1 n (by omega)
    intro h r
    have hs : ∀ κ : Fin 1024, Ideal.exp2 (scores (key1 i arg4 (harg4.unread x1) ⟨n, hn⟩ h) (qOf x0 h) (ix2 κ r))
        = wt x0 x1 h r (1024 * n + κ.val) := fun κ => by
      rw [wt_eq _ _ _ _ _ (by omega), scores_apply]
      refine congrArg Ideal.exp2 (Finset.sum_congr rfl fun d _ => ?_)
      rw [key1_apply (hx := by show 1024 * n + κ.val < 4096; omega), qOf_apply]
    refine ⟨?_, fun j => ?_⟩
    · rw [trip1_l]
      exact lwide_apply _ _ _ _ _ (ih h r).1 hs
    · rw [trip1_a]
      have hv : ∀ (p : Fin 4) (κ : Fin 256), val1 i arg5 (harg5.unread x2) ⟨n, hn⟩ h p (ix3 0 j κ)
          = vl x2 h j (1024 * n + 256 * p.val + κ.val) := fun p κ => by
        rw [vl_eq _ _ _ _ (by omega), val1_apply (hx := by show 1024 * n + 256 * p.val + κ.val < 4096; omega)]
      exact awide_apply _ _ _ _ _ _ _ _ _ _ (vl x2 h j) ((ih h r).2 j) hs (hv 0) (hv 1) (hv 2) (hv 3)

variable (arg2 v34 v37 v38 v42 : BitVec 32) (X4 : BufTy.Contents (Elt Ideal) arg4.view.ty)
  (X5 : BufTy.Contents (Elt Ideal) arg5.view.ty) (init : Carry)
  (v2 v3 v4 v5 v6 v7 v8 v9 : FVec Ideal S512x128 .bf16)
  (v36_0 v36_2 v36_4 v36_6 v36_8 v36_10 v36_12 v36_14 : FVec Ideal S1x512 .f32)
  (v36_1 v36_3 v36_5 v36_7 v36_9 v36_11 v36_13 v36_15 : FVec Ideal S64x512 .f32)

/-- The loop that picks up what the first leaves runs no trip. -/
theorem loop2 : st_k0_t2 (F := Ideal) Variants.none c none i arg3 harg3 arg4 harg4 arg5 harg5 arg6 harg6 x0 v34 X4 X5 init (k0_t2_loop i).trips = init := by
  rw [trips2]; exact st_k0_t2_zero ..

/-- So does the one after the third. -/
theorem loop4 : st_k0_t4 (F := Ideal) Variants.none c none i arg3 harg3 arg4 harg4 arg5 harg5 arg6 harg6 arg2 v2 v3 v4 v5 v6 v7 v8 v9
    v36_0 v36_1 v36_2 v36_3 v36_4 v36_5 v36_6 v36_7 v36_8 v36_9 v36_10 v36_11 v36_12 v36_13 v36_14 v36_15 v37 v38 v42 X4 X5 init (k0_t4_loop i).trips = init := by
  rw [trips4]; exact st_k0_t4_zero ..

/-- The loop over blocks of 512 keys. -/
theorem loop3 (h0 : Holds x0 x1 x2 init (1024 * ((i 2).val / 2))) : ∀ n : ℕ, n ≤ (k0_t3_loop i).trips →
    Holds x0 x1 x2 (st_k0_t3 (F := Ideal) Variants.none c none i arg3 harg3 arg4 harg4 arg5 harg5 arg6 harg6 arg2 (k0_pay199 x0) (k0_pay200 x0) (k0_pay201 x0) (k0_pay202 x0) (k0_pay203 x0) (k0_pay204 x0) (k0_pay205 x0) (k0_pay206 x0)
      v36_0 v36_1 v36_2 v36_3 v36_4 v36_5 v36_6 v36_7 v36_8 v36_9 v36_10 v36_11 v36_12 v36_13 v36_14 v36_15 v37 v38 (harg4.unread x1) (harg5.unread x2) init n) (512 * (2 * ((i 2).val / 2) + n))
  | 0, _ => by
    rw [st_k0_t3_zero, show 512 * (2 * ((i 2).val / 2) + 0) = 1024 * ((i 2).val / 2) by omega]
    exact h0
  | n + 1, hn => by
    have hk := tile_lt i
    have ht := trips3 i
    rw [show 512 * (2 * ((i 2).val / 2) + (n + 1)) = 512 * (2 * ((i 2).val / 2) + n) + 512 by omega,
      show n + 1 = (⟨n, hn⟩ : Fin (k0_t3_loop i).trips).val + 1 from rfl, st_k0_t3_succ]
    have ih := loop3 h0 n (by omega)
    intro h r
    have hs : ∀ κ : Fin 512, Ideal.exp2 (scores' (key3 i arg4 (harg4.unread x1) ⟨n, hn⟩ h) (qOf x0 h) (ix2 κ r))
        = wt x0 x1 h r (512 * (2 * ((i 2).val / 2) + n) + κ.val) := fun κ => by
      rw [wt_eq _ _ _ _ _ (by omega), scores'_apply]
      refine congrArg Ideal.exp2 (Finset.sum_congr rfl fun d _ => ?_)
      rw [key3_apply (hx := by show 512 * (2 * ((i 2).val / 2) + n) + κ.val < 4096; omega), qOf_apply]
    refine ⟨?_, fun j => ?_⟩
    · rw [trip3_l]
      exact lnarrow_apply _ _ _ _ _ (ih h r).1 hs
    · rw [trip3_a]
      have hv : ∀ κ : Fin 512, val3 i arg5 (harg5.unread x2) ⟨n, hn⟩ h (ix3 0 j κ)
          = vl x2 h j (512 * (2 * ((i 2).val / 2) + n) + κ.val) := fun κ => by
        rw [vl_eq _ _ _ _ (by omega), val3_apply (hx := by show 512 * (2 * ((i 2).val / 2) + n) + κ.val < 4096; omega)]
      exact anarrow_apply _ _ _ _ _ _ _ (vl x2 h j) ((ih h r).2 j) hs hv

/-- The sums the body carries to the tile's own keys. -/
theorem carried_holds (n1 n3 : ℕ) (e1 : n1 = (k0_t1_loop i).trips) (e3 : n3 = (k0_t3_loop i).trips) : Holds x0 x1 x2
    (st_k0_t3 (F := Ideal) Variants.none c none i arg3 harg3 arg4 harg4 arg5 harg5 arg6 harg6 arg2 (k0_pay199 x0) (k0_pay200 x0) (k0_pay201 x0) (k0_pay202 x0) (k0_pay203 x0) (k0_pay204 x0) (k0_pay205 x0) (k0_pay206 x0)
      v36_0 v36_1 v36_2 v36_3 v36_4 v36_5 v36_6 v36_7 v36_8 v36_9 v36_10 v36_11 v36_12 v36_13 v36_14 v36_15 v37 v38 (harg4.unread x1) (harg5.unread x2)
      (st_k0_t1 (F := Ideal) Variants.none c none i arg3 harg3 arg4 harg4 arg5 harg5 arg6 harg6 x0 (harg4.unread x1) (harg5.unread x2)
        (k0_pay207, k0_pay208, k0_pay207, k0_pay208, k0_pay207, k0_pay208, k0_pay207, k0_pay208, k0_pay207, k0_pay208, k0_pay207, k0_pay208, k0_pay207, k0_pay208, k0_pay207, k0_pay208) n1) n3) (512 * (i 2).val) := by
  subst e1 e3
  have h1 := loop1 i arg3 harg3 arg4 harg4 arg5 harg5 arg6 harg6 x0 x1 x2 c (k0_t1_loop i).trips le_rfl
  rw [trips1 i] at h1
  have h3 := loop3 i arg3 harg3 arg4 harg4 arg5 harg5 arg6 harg6 x0 x1 x2 c arg2 v37 v38 _ v36_0 v36_2 v36_4 v36_6 v36_8 v36_10 v36_12 v36_14 v36_1 v36_3 v36_5 v36_7 v36_9 v36_11 v36_13 v36_15  h1 (k0_t3_loop i).trips le_rfl
  rw [show 512 * (2 * ((i 2).val / 2) + (k0_t3_loop i).trips) = 512 * (i 2).val by rw [trips3]; omega] at h3
  rw [← trips1 i] at h3
  exact h3

end Loops

end Cert.KernelIdeal.Attn
-- ==== Proof.Attn.Value.lean ====
/-
  The block the body stores, read at an index: the quotient of the two sums over the keys up to the query's own.
-/
module

public import proofs.«01_k».proof.Proof.Attn.Loops

@[expose] public section

set_option maxRecDepth 16384

noncomputable section

namespace Cert.KernelIdeal.Attn

open Idealize.ShloMosaic Idealize.ShloMosaic.TcCoe Idealize.SL.Sem Cert.KernelIdeal Cert.KernelIdeal.Gen

/-- The tile's own keys … -/
abbrev own (i : grid0.Coords) (x1 : Vec Ideal S1x4096x1024 .bf16) : Vec Ideal S1x512x1024 .bf16 :=
  View.ld (Val := Elt Ideal) x1 (Rect.unit (k0_off65 i) S1x512x1024.size (k0_off65_inb i))

/-- … and values. -/
abbrev ownv (i : grid0.Coords) (x2 : Vec Ideal S1x512x4096 .bf16) : Vec Ideal S1x512x512 .bf16 :=
  View.ld (Val := Elt Ideal) x2 (Rect.unit (k0_off66 i) S1x512x512.size (k0_off66_inb i))

section Body

variable (i : grid0.Coords) (x0 : Vec Ideal S1x512x1024 .bf16) (x1 : Vec Ideal S1x4096x1024 .bf16) (x2 : Vec Ideal S1x512x4096 .bf16)

theorem own_apply (r : Fin 512) (l : Fin 1024) (hx : 512 * (i 2).val + r.val < 4096) :
    k0_pay241 (own i x1) (ix2 r l) = x1 (ix3 0 ⟨512 * (i 2).val + r.val, hx⟩ l) := by
  pointwise [k0_pay241]
  refine congrArg x1 (funext fun a => Fin.ext ?_)
  have e := off65_eq i
  fin_cases a
  · show k0_off65 i 0 + 1 * 0 = 0
    rw [e]; rfl
  · show k0_off65 i 1 + 1 * r.val = 512 * (i 2).val + r.val
    rw [e]; simp
  · show k0_off65 i 2 + 1 * l.val = l.val
    rw [e]; simp

theorem ownv_apply (l r : Fin 512) (hx : 512 * (i 2).val + r.val < 4096) :
    k0_pay242 (ownv i x2) (ix2 l r) = x2 (ix3 0 l ⟨512 * (i 2).val + r.val, hx⟩) := by
  pointwise [k0_pay242]
  refine congrArg x2 (funext fun a => Fin.ext ?_)
  have e := off66_eq i
  fin_cases a
  · show k0_off66 i 0 + 1 * 0 = 0
    rw [e]; rfl
  · show k0_off66 i 1 + 1 * l.val = l.val
    rw [e]; simp
  · show k0_off66 i 2 + 1 * r.val = 512 * (i 2).val + r.val
    rw [e]; simp

theorem body_apply (T : Carry) (hT : Holds x0 x1 x2 T (512 * (i 2).val)) (r : Fin 512) (h : Fin 8) (j : Fin 64) :
    body T x0 (own i x1) (ownv i x2) (ix3 0 r ⟨64 * h.val + j.val, by omega⟩)
      = Ideal.div (∑ x ∈ Finset.range (512 * (i 2).val + (r.val + 1)), vl x2 h j x * wt x0 x1 h r x)
          (∑ x ∈ Finset.range (512 * (i 2).val + (r.val + 1)), wt x0 x1 h r x) := by
  have hk := tile_lt i
  have hs : ∀ κ : Fin 512, Ideal.exp2 (∑ d : Fin 128, kOf (k0_pay241 (own i x1)) h (ix2 κ d) * qOf x0 h (ix2 r d))
      = wt x0 x1 h r (512 * (i 2).val + κ.val) := fun κ => by
    rw [wt_eq _ _ _ _ _ (by omega)]
    refine congrArg Ideal.exp2 (Finset.sum_congr rfl fun d _ => ?_)
    rw [kOf_apply, own_apply (hx := by omega), qOf_apply]
  unfold body
  rw [store_apply, head_apply, lown_apply _ _ _ _ _ _ (hT h r).1 hs,
    aown_apply _ _ _ _ _ j r _ _ (vl x2 h j) ((hT h r).2 j) hs (fun κ => ?_) fun κ => ?_]
  · rw [vlo_apply, ownv_apply (hx := by show 512 * (i 2).val + κ.val < 4096; omega), vl_eq _ _ _ _ (by omega)]
  · rw [vhi_apply, ownv_apply (hx := by show 512 * (i 2).val + (256 + κ.val) < 4096; omega), vl_eq _ _ _ _ (by omega)]

end Body

set_option maxHeartbeats 1000000 in
/-- What the body leaves in the output's block, at an index. -/
theorem out_apply (c : Dev nD) (i : grid0.Coords) (arg3 : Memref sig .tc .vmem S1x512x1024 .bf16) (harg3 : arg3.IsWhole)
    (arg4 : Memref sig .tc .vmem S1x4096x1024 .bf16) (harg4 : arg4.IsWhole)
    (arg5 : Memref sig .tc .vmem S1x512x4096 .bf16) (harg5 : arg5.IsWhole)
    (arg6 : Memref sig .tc .vmem S1x512x512 .bf16) (harg6 : arg6.IsWhole)
    (x0 : Vec Ideal S1x512x1024 .bf16) (x1 : Vec Ideal S1x4096x1024 .bf16) (x2 : Vec Ideal S1x512x4096 .bf16)
    (r : Fin 512) (h : Fin 8) (j : Fin 64) :
    out0_A_3 c i arg3 harg3 arg4 harg4 arg5 harg5 arg6 harg6 x0 x1 x2 (ix3 0 r ⟨64 * h.val + j.val, by omega⟩)
      = Ideal.div (∑ x ∈ Finset.range (512 * (i 2).val + (r.val + 1)), vl x2 h j x * wt x0 x1 h r x)
          (∑ x ∈ Finset.range (512 * (i 2).val + (r.val + 1)), wt x0 x1 h r x) := by
  frame_out
  refine Eq.trans (b := body (st_k0_t4 Variants.none c none i arg3 harg3 arg4 harg4 arg5 harg5 arg6 harg6
    _ _ _ _ _ _ _ _ _ _ _ _ _ _ _ _ _ _ _ _ _ _ _ _ _ _ _ _ _ _ _ (k0_t4_loop i).trips)
    x0 (own i x1) (ownv i x2) _) rfl ?_
  refine body_apply _ _ _ _ _ ?_ r h j
  rw [loop4]
  simp only [Prod.mk.eta]
  rw [loop2]
  refine carried_holds i _ _ _ _ _ _ _ _ x0 x1 x2 c _ _ _ _ _ _ _ _ _ _ _ _ _ _ _ _ _ _ _ _ _ ?_ ?_
  · rfl
  · rfl

end Cert.KernelIdeal.Attn
-- ==== Proof.Attn.Softmax.lean ====
/-
  The softmax over the keys up to a row, on the extended reals: shifting every score by a real number, and dividing each
  weight before the values are averaged or the average afterwards, give the same number.
-/
module

public import Idealize.ShloMosaic.PureOps
public import proofs.«01_k».proof.Proof.Attn.Own

@[expose] public section

set_option maxRecDepth 16384

noncomputable section

open Idealize.ShloMosaic

namespace Cert.Attn

/-- A real factor that isn't negative goes into a sum. -/
theorem sum_mul_real (s : Finset ℕ) (f : ℕ → EReal) (r : ℝ) (hr : 0 ≤ r) :
    (∑ x ∈ s, f x) * (r : EReal) = ∑ x ∈ s, f x * (r : EReal) := by
  induction s using Finset.cons_induction with
  | empty => simp
  | cons a s ha ih =>
    rw [Finset.sum_cons, Finset.sum_cons, ← ih]
    exact EReal.right_distrib_of_nonneg_of_ne_top (by exact_mod_cast hr) (EReal.coe_ne_top r) _ _

/-- A sum of reals, as an extended real. -/
theorem coe_sum {ι : Type} (s : Finset ι) (f : ι → ℝ) : ∑ x ∈ s, ((f x : ℝ) : EReal) = ((∑ x ∈ s, f x : ℝ) : EReal) := by
  induction s using Finset.cons_induction with
  | empty => simp
  | cons a s ha ih => rw [Finset.sum_cons, Finset.sum_cons, ih, EReal.coe_add]

/-- The greatest of a row's scores is real when no score is `⊤` and one is real. -/
theorem max_real {ι : Type} (op : EReal → EReal → EReal) [Std.Commutative op] [Std.Associative op] (hop : op = max)
    (z : EReal) (hz : z = ⊥) (s : Finset ι) (f : ι → EReal) (hf : ∀ x, f x ≠ ⊤) (a : ι) (ha : a ∈ s) (r : ℝ)
    (hr : f a = r) : ∃ μ : ℝ, s.fold op z f = μ := by
  subst hop hz
  have hlt : s.fold max ⊥ f < ⊤ := (Finset.fold_max_lt _).2 ⟨bot_lt_top, fun x _ => lt_top_iff_ne_top.2 (hf x)⟩
  have hle : (r : EReal) ≤ s.fold max ⊥ f := (Finset.le_fold_max _).2 (Or.inr ⟨a, ha, hr.ge⟩)
  refine ⟨(s.fold max ⊥ f).toReal, (EReal.coe_toReal hlt.ne ?_).symm⟩
  exact fun h => EReal.coe_ne_bot r (le_bot_iff.1 (h ▸ hle))

/-- The reference's softmax against the kernel's. -/
theorem softmax_eq (N n : ℕ) (hn : n < N) (s : ℕ → ℝ) (v w : ℕ → EReal) (S : Fin N → EReal) (μ : ℝ)
    (hin : ∀ x : Fin N, x.val ≤ n → S x = s x.val) (hout : ∀ x : Fin N, n < x.val → S x = ⊥)
    (hw : ∀ x, x ≤ n → w x = (Real.exp (s x) : ℝ)) :
    ∑ x : Fin N, v x.val * Ideal.div (Ideal.exp (S x - (μ : EReal))) (∑ y : Fin N, Ideal.exp (S y - (μ : EReal)))
      = Ideal.div (∑ x ∈ Finset.range (n + 1), v x * w x) (∑ x ∈ Finset.range (n + 1), w x) := by
  have hE : ∀ x : Fin N, Ideal.exp (S x - (μ : EReal)) = if x.val ≤ n then ((Real.exp (s x.val - μ) : ℝ) : EReal) else 0 := by
    intro x
    by_cases h : x.val ≤ n
    · rw [hin x h, if_pos h, ← EReal.coe_sub, Ideal.exp_coe]
    · rw [hout x (not_le.1 h), if_neg h, EReal.bot_sub, Ideal.exp_bot]
  set L : ℝ := ∑ x ∈ Finset.range (n + 1), Real.exp (s x) with hL
  have hLpos : 0 < L := Finset.sum_pos (fun x _ => Real.exp_pos _) ⟨0, by simp⟩
  have hD : ∑ y : Fin N, Ideal.exp (S y - (μ : EReal)) = ((L * Real.exp (-μ) : ℝ) : EReal) := by
    rw [Finset.sum_congr rfl fun x _ => hE x,
      Cert.KernelIdeal.Attn.sum_upto N n hn (fun x => ((Real.exp (s x - μ) : ℝ) : EReal)), coe_sum, hL, Finset.sum_mul]
    exact congrArg _ (Finset.sum_congr rfl fun x _ => by rw [← Real.exp_add, sub_eq_add_neg])
  have hW : ∑ x ∈ Finset.range (n + 1), w x = (L : EReal) := by
    rw [hL, ← coe_sum]
    exact Finset.sum_congr rfl fun x hx => hw x (by simpa [Nat.lt_succ_iff] using hx)
  have hDne : L * Real.exp (-μ) ≠ 0 := (mul_pos hLpos (Real.exp_pos _)).ne'
  rw [hD, hW, Ideal.div_coe hLpos.ne', sum_mul_real _ _ _ (one_div_pos.2 hLpos).le, ← Cert.KernelIdeal.Attn.sum_upto N n hn]
  refine Finset.sum_congr rfl fun x _ => ?_
  rw [hE, Ideal.div_coe hDne]
  by_cases h : x.val ≤ n
  · rw [if_pos h, if_pos h, hw _ h, mul_assoc, ← EReal.coe_mul, ← EReal.coe_mul]
    refine congrArg (v x.val * ·) (congrArg _ ?_)
    rw [sub_eq_add_neg, Real.exp_add]
    field_simp
  · rw [if_neg h, if_neg h, zero_mul, mul_zero]

end Cert.Attn
-- ==== Proof.Attn.Reference.lean ====
/-
  The attention reference at an index: the values averaged with the softmax of the masked scores.
-/
module

public import proofs.«01_k».proof.Proof.Gen.ReferenceIdeal.Read
public import proofs.«01_k».proof.Proof.Attn.Softmax

@[expose] public section

set_option maxRecDepth 16384

noncomputable section

open Idealize.ShloMosaic Idealize.ShloMosaic.TcCoe Idealize.SL.Sem

namespace Cert.ReferenceIdeal.Attn

open Cert.ReferenceIdeal Cert.ReferenceIdeal.Gen Cert.ReferenceIdeal.Read

/-- An array of queries or keys. -/
abbrev Q : Type := S4x4096x16x96.Idx → EReal

/-- An array of values. -/
abbrev Vs : Type := S4x4096x16x64.Idx → EReal

theorem ofBits_96 : Ideal.ofBits .f32 1119879168#32 = ((96 : ℝ) : EReal) := by
  simp [Ideal.ofBits, Ideal.ieee, -EReal.coe_mul]; norm_num

theorem ofBits_bot : Ideal.ofBits .f32 4286578688#32 = (⊥ : EReal) := by
  simp [Ideal.ofBits, Ideal.ieee]

/-- Every number of an array is a real one. -/
def Real4 (q : Q) : Prop := ∀ i, ∃ r : ℝ, q i = (r : EReal)

/-- The product of a query with a key, of real numbers. -/
def dotr (q k : Q) (b : Fin 4) (h : Fin 16) (n : Fin 4096) (x : ℕ) : ℝ :=
  if hx : x < 4096 then ∑ d : Fin 96, (q (ix4 b n h d)).toReal * (k (ix4 b ⟨x, hx⟩ h d)).toReal else 0

theorem dotr_eq (q k : Q) (hq : Real4 q) (hk : Real4 k) (b h n) (x : Fin 4096) :
    ∑ d : Fin 96, q (ix4 b n h d) * k (ix4 b x h d) = ((dotr q k b h n x.val : ℝ) : EReal) := by
  rw [dotr, dif_pos x.isLt, ← Cert.Attn.coe_sum]
  refine Finset.sum_congr rfl fun d _ => ?_
  obtain ⟨r, hr⟩ := hq (ix4 b n h d)
  obtain ⟨s, hs⟩ := hk (ix4 b x h d)
  rw [hr, hs, EReal.coe_mul, EReal.toReal_coe, EReal.toReal_coe]

theorem score_raw (q k : Q) (b : Fin 4) (h : Fin 16) (n x : Fin 4096) : val_main_v12 (F := Ideal) q k (ix4 b h n x)
    = Scalar.select (IntOp.cmpi .sle (BitVec.ofNat 32 x.val) (BitVec.ofNat 32 n.val))
        ((∑ d : Fin 96, q (ix4 b n h d) * k (ix4 b x h d)) * Ideal.div 1 (Ideal.sqrt (Ideal.ofBits .f32 1119879168#32)))
        (Ideal.ofBits .f32 4286578688#32) := by
  pointwise [val_main_v12, val_main_v11, val_main_v10, val_main_v9, val_main_v8, val_main_v7, val_main_v6, val_main_v5,
    val_main_v4, val_main_v3, val_main_v2, val_main_v1, val_main_v0, val_main_cst, val_main_cst_0, val_main_cst_1,
    val_main_call0_v0, val_main_call0_v1, val_main_call0_v2]
  rfl

theorem score (q k : Q) (hq : Real4 q) (hk : Real4 k) (b : Fin 4) (h : Fin 16) (n x : Fin 4096) :
    val_main_v12 (F := Ideal) q k (ix4 b h n x)
      = if x.val ≤ n.val then ((dotr q k b h n x.val * (1 / Real.sqrt 96) : ℝ) : EReal) else ⊥ := by
  rw [score_raw, WordCmp.cmpi_sle_of_lt (by simp; omega) (by simp; omega), dotr_eq q k hq hk, ofBits_96, ofBits_bot,
    Ideal.sqrt_coe, if_neg (by norm_num), Ideal.div_coe (Real.sqrt_pos.mpr (by norm_num)).ne', one_mul, ← EReal.coe_mul]
  have ha : (BitVec.ofNat 32 x.val).toNat = x.val := by simp; omega
  have hb : (BitVec.ofNat 32 n.val).toNat = n.val := by simp; omega
  rw [ha, hb]
  by_cases hx : x.val ≤ n.val
  · simp [hx, Scalar.select]
  · simp [hx, Scalar.select]

/-- The index of a row with a key's number inserted. -/
theorem lift_row (hR : S4x16x4096x4096.Reduces [3] S4x16x4096) (b : Fin 4) (h : Fin 16) (n x : Fin 4096) :
    hR.lift (ix3 b h n) x = ix4 b h n x :=
  funext fun a => Fin.ext (by match a with | ⟨0, _⟩ => rfl | ⟨1, _⟩ => rfl | ⟨2, _⟩ => rfl | ⟨3, _⟩ => rfl)

theorem reduces_row : S4x16x4096x4096.Reduces [3] S4x16x4096 := by decide

/-- The greatest score of a row is real when no score of it is `⊤` and one is real. -/
theorem max_row (y : S4x16x4096x4096.Idx → EReal) (z : S_.Idx → EReal) (hz : ∀ i, z i = ⊥) (b : Fin 4) (h : Fin 16)
    (n : Fin 4096) (hy : ∀ x : Fin 4096, y (ix4 b h n x) ≠ ⊤) (r : ℝ) (hr : y (ix4 b h n n) = r) :
    ∃ μ : ℝ, Host.reduce (FloatOps.maximumf (F := Ideal) (φ := .f32)) y z reducesTo_S4x16x4096x4096_S4x16x4096_d3 h_S_
      (ix3 b h n) = μ := by
  rw [Host.reduce_eq_fold_single (FloatOps.maximumf (F := Ideal) (φ := .f32)) y z
    reducesTo_S4x16x4096x4096_S4x16x4096_d3 reduces_row h_S_ (ix3 b h n)]
  exact Cert.Attn.max_real _ (funext fun _ => funext fun _ => rfl) _ (hz _) _ _
    (fun x => (congrArg y (lift_row reduces_row b h n x)).trans_ne (hy x)) n (Finset.mem_univ _) r
    ((congrArg y (lift_row reduces_row b h n n)).trans hr)

theorem max_score (q k : Q) (hq : Real4 q) (hk : Real4 k) (b : Fin 4) (h : Fin 16) (n : Fin 4096) :
    ∃ μ : ℝ, val_main_v15 (F := Ideal) q k (ix3 b h n) = (μ : EReal) := by
  rw [val_main_v15_apply, val_main_v14_apply, val_main_cst_3_apply, Ideal.maximumf_def, Ideal.ofBits_def, ofBits_bot,
    max_eq_right bot_le]
  unfold val_main_v13
  refine max_row _ _ (fun i => (val_main_cst_2_apply i).trans ofBits_bot) b h n (fun x => ?_) _
    ((score q k hq hk b h n n).trans (if_pos le_rfl))
  refine (score q k hq hk b h n x).trans_ne ?_
  split
  · exact EReal.coe_ne_top _
  · exact bot_ne_top

theorem prob_raw (q k : Q) (b : Fin 4) (h : Fin 16) (n x : Fin 4096) : val_main_v23 (F := Ideal) q k (ix4 b h n x)
    = Ideal.div (Ideal.exp (val_main_v12 (F := Ideal) q k (ix4 b h n x) - val_main_v15 (F := Ideal) q k (ix3 b h n)))
        (∑ y : Fin 4096, Ideal.exp (val_main_v12 (F := Ideal) q k (ix4 b h n y) - val_main_v15 (F := Ideal) q k (ix3 b h n))) := by
  pointwise [val_main_v23, val_main_v22, val_main_v21, val_main_v20, val_main_v19, val_main_v18, val_main_v17, val_main_v16,
    val_main_cst_4]

theorem result_raw (q k : Q) (v : Vs) (b : Fin 4) (n : Fin 4096) (h : Fin 16) (j : Fin 64) :
    val_main_v27 (F := Ideal) q k v (ix3 b n ⟨64 * h.val + j.val, by omega⟩)
      = ∑ x : Fin 4096, v (ix4 b x h j) * val_main_v23 (F := Ideal) q k (ix4 b h n x) := by
  pointwise [val_main_v24, val_main_v25, val_main_v26, val_main_v27]

/-- One number of the reference, in the kernel's form, for any weights that are the exponentials of the scores. -/
theorem result (q k : Q) (v : Vs) (hq : Real4 q) (hk : Real4 k) (b : Fin 4) (n : Fin 4096) (h : Fin 16) (j : Fin 64)
    (V w : ℕ → EReal) (hV : ∀ x : Fin 4096, V x.val = v (ix4 b x h j))
    (hw : ∀ x, x ≤ n.val → w x = (Real.exp (dotr q k b h n x * (1 / Real.sqrt 96)) : ℝ)) :
    val_main_v27 (F := Ideal) q k v (ix3 b n ⟨64 * h.val + j.val, by omega⟩)
      = Ideal.div (∑ x ∈ Finset.range (n.val + 1), V x * w x) (∑ x ∈ Finset.range (n.val + 1), w x) := by
  rw [result_raw]
  obtain ⟨μ, hμ⟩ := max_score q k hq hk b h n
  refine Eq.trans (Finset.sum_congr rfl fun x _ => ?_)
    (Cert.Attn.softmax_eq 4096 n.val n.isLt (fun x => dotr q k b h n x * (1 / Real.sqrt 96)) V w
      (fun x => val_main_v12 (F := Ideal) q k (ix4 b h n x)) μ
      (fun x hx => (score q k hq hk b h n x).trans (if_pos hx))
      (fun x hx => (score q k hq hk b h n x).trans (if_neg (not_le.2 hx))) hw)
  rw [prob_raw, hμ, hV]

end Cert.ReferenceIdeal.Attn
-- ==== Proof.Attn.Entry.lean ====
/-
  The arrays the attention kernel's blocks come from: queries scaled and padded to 128 lanes a head, keys padded the same
  way, values with a head's lanes as rows; and the weight the kernel gives a key, as the exponential of its score.
-/
module

public import proofs.«01_k».proof.Proof.Attn.Value
public import proofs.«01_k».proof.Proof.Attn.Reference

@[expose] public section

set_option maxRecDepth 16384

noncomputable section

open Idealize.ShloMosaic Idealize.ShloMosaic.TcCoe Idealize.SL.Sem

namespace Cert.KernelIdeal.Attn

open Cert.KernelIdeal Cert.KernelIdeal.Gen Cert.ReferenceIdeal.Attn

variable (m : (ℓ : Loc nD τ sig) → Buf (Elt Ideal) ℓ) (c : Dev nD)

/-- The queries, keys and values a device is given. -/
abbrev argq : Q := m ((c : Thread nD τ).loc main_arg0)
abbrev argk : Q := m ((c : Thread nD τ).loc main_arg1)
abbrev argv : Vs := m ((c : Thread nD τ).loc main_arg2)

/-- The queries' scale. -/
def scl : EReal :=
  Ideal.div 1 (Ideal.sqrt (Ideal.ofBits .f32 1119879168#32) * Ideal.log (Ideal.ofBits .f32 1073741824#32))

theorem ofBits_2 : Ideal.ofBits .f32 1073741824#32 = ((2 : ℝ) : EReal) := by
  simp [Ideal.ofBits, Ideal.ieee, -EReal.coe_mul]; norm_num

theorem log_two_pos : 0 < Real.log 2 := Real.log_pos (by norm_num)

theorem scl_eq : scl = ((1 / (Real.sqrt 96 * Real.log 2) : ℝ) : EReal) := by
  rw [scl, ofBits_96, ofBits_2, Ideal.sqrt_coe, if_neg (by norm_num), Ideal.log_coe, if_neg (by norm_num), ← EReal.coe_mul,
    Ideal.div_coe (mul_pos (Real.sqrt_pos.mpr (by norm_num)) log_two_pos).ne', one_mul]

/-- A head's 96 lanes, then 32 lanes of zeros. -/
def padded (f : Fin 96 → EReal) (d : Fin 128) : EReal := if hd : d.val < 96 then f ⟨d.val, hd⟩ else 0

theorem lane (h : Fin 16) (d : Fin 128) : (128 * h.val + d.val) / 128 = h.val ∧ (128 * h.val + d.val) % 128 = d.val := by
  omega

/-- What the padding is filled with. -/
theorem pad_zero : FloatOps.sitofp (F := Ideal) .f32 (0#32 : BitVec 32) = (0 : EReal) := by
  show (((0#32 : BitVec 32).toInt : ℝ) : EReal) = 0
  simp

set_option maxHeartbeats 2000000 in
theorem entry_v8 (b : Fin 4) (n : Fin 4096) (h : Fin 16) (d : Fin 128) :
    V m c main_v8 (ix3 b n (⟨128 * h.val + d.val, by omega⟩ : Fin 2048))
      = padded (fun d => argq m c (ix4 b n h d) * scl) d := by
  generalize hR : padded (fun d => argq m c (ix4 b n h d) * scl) d = R
  simp only [V, hostOps0, hostOps0_1, hostOps0_2, hostOps0_3, hostOps0_4, List.flatten_cons, List.flatten_nil, List.append_nil,
    List.cons_append, List.nil_append, StableHlo.TRef.binary, StableHlo.TRef.nullary, StableHlo.TRef.unary,
    StableHlo.TRef.toBuf, StableHlo.TRef.ofBuf, cast_eq]
  entry_read
  pointwise
  obtain ⟨h1, h2⟩ := lane h d
  rw [← hR, padded]
  simp only [h1, h2, h.isLt, true_and]
  split
  · rfl
  · exact pad_zero

set_option maxHeartbeats 2000000 in
theorem entry_v11 (b : Fin 4) (n : Fin 4096) (h : Fin 16) (d : Fin 128) :
    V m c main_v11 (ix3 b n (⟨128 * h.val + d.val, by omega⟩ : Fin 2048)) = padded (fun d => argk m c (ix4 b n h d)) d := by
  generalize hR : padded (fun d => argk m c (ix4 b n h d)) d = R
  simp only [V, hostOps0, hostOps0_1, hostOps0_2, hostOps0_3, hostOps0_4, List.flatten_cons, List.flatten_nil, List.append_nil,
    List.cons_append, List.nil_append, StableHlo.TRef.binary, StableHlo.TRef.nullary, StableHlo.TRef.unary,
    StableHlo.TRef.toBuf, StableHlo.TRef.ofBuf, cast_eq]
  entry_read
  pointwise
  obtain ⟨h1, h2⟩ := lane h d
  rw [← hR, padded]
  simp only [h1, h2, h.isLt, true_and]
  split
  · rfl
  · exact pad_zero

theorem entry_v14 (b : Fin 4) (n : Fin 4096) (h : Fin 16) (j : Fin 64) :
    V m c main_v14 (ix3 b (⟨64 * h.val + j.val, by omega⟩ : Fin 1024) n) = argv m c (ix4 b n h j) := by
  simp only [V, hostOps0, hostOps0_1, hostOps0_2, hostOps0_3, hostOps0_4, List.flatten_cons, List.flatten_nil, List.append_nil,
    List.cons_append, List.nil_append, StableHlo.TRef.binary, StableHlo.TRef.nullary, StableHlo.TRef.unary,
    StableHlo.TRef.toBuf, StableHlo.TRef.ofBuf, cast_eq]
  entry_read
  pointwise
  have h1 : (64 * h.val + j.val) / 64 = h.val := by omega
  have h2 : (64 * h.val + j.val) % 64 = j.val := by omega
  simp only [h1, h2]

/-- The zeros add nothing to a product of two padded rows. -/
theorem dot_padded (f g : Fin 96 → EReal) : ∑ d : Fin 128, padded f d * padded g d = ∑ d : Fin 96, f d * g d := by
  refine (Fin.sum_univ_add (a := 96) (b := 32) (fun d => padded f d * padded g d)).trans ?_
  refine (congrArg₂ (· + ·) (Finset.sum_congr rfl fun d _ => ?_) (Finset.sum_eq_zero fun d _ => ?_)).trans (add_zero _)
  · have hd : (Fin.castAdd 32 d : Fin 128).val < 96 := d.isLt
    rw [padded, padded, dif_pos hd, dif_pos hd]
    rfl
  · have hd : ¬ (Fin.natAdd 96 d : Fin 128).val < 96 := by simp
    rw [padded, dif_neg hd, zero_mul]

/-- The weight of a key: two to the scaled product is the exponential of the score. -/
theorem weight (q k : Q) (hq : Real4 q) (hk : Real4 k) (b : Fin 4) (h : Fin 16) (n x : Fin 4096) :
    Ideal.exp2 (∑ d : Fin 128, padded (fun d => k (ix4 b x h d)) d * padded (fun d => q (ix4 b n h d) * scl) d)
      = ((Real.exp (dotr q k b h n x.val * (1 / Real.sqrt 96)) : ℝ) : EReal) := by
  have hs : ∑ d : Fin 96, k (ix4 b x h d) * (q (ix4 b n h d) * scl)
      = ((dotr q k b h n x.val * (1 / (Real.sqrt 96 * Real.log 2)) : ℝ) : EReal) := by
    rw [dotr, dif_pos x.isLt, Finset.sum_mul, ← Cert.Attn.coe_sum]
    refine Finset.sum_congr rfl fun d _ => ?_
    obtain ⟨r, hr⟩ := hq (ix4 b n h d)
    obtain ⟨s, hs⟩ := hk (ix4 b x h d)
    rw [hr, hs, scl_eq, ← EReal.coe_mul, ← EReal.coe_mul, EReal.toReal_coe, EReal.toReal_coe]
    exact congrArg _ (by ring)
  rw [dot_padded, hs, Ideal.exp2_coe]
  refine congrArg _ ((Real.rpow_def_of_pos (by norm_num) _).trans (congrArg _ ?_))
  have := log_two_pos.ne'
  field_simp

end Cert.KernelIdeal.Attn
-- ==== Proof.Attn.Final.lean ====
/-
  The result array of the attention call: every grid point writes its own block of 512 rows by 8 heads, and what it writes
  there is the reference's result at the place the block sits.
-/
module

public import proofs.«01_k».proof.Proof.Attn.Entry

@[expose] public section

set_option maxRecDepth 16384

noncomputable section

open Idealize.ShloMosaic Idealize.ShloMosaic.TcCoe Idealize.SL.Sem

namespace Cert.KernelIdeal.Attn

open Cert.KernelIdeal Cert.KernelIdeal.Gen Cert.ReferenceIdeal.Attn Cert.ReferenceIdeal.Read

variable (m : (ℓ : Loc nD τ sig) → Buf (Elt Ideal) ℓ)

/-- Where each window's block sits at each grid point. -/
theorem idx : ∀ t : Fin cfg0.N,
    win0_0.index t = ![(grid0.coords t 0).val, (grid0.coords t 2).val, (grid0.coords t 1).val]
    ∧ win0_1.index t = ![(grid0.coords t 0).val, 0, (grid0.coords t 1).val]
    ∧ win0_2.index t = ![(grid0.coords t 0).val, (grid0.coords t 1).val, 0]
    ∧ win0_3.index t = ![(grid0.coords t 0).val, (grid0.coords t 2).val, (grid0.coords t 1).val] :=
  (by decide +kernel : ∀ t : Fin grid0.N, _)

section Blocks

variable (c : Dev nD) (t : Fin cfg0.N)

/-- The batch, the head and the row of a number of the block a grid point writes. -/
abbrev at0 : Fin 4 := ⟨(grid0.coords t 0).val, lt_of_lt_of_le (grid0.coords t 0).isLt (by decide)⟩
theorem atH_lt (h : Fin 8) : 8 * (grid0.coords t 1).val + h.val < 16 := by
  have : (grid0.coords t 1).val < 2 := lt_of_lt_of_le (grid0.coords t 1).isLt (by decide)
  omega
abbrev atH (h : Fin 8) : Fin 16 := ⟨8 * (grid0.coords t 1).val + h.val, atH_lt t h⟩
theorem atR_lt (r : Fin 512) : 512 * (grid0.coords t 2).val + r.val < 4096 := by
  have : (grid0.coords t 2).val < 8 := lt_of_lt_of_le (grid0.coords t 2).isLt (by decide)
  omega
abbrev atR (r : Fin 512) : Fin 4096 := ⟨512 * (grid0.coords t 2).val + r.val, atR_lt t r⟩

/-- The lane of the queries' and the keys' array a lane of a block sits at. -/
theorem atL_lt (l : Fin 1024) : (grid0.coords t 1).val * 1024 + l.val < 2048 := by
  have : (grid0.coords t 1).val < 2 := lt_of_lt_of_le (grid0.coords t 1).isLt (by decide)
  omega
abbrev atL (l : Fin 1024) : Fin 2048 := ⟨(grid0.coords t 1).val * 1024 + l.val, atL_lt t l⟩

theorem atL_head (h : Fin 8) (d : Fin 128) : atL t ⟨128 * h.val + d.val, by omega⟩
    = ⟨128 * (atH t h).val + d.val, by have := (atH t h).isLt; omega⟩ :=
  Fin.ext (by
    show (grid0.coords t 1).val * 1024 + (128 * h.val + d.val) = 128 * (8 * (grid0.coords t 1).val + h.val) + d.val
    omega)

/-- Where a number of a block of queries, and of one of keys, sits in its array. -/
theorem emb0 (r : Fin 512) (l : Fin 1024) :
    ((cfg0.win 0).blk t).view.emb (ix3 0 r l : S1x512x1024.Idx) = (ix3 (at0 t) (atR t r) (atL t l) : S4x4096x2048.Idx) := by
  refine funext fun a => Fin.ext ?_
  fin_cases a <;> blk_simp [idx t]
  · rfl
  · exact congrArg (· + r.val) (Nat.mul_comm _ _)
  · rfl

theorem emb1 (x : Fin 4096) (l : Fin 1024) :
    ((cfg0.win 1).blk t).view.emb (ix3 0 x l : S1x4096x1024.Idx) = (ix3 (at0 t) x (atL t l) : S4x4096x2048.Idx) := by
  refine funext fun a => Fin.ext ?_
  fin_cases a <;> blk_simp [idx t]
  all_goals rfl

theorem raw0 (r : Fin 512) (l : Fin 1024) : iblk m c 0 t (ix3 0 r l) = V m c main_v8 (ix3 (at0 t) (atR t r) (atL t l)) := by
  unfold iblk
  generalize V m c = W
  rw [View.read_apply]
  refine (cast_eq _ _).trans ?_
  have e := emb0 t r l
  generalize ((cfg0.win 0).blk t).view.emb (ix3 0 r l) = i at e ⊢
  generalize (ix3 (at0 t) (atR t r) (atL t l) : S4x4096x2048.Idx) = i' at e ⊢
  subst e
  rfl

theorem raw1 (x : Fin 4096) (l : Fin 1024) : iblk m c 1 t (ix3 0 x l) = V m c main_v11 (ix3 (at0 t) x (atL t l)) := by
  unfold iblk
  generalize V m c = W
  rw [View.read_apply]
  refine (cast_eq _ _).trans ?_
  have e := emb1 t x l
  generalize ((cfg0.win 1).blk t).view.emb (ix3 0 x l) = i at e ⊢
  generalize (ix3 (at0 t) x (atL t l) : S4x4096x2048.Idx) = i' at e ⊢
  subst e
  rfl

theorem blk0 (r : Fin 512) (h : Fin 8) (d : Fin 128) : iblk m c 0 t (ix3 0 r (⟨128 * h.val + d.val, by omega⟩ : Fin 1024))
    = padded (fun d => argq m c (ix4 (at0 t) (atR t r) (atH t h) d) * scl) d := by
  rw [raw0, atL_head]
  exact entry_v8 m c (at0 t) (atR t r) (atH t h) d

theorem blk1 (x : Fin 4096) (h : Fin 8) (d : Fin 128) : iblk m c 1 t (ix3 0 x (⟨128 * h.val + d.val, by omega⟩ : Fin 1024))
    = padded (fun d => argk m c (ix4 (at0 t) x (atH t h) d)) d := by
  rw [raw1, atL_head]
  exact entry_v11 m c (at0 t) x (atH t h) d

theorem blk2 (x : Fin 4096) (h : Fin 8) (j : Fin 64) : iblk m c 2 t (ix3 0 (⟨64 * h.val + j.val, by omega⟩ : Fin 512) x)
    = argv m c (ix4 (at0 t) x (atH t h) j) := by
  refine Eq.trans (b := V m c main_v14 _) ?_ (entry_v14 m c (at0 t) x (atH t h) j)
  blk_ext [iblk, idx t]

/-- Where a number of the written block sits in the result array. -/
theorem emb3 (r : Fin 512) (h : Fin 8) (j : Fin 64) :
    ((cfg0.win 3).blk t).view.emb (ix3 0 r (⟨64 * h.val + j.val, by omega⟩ : Fin 512) : S1x512x512.Idx)
      = (ix3 (at0 t) (atR t r) (⟨64 * (atH t h).val + j.val, by have := (atH t h).isLt; omega⟩ : Fin 1024) : S4x4096x1024.Idx) := by
  blk_ext [idx t]

/-- What the body leaves at an index of a point's block is the reference's number there. -/
theorem point (hq : Real4 (argq m c)) (hk : Real4 (argk m c)) (r : Fin 512) (h : Fin 8) (j : Fin 64) :
    Ideal.div
      (∑ x ∈ Finset.range ((atR t r).val + 1), vl (iblk m c 2 t) h j x * wt (iblk m c 0 t) (iblk m c 1 t) h r x)
      (∑ x ∈ Finset.range ((atR t r).val + 1), wt (iblk m c 0 t) (iblk m c 1 t) h r x)
    = val_main_v27 (F := Ideal) (argq m c) (argk m c) (argv m c)
        (ix3 (at0 t) (atR t r) (⟨64 * (atH t h).val + j.val, by have := (atH t h).isLt; omega⟩ : Fin 1024)) := by
  refine (result (argq m c) (argk m c) (argv m c) hq hk (at0 t) (atR t r) (atH t h) j _ _ (fun x => ?_) fun x hx => ?_).symm
  · exact (dif_pos x.isLt).trans (blk2 m c t x h j)
  · have hx' : x < 4096 := lt_of_le_of_lt hx (atR t r).isLt
    refine (dif_pos hx').trans ?_
    refine Eq.trans (congrArg Ideal.exp2 (Finset.sum_congr rfl fun d _ => ?_))
      (weight (argq m c) (argk m c) hq hk (at0 t) (atH t h) (atR t r) ⟨x, hx'⟩)
    rw [blk1 m c t ⟨x, hx'⟩ h d, blk0 m c t r h d]

end Blocks

set_option maxHeartbeats 1000000 in
/-- The result array after the run is the reference's, for real queries and keys. -/
theorem final (c : Dev nD) (hq : Real4 (argq m c)) (hk : Real4 (argk m c)) :
    (dats m 0 c).arrAt 3 cfg0.N = val_main_v27 (F := Ideal) (argq m c) (argk m c) (argv m c) := by
  refine (dats m 0 c).arrAt_eq_of_covers 3 _ (by decide +kernel) fun t _ y => ?_
  blk_simp
  rw [after0_3]; unfold outsAt0
  obtain ⟨r, l, rfl⟩ : ∃ (r l : Fin 512), y = (ix3 0 r l : S1x512x512.Idx) :=
    ⟨y 1, y 2, (eq_ix3 y).trans (congrArg (fun a : Fin 1 => ix3 a (y 1) (y 2)) (Subsingleton.elim (α := Fin 1) _ _))⟩
  obtain ⟨h, j, rfl⟩ : ∃ (h : Fin 8) (j : Fin 64), l = (⟨64 * h.val + j.val, by omega⟩ : Fin 512) :=
    ⟨⟨l.val / 64, by omega⟩, ⟨l.val % 64, by omega⟩, Fin.ext (by show l.val = 64 * (l.val / 64) + l.val % 64; omega)⟩
  refine (out_apply _ _ _ _ _ _ _ _ _ _ _ _ _ r h j).trans ?_
  refine Eq.trans ?_ (congrArg _ (emb3 t r h j)).symm
  exact point m c t hq hk r h j

end Cert.KernelIdeal.Attn
-- ==== Proof.Attn.Real.lean ====
/-
  The precondition read back: every query and every key is a real number.
-/
module

public import proofs.«01_k».proof.Proof.Gen.Pre_finite_qk
public import proofs.«01_k».proof.Proof.Attn.Reference
public import Idealize.ShloMosaic.Lib.ReduceAll

@[expose] public section

set_option maxRecDepth 16384

noncomputable section

open Idealize.ShloMosaic Cert.ReferenceIdeal.Attn

namespace Cert.Attn

theorem ofBits_top : Ideal.ofBits .f32 0x7F800000#32 = (⊤ : EReal) := by
  simp [Ideal.ofBits, Ideal.ieee]

/-- A number whose absolute value is less than the greatest is real. -/
theorem real_of_lt (x : EReal) (h : Ideal.cmp .olt (max x (-x)) ⊤ = 1#1) : ∃ r : ℝ, x = (r : EReal) := by
  induction x with
  | bot => simp [Ideal.cmp] at h
  | top => simp [Ideal.cmp] at h
  | coe r => exact ⟨r, rfl⟩

theorem real_of_pre (q k : Q) (v : Vs) (h : Pre_finite_qk.fn (F := Ideal) q k v = fun _ => 1#1) : Real4 q ∧ Real4 k := by
  have e := congrFun h ix0
  dsimp only [Pre_finite_qk.fn] at e
  obtain ⟨e1, e2⟩ := IntOp.andi_eq_one.1 e
  refine ⟨fun i => real_of_lt _ ?_, fun i => real_of_lt _ ?_⟩
  · rw [← ofBits_top]
    exact Host.reduce_andi_all _ _ _ _ _ e1 i
  · rw [← ofBits_top]
    exact Host.reduce_andi_all _ _ _ _ _ e2 i

end Cert.Attn
-- ==== Proof.Attn.Claim.lean ====
/-
  The claim about the attention call: over the extended reals the kernel and the reference end with the same array when
  the queries and the keys are real.
-/
module

public import proofs.«01_k».proof.Defs
public import proofs.«01_k».proof.Proof.Attn.Final
public import proofs.«01_k».proof.Proof.Attn.Real
public import proofs.«01_k».proof.Proof.Gen.ReferenceIdeal.Run
public import proofs.«01_k».proof.Proof.Gen.KernelIdeal.Value
public import Idealize.ShloMosaic.Lib.Claim

@[expose] public section

noncomputable section

open Idealize.ShloMosaic Idealize.ShloMosaic.TcCoe Idealize.SL.Sem

namespace Cert.Attn

theorem claim : algebraic_KernelIdeal_ReferenceIdeal_pre_finite_qk (hKernelIdeal := KernelIdeal.Gen.facts)
    (hReferenceIdeal := ReferenceIdeal.Gen.facts) (hPre_finite_qk := Pre_finite_qk.Gen.facts) := by
  intro m g m' g' hpre hargs
  refine ⟨fun c => (KernelIdeal.Gen.dats m 0 c).arrAt 3 KernelIdeal.cfg0.N,
    KernelIdeal.Value.run_blocks m g,
    (θ_run _ _ _).mono (fun r h c => ?_) (ReferenceIdeal.Value.run m' g')⟩
  refine ⟨(h c).1.trans ?_, (h c).2⟩
  obtain ⟨hq, hk⟩ := real_of_pre _ _ _ (hpre c)
  refine Eq.trans ?_ (KernelIdeal.Attn.final m c hq hk).symm
  obtain ⟨h0, h1, h2⟩ := hargs c
  refine (ReferenceIdeal.Read.val_main_v27_eq m' c).trans ?_
  rw [h0, h1, h2]

end Cert.Attn
-- ==== Proof.Proj.Spec.lean ====
/-
  The block attention's projection as plain arithmetic over the extended reals: a column of the projected row, and the
  root-mean-square norm of a head's 64 lanes, alone and as the left or right half of a pair of heads.
-/
module

public import proofs.«01_k».proof.Proof.Ffn.Spec

@[expose] public section

noncomputable section

namespace Cert.Proj

open Idealize.ShloMosaic

/-- The norm of a head: its lanes over the root of their mean square plus 1e-6, times the gain. -/
def headed (y g : Fin 64 → EReal) (d : Fin 64) : EReal :=
  y d * Ideal.rsqrt (Ideal.div (∑ x, y x * y x) (Ideal.ofBits .f32 1115684864#32) + Ideal.ofBits .f32 897988541#32) * g d

/-- The same for two heads side by side in 128 lanes: each half's squares are summed with the other half's set to zero. -/
def paired (y g : Fin 128 → EReal) (l : Fin 128) : EReal :=
  y l * (if l.val < 64 then
      Ideal.rsqrt ((∑ x : Fin 128, if x.val < 64 then y x * y x else 0) * Ideal.ofBits .f32 1015021568#32
        + Ideal.ofBits .f32 897988541#32)
    else
      Ideal.rsqrt ((∑ x : Fin 128, if x.val < 64 then 0 else y x * y x) * Ideal.ofBits .f32 1015021568#32
        + Ideal.ofBits .f32 897988541#32)) * g l

theorem ofBits_64 : Ideal.ofBits .f32 1115684864#32 = ((64 : ℝ) : EReal) := by
  simp [Ideal.ofBits, Ideal.ieee, -EReal.coe_mul]; norm_num

theorem ofBits_64th : Ideal.ofBits .f32 1015021568#32 = ((1 / 64 : ℝ) : EReal) := by
  simp [Ideal.ofBits, Ideal.ieee, -EReal.coe_mul]; norm_num

/-- Dividing by 64 is multiplying by its reciprocal. -/
theorem mean (s : EReal) : s * Ideal.ofBits .f32 1015021568#32 = Ideal.div s (Ideal.ofBits .f32 1115684864#32) := by
  rw [ofBits_64, ofBits_64th, Ideal.div_coe (by norm_num)]

/-- The left half's lanes alone. -/
theorem sum_left (f : Fin 128 → EReal) :
    (∑ x : Fin 128, if x.val < 64 then f x else 0) = ∑ d : Fin 64, f ⟨d.val, by omega⟩ := by
  refine (Fin.sum_univ_add (a := 64) (b := 64) fun x => if x.val < 64 then f x else 0).trans ?_
  refine (congrArg₂ (· + ·) (Finset.sum_congr rfl fun d _ => if_pos d.isLt)
    (Finset.sum_eq_zero fun d _ => if_neg (by simp))).trans (add_zero _)

/-- The right half's lanes alone. -/
theorem sum_right (f : Fin 128 → EReal) :
    (∑ x : Fin 128, if x.val < 64 then 0 else f x) = ∑ d : Fin 64, f ⟨64 + d.val, by omega⟩ := by
  refine (Fin.sum_univ_add (a := 64) (b := 64) fun x => if x.val < 64 then 0 else f x).trans ?_
  refine (congrArg₂ (· + ·) (Finset.sum_eq_zero fun d _ => if_pos d.isLt)
    (Finset.sum_congr rfl fun d _ => if_neg (by simp))).trans (zero_add _)

/-- A lane of a pair is the lane of its head. -/
theorem paired_eq (y g : Fin 128 → EReal) (s : Fin 2) (d : Fin 64) :
    paired y g ⟨64 * s.val + d.val, by omega⟩
      = headed (fun d => y ⟨64 * s.val + d.val, by omega⟩) (fun d => g ⟨64 * s.val + d.val, by omega⟩) d := by
  unfold paired headed
  rw [sum_left fun x => y x * y x, sum_right fun x => y x * y x, mean, mean]
  fin_cases s
  · rw [if_pos (show 64 * 0 + d.val < 64 by omega)]
    simp only [Nat.mul_zero, Nat.zero_add]
  · rw [if_neg (show ¬ 64 * 1 + d.val < 64 by omega)]
    simp only [Nat.mul_one]

/-- A factor of the gain is a factor of the norm. -/
theorem headed_mul (y g : Fin 64 → EReal) (c : EReal) (d : Fin 64) :
    headed y (fun d => g d * c) d = headed y g d * c := (mul_assoc _ _ _).symm

end Cert.Proj
-- ==== Proof.Proj.Body.lean ====
/-
  The block attention's projection over its input blocks and at an index: the modulated norm of the rows, its products with
  the weights, and the norms of the heads, two heads to a piece of 128 lanes.
-/
module

public import proofs.«01_k».proof.Proof.Gen.Kernel4Ideal.Value
public import proofs.«01_k».proof.Proof.Proj.Spec

@[expose] public section

set_option maxRecDepth 16384

noncomputable section

open Idealize.ShloMosaic Idealize.SL.Sem Cert.Ffn Cert.Proj

namespace Cert.Kernel4Ideal.Proj

open Cert.Kernel4Ideal Cert.Kernel4Ideal.Gen

variable (i : grid0.Coords) (x0 : Vec Ideal S1x1024x1024 .f32) (x1 x2 : Vec Ideal S1x8x1024 .f32)
  (x3 : Vec Ideal S1x1024 .f32) (x4 : Vec Ideal S1024x2048 .bf16) (x5 : Vec Ideal S1024x1024 .bf16)
  (x6 : Vec Ideal S1x2048 .f32)

/-- The row of a modulation table the grid point takes, as it is loaded. -/
abbrev ldRow (X : Vec Ideal S1x8x1024 .f32) : Vec Ideal S1x1x1024 .f32 :=
  View.ld (Val := Elt Ideal) X (Rect.unit (k0_off1 i) S1x1x1024.size (k0_off1_inb i))

/-- The same row by coordinates. -/
abbrev mrow (X : Vec Ideal S1x8x1024 .f32) (l : Fin 1024) : EReal := X (ix3 0 ⟨(i 0).val, lt_of_lt_of_le (i 0).isLt (by decide)⟩ l)

theorem ld_row (X : Vec Ideal S1x8x1024 .f32) : (fun l : Fin 1024 => ldRow i X (ix3 0 0 l)) = mrow i X := by
  have e := k0_off1_eq i
  funext l
  unfold ldRow
  pointwise
  refine congrArg X ?_
  congr 1 <;> (apply Fin.ext; simp [e])

/-- 512 columns of the weights from `j` on, as they are loaded, by coordinates. -/
theorem ld_cols (X : FVec Ideal S1024x2048 .bf16) (j : ℕ) (hj : j + 512 ≤ 2048) (hr) (k : Fin 1024) (l : Fin 512) :
    (View.ld (Val := Elt Ideal) (S := S1024x2048) (e' := .bf16) X (Rect.unit ![0, j] S1024x512.size hr)
        : FVec Ideal S1024x512 .bf16) (ix2 k l)
      = X (ix2 k (⟨j + l.val, by omega⟩ : Fin 2048)) :=
  congrArg X (funext fun a => Fin.ext (by fin_cases a <;> simp [Rect.idx_unit_val, ix2]))

/-- 128 lanes of the gain from `j` on, as they are loaded, by coordinates. -/
theorem ld_gain (X : FVec Ideal S1x2048 .f32) (j : ℕ) (hj : j + 128 ≤ 2048) (hr) (l : Fin 128) :
    (View.ld (Val := Elt Ideal) (S := S1x2048) (e' := .f32) X (Rect.unit ![0, j] S1x128.size hr)
        : FVec Ideal S1x128 .f32) (ix2 0 l)
      = X (ix2 0 (⟨j + l.val, by omega⟩ : Fin 2048)) :=
  congrArg X (funext fun a => Fin.ext (by fin_cases a <;> simp [Rect.idx_unit_val, ix2]))

/-- 512 rows of the values' weights from `j` on, as they are loaded, by coordinates. -/
theorem ld_rows (X : FVec Ideal S1024x1024 .bf16) (j : ℕ) (hj : j + 512 ≤ 1024) (hr) (l : Fin 512) (k : Fin 1024) :
    (View.ld (Val := Elt Ideal) (S := S1024x1024) (e' := .bf16) X (Rect.unit ![j, 0] S512x1024.size hr)
        : FVec Ideal S512x1024 .bf16) (ix2 l k)
      = X (ix2 (⟨j + l.val, by omega⟩ : Fin 1024) k) :=
  congrArg X (funext fun a => Fin.ext (by fin_cases a <;> simp [Rect.idx_unit_val, ix2]))

/-- The modulated norm of the stream's rows, over the blocks. -/
abbrev bh : FVec Ideal S1024x1024 .bf16 := k0_pay2 x0 x3 (ldRow i x1) (ldRow i x2)

theorem pay2_apply (v0 v2 v5 v8) (r l : Fin 1024) :
    k0_pay2 (F := Ideal) v0 v2 v5 v8 (ix2 r l)
    = normed (fun l => v0 (ix3 0 r l)) (fun l => v2 (ix2 0 l)) (fun l => v8 (ix3 0 0 l)) (fun l => v5 (ix3 0 0 l)) l := by
  pointwise [k0_pay2]
  rfl

/-- The lanes of the left head of a pair. -/
def left : IVec S1024x128 1 :=
  broadcastTo S1024x128 (shapeCast S1x128 (cmpi .slt (iota .tc S1x128 32 [1] iota_S1x128_d1_w32) (broadcast S1x128 64#32))
    shapeCasts_S1x128_S1x128) broadcasts_S1x128_S1024x128

/-- The root of a half's mean square. -/
def root (v : FVec Ideal S1024x128 .f32) : FVec Ideal S1024x128 .f32 :=
  broadcastTo S1024x128 (shapeCast S1024x1 (rsqrt (addf (mulf (shapeCast S1024x1 (multiReduction .add [1] S1024 v 0x00000000#32 reduces_S1024x128_S1024 (.inl rfl) rfl) shapeCasts_S1024_S1024x1)
    (broadcast S1024x1 (Scalar.ofBits .f32 0x3C800000#32))) (broadcast S1024x1 (Scalar.ofBits .f32 0x358637BD#32)))) shapeCasts_S1024x1_S1024x1) broadcasts_S1024x1_S1024x128

theorem root_apply (v) (r : Fin 1024) (l : Fin 128) : root v (ix2 r l)
    = Ideal.rsqrt ((∑ x : Fin 128, v (ix2 r x)) * Ideal.ofBits .f32 1015021568#32 + Ideal.ofBits .f32 897988541#32) := by
  pointwise [root]

/-- Choosing by the lane's comparison with 64. -/
theorem pick (l : Fin 128) (a b : EReal) :
    Scalar.select (IntOp.cmpi .slt (BitVec.ofNat 32 l.val) 64#32) a b = if l.val < 64 then a else b := by
  have e : ∀ l : Fin 128, IntOp.cmpi .slt (BitVec.ofNat 32 l.val) 64#32 = if l.val < 64 then 1#1 else 0#1 := by decide
  rw [e]
  by_cases h : l.val < 64
  · rw [if_pos h, if_pos h]; rfl
  · rw [if_neg h, if_neg h]; rfl

/-- A slice of columns, by coordinates. -/
theorem slice_col (v : FVec Ideal S1024x512 .f32) (o : ℕ) (hs) (r : Fin 1024) (l : Fin 128) (h : o + l.val < 512) :
    extractStridedSlice S1024x128 ![0, o] v hs (ix2 r l) = v (ix2 r (⟨o + l.val, h⟩ : Fin 512)) := by
  refine congrArg v (funext fun a => Fin.ext ?_)
  fin_cases a <;> simp [ix2]

/-- The norm of two heads side by side, and its gain, as it is stored. -/
def chain (y : FVec Ideal S1024x128 .f32) (g : FVec Ideal S1x128 .f32) : FVec Ideal S1x1024x128 .bf16 :=
  shapeCast S1x1024x128 (truncf .bf16 (mulf (mulf y (select left
      (root (select left (mulf y y) (broadcast S1024x128 (Scalar.ofBits .f32 0x00000000#32))))
      (root (select left (broadcast S1024x128 (Scalar.ofBits .f32 0x00000000#32)) (mulf y y)))))
    (broadcastTo S1024x128 g broadcasts_S1x128_S1024x128)) bitsLt_bf16_f32) shapeCasts_S1024x128_S1x1024x128

theorem chain_apply (y g) (r : Fin 1024) (l : Fin 128) : chain y g (ix3 0 r l)
    = paired (fun x => y (ix2 r x)) (fun x => g (ix2 0 x)) l := by
  pointwise [chain, left, root]
  simp only [pick]
  rfl

/-- The product of the normed rows with 512 columns of the weights. -/
def prod (h : FVec Ideal S1024x1024 .bf16) (w : FVec Ideal S1024x512 .bf16) : FVec Ideal S1024x512 .f32 :=
  matmul dot_S1024x1024_S1024x512_S1024x512_1_0_0_1_n_n none h (shapeCast S1024x512 w shapeCasts_S1024x512_S1024x512)
    (constant S1024x512 .f32 0x00000000#32)

theorem prod_apply (h w) (r : Fin 1024) (l : Fin 512) : prod h w (ix2 r l) = ∑ k : Fin 1024, h (ix2 r k) * w (ix2 k l) := by
  pointwise [prod]

/-- A lane of the queries and keys at a row: its head's norm, with the head's gain. -/
def out7 (h : FVec Ideal S1024x1024 .bf16) (w : FVec Ideal S1024x2048 .bf16) (g : FVec Ideal S1x2048 .f32) (r : Fin 1024)
    (l : Fin 2048) : EReal :=
  headed (fun d => ∑ k : Fin 1024, h (ix2 r k) * w (ix2 k (⟨64 * (l.val / 64) + d.val, by omega⟩ : Fin 2048)))
    (fun d => g (ix2 0 (⟨64 * (l.val / 64) + d.val, by omega⟩ : Fin 2048))) ⟨l.val % 64, by omega⟩

/-- A piece of 128 lanes: the lanes from `o` on of the product with the weights' columns from `j` on. -/
theorem piece (h : FVec Ideal S1024x1024 .bf16) (W : FVec Ideal S1024x2048 .bf16) (G : FVec Ideal S1x2048 .f32) (j o : ℕ)
    (hj : j + 512 ≤ 2048) (ho : o + 128 ≤ 512) (hd : 128 ∣ j + o) (w : FVec Ideal S1024x512 .bf16) (g : FVec Ideal S1x128 .f32)
    (hs) (hg)
    (ew : ∀ (k : Fin 1024) (l : Fin 512), w (ix2 k l) = W (ix2 k (⟨j + l.val, by omega⟩ : Fin 2048)))
    (eg : ∀ l : Fin 128, g (ix2 0 l) = G (ix2 0 (⟨j + o + l.val, by omega⟩ : Fin 2048)))
    (x : S1x1024x128.Idx) (r : Fin 1024) (l : Fin 2048) (er : r.val = (x 1).val) (el : l.val = j + o + (x 2).val) :
    chain (extractStridedSlice S1024x128 ![0, o] (prod h w) hs) (shapeCast S1x128 g hg) x = out7 h W G r l := by
  obtain ⟨r', l', rfl⟩ : ∃ (r' : Fin 1024) (l' : Fin 128), x = (ix3 0 r' l' : S1x1024x128.Idx) :=
    ⟨x 1, x 2, (eq_ix3 x).trans (congrArg (fun a : Fin 1 => ix3 a (x 1) (x 2)) (Subsingleton.elim (α := Fin 1) _ _))⟩
  obtain rfl : r = r' := Fin.ext er
  replace el : l.val = j + o + l'.val := el
  have lt : ∀ (s : Fin 2) (d : Fin 64), 64 * s.val + d.val < 128 := by omega
  obtain ⟨s, d, rfl⟩ : ∃ (s : Fin 2) (d : Fin 64), l' = ⟨64 * s.val + d.val, lt s d⟩ :=
    ⟨⟨l'.val / 64, by omega⟩, ⟨l'.val % 64, by omega⟩, Fin.ext (by simp; omega)⟩
  have h1 := s.isLt; have h2 := d.isLt
  replace el : l.val = j + o + (64 * s.val + d.val) := el
  have e0 : l.val / 64 * 64 = j + o + 64 * s.val := by omega
  have e1 : l.val % 64 = d.val := by omega
  rw [chain_apply, paired_eq]
  unfold out7
  have ed : (⟨l.val % 64, by omega⟩ : Fin 64) = d := Fin.ext e1
  rw [ed]
  congr 1
  · funext d'
    have h3 := d'.isLt
    refine (slice_col (prod h w) o hs r ⟨64 * s.val + d'.val, by omega⟩ (by omega)).trans ?_
    rw [prod_apply]
    refine Finset.sum_congr rfl fun k _ => ?_
    rw [ew]
    exact congrArg (fun a => h (ix2 r k) * W (ix2 k a)) (Fin.ext (by
      show j + (o + (64 * s.val + d'.val)) = 64 * (l.val / 64) + d'.val; omega))
  · funext d'
    have h3 := d'.isLt
    refine (Eq.trans (by pointwise) (eg ⟨64 * s.val + d'.val, by omega⟩)).trans ?_
    exact congrArg (fun a => G (ix2 0 a)) (Fin.ext (by
      show j + o + (64 * s.val + d'.val) = 64 * (l.val / 64) + d'.val; omega))

/-- A piece of 512 of the values' lanes, as it is stored. -/
def vpiece (h : FVec Ideal S1024x1024 .bf16) (w : FVec Ideal S512x1024 .bf16) : FVec Ideal S1x512x1024 .bf16 :=
  shapeCast S1x512x1024 (truncf .bf16 (matmul dot_S512x1024_S1024x1024_S512x1024_1_1_0_0_n_n none
    (shapeCast S512x1024 w shapeCasts_S512x1024_S512x1024) h (constant S512x1024 .f32 0x00000000#32)) bitsLt_bf16_f32)
    shapeCasts_S512x1024_S1x512x1024

theorem vpiece_apply (h w) (l : Fin 512) (r : Fin 1024) : vpiece h w (ix3 0 l r) = ∑ k : Fin 1024, w (ix2 l k) * h (ix2 r k) := by
  pointwise [vpiece]

/-- The piece of the values' lanes from `j` on. -/
theorem values (h : FVec Ideal S1024x1024 .bf16) (W : FVec Ideal S1024x1024 .bf16) (j : ℕ) (hj : j + 512 ≤ 1024)
    (w : FVec Ideal S512x1024 .bf16)
    (ew : ∀ (l : Fin 512) (k : Fin 1024), w (ix2 l k) = W (ix2 (⟨j + l.val, by omega⟩ : Fin 1024) k))
    (x : S1x512x1024.Idx) (l r : Fin 1024) (el : l.val = j + (x 1).val) (er : r.val = (x 2).val) :
    vpiece h w x = ∑ k : Fin 1024, h (ix2 r k) * W (ix2 l k) := by
  obtain ⟨l', r', rfl⟩ : ∃ (l' : Fin 512) (r' : Fin 1024), x = (ix3 0 l' r' : S1x512x1024.Idx) :=
    ⟨x 1, x 2, (eq_ix3 x).trans (congrArg (fun a : Fin 1 => ix3 a (x 1) (x 2)) (Subsingleton.elim (α := Fin 1) _ _))⟩
  obtain rfl : r = r' := Fin.ext er
  replace el : l.val = j + l'.val := el
  rw [vpiece_apply]
  refine Finset.sum_congr rfl fun k _ => ?_
  rw [ew, mul_comm]
  exact congrArg (fun a => h (ix2 r k) * W (ix2 a k)) (Fin.ext el.symm)

end Cert.Kernel4Ideal.Proj
-- ==== Proof.Proj.Reference.lean ====
/-
  The reference's projection, read at an index: a column of the modulated norm's product with the weights, and over it the
  heads' norms.
-/
module

public import proofs.«01_k».proof.Proof.Gen.Reference4Ideal.Read
public import proofs.«01_k».proof.Proof.Proj.Spec

@[expose] public section

set_option maxRecDepth 16384

noncomputable section

open Idealize.ShloMosaic

namespace Cert.Reference4Ideal.Proj

open Cert.Reference4Ideal Cert.Reference4Ideal.Gen Cert.Reference4Ideal.Read Cert.Ffn Cert.Proj

variable (x0 : FVec Ideal S4x4096x1024 .f32) (x1 : FVec Ideal S2x4x9216 .f32) (x2 : FVec Ideal S2x3x1024 .f32)
  (x3 : FVec Ideal S1x1024x3072 .f32) (x4 x5 : FVec Ideal S1x64 .f32)

/-- The modulated norm of row `(b, r)` of the stream. -/
def hrow (b : Fin 4) (r : Fin 4096) : Fin 1024 → EReal :=
  normed (fun l => x0 (ix3 b r l)) (fun l => x2 (ix3 0 1 l)) (fun l => x1 (ix3 0 b ⟨4096 + l.val, by omega⟩))
    (fun l => x1 (ix3 0 b ⟨3072 + l.val, by omega⟩))

/-- A column of its projection. -/
def pcol (b : Fin 4) (r : Fin 4096) (col : Fin 3072) : EReal := ∑ x, hrow x0 x1 x2 b r x * x3 (ix3 0 x col)

/-- The scale of the queries. -/
def scl : EReal :=
  Ideal.div 1 (Ideal.sqrt (Ideal.ofBits .f32 1115684864#32) * Ideal.log (Ideal.ofBits .f32 1073741824#32))

/-- A lane of a query of head `h`, and of a key. -/
def query (b : Fin 4) (r : Fin 4096) (h : Fin 16) (d : Fin 64) : EReal :=
  headed (fun d => pcol x0 x1 x2 x3 b r ⟨64 * h.val + d.val, by omega⟩) (fun d => x4 (ix2 0 d)) d * scl
def key (b : Fin 4) (r : Fin 4096) (h : Fin 16) (d : Fin 64) : EReal :=
  headed (fun d => pcol x0 x1 x2 x3 b r ⟨1024 + 64 * h.val + d.val, by omega⟩) (fun d => x5 (ix2 0 d)) d

theorem v33_apply (b : Fin 4) (r : Fin 4096) (l : Fin 1024) :
    val_main_v33 (F := Ideal) x0 x1 x2 (ix3 b r l) = hrow x0 x1 x2 b r l := by
  pointwise [val_main_v33, val_main_v32, val_main_v31, val_main_v30, val_main_v29, val_main_v28, val_main_v27,
    val_main_v26, val_main_v25, val_main_v24, val_main_v23, val_main_v22, val_main_v21, val_main_v20, val_main_v19,
    val_main_v18, val_main_v17, val_main_v16, val_main_v15, val_main_v14, val_main_v13, val_main_v12, val_main_v11,
    val_main_v6, val_main_v5, val_main_v1, val_main_v0, val_main_cst, val_main_cst_0, val_main_cst_1, val_main_cst_2]
  rfl

theorem v35_apply (b : Fin 4) (r : Fin 4096) (col : Fin 3072) :
    val_main_v35 (F := Ideal) x0 x1 x2 x3 (ix3 b r col) = pcol x0 x1 x2 x3 b r col := by
  pointwise [val_main_v35, val_main_v34]
  simp only [v33_apply]
  rfl

theorem v36_apply (b : Fin 4) (r : Fin 4096) (p : Fin 3) (h : Fin 16) (d : Fin 64) :
    val_main_v36 (F := Ideal) x0 x1 x2 x3 (ix5 b r p h d)
      = pcol x0 x1 x2 x3 b r ⟨1024 * p.val + 64 * h.val + d.val, by omega⟩ := by
  rw [val_main_v36_apply, ← v35_apply]
  refine congrArg _ (funext fun a => Fin.ext ?_)
  have h0 := b.isLt; have h1 := r.isLt; have h2 := p.isLt; have h3 := h.isLt; have h4 := d.isLt
  fin_cases a <;> simp [idx_main_v36, ix3, ix5] <;> omega

/-- A head's lane under the unit axis of one of the three parts. -/
theorem idx38 (b : Fin 4) (r : Fin 4096) (h : Fin 16) (d : Fin 64) :
    idx_main_v38 (ix4 b r h d) = (ix5 b r 0 h d : S4x4096x1x16x64.Idx) := by
  have h0 := b.isLt; have h1 := r.isLt; have h3 := h.isLt; have h4 := d.isLt
  refine funext fun a => Fin.ext ?_
  fin_cases a <;> simp [ix4, ix5] <;> omega

theorem v38_apply (b : Fin 4) (r : Fin 4096) (h : Fin 16) (d : Fin 64) :
    val_main_v38 (F := Ideal) x0 x1 x2 x3 (ix4 b r h d) = pcol x0 x1 x2 x3 b r ⟨64 * h.val + d.val, by omega⟩ := by
  rw [val_main_v38_apply, idx38, val_main_v37_apply]
  refine (congrArg (val_main_v36 (F := Ideal) x0 x1 x2 x3) (a₂ := ix5 b r 0 h d) ?_).trans
    ((v36_apply x0 x1 x2 x3 b r 0 h d).trans (congrArg _ (Fin.ext ?_)))
  · exact funext fun a => Fin.ext (by fin_cases a <;> rfl)
  · simp

theorem v54_apply (b : Fin 4) (r : Fin 4096) (h : Fin 16) (d : Fin 64) :
    val_main_v54 (F := Ideal) x0 x1 x2 x3 (ix4 b r h d) = pcol x0 x1 x2 x3 b r ⟨1024 + 64 * h.val + d.val, by omega⟩ := by
  rw [val_main_v54_apply, show idx_main_v54 (ix4 b r h d) = _ from idx38 b r h d, val_main_v53_apply]
  refine (congrArg (val_main_v36 (F := Ideal) x0 x1 x2 x3) (a₂ := ix5 b r 1 h d) ?_).trans
    ((v36_apply x0 x1 x2 x3 b r 1 h d).trans (congrArg _ (Fin.ext ?_)))
  · exact funext fun a => Fin.ext (by fin_cases a <;> rfl)
  · simp

theorem v70_apply (b : Fin 4) (r : Fin 4096) (h : Fin 16) (d : Fin 64) :
    val_main_v70 (F := Ideal) x0 x1 x2 x3 (ix4 b r h d) = pcol x0 x1 x2 x3 b r ⟨2048 + 64 * h.val + d.val, by omega⟩ := by
  rw [val_main_v70_apply, show idx_main_v70 (ix4 b r h d) = _ from idx38 b r h d, val_main_v69_apply]
  refine (congrArg (val_main_v36 (F := Ideal) x0 x1 x2 x3) (a₂ := ix5 b r 2 h d) ?_).trans
    ((v36_apply x0 x1 x2 x3 b r 2 h d).trans (congrArg _ (Fin.ext ?_)))
  · exact funext fun a => Fin.ext (by fin_cases a <;> rfl)
  · simp

theorem v76_apply (b : Fin 4) (r : Fin 4096) (h : Fin 16) (d : Fin 64) :
    val_main_v76 (F := Ideal) x0 x1 x2 x3 x4 (ix4 b r h d) = query x0 x1 x2 x3 x4 b r h d := by
  pointwise [val_main_v76, val_main_v75, val_main_v74, val_main_v73, val_main_v72, val_main_v71, val_main_cst_9,
    val_main_cst_10, val_main_cst_11, val_main_v52, val_main_v51, val_main_v50, val_main_v49, val_main_v48, val_main_v47,
    val_main_v46, val_main_v45, val_main_v44, val_main_v43, val_main_v42, val_main_v41, val_main_v40, val_main_v39,
    val_main_cst_3, val_main_cst_4, val_main_cst_5]
  simp only [v38_apply]
  rfl

theorem v68_apply (b : Fin 4) (r : Fin 4096) (h : Fin 16) (d : Fin 64) :
    val_main_v68 (F := Ideal) x0 x1 x2 x3 x5 (ix4 b r h d) = key x0 x1 x2 x3 x5 b r h d := by
  pointwise [val_main_v68, val_main_v67, val_main_v66, val_main_v65, val_main_v64, val_main_v63, val_main_v62,
    val_main_v61, val_main_v60, val_main_v59, val_main_v58, val_main_v57, val_main_v56, val_main_v55,
    val_main_cst_6, val_main_cst_7, val_main_cst_8]
  simp only [v54_apply]
  rfl

/-- Over the extended reals a cast keeps the number. -/
theorem rounded (x : Ideal .f32) : FloatOps.truncf (F := Ideal) .bf16 bitsLt_bf16_f32 x = x := rfl

/-- The queries' lanes of the reference's first result. -/
theorem v83_query (b : Fin 4) (r : Fin 4096) (h : Fin 16) (d : Fin 64) :
    val_main_v83 (F := Ideal) x0 x1 x2 x3 x4 x5 (ix3 b r (⟨64 * h.val + d.val, by omega⟩ : Fin 2048)) = query x0 x1 x2 x3 x4 b r h d := by
  have h0 := b.isLt; have h1 := r.isLt; have h3 := h.isLt; have h4 := d.isLt
  rw [val_main_v83_apply, rounded, val_main_v80_apply]
  have e : idx_main_v80 (ix3 b r (⟨64 * h.val + d.val, by omega⟩ : Fin 2048)) = (ix5 b r 0 h d : S4x4096x2x16x64.Idx) := by
    refine funext fun a => Fin.ext ?_
    fin_cases a <;> simp [ix3, ix5] <;> omega
  rw [e]
  pointwise [val_main_v79, val_main_v77]
  exact v76_apply x0 x1 x2 x3 x4 b r h d

/-- The keys' lanes of the reference's first result. -/
theorem v83_key (b : Fin 4) (r : Fin 4096) (h : Fin 16) (d : Fin 64) :
    val_main_v83 (F := Ideal) x0 x1 x2 x3 x4 x5 (ix3 b r (⟨1024 + 64 * h.val + d.val, by omega⟩ : Fin 2048))
      = key x0 x1 x2 x3 x5 b r h d := by
  have h0 := b.isLt; have h1 := r.isLt; have h3 := h.isLt; have h4 := d.isLt
  rw [val_main_v83_apply, rounded, val_main_v80_apply]
  have e : idx_main_v80 (ix3 b r (⟨1024 + 64 * h.val + d.val, by omega⟩ : Fin 2048)) = (ix5 b r 1 h d : S4x4096x2x16x64.Idx) := by
    refine funext fun a => Fin.ext ?_
    fin_cases a <;> simp [ix3, ix5] <;> omega
  rw [e]
  pointwise [val_main_v79, val_main_v78]
  exact v68_apply x0 x1 x2 x3 x5 b r h d

/-- The reference's second result: the values' lanes as rows. -/
theorem v84_apply (b : Fin 4) (l : Fin 1024) (r : Fin 4096) :
    val_main_v84 (F := Ideal) x0 x1 x2 x3 (ix3 b l r) = pcol x0 x1 x2 x3 b r ⟨2048 + l.val, by omega⟩ := by
  have h0 := b.isLt; have h1 := r.isLt; have h2 := l.isLt
  rw [val_main_v84_apply, rounded, val_main_v82_apply, val_main_v81_apply]
  have e : idx_main_v81 (idx_main_v82 (ix3 b l r))
      = (ix4 b r (⟨l.val / 64, by omega⟩ : Fin 16) (⟨l.val % 64, by omega⟩ : Fin 64) : S4x4096x16x64.Idx) := by
    refine funext fun a => Fin.ext ?_
    fin_cases a <;> simp [ix3, ix4] <;> omega
  rw [e, v70_apply]
  exact congrArg _ (Fin.ext (by show 2048 + 64 * (l.val / 64) + l.val % 64 = 2048 + l.val; omega))

end Cert.Reference4Ideal.Proj
-- ==== Proof.Proj.Value.lean ====
/-
  The projection's two result arrays: every grid point writes its own blocks of 1024 rows, and what it writes there is the
  reference's result at the place the blocks sit.
-/
module

public import proofs.«01_k».proof.Proof.Proj.Body
public import proofs.«01_k».proof.Proof.Proj.Reference

@[expose] public section

set_option maxRecDepth 16384

noncomputable section

open Idealize.ShloMosaic Idealize.ShloMosaic.TcCoe Idealize.SL.Sem

namespace Cert.Kernel4Ideal.Proj

open Cert.Kernel4Ideal Cert.Kernel4Ideal.Gen Cert.Ffn Cert.Proj Cert.Reference4Ideal.Proj Cert.Reference4Ideal.Read

variable (m : (ℓ : Loc nD τ sig) → Buf (Elt Ideal) ℓ)

/-- Where each window's block sits at each grid point. -/
theorem idx : ∀ t : Fin cfg0.N,
    win0_0.index t = ![(grid0.coords t 0).val, (grid0.coords t 1).val, 0]
    ∧ win0_1.index t = ![0, 0, 3] ∧ win0_2.index t = ![0, 0, 4] ∧ win0_3.index t = ![0, 0] ∧ win0_4.index t = ![0, 0]
    ∧ win0_5.index t = ![0, 0] ∧ win0_6.index t = ![0, 0]
    ∧ win0_7.index t = ![(grid0.coords t 0).val, (grid0.coords t 1).val, 0]
    ∧ win0_8.index t = ![(grid0.coords t 0).val, 0, (grid0.coords t 1).val] :=
  (by decide +kernel : ∀ t : Fin grid0.N, _)

/-- The padded modulation tables, at a row of a batch. -/
theorem entry_v0 (c : Dev nD) (a : Fin 2) (b : Fin 4) (col : Fin 9216) :
    V m c main_v0 (ix3 a (⟨b.val, by omega⟩ : Fin 8) col) = m ((c : Thread nD τ).loc main_arg1) (ix3 a b col) := by
  simp only [V, hostOps0, hostOps0_1, hostOps0_2, List.flatten_cons, List.flatten_nil, List.append_nil, List.cons_append,
    List.nil_append, StableHlo.TRef.binary, StableHlo.TRef.nullary, StableHlo.TRef.unary, StableHlo.TRef.toBuf,
    StableHlo.TRef.ofBuf, cast_eq]
  entry_read
  pointwise

theorem entry_v21 (c : Dev nD) (k : Fin 1024) : V m c main_v21 (ix2 0 k) = m ((c : Thread nD τ).loc main_arg2) (ix3 0 1 k) := by
  simp only [V, hostOps0, hostOps0_1, hostOps0_2, List.flatten_cons, List.flatten_nil, List.append_nil, List.cons_append,
    List.nil_append, StableHlo.TRef.binary, StableHlo.TRef.nullary, StableHlo.TRef.unary, StableHlo.TRef.toBuf,
    StableHlo.TRef.ofBuf, cast_eq]
  entry_read
  pointwise

theorem entry_v22 (c : Dev nD) (k : Fin 1024) (l : Fin 2048) : V m c main_v22 (ix2 k l)
    = m ((c : Thread nD τ).loc main_arg3) (ix3 0 k (⟨l.val, by omega⟩ : Fin 3072)) := by
  simp only [V, hostOps0, hostOps0_1, hostOps0_2, List.flatten_cons, List.flatten_nil, List.append_nil, List.cons_append,
    List.nil_append, StableHlo.TRef.binary, StableHlo.TRef.nullary, StableHlo.TRef.unary, StableHlo.TRef.toBuf,
    StableHlo.TRef.ofBuf, cast_eq]
  entry_read
  pointwise

theorem entry_v24 (c : Dev nD) (l k : Fin 1024) : V m c main_v24 (ix2 l k)
    = m ((c : Thread nD τ).loc main_arg3) (ix3 0 k (⟨2048 + l.val, by omega⟩ : Fin 3072)) := by
  simp only [V, hostOps0, hostOps0_1, hostOps0_2, List.flatten_cons, List.flatten_nil, List.append_nil, List.cons_append,
    List.nil_append, StableHlo.TRef.binary, StableHlo.TRef.nullary, StableHlo.TRef.unary, StableHlo.TRef.toBuf,
    StableHlo.TRef.ofBuf, cast_eq]
  entry_read
  pointwise

/-- The gain of the queries times their scale. -/
def qgain (x : FVec Ideal S1x64 .f32) (d : Fin 64) : EReal := x (ix2 0 d) * scl

/-- The gain of the queries' lanes: the queries' gain times the scale. -/
theorem entry_v18_query (c : Dev nD) (h : Fin 16) (d : Fin 64) :
    V m c main_v18 (ix2 0 (⟨64 * h.val + d.val, by omega⟩ : Fin 2048)) = qgain (m ((c : Thread nD τ).loc main_arg4)) d := by
  generalize hR : qgain (m ((c : Thread nD τ).loc main_arg4)) d = R
  simp only [V, hostOps0, hostOps0_1, hostOps0_2, List.flatten_cons, List.flatten_nil, List.append_nil, List.cons_append,
    List.nil_append, StableHlo.TRef.binary, StableHlo.TRef.nullary, StableHlo.TRef.unary, StableHlo.TRef.toBuf,
    StableHlo.TRef.ofBuf, cast_eq]
  entry_read
  pointwise
  have h1 := h.isLt; have h2 := d.isLt
  rw [dif_pos (by omega), ← hR]
  exact congrArg (qgain (m ((c : Thread nD τ).loc main_arg4))) (Fin.ext (by
    show (64 * h.val + d.val) % 64 = d.val; omega))

/-- The gain of the keys' lanes. -/
theorem entry_v18_key (c : Dev nD) (h : Fin 16) (d : Fin 64) :
    V m c main_v18 (ix2 0 (⟨1024 + 64 * h.val + d.val, by omega⟩ : Fin 2048)) = m ((c : Thread nD τ).loc main_arg5) (ix2 0 d) := by
  generalize hR : m ((c : Thread nD τ).loc main_arg5) (ix2 0 d) = R
  simp only [V, hostOps0, hostOps0_1, hostOps0_2, List.flatten_cons, List.flatten_nil, List.append_nil, List.cons_append,
    List.nil_append, StableHlo.TRef.binary, StableHlo.TRef.nullary, StableHlo.TRef.unary, StableHlo.TRef.toBuf,
    StableHlo.TRef.ofBuf, cast_eq]
  entry_read
  pointwise
  have h1 := h.isLt; have h2 := d.isLt
  rw [dif_neg (by omega), ← hR]
  exact congrArg (fun a => m ((c : Thread nD τ).loc main_arg5) (ix2 0 a)) (Fin.ext (by simp; omega))

section Blocks

variable (c : Dev nD) (t : Fin cfg0.N)

/-- The place of the written block in the result array: its batch and the row of its row `r`. -/
abbrev at0 : Fin 4 := ⟨(grid0.coords t 0).val, lt_of_lt_of_le (grid0.coords t 0).isLt (by decide)⟩
theorem at1_lt (r : Fin 1024) : (grid0.coords t 1).val * 1024 + r.val < 4096 := by
  have h : (grid0.coords t 1).val < 4 := lt_of_lt_of_le (grid0.coords t 1).isLt (by decide)
  omega
abbrev at1 (r : Fin 1024) : Fin 4096 := ⟨(grid0.coords t 1).val * 1024 + r.val, at1_lt t r⟩

theorem blk0 (r k : Fin 1024) : iblk m c 0 t (ix3 0 r k) = m ((c : Thread nD τ).loc main_arg0) (ix3 (at0 t) (at1 t r) k) := by
  blk_ext! [iblk, V, idx t]

theorem blk1 (k : Fin 1024) : mrow (grid0.coords t) (iblk m c 1 t) k
    = m ((c : Thread nD τ).loc main_arg1) (ix3 0 (at0 t) ⟨3072 + k.val, by omega⟩) := by
  show iblk m c 1 t (ix3 0 ⟨(grid0.coords t 0).val, _⟩ k) = _
  refine Eq.trans (b := V m c main_v0 _) ?_ (entry_v0 m c 0 (at0 t) ⟨3072 + k.val, by omega⟩)
  blk_ext [iblk, idx t]

theorem blk2 (k : Fin 1024) : mrow (grid0.coords t) (iblk m c 2 t) k
    = m ((c : Thread nD τ).loc main_arg1) (ix3 0 (at0 t) ⟨4096 + k.val, by omega⟩) := by
  show iblk m c 2 t (ix3 0 ⟨(grid0.coords t 0).val, _⟩ k) = _
  refine Eq.trans (b := V m c main_v0 _) ?_ (entry_v0 m c 0 (at0 t) ⟨4096 + k.val, by omega⟩)
  blk_ext [iblk, idx t]

theorem blk3 (k : Fin 1024) : iblk m c 3 t (ix2 0 k) = m ((c : Thread nD τ).loc main_arg2) (ix3 0 1 k) := by
  refine Eq.trans (b := V m c main_v21 _) ?_ (entry_v21 m c k)
  blk_ext [iblk, idx t]

theorem blk4 (k : Fin 1024) (l : Fin 2048) : iblk m c 4 t (ix2 k l)
    = m ((c : Thread nD τ).loc main_arg3) (ix3 0 k (⟨l.val, by omega⟩ : Fin 3072)) := by
  refine Eq.trans (b := V m c main_v22 _) ?_ (entry_v22 m c k l)
  blk_ext [iblk, idx t]

theorem blk5 (l k : Fin 1024) : iblk m c 5 t (ix2 l k)
    = m ((c : Thread nD τ).loc main_arg3) (ix3 0 k (⟨2048 + l.val, by omega⟩ : Fin 3072)) := by
  refine Eq.trans (b := V m c main_v24 _) ?_ (entry_v24 m c l k)
  blk_ext [iblk, idx t]

theorem blk6 (l : Fin 2048) : iblk m c 6 t (ix2 0 l) = V m c main_v18 (ix2 0 l) := by
  blk_ext [iblk, idx t]

/-- The modulated norm the body takes is the reference's. -/
theorem bh_eq (r k : Fin 1024) :
    bh (grid0.coords t) (iblk m c 0 t) (iblk m c 1 t) (iblk m c 2 t) (iblk m c 3 t) (ix2 r k)
    = hrow (m ((c : Thread nD τ).loc main_arg0)) (m ((c : Thread nD τ).loc main_arg1)) (m ((c : Thread nD τ).loc main_arg2)) (at0 t) (at1 t r) k := by
  rw [bh, pay2_apply, ld_row, ld_row, funext (blk0 m c t r), funext (blk1 m c t), funext (blk2 m c t), funext (blk3 m c t)]
  rfl

/-- Where the written blocks' places sit in the result arrays. -/
theorem emb7 (r : Fin 1024) (l : Fin 2048) :
    ((cfg0.win 7).blk t).view.emb (ix3 0 r l : S1x1024x2048.Idx) = (ix3 (at0 t) (at1 t r) l : S4x4096x2048.Idx) := by
  blk_ext [idx t]

theorem emb8 (l r : Fin 1024) :
    ((cfg0.win 8).blk t).view.emb (ix3 0 l r : S1x1024x1024.Idx) = (ix3 (at0 t) l (at1 t r) : S4x1024x4096.Idx) := by
  blk_ext [idx t]

end Blocks

set_option maxHeartbeats 4000000 in
/-- What a grid point leaves in its block of the queries and keys. -/
theorem point7 (c : Dev nD) (t : Fin cfg0.N) (y : S1x1024x2048.Idx) : (outsAt0 m c t).1 y
    = out7 (bh (grid0.coords t) (iblk m c 0 t) (iblk m c 1 t) (iblk m c 2 t) (iblk m c 3 t)) (iblk m c 4 t) (iblk m c 6 t) (y 1) (y 2) := by
  unfold outsAt0; frame_out
  canon_tiles x h
  case piece0 =>
    exact piece _ _ _ 1536 384 (by omega) (by omega) (by omega) _ _ (by decide) (by decide)
      (fun k l => ld_cols _ 1536 (by omega) _ k l) (fun l => ld_gain _ (1536 + 384) (by omega) _ l) x _ _ h1 (by omega)
  case piece1 =>
    exact piece _ _ _ 1536 256 (by omega) (by omega) (by omega) _ _ (by decide) (by decide)
      (fun k l => ld_cols _ 1536 (by omega) _ k l) (fun l => ld_gain _ (1536 + 256) (by omega) _ l) x _ _ h1 (by omega)
  case piece2 =>
    exact piece _ _ _ 1536 128 (by omega) (by omega) (by omega) _ _ (by decide) (by decide)
      (fun k l => ld_cols _ 1536 (by omega) _ k l) (fun l => ld_gain _ (1536 + 128) (by omega) _ l) x _ _ h1 (by omega)
  case piece3 =>
    exact piece _ _ _ 1536 0 (by omega) (by omega) (by omega) _ _ (by decide) (by decide)
      (fun k l => ld_cols _ 1536 (by omega) _ k l) (fun l => ld_gain _ (1536 + 0) (by omega) _ l) x _ _ h1 (by omega)
  case piece4 =>
    exact piece _ _ _ 1024 384 (by omega) (by omega) (by omega) _ _ (by decide) (by decide)
      (fun k l => ld_cols _ 1024 (by omega) _ k l) (fun l => ld_gain _ (1024 + 384) (by omega) _ l) x _ _ h1 (by omega)
  case piece5 =>
    exact piece _ _ _ 1024 256 (by omega) (by omega) (by omega) _ _ (by decide) (by decide)
      (fun k l => ld_cols _ 1024 (by omega) _ k l) (fun l => ld_gain _ (1024 + 256) (by omega) _ l) x _ _ h1 (by omega)
  case piece6 =>
    exact piece _ _ _ 1024 128 (by omega) (by omega) (by omega) _ _ (by decide) (by decide)
      (fun k l => ld_cols _ 1024 (by omega) _ k l) (fun l => ld_gain _ (1024 + 128) (by omega) _ l) x _ _ h1 (by omega)
  case piece7 =>
    exact piece _ _ _ 1024 0 (by omega) (by omega) (by omega) _ _ (by decide) (by decide)
      (fun k l => ld_cols _ 1024 (by omega) _ k l) (fun l => ld_gain _ (1024 + 0) (by omega) _ l) x _ _ h1 (by omega)
  case piece8 =>
    exact piece _ _ _ 512 384 (by omega) (by omega) (by omega) _ _ (by decide) (by decide)
      (fun k l => ld_cols _ 512 (by omega) _ k l) (fun l => ld_gain _ (512 + 384) (by omega) _ l) x _ _ h1 (by omega)
  case piece9 =>
    exact piece _ _ _ 512 256 (by omega) (by omega) (by omega) _ _ (by decide) (by decide)
      (fun k l => ld_cols _ 512 (by omega) _ k l) (fun l => ld_gain _ (512 + 256) (by omega) _ l) x _ _ h1 (by omega)
  case piece10 =>
    exact piece _ _ _ 512 128 (by omega) (by omega) (by omega) _ _ (by decide) (by decide)
      (fun k l => ld_cols _ 512 (by omega) _ k l) (fun l => ld_gain _ (512 + 128) (by omega) _ l) x _ _ h1 (by omega)
  case piece11 =>
    exact piece _ _ _ 512 0 (by omega) (by omega) (by omega) _ _ (by decide) (by decide)
      (fun k l => ld_cols _ 512 (by omega) _ k l) (fun l => ld_gain _ (512 + 0) (by omega) _ l) x _ _ h1 (by omega)
  case piece12 =>
    exact piece _ _ _ 0 384 (by omega) (by omega) (by omega) _ _ (by decide) (by decide)
      (fun k l => ld_cols _ 0 (by omega) _ k l) (fun l => ld_gain _ (0 + 384) (by omega) _ l) x _ _ h1 (by omega)
  case piece13 =>
    exact piece _ _ _ 0 256 (by omega) (by omega) (by omega) _ _ (by decide) (by decide)
      (fun k l => ld_cols _ 0 (by omega) _ k l) (fun l => ld_gain _ (0 + 256) (by omega) _ l) x _ _ h1 (by omega)
  case piece14 =>
    exact piece _ _ _ 0 128 (by omega) (by omega) (by omega) _ _ (by decide) (by decide)
      (fun k l => ld_cols _ 0 (by omega) _ k l) (fun l => ld_gain _ (0 + 128) (by omega) _ l) x _ _ h1 (by omega)
  case piece15 =>
    exact piece _ _ _ 0 0 (by omega) (by omega) (by omega) _ _ (by decide) (by decide)
      (fun k l => ld_cols _ 0 (by omega) _ k l) (fun l => ld_gain _ (0 + 0) (by omega) _ l) x _ _ h1 (by omega)

set_option maxHeartbeats 4000000 in
/-- What a grid point leaves in its block of the values. -/
theorem point8 (c : Dev nD) (t : Fin cfg0.N) (y : S1x1024x1024.Idx) : (outsAt0 m c t).2 y
    = ∑ k : Fin 1024, bh (grid0.coords t) (iblk m c 0 t) (iblk m c 1 t) (iblk m c 2 t) (iblk m c 3 t) (ix2 (y 2) k)
        * iblk m c 5 t (ix2 (y 1) k) := by
  unfold outsAt0; frame_out
  canon_tiles x h
  case piece0 => exact values _ _ 512 (by omega) _ (fun l k => ld_rows _ 512 (by omega) _ l k) x _ _ h1 h2
  case piece1 => exact values _ _ 0 (by omega) _ (fun l k => ld_rows _ 0 (by omega) _ l k) x _ _ (by omega) h2

/-- The columns of a head's lanes. -/
theorem out7_apply (h : FVec Ideal S1024x1024 .bf16) (w : FVec Ideal S1024x2048 .bf16) (g : FVec Ideal S1x2048 .f32)
    (r : Fin 1024) (n : Fin 32) (d : Fin 64) : out7 h w g r ⟨64 * n.val + d.val, by omega⟩
      = headed (fun d => ∑ k : Fin 1024, h (ix2 r k) * w (ix2 k (⟨64 * n.val + d.val, by omega⟩ : Fin 2048)))
        (fun d => g (ix2 0 (⟨64 * n.val + d.val, by omega⟩ : Fin 2048))) d := by
  have e : (64 * n.val + d.val) / 64 = n.val := by omega
  have e' : (⟨(64 * n.val + d.val) % 64, by omega⟩ : Fin 64) = d := Fin.ext (by show (64 * n.val + d.val) % 64 = d.val; omega)
  unfold out7
  simp only [e, e']

section Final

variable (c : Dev nD) (t : Fin cfg0.N)

/-- The reference's queries and keys over the kernel's argument arrays, at the place of a lane of the block. -/
theorem point_query (r : Fin 1024) (h : Fin 16) (d : Fin 64) :
    out7 (bh (grid0.coords t) (iblk m c 0 t) (iblk m c 1 t) (iblk m c 2 t) (iblk m c 3 t)) (iblk m c 4 t) (iblk m c 6 t) r
      ⟨64 * h.val + d.val, by omega⟩
    = query (m ((c : Thread nD τ).loc main_arg0)) (m ((c : Thread nD τ).loc main_arg1)) (m ((c : Thread nD τ).loc main_arg2)) (m ((c : Thread nD τ).loc main_arg3)) (m ((c : Thread nD τ).loc main_arg4)) (at0 t) (at1 t r) h d := by
  refine (out7_apply _ _ _ r ⟨h.val, by omega⟩ d).trans ?_
  simp only [bh_eq, blk4, blk6]
  refine (congrArg (fun g => headed _ g d) (funext fun d => entry_v18_query m c h d)).trans ?_
  exact headed_mul _ _ _ _

theorem point_key (r : Fin 1024) (h : Fin 16) (d : Fin 64) :
    out7 (bh (grid0.coords t) (iblk m c 0 t) (iblk m c 1 t) (iblk m c 2 t) (iblk m c 3 t)) (iblk m c 4 t) (iblk m c 6 t) r
      ⟨1024 + 64 * h.val + d.val, by omega⟩
    = key (m ((c : Thread nD τ).loc main_arg0)) (m ((c : Thread nD τ).loc main_arg1)) (m ((c : Thread nD τ).loc main_arg2)) (m ((c : Thread nD τ).loc main_arg3)) (m ((c : Thread nD τ).loc main_arg5)) (at0 t) (at1 t r) h d := by
  have e : ∀ d : Fin 64, (⟨64 * (16 + h.val) + d.val, by omega⟩ : Fin 2048) = ⟨1024 + 64 * h.val + d.val, by omega⟩ :=
    fun d => Fin.ext (by simp; omega)
  rw [← e d]
  refine (out7_apply _ _ _ r ⟨16 + h.val, by omega⟩ d).trans ?_
  simp only [e, bh_eq, blk4, blk6]
  refine (congrArg (fun g => headed _ g d) (funext fun d => entry_v18_key m c h d)).trans ?_
  rfl

end Final

/-- The first result array after the run is the reference's. -/
theorem final7 (c : Dev nD) : (dats m 0 c).arrAt 7 cfg0.N
    = val_main_v83 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 7 _ (by decide +kernel) fun t _ y => ?_
  blk_simp
  rw [after0_7, point7]
  obtain ⟨r, l, rfl⟩ : ∃ (r : Fin 1024) (l : Fin 2048), y = (ix3 0 r l : S1x1024x2048.Idx) :=
    ⟨y 1, y 2, (eq_ix3 y).trans (congrArg (fun a : Fin 1 => ix3 a (y 1) (y 2)) (Subsingleton.elim (α := Fin 1) _ _))⟩
  refine Eq.trans ?_ (congrArg _ (emb7 t r l)).symm
  show out7 _ _ _ r l = _
  have hl := l.isLt
  by_cases hq : l.val < 1024
  · obtain ⟨h, d, e⟩ : ∃ (h : Fin 16) (d : Fin 64), l = ⟨64 * h.val + d.val, by omega⟩ :=
      ⟨⟨l.val / 64, by omega⟩, ⟨l.val % 64, by omega⟩, Fin.ext (by simp; omega)⟩
    rw [e]
    exact (point_query m c t r h d).trans (v83_query _ _ _ _ _ _ (at0 t) (at1 t r) h d).symm
  · obtain ⟨h, d, e⟩ : ∃ (h : Fin 16) (d : Fin 64), l = ⟨1024 + 64 * h.val + d.val, by omega⟩ :=
      ⟨⟨(l.val - 1024) / 64, by omega⟩, ⟨l.val % 64, by omega⟩, Fin.ext (by simp; omega)⟩
    rw [e]
    exact (point_key m c t r h d).trans (v83_key _ _ _ _ _ _ (at0 t) (at1 t r) h d).symm

/-- The second result array after the run is the reference's. -/
theorem final8 (c : Dev nD) : (dats m 0 c).arrAt 8 cfg0.N
    = val_main_v84 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 8 _ (by decide +kernel) fun t _ y => ?_
  blk_simp
  rw [after0_8, point8]
  obtain ⟨l, r, rfl⟩ : ∃ (l r : Fin 1024), y = (ix3 0 l r : S1x1024x1024.Idx) :=
    ⟨y 1, y 2, (eq_ix3 y).trans (congrArg (fun a : Fin 1 => ix3 a (y 1) (y 2)) (Subsingleton.elim (α := Fin 1) _ _))⟩
  refine Eq.trans ?_ (congrArg _ (emb8 t l r)).symm
  refine Eq.trans ?_ (v84_apply _ _ _ _ (at0 t) l (at1 t r)).symm
  show (∑ k : Fin 1024, bh (grid0.coords t) (iblk m c 0 t) (iblk m c 1 t) (iblk m c 2 t) (iblk m c 3 t) (ix2 r k)
        * iblk m c 5 t (ix2 l k)) = _
  simp only [bh_eq, blk5]
  rfl

end Cert.Kernel4Ideal.Proj
-- ==== Proof.Proj.Claim.lean ====
/-
  The claim about the block attention's projection: over the extended reals the kernel and the reference end with the same
  two arrays, the normed queries and keys and the values.
-/
module

public import proofs.«01_k».proof.Defs
public import proofs.«01_k».proof.Proof.Proj.Value
public import proofs.«01_k».proof.Proof.Gen.Reference4Ideal.Run
public import Idealize.ShloMosaic.Lib.Claim

@[expose] public section

noncomputable section

open Idealize.ShloMosaic Idealize.ShloMosaic.TcCoe Idealize.SL.Sem

namespace Cert.Proj

theorem claim : algebraic_Kernel4Ideal_Reference4Ideal (hKernel4Ideal := Kernel4Ideal.Gen.facts)
    (hReference4Ideal := Reference4Ideal.Gen.facts) := by
  intro m g m' g' _ hargs
  refine ⟨fun c => (Kernel4Ideal.Gen.dats m 0 c).arrAt 7 Kernel4Ideal.cfg0.N,
    fun c => (Kernel4Ideal.Gen.dats m 0 c).arrAt 8 Kernel4Ideal.cfg0.N,
    Kernel4Ideal.Value.run_blocks m g,
    (θ_run _ _ _).mono (fun r h c => ?_) (Reference4Ideal.Value.run m' g')⟩
  obtain ⟨h0, h1, h2, h3, h4, h5⟩ := hargs c
  refine ⟨(h c).1.trans ?_, (h c).2.1.trans ?_, (h c).2.2⟩
  · refine Eq.trans ?_ (Kernel4Ideal.Proj.final7 m c).symm
    refine (Reference4Ideal.Read.val_main_v83_eq m' c).trans ?_
    rw [h0, h1, h2, h3, h4, h5]
  · refine Eq.trans ?_ (Kernel4Ideal.Proj.final8 m c).symm
    refine (Reference4Ideal.Read.val_main_v84_eq _ _ _ _).trans ?_
    rw [h0, h1, h2, h3]

end Cert.Proj
-- ==== Proof.Latent.RunIdeal.lean ====
/-
  The run of the latent projections' body at a grid point: on whole staging buffers it reads its inputs and leaves the pieces
  it stores in its three outputs.
-/
module

public import proofs.«01_k».proof.Proof.Gen.Kernel5Ideal.Frame.Runs

@[expose] public section

set_option maxRecDepth 16384

noncomputable section

namespace Cert.Kernel5Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 8000000 in
/-- The pieces the body's stores leave in each output's staging buffer, last first, with the proof that the body runs from
    its inputs' contents to these pieces written over whatever the outputs held. -/
noncomputable def kernelRun0_A (c : Dev nD) (i : grid0.Coords) (arg2 : Memref sig .tc .vmem S1x512x1024 .f32) (harg2 : arg2.IsWhole) (arg3 : Memref sig .tc .vmem S1x8x1024 .f32) (harg3 : arg3.IsWhole) (arg4 : Memref sig .tc .vmem S1x8x1024 .f32) (harg4 : arg4.IsWhole) (arg5 : Memref sig .tc .vmem S1x1024 .f32) (harg5 : arg5.IsWhole) (arg6 : Memref sig .tc .vmem S1024x384 .bf16) (harg6 : arg6.IsWhole) (arg7 : Memref sig .tc .vmem S1x384 .f32) (harg7 : arg7.IsWhole) (arg8 : Memref sig .tc .vmem S384x2048 .bf16) (harg8 : arg8.IsWhole) (arg9 : Memref sig .tc .vmem S384x2048 .bf16) (harg9 : arg9.IsWhole) (arg10 : Memref sig .tc .vmem S1x128 .f32) (harg10 : arg10.IsWhole) (arg11 : Memref sig .tc .vmem S1x128 .f32) (harg11 : arg11.IsWhole) (arg12 : Memref sig .tc .vmem S1x8x1024 .f32) (harg12 : arg12.IsWhole) (arg13 : Memref sig .tc .vmem S1x8x1024 .f32) (harg13 : arg13.IsWhole) (arg14 : Memref sig .tc .vmem S1x1024 .f32) (harg14 : arg14.IsWhole) (arg15 : Memref sig .tc .vmem S1024x384 .bf16) (harg15 : arg15.IsWhole) (arg16 : Memref sig .tc .vmem S1x256 .f32) (harg16 : arg16.IsWhole) (arg17 : Memref sig .tc .vmem S256x2048 .bf16) (harg17 : arg17.IsWhole) (arg18 : Memref sig .tc .vmem S1024x256 .bf16) (harg18 : arg18.IsWhole) (arg19 : Memref sig .tc .vmem S1x128 .f32) (harg19 : arg19.IsWhole) (arg20 : Memref sig .tc .vmem S1x128 .f32) (harg20 : arg20.IsWhole) (arg21 : Memref sig .tc .vmem S1x512x1 .i32) (harg21 : arg21.IsWhole) (arg22 : Memref sig .tc .vmem S1x128 .f32) (harg22 : arg22.IsWhole) (arg23 : Memref sig .tc .vmem S1x512x2048 .bf16) (harg23 : arg23.IsWhole) (arg24 : Memref sig .tc .vmem S1x512x2048 .bf16) (harg24 : arg24.IsWhole) (arg25 : Memref sig .tc .vmem S1x1024x512 .bf16) (harg25 : arg25.IsWhole)
    (x0 : Vec F S1x512x1024 .f32) (x1 : Vec F S1x8x1024 .f32) (x2 : Vec F S1x8x1024 .f32) (x3 : Vec F S1x1024 .f32) (x4 : Vec F S1024x384 .bf16) (x5 : Vec F S1x384 .f32) (x6 : Vec F S384x2048 .bf16) (x7 : Vec F S384x2048 .bf16) (x8 : Vec F S1x128 .f32) (x9 : Vec F S1x128 .f32) (x10 : Vec F S1x8x1024 .f32) (x11 : Vec F S1x8x1024 .f32) (x12 : Vec F S1x1024 .f32) (x13 : Vec F S1024x384 .bf16) (x14 : Vec F S1x256 .f32) (x15 : Vec F S256x2048 .bf16) (x16 : Vec F S1024x256 .bf16) (x17 : Vec F S1x128 .f32) (x18 : Vec F S1x128 .f32) (x19 : Vec F S1x512x1 .i32) (x20 : Vec F S1x128 .f32) :
    Σ' (L21 : List (View.Piece (Elt F) S1x512x2048 .bf16)), Σ' (L22 : List (View.Piece (Elt F) S1x512x2048 .bf16)), { L23 : List (View.Piece (Elt F) S1x1024x512 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare x20 ∗ (∃ d, owns (c : Thread nD τ) arg23 fullShare d) ∗ (∃ d, owns (c : Thread nD τ) arg24 fullShare d) ∗ (∃ d, owns (c : Thread nD τ) arg25 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare x20 ∗ (∃ f, arg23.view.loc (c : Thread nD τ) ↦[arg23.view.set]{fullShare} arg23.view.writes (Elt F) f L21) ∗ (∃ f, arg24.view.loc (c : Thread nD τ) ↦[arg24.view.set]{fullShare} arg24.view.writes (Elt F) f L22) ∗ (∃ f, arg25.view.loc (c : Thread nD τ) ↦[arg25.view.set]{fullShare} arg25.view.writes (Elt F) f L23)) -∗ K ⟨⟩))
          ⊢ wp frame (wpE (defs₀ (F := F)) Variants.none c none) E (cc0_mla_qkv_proj i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K } := by
  refine ⟨?_, ?_, ?_, fun E K => ?run⟩
  case run =>
    simp only [cc0_mla_qkv_proj_eq_skeleton]; unfold cc0_mla_qkv_proj_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%d21, %f21, -, H21⟩, ⟨%d22, %f22, -, H22⟩, ⟨%d23, %f23, -, H23⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16; obtain rfl := harg19.eq_unread hf17; obtain rfl := harg20.eq_unread hf18; obtain rfl := harg21.eq_unread hf19; obtain rfl := harg22.eq_unread hf20
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [H16]
    · iexists _; isplitr; · ipureintro; exact harg18.read_unread _
      iexact H16
    isplitl [H17]
    · iexists _; isplitr; · ipureintro; exact harg19.read_unread _
      iexact H17
    isplitl [H18]
    · iexists _; isplitr; · ipureintro; exact harg20.read_unread _
      iexact H18
    isplitl [H19]
    · iexists _; isplitr; · ipureintro; exact harg21.read_unread _
      iexact H19
    isplitl [H20]
    · iexists _; isplitr; · ipureintro; exact harg22.read_unread _
      iexact H20
    isplitl [H21]; · iexists _; iexact H21
    isplitl [H22]; · iexists _; iexact H22
    iexists _; iexact H23

end Cert.Kernel5Ideal.Gen

end
-- ==== Proof.Latent.FrameIdeal.lean ====
/-
  What the latent projections' outputs hold point by point, the program's run, and its frame.
-/
module

public import proofs.«01_k».proof.Proof.Latent.RunIdeal
public import Idealize.ShloMosaic.Lib.Claim

@[expose] public section

set_option maxHeartbeats 4000000
set_option maxRecDepth 16384

noncomputable section

namespace Cert.Kernel5Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-- The run's pieces for output 21 cover its block. -/
theorem cover0_A_21 (c : Dev nD) (i : grid0.Coords) (arg2 : Memref sig .tc .vmem S1x512x1024 .f32) (harg2 : arg2.IsWhole) (arg3 : Memref sig .tc .vmem S1x8x1024 .f32) (harg3 : arg3.IsWhole) (arg4 : Memref sig .tc .vmem S1x8x1024 .f32) (harg4 : arg4.IsWhole) (arg5 : Memref sig .tc .vmem S1x1024 .f32) (harg5 : arg5.IsWhole) (arg6 : Memref sig .tc .vmem S1024x384 .bf16) (harg6 : arg6.IsWhole) (arg7 : Memref sig .tc .vmem S1x384 .f32) (harg7 : arg7.IsWhole) (arg8 : Memref sig .tc .vmem S384x2048 .bf16) (harg8 : arg8.IsWhole) (arg9 : Memref sig .tc .vmem S384x2048 .bf16) (harg9 : arg9.IsWhole) (arg10 : Memref sig .tc .vmem S1x128 .f32) (harg10 : arg10.IsWhole) (arg11 : Memref sig .tc .vmem S1x128 .f32) (harg11 : arg11.IsWhole) (arg12 : Memref sig .tc .vmem S1x8x1024 .f32) (harg12 : arg12.IsWhole) (arg13 : Memref sig .tc .vmem S1x8x1024 .f32) (harg13 : arg13.IsWhole) (arg14 : Memref sig .tc .vmem S1x1024 .f32) (harg14 : arg14.IsWhole) (arg15 : Memref sig .tc .vmem S1024x384 .bf16) (harg15 : arg15.IsWhole) (arg16 : Memref sig .tc .vmem S1x256 .f32) (harg16 : arg16.IsWhole) (arg17 : Memref sig .tc .vmem S256x2048 .bf16) (harg17 : arg17.IsWhole) (arg18 : Memref sig .tc .vmem S1024x256 .bf16) (harg18 : arg18.IsWhole) (arg19 : Memref sig .tc .vmem S1x128 .f32) (harg19 : arg19.IsWhole) (arg20 : Memref sig .tc .vmem S1x128 .f32) (harg20 : arg20.IsWhole) (arg21 : Memref sig .tc .vmem S1x512x1 .i32) (harg21 : arg21.IsWhole) (arg22 : Memref sig .tc .vmem S1x128 .f32) (harg22 : arg22.IsWhole) (arg23 : Memref sig .tc .vmem S1x512x2048 .bf16) (harg23 : arg23.IsWhole) (arg24 : Memref sig .tc .vmem S1x512x2048 .bf16) (harg24 : arg24.IsWhole) (arg25 : Memref sig .tc .vmem S1x1024x512 .bf16) (harg25 : arg25.IsWhole)
    (x0 : Vec F S1x512x1024 .f32) (x1 : Vec F S1x8x1024 .f32) (x2 : Vec F S1x8x1024 .f32) (x3 : Vec F S1x1024 .f32) (x4 : Vec F S1024x384 .bf16) (x5 : Vec F S1x384 .f32) (x6 : Vec F S384x2048 .bf16) (x7 : Vec F S384x2048 .bf16) (x8 : Vec F S1x128 .f32) (x9 : Vec F S1x128 .f32) (x10 : Vec F S1x8x1024 .f32) (x11 : Vec F S1x8x1024 .f32) (x12 : Vec F S1x1024 .f32) (x13 : Vec F S1024x384 .bf16) (x14 : Vec F S1x256 .f32) (x15 : Vec F S256x2048 .bf16) (x16 : Vec F S1024x256 .bf16) (x17 : Vec F S1x128 .f32) (x18 : Vec F S1x128 .f32) (x19 : Vec F S1x512x1 .i32) (x20 : Vec F S1x128 .f32) (y : S1x512x2048.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13 x14 x15 x16 x17 x18 x19 x20).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13 x14 x15 x16 x17 x18 x19 x20).1 S1x512x128.size (by sl_kernel_rfl) y

/-- What the run leaves in output 21's staging buffer: its pieces read back over junk. -/
def out0_A_21 (c : Dev nD) (i : grid0.Coords) (arg2 : Memref sig .tc .vmem S1x512x1024 .f32) (harg2 : arg2.IsWhole) (arg3 : Memref sig .tc .vmem S1x8x1024 .f32) (harg3 : arg3.IsWhole) (arg4 : Memref sig .tc .vmem S1x8x1024 .f32) (harg4 : arg4.IsWhole) (arg5 : Memref sig .tc .vmem S1x1024 .f32) (harg5 : arg5.IsWhole) (arg6 : Memref sig .tc .vmem S1024x384 .bf16) (harg6 : arg6.IsWhole) (arg7 : Memref sig .tc .vmem S1x384 .f32) (harg7 : arg7.IsWhole) (arg8 : Memref sig .tc .vmem S384x2048 .bf16) (harg8 : arg8.IsWhole) (arg9 : Memref sig .tc .vmem S384x2048 .bf16) (harg9 : arg9.IsWhole) (arg10 : Memref sig .tc .vmem S1x128 .f32) (harg10 : arg10.IsWhole) (arg11 : Memref sig .tc .vmem S1x128 .f32) (harg11 : arg11.IsWhole) (arg12 : Memref sig .tc .vmem S1x8x1024 .f32) (harg12 : arg12.IsWhole) (arg13 : Memref sig .tc .vmem S1x8x1024 .f32) (harg13 : arg13.IsWhole) (arg14 : Memref sig .tc .vmem S1x1024 .f32) (harg14 : arg14.IsWhole) (arg15 : Memref sig .tc .vmem S1024x384 .bf16) (harg15 : arg15.IsWhole) (arg16 : Memref sig .tc .vmem S1x256 .f32) (harg16 : arg16.IsWhole) (arg17 : Memref sig .tc .vmem S256x2048 .bf16) (harg17 : arg17.IsWhole) (arg18 : Memref sig .tc .vmem S1024x256 .bf16) (harg18 : arg18.IsWhole) (arg19 : Memref sig .tc .vmem S1x128 .f32) (harg19 : arg19.IsWhole) (arg20 : Memref sig .tc .vmem S1x128 .f32) (harg20 : arg20.IsWhole) (arg21 : Memref sig .tc .vmem S1x512x1 .i32) (harg21 : arg21.IsWhole) (arg22 : Memref sig .tc .vmem S1x128 .f32) (harg22 : arg22.IsWhole) (arg23 : Memref sig .tc .vmem S1x512x2048 .bf16) (harg23 : arg23.IsWhole) (arg24 : Memref sig .tc .vmem S1x512x2048 .bf16) (harg24 : arg24.IsWhole) (arg25 : Memref sig .tc .vmem S1x1024x512 .bf16) (harg25 : arg25.IsWhole)
    (x0 : Vec F S1x512x1024 .f32) (x1 : Vec F S1x8x1024 .f32) (x2 : Vec F S1x8x1024 .f32) (x3 : Vec F S1x1024 .f32) (x4 : Vec F S1024x384 .bf16) (x5 : Vec F S1x384 .f32) (x6 : Vec F S384x2048 .bf16) (x7 : Vec F S384x2048 .bf16) (x8 : Vec F S1x128 .f32) (x9 : Vec F S1x128 .f32) (x10 : Vec F S1x8x1024 .f32) (x11 : Vec F S1x8x1024 .f32) (x12 : Vec F S1x1024 .f32) (x13 : Vec F S1024x384 .bf16) (x14 : Vec F S1x256 .f32) (x15 : Vec F S256x2048 .bf16) (x16 : Vec F S1024x256 .bf16) (x17 : Vec F S1x128 .f32) (x18 : Vec F S1x128 .f32) (x19 : Vec F S1x512x1 .i32) (x20 : Vec F S1x128 .f32) : Vec F S1x512x2048 .bf16 :=
  VO0_21.read (Elt F) (VO0_21.writes (Elt F) VO0_21.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13 x14 x15 x16 x17 x18 x19 x20).1)

/-- The run's pieces for output 22 cover its block. -/
theorem cover0_A_22 (c : Dev nD) (i : grid0.Coords) (arg2 : Memref sig .tc .vmem S1x512x1024 .f32) (harg2 : arg2.IsWhole) (arg3 : Memref sig .tc .vmem S1x8x1024 .f32) (harg3 : arg3.IsWhole) (arg4 : Memref sig .tc .vmem S1x8x1024 .f32) (harg4 : arg4.IsWhole) (arg5 : Memref sig .tc .vmem S1x1024 .f32) (harg5 : arg5.IsWhole) (arg6 : Memref sig .tc .vmem S1024x384 .bf16) (harg6 : arg6.IsWhole) (arg7 : Memref sig .tc .vmem S1x384 .f32) (harg7 : arg7.IsWhole) (arg8 : Memref sig .tc .vmem S384x2048 .bf16) (harg8 : arg8.IsWhole) (arg9 : Memref sig .tc .vmem S384x2048 .bf16) (harg9 : arg9.IsWhole) (arg10 : Memref sig .tc .vmem S1x128 .f32) (harg10 : arg10.IsWhole) (arg11 : Memref sig .tc .vmem S1x128 .f32) (harg11 : arg11.IsWhole) (arg12 : Memref sig .tc .vmem S1x8x1024 .f32) (harg12 : arg12.IsWhole) (arg13 : Memref sig .tc .vmem S1x8x1024 .f32) (harg13 : arg13.IsWhole) (arg14 : Memref sig .tc .vmem S1x1024 .f32) (harg14 : arg14.IsWhole) (arg15 : Memref sig .tc .vmem S1024x384 .bf16) (harg15 : arg15.IsWhole) (arg16 : Memref sig .tc .vmem S1x256 .f32) (harg16 : arg16.IsWhole) (arg17 : Memref sig .tc .vmem S256x2048 .bf16) (harg17 : arg17.IsWhole) (arg18 : Memref sig .tc .vmem S1024x256 .bf16) (harg18 : arg18.IsWhole) (arg19 : Memref sig .tc .vmem S1x128 .f32) (harg19 : arg19.IsWhole) (arg20 : Memref sig .tc .vmem S1x128 .f32) (harg20 : arg20.IsWhole) (arg21 : Memref sig .tc .vmem S1x512x1 .i32) (harg21 : arg21.IsWhole) (arg22 : Memref sig .tc .vmem S1x128 .f32) (harg22 : arg22.IsWhole) (arg23 : Memref sig .tc .vmem S1x512x2048 .bf16) (harg23 : arg23.IsWhole) (arg24 : Memref sig .tc .vmem S1x512x2048 .bf16) (harg24 : arg24.IsWhole) (arg25 : Memref sig .tc .vmem S1x1024x512 .bf16) (harg25 : arg25.IsWhole)
    (x0 : Vec F S1x512x1024 .f32) (x1 : Vec F S1x8x1024 .f32) (x2 : Vec F S1x8x1024 .f32) (x3 : Vec F S1x1024 .f32) (x4 : Vec F S1024x384 .bf16) (x5 : Vec F S1x384 .f32) (x6 : Vec F S384x2048 .bf16) (x7 : Vec F S384x2048 .bf16) (x8 : Vec F S1x128 .f32) (x9 : Vec F S1x128 .f32) (x10 : Vec F S1x8x1024 .f32) (x11 : Vec F S1x8x1024 .f32) (x12 : Vec F S1x1024 .f32) (x13 : Vec F S1024x384 .bf16) (x14 : Vec F S1x256 .f32) (x15 : Vec F S256x2048 .bf16) (x16 : Vec F S1024x256 .bf16) (x17 : Vec F S1x128 .f32) (x18 : Vec F S1x128 .f32) (x19 : Vec F S1x512x1 .i32) (x20 : Vec F S1x128 .f32) (y : S1x512x2048.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13 x14 x15 x16 x17 x18 x19 x20).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13 x14 x15 x16 x17 x18 x19 x20).2.1 S1x512x128.size (by sl_kernel_rfl) y

/-- What the run leaves in output 22's staging buffer: its pieces read back over junk. -/
def out0_A_22 (c : Dev nD) (i : grid0.Coords) (arg2 : Memref sig .tc .vmem S1x512x1024 .f32) (harg2 : arg2.IsWhole) (arg3 : Memref sig .tc .vmem S1x8x1024 .f32) (harg3 : arg3.IsWhole) (arg4 : Memref sig .tc .vmem S1x8x1024 .f32) (harg4 : arg4.IsWhole) (arg5 : Memref sig .tc .vmem S1x1024 .f32) (harg5 : arg5.IsWhole) (arg6 : Memref sig .tc .vmem S1024x384 .bf16) (harg6 : arg6.IsWhole) (arg7 : Memref sig .tc .vmem S1x384 .f32) (harg7 : arg7.IsWhole) (arg8 : Memref sig .tc .vmem S384x2048 .bf16) (harg8 : arg8.IsWhole) (arg9 : Memref sig .tc .vmem S384x2048 .bf16) (harg9 : arg9.IsWhole) (arg10 : Memref sig .tc .vmem S1x128 .f32) (harg10 : arg10.IsWhole) (arg11 : Memref sig .tc .vmem S1x128 .f32) (harg11 : arg11.IsWhole) (arg12 : Memref sig .tc .vmem S1x8x1024 .f32) (harg12 : arg12.IsWhole) (arg13 : Memref sig .tc .vmem S1x8x1024 .f32) (harg13 : arg13.IsWhole) (arg14 : Memref sig .tc .vmem S1x1024 .f32) (harg14 : arg14.IsWhole) (arg15 : Memref sig .tc .vmem S1024x384 .bf16) (harg15 : arg15.IsWhole) (arg16 : Memref sig .tc .vmem S1x256 .f32) (harg16 : arg16.IsWhole) (arg17 : Memref sig .tc .vmem S256x2048 .bf16) (harg17 : arg17.IsWhole) (arg18 : Memref sig .tc .vmem S1024x256 .bf16) (harg18 : arg18.IsWhole) (arg19 : Memref sig .tc .vmem S1x128 .f32) (harg19 : arg19.IsWhole) (arg20 : Memref sig .tc .vmem S1x128 .f32) (harg20 : arg20.IsWhole) (arg21 : Memref sig .tc .vmem S1x512x1 .i32) (harg21 : arg21.IsWhole) (arg22 : Memref sig .tc .vmem S1x128 .f32) (harg22 : arg22.IsWhole) (arg23 : Memref sig .tc .vmem S1x512x2048 .bf16) (harg23 : arg23.IsWhole) (arg24 : Memref sig .tc .vmem S1x512x2048 .bf16) (harg24 : arg24.IsWhole) (arg25 : Memref sig .tc .vmem S1x1024x512 .bf16) (harg25 : arg25.IsWhole)
    (x0 : Vec F S1x512x1024 .f32) (x1 : Vec F S1x8x1024 .f32) (x2 : Vec F S1x8x1024 .f32) (x3 : Vec F S1x1024 .f32) (x4 : Vec F S1024x384 .bf16) (x5 : Vec F S1x384 .f32) (x6 : Vec F S384x2048 .bf16) (x7 : Vec F S384x2048 .bf16) (x8 : Vec F S1x128 .f32) (x9 : Vec F S1x128 .f32) (x10 : Vec F S1x8x1024 .f32) (x11 : Vec F S1x8x1024 .f32) (x12 : Vec F S1x1024 .f32) (x13 : Vec F S1024x384 .bf16) (x14 : Vec F S1x256 .f32) (x15 : Vec F S256x2048 .bf16) (x16 : Vec F S1024x256 .bf16) (x17 : Vec F S1x128 .f32) (x18 : Vec F S1x128 .f32) (x19 : Vec F S1x512x1 .i32) (x20 : Vec F S1x128 .f32) : Vec F S1x512x2048 .bf16 :=
  VO0_22.read (Elt F) (VO0_22.writes (Elt F) VO0_22.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13 x14 x15 x16 x17 x18 x19 x20).2.1)

/-- The run's pieces for output 23 cover its block. -/
theorem cover0_A_23 (c : Dev nD) (i : grid0.Coords) (arg2 : Memref sig .tc .vmem S1x512x1024 .f32) (harg2 : arg2.IsWhole) (arg3 : Memref sig .tc .vmem S1x8x1024 .f32) (harg3 : arg3.IsWhole) (arg4 : Memref sig .tc .vmem S1x8x1024 .f32) (harg4 : arg4.IsWhole) (arg5 : Memref sig .tc .vmem S1x1024 .f32) (harg5 : arg5.IsWhole) (arg6 : Memref sig .tc .vmem S1024x384 .bf16) (harg6 : arg6.IsWhole) (arg7 : Memref sig .tc .vmem S1x384 .f32) (harg7 : arg7.IsWhole) (arg8 : Memref sig .tc .vmem S384x2048 .bf16) (harg8 : arg8.IsWhole) (arg9 : Memref sig .tc .vmem S384x2048 .bf16) (harg9 : arg9.IsWhole) (arg10 : Memref sig .tc .vmem S1x128 .f32) (harg10 : arg10.IsWhole) (arg11 : Memref sig .tc .vmem S1x128 .f32) (harg11 : arg11.IsWhole) (arg12 : Memref sig .tc .vmem S1x8x1024 .f32) (harg12 : arg12.IsWhole) (arg13 : Memref sig .tc .vmem S1x8x1024 .f32) (harg13 : arg13.IsWhole) (arg14 : Memref sig .tc .vmem S1x1024 .f32) (harg14 : arg14.IsWhole) (arg15 : Memref sig .tc .vmem S1024x384 .bf16) (harg15 : arg15.IsWhole) (arg16 : Memref sig .tc .vmem S1x256 .f32) (harg16 : arg16.IsWhole) (arg17 : Memref sig .tc .vmem S256x2048 .bf16) (harg17 : arg17.IsWhole) (arg18 : Memref sig .tc .vmem S1024x256 .bf16) (harg18 : arg18.IsWhole) (arg19 : Memref sig .tc .vmem S1x128 .f32) (harg19 : arg19.IsWhole) (arg20 : Memref sig .tc .vmem S1x128 .f32) (harg20 : arg20.IsWhole) (arg21 : Memref sig .tc .vmem S1x512x1 .i32) (harg21 : arg21.IsWhole) (arg22 : Memref sig .tc .vmem S1x128 .f32) (harg22 : arg22.IsWhole) (arg23 : Memref sig .tc .vmem S1x512x2048 .bf16) (harg23 : arg23.IsWhole) (arg24 : Memref sig .tc .vmem S1x512x2048 .bf16) (harg24 : arg24.IsWhole) (arg25 : Memref sig .tc .vmem S1x1024x512 .bf16) (harg25 : arg25.IsWhole)
    (x0 : Vec F S1x512x1024 .f32) (x1 : Vec F S1x8x1024 .f32) (x2 : Vec F S1x8x1024 .f32) (x3 : Vec F S1x1024 .f32) (x4 : Vec F S1024x384 .bf16) (x5 : Vec F S1x384 .f32) (x6 : Vec F S384x2048 .bf16) (x7 : Vec F S384x2048 .bf16) (x8 : Vec F S1x128 .f32) (x9 : Vec F S1x128 .f32) (x10 : Vec F S1x8x1024 .f32) (x11 : Vec F S1x8x1024 .f32) (x12 : Vec F S1x1024 .f32) (x13 : Vec F S1024x384 .bf16) (x14 : Vec F S1x256 .f32) (x15 : Vec F S256x2048 .bf16) (x16 : Vec F S1024x256 .bf16) (x17 : Vec F S1x128 .f32) (x18 : Vec F S1x128 .f32) (x19 : Vec F S1x512x1 .i32) (x20 : Vec F S1x128 .f32) (y : S1x1024x512.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13 x14 x15 x16 x17 x18 x19 x20).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13 x14 x15 x16 x17 x18 x19 x20).2.2.1 S1x1024x512.size (by sl_kernel_rfl) y

/-- What the run leaves in output 23's staging buffer: its pieces read back over junk. -/
def out0_A_23 (c : Dev nD) (i : grid0.Coords) (arg2 : Memref sig .tc .vmem S1x512x1024 .f32) (harg2 : arg2.IsWhole) (arg3 : Memref sig .tc .vmem S1x8x1024 .f32) (harg3 : arg3.IsWhole) (arg4 : Memref sig .tc .vmem S1x8x1024 .f32) (harg4 : arg4.IsWhole) (arg5 : Memref sig .tc .vmem S1x1024 .f32) (harg5 : arg5.IsWhole) (arg6 : Memref sig .tc .vmem S1024x384 .bf16) (harg6 : arg6.IsWhole) (arg7 : Memref sig .tc .vmem S1x384 .f32) (harg7 : arg7.IsWhole) (arg8 : Memref sig .tc .vmem S384x2048 .bf16) (harg8 : arg8.IsWhole) (arg9 : Memref sig .tc .vmem S384x2048 .bf16) (harg9 : arg9.IsWhole) (arg10 : Memref sig .tc .vmem S1x128 .f32) (harg10 : arg10.IsWhole) (arg11 : Memref sig .tc .vmem S1x128 .f32) (harg11 : arg11.IsWhole) (arg12 : Memref sig .tc .vmem S1x8x1024 .f32) (harg12 : arg12.IsWhole) (arg13 : Memref sig .tc .vmem S1x8x1024 .f32) (harg13 : arg13.IsWhole) (arg14 : Memref sig .tc .vmem S1x1024 .f32) (harg14 : arg14.IsWhole) (arg15 : Memref sig .tc .vmem S1024x384 .bf16) (harg15 : arg15.IsWhole) (arg16 : Memref sig .tc .vmem S1x256 .f32) (harg16 : arg16.IsWhole) (arg17 : Memref sig .tc .vmem S256x2048 .bf16) (harg17 : arg17.IsWhole) (arg18 : Memref sig .tc .vmem S1024x256 .bf16) (harg18 : arg18.IsWhole) (arg19 : Memref sig .tc .vmem S1x128 .f32) (harg19 : arg19.IsWhole) (arg20 : Memref sig .tc .vmem S1x128 .f32) (harg20 : arg20.IsWhole) (arg21 : Memref sig .tc .vmem S1x512x1 .i32) (harg21 : arg21.IsWhole) (arg22 : Memref sig .tc .vmem S1x128 .f32) (harg22 : arg22.IsWhole) (arg23 : Memref sig .tc .vmem S1x512x2048 .bf16) (harg23 : arg23.IsWhole) (arg24 : Memref sig .tc .vmem S1x512x2048 .bf16) (harg24 : arg24.IsWhole) (arg25 : Memref sig .tc .vmem S1x1024x512 .bf16) (harg25 : arg25.IsWhole)
    (x0 : Vec F S1x512x1024 .f32) (x1 : Vec F S1x8x1024 .f32) (x2 : Vec F S1x8x1024 .f32) (x3 : Vec F S1x1024 .f32) (x4 : Vec F S1024x384 .bf16) (x5 : Vec F S1x384 .f32) (x6 : Vec F S384x2048 .bf16) (x7 : Vec F S384x2048 .bf16) (x8 : Vec F S1x128 .f32) (x9 : Vec F S1x128 .f32) (x10 : Vec F S1x8x1024 .f32) (x11 : Vec F S1x8x1024 .f32) (x12 : Vec F S1x1024 .f32) (x13 : Vec F S1024x384 .bf16) (x14 : Vec F S1x256 .f32) (x15 : Vec F S256x2048 .bf16) (x16 : Vec F S1024x256 .bf16) (x17 : Vec F S1x128 .f32) (x18 : Vec F S1x128 .f32) (x19 : Vec F S1x512x1 .i32) (x20 : Vec F S1x128 .f32) : Vec F S1x1024x512 .bf16 :=
  VO0_23.read (Elt F) (VO0_23.writes (Elt F) VO0_23.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13 x14 x15 x16 x17 x18 x19 x20).2.2.1)

/-! ## What the outputs hold after each point -/

/-- What the outputs' staging buffers hold after the body at point `t` (as a tuple, in window order): the run's contents at
    the point's memrefs and input blocks. -/
def outsAt0 (c : Dev nD) (t : Fin cfg0.N) : Vec F S1x512x2048 .bf16 × Vec F S1x512x2048 .bf16 × Vec F S1x1024x512 .bf16 :=
  (out0_A_21 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t), out0_A_22 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t), out0_A_23 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t))

/-! ## The pipeline's proof data -/

/-- The proof data of the one pipeline on core `c`: the arrays as the region finds them, and what the body leaves at each
    point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => (outsAt0 m c t).1
    | ⟨22, _⟩ => (outsAt0 m c t).2.1
    | ⟨23, _⟩ => (outsAt0 m c t).2.2
    | ⟨_ + 24, h⟩ => absurd h (Nat.not_lt.2 (Nat.le_add_left _ _))
  Φ _ := Pipeline.ΦA spec0 c
  q w := Pipeline.shareOf spec0 w
  owed _ := 0

/-- The proof data's arrays are the region's contents at its entry. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = (outsAt0 m c t).1 := by dsimp only [dats]
theorem after0_22 (c : Dev nD) (t : Fin cfg0.N) : (dats m 0 c).after 22 t = (outsAt0 m c t).2.1 := by dsimp only [dats]
theorem after0_23 (c : Dev nD) (t : Fin cfg0.N) : (dats m 0 c).after 23 t = (outsAt0 m c t).2.2 := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d
theorem before0_20 (c : Dev nD) (t : Fin cfg0.N) (d) : (dats m 0 c).before 20 t d = iblk m c 20 t :=
  before0_20_of m (dats m 0 c) (A_eq m c 20) (after0_20 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t))

set_option maxHeartbeats 8000000 in
/-- The body at any point: the inputs' memrefs hold their blocks (`before0_W`); so the
    run applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23]
  unfold outsAt0
  unfold out0_A_21 out0_A_22 out0_A_23; (try dsimp only)
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩⟩
  iapply ((kernelRun0_A c (grid0.coords t) _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t)).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexists _; iexact H21
  isplitl [H22]; · iexists _; iexact H22
  isplitl [H23]; · iexists _; iexact H23
  iintro ⟨H0, H1, H2, H3, H4, H5, H6, H7, H8, H9, H10, H11, H12, H13, H14, H15, H16, H17, H18, H19, H20, ⟨%e21, H21⟩, ⟨%e22, H22⟩, ⟨%e23, H23⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]
  · unfold owns; iexists _; isplitr
    swap; · iexact H21
    ipureintro; exact View.read_writes_of_cover _ _ _ _ _ (cover0_A_21 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H22]
  · unfold owns; iexists _; isplitr
    swap; · iexact H22
    ipureintro; exact View.read_writes_of_cover _ _ _ _ _ (cover0_A_22 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  unfold owns; iexists _; isplitr
  swap; · iexact H23
  ipureintro; exact View.read_writes_of_cover _ _ _ _ _ (cover0_A_23 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- The launch: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it. -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  frame_of m ρ (dats m) (A_eq m) (run_main m ρ)

/-- The frame: from any memory with zero counters every run ends, with the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14))
      ∧ r.2.sem = fun _ => 0) :=
  θ_run_and (unchanged m ρ) ((θ_run defs _ _).mono (fun _ h => h.2) (run_main_quiescent m ρ))

end Cert.Kernel5Ideal.Gen

end
-- ==== Proof.Latent.Blocks.lean ====
/-
  The latent projections' result arrays block by block.
-/
module

public import proofs.«01_k».proof.Proof.Latent.FrameIdeal
public import Idealize.ShloMosaic.Lib.Pipeline.Value

@[expose] public section

set_option maxHeartbeats 4000000

noncomputable section

namespace Cert.Kernel5Ideal.Value

open Cert.Kernel5Ideal Cert.Kernel5Ideal.Gen Idealize.ShloMosaic Idealize.ShloMosaic.TcCoe Idealize.SL.Sem
open Idealize.ShloMosaic.Pipeline (Dat)

variable {F : FTy → Type} [FloatOps F] [Named F]
variable (m : (ℓ : Loc nD τ sig) → Buf (Elt F) ℓ) (ρ : Dev nD → PrngReg)

/-! ## Blockwise: what each point writes back, and the final array block by block -/

/-- What point `t` writes back to output window 21's array: the run's contents for that window after the body (`Gen.outsAt0`: its component 0), read through the window's block. -/
theorem flushed21 (c : Dev nD) (t : Fin cfg0.N) :
    (dats m 0 c).flushed 21 t = (cfg0.win 21).cut (grid0.coords t) ((outsAt0 m c t).1) := by
  show (cfg0.win 21).cut (grid0.coords t) ((dats m 0 c).after 21 t) = _
  rw [after0_21]

/-- So what a point writes back is the body's own contents for the window at the point's buffers and input blocks. -/
theorem flushed21_A (c : Dev nD) (t : Fin cfg0.N) :
    (dats m 0 c).flushed 21 t = (cfg0.win 21).cut (grid0.coords t) (out0_A_21 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t)) := by
  simp only [flushed21, outsAt0]

/-- The index map sends distinct grid points to distinct block indices. -/
theorem idx_inj21 : ∀ t t' : Fin cfg0.N, win0_21.index t = win0_21.index t' → t = t' :=
  (by decide +kernel : ∀ t t' : Fin grid0.N, win0_21.index t = win0_21.index t' → t = t')

/-- So two flushing points' blocks share no array index. -/
theorem disjoint21 : ∀ t t' : Fin cfg0.N, (cfg0.win 21).flush t = true → (cfg0.win 21).flush t' = true → t ≠ t' →
    Disjoint ((cfg0.win 21).blk t).view.set ((cfg0.win 21).blk t').view.set :=
  fun t t' _ _ hne => (cfg0.win 21).disjoint_blk fun h => hne (idx_inj21 t t' h)

/-- Block `t` of the final array, read back through the window, is what point `t` wrote back (`flushed21`), for every
    point that writes back: no other point's block meets it. -/
theorem blocks21 (c : Dev nD) (t : Fin cfg0.N) (hf : (cfg0.win 21).flush t = true) :
    ((cfg0.win 21).blk t).view.read (Elt F) ((dats m 0 c).arrAt 21 cfg0.N) = (dats m 0 c).flushed 21 t :=
  (dats m 0 c).read_blk_arrAt_eq_flushed 21 disjoint21 cfg0.N t t.isLt hf

/-- An index that no flushing point's block covers keeps output window 21's array contents at region entry. -/
theorem entry21 (c : Dev nD) (i : S4x4096x2048.Idx) (h : ∀ t : Fin cfg0.N, (cfg0.win 21).flush t = true → i ∉ ((cfg0.win 21).blk t).view.set) :
    (dats m 0 c).arrAt 21 cfg0.N i = V m c (Pipeline.arrRef spec0 21) i := by
  rw [(dats m 0 c).arrAt_apply_of_forall_not_mem 21 cfg0.N i (fun t _ hf => h t hf), A_eq]

/-- What point `t` writes back to output window 22's array: the run's contents for that window after the body (`Gen.outsAt0`: its component 1), read through the window's block. -/
theorem flushed22 (c : Dev nD) (t : Fin cfg0.N) :
    (dats m 0 c).flushed 22 t = (cfg0.win 22).cut (grid0.coords t) ((outsAt0 m c t).2.1) := by
  show (cfg0.win 22).cut (grid0.coords t) ((dats m 0 c).after 22 t) = _
  rw [after0_22]

/-- So what a point writes back is the body's own contents for the window at the point's buffers and input blocks. -/
theorem flushed22_A (c : Dev nD) (t : Fin cfg0.N) :
    (dats m 0 c).flushed 22 t = (cfg0.win 22).cut (grid0.coords t) (out0_A_22 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t)) := by
  simp only [flushed22, outsAt0]

/-- The index map sends distinct grid points to distinct block indices. -/
theorem idx_inj22 : ∀ t t' : Fin cfg0.N, win0_22.index t = win0_22.index t' → t = t' :=
  (by decide +kernel : ∀ t t' : Fin grid0.N, win0_22.index t = win0_22.index t' → t = t')

/-- So two flushing points' blocks share no array index. -/
theorem disjoint22 : ∀ t t' : Fin cfg0.N, (cfg0.win 22).flush t = true → (cfg0.win 22).flush t' = true → t ≠ t' →
    Disjoint ((cfg0.win 22).blk t).view.set ((cfg0.win 22).blk t').view.set :=
  fun t t' _ _ hne => (cfg0.win 22).disjoint_blk fun h => hne (idx_inj22 t t' h)

/-- Block `t` of the final array, read back through the window, is what point `t` wrote back (`flushed22`), for every
    point that writes back: no other point's block meets it. -/
theorem blocks22 (c : Dev nD) (t : Fin cfg0.N) (hf : (cfg0.win 22).flush t = true) :
    ((cfg0.win 22).blk t).view.read (Elt F) ((dats m 0 c).arrAt 22 cfg0.N) = (dats m 0 c).flushed 22 t :=
  (dats m 0 c).read_blk_arrAt_eq_flushed 22 disjoint22 cfg0.N t t.isLt hf

/-- An index that no flushing point's block covers keeps output window 22's array contents at region entry. -/
theorem entry22 (c : Dev nD) (i : S4x4096x2048.Idx) (h : ∀ t : Fin cfg0.N, (cfg0.win 22).flush t = true → i ∉ ((cfg0.win 22).blk t).view.set) :
    (dats m 0 c).arrAt 22 cfg0.N i = V m c (Pipeline.arrRef spec0 22) i := by
  rw [(dats m 0 c).arrAt_apply_of_forall_not_mem 22 cfg0.N i (fun t _ hf => h t hf), A_eq]

/-- What point `t` writes back to output window 23's array: the run's contents for that window after the body (`Gen.outsAt0`: its component 2), read through the window's block. -/
theorem flushed23 (c : Dev nD) (t : Fin cfg0.N) :
    (dats m 0 c).flushed 23 t = (cfg0.win 23).cut (grid0.coords t) ((outsAt0 m c t).2.2) := by
  show (cfg0.win 23).cut (grid0.coords t) ((dats m 0 c).after 23 t) = _
  rw [after0_23]

/-- So what a point writes back is the body's own contents for the window at the point's buffers and input blocks. -/
theorem flushed23_A (c : Dev nD) (t : Fin cfg0.N) :
    (dats m 0 c).flushed 23 t = (cfg0.win 23).cut (grid0.coords t) (out0_A_23 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t)) := by
  simp only [flushed23, outsAt0]

/-- The index map sends distinct grid points to distinct block indices. -/
theorem idx_inj23 : ∀ t t' : Fin cfg0.N, win0_23.index t = win0_23.index t' → t = t' :=
  (by decide +kernel : ∀ t t' : Fin grid0.N, win0_23.index t = win0_23.index t' → t = t')

/-- So two flushing points' blocks share no array index. -/
theorem disjoint23 : ∀ t t' : Fin cfg0.N, (cfg0.win 23).flush t = true → (cfg0.win 23).flush t' = true → t ≠ t' →
    Disjoint ((cfg0.win 23).blk t).view.set ((cfg0.win 23).blk t').view.set :=
  fun t t' _ _ hne => (cfg0.win 23).disjoint_blk fun h => hne (idx_inj23 t t' h)

/-- Block `t` of the final array, read back through the window, is what point `t` wrote back (`flushed23`), for every
    point that writes back: no other point's block meets it. -/
theorem blocks23 (c : Dev nD) (t : Fin cfg0.N) (hf : (cfg0.win 23).flush t = true) :
    ((cfg0.win 23).blk t).view.read (Elt F) ((dats m 0 c).arrAt 23 cfg0.N) = (dats m 0 c).flushed 23 t :=
  (dats m 0 c).read_blk_arrAt_eq_flushed 23 disjoint23 cfg0.N t t.isLt hf

/-- An index that no flushing point's block covers keeps output window 23's array contents at region entry. -/
theorem entry23 (c : Dev nD) (i : S4x1024x4096.Idx) (h : ∀ t : Fin cfg0.N, (cfg0.win 23).flush t = true → i ∉ ((cfg0.win 23).blk t).view.set) :
    (dats m 0 c).arrAt 23 cfg0.N i = V m c (Pipeline.arrRef spec0 23) i := by
  rw [(dats m 0 c).arrAt_apply_of_forall_not_mem 23 cfg0.N i (fun t _ hf => h t hf), A_eq]

/-- After the frame run, output window 21's array is `(dats m 0 c).arrAt 21 N`. -/
theorem post21 (r : PUnit × MemSt nD τ sig (Elt F)) (h : Pipeline.FramePost cfgs (dats m) 0 (V m) r) (c : Dev nD) :
    r.2.mem ((c : Thread nD τ).loc main_v71_0) = (dats m 0 c).arrAt 21 cfg0.N :=
  (h c).1 21

/-- After the frame run, output window 22's array is `(dats m 0 c).arrAt 22 N`. -/
theorem post22 (r : PUnit × MemSt nD τ sig (Elt F)) (h : Pipeline.FramePost cfgs (dats m) 0 (V m) r) (c : Dev nD) :
    r.2.mem ((c : Thread nD τ).loc main_v71_1) = (dats m 0 c).arrAt 22 cfg0.N :=
  (h c).1 22

/-- After the frame run, output window 23's array is `(dats m 0 c).arrAt 23 N`. -/
theorem post23 (r : PUnit × MemSt nD τ sig (Elt F)) (h : Pipeline.FramePost cfgs (dats m) 0 (V m) r) (c : Dev nD) :
    r.2.mem ((c : Thread nD τ).loc main_v71_2) = (dats m 0 c).arrAt 23 cfg0.N :=
  (h c).1 23

/-- After the run, argument `main_arg0` is as it was. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the run, argument `main_arg1` is as it was. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the run, argument `main_arg2` is as it was. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the run, argument `main_arg3` is as it was. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the run, argument `main_arg4` is as it was. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- After the run, argument `main_arg5` is as it was. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

/-- After the run, argument `main_arg6` is as it was. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

/-- After the run, argument `main_arg7` is as it was. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).2 main_arg7 (Pipeline.mem_restRefs_of main_arg7 (by decide) (by decide))).trans (V_main_arg7 m c)

/-- After the run, argument `main_arg8` is as it was. -/
theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).2 main_arg8 (Pipeline.mem_restRefs_of main_arg8 (by decide) (by decide))).trans (V_main_arg8 m c)

/-- After the run, argument `main_arg9` is as it was. -/
theorem kept_main_arg9 (r : PUnit × MemSt nD τ sig (Elt F)) (h : Pipeline.FramePost cfgs (dats m) 0 (V m) r) (c : Dev nD) :
    r.2.mem ((c : Thread nD τ).loc main_arg9) = m ((c : Thread nD τ).loc main_arg9) :=
  ((h c).2 main_arg9 (Pipeline.mem_restRefs_of main_arg9 (by decide) (by decide))).trans (V_main_arg9 m c)

/-- After the run, argument `main_arg10` is as it was. -/
theorem kept_main_arg10 (r : PUnit × MemSt nD τ sig (Elt F)) (h : Pipeline.FramePost cfgs (dats m) 0 (V m) r) (c : Dev nD) :
    r.2.mem ((c : Thread nD τ).loc main_arg10) = m ((c : Thread nD τ).loc main_arg10) :=
  ((h c).2 main_arg10 (Pipeline.mem_restRefs_of main_arg10 (by decide) (by decide))).trans (V_main_arg10 m c)

/-- After the run, argument `main_arg11` is as it was. -/
theorem kept_main_arg11 (r : PUnit × MemSt nD τ sig (Elt F)) (h : Pipeline.FramePost cfgs (dats m) 0 (V m) r) (c : Dev nD) :
    r.2.mem ((c : Thread nD τ).loc main_arg11) = m ((c : Thread nD τ).loc main_arg11) :=
  ((h c).2 main_arg11 (Pipeline.mem_restRefs_of main_arg11 (by decide) (by decide))).trans (V_main_arg11 m c)

/-- After the run, argument `main_arg12` is as it was. -/
theorem kept_main_arg12 (r : PUnit × MemSt nD τ sig (Elt F)) (h : Pipeline.FramePost cfgs (dats m) 0 (V m) r) (c : Dev nD) :
    r.2.mem ((c : Thread nD τ).loc main_arg12) = m ((c : Thread nD τ).loc main_arg12) :=
  ((h c).2 main_arg12 (Pipeline.mem_restRefs_of main_arg12 (by decide) (by decide))).trans (V_main_arg12 m c)

/-- After the run, argument `main_arg13` is as it was. -/
theorem kept_main_arg13 (r : PUnit × MemSt nD τ sig (Elt F)) (h : Pipeline.FramePost cfgs (dats m) 0 (V m) r) (c : Dev nD) :
    r.2.mem ((c : Thread nD τ).loc main_arg13) = m ((c : Thread nD τ).loc main_arg13) :=
  ((h c).2 main_arg13 (Pipeline.mem_restRefs_of main_arg13 (by decide) (by decide))).trans (V_main_arg13 m c)

/-- After the run, argument `main_arg14` is as it was. -/
theorem kept_main_arg14 (r : PUnit × MemSt nD τ sig (Elt F)) (h : Pipeline.FramePost cfgs (dats m) 0 (V m) r) (c : Dev nD) :
    r.2.mem ((c : Thread nD τ).loc main_arg14) = m ((c : Thread nD τ).loc main_arg14) :=
  ((h c).2 main_arg14 (Pipeline.mem_restRefs_of main_arg14 (by decide) (by decide))).trans (V_main_arg14 m c)

/-- The frame run with each output array after the run named — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v71_0) = (dats m 0 c).arrAt 21 cfg0.N
      ∧ r.2.mem ((c : Thread nD τ).loc main_v71_1) = (dats m 0 c).arrAt 22 cfg0.N
      ∧ r.2.mem ((c : Thread nD τ).loc main_v71_2) = (dats m 0 c).arrAt 23 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14) :=
  (θ_run defs _ _).mono (fun r h c => ⟨post21 m r h c,
      post22 m r h c,
      post23 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c,
      kept_main_arg10 m r h c,
      kept_main_arg11 m r h c,
      kept_main_arg12 m r h c,
      kept_main_arg13 m r h c,
      kept_main_arg14 m r h c⟩)
    (run_main m ρ)

end Cert.Kernel5Ideal.Value

end
-- ==== Proof.Latent.Spec.lean ====
/-
  The latent attention's projections as plain arithmetic over the extended reals: a head's norm over its 96 lanes with the
  rotary turn of its last 32, and the same from 128 lanes, where a second product brings every turned lane its partner.
-/
module

public import proofs.«01_k».proof.Proof.Ffn.Spec

@[expose] public section

noncomputable section

namespace Cert.Latent

open Idealize.ShloMosaic

/-- One over the root of a head's mean square plus 1e-6. -/
def root (y : Fin 96 → EReal) : EReal :=
  Ideal.rsqrt (Ideal.div (∑ x, y x * y x) (Ideal.ofBits .f32 1119879168#32) + Ideal.ofBits .f32 897988541#32)

/-- A row over the root of its mean square plus 1e-6, times the gain; `c` is the row's length as a word. -/
def gained (c : BitVec 32) {n : ℕ} (y g : Fin n → EReal) (l : Fin n) : EReal :=
  y l * Ideal.rsqrt (Ideal.div (∑ x, y x * y x) (Ideal.ofBits .f32 c) + Ideal.ofBits .f32 897988541#32) * g l

/-- The scale of the queries, one over the root of 96 and the logarithm of two. -/
def scl : EReal := (((Real.sqrt 96)⁻¹ * (Real.log 2)⁻¹ : ℝ) : EReal)

/-- A lane of a padded query, from its value, its partner and the tables. -/
def qlane (u v c s : Fin 128 → EReal) (l : Fin 128) : EReal :=
  (u l * c l + v l * s l)
    * (Ideal.rsqrt ((∑ x, u x * u x) * ((1 / 96 : ℝ) : EReal) + Ideal.ofBits .f32 897988541#32) * scl)

/-- A lane of a padded key, from its own part, the part that all heads share, and that part's squares. -/
def klane (n c t : Fin 128 → EReal) (q : EReal) (l : Fin 128) : EReal :=
  (n l * c l + t l) * Ideal.rsqrt ((∑ x, n x * n x + q) * ((1 / 96 : ℝ) : EReal) + Ideal.ofBits .f32 897988541#32)

/-- A lane of a normed head with its gain: the first 64 as they are, the next 16 and the last 16 turned with each other. -/
def turned (y g : Fin 96 → EReal) (co si : Fin 16 → EReal) (d : Fin 96) : EReal :=
  if d.val < 64 then y d * root y * g d
  else if h : d.val < 80 then
    y d * root y * g d * co ⟨d.val - 64, by omega⟩
      - y ⟨d.val + 16, by omega⟩ * root y * g ⟨d.val + 16, by omega⟩ * si ⟨d.val - 64, by omega⟩
  else
    y d * root y * g d * co ⟨d.val - 80, by omega⟩
      + y ⟨d.val - 16, by omega⟩ * root y * g ⟨d.val - 16, by omega⟩ * si ⟨d.val - 80, by omega⟩

/-- 96 lanes padded to 128 by zeros. -/
def pad (f : Fin 96 → EReal) (l : Fin 128) : EReal := if h : l.val < 96 then f ⟨l.val, h⟩ else 0

/-- The turned lanes' partners, zeros elsewhere. -/
def swap (f : Fin 96 → EReal) (l : Fin 128) : EReal :=
  if l.val < 64 then 0 else if h : l.val < 80 then f ⟨l.val + 16, by omega⟩
  else if h : l.val < 96 then f ⟨l.val - 16, by omega⟩ else 0

/-- The frequencies on the turned lanes, zeros elsewhere. -/
def freq (w : Fin 16 → EReal) (l : Fin 128) : EReal :=
  if l.val < 64 then 0 else if h : l.val < 80 then w ⟨l.val - 64, by omega⟩
  else if h : l.val < 96 then w ⟨l.val - 80, by omega⟩ else 0

/-- The cosine of a lane's angle, and its sine with the sign of the lane's half. -/
def cosl (p : EReal) (w : Fin 16 → EReal) (l : Fin 128) : EReal := Ideal.cos (p * freq w l)
def sinl (p : EReal) (w : Fin 16 → EReal) (l : Fin 128) : EReal :=
  if l.val < 80 then 0 - Ideal.sin (p * freq w l) else Ideal.sin (p * freq w l)

theorem ofBits_96 : Ideal.ofBits .f32 1119879168#32 = ((96 : ℝ) : EReal) := by
  simp [Ideal.ofBits, Ideal.ieee, -EReal.coe_mul]; norm_num

theorem ofBits_eps : ∃ e : ℝ, 0 < e ∧ Ideal.ofBits .f32 897988541#32 = (e : EReal) := by
  refine ⟨_, ?_, by simp [Ideal.ofBits, Ideal.ieee, -EReal.coe_mul]; rfl⟩
  norm_num

/-- Dividing by 96 is multiplying by its reciprocal. -/
theorem mean (s : EReal) : s * ((1 / 96 : ℝ) : EReal) = Ideal.div s (Ideal.ofBits .f32 1119879168#32) := by
  rw [ofBits_96, Ideal.div_coe (by norm_num)]

theorem square_nonneg (a : EReal) : 0 ≤ a * a := by
  rcases le_total 0 a with h | h
  · exact mul_nonneg h h
  · have h' : 0 ≤ -a := by simpa using EReal.neg_le_neg_iff.2 h
    simpa using mul_nonneg h' h'

/-- The root is a real number that isn't negative. -/
theorem root_real (y : Fin 96 → EReal) : 0 ≤ root y ∧ root y ≠ ⊤ := by
  obtain ⟨e, he, ee⟩ := ofBits_eps
  have hs : 0 ≤ ∑ x, y x * y x := Finset.sum_nonneg fun x _ => square_nonneg _
  unfold root
  rw [← mean, ee]
  generalize (∑ x, y x * y x) = s at hs
  induction s with
  | bot => exact absurd hs (by simp)
  | top =>
    rw [EReal.top_mul_coe_of_pos (by norm_num), EReal.top_add_coe]
    exact ⟨le_refl _, EReal.zero_ne_top⟩
  | coe r =>
    have hr : 0 ≤ r := by exact_mod_cast hs
    rw [← EReal.coe_mul, ← EReal.coe_add]
    have hp : 0 < r * (1 / 96) + e := by positivity
    have hd : Ideal.rsqrt ((r * (1 / 96) + e : ℝ) : EReal) = (((Real.sqrt (r * (1 / 96) + e))⁻¹ : ℝ) : EReal) := by
      show (if r * (1 / 96) + e < 0 then (⊥ : EReal) else if r * (1 / 96) + e = 0 then ⊤ else _) = _
      rw [if_neg hp.not_gt, if_neg hp.ne']
    rw [hd]
    exact ⟨by exact_mod_cast (inv_nonneg.2 (Real.sqrt_nonneg _)), EReal.coe_ne_top _⟩

/-- A lane from its value, its partner, the tables and the padded gains is the turned lane, and zero past the head. -/
theorem turn (y g : Fin 96 → EReal) (w : Fin 16 → EReal) (p : EReal) (u v : Fin 128 → EReal)
    (hu : ∀ (l : Fin 128) (h : l.val < 96), u l = y ⟨l.val, h⟩)
    (hv : ∀ l : Fin 128, 64 ≤ l.val → l.val < 96 → v l = swap y l) (l : Fin 128) :
    (u l * (cosl p w l * pad g l) + v l * (sinl p w l * swap g l)) * root y
      = pad (turned y g (fun d => Ideal.cos (p * w d)) (fun d => Ideal.sin (p * w d))) l := by
  obtain ⟨h0, h1⟩ := root_real y
  have hl := l.isLt
  unfold pad
  by_cases c1 : l.val < 64
  · have e : l.val < 96 := by omega
    have z : Ideal.cos 0 = 1 := by
      show ((Real.cos 0 : ℝ) : EReal) = 1
      rw [Real.cos_zero, EReal.coe_one]
    rw [dif_pos e, dif_pos e, hu l e]
    unfold turned swap cosl freq
    rw [if_pos c1, if_pos c1, if_pos c1, mul_zero, mul_zero, mul_zero, add_zero, z, one_mul]
    exact mul_right_comm _ _ _
  by_cases c2 : l.val < 80
  · have e : l.val < 96 := by omega
    rw [dif_pos e, dif_pos e, hu l e, hv l (by omega) e]
    unfold turned swap cosl sinl freq
    simp only [if_neg c1, dif_pos c2, if_pos c2]
    rw [EReal.right_distrib_of_nonneg_of_ne_top h0 h1, zero_sub, sub_eq_add_neg]
    congr 1
    · ac_rfl
    · rw [neg_mul, mul_neg, neg_mul]
      congr 1
      ac_rfl
  by_cases c3 : l.val < 96
  · rw [dif_pos c3, dif_pos c3, hu l c3, hv l (by omega) c3]
    unfold turned swap cosl sinl freq
    simp only [if_neg c1, dif_neg c2, if_neg c2, dif_pos c3]
    rw [EReal.right_distrib_of_nonneg_of_ne_top h0 h1]
    congr 1 <;> ac_rfl
  · unfold swap
    simp only [dif_neg c3, if_neg c1, dif_neg c2, mul_zero, add_zero, zero_mul]

/-- The squares of 96 lanes padded by zeros. -/
theorem squares (y : Fin 96 → EReal) (u : Fin 128 → EReal) (hu : ∀ (l : Fin 128) (h : l.val < 96), u l = y ⟨l.val, h⟩)
    (hz : ∀ l : Fin 128, 96 ≤ l.val → u l = 0) : ∑ x, u x * u x = ∑ x, y x * y x := by
  refine (Fin.sum_univ_add (a := 96) (b := 32) fun x => u x * u x).trans ?_
  refine (congrArg₂ (· + ·) (Finset.sum_congr rfl fun d _ => ?_) (Finset.sum_eq_zero fun d _ => ?_)).trans (add_zero _)
  · rw [hu (Fin.castAdd 32 d) d.isLt]; rfl
  · rw [hz (Fin.natAdd 96 d) (by simp), zero_mul]

/-- A key's squares: the first 64 lanes' and the turned lanes', each padded by zeros. -/
theorem squares_parts (y : Fin 96 → EReal) (n k : Fin 128 → EReal)
    (hn : ∀ (l : Fin 128) (h : l.val < 64), n l = y ⟨l.val, by omega⟩) (hn' : ∀ l : Fin 128, 64 ≤ l.val → n l = 0)
    (hk : ∀ (l : Fin 128) (h : l.val < 96), 64 ≤ l.val → k l = y ⟨l.val, h⟩)
    (hk' : ∀ l : Fin 128, l.val < 64 ∨ 96 ≤ l.val → k l = 0) :
    ∑ x, n x * n x + ∑ x, k x * k x = ∑ x, y x * y x := by
  rw [← Finset.sum_add_distrib]
  refine Eq.trans (Finset.sum_congr rfl fun l _ => ?_)
    (squares y (fun l => if l.val < 64 then n l else k l) (fun l h => ?_) (fun l h => ?_))
  · by_cases c : l.val < 64
    · simp only [if_pos c, hk' l (Or.inl c), mul_zero, add_zero]
    · simp only [if_neg c, hn' l (by omega), mul_zero, zero_add]
  · by_cases c : l.val < 64
    · rw [if_pos c, hn l c]
    · rw [if_neg c, hk l h (by omega)]
  · rw [if_neg (by omega), hk' l (Or.inr h)]

/-- A lane of a padded query, scaled. -/
theorem query_lane (y g : Fin 96 → EReal) (w : Fin 16 → EReal) (p s : EReal) (u v : Fin 128 → EReal)
    (hu : ∀ (l : Fin 128) (h : l.val < 96), u l = y ⟨l.val, h⟩) (hz : ∀ l : Fin 128, 96 ≤ l.val → u l = 0)
    (hv : ∀ l : Fin 128, 64 ≤ l.val → l.val < 96 → v l = swap y l) (l : Fin 128) :
    (u l * (cosl p w l * pad g l) + v l * (sinl p w l * swap g l))
        * (Ideal.rsqrt ((∑ x, u x * u x) * ((1 / 96 : ℝ) : EReal) + Ideal.ofBits .f32 897988541#32) * s)
      = pad (turned y g (fun d => Ideal.cos (p * w d)) (fun d => Ideal.sin (p * w d))) l * s := by
  rw [squares y u hu hz, mean, ← mul_assoc]
  exact congrArg (· * s) (turn y g w p u v hu hv l)

/-- A lane of a padded key. -/
theorem key_lane (y g : Fin 96 → EReal) (w : Fin 16 → EReal) (p : EReal) (n k v : Fin 128 → EReal)
    (hn : ∀ (l : Fin 128) (h : l.val < 64), n l = y ⟨l.val, by omega⟩) (hn' : ∀ l : Fin 128, 64 ≤ l.val → n l = 0)
    (hk : ∀ (l : Fin 128) (h : l.val < 96), 64 ≤ l.val → k l = y ⟨l.val, h⟩)
    (hk' : ∀ l : Fin 128, l.val < 64 ∨ 96 ≤ l.val → k l = 0)
    (hv : ∀ l : Fin 128, 64 ≤ l.val → l.val < 96 → v l = swap y l) (l : Fin 128) :
    (n l * (cosl p w l * pad g l) + (k l * (cosl p w l * pad g l) + v l * (sinl p w l * swap g l)))
        * Ideal.rsqrt ((∑ x, n x * n x + ∑ x, k x * k x) * ((1 / 96 : ℝ) : EReal) + Ideal.ofBits .f32 897988541#32)
      = pad (turned y g (fun d => Ideal.cos (p * w d)) (fun d => Ideal.sin (p * w d))) l := by
  rw [squares_parts y n k hn hn' hk hk', mean]
  refine Eq.trans (congrArg (· * _) ?_)
    (turn y g w p (fun l => if l.val < 64 then n l else k l) v (fun l h => ?_) hv l)
  · by_cases c : l.val < 64
    · simp only [if_pos c, hk' l (Or.inl c), zero_mul, zero_add]
    · simp only [if_neg c, hn' l (by omega), zero_mul, zero_add]
  · by_cases c : l.val < 64
    · simp only [if_pos c, hn l c]
    · simp only [if_neg c, hk l h (by omega)]

end Cert.Latent
-- ==== Proof.Latent.Body.lean ====
/-
  The latent attention's projections over their input blocks and at an index: the modulated norms of the rows, the latent
  rows, their products with the padded weights, the turned and normed heads, one head to a piece of 128 lanes, and the
  values.
-/
module

public import proofs.«01_k».proof.Proof.Latent.Blocks
public import proofs.«01_k».proof.Proof.Latent.Spec

@[expose] public section

set_option maxRecDepth 16384

noncomputable section

open Idealize.ShloMosaic Idealize.SL.Sem Cert.Ffn Cert.Latent

namespace Cert.Kernel5Ideal.Latent

open Cert.Kernel5Ideal Cert.Kernel5Ideal.Gen

/-- The two named constants over the extended reals. -/
theorem inv_width : Named.named (F := Ideal) κ "inv_width" (φ := .f32) 0x3C2AAAAB#32 = ((1 / 96 : ℝ) : EReal) := by
  rw [IdealRules.named_const.ideal_named_scalar _ _ _ _ rfl]

theorem scale : Named.named (F := Ideal) κ "scale" (φ := .f32) 0x3E16C740#32 = scl :=
  IdealRules.named_const.ideal_named_scalar _ _ _ _ rfl

/-- The row of a modulation table the grid point takes, as it is loaded. -/
abbrev ldRow (i : grid0.Coords) (X : Vec Ideal S1x8x1024 .f32) : Vec Ideal S1x1x1024 .f32 :=
  View.ld (Val := Elt Ideal) X (Rect.unit (k0_off1 i) S1x1x1024.size (k0_off1_inb i))

/-- The same row by coordinates. -/
abbrev mrow (i : grid0.Coords) (X : Vec Ideal S1x8x1024 .f32) (l : Fin 1024) : EReal :=
  X (ix3 0 ⟨(i 0).val, lt_of_lt_of_le (i 0).isLt (by decide)⟩ l)

theorem ld_row (i : grid0.Coords) (X : Vec Ideal S1x8x1024 .f32) :
    (fun l : Fin 1024 => ldRow i X (ix3 0 0 l)) = mrow i X := by
  have e := k0_off1_eq i
  funext l
  unfold ldRow
  pointwise
  refine congrArg X ?_
  congr 1 <;> (apply Fin.ext; simp [e])

/-- The latent row of the queries. -/
theorem pay8_apply (v0 v30 v35 v42 v47 v60) (r : Fin 512) (l : Fin 384) :
    k0_pay8 (F := Ideal) (k0_pay6 v0 v30) (k0_pay7 v35) v42 v47 v60 (ix2 r l)
    = gained 1136656384#32 (fun l : Fin 384 => ∑ k : Fin 1024,
        normed (fun l => v0 (ix3 0 r l)) (fun l => v30 (ix2 0 l)) (fun l => v35 (ix3 0 0 l)) (fun l => v42 (ix3 0 0 l)) k
          * v47 (ix2 k l)) (fun l => v60 (ix2 0 l)) l := by
  pointwise [k0_pay8, k0_pay7, k0_pay6, k0_pay2]
  rfl

/-- Its products with the weights and with the partners' weights. -/
theorem pay9_apply (v33 v39 v42 v47 v60 v65) (r : Fin 512) (l : Fin 2048) :
    k0_pay9 (F := Ideal) v33 v39 v42 v47 v60 v65 (ix2 r l)
      = ∑ k : Fin 384, k0_pay8 v33 v39 v42 v47 v60 (ix2 r k) * v65 (ix2 k l) := by
  unfold k0_pay9
  generalize k0_pay8 v33 v39 v42 v47 v60 = y
  pointwise

theorem pay10_apply (v33 v39 v42 v47 v60 v65) (r : Fin 512) (l : Fin 2048) :
    k0_pay10 (F := Ideal) v33 v39 v42 v47 v60 v65 (ix2 r l)
      = ∑ k : Fin 384, k0_pay8 v33 v39 v42 v47 v60 (ix2 r k) * v65 (ix2 k l) := by
  unfold k0_pay10
  generalize k0_pay8 v33 v39 v42 v47 v60 = y
  pointwise

/-- The latent row of the keys and values, before its norm, with the turned lanes and their partners behind it. -/
theorem pay14_apply (v0 v71 v76 v83 v88) (r : Fin 512) (l : Fin 384) :
    k0_pay14 (F := Ideal) (k0_pay11 (k0_pay2 v0) v71) (k0_pay12 v76) k0_pay13 v83 v88 (ix2 r l)
    = ∑ k : Fin 1024,
        normed (fun l => v0 (ix3 0 r l)) (fun l => v71 (ix2 0 l)) (fun l => v76 (ix3 0 0 l)) (fun l => v83 (ix3 0 0 l)) k
          * v88 (ix2 k l) := by
  pointwise [k0_pay14, k0_pay13, k0_pay12, k0_pay11, k0_pay2]
  rfl

/-- A slice from the first column on, by coordinates. -/
theorem slice_first (v : FVec Ideal S512x384 .f32) (hs) (r : Fin 512) (l : Fin 256) :
    extractStridedSlice S512x256 ![0, 0] v hs (ix2 r l) = v (ix2 r (⟨l.val, by omega⟩ : Fin 384)) := by
  refine congrArg v (funext fun a => Fin.ext ?_)
  fin_cases a <;> simp [ix2]

theorem pay33_apply (v90 v278) (r : Fin 512) (l : Fin 256) :
    k0_pay33 (F := Ideal) v90 v278 (ix2 r l)
      = gained 1132462080#32 (fun l : Fin 256 => v90 (ix2 r (⟨l.val, by omega⟩ : Fin 384))) (fun l => v278 (ix2 0 l)) l := by
  have e := slice_first v90 slices_S512x384_o0_0_S512x256
  unfold k0_pay33
  generalize extractStridedSlice S512x256 ![0, 0] v90 slices_S512x384_o0_0_S512x256 = y at e ⊢
  pointwise
  simp only [e]
  rfl

theorem pay34_apply (v90 v278 v283) (r : Fin 512) (l : Fin 2048) :
    k0_pay34 (F := Ideal) v90 v278 v283 (ix2 r l) = ∑ k : Fin 256, k0_pay33 v90 v278 (ix2 r k) * v283 (ix2 k l) := by
  unfold k0_pay34
  generalize k0_pay33 v90 v278 = y
  pointwise

/-- The values' lanes as rows. -/
theorem values (v90 v278 v286) (x : S1x1024x512.Idx) (l : Fin 1024) (r : Fin 512) (el : l.val = (x 1).val)
    (er : r.val = (x 2).val) :
    k0_pay36 (F := Ideal) (k0_pay35 v90 v278 v286) x = ∑ k : Fin 256, k0_pay33 v90 v278 (ix2 r k) * v286 (ix2 l k) := by
  obtain ⟨l', r', rfl⟩ : ∃ (l' : Fin 1024) (r' : Fin 512), x = (ix3 0 l' r' : S1x1024x512.Idx) :=
    ⟨x 1, x 2, (eq_ix3 x).trans (congrArg (fun a : Fin 1 => ix3 a (x 1) (x 2)) (Subsingleton.elim (α := Fin 1) _ _))⟩
  obtain rfl : l = l' := Fin.ext el
  obtain rfl : r = r' := Fin.ext er
  unfold k0_pay36 k0_pay35
  generalize k0_pay33 v90 v278 = y
  pointwise
  exact Finset.sum_congr rfl fun k _ => mul_comm _ _

/-- A position as a number. -/
def place (w : BitVec 32) : EReal := FloatOps.sitofp (F := Ideal) .f32 w

/-- Choosing by the lane's comparison with 80, and by its lying between 64 and 96. -/
theorem pick80 (l : Fin 128) (a b : EReal) :
    Scalar.select (IntOp.cmpi .slt (BitVec.ofNat 32 l.val) 80#32) a b = if l.val < 80 then a else b := by
  have e : ∀ l : Fin 128, IntOp.cmpi .slt (BitVec.ofNat 32 l.val) 80#32 = if l.val < 80 then 1#1 else 0#1 := by decide
  rw [e]
  by_cases h : l.val < 80
  · rw [if_pos h, if_pos h]; rfl
  · rw [if_neg h, if_neg h]; rfl

theorem pickTail (l : Fin 128) (a b : EReal) :
    Scalar.select (IntOp.andi (IntOp.cmpi .sge (BitVec.ofNat 32 l.val) 64#32)
        (IntOp.cmpi .slt (BitVec.ofNat 32 l.val) 96#32)) a b
      = if 64 ≤ l.val ∧ l.val < 96 then a else b := by
  have e : ∀ l : Fin 128, IntOp.andi (IntOp.cmpi .sge (BitVec.ofNat 32 l.val) 64#32)
      (IntOp.cmpi .slt (BitVec.ofNat 32 l.val) 96#32) = if 64 ≤ l.val ∧ l.val < 96 then 1#1 else 0#1 := by decide
  rw [e]
  by_cases h : 64 ≤ l.val ∧ l.val < 96
  · rw [if_pos h, if_pos h]; rfl
  · rw [if_neg h, if_neg h]; rfl

/-- The cosines and the signed sines with the heads' gains. -/
theorem pay15_apply (v12 v14 v91) (r : Fin 512) (l : Fin 128) :
    k0_pay15 (F := Ideal) (k0_pay4 v12 v14) v91 (ix2 r l)
      = Ideal.cos (place (v12 (ix3 0 r 0)) * v14 (ix2 0 l)) * v91 (ix2 0 l) := by
  pointwise [k0_pay15, k0_pay4, k0_pay3]
  rfl

theorem pay16_apply (v12 v14 v95) (r : Fin 512) (l : Fin 128) :
    k0_pay16 (F := Ideal) (k0_pay5 v12 v14) v95 (ix2 r l)
      = (if l.val < 80 then 0 - Ideal.sin (place (v12 (ix3 0 r 0)) * v14 (ix2 0 l))
          else Ideal.sin (place (v12 (ix3 0 r 0)) * v14 (ix2 0 l))) * v95 (ix2 0 l) := by
  pointwise [k0_pay16, k0_pay5, k0_pay3]
  simp only [pick80]
  rfl

/-- The part of the keys that all heads share, moved to its lanes. -/
def tail (ck : FVec Ideal S512x384 .f32) (r : Fin 512) (l : Fin 128) : EReal :=
  if h : 64 ≤ l.val ∧ l.val < 96 then ck (ix2 r (⟨192 + l.val, by omega⟩ : Fin 384)) else 0

theorem pay52_apply (v90) (r : Fin 512) (l : Fin 128) :
    k0_pay52 (F := Ideal) v90 (iota .tc S1x128 32 [1] iota_S1x128_d1_w32) k0_pay49 k0_pay50 (ix2 r l) = tail v90 r l := by
  pointwise [k0_pay52, k0_pay51, k0_pay50, k0_pay49]
  simp only [pickTail]
  unfold tail
  by_cases h : 64 ≤ l.val ∧ l.val < 96
  · rw [if_pos h, dif_pos h]
    refine congrArg v90 (congrArg (ix2 r) (Fin.ext ?_))
    simp; omega
  · rw [if_neg h, dif_neg h]

theorem pay54_apply (v12 v14 v90 v474 v478) (r : Fin 512) (l : Fin 128) :
    k0_pay54 (F := Ideal) (k0_pay4 v12 v14) (k0_pay5 v12 v14) v90 (iota .tc S1x128 32 [1] iota_S1x128_d1_w32) k0_pay49
        k0_pay50 v474 v478 (ix2 r l)
      = tail v90 r l * k0_pay15 (k0_pay4 v12 v14) v474 (ix2 r l)
        + v90 (ix2 r (⟨256 + (l.val + 96) % 128, by omega⟩ : Fin 384)) * k0_pay16 (k0_pay5 v12 v14) v478 (ix2 r l) := by
  rw [← pay52_apply]
  unfold k0_pay54
  pointwise [k0_pay53, k0_pay51, k0_pay15, k0_pay16]
  rfl

theorem pay55_apply (v90) (r : Fin 512) :
    k0_pay55 (F := Ideal) v90 (iota .tc S1x128 32 [1] iota_S1x128_d1_w32) k0_pay49 k0_pay50 (ix2 r 0)
      = ∑ l, tail v90 r l * tail v90 r l := by
  simp only [← pay52_apply]
  unfold k0_pay55
  pointwise

/-- A slice of columns, by coordinates. -/
theorem slice_col (v : FVec Ideal S512x2048 .f32) (o : ℕ) (hs) (r : Fin 512) (l : Fin 128) (h : o + l.val < 2048) :
    extractStridedSlice S512x128 ![0, o] v hs (ix2 r l) = v (ix2 r (⟨o + l.val, h⟩ : Fin 2048)) := by
  refine congrArg v (funext fun a => Fin.ext ?_)
  fin_cases a <;> simp [ix2]

/-- A head of the queries, as it is stored. -/
def qchain (u v cg sg : FVec Ideal S512x128 .f32) : FVec Ideal S1x512x128 .bf16 :=
  shapeCast S1x512x128 (truncf .bf16 (mulf (addf (mulf u cg) (mulf v sg))
    (broadcastTo S512x128 (mulf (rsqrt (addf (mulf (shapeCast S512x1 (multiReduction .add [1] S512 (mulf u u) 0x00000000#32 reduces_S512x128_S512 (.inl rfl) rfl) shapeCasts_S512_S512x1)
      (broadcast S512x1 (Named.named κ "inv_width" 0x3C2AAAAB#32))) (broadcast S512x1 (Scalar.ofBits .f32 0x358637BD#32))))
      (broadcast S512x1 (Named.named κ "scale" 0x3E16C740#32))) broadcasts_S512x1_S512x128)) bitsLt_bf16_f32)
    shapeCasts_S512x128_S1x512x128

theorem qchain_apply (u v cg sg) (r : Fin 512) (l : Fin 128) : qchain u v cg sg (ix3 0 r l)
    = qlane (fun x => u (ix2 r x)) (fun x => v (ix2 r x)) (fun x => cg (ix2 r x)) (fun x => sg (ix2 r x)) l := by
  unfold qlane
  rw [← inv_width, ← scale]
  pointwise [qchain]

/-- A head of the keys, as it is stored. -/
def kchain (n cg t : FVec Ideal S512x128 .f32) (q : FVec Ideal S512x1 .f32) : FVec Ideal S1x512x128 .bf16 :=
  shapeCast S1x512x128 (truncf .bf16 (mulf (addf (mulf n cg) t)
    (broadcastTo S512x128 (rsqrt (addf (mulf (addf (shapeCast S512x1 (multiReduction .add [1] S512 (mulf n n) 0x00000000#32 reduces_S512x128_S512 (.inl rfl) rfl) shapeCasts_S512_S512x1) q)
      (broadcast S512x1 (Named.named κ "inv_width" 0x3C2AAAAB#32))) (broadcast S512x1 (Scalar.ofBits .f32 0x358637BD#32))))
      broadcasts_S512x1_S512x128)) bitsLt_bf16_f32)
    shapeCasts_S512x128_S1x512x128

theorem kchain_apply (n cg t q) (r : Fin 512) (l : Fin 128) : kchain n cg t q (ix3 0 r l)
    = klane (fun x => n (ix2 r x)) (fun x => cg (ix2 r x)) (fun x => t (ix2 r x)) (q (ix2 r 0)) l := by
  unfold klane
  rw [← inv_width]
  pointwise [kchain]

/-- A lane of the queries at a row, and of the keys. -/
def outq (U W : FVec Ideal S512x2048 .f32) (cg sg : FVec Ideal S512x128 .f32) (r : Fin 512) (l : Fin 2048) : EReal :=
  qlane (fun d => U (ix2 r (⟨128 * (l.val / 128) + d.val, by omega⟩ : Fin 2048)))
    (fun d => W (ix2 r (⟨128 * (l.val / 128) + d.val, by omega⟩ : Fin 2048)))
    (fun d => cg (ix2 r d)) (fun d => sg (ix2 r d)) ⟨l.val % 128, by omega⟩

def outk (N : FVec Ideal S512x2048 .f32) (cg t : FVec Ideal S512x128 .f32) (q : FVec Ideal S512x1 .f32) (r : Fin 512)
    (l : Fin 2048) : EReal :=
  klane (fun d => N (ix2 r (⟨128 * (l.val / 128) + d.val, by omega⟩ : Fin 2048)))
    (fun d => cg (ix2 r d)) (fun d => t (ix2 r d)) (q (ix2 r 0)) ⟨l.val % 128, by omega⟩

/-- The piece of the queries' lanes from `o` on. -/
theorem qpiece (U W : FVec Ideal S512x2048 .f32) (cg sg : FVec Ideal S512x128 .f32) (o : ℕ) (ho : o + 128 ≤ 2048)
    (hd : 128 ∣ o) (hs) (hs') (x : S1x512x128.Idx) (r : Fin 512) (l : Fin 2048) (er : r.val = (x 1).val)
    (el : l.val = o + (x 2).val) :
    qchain (extractStridedSlice S512x128 ![0, o] U hs) (extractStridedSlice S512x128 ![0, o] W hs') cg sg x
      = outq U W cg sg r l := by
  obtain ⟨r', l', rfl⟩ : ∃ (r' : Fin 512) (l' : Fin 128), x = (ix3 0 r' l' : S1x512x128.Idx) :=
    ⟨x 1, x 2, (eq_ix3 x).trans (congrArg (fun a : Fin 1 => ix3 a (x 1) (x 2)) (Subsingleton.elim (α := Fin 1) _ _))⟩
  obtain rfl : r = r' := Fin.ext er
  replace el : l.val = o + l'.val := el
  have h1 := l'.isLt
  rw [qchain_apply]
  unfold outq
  have ed : (⟨l.val % 128, by omega⟩ : Fin 128) = l' := Fin.ext (by show l.val % 128 = l'.val; omega)
  rw [ed]
  congr 1
  · funext d
    have h2 := d.isLt
    exact (slice_col U o hs r d (by omega)).trans (congrArg (fun a => U (ix2 r a)) (Fin.ext (by
      show o + d.val = 128 * (l.val / 128) + d.val; omega)))
  · funext d
    have h2 := d.isLt
    exact (slice_col W o hs' r d (by omega)).trans (congrArg (fun a => W (ix2 r a)) (Fin.ext (by
      show o + d.val = 128 * (l.val / 128) + d.val; omega)))

/-- The piece of the keys' lanes from `o` on. -/
theorem kpiece (N : FVec Ideal S512x2048 .f32) (cg t : FVec Ideal S512x128 .f32) (q : FVec Ideal S512x1 .f32) (o : ℕ)
    (ho : o + 128 ≤ 2048) (hd : 128 ∣ o) (hs) (x : S1x512x128.Idx) (r : Fin 512) (l : Fin 2048) (er : r.val = (x 1).val)
    (el : l.val = o + (x 2).val) :
    kchain (extractStridedSlice S512x128 ![0, o] N hs) cg t q x = outk N cg t q r l := by
  obtain ⟨r', l', rfl⟩ : ∃ (r' : Fin 512) (l' : Fin 128), x = (ix3 0 r' l' : S1x512x128.Idx) :=
    ⟨x 1, x 2, (eq_ix3 x).trans (congrArg (fun a : Fin 1 => ix3 a (x 1) (x 2)) (Subsingleton.elim (α := Fin 1) _ _))⟩
  obtain rfl : r = r' := Fin.ext er
  replace el : l.val = o + l'.val := el
  have h1 := l'.isLt
  rw [kchain_apply]
  unfold outk
  have ed : (⟨l.val % 128, by omega⟩ : Fin 128) = l' := Fin.ext (by show l.val % 128 = l'.val; omega)
  rw [ed]
  congr 1
  funext d
  have h2 := d.isLt
  exact (slice_col N o hs r d (by omega)).trans (congrArg (fun a => N (ix2 r a)) (Fin.ext (by
    show o + d.val = 128 * (l.val / 128) + d.val; omega)))

end Cert.Kernel5Ideal.Latent
-- ==== Proof.Latent.Reference.lean ====
/-
  The reference's latent projections, read at an index: the modulated norms of a row, the latent rows, the heads' columns,
  and over them the norms and turns; the queries' and keys' heads padded to 128 lanes.
-/
module

public import proofs.«01_k».proof.Proof.Gen.Reference5Ideal.Read
public import proofs.«01_k».proof.Proof.Latent.Spec

@[expose] public section

set_option maxRecDepth 16384

noncomputable section

open Idealize.ShloMosaic

namespace Cert.Reference5Ideal.Latent

open Cert.Reference5Ideal Cert.Reference5Ideal.Gen Cert.Reference5Ideal.Read Cert.Ffn Cert.Latent

variable (x0 : FVec Ideal S4x4096x1024 .f32) (x1 : FVec Ideal S2x4x9216 .f32) (x2 : FVec Ideal S1x4x2048 .f32)
  (x3 : FVec Ideal S2x3x1024 .f32) (x4 : FVec Ideal S1x1024x384 .f32) (x5 : FVec Ideal S1x384 .f32)
  (x6 : FVec Ideal S1x384x1536 .f32) (x7 : FVec Ideal S1x96 .f32) (x8 : FVec Ideal S1024 .f32)
  (x9 : FVec Ideal S1024x288 .f32) (x10 : FVec Ideal S256 .f32) (x11 x12 : FVec Ideal S256x1024 .f32)
  (x13 : FVec Ideal S96 .f32) (x14 : IVec S4x4096 32)

/-- The modulated norm of row `(b, r)` for the queries, its latent row and a column of the heads. -/
def hq (b : Fin 4) (r : Fin 4096) : Fin 1024 → EReal :=
  normed (fun l => x0 (ix3 b r l)) (fun l => x3 (ix3 1 1 l)) (fun l => x1 (ix3 1 b ⟨4096 + l.val, by omega⟩))
    (fun l => x1 (ix3 1 b ⟨3072 + l.val, by omega⟩))
def lat (b : Fin 4) (r : Fin 4096) : Fin 384 → EReal :=
  gained 1136656384#32 (fun l => ∑ x, hq x0 x1 x3 b r x * x4 (ix3 0 x l)) (fun l => x5 (ix2 0 l))
def qcol (b : Fin 4) (r : Fin 4096) (col : Fin 1536) : EReal := ∑ x, lat x0 x1 x3 x4 x5 b r x * x6 (ix3 0 x col)

/-- The same for the keys and values: the norm, the latent row with the turned lanes behind it, and its norm. -/
def hk (b : Fin 4) (r : Fin 4096) : Fin 1024 → EReal :=
  normed (fun l => x0 (ix3 b r l)) (fun l => x8 (ix1 l)) (fun l => x2 (ix3 0 b ⟨1024 + l.val, by omega⟩))
    (fun l => x2 (ix3 0 b ⟨l.val, by omega⟩))
def ckv (b : Fin 4) (r : Fin 4096) (l : Fin 288) : EReal := ∑ x, hk x0 x2 x8 b r x * x9 (ix2 x l)
def klat (b : Fin 4) (r : Fin 4096) : Fin 256 → EReal :=
  gained 1132462080#32 (fun l => ckv x0 x2 x8 x9 b r ⟨l.val, by omega⟩) (fun l => x10 (ix1 l))

/-- A key's lanes before the norm: 64 of the head's own, and the 32 that all heads share. -/
def kcol (b : Fin 4) (r : Fin 4096) (h : Fin 16) (d : Fin 96) : EReal :=
  if c : d.val < 64 then ∑ x, klat x0 x2 x8 x9 x10 b r x * x11 (ix2 x ⟨64 * h.val + d.val, by omega⟩)
  else ckv x0 x2 x8 x9 b r ⟨192 + d.val, by omega⟩

/-- The frequency of a turned pair, and a position as a number. -/
def freqs (j : Fin 16) : EReal := val_main_v74 (F := Ideal) (ix1 j)
def place (b : Fin 4) (r : Fin 4096) : EReal := (((x14 (ix2 b r)).toInt : ℝ) : EReal)

/-- A turned lane, its first half and its second counted from the lanes before them. -/
theorem turned_lanes (y g : Fin 96 → EReal) (co si : Fin 16 → EReal) (d : Fin 96) :
    (if h : d.val < 64 then y d * root y * g d
      else if h' : d.val - 64 < 16 then
        y ⟨64 + (d.val - 64), by omega⟩ * root y * g ⟨64 + (d.val - 64), by omega⟩ * co ⟨d.val - 64, h'⟩
          - y ⟨64 + (16 + (d.val - 64)), by omega⟩ * root y * g ⟨64 + (16 + (d.val - 64)), by omega⟩ * si ⟨d.val - 64, h'⟩
      else
        y ⟨64 + (16 + (d.val - 64 - 16)), by omega⟩ * root y * g ⟨64 + (16 + (d.val - 64 - 16)), by omega⟩
            * co ⟨d.val - 64 - 16, by omega⟩
          + y ⟨64 + (d.val - 64 - 16), by omega⟩ * root y * g ⟨64 + (d.val - 64 - 16), by omega⟩
            * si ⟨d.val - 64 - 16, by omega⟩) = turned y g co si d := by
  have hd := d.isLt
  unfold turned
  by_cases c1 : d.val < 64
  · rw [dif_pos c1, if_pos c1]
  by_cases c2 : d.val < 80
  · have e1 : (⟨64 + (d.val - 64), by omega⟩ : Fin 96) = d := Fin.ext (by simp; omega)
    have e2 : (⟨64 + (16 + (d.val - 64)), by omega⟩ : Fin 96) = ⟨d.val + 16, by omega⟩ := Fin.ext (by simp; omega)
    rw [dif_neg c1, if_neg c1, dif_pos (by omega), dif_pos c2, e1, e2]
  · have e1 : (⟨64 + (16 + (d.val - 64 - 16)), by omega⟩ : Fin 96) = d := Fin.ext (by simp; omega)
    have e2 : (⟨64 + (d.val - 64 - 16), by omega⟩ : Fin 96) = ⟨d.val - 16, by omega⟩ := Fin.ext (by simp; omega)
    have e3 : (⟨d.val - 64 - 16, by omega⟩ : Fin 16) = ⟨d.val - 80, by omega⟩ := Fin.ext (by simp; omega)
    rw [dif_neg c1, if_neg c1, dif_neg (by omega), dif_neg c2, e1, e2, e3]

/-- A lane of a query before its scale, and of a key. -/
def query (b : Fin 4) (r : Fin 4096) (h : Fin 16) : Fin 96 → EReal :=
  turned (fun d => qcol x0 x1 x3 x4 x5 x6 b r ⟨96 * h.val + d.val, by omega⟩) (fun d => x7 (ix2 0 d))
    (fun j => Ideal.cos (place x14 b r * freqs j)) (fun j => Ideal.sin (place x14 b r * freqs j))
def key (b : Fin 4) (r : Fin 4096) (h : Fin 16) : Fin 96 → EReal :=
  turned (fun d => kcol x0 x2 x8 x9 x10 x11 b r h d) (fun d => x13 (ix1 d))
    (fun j => Ideal.cos (place x14 b r * freqs j)) (fun j => Ideal.sin (place x14 b r * freqs j))

theorem v33_apply (b : Fin 4) (r : Fin 4096) (l : Fin 1024) :
    val_main_v33 (F := Ideal) x0 x1 x3 (ix3 b r l) = hq x0 x1 x3 b r l := by
  pointwise [val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v6, val_main_v5, val_main_v1, val_main_v0, val_main_cst, val_main_cst_0, val_main_cst_1, val_main_cst_2]
  rfl

theorem v35_apply (b : Fin 4) (r : Fin 4096) (l : Fin 384) :
    val_main_v35 (F := Ideal) x0 x1 x3 x4 (ix3 b r l) = ∑ x, hq x0 x1 x3 b r x * x4 (ix3 0 x l) := by
  pointwise [val_main_v35, val_main_v34]
  simp only [v33_apply]

theorem v49_apply (b : Fin 4) (r : Fin 4096) (l : Fin 384) :
    val_main_v49 (F := Ideal) x0 x1 x3 x4 x5 (ix3 b r l) = lat x0 x1 x3 x4 x5 b r l := by
  pointwise [val_main_v49, val_main_v48, val_main_v47, val_main_v46, val_main_v45, val_main_v44, val_main_v43, val_main_v42, val_main_v41, val_main_v40, val_main_v39, val_main_v38, val_main_v37, val_main_v36, val_main_cst_3, val_main_cst_4, val_main_cst_5]
  simp only [v35_apply]
  rfl

theorem v51_apply (b : Fin 4) (r : Fin 4096) (col : Fin 1536) :
    val_main_v51 (F := Ideal) x0 x1 x3 x4 x5 x6 (ix3 b r col) = qcol x0 x1 x3 x4 x5 x6 b r col := by
  pointwise [val_main_v51, val_main_v50]
  simp only [v49_apply]
  rfl

theorem v52_apply (b : Fin 4) (r : Fin 4096) (h : Fin 16) (d : Fin 96) :
    val_main_v52 (F := Ideal) x0 x1 x3 x4 x5 x6 (ix4 b r h d)
      = qcol x0 x1 x3 x4 x5 x6 b r ⟨96 * h.val + d.val, by omega⟩ := by
  rw [val_main_v52_apply, ← v51_apply]
  refine congrArg _ (funext fun a => Fin.ext ?_)
  have h0 := b.isLt; have h1 := r.isLt; have h3 := h.isLt; have h4 := d.isLt
  fin_cases a <;> simp [idx_main_v52, ix3, ix4] <;> omega

theorem v66_apply (b : Fin 4) (r : Fin 4096) (h : Fin 16) (d : Fin 96) :
    val_main_v66 (F := Ideal) x0 x1 x3 x4 x5 x6 x7 (ix4 b r h d)
      = qcol x0 x1 x3 x4 x5 x6 b r ⟨96 * h.val + d.val, by omega⟩
        * root (fun d => qcol x0 x1 x3 x4 x5 x6 b r ⟨96 * h.val + d.val, by omega⟩) * x7 (ix2 0 d) := by
  pointwise [val_main_v66, val_main_v65, val_main_v64, val_main_v63, val_main_v62, val_main_v61, val_main_v60, val_main_v59, val_main_v58, val_main_v57, val_main_v56, val_main_v55, val_main_v54, val_main_v53, val_main_cst_6, val_main_cst_7, val_main_cst_8]
  simp only [v52_apply]
  rfl

theorem v81_apply (b : Fin 4) (r : Fin 4096) (j : Fin 16) :
    val_main_v81 (F := Ideal) x14 (ix3 b r j) = Ideal.cos (place x14 b r * freqs j) := by
  unfold freqs
  pointwise [val_main_v81, val_main_v80, val_main_v79, val_main_v78, val_main_v77, val_main_v76, val_main_v75]
  rfl

theorem v83_apply (b : Fin 4) (r : Fin 4096) (j : Fin 16) :
    val_main_v83 (F := Ideal) x14 (ix3 b r j) = Ideal.sin (place x14 b r * freqs j) := by
  unfold freqs
  pointwise [val_main_v83, val_main_v80, val_main_v79, val_main_v78, val_main_v77, val_main_v76, val_main_v75]
  rfl

theorem v98_apply (b : Fin 4) (r : Fin 4096) (h : Fin 16) (d : Fin 96) :
    val_main_v98 (F := Ideal) x0 x1 x3 x4 x5 x6 x7 x14 (ix4 b r h d) = query x0 x1 x3 x4 x5 x6 x7 x14 b r h d := by
  pointwise [val_main_v98, val_main_v97, val_main_v96, val_main_v95, val_main_v94, val_main_v93, val_main_v92, val_main_v91, val_main_v90, val_main_v89, val_main_v88, val_main_v87, val_main_v86, val_main_v85, val_main_v84, val_main_v82, val_main_v68, val_main_v67]
  simp only [v66_apply, v81_apply, v83_apply]
  exact turned_lanes (fun d => qcol x0 x1 x3 x4 x5 x6 b r ⟨96 * h.val + d.val, by omega⟩) (fun d => x7 (ix2 0 d))
    (fun j => Ideal.cos (place x14 b r * freqs j)) (fun j => Ideal.sin (place x14 b r * freqs j)) d

theorem v122_apply (b : Fin 4) (r : Fin 4096) (l : Fin 1024) :
    val_main_v122 (F := Ideal) x0 x2 x8 (ix3 b r l) = hk x0 x2 x8 b r l := by
  pointwise [val_main_v122, val_main_v121, val_main_v120, val_main_v119, val_main_v118, val_main_v117, val_main_v116, val_main_v115, val_main_v114, val_main_v113, val_main_v112, val_main_v111, val_main_v110, val_main_v109, val_main_v108, val_main_v107, val_main_v106, val_main_v105, val_main_v104, val_main_v103, val_main_v102, val_main_v101, val_main_v100, val_main_v99, val_main_cst_11, val_main_cst_12, val_main_cst_13, val_main_cst_14]
  rfl

theorem v123_apply (b : Fin 4) (r : Fin 4096) (l : Fin 288) :
    val_main_v123 (F := Ideal) x0 x2 x8 x9 (ix3 b r l) = ckv x0 x2 x8 x9 b r l := by
  pointwise [val_main_v123]
  simp only [v122_apply]
  rfl

theorem v124_apply (b : Fin 4) (r : Fin 4096) (l : Fin 256) :
    val_main_v124 (F := Ideal) x0 x2 x8 x9 (ix3 b r l) = ckv x0 x2 x8 x9 b r ⟨l.val, by omega⟩ := by
  pointwise [val_main_v124]
  exact v123_apply x0 x2 x8 x9 b r ⟨l.val, by omega⟩

theorem v137_apply (b : Fin 4) (r : Fin 4096) (l : Fin 256) :
    val_main_v137 (F := Ideal) x0 x2 x8 x9 x10 (ix3 b r l) = klat x0 x2 x8 x9 x10 b r l := by
  pointwise [val_main_v137, val_main_v136, val_main_v135, val_main_v134, val_main_v133, val_main_v132, val_main_v131, val_main_v130, val_main_v129, val_main_v128, val_main_v127, val_main_v126, val_main_v125, val_main_cst_15, val_main_cst_16, val_main_cst_17]
  simp only [v124_apply]
  rfl

theorem v140_apply (b : Fin 4) (r : Fin 4096) (h : Fin 16) (d : Fin 64) :
    val_main_v140 (F := Ideal) x0 x2 x8 x9 x10 x11 (ix4 b r h d)
      = ∑ x, klat x0 x2 x8 x9 x10 b r x * x11 (ix2 x ⟨64 * h.val + d.val, by omega⟩) := by
  have h0 := b.isLt; have h1 := r.isLt; have h3 := h.isLt; have h4 := d.isLt
  rw [val_main_v140_apply]
  have e : idx_main_v140 (ix4 b r h d) = (ix3 b r (⟨64 * h.val + d.val, by omega⟩ : Fin 1024) : S4x4096x1024.Idx) := by
    refine funext fun a => Fin.ext ?_
    fin_cases a <;> simp [ix3, ix4] <;> omega
  rw [e]
  pointwise [val_main_v139]
  simp only [v137_apply]

theorem v144_apply (b : Fin 4) (r : Fin 4096) (h : Fin 16) (d : Fin 96) :
    val_main_v144 (F := Ideal) x0 x2 x8 x9 x10 x11 (ix4 b r h d) = kcol x0 x2 x8 x9 x10 x11 b r h d := by
  pointwise [val_main_v144, val_main_v143, val_main_v142, val_main_v138]
  simp only [v140_apply, v123_apply]
  unfold kcol
  by_cases c : d.val < 64
  · rw [dif_pos c, dif_pos c]
  · rw [dif_neg c, dif_neg c]
    exact congrArg _ (Fin.ext (by simp; omega))

theorem v157_apply (b : Fin 4) (r : Fin 4096) (h : Fin 16) (d : Fin 96) :
    val_main_v157 (F := Ideal) x0 x2 x8 x9 x10 x11 x13 (ix4 b r h d)
      = kcol x0 x2 x8 x9 x10 x11 b r h d * root (fun d => kcol x0 x2 x8 x9 x10 x11 b r h d) * x13 (ix1 d) := by
  pointwise [val_main_v157, val_main_v156, val_main_v155, val_main_v154, val_main_v153, val_main_v152, val_main_v151, val_main_v150, val_main_v149, val_main_v148, val_main_v147, val_main_v146, val_main_v145, val_main_cst_18, val_main_cst_19, val_main_cst_20]
  simp only [v144_apply]
  rfl

theorem v172_apply (b : Fin 4) (r : Fin 4096) (j : Fin 16) :
    val_main_v172 (F := Ideal) x14 (ix3 b r j) = Ideal.cos (place x14 b r * freqs j) := by
  unfold freqs
  pointwise [val_main_v172, val_main_v171, val_main_v170, val_main_v169, val_main_v168, val_main_v167, val_main_v166, val_main_v165, val_main_v164, val_main_v163, val_main_v162, val_main_v161, val_main_v160, val_main_v74, val_main_v73, val_main_v72, val_main_v71, val_main_v70, val_main_v69]
  rfl

theorem v174_apply (b : Fin 4) (r : Fin 4096) (j : Fin 16) :
    val_main_v174 (F := Ideal) x14 (ix3 b r j) = Ideal.sin (place x14 b r * freqs j) := by
  unfold freqs
  pointwise [val_main_v174, val_main_v171, val_main_v170, val_main_v169, val_main_v168, val_main_v167, val_main_v166, val_main_v165, val_main_v164, val_main_v163, val_main_v162, val_main_v161, val_main_v160, val_main_v74, val_main_v73, val_main_v72, val_main_v71, val_main_v70, val_main_v69]
  rfl

theorem v189_apply (b : Fin 4) (r : Fin 4096) (h : Fin 16) (d : Fin 96) :
    val_main_v189 (F := Ideal) x0 x2 x8 x9 x10 x11 x13 x14 (ix4 b r h d) = key x0 x2 x8 x9 x10 x11 x13 x14 b r h d := by
  pointwise [val_main_v189, val_main_v188, val_main_v187, val_main_v186, val_main_v185, val_main_v184, val_main_v183, val_main_v182, val_main_v181, val_main_v180, val_main_v179, val_main_v178, val_main_v177, val_main_v176, val_main_v175, val_main_v173, val_main_v159, val_main_v158]
  simp only [v157_apply, v172_apply, v174_apply]
  exact turned_lanes (fun d => kcol x0 x2 x8 x9 x10 x11 b r h d) (fun d => x13 (ix1 d))
    (fun j => Ideal.cos (place x14 b r * freqs j)) (fun j => Ideal.sin (place x14 b r * freqs j)) d

/-- The reference's scale of the queries. -/
theorem v193 : val_main_v193 (F := Ideal) ix0 = scl := by
  have h2 : Ideal.ofBits .f32 1073741824#32 = ((2 : ℝ) : EReal) := by
    simp [Ideal.ofBits, Ideal.ieee, -EReal.coe_mul]; norm_num
  have hs : Real.sqrt 96 * Real.log 2 ≠ 0 := (mul_pos (Real.sqrt_pos.2 (by norm_num)) (Real.log_pos (by norm_num))).ne'
  pointwise [val_main_v193, val_main_v192, val_main_v191, val_main_v190, val_main_cst_23, val_main_cst_24, val_main_cst_25]
  rw [ofBits_96, h2, Ideal.sqrt_coe, Ideal.log_coe, if_neg (by norm_num), if_neg (by norm_num), ← EReal.coe_mul,
    Ideal.div_coe hs, one_mul, one_div, mul_inv]
  rfl

/-- The padding. -/
theorem zero_pad : FloatOps.sitofp (F := Ideal) .f32 (0#32 : BitVec 32) = 0 := by
  show (((0#32 : BitVec 32).toInt : ℝ) : EReal) = 0
  simp

/-- Over the extended reals a cast keeps the number. -/
theorem rounded (x : Ideal .f32) : FloatOps.truncf (F := Ideal) .bf16 bitsLt_bf16_f32 x = x := rfl

/-- The reference's first result. -/
theorem v200_apply (b : Fin 4) (r : Fin 4096) (h : Fin 16) (l : Fin 128) :
    val_main_v200 (F := Ideal) x0 x1 x3 x4 x5 x6 x7 x14 (ix3 b r (⟨128 * h.val + l.val, by omega⟩ : Fin 2048))
      = Cert.Latent.pad (query x0 x1 x3 x4 x5 x6 x7 x14 b r h) l * scl := by
  have h0 := b.isLt; have h1 := r.isLt; have h3 := h.isLt; have h4 := l.isLt
  rw [val_main_v200_apply, rounded, val_main_v197_apply]
  have e : idx_main_v197 (ix3 b r (⟨128 * h.val + l.val, by omega⟩ : Fin 2048)) = (ix4 b r h l : S4x4096x16x128.Idx) := by
    refine funext fun a => Fin.ext ?_
    fin_cases a <;> simp [ix3, ix4] <;> omega
  rw [e]
  pointwise [val_main_v196, val_main_v195, val_main_v194]
  rw [v193]
  unfold Cert.Latent.pad
  by_cases c : l.val < 96
  · rw [dif_pos c, dif_pos c, v98_apply]
  · rw [dif_neg c, dif_neg c, zero_mul]
    exact zero_pad

/-- The second. -/
theorem v201_apply (b : Fin 4) (r : Fin 4096) (h : Fin 16) (l : Fin 128) :
    val_main_v201 (F := Ideal) x0 x2 x8 x9 x10 x11 x13 x14 (ix3 b r (⟨128 * h.val + l.val, by omega⟩ : Fin 2048))
      = Cert.Latent.pad (key x0 x2 x8 x9 x10 x11 x13 x14 b r h) l := by
  have h0 := b.isLt; have h1 := r.isLt; have h3 := h.isLt; have h4 := l.isLt
  rw [val_main_v201_apply, rounded, val_main_v199_apply]
  have e : idx_main_v199 (ix3 b r (⟨128 * h.val + l.val, by omega⟩ : Fin 2048)) = (ix4 b r h l : S4x4096x16x128.Idx) := by
    refine funext fun a => Fin.ext ?_
    fin_cases a <;> simp [ix3, ix4] <;> omega
  rw [e]
  pointwise [val_main_v198]
  unfold Cert.Latent.pad
  by_cases c : l.val < 96
  · rw [dif_pos c, dif_pos c, v189_apply]
  · rw [dif_neg c, dif_neg c]
    exact zero_pad

/-- The third: the values' lanes as rows. -/
theorem v203_apply (b : Fin 4) (l : Fin 1024) (r : Fin 4096) :
    val_main_v203 (F := Ideal) x0 x2 x8 x9 x10 x12 (ix3 b l r) = ∑ x, klat x0 x2 x8 x9 x10 b r x * x12 (ix2 x l) := by
  rw [val_main_v203_apply, rounded]
  pointwise [val_main_v202, val_main_v141]
  simp only [v137_apply]

end Cert.Reference5Ideal.Latent
-- ==== Proof.Latent.Entry.lean ====
/-
  What the host leaves in the arrays the kernel reads: the arguments' parts, padded by zeros, and the turned lanes' partners
  beside them.
-/
module

public import proofs.«01_k».proof.Proof.Latent.Blocks
public import Idealize.ShloMosaic.Lib.StableHlo.RunRead
public import proofs.«01_k».proof.Proof.Latent.Reference

@[expose] public section

set_option maxRecDepth 16384

noncomputable section

open Idealize.ShloMosaic Idealize.ShloMosaic.TcCoe Idealize.SL.Sem

namespace Cert.Kernel5Ideal.Latent

open Cert.Kernel5Ideal Cert.Kernel5Ideal.Gen Cert.Latent Cert.Reference5Ideal.Latent Cert.Reference5Ideal.Read

/-- The keys' own weights padded by zeros, and those of their latent row with the turned lanes' partners behind them. -/
def wkey (w : FVec Ideal S256x1024 .f32) (k : Fin 256) (h : Fin 16) (l : Fin 128) : EReal :=
  if a : l.val < 64 then w (ix2 k ⟨64 * h.val + l.val, by omega⟩) else 0
def wlat (w : FVec Ideal S1024x288 .f32) (k : Fin 1024) (l : Fin 384) : EReal :=
  if a : l.val < 288 then w (ix2 k ⟨l.val, a⟩) else if a : l.val < 304 then w (ix2 k ⟨l.val - 16, by omega⟩)
  else if a : l.val < 320 then w (ix2 k ⟨l.val - 48, by omega⟩) else 0

/-- The padding. -/
theorem zero_pad (φ : FTy) : FloatOps.sitofp (F := Ideal) φ (0#32 : BitVec 32) = 0 := by
  show (((0#32 : BitVec 32).toInt : ℝ) : EReal) = 0
  simp

/-- A lane's partner, by the lane's place. -/
theorem swap_low (f : Fin 96 → EReal) (l : Fin 128) (a : l.val < 64) : swap f l = 0 := if_pos a
theorem swap_mid (f : Fin 96 → EReal) (l : Fin 128) (a : ¬ l.val < 64) (b : l.val < 80) :
    swap f l = f ⟨l.val + 16, by omega⟩ := (if_neg a).trans (dif_pos b)
theorem swap_high (f : Fin 96 → EReal) (l : Fin 128) (b : ¬ l.val < 80) (b' : l.val < 96) :
    swap f l = f ⟨l.val - 16, by omega⟩ := (if_neg (by omega)).trans ((dif_neg b).trans (dif_pos b'))
theorem swap_out (f : Fin 96 → EReal) (l : Fin 128) (b' : ¬ l.val < 96) : swap f l = 0 :=
  (if_neg (by omega)).trans ((dif_neg (by omega)).trans (dif_neg b'))

variable (m : (ℓ : Loc nD τ sig) → Buf (Elt Ideal) ℓ)

/-- The padded modulation tables, at a row of a batch. -/
theorem entry_v0 (c : Dev nD) (a : Fin 2) (b : Fin 4) (col : Fin 9216) : V m c main_v0 (ix3 a (⟨b.val, by omega⟩ : Fin 8) col) = m ((c : Thread nD τ).loc main_arg1) (ix3 a b col) := by
  simp only [V]
  after_reads_simp
  try simp only [StableHlo.TRef.toBuf, StableHlo.TRef.ofBuf, cast_eq]
  pointwise

theorem entry_v1 (c : Dev nD) (b : Fin 4) (col : Fin 2048) : V m c main_v1 (ix3 0 (⟨b.val, by omega⟩ : Fin 8) col) = m ((c : Thread nD τ).loc main_arg2) (ix3 0 b col) := by
  simp only [V]
  after_reads_simp
  try simp only [StableHlo.TRef.toBuf, StableHlo.TRef.ofBuf, cast_eq]
  pointwise

/-- The norms' gains. -/
theorem entry_v49 (c : Dev nD) (k : Fin 1024) : V m c main_v49 (ix2 0 k) = m ((c : Thread nD τ).loc main_arg3) (ix3 1 1 k) := by
  simp only [V]
  after_reads_simp
  try simp only [StableHlo.TRef.toBuf, StableHlo.TRef.ofBuf, cast_eq]
  pointwise

theorem entry_v53 (c : Dev nD) (k : Fin 384) : V m c main_v53 (ix2 0 k) = m ((c : Thread nD τ).loc main_arg5) (ix2 0 k) := by
  simp only [V]
  after_reads_simp
  try simp only [StableHlo.TRef.toBuf, StableHlo.TRef.ofBuf, cast_eq]
  pointwise

theorem entry_v23 (c : Dev nD) (k : Fin 1024) : V m c main_v23 (ix2 0 k) = m ((c : Thread nD τ).loc main_arg8) (ix1 k) := by
  simp only [V]
  after_reads_simp
  try simp only [StableHlo.TRef.toBuf, StableHlo.TRef.ofBuf, cast_eq]
  pointwise

theorem entry_v24 (c : Dev nD) (k : Fin 256) : V m c main_v24 (ix2 0 k) = m ((c : Thread nD τ).loc main_arg10) (ix1 k) := by
  simp only [V]
  after_reads_simp
  try simp only [StableHlo.TRef.toBuf, StableHlo.TRef.ofBuf, cast_eq]
  pointwise

/-- The positions. -/
theorem entry_v15 (c : Dev nD) (b : Fin 4) (r : Fin 4096) : V m c main_v15 (ix3 b r 0) = m ((c : Thread nD τ).loc main_arg14) (ix2 b r) := by
  simp only [V]
  after_reads_simp
  try simp only [StableHlo.TRef.toBuf, StableHlo.TRef.ofBuf, cast_eq]
  pointwise

/-- The weights of the queries' latent row and of the values. -/
theorem entry_v51 (c : Dev nD) (k : Fin 1024) (l : Fin 384) : V m c main_v51 (ix2 k l) = m ((c : Thread nD τ).loc main_arg4) (ix3 0 k l) := by
  simp only [V]
  after_reads_simp
  try simp only [StableHlo.TRef.toBuf, StableHlo.TRef.ofBuf, cast_eq]
  pointwise

theorem entry_v30 (c : Dev nD) (l : Fin 1024) (k : Fin 256) : V m c main_v30 (ix2 l k) = m ((c : Thread nD τ).loc main_arg12) (ix2 k l) := by
  simp only [V]
  after_reads_simp
  try simp only [StableHlo.TRef.toBuf, StableHlo.TRef.ofBuf, cast_eq]
  pointwise

/-- The frequencies on the turned lanes. -/
theorem entry_v14 (c : Dev nD) (l : Fin 128) : V m c main_v14 (ix2 0 l) = freq freqs l := by
  generalize hR : freq freqs l = R
  simp only [V]
  after_reads_simp
  try simp only [StableHlo.TRef.toBuf, StableHlo.TRef.ofBuf, cast_eq]
  pointwise
  rw [← hR]
  unfold freq
  have hl := l.isLt
  by_cases a : l.val < 64
  · rw [dif_neg (by omega), if_pos a]
    exact zero_pad _
  by_cases b : l.val < 80
  · rw [dif_pos (by omega), if_neg a, dif_pos b]
    have e : (l.val - 64) % 16 = l.val - 64 := by omega
    unfold freqs
    pointwise [val_main_v74, val_main_v73, val_main_v72, val_main_v71, val_main_v70, val_main_v69, val_main_cst_9, val_main_cst_10]
    rw [e]
  by_cases b' : l.val < 96
  · rw [dif_pos (by omega), if_neg a, dif_neg b, dif_pos b']
    have e : (l.val - 64) % 16 = l.val - 80 := by omega
    unfold freqs
    pointwise [val_main_v74, val_main_v73, val_main_v72, val_main_v71, val_main_v70, val_main_v69, val_main_cst_9, val_main_cst_10]
    rw [e]
  · rw [dif_neg (by omega), if_neg a, dif_neg b, dif_neg b']
    exact zero_pad _

/-- The heads' gains, padded, and their partners. -/
theorem entry_v32 (c : Dev nD) (l : Fin 128) : V m c main_v32 (ix2 0 l) = pad (fun d => m ((c : Thread nD τ).loc main_arg13) (ix1 d)) l := by
  generalize hR : pad (fun d => m ((c : Thread nD τ).loc main_arg13) (ix1 d)) l = R
  simp only [V]
  after_reads_simp
  try simp only [StableHlo.TRef.toBuf, StableHlo.TRef.ofBuf, cast_eq]
  pointwise
  rw [← hR]
  unfold Cert.Latent.pad
  by_cases a : l.val < 96
  · rw [dif_pos a, dif_pos a]
  · rw [dif_neg a, dif_neg a]
    exact zero_pad _

theorem entry_v39 (c : Dev nD) (l : Fin 128) : V m c main_v39 (ix2 0 l) = swap (fun d => m ((c : Thread nD τ).loc main_arg13) (ix1 d)) l := by
  generalize hR : swap (fun d => m ((c : Thread nD τ).loc main_arg13) (ix1 d)) l = R
  simp only [V]
  after_reads_simp
  dsimp only [Matrix.cons_val_zero, Matrix.cons_val_one, Matrix.cons_val]
  simp only [StableHlo.TRef.toBuf, StableHlo.TRef.ofBuf, cast_eq]
  pointwise
  after_reads_simp
  pointwise
  rw [← hR]
  have hl := l.isLt
  by_cases a : l.val < 64
  · rw [dif_pos (by omega), dif_pos a, swap_low _ l a]
  by_cases b : l.val < 80
  · rw [dif_pos (by omega), dif_neg a, dif_pos (by omega)]
    refine Eq.trans ?_ (swap_mid _ l a b).symm
    exact congrArg (fun a => m ((c : Thread nD τ).loc main_arg13) (ix1 a)) (Fin.ext (by simp; omega))
  by_cases b' : l.val < 96
  · rw [dif_pos b', dif_neg a, dif_neg (by omega)]
    refine Eq.trans ?_ (swap_high _ l b b').symm
    exact congrArg (fun a => m ((c : Thread nD τ).loc main_arg13) (ix1 a)) (Fin.ext (by simp; omega))
  · rw [dif_neg b', swap_out _ l b']
    exact zero_pad _

theorem entry_v62 (c : Dev nD) (l : Fin 128) : V m c main_v62 (ix2 0 l) = pad (fun d => m ((c : Thread nD τ).loc main_arg7) (ix2 0 d)) l := by
  generalize hR : pad (fun d => m ((c : Thread nD τ).loc main_arg7) (ix2 0 d)) l = R
  simp only [V]
  after_reads_simp
  try simp only [StableHlo.TRef.toBuf, StableHlo.TRef.ofBuf, cast_eq]
  pointwise
  rw [← hR]
  unfold Cert.Latent.pad
  by_cases a : l.val < 96
  · rw [dif_pos a, dif_pos a]
  · rw [dif_neg a, dif_neg a]
    exact zero_pad _

theorem entry_v70 (c : Dev nD) (l : Fin 128) : V m c main_v70 (ix2 0 l) = swap (fun d => m ((c : Thread nD τ).loc main_arg7) (ix2 0 d)) l := by
  generalize hR : swap (fun d => m ((c : Thread nD τ).loc main_arg7) (ix2 0 d)) l = R
  simp only [V]
  after_reads_simp
  dsimp only [Matrix.cons_val_zero, Matrix.cons_val_one, Matrix.cons_val]
  simp only [StableHlo.TRef.toBuf, StableHlo.TRef.ofBuf, cast_eq]
  pointwise
  after_reads_simp
  pointwise
  rw [← hR]
  have hl := l.isLt
  by_cases a : l.val < 64
  · rw [dif_pos (by omega), dif_pos a, swap_low _ l a]
  by_cases b : l.val < 80
  · rw [dif_pos (by omega), dif_neg a, dif_pos (by omega)]
    refine Eq.trans ?_ (swap_mid _ l a b).symm
    exact congrArg (fun a => m ((c : Thread nD τ).loc main_arg7) (ix2 0 a)) (Fin.ext (by simp; omega))
  by_cases b' : l.val < 96
  · rw [dif_pos b', dif_neg a, dif_neg (by omega)]
    refine Eq.trans ?_ (swap_high _ l b b').symm
    exact congrArg (fun a => m ((c : Thread nD τ).loc main_arg7) (ix2 0 a)) (Fin.ext (by simp; omega))
  · rw [dif_neg b', swap_out _ l b']
    exact zero_pad _

/-- The weights of the queries' heads, padded, and their partners. -/
theorem entry_v56 (c : Dev nD) (k : Fin 384) (h : Fin 16) (l : Fin 128) : V m c main_v56 (ix2 k (⟨128 * h.val + l.val, by omega⟩ : Fin 2048)) = pad (fun d => m ((c : Thread nD τ).loc main_arg6) (ix3 0 k (⟨96 * h.val + d.val, by omega⟩ : Fin 1536))) l := by
  generalize hR : pad (fun d => m ((c : Thread nD τ).loc main_arg6) (ix3 0 k (⟨96 * h.val + d.val, by omega⟩ : Fin 1536))) l = R
  simp only [V]
  after_reads_simp
  try simp only [StableHlo.TRef.toBuf, StableHlo.TRef.ofBuf, cast_eq]
  pointwise
  rw [← hR]
  unfold Cert.Latent.pad
  by_cases a : l.val < 96
  · rw [dif_pos a, dif_pos a]
    exact congrArg (fun a => m ((c : Thread nD τ).loc main_arg6) (ix3 0 k a)) (Fin.ext (by simp; omega))
  · rw [dif_neg a, dif_neg a]
    exact zero_pad _

theorem entry_v59 (c : Dev nD) (k : Fin 384) (h : Fin 16) (l : Fin 128) : V m c main_v59 (ix2 k (⟨128 * h.val + l.val, by omega⟩ : Fin 2048)) = swap (fun d => m ((c : Thread nD τ).loc main_arg6) (ix3 0 k (⟨96 * h.val + d.val, by omega⟩ : Fin 1536))) l := by
  generalize hR : swap (fun d => m ((c : Thread nD τ).loc main_arg6) (ix3 0 k (⟨96 * h.val + d.val, by omega⟩ : Fin 1536))) l = R
  simp only [V]
  after_reads_simp
  dsimp only [Matrix.cons_val_zero, Matrix.cons_val_one, Matrix.cons_val]
  simp only [StableHlo.TRef.toBuf, StableHlo.TRef.ofBuf, cast_eq]
  pointwise
  after_reads_simp
  pointwise
  rw [← hR]
  have hl := l.isLt
  by_cases a : l.val < 64
  · rw [dif_pos (by omega), dif_pos a, swap_low _ l a]
  by_cases b : l.val < 80
  · rw [dif_pos (by omega), dif_neg a, dif_pos (by omega)]
    refine Eq.trans ?_ (swap_mid _ l a b).symm
    exact congrArg (fun a : Fin 1536 => m ((c : Thread nD τ).loc main_arg6) (ix3 0 k a))
      (a₁ := ⟨h.val * 96 + (80 + (l.val - 64)), by omega⟩) (a₂ := ⟨96 * h.val + (l.val + 16), by omega⟩) (Fin.ext (by simp; omega))
  by_cases b' : l.val < 96
  · rw [dif_pos b', dif_neg a, dif_neg (by omega)]
    refine Eq.trans ?_ (swap_high _ l b b').symm
    exact congrArg (fun a : Fin 1536 => m ((c : Thread nD τ).loc main_arg6) (ix3 0 k a))
      (a₁ := ⟨h.val * 96 + (64 + (l.val - 64 - 16)), by omega⟩) (a₂ := ⟨96 * h.val + (l.val - 16), by omega⟩)
      (Fin.ext (by simp; omega))
  · rw [dif_neg b', swap_out _ l b']
    exact zero_pad _

/-- The weights of the keys' own lanes, padded. -/
theorem entry_v28 (c : Dev nD) (k : Fin 256) (h : Fin 16) (l : Fin 128) : V m c main_v28 (ix2 k (⟨128 * h.val + l.val, by omega⟩ : Fin 2048)) = wkey (m ((c : Thread nD τ).loc main_arg11)) k h l := by
  generalize hR : wkey (m ((c : Thread nD τ).loc main_arg11)) k h l = R
  simp only [V]
  after_reads_simp
  try simp only [StableHlo.TRef.toBuf, StableHlo.TRef.ofBuf, cast_eq]
  pointwise
  rw [← hR]
  unfold wkey
  by_cases a : l.val < 64
  · rw [dif_pos a, dif_pos a]
    exact congrArg (fun a => m ((c : Thread nD τ).loc main_arg11) (ix2 k a)) (Fin.ext (by simp; omega))
  · rw [dif_neg a, dif_neg a]
    exact zero_pad _

set_option maxHeartbeats 4000000 in
/-- The weights of the keys' latent row, with the turned lanes' partners behind it. -/
theorem entry_v22 (c : Dev nD) (k : Fin 1024) (l : Fin 384) : V m c main_v22 (ix2 k l) = wlat (m ((c : Thread nD τ).loc main_arg9)) k l := by
  generalize hR : wlat (m ((c : Thread nD τ).loc main_arg9)) k l = R
  simp only [V]
  after_reads_simp
  try simp only [StableHlo.TRef.toBuf, StableHlo.TRef.ofBuf, cast_eq]
  pointwise
  after_reads_simp
  pointwise
  rw [← hR]
  unfold wlat
  by_cases a : l.val < 288
  · rw [dif_pos (by omega), dif_pos a, dif_pos a]
  by_cases b : l.val < 304
  · rw [dif_pos (by omega), dif_neg a, dif_pos (by omega), dif_neg a, dif_pos b]
    exact congrArg (fun a => m ((c : Thread nD τ).loc main_arg9) (ix2 k a)) (Fin.ext (by simp; omega))
  by_cases b' : l.val < 320
  · rw [dif_pos b', dif_neg a, dif_neg (by omega), dif_neg a, dif_neg b, dif_pos b']
    exact congrArg (fun a => m ((c : Thread nD τ).loc main_arg9) (ix2 k a)) (Fin.ext (by simp; omega))
  · rw [dif_neg b', dif_neg a, dif_neg b, dif_neg b']
    exact zero_pad _

end Cert.Kernel5Ideal.Latent
-- ==== Proof.Latent.Value.lean ====
/-
  The latent projections' three result arrays: every grid point writes its own blocks of 512 rows, and what it writes there
  is the reference's result at the place the blocks sit.
-/
module

public import proofs.«01_k».proof.Proof.Latent.Body
public import proofs.«01_k».proof.Proof.Latent.Entry

@[expose] public section

set_option maxRecDepth 16384

noncomputable section

open Idealize.ShloMosaic Idealize.ShloMosaic.TcCoe Idealize.SL.Sem

namespace Cert.Kernel5Ideal.Latent

open Cert.Kernel5Ideal Cert.Kernel5Ideal.Gen Cert.Ffn Cert.Latent Cert.Reference5Ideal.Latent Cert.Reference5Ideal.Read

/-- Padded lanes, in the head and past it. -/
theorem pad_in (f : Fin 96 → EReal) (l : Fin 128) (h : l.val < 96) : Cert.Latent.pad f l = f ⟨l.val, h⟩ := dif_pos h
theorem pad_out (f : Fin 96 → EReal) (l : Fin 128) (h : 96 ≤ l.val) : Cert.Latent.pad f l = 0 := dif_neg (Nat.not_lt.2 h)

/-- A row times a padded weight is the padded product, and so for the partners. -/
theorem sum_pad {n : ℕ} (a : Fin n → EReal) (f : Fin n → Fin 96 → EReal) (l : Fin 128) :
    ∑ k, a k * Cert.Latent.pad (f k) l = Cert.Latent.pad (fun d => ∑ k, a k * f k d) l := by
  unfold Cert.Latent.pad
  by_cases h : l.val < 96
  · simp only [dif_pos h]
  · simp only [dif_neg h, mul_zero, Finset.sum_const_zero]

theorem sum_swap {n : ℕ} (a : Fin n → EReal) (f : Fin n → Fin 96 → EReal) (l : Fin 128) :
    ∑ k, a k * swap (f k) l = swap (fun d => ∑ k, a k * f k d) l := by
  by_cases h : l.val < 64
  · simp only [swap_low _ l h, mul_zero, Finset.sum_const_zero]
  by_cases h' : l.val < 80
  · simp only [swap_mid _ l h h']
  by_cases h'' : l.val < 96
  · simp only [swap_high _ l h' h'']
  · simp only [swap_out _ l h'', mul_zero, Finset.sum_const_zero]

variable (m : (ℓ : Loc nD τ sig) → Buf (Elt Ideal) ℓ)

/-- Where each window's block sits at each grid point. -/
theorem idx : ∀ t : Fin cfg0.N,
    win0_0.index t = ![(grid0.coords t 0).val, (grid0.coords t 1).val, 0]
    ∧ win0_1.index t = ![1, 0, 3] ∧ win0_2.index t = ![1, 0, 4]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0]
    ∧ win0_10.index t = ![0, 0, 0] ∧ win0_11.index t = ![0, 0, 1]
    ∧ win0_12.index t = ![0, 0] ∧ win0_13.index t = ![0, 0] ∧ win0_14.index t = ![0, 0] ∧ win0_15.index t = ![0, 0]
    ∧ win0_16.index t = ![0, 0] ∧ win0_17.index t = ![0, 0] ∧ win0_18.index t = ![0, 0]
    ∧ win0_19.index t = ![(grid0.coords t 0).val, (grid0.coords t 1).val, 0]
    ∧ win0_20.index t = ![0, 0]
    ∧ win0_21.index t = ![(grid0.coords t 0).val, (grid0.coords t 1).val, 0]
    ∧ win0_22.index t = ![(grid0.coords t 0).val, (grid0.coords t 1).val, 0]
    ∧ win0_23.index t = ![(grid0.coords t 0).val, 0, (grid0.coords t 1).val] :=
  (by decide +kernel : ∀ t : Fin grid0.N, _)

section Blocks

variable (c : Dev nD) (t : Fin cfg0.N)

/-- The place of the written block in the result array: its batch and the row of its row `r`. -/
abbrev at0 : Fin 4 := ⟨(grid0.coords t 0).val, lt_of_lt_of_le (grid0.coords t 0).isLt (by decide)⟩
theorem at1_lt (r : Fin 512) : (grid0.coords t 1).val * 512 + r.val < 4096 := by
  have h : (grid0.coords t 1).val < 8 := lt_of_lt_of_le (grid0.coords t 1).isLt (by decide)
  omega
abbrev at1 (r : Fin 512) : Fin 4096 := ⟨(grid0.coords t 1).val * 512 + r.val, at1_lt t r⟩

theorem blk0 (r : Fin 512) (k : Fin 1024) : iblk m c 0 t (ix3 0 r k) = m ((c : Thread nD τ).loc main_arg0) (ix3 (at0 t) (at1 t r) k) := by
  blk_ext! [iblk, V, idx t]

theorem blk1 (k : Fin 1024) : mrow (grid0.coords t) (iblk m c 1 t) k
    = m ((c : Thread nD τ).loc main_arg1) (ix3 1 (at0 t) ⟨3072 + k.val, by omega⟩) := by
  show iblk m c 1 t (ix3 0 ⟨(grid0.coords t 0).val, _⟩ k) = _
  refine Eq.trans (b := V m c main_v0 _) ?_ (entry_v0 m c 1 (at0 t) ⟨3072 + k.val, by omega⟩)
  blk_ext [iblk, idx t]

theorem blk2 (k : Fin 1024) : mrow (grid0.coords t) (iblk m c 2 t) k
    = m ((c : Thread nD τ).loc main_arg1) (ix3 1 (at0 t) ⟨4096 + k.val, by omega⟩) := by
  show iblk m c 2 t (ix3 0 ⟨(grid0.coords t 0).val, _⟩ k) = _
  refine Eq.trans (b := V m c main_v0 _) ?_ (entry_v0 m c 1 (at0 t) ⟨4096 + k.val, by omega⟩)
  blk_ext [iblk, idx t]

theorem blk10 (k : Fin 1024) : mrow (grid0.coords t) (iblk m c 10 t) k
    = m ((c : Thread nD τ).loc main_arg2) (ix3 0 (at0 t) ⟨k.val, by omega⟩) := by
  show iblk m c 10 t (ix3 0 ⟨(grid0.coords t 0).val, _⟩ k) = _
  refine Eq.trans (b := V m c main_v1 _) ?_ (entry_v1 m c (at0 t) ⟨k.val, by omega⟩)
  blk_ext [iblk, idx t]

theorem blk11 (k : Fin 1024) : mrow (grid0.coords t) (iblk m c 11 t) k
    = m ((c : Thread nD τ).loc main_arg2) (ix3 0 (at0 t) ⟨1024 + k.val, by omega⟩) := by
  show iblk m c 11 t (ix3 0 ⟨(grid0.coords t 0).val, _⟩ k) = _
  refine Eq.trans (b := V m c main_v1 _) ?_ (entry_v1 m c (at0 t) ⟨1024 + k.val, by omega⟩)
  blk_ext [iblk, idx t]

theorem blk3 (k : Fin 1024) : iblk m c 3 t (ix2 0 k)
    = m ((c : Thread nD τ).loc main_arg3) (ix3 1 1 k) := by
  refine Eq.trans (b := V m c main_v49 _) ?_ (entry_v49 m c k)
  blk_ext [iblk, idx t]

theorem blk4 (k : Fin 1024) (l : Fin 384) : iblk m c 4 t (ix2 k l)
    = m ((c : Thread nD τ).loc main_arg4) (ix3 0 k l) := by
  refine Eq.trans (b := V m c main_v51 _) ?_ (entry_v51 m c k l)
  blk_ext [iblk, idx t]

theorem blk5 (k : Fin 384) : iblk m c 5 t (ix2 0 k)
    = m ((c : Thread nD τ).loc main_arg5) (ix2 0 k) := by
  refine Eq.trans (b := V m c main_v53 _) ?_ (entry_v53 m c k)
  blk_ext [iblk, idx t]

theorem blk6 (k : Fin 384) (h : Fin 16) (l : Fin 128) : iblk m c 6 t (ix2 k (⟨128 * h.val + l.val, by omega⟩ : Fin 2048))
    = Cert.Latent.pad (fun d => m ((c : Thread nD τ).loc main_arg6) (ix3 0 k (⟨96 * h.val + d.val, by omega⟩ : Fin 1536))) l := by
  refine Eq.trans (b := V m c main_v56 _) ?_ (entry_v56 m c k h l)
  blk_ext [iblk, idx t]

theorem blk7 (k : Fin 384) (h : Fin 16) (l : Fin 128) : iblk m c 7 t (ix2 k (⟨128 * h.val + l.val, by omega⟩ : Fin 2048))
    = swap (fun d => m ((c : Thread nD τ).loc main_arg6) (ix3 0 k (⟨96 * h.val + d.val, by omega⟩ : Fin 1536))) l := by
  refine Eq.trans (b := V m c main_v59 _) ?_ (entry_v59 m c k h l)
  blk_ext [iblk, idx t]

theorem blk8 (l : Fin 128) : iblk m c 8 t (ix2 0 l)
    = Cert.Latent.pad (fun d => m ((c : Thread nD τ).loc main_arg7) (ix2 0 d)) l := by
  refine Eq.trans (b := V m c main_v62 _) ?_ (entry_v62 m c l)
  blk_ext [iblk, idx t]

theorem blk9 (l : Fin 128) : iblk m c 9 t (ix2 0 l)
    = swap (fun d => m ((c : Thread nD τ).loc main_arg7) (ix2 0 d)) l := by
  refine Eq.trans (b := V m c main_v70 _) ?_ (entry_v70 m c l)
  blk_ext [iblk, idx t]

theorem blk12 (k : Fin 1024) : iblk m c 12 t (ix2 0 k)
    = m ((c : Thread nD τ).loc main_arg8) (ix1 k) := by
  refine Eq.trans (b := V m c main_v23 _) ?_ (entry_v23 m c k)
  blk_ext [iblk, idx t]

theorem blk13 (k : Fin 1024) (l : Fin 384) : iblk m c 13 t (ix2 k l)
    = wlat (m ((c : Thread nD τ).loc main_arg9)) k l := by
  refine Eq.trans (b := V m c main_v22 _) ?_ (entry_v22 m c k l)
  blk_ext [iblk, idx t]

theorem blk14 (k : Fin 256) : iblk m c 14 t (ix2 0 k)
    = m ((c : Thread nD τ).loc main_arg10) (ix1 k) := by
  refine Eq.trans (b := V m c main_v24 _) ?_ (entry_v24 m c k)
  blk_ext [iblk, idx t]

theorem blk15 (k : Fin 256) (h : Fin 16) (l : Fin 128) : iblk m c 15 t (ix2 k (⟨128 * h.val + l.val, by omega⟩ : Fin 2048))
    = wkey (m ((c : Thread nD τ).loc main_arg11)) k h l := by
  refine Eq.trans (b := V m c main_v28 _) ?_ (entry_v28 m c k h l)
  blk_ext [iblk, idx t]

theorem blk16 (l : Fin 1024) (k : Fin 256) : iblk m c 16 t (ix2 l k)
    = m ((c : Thread nD τ).loc main_arg12) (ix2 k l) := by
  refine Eq.trans (b := V m c main_v30 _) ?_ (entry_v30 m c l k)
  blk_ext [iblk, idx t]

theorem blk17 (l : Fin 128) : iblk m c 17 t (ix2 0 l)
    = Cert.Latent.pad (fun d => m ((c : Thread nD τ).loc main_arg13) (ix1 d)) l := by
  refine Eq.trans (b := V m c main_v32 _) ?_ (entry_v32 m c l)
  blk_ext [iblk, idx t]

theorem blk18 (l : Fin 128) : iblk m c 18 t (ix2 0 l)
    = swap (fun d => m ((c : Thread nD τ).loc main_arg13) (ix1 d)) l := by
  refine Eq.trans (b := V m c main_v39 _) ?_ (entry_v39 m c l)
  blk_ext [iblk, idx t]

theorem blk19 (r : Fin 512) : iblk m c 19 t (ix3 0 r 0)
    = m ((c : Thread nD τ).loc main_arg14) (ix2 (at0 t) (at1 t r)) := by
  refine Eq.trans (b := V m c main_v15 _) ?_ (entry_v15 m c (at0 t) (at1 t r))
  blk_ext [iblk, idx t]

theorem blk20 (l : Fin 128) : iblk m c 20 t (ix2 0 l)
    = freq freqs l := by
  refine Eq.trans (b := V m c main_v14 _) ?_ (entry_v14 m c l)
  blk_ext [iblk, idx t]

/-- The terms the body keeps: the queries' products and their partners', the tables with the gains, the keys' latent row,
the keys' own lanes, and the lanes all heads share. -/
abbrev dq : FVec Ideal S512x384 .bf16 := k0_pay8 (k0_pay6 (iblk m c 0 t) (iblk m c 3 t)) (k0_pay7 (ldRow (grid0.coords t) (iblk m c 2 t))) (ldRow (grid0.coords t) (iblk m c 1 t)) (iblk m c 4 t) (iblk m c 5 t)
abbrev qU : FVec Ideal S512x2048 .f32 := k0_pay9 (k0_pay6 (iblk m c 0 t) (iblk m c 3 t)) (k0_pay7 (ldRow (grid0.coords t) (iblk m c 2 t))) (ldRow (grid0.coords t) (iblk m c 1 t)) (iblk m c 4 t) (iblk m c 5 t) (iblk m c 6 t)
abbrev qW : FVec Ideal S512x2048 .f32 := k0_pay10 (k0_pay6 (iblk m c 0 t) (iblk m c 3 t)) (k0_pay7 (ldRow (grid0.coords t) (iblk m c 2 t))) (ldRow (grid0.coords t) (iblk m c 1 t)) (iblk m c 4 t) (iblk m c 5 t) (iblk m c 7 t)
abbrev qC : FVec Ideal S512x128 .f32 := k0_pay15 (k0_pay4 (iblk m c 19 t) (iblk m c 20 t)) (iblk m c 8 t)
abbrev qS : FVec Ideal S512x128 .f32 := k0_pay16 (k0_pay5 (iblk m c 19 t) (iblk m c 20 t)) (iblk m c 9 t)
abbrev kL : FVec Ideal S512x384 .f32 := k0_pay14 (k0_pay11 (k0_pay2 (iblk m c 0 t)) (iblk m c 12 t)) (k0_pay12 (ldRow (grid0.coords t) (iblk m c 11 t))) k0_pay13 (ldRow (grid0.coords t) (iblk m c 10 t)) (iblk m c 13 t)
abbrev kN : FVec Ideal S512x2048 .f32 := k0_pay34 (kL m c t) (iblk m c 14 t) (iblk m c 15 t)
abbrev kC : FVec Ideal S512x128 .f32 := k0_pay15 (k0_pay4 (iblk m c 19 t) (iblk m c 20 t)) (iblk m c 17 t)
abbrev kT : FVec Ideal S512x128 .f32 := k0_pay54 (k0_pay4 (iblk m c 19 t) (iblk m c 20 t)) (k0_pay5 (iblk m c 19 t) (iblk m c 20 t)) (kL m c t)
  (iota .tc S1x128 32 [1] iota_S1x128_d1_w32) k0_pay49 k0_pay50 (iblk m c 17 t) (iblk m c 18 t)
abbrev kQ : FVec Ideal S512x1 .f32 := k0_pay55 (kL m c t) (iota .tc S1x128 32 [1] iota_S1x128_d1_w32) k0_pay49 k0_pay50

/-- The latent row of the queries is the reference's, and so are its products. -/
theorem dq_eq (r : Fin 512) (k : Fin 384) : dq m c t (ix2 r k)
    = lat (m ((c : Thread nD τ).loc main_arg0)) (m ((c : Thread nD τ).loc main_arg1)) (m ((c : Thread nD τ).loc main_arg3)) (m ((c : Thread nD τ).loc main_arg4)) (m ((c : Thread nD τ).loc main_arg5)) (at0 t) (at1 t r) k := by
  rw [dq, pay8_apply, ld_row, ld_row, funext (blk0 m c t r), funext (blk1 m c t), funext (blk2 m c t), funext (blk3 m c t)]
  simp only [blk4, blk5]
  rfl

theorem qU_eq (r : Fin 512) (h : Fin 16) (l : Fin 128) : qU m c t (ix2 r (⟨128 * h.val + l.val, by omega⟩ : Fin 2048))
    = Cert.Latent.pad (fun d => qcol (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (at0 t) (at1 t r) ⟨96 * h.val + d.val, by omega⟩) l := by
  rw [qU, pay9_apply]
  refine Eq.trans (Finset.sum_congr rfl fun k _ => congrArg₂ (· * ·) (dq_eq m c t r k) (blk6 m c t k h l)) ?_
  exact sum_pad _ _ l

theorem qW_eq (r : Fin 512) (h : Fin 16) (l : Fin 128) : qW m c t (ix2 r (⟨128 * h.val + l.val, by omega⟩ : Fin 2048))
    = swap (fun d => qcol (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (at0 t) (at1 t r) ⟨96 * h.val + d.val, by omega⟩) l := by
  rw [qW, pay10_apply]
  refine Eq.trans (Finset.sum_congr rfl fun k _ => congrArg₂ (· * ·) (dq_eq m c t r k) (blk7 m c t k h l)) ?_
  exact sum_swap _ _ l

/-- The tables with the gains. -/
theorem qC_eq (r : Fin 512) (l : Fin 128) : qC m c t (ix2 r l)
    = cosl (Cert.Reference5Ideal.Latent.place (m ((c : Thread nD τ).loc main_arg14)) (at0 t) (at1 t r)) freqs l * Cert.Latent.pad (fun d => (m ((c : Thread nD τ).loc main_arg7)) (ix2 0 d)) l := by
  rw [qC, pay15_apply, blk19, blk20, blk8]
  rfl

theorem qS_eq (r : Fin 512) (l : Fin 128) : qS m c t (ix2 r l)
    = sinl (Cert.Reference5Ideal.Latent.place (m ((c : Thread nD τ).loc main_arg14)) (at0 t) (at1 t r)) freqs l * swap (fun d => (m ((c : Thread nD τ).loc main_arg7)) (ix2 0 d)) l := by
  rw [qS, pay16_apply, blk19, blk20, blk9]
  rfl

theorem kC_eq (r : Fin 512) (l : Fin 128) : kC m c t (ix2 r l)
    = cosl (Cert.Reference5Ideal.Latent.place (m ((c : Thread nD τ).loc main_arg14)) (at0 t) (at1 t r)) freqs l * Cert.Latent.pad (fun d => (m ((c : Thread nD τ).loc main_arg13)) (ix1 d)) l := by
  rw [kC, pay15_apply, blk19, blk20, blk17]
  rfl

theorem kS_eq (r : Fin 512) (l : Fin 128) : k0_pay16 (F := Ideal) (k0_pay5 (iblk m c 19 t) (iblk m c 20 t)) (iblk m c 18 t) (ix2 r l)
    = sinl (Cert.Reference5Ideal.Latent.place (m ((c : Thread nD τ).loc main_arg14)) (at0 t) (at1 t r)) freqs l * swap (fun d => (m ((c : Thread nD τ).loc main_arg13)) (ix1 d)) l := by
  rw [pay16_apply, blk19, blk20, blk18]
  rfl

/-- The keys' latent row with the turned lanes and their partners behind it. -/
theorem kL_eq (r : Fin 512) (l : Fin 384) : kL m c t (ix2 r l)
    = ∑ k, hk (m ((c : Thread nD τ).loc main_arg0)) (m ((c : Thread nD τ).loc main_arg2)) (m ((c : Thread nD τ).loc main_arg8)) (at0 t) (at1 t r) k * wlat (m ((c : Thread nD τ).loc main_arg9)) k l := by
  rw [kL, pay14_apply, ld_row, ld_row, funext (blk0 m c t r), funext (blk10 m c t), funext (blk11 m c t), funext (blk12 m c t)]
  simp only [blk13]
  rfl

theorem kL_low (r : Fin 512) (l : Fin 384) (a : l.val < 288) : kL m c t (ix2 r l)
    = ckv (m ((c : Thread nD τ).loc main_arg0)) (m ((c : Thread nD τ).loc main_arg2)) (m ((c : Thread nD τ).loc main_arg8)) (m ((c : Thread nD τ).loc main_arg9)) (at0 t) (at1 t r) ⟨l.val, a⟩ := by
  rw [kL_eq]
  exact Finset.sum_congr rfl fun k _ => congrArg (_ * ·) (dif_pos a)

theorem kL_mid (r : Fin 512) (l : Fin 384) (a : ¬ l.val < 288) (b : l.val < 304) : kL m c t (ix2 r l)
    = ckv (m ((c : Thread nD τ).loc main_arg0)) (m ((c : Thread nD τ).loc main_arg2)) (m ((c : Thread nD τ).loc main_arg8)) (m ((c : Thread nD τ).loc main_arg9)) (at0 t) (at1 t r) ⟨l.val - 16, by omega⟩ := by
  rw [kL_eq]
  exact Finset.sum_congr rfl fun k _ => congrArg (_ * ·) ((dif_neg a).trans (dif_pos b))

theorem kL_high (r : Fin 512) (l : Fin 384) (b : ¬ l.val < 304) (d : l.val < 320) : kL m c t (ix2 r l)
    = ckv (m ((c : Thread nD τ).loc main_arg0)) (m ((c : Thread nD τ).loc main_arg2)) (m ((c : Thread nD τ).loc main_arg8)) (m ((c : Thread nD τ).loc main_arg9)) (at0 t) (at1 t r) ⟨l.val - 48, by omega⟩ := by
  rw [kL_eq]
  exact Finset.sum_congr rfl fun k _ => congrArg (_ * ·) ((dif_neg (by omega)).trans ((dif_neg b).trans (dif_pos d)))

/-- Its norm, and the heads' own lanes over that. -/
theorem klat_eq (r : Fin 512) (l : Fin 256) : k0_pay33 (F := Ideal) (kL m c t) (iblk m c 14 t) (ix2 r l)
    = klat (m ((c : Thread nD τ).loc main_arg0)) (m ((c : Thread nD τ).loc main_arg2)) (m ((c : Thread nD τ).loc main_arg8)) (m ((c : Thread nD τ).loc main_arg9)) (m ((c : Thread nD τ).loc main_arg10)) (at0 t) (at1 t r) l := by
  rw [pay33_apply]
  have e : (fun l : Fin 256 => kL m c t (ix2 r (⟨l.val, by omega⟩ : Fin 384)))
      = fun l => ckv (m ((c : Thread nD τ).loc main_arg0)) (m ((c : Thread nD τ).loc main_arg2)) (m ((c : Thread nD τ).loc main_arg8)) (m ((c : Thread nD τ).loc main_arg9)) (at0 t) (at1 t r) ⟨l.val, by omega⟩ :=
    funext fun l => kL_low m c t r ⟨l.val, by omega⟩ (by show l.val < 288; omega)
  rw [e, funext (blk14 m c t)]
  rfl

theorem kN_eq (r : Fin 512) (h : Fin 16) (l : Fin 128) : kN m c t (ix2 r (⟨128 * h.val + l.val, by omega⟩ : Fin 2048))
    = ∑ k, klat (m ((c : Thread nD τ).loc main_arg0)) (m ((c : Thread nD τ).loc main_arg2)) (m ((c : Thread nD τ).loc main_arg8)) (m ((c : Thread nD τ).loc main_arg9)) (m ((c : Thread nD τ).loc main_arg10)) (at0 t) (at1 t r) k * wkey (m ((c : Thread nD τ).loc main_arg11)) k h l := by
  rw [kN, pay34_apply]
  exact Finset.sum_congr rfl fun k _ => congrArg₂ (· * ·) (klat_eq m c t r k) (blk15 m c t k h l)

theorem kN_low (r : Fin 512) (h : Fin 16) (l : Fin 128) (a : l.val < 64) :
    kN m c t (ix2 r (⟨128 * h.val + l.val, by omega⟩ : Fin 2048))
    = kcol (m ((c : Thread nD τ).loc main_arg0)) (m ((c : Thread nD τ).loc main_arg2)) (m ((c : Thread nD τ).loc main_arg8)) (m ((c : Thread nD τ).loc main_arg9)) (m ((c : Thread nD τ).loc main_arg10)) (m ((c : Thread nD τ).loc main_arg11)) (at0 t) (at1 t r) h ⟨l.val, by omega⟩ := by
  rw [kN_eq]
  refine Eq.trans ?_ (dif_pos a).symm
  exact Finset.sum_congr rfl fun k _ => congrArg (_ * ·) (dif_pos a)

theorem kN_high (r : Fin 512) (h : Fin 16) (l : Fin 128) (a : 64 ≤ l.val) :
    kN m c t (ix2 r (⟨128 * h.val + l.val, by omega⟩ : Fin 2048)) = 0 := by
  rw [kN_eq]
  refine Finset.sum_eq_zero fun k _ => ?_
  exact (congrArg (_ * ·) (dif_neg (by omega))).trans (mul_zero _)

/-- The lanes all heads share, at their places and at their partners'. -/
theorem tail_eq (r : Fin 512) (h : Fin 16) (l : Fin 128) (a : l.val < 96) (b : 64 ≤ l.val) : tail (kL m c t) r l
    = kcol (m ((c : Thread nD τ).loc main_arg0)) (m ((c : Thread nD τ).loc main_arg2)) (m ((c : Thread nD τ).loc main_arg8)) (m ((c : Thread nD τ).loc main_arg9)) (m ((c : Thread nD τ).loc main_arg10)) (m ((c : Thread nD τ).loc main_arg11)) (at0 t) (at1 t r) h ⟨l.val, a⟩ := by
  unfold tail
  rw [dif_pos ⟨b, a⟩]
  refine Eq.trans ?_ (dif_neg (by show ¬ l.val < 64; omega)).symm
  exact kL_low m c t r ⟨192 + l.val, by omega⟩ (by show 192 + l.val < 288; omega)

theorem tail_zero (r : Fin 512) (l : Fin 128) (a : l.val < 64 ∨ 96 ≤ l.val) : tail (kL m c t) r l = 0 :=
  dif_neg (by omega)

theorem partner_eq (r : Fin 512) (h : Fin 16) (l : Fin 128) (a : 64 ≤ l.val) (b : l.val < 96) :
    kL m c t (ix2 r (⟨256 + (l.val + 96) % 128, by omega⟩ : Fin 384))
    = swap (fun d => kcol (m ((c : Thread nD τ).loc main_arg0)) (m ((c : Thread nD τ).loc main_arg2)) (m ((c : Thread nD τ).loc main_arg8)) (m ((c : Thread nD τ).loc main_arg9)) (m ((c : Thread nD τ).loc main_arg10)) (m ((c : Thread nD τ).loc main_arg11)) (at0 t) (at1 t r) h d) l := by
  by_cases d : l.val < 80
  · refine Eq.trans ?_ (swap_mid _ l (by omega) d).symm
    refine (kL_mid m c t r _ (by show ¬ 256 + (l.val + 96) % 128 < 288; omega)
      (by show 256 + (l.val + 96) % 128 < 304; omega)).trans ?_
    refine Eq.trans ?_ (dif_neg (by show ¬ l.val + 16 < 64; omega)).symm
    exact congrArg (ckv (m ((c : Thread nD τ).loc main_arg0)) (m ((c : Thread nD τ).loc main_arg2)) (m ((c : Thread nD τ).loc main_arg8)) (m ((c : Thread nD τ).loc main_arg9)) (at0 t) (at1 t r)) (Fin.ext (by
      show 256 + (l.val + 96) % 128 - 16 = 192 + (l.val + 16); omega))
  · refine Eq.trans ?_ (swap_high _ l d b).symm
    refine (kL_high m c t r _ (by show ¬ 256 + (l.val + 96) % 128 < 304; omega)
      (by show 256 + (l.val + 96) % 128 < 320; omega)).trans ?_
    refine Eq.trans ?_ (dif_neg (by show ¬ l.val - 16 < 64; omega)).symm
    exact congrArg (ckv (m ((c : Thread nD τ).loc main_arg0)) (m ((c : Thread nD τ).loc main_arg2)) (m ((c : Thread nD τ).loc main_arg8)) (m ((c : Thread nD τ).loc main_arg9)) (at0 t) (at1 t r)) (Fin.ext (by
      show 256 + (l.val + 96) % 128 - 48 = 192 + (l.val - 16); omega))

/-- Where the written blocks' places sit in the result arrays. -/
theorem emb21 (r : Fin 512) (l : Fin 2048) :
    ((cfg0.win 21).blk t).view.emb (ix3 0 r l : S1x512x2048.Idx) = (ix3 (at0 t) (at1 t r) l : S4x4096x2048.Idx) := by
  blk_ext [idx t]

theorem emb22 (r : Fin 512) (l : Fin 2048) :
    ((cfg0.win 22).blk t).view.emb (ix3 0 r l : S1x512x2048.Idx) = (ix3 (at0 t) (at1 t r) l : S4x4096x2048.Idx) := by
  blk_ext [idx t]

theorem emb23 (l : Fin 1024) (r : Fin 512) :
    ((cfg0.win 23).blk t).view.emb (ix3 0 l r : S1x1024x512.Idx) = (ix3 (at0 t) l (at1 t r) : S4x1024x4096.Idx) := by
  blk_ext [idx t]

end Blocks

set_option maxHeartbeats 8000000 in
/-- What a grid point leaves in its block of the queries. -/
theorem point21 (c : Dev nD) (t : Fin cfg0.N) (y : S1x512x2048.Idx) : (outsAt0 m c t).1 y
    = outq (qU m c t) (qW m c t) (qC m c t) (qS m c t) (y 1) (y 2) := by
  unfold outsAt0; frame_out
  canon_tiles x h
  case piece0 =>
    exact qpiece (qU m c t) (qW m c t) (qC m c t) (qS m c t) 1920 (by omega) (by decide)
      slices_S512x2048_o0_1920_S512x128 slices_S512x2048_o0_1920_S512x128 x _ _ h1 (by omega)
  case piece1 =>
    exact qpiece (qU m c t) (qW m c t) (qC m c t) (qS m c t) 1792 (by omega) (by decide)
      slices_S512x2048_o0_1792_S512x128 slices_S512x2048_o0_1792_S512x128 x _ _ h1 (by omega)
  case piece2 =>
    exact qpiece (qU m c t) (qW m c t) (qC m c t) (qS m c t) 1664 (by omega) (by decide)
      slices_S512x2048_o0_1664_S512x128 slices_S512x2048_o0_1664_S512x128 x _ _ h1 (by omega)
  case piece3 =>
    exact qpiece (qU m c t) (qW m c t) (qC m c t) (qS m c t) 1536 (by omega) (by decide)
      slices_S512x2048_o0_1536_S512x128 slices_S512x2048_o0_1536_S512x128 x _ _ h1 (by omega)
  case piece4 =>
    exact qpiece (qU m c t) (qW m c t) (qC m c t) (qS m c t) 1408 (by omega) (by decide)
      slices_S512x2048_o0_1408_S512x128 slices_S512x2048_o0_1408_S512x128 x _ _ h1 (by omega)
  case piece5 =>
    exact qpiece (qU m c t) (qW m c t) (qC m c t) (qS m c t) 1280 (by omega) (by decide)
      slices_S512x2048_o0_1280_S512x128 slices_S512x2048_o0_1280_S512x128 x _ _ h1 (by omega)
  case piece6 =>
    exact qpiece (qU m c t) (qW m c t) (qC m c t) (qS m c t) 1152 (by omega) (by decide)
      slices_S512x2048_o0_1152_S512x128 slices_S512x2048_o0_1152_S512x128 x _ _ h1 (by omega)
  case piece7 =>
    exact qpiece (qU m c t) (qW m c t) (qC m c t) (qS m c t) 1024 (by omega) (by decide)
      slices_S512x2048_o0_1024_S512x128 slices_S512x2048_o0_1024_S512x128 x _ _ h1 (by omega)
  case piece8 =>
    exact qpiece (qU m c t) (qW m c t) (qC m c t) (qS m c t) 896 (by omega) (by decide)
      slices_S512x2048_o0_896_S512x128 slices_S512x2048_o0_896_S512x128 x _ _ h1 (by omega)
  case piece9 =>
    exact qpiece (qU m c t) (qW m c t) (qC m c t) (qS m c t) 768 (by omega) (by decide)
      slices_S512x2048_o0_768_S512x128 slices_S512x2048_o0_768_S512x128 x _ _ h1 (by omega)
  case piece10 =>
    exact qpiece (qU m c t) (qW m c t) (qC m c t) (qS m c t) 640 (by omega) (by decide)
      slices_S512x2048_o0_640_S512x128 slices_S512x2048_o0_640_S512x128 x _ _ h1 (by omega)
  case piece11 =>
    exact qpiece (qU m c t) (qW m c t) (qC m c t) (qS m c t) 512 (by omega) (by decide)
      slices_S512x2048_o0_512_S512x128 slices_S512x2048_o0_512_S512x128 x _ _ h1 (by omega)
  case piece12 =>
    exact qpiece (qU m c t) (qW m c t) (qC m c t) (qS m c t) 384 (by omega) (by decide)
      slices_S512x2048_o0_384_S512x128 slices_S512x2048_o0_384_S512x128 x _ _ h1 (by omega)
  case piece13 =>
    exact qpiece (qU m c t) (qW m c t) (qC m c t) (qS m c t) 256 (by omega) (by decide)
      slices_S512x2048_o0_256_S512x128 slices_S512x2048_o0_256_S512x128 x _ _ h1 (by omega)
  case piece14 =>
    exact qpiece (qU m c t) (qW m c t) (qC m c t) (qS m c t) 128 (by omega) (by decide)
      slices_S512x2048_o0_128_S512x128 slices_S512x2048_o0_128_S512x128 x _ _ h1 (by omega)
  case piece15 =>
    exact qpiece (qU m c t) (qW m c t) (qC m c t) (qS m c t) 0 (by omega) (by decide)
      slices_S512x2048_o0_0_S512x128 slices_S512x2048_o0_0_S512x128 x _ _ h1 (by omega)

set_option maxHeartbeats 8000000 in
/-- What a grid point leaves in its block of the keys. -/
theorem point22 (c : Dev nD) (t : Fin cfg0.N) (y : S1x512x2048.Idx) : (outsAt0 m c t).2.1 y
    = outk (kN m c t) (kC m c t) (kT m c t) (kQ m c t) (y 1) (y 2) := by
  unfold outsAt0; frame_out
  canon_tiles x h
  case piece0 =>
    exact kpiece (kN m c t) (kC m c t) (kT m c t) (kQ m c t) 1920 (by omega) (by decide)
      slices_S512x2048_o0_1920_S512x128 x _ _ h1 (by omega)
  case piece1 =>
    exact kpiece (kN m c t) (kC m c t) (kT m c t) (kQ m c t) 1792 (by omega) (by decide)
      slices_S512x2048_o0_1792_S512x128 x _ _ h1 (by omega)
  case piece2 =>
    exact kpiece (kN m c t) (kC m c t) (kT m c t) (kQ m c t) 1664 (by omega) (by decide)
      slices_S512x2048_o0_1664_S512x128 x _ _ h1 (by omega)
  case piece3 =>
    exact kpiece (kN m c t) (kC m c t) (kT m c t) (kQ m c t) 1536 (by omega) (by decide)
      slices_S512x2048_o0_1536_S512x128 x _ _ h1 (by omega)
  case piece4 =>
    exact kpiece (kN m c t) (kC m c t) (kT m c t) (kQ m c t) 1408 (by omega) (by decide)
      slices_S512x2048_o0_1408_S512x128 x _ _ h1 (by omega)
  case piece5 =>
    exact kpiece (kN m c t) (kC m c t) (kT m c t) (kQ m c t) 1280 (by omega) (by decide)
      slices_S512x2048_o0_1280_S512x128 x _ _ h1 (by omega)
  case piece6 =>
    exact kpiece (kN m c t) (kC m c t) (kT m c t) (kQ m c t) 1152 (by omega) (by decide)
      slices_S512x2048_o0_1152_S512x128 x _ _ h1 (by omega)
  case piece7 =>
    exact kpiece (kN m c t) (kC m c t) (kT m c t) (kQ m c t) 1024 (by omega) (by decide)
      slices_S512x2048_o0_1024_S512x128 x _ _ h1 (by omega)
  case piece8 =>
    exact kpiece (kN m c t) (kC m c t) (kT m c t) (kQ m c t) 896 (by omega) (by decide)
      slices_S512x2048_o0_896_S512x128 x _ _ h1 (by omega)
  case piece9 =>
    exact kpiece (kN m c t) (kC m c t) (kT m c t) (kQ m c t) 768 (by omega) (by decide)
      slices_S512x2048_o0_768_S512x128 x _ _ h1 (by omega)
  case piece10 =>
    exact kpiece (kN m c t) (kC m c t) (kT m c t) (kQ m c t) 640 (by omega) (by decide)
      slices_S512x2048_o0_640_S512x128 x _ _ h1 (by omega)
  case piece11 =>
    exact kpiece (kN m c t) (kC m c t) (kT m c t) (kQ m c t) 512 (by omega) (by decide)
      slices_S512x2048_o0_512_S512x128 x _ _ h1 (by omega)
  case piece12 =>
    exact kpiece (kN m c t) (kC m c t) (kT m c t) (kQ m c t) 384 (by omega) (by decide)
      slices_S512x2048_o0_384_S512x128 x _ _ h1 (by omega)
  case piece13 =>
    exact kpiece (kN m c t) (kC m c t) (kT m c t) (kQ m c t) 256 (by omega) (by decide)
      slices_S512x2048_o0_256_S512x128 x _ _ h1 (by omega)
  case piece14 =>
    exact kpiece (kN m c t) (kC m c t) (kT m c t) (kQ m c t) 128 (by omega) (by decide)
      slices_S512x2048_o0_128_S512x128 x _ _ h1 (by omega)
  case piece15 =>
    exact kpiece (kN m c t) (kC m c t) (kT m c t) (kQ m c t) 0 (by omega) (by decide)
      slices_S512x2048_o0_0_S512x128 x _ _ h1 (by omega)

set_option maxHeartbeats 8000000 in
/-- What a grid point leaves in its block of the values. -/
theorem point23 (c : Dev nD) (t : Fin cfg0.N) (y : S1x1024x512.Idx) : (outsAt0 m c t).2.2 y
    = ∑ k : Fin 256, k0_pay33 (F := Ideal) (kL m c t) (iblk m c 14 t) (ix2 (y 2) k) * (iblk m c 16 t) (ix2 (y 1) k) := by
  unfold outsAt0; frame_out
  exact values (kL m c t) (iblk m c 14 t) (iblk m c 16 t) y (y 1) (y 2) rfl rfl

/-- A head's lanes. -/
theorem outq_apply (U W : FVec Ideal S512x2048 .f32) (cg sg : FVec Ideal S512x128 .f32) (r : Fin 512) (h : Fin 16)
    (l : Fin 128) : outq U W cg sg r ⟨128 * h.val + l.val, by omega⟩
      = qlane (fun d => U (ix2 r (⟨128 * h.val + d.val, by omega⟩ : Fin 2048)))
        (fun d => W (ix2 r (⟨128 * h.val + d.val, by omega⟩ : Fin 2048)))
        (fun d => cg (ix2 r d)) (fun d => sg (ix2 r d)) l := by
  have e : (128 * h.val + l.val) / 128 = h.val := by omega
  have e' : (⟨(128 * h.val + l.val) % 128, by omega⟩ : Fin 128) = l := Fin.ext (by
    show (128 * h.val + l.val) % 128 = l.val; omega)
  unfold outq
  simp only [e, e']

theorem outk_apply (N : FVec Ideal S512x2048 .f32) (cg t : FVec Ideal S512x128 .f32) (q : FVec Ideal S512x1 .f32)
    (r : Fin 512) (h : Fin 16) (l : Fin 128) : outk N cg t q r ⟨128 * h.val + l.val, by omega⟩
      = klane (fun d => N (ix2 r (⟨128 * h.val + d.val, by omega⟩ : Fin 2048)))
        (fun d => cg (ix2 r d)) (fun d => t (ix2 r d)) (q (ix2 r 0)) l := by
  have e : (128 * h.val + l.val) / 128 = h.val := by omega
  have e' : (⟨(128 * h.val + l.val) % 128, by omega⟩ : Fin 128) = l := Fin.ext (by
    show (128 * h.val + l.val) % 128 = l.val; omega)
  unfold outk
  simp only [e, e']

section Final

variable (c : Dev nD) (t : Fin cfg0.N)

/-- The reference's queries and keys over the kernel's argument arrays, at the place of a lane of the block. -/
theorem point_query (r : Fin 512) (h : Fin 16) (l : Fin 128) :
    outq (qU m c t) (qW m c t) (qC m c t) (qS m c t) r ⟨128 * h.val + l.val, by omega⟩
    = Cert.Latent.pad (query (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg14)) (at0 t) (at1 t r) h) l * scl := by
  rw [outq_apply, funext (qU_eq m c t r h), funext (qW_eq m c t r h), funext (qC_eq m c t r), funext (qS_eq m c t r)]
  exact query_lane (fun d => qcol (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (at0 t) (at1 t r) ⟨96 * h.val + d.val, by omega⟩) _ _ _ _ _ _
    (fun l a => pad_in _ l a) (fun l a => pad_out _ l a) (fun l _ _ => rfl) l

/-- The shared lanes, turned. -/
theorem kT_eq (r : Fin 512) (l : Fin 128) : kT m c t (ix2 r l)
    = tail (kL m c t) r l * (cosl (Cert.Reference5Ideal.Latent.place (m ((c : Thread nD τ).loc main_arg14)) (at0 t) (at1 t r)) freqs l * Cert.Latent.pad (fun d => (m ((c : Thread nD τ).loc main_arg13)) (ix1 d)) l)
      + kL m c t (ix2 r (⟨256 + (l.val + 96) % 128, by omega⟩ : Fin 384))
        * (sinl (Cert.Reference5Ideal.Latent.place (m ((c : Thread nD τ).loc main_arg14)) (at0 t) (at1 t r)) freqs l * swap (fun d => (m ((c : Thread nD τ).loc main_arg13)) (ix1 d)) l) := by
  rw [kT, pay54_apply]
  exact congrArg₂ (· + ·) (congrArg (_ * ·) (kC_eq m c t r l)) (congrArg (_ * ·) (kS_eq m c t r l))

theorem point_key (r : Fin 512) (h : Fin 16) (l : Fin 128) :
    outk (kN m c t) (kC m c t) (kT m c t) (kQ m c t) r ⟨128 * h.val + l.val, by omega⟩
    = Cert.Latent.pad (key (m ((c : Thread nD τ).loc main_arg0)) (m ((c : Thread nD τ).loc main_arg2)) (m ((c : Thread nD τ).loc main_arg8)) (m ((c : Thread nD τ).loc main_arg9)) (m ((c : Thread nD τ).loc main_arg10)) (m ((c : Thread nD τ).loc main_arg11)) (m ((c : Thread nD τ).loc main_arg13)) (m ((c : Thread nD τ).loc main_arg14)) (at0 t) (at1 t r) h) l := by
  rw [outk_apply, funext (kC_eq m c t r), funext (kT_eq m c t r), kQ, pay55_apply]
  exact key_lane (fun d => kcol (m ((c : Thread nD τ).loc main_arg0)) (m ((c : Thread nD τ).loc main_arg2)) (m ((c : Thread nD τ).loc main_arg8)) (m ((c : Thread nD τ).loc main_arg9)) (m ((c : Thread nD τ).loc main_arg10)) (m ((c : Thread nD τ).loc main_arg11)) (at0 t) (at1 t r) h d) _ _ _
    (fun l => kN m c t (ix2 r (⟨128 * h.val + l.val, by omega⟩ : Fin 2048))) (fun l => tail (kL m c t) r l)
    (fun l => kL m c t (ix2 r (⟨256 + (l.val + 96) % 128, by omega⟩ : Fin 384)))
    (fun l a => kN_low m c t r h l a) (fun l a => kN_high m c t r h l a) (fun l a b => tail_eq m c t r h l a b)
    (fun l a => tail_zero m c t r l a) (fun l a b => partner_eq m c t r h l a b) l

end Final

/-- The first result array after the run is the reference's. -/
theorem final21 (c : Dev nD) : (dats m 0 c).arrAt 21 cfg0.N
    = val_main_v200 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg14)) := by
  refine (dats m 0 c).arrAt_eq_of_covers 21 _ (by decide +kernel) fun t _ y => ?_
  blk_simp
  rw [after0_21, point21]
  obtain ⟨r, l, rfl⟩ : ∃ (r : Fin 512) (l : Fin 2048), y = (ix3 0 r l : S1x512x2048.Idx) :=
    ⟨y 1, y 2, (eq_ix3 y).trans (congrArg (fun a : Fin 1 => ix3 a (y 1) (y 2)) (Subsingleton.elim (α := Fin 1) _ _))⟩
  refine Eq.trans ?_ (congrArg _ (emb21 t r l)).symm
  show outq _ _ _ _ r l = _
  have hl := l.isLt
  obtain ⟨h, d, e⟩ : ∃ (h : Fin 16) (d : Fin 128), l = ⟨128 * h.val + d.val, by omega⟩ :=
    ⟨⟨l.val / 128, by omega⟩, ⟨l.val % 128, by omega⟩, Fin.ext (by simp; omega)⟩
  rw [e]
  exact (point_query m c t r h d).trans (v200_apply _ _ _ _ _ _ _ _ (at0 t) (at1 t r) h d).symm

/-- The second. -/
theorem final22 (c : Dev nD) : (dats m 0 c).arrAt 22 cfg0.N
    = val_main_v201 (F := Ideal) (m ((c : Thread nD τ).loc main_arg0)) (m ((c : Thread nD τ).loc main_arg2)) (m ((c : Thread nD τ).loc main_arg8)) (m ((c : Thread nD τ).loc main_arg9)) (m ((c : Thread nD τ).loc main_arg10)) (m ((c : Thread nD τ).loc main_arg11)) (m ((c : Thread nD τ).loc main_arg13)) (m ((c : Thread nD τ).loc main_arg14)) := by
  refine (dats m 0 c).arrAt_eq_of_covers 22 _ (by decide +kernel) fun t _ y => ?_
  blk_simp
  rw [after0_22, point22]
  obtain ⟨r, l, rfl⟩ : ∃ (r : Fin 512) (l : Fin 2048), y = (ix3 0 r l : S1x512x2048.Idx) :=
    ⟨y 1, y 2, (eq_ix3 y).trans (congrArg (fun a : Fin 1 => ix3 a (y 1) (y 2)) (Subsingleton.elim (α := Fin 1) _ _))⟩
  refine Eq.trans ?_ (congrArg _ (emb22 t r l)).symm
  show outk _ _ _ _ r l = _
  have hl := l.isLt
  obtain ⟨h, d, e⟩ : ∃ (h : Fin 16) (d : Fin 128), l = ⟨128 * h.val + d.val, by omega⟩ :=
    ⟨⟨l.val / 128, by omega⟩, ⟨l.val % 128, by omega⟩, Fin.ext (by simp; omega)⟩
  rw [e]
  exact (point_key m c t r h d).trans (v201_apply _ _ _ _ _ _ _ _ (at0 t) (at1 t r) h d).symm

/-- The third: the values' lanes as rows. -/
theorem final23 (c : Dev nD) : (dats m 0 c).arrAt 23 cfg0.N
    = val_main_v203 (F := Ideal) (m ((c : Thread nD τ).loc main_arg0)) (m ((c : Thread nD τ).loc main_arg2)) (m ((c : Thread nD τ).loc main_arg8)) (m ((c : Thread nD τ).loc main_arg9)) (m ((c : Thread nD τ).loc main_arg10)) (m ((c : Thread nD τ).loc main_arg12)) := by
  refine (dats m 0 c).arrAt_eq_of_covers 23 _ (by decide +kernel) fun t _ y => ?_
  blk_simp
  rw [after0_23, point23]
  obtain ⟨l, r, rfl⟩ : ∃ (l : Fin 1024) (r : Fin 512), y = (ix3 0 l r : S1x1024x512.Idx) :=
    ⟨y 1, y 2, (eq_ix3 y).trans (congrArg (fun a : Fin 1 => ix3 a (y 1) (y 2)) (Subsingleton.elim (α := Fin 1) _ _))⟩
  refine Eq.trans ?_ (congrArg _ (emb23 t l r)).symm
  refine Eq.trans ?_ (v203_apply _ _ _ _ _ _ (at0 t) l (at1 t r)).symm
  show (∑ k : Fin 256, k0_pay33 (F := Ideal) (kL m c t) (iblk m c 14 t) (ix2 r k) * iblk m c 16 t (ix2 l k)) = _
  simp only [klat_eq, blk16]

end Cert.Kernel5Ideal.Latent
-- ==== Proof.Latent.Claim.lean ====
/-
  The claim about the latent attention's projections: over the extended reals the kernel and the reference end with the same
  three arrays, the turned and normed queries and keys and the values.
-/
module

public import proofs.«01_k».proof.Defs
public import proofs.«01_k».proof.Proof.Latent.Value
public import proofs.«01_k».proof.Proof.Gen.Reference5Ideal.Run
public import Idealize.ShloMosaic.Lib.Claim

@[expose] public section

noncomputable section

open Idealize.ShloMosaic Idealize.ShloMosaic.TcCoe Idealize.SL.Sem

namespace Cert.Latent

set_option maxHeartbeats 2000000 in
theorem claim : algebraic_Kernel5Ideal_Reference5Ideal (hKernel5Ideal := Kernel5Ideal.Gen.facts)
    (hReference5Ideal := Reference5Ideal.Gen.facts) := by
  intro m g m' g' _ hargs
  refine ⟨fun c => (Kernel5Ideal.Gen.dats m 0 c).arrAt 21 Kernel5Ideal.cfg0.N,
    fun c => (Kernel5Ideal.Gen.dats m 0 c).arrAt 22 Kernel5Ideal.cfg0.N,
    fun c => (Kernel5Ideal.Gen.dats m 0 c).arrAt 23 Kernel5Ideal.cfg0.N,
    Kernel5Ideal.Value.run_blocks m g,
    (θ_run _ _ _).mono (fun r h c => ?_) (Reference5Ideal.Value.run m' g')⟩
  obtain ⟨h0, h1, h2, h3, h4, h5, h6, h7, h8, h9, h10, h11, h12, h13, h14⟩ := hargs c
  refine ⟨(h c).1.trans ?_, (h c).2.1.trans ?_, (h c).2.2.1.trans ?_, (h c).2.2.2⟩
  · refine Eq.trans ?_ (Kernel5Ideal.Latent.final21 m c).symm
    refine (Reference5Ideal.Read.val_main_v200_eq (StableHlo.launchContents m' c)).trans ?_
    show Reference5Ideal.Read.val_main_v200 (F := Ideal)
      (m' ((c.tc : Thread Reference5Ideal.nD Reference5Ideal.τ).loc Reference5Ideal.main_arg0))
      (m' ((c.tc : Thread Reference5Ideal.nD Reference5Ideal.τ).loc Reference5Ideal.main_arg1))
      (m' ((c.tc : Thread Reference5Ideal.nD Reference5Ideal.τ).loc Reference5Ideal.main_arg3))
      (m' ((c.tc : Thread Reference5Ideal.nD Reference5Ideal.τ).loc Reference5Ideal.main_arg4))
      (m' ((c.tc : Thread Reference5Ideal.nD Reference5Ideal.τ).loc Reference5Ideal.main_arg5))
      (m' ((c.tc : Thread Reference5Ideal.nD Reference5Ideal.τ).loc Reference5Ideal.main_arg6))
      (m' ((c.tc : Thread Reference5Ideal.nD Reference5Ideal.τ).loc Reference5Ideal.main_arg7))
      (m' ((c.tc : Thread Reference5Ideal.nD Reference5Ideal.τ).loc Reference5Ideal.main_arg14)) = _
    rw [h0, h1, h3, h4, h5, h6, h7, h14]
  · refine Eq.trans ?_ (Kernel5Ideal.Latent.final22 m c).symm
    refine (Reference5Ideal.Read.val_main_v201_eq (StableHlo.launchContents m' c)).trans ?_
    show Reference5Ideal.Read.val_main_v201 (F := Ideal)
      (m' ((c.tc : Thread Reference5Ideal.nD Reference5Ideal.τ).loc Reference5Ideal.main_arg0))
      (m' ((c.tc : Thread Reference5Ideal.nD Reference5Ideal.τ).loc Reference5Ideal.main_arg2))
      (m' ((c.tc : Thread Reference5Ideal.nD Reference5Ideal.τ).loc Reference5Ideal.main_arg8))
      (m' ((c.tc : Thread Reference5Ideal.nD Reference5Ideal.τ).loc Reference5Ideal.main_arg9))
      (m' ((c.tc : Thread Reference5Ideal.nD Reference5Ideal.τ).loc Reference5Ideal.main_arg10))
      (m' ((c.tc : Thread Reference5Ideal.nD Reference5Ideal.τ).loc Reference5Ideal.main_arg11))
      (m' ((c.tc : Thread Reference5Ideal.nD Reference5Ideal.τ).loc Reference5Ideal.main_arg13))
      (m' ((c.tc : Thread Reference5Ideal.nD Reference5Ideal.τ).loc Reference5Ideal.main_arg14)) = _
    rw [h0, h2, h8, h9, h10, h11, h13, h14]
  · refine Eq.trans ?_ (Kernel5Ideal.Latent.final23 m c).symm
    refine (Reference5Ideal.Read.val_main_v203_eq (StableHlo.launchContents m' c)).trans ?_
    show Reference5Ideal.Read.val_main_v203 (F := Ideal)
      (m' ((c.tc : Thread Reference5Ideal.nD Reference5Ideal.τ).loc Reference5Ideal.main_arg0))
      (m' ((c.tc : Thread Reference5Ideal.nD Reference5Ideal.τ).loc Reference5Ideal.main_arg2))
      (m' ((c.tc : Thread Reference5Ideal.nD Reference5Ideal.τ).loc Reference5Ideal.main_arg8))
      (m' ((c.tc : Thread Reference5Ideal.nD Reference5Ideal.τ).loc Reference5Ideal.main_arg9))
      (m' ((c.tc : Thread Reference5Ideal.nD Reference5Ideal.τ).loc Reference5Ideal.main_arg10))
      (m' ((c.tc : Thread Reference5Ideal.nD Reference5Ideal.τ).loc Reference5Ideal.main_arg12)) = _
    rw [h0, h2, h8, h9, h10, h12]

end Cert.Latent
-- ==== Proof.lean ====
/-
  The claims of this directory, assembled: the frames, the idealizations' statements and the value claims. The frames are
  the generated runs'; the value claims are proved in the modules of the same name.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.Kernel.Loops
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Loops
public import proofs.«01_k».proof.Proof.Gen.KernelIdeal.Value
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame.Runs
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame.Runs
public import proofs.«01_k».proof.Proof.Gen.Reference5Ideal
public import proofs.«01_k».proof.Proof.Gen.Reference5Ideal.Run
public import proofs.«01_k».proof.Proof.Gen.Reference5Ideal.Read
public import proofs.«01_k».proof.Proof.Gen.Pre_finite_qk
public import proofs.«01_k».proof.Proof.Ffn.Claim
public import proofs.«01_k».proof.Proof.Attn.Claim
public import proofs.«01_k».proof.Proof.Proj.Claim
public import proofs.«01_k».proof.Proof.Latent.FrameBits
public import proofs.«01_k».proof.Proof.Latent.Claim
public import Idealize.ShloMosaic.Adequacy
public import Idealize.ShloMosaic.Init

@[expose] public section

noncomputable section

namespace Cert.Proof

open Idealize.ShloMosaic Idealize.SL.Sem

/-- The attention's reference ends with its arguments unchanged and every counter at zero. -/
theorem frame_reference : quiescent_ReferenceIdeal (hReferenceIdeal := ReferenceIdeal.Gen.facts) :=
  fun m g _ => (θ_run _ _ _).mono (fun r h => ⟨fun c => (h c).2, sem_eq_zero_of_no_sems (by decide) r.2⟩)
    (ReferenceIdeal.Value.run m g)

/-- The feed-forward's reference ends with its arguments unchanged and every counter at zero. -/
theorem frame_reference2 : quiescent_Reference2Ideal (hReference2Ideal := Reference2Ideal.Gen.facts) :=
  fun m g _ => (θ_run _ _ _).mono (fun r h => ⟨fun c => (h c).2, sem_eq_zero_of_no_sems (by decide) r.2⟩)
    (Reference2Ideal.Value.run m g)

/-- The opening feed-forward's reference ends with its arguments unchanged and every counter at zero. -/
theorem frame_reference3 : quiescent_Reference3Ideal (hReference3Ideal := Reference3Ideal.Gen.facts) :=
  fun m g _ => (θ_run _ _ _).mono (fun r h => ⟨fun c => (h c).2, sem_eq_zero_of_no_sems (by decide) r.2⟩)
    (Reference3Ideal.Value.run m g)

/-- The projection's reference ends with its arguments unchanged and every counter at zero. -/
theorem frame_reference4 : quiescent_Reference4Ideal (hReference4Ideal := Reference4Ideal.Gen.facts) :=
  fun m g _ => (θ_run _ _ _).mono (fun r h => ⟨fun c => (h c).2.2, sem_eq_zero_of_no_sems (by decide) r.2⟩)
    (Reference4Ideal.Value.run m g)

/-- The latent projections' reference ends with its arguments unchanged and every counter at zero. -/
theorem frame_reference5 : quiescent_Reference5Ideal (hReference5Ideal := Reference5Ideal.Gen.facts) :=
  fun m g _ => (θ_run _ _ _).mono (fun r h => ⟨fun c => (h c).2.2.2, sem_eq_zero_of_no_sems (by decide) r.2⟩)
    (Reference5Ideal.Value.run m g)

theorem claim : Cert.Claim :=
  ⟨Kernel.Gen.facts, KernelIdeal.Gen.facts, ReferenceIdeal.Gen.facts, Kernel2.Gen.facts, Kernel2Ideal.Gen.facts,
    Reference2Ideal.Gen.facts, Kernel3.Gen.facts, Kernel3Ideal.Gen.facts, Reference3Ideal.Gen.facts,
    Kernel4.Gen.facts, Kernel4Ideal.Gen.facts, Reference4Ideal.Gen.facts,
    Kernel5.Gen.facts, Kernel5Ideal.Gen.facts, Reference5Ideal.Gen.facts, Pre_finite_qk.Gen.facts,
    fun m g _ => Kernel.Gen.frame m g,
    fun m g _ => KernelIdeal.Gen.frame m g,
    fun m g _ => KernelIdeal.Gen.frame m g,
    frame_reference,
    fun m g _ => frame_reference m g trivial,
    fun m g _ => Kernel2.Gen.frame m g,
    fun m g _ => Kernel2Ideal.Gen.frame m g,
    frame_reference2,
    fun m g _ => Kernel3.Gen.frame m g,
    fun m g _ => Kernel3Ideal.Gen.frame m g,
    frame_reference3,
    fun m g _ => Kernel4.Gen.frame m g,
    fun m g _ => Kernel4Ideal.Gen.frame m g,
    frame_reference4,
    fun m g _ => Kernel5.Gen.frame m g,
    fun m g _ => Kernel5Ideal.Gen.frame m g,
    frame_reference5,
    IdealRules.named_const.statement KernelIdeal.κ "mask" .f32 0xF149F2CA#32 ⊥ rfl,
    Attn.claim,
    trivial,
    Ffn.claim,
    trivial,
    Ffn.claim_open,
    trivial,
    Proj.claim,
    ⟨IdealRules.named_const.statement Kernel5Ideal.κ "inv_width" .f32 0x3C2AAAAB#32 ((1 / 96 : ℝ) : EReal) rfl,
      IdealRules.named_const.statement Kernel5Ideal.κ "scale" .f32 0x3E16C740#32
        (((Real.sqrt 96)⁻¹ * (Real.log 2)⁻¹ : ℝ) : EReal) rfl⟩,
    Latent.claim⟩

end Cert.Proof

end
